-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Gwin (m : (ℓ : Loc Cert.Gwin.nD Cert.Gwin.τ Cert.Gwin.sig) → Buf (Elt Bits) ℓ) : Prop :=
  True

def Pre_GwinIdeal (m : (ℓ : Loc Cert.GwinIdeal.nD Cert.GwinIdeal.τ Cert.GwinIdeal.sig) → Buf (Elt Ideal) ℓ) : Prop :=
  True

def Pre_GwinRefIdeal (m : (ℓ : Loc Cert.GwinRefIdeal.nD Cert.GwinRefIdeal.τ Cert.GwinRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_Dh3RefIdeal (m : (ℓ : Loc Cert.Dh3RefIdeal.nD Cert.Dh3RefIdeal.τ Cert.Dh3RefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Outa (m : (ℓ : Loc Cert.Outa.nD Cert.Outa.τ Cert.Outa.sig) → Buf (Elt Bits) ℓ) : Prop :=
  True

def Pre_OutaIdeal (m : (ℓ : Loc Cert.OutaIdeal.nD Cert.OutaIdeal.τ Cert.OutaIdeal.sig) → Buf (Elt Ideal) ℓ) : Prop :=
  True

def Pre_OutaRefIdeal (m : (ℓ : Loc Cert.OutaRefIdeal.nD Cert.OutaRefIdeal.τ Cert.OutaRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Dao (m : (ℓ : Loc Cert.Dao.nD Cert.Dao.τ Cert.Dao.sig) → Buf (Elt Bits) ℓ) : Prop :=
  True

def Pre_DaoIdeal (m : (ℓ : Loc Cert.DaoIdeal.nD Cert.DaoIdeal.τ Cert.DaoIdeal.sig) → Buf (Elt Ideal) ℓ) : Prop :=
  True

def Pre_DaoRefIdeal (m : (ℓ : Loc Cert.DaoRefIdeal.nD Cert.DaoRefIdeal.τ Cert.DaoRefIdeal.sig) → Buf (Elt Ideal) ℓ) : Prop :=
  True

def Pre_Doa (m : (ℓ : Loc Cert.Doa.nD Cert.Doa.τ Cert.Doa.sig) → Buf (Elt Bits) ℓ) : Prop :=
  True

def Pre_DoaIdeal (m : (ℓ : Loc Cert.DoaIdeal.nD Cert.DoaIdeal.τ Cert.DoaIdeal.sig) → Buf (Elt Ideal) ℓ) : Prop :=
  True

def Pre_DoaRefIdeal (m : (ℓ : Loc Cert.DoaRefIdeal.nD Cert.DoaRefIdeal.τ Cert.DoaRefIdeal.sig) → Buf (Elt Ideal) ℓ) : Prop :=
  True

def Pre_Dob (m : (ℓ : Loc Cert.Dob.nD Cert.Dob.τ Cert.Dob.sig) → Buf (Elt Bits) ℓ) : Prop :=
  True

def Pre_DobIdeal (m : (ℓ : Loc Cert.DobIdeal.nD Cert.DobIdeal.τ Cert.DobIdeal.sig) → Buf (Elt Ideal) ℓ) : Prop :=
  True

def Pre_DobRefIdeal (m : (ℓ : Loc Cert.DobRefIdeal.nD Cert.DobRefIdeal.τ Cert.DobRefIdeal.sig) → Buf (Elt Ideal) ℓ) : Prop :=
  True

def Pre_Gwo (m : (ℓ : Loc Cert.Gwo.nD Cert.Gwo.τ Cert.Gwo.sig) → Buf (Elt Bits) ℓ) : Prop :=
  True

def Pre_GwoIdeal (m : (ℓ : Loc Cert.GwoIdeal.nD Cert.GwoIdeal.τ Cert.GwoIdeal.sig) → Buf (Elt Ideal) ℓ) : Prop :=
  True

def Pre_GwoRefIdeal (m : (ℓ : Loc Cert.GwoRefIdeal.nD Cert.GwoRefIdeal.τ Cert.GwoRefIdeal.sig) → Buf (Elt Ideal) ℓ) : Prop :=
  True

def Pre_Gwq (m : (ℓ : Loc Cert.Gwq.nD Cert.Gwq.τ Cert.Gwq.sig) → Buf (Elt Bits) ℓ) : Prop :=
  True

def Pre_GwqIdeal (m : (ℓ : Loc Cert.GwqIdeal.nD Cert.GwqIdeal.τ Cert.GwqIdeal.sig) → Buf (Elt Ideal) ℓ) : Prop :=
  True

def Pre_GwqRefIdeal (m : (ℓ : Loc Cert.GwqRefIdeal.nD Cert.GwqRefIdeal.τ Cert.GwqRefIdeal.sig) → Buf (Elt Ideal) ℓ) : Prop :=
  True

def Pre_Gwouta (m : (ℓ : Loc Cert.Gwouta.nD Cert.Gwouta.τ Cert.Gwouta.sig) → Buf (Elt Bits) ℓ) : Prop :=
  True

def Pre_GwoutaIdeal (m : (ℓ : Loc Cert.GwoutaIdeal.nD Cert.GwoutaIdeal.τ Cert.GwoutaIdeal.sig) → Buf (Elt Ideal) ℓ) : Prop :=
  True

def Pre_GwoutaRefIdeal (m : (ℓ : Loc Cert.GwoutaRefIdeal.nD Cert.GwoutaRefIdeal.τ Cert.GwoutaRefIdeal.sig) → Buf (Elt Ideal) ℓ) : Prop :=
  True

def Pre_Gwoutb (m : (ℓ : Loc Cert.Gwoutb.nD Cert.Gwoutb.τ Cert.Gwoutb.sig) → Buf (Elt Bits) ℓ) : Prop :=
  True

def Pre_GwoutbIdeal (m : (ℓ : Loc Cert.GwoutbIdeal.nD Cert.GwoutbIdeal.τ Cert.GwoutbIdeal.sig) → Buf (Elt Ideal) ℓ) : Prop :=
  True

def Pre_GwoutbRefIdeal (m : (ℓ : Loc Cert.GwoutbRefIdeal.nD Cert.GwoutbRefIdeal.τ Cert.GwoutbRefIdeal.sig) → Buf (Elt Ideal) ℓ) : Prop :=
  True

def Pre_Rms1 (m : (ℓ : Loc Cert.Rms1.nD Cert.Rms1.τ Cert.Rms1.sig) → Buf (Elt Bits) ℓ) : Prop :=
  True

def Pre_Rms1Ideal (m : (ℓ : Loc Cert.Rms1Ideal.nD Cert.Rms1Ideal.τ Cert.Rms1Ideal.sig) → Buf (Elt Ideal) ℓ) : Prop :=
  True

def Pre_Rms1RefIdeal (m : (ℓ : Loc Cert.Rms1RefIdeal.nD Cert.Rms1RefIdeal.τ Cert.Rms1RefIdeal.sig) → Buf (Elt Ideal) ℓ) : Prop :=
  True

def Pre_Rms3 (m : (ℓ : Loc Cert.Rms3.nD Cert.Rms3.τ Cert.Rms3.sig) → Buf (Elt Bits) ℓ) : Prop :=
  True

def Pre_Rms3Ideal (m : (ℓ : Loc Cert.Rms3Ideal.nD Cert.Rms3Ideal.τ Cert.Rms3Ideal.sig) → Buf (Elt Ideal) ℓ) : Prop :=
  True

def Pre_Rms3RefIdeal (m : (ℓ : Loc Cert.Rms3RefIdeal.nD Cert.Rms3RefIdeal.τ Cert.Rms3RefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamWq (m : (ℓ : Loc Cert.AdamWq.nD Cert.AdamWq.τ Cert.AdamWq.sig) → Buf (Elt Bits) ℓ) : Prop :=
  True

def Pre_AdamWqIdeal (m : (ℓ : Loc Cert.AdamWqIdeal.nD Cert.AdamWqIdeal.τ Cert.AdamWqIdeal.sig) → Buf (Elt Ideal) ℓ) : Prop :=
  True

def Pre_AdamWqRefIdeal (m : (ℓ : Loc Cert.AdamWqRefIdeal.nD Cert.AdamWqRefIdeal.τ Cert.AdamWqRefIdeal.sig) → Buf (Elt Ideal) ℓ) : Prop :=
  True

def Pre_AdamWk (m : (ℓ : Loc Cert.AdamWk.nD Cert.AdamWk.τ Cert.AdamWk.sig) → Buf (Elt Bits) ℓ) : Prop :=
  True

def Pre_AdamWkIdeal (m : (ℓ : Loc Cert.AdamWkIdeal.nD Cert.AdamWkIdeal.τ Cert.AdamWkIdeal.sig) → Buf (Elt Ideal) ℓ) : Prop :=
  True

def Pre_AdamWkRefIdeal (m : (ℓ : Loc Cert.AdamWkRefIdeal.nD Cert.AdamWkRefIdeal.τ Cert.AdamWkRefIdeal.sig) → Buf (Elt Ideal) ℓ) : Prop :=
  True

def Pre_AdamWv (m : (ℓ : Loc Cert.AdamWv.nD Cert.AdamWv.τ Cert.AdamWv.sig) → Buf (Elt Bits) ℓ) : Prop :=
  True

def Pre_AdamWvIdeal (m : (ℓ : Loc Cert.AdamWvIdeal.nD Cert.AdamWvIdeal.τ Cert.AdamWvIdeal.sig) → Buf (Elt Ideal) ℓ) : Prop :=
  True

def Pre_AdamWvRefIdeal (m : (ℓ : Loc Cert.AdamWvRefIdeal.nD Cert.AdamWvRefIdeal.τ Cert.AdamWvRefIdeal.sig) → Buf (Elt Ideal) ℓ) : Prop :=
  True

def Pre_AdamWo (m : (ℓ : Loc Cert.AdamWo.nD Cert.AdamWo.τ Cert.AdamWo.sig) → Buf (Elt Bits) ℓ) : Prop :=
  True

def Pre_AdamWoIdeal (m : (ℓ : Loc Cert.AdamWoIdeal.nD Cert.AdamWoIdeal.τ Cert.AdamWoIdeal.sig) → Buf (Elt Ideal) ℓ) : Prop :=
  True

def Pre_AdamWoRefIdeal (m : (ℓ : Loc Cert.AdamWoRefIdeal.nD Cert.AdamWoRefIdeal.τ Cert.AdamWoRefIdeal.sig) → Buf (Elt Ideal) ℓ) : Prop :=
  True

def Pre_AdamSmall1 (m : (ℓ : Loc Cert.AdamSmall1.nD Cert.AdamSmall1.τ Cert.AdamSmall1.sig) → Buf (Elt Bits) ℓ) : Prop :=
  True

def Pre_AdamSmall1Ideal (m : (ℓ : Loc Cert.AdamSmall1Ideal.nD Cert.AdamSmall1Ideal.τ Cert.AdamSmall1Ideal.sig) → Buf (Elt Ideal) ℓ) : Prop :=
  True

def Pre_AdamSmall1RefIdeal (m : (ℓ : Loc Cert.AdamSmall1RefIdeal.nD Cert.AdamSmall1RefIdeal.τ Cert.AdamSmall1RefIdeal.sig) → Buf (Elt Ideal) ℓ) : Prop :=
  True

def Pre_AdamSmall2 (m : (ℓ : Loc Cert.AdamSmall2.nD Cert.AdamSmall2.τ Cert.AdamSmall2.sig) → Buf (Elt Bits) ℓ) : Prop :=
  True

def Pre_AdamSmall2Ideal (m : (ℓ : Loc Cert.AdamSmall2Ideal.nD Cert.AdamSmall2Ideal.τ Cert.AdamSmall2Ideal.sig) → Buf (Elt Ideal) ℓ) : Prop :=
  True

def Pre_AdamSmall2RefIdeal (m : (ℓ : Loc Cert.AdamSmall2RefIdeal.nD Cert.AdamSmall2RefIdeal.τ Cert.AdamSmall2RefIdeal.sig) → Buf (Elt Ideal) ℓ) : Prop :=
  True

def Pre_AdamSmall3 (m : (ℓ : Loc Cert.AdamSmall3.nD Cert.AdamSmall3.τ Cert.AdamSmall3.sig) → Buf (Elt Bits) ℓ) : Prop :=
  True

def Pre_AdamSmall3Ideal (m : (ℓ : Loc Cert.AdamSmall3Ideal.nD Cert.AdamSmall3Ideal.τ Cert.AdamSmall3Ideal.sig) → Buf (Elt Ideal) ℓ) : Prop :=
  True

def Pre_AdamSmall3RefIdeal (m : (ℓ : Loc Cert.AdamSmall3RefIdeal.nD Cert.AdamSmall3RefIdeal.τ Cert.AdamSmall3RefIdeal.sig) → Buf (Elt Ideal) ℓ) : Prop :=
  True

def Pre_AdamSmall4 (m : (ℓ : Loc Cert.AdamSmall4.nD Cert.AdamSmall4.τ Cert.AdamSmall4.sig) → Buf (Elt Bits) ℓ) : Prop :=
  True

def Pre_AdamSmall4Ideal (m : (ℓ : Loc Cert.AdamSmall4Ideal.nD Cert.AdamSmall4Ideal.τ Cert.AdamSmall4Ideal.sig) → Buf (Elt Ideal) ℓ) : Prop :=
  True

def Pre_AdamSmall4RefIdeal (m : (ℓ : Loc Cert.AdamSmall4RefIdeal.nD Cert.AdamSmall4RefIdeal.τ Cert.AdamSmall4RefIdeal.sig) → Buf (Elt Ideal) ℓ) : Prop :=
  True

def Pre_AdamSmall5 (m : (ℓ : Loc Cert.AdamSmall5.nD Cert.AdamSmall5.τ Cert.AdamSmall5.sig) → Buf (Elt Bits) ℓ) : Prop :=
  True

def Pre_AdamSmall5Ideal (m : (ℓ : Loc Cert.AdamSmall5Ideal.nD Cert.AdamSmall5Ideal.τ Cert.AdamSmall5Ideal.sig) → Buf (Elt Ideal) ℓ) : Prop :=
  True

def Pre_AdamSmall5RefIdeal (m : (ℓ : Loc Cert.AdamSmall5RefIdeal.nD Cert.AdamSmall5RefIdeal.τ Cert.AdamSmall5RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Gwin [hGwin : Cert.Gwin.Facts] : Prop :=
  ∀ (m : (ℓ : Loc Cert.Gwin.nD Cert.Gwin.τ Cert.Gwin.sig) → Buf (Elt Bits) ℓ) (g : Dev Cert.Gwin.nD → PrngReg), Pre_Gwin m →
    θ_run (Cert.Gwin.defs (F := Bits)) (onTc (τ := Cert.Gwin.τ) (Cert.Gwin.main (F := Bits))) ⟨m, fun _ => 0, g⟩ (fun r => (∀ c : Dev Cert.Gwin.nD,
      r.2.mem ((c.tc : Thread Cert.Gwin.nD Cert.Gwin.τ).loc Cert.Gwin.main_arg0) = m ((c.tc : Thread Cert.Gwin.nD Cert.Gwin.τ).loc Cert.Gwin.main_arg0)
      ∧ r.2.mem ((c.tc : Thread Cert.Gwin.nD Cert.Gwin.τ).loc Cert.Gwin.main_arg1) = m ((c.tc : Thread Cert.Gwin.nD Cert.Gwin.τ).loc Cert.Gwin.main_arg1))
      ∧ r.2.sem = fun _ => 0)

def quiescent_GwinIdeal [hGwinIdeal : Cert.GwinIdeal.Facts] : Prop :=
  ∀ (m : (ℓ : Loc Cert.GwinIdeal.nD Cert.GwinIdeal.τ Cert.GwinIdeal.sig) → Buf (Elt Ideal) ℓ) (g : Dev Cert.GwinIdeal.nD → PrngReg), Pre_GwinIdeal m →
    θ_run (Cert.GwinIdeal.defs (F := Ideal)) (onTc (τ := Cert.GwinIdeal.τ) (Cert.GwinIdeal.main (F := Ideal))) ⟨m, fun _ => 0, g⟩ (fun r => (∀ c : Dev Cert.GwinIdeal.nD,
      r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
      ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ r.2.sem = fun _ => 0)

def quiescent_GwinRefIdeal [hGwinRefIdeal : Cert.GwinRefIdeal.Facts] : Prop :=
  ∀ (m : (ℓ : Loc Cert.GwinRefIdeal.nD Cert.GwinRefIdeal.τ Cert.GwinRefIdeal.sig) → Buf (Elt Ideal) ℓ) (g : Dev Cert.GwinRefIdeal.nD → PrngReg), Pre_GwinRefIdeal m →
    θ_run (Cert.GwinRefIdeal.defs (F := Ideal)) (onTc (τ := Cert.GwinRefIdeal.τ) (Cert.GwinRefIdeal.main (F := Ideal))) ⟨m, fun _ => 0, g⟩ (fun r => (∀ c : Dev Cert.GwinRefIdeal.nD,
      r.2.mem ((c.tc : Thread Cert.GwinRefIdeal.nD Cert.GwinRefIdeal.τ).loc Cert.GwinRefIdeal.main_arg0) = m ((c.tc : Thread Cert.GwinRefIdeal.nD Cert.GwinRefIdeal.τ).loc Cert.GwinRefIdeal.main_arg0)
      ∧ r.2.mem ((c.tc : Thread Cert.GwinRefIdeal.nD Cert.GwinRefIdeal.τ).loc Cert.GwinRefIdeal.main_arg1) = m ((c.tc : Thread Cert.GwinRefIdeal.nD Cert.GwinRefIdeal.τ).loc Cert.GwinRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1))
      ∧ r.2.sem = fun _ => 0)

def quiescent_Dh3RefIdeal [hDh3RefIdeal : Cert.Dh3RefIdeal.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_Outa [hOuta : Cert.Outa.Facts] : Prop :=
  ∀ (m : (ℓ : Loc Cert.Outa.nD Cert.Outa.τ Cert.Outa.sig) → Buf (Elt Bits) ℓ) (g : Dev Cert.Outa.nD → PrngReg), Pre_Outa m →
    θ_run (Cert.Outa.defs (F := Bits)) (onTc (τ := Cert.Outa.τ) (Cert.Outa.main (F := Bits))) ⟨m, fun _ => 0, g⟩ (fun r => (∀ c : Dev Cert.Outa.nD,
      r.2.mem ((c.tc : Thread Cert.Outa.nD Cert.Outa.τ).loc Cert.Outa.main_arg0) = m ((c.tc : Thread Cert.Outa.nD Cert.Outa.τ).loc Cert.Outa.main_arg0)
      ∧ r.2.mem ((c.tc : Thread Cert.Outa.nD Cert.Outa.τ).loc Cert.Outa.main_arg1) = m ((c.tc : Thread Cert.Outa.nD Cert.Outa.τ).loc Cert.Outa.main_arg1)
      ∧ r.2.mem ((c.tc : Thread Cert.Outa.nD Cert.Outa.τ).loc Cert.Outa.main_arg2) = m ((c.tc : Thread Cert.Outa.nD Cert.Outa.τ).loc Cert.Outa.main_arg2))
      ∧ r.2.sem = fun _ => 0)

def quiescent_OutaIdeal [hOutaIdeal : Cert.OutaIdeal.Facts] : Prop :=
  ∀ (m : (ℓ : Loc Cert.OutaIdeal.nD Cert.OutaIdeal.τ Cert.OutaIdeal.sig) → Buf (Elt Ideal) ℓ) (g : Dev Cert.OutaIdeal.nD → PrngReg), Pre_OutaIdeal m →
    θ_run (Cert.OutaIdeal.defs (F := Ideal)) (onTc (τ := Cert.OutaIdeal.τ) (Cert.OutaIdeal.main (F := Ideal))) ⟨m, fun _ => 0, g⟩ (fun r => (∀ c : Dev Cert.OutaIdeal.nD,
      r.2.mem ((c.tc : Thread Cert.OutaIdeal.nD Cert.OutaIdeal.τ).loc Cert.OutaIdeal.main_arg0) = m ((c.tc : Thread Cert.OutaIdeal.nD Cert.OutaIdeal.τ).loc Cert.OutaIdeal.main_arg0)
      ∧ r.2.mem ((c.tc : Thread Cert.OutaIdeal.nD Cert.OutaIdeal.τ).loc Cert.OutaIdeal.main_arg1) = m ((c.tc : Thread Cert.OutaIdeal.nD Cert.OutaIdeal.τ).loc Cert.OutaIdeal.main_arg1)
      ∧ r.2.mem ((c.tc : Thread Cert.OutaIdeal.nD Cert.OutaIdeal.τ).loc Cert.OutaIdeal.main_arg2) = m ((c.tc : Thread Cert.OutaIdeal.nD Cert.OutaIdeal.τ).loc Cert.OutaIdeal.main_arg2))
      ∧ r.2.sem = fun _ => 0)

def quiescent_OutaRefIdeal [hOutaRefIdeal : Cert.OutaRefIdeal.Facts] : Prop :=
  ∀ (m : (ℓ : Loc Cert.OutaRefIdeal.nD Cert.OutaRefIdeal.τ Cert.OutaRefIdeal.sig) → Buf (Elt Ideal) ℓ) (g : Dev Cert.OutaRefIdeal.nD → PrngReg), Pre_OutaRefIdeal m →
    θ_run (Cert.OutaRefIdeal.defs (F := Ideal)) (onTc (τ := Cert.OutaRefIdeal.τ) (Cert.OutaRefIdeal.main (F := Ideal))) ⟨m, fun _ => 0, g⟩ (fun r => (∀ c : Dev Cert.OutaRefIdeal.nD,
      r.2.mem ((c.tc : Thread Cert.OutaRefIdeal.nD Cert.OutaRefIdeal.τ).loc Cert.OutaRefIdeal.main_arg0) = m ((c.tc : Thread Cert.OutaRefIdeal.nD Cert.OutaRefIdeal.τ).loc Cert.OutaRefIdeal.main_arg0)
      ∧ r.2.mem ((c.tc : Thread Cert.OutaRefIdeal.nD Cert.OutaRefIdeal.τ).loc Cert.OutaRefIdeal.main_arg1) = m ((c.tc : Thread Cert.OutaRefIdeal.nD Cert.OutaRefIdeal.τ).loc Cert.OutaRefIdeal.main_arg1)
      ∧ r.2.mem ((c.tc : Thread Cert.OutaRefIdeal.nD Cert.OutaRefIdeal.τ).loc Cert.OutaRefIdeal.main_arg2) = m ((c.tc : Thread Cert.OutaRefIdeal.nD Cert.OutaRefIdeal.τ).loc Cert.OutaRefIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_Dao [hDao : Cert.Dao.Facts] : Prop :=
  ∀ (m : (ℓ : Loc Cert.Dao.nD Cert.Dao.τ Cert.Dao.sig) → Buf (Elt Bits) ℓ) (g : Dev Cert.Dao.nD → PrngReg), Pre_Dao m →
    θ_run (Cert.Dao.defs (F := Bits)) (onTc (τ := Cert.Dao.τ) (Cert.Dao.main (F := Bits))) ⟨m, fun _ => 0, g⟩ (fun r => (∀ c : Dev Cert.Dao.nD,
      r.2.mem ((c.tc : Thread Cert.Dao.nD Cert.Dao.τ).loc Cert.Dao.main_arg0) = m ((c.tc : Thread Cert.Dao.nD Cert.Dao.τ).loc Cert.Dao.main_arg0)
      ∧ r.2.mem ((c.tc : Thread Cert.Dao.nD Cert.Dao.τ).loc Cert.Dao.main_arg1) = m ((c.tc : Thread Cert.Dao.nD Cert.Dao.τ).loc Cert.Dao.main_arg1))
      ∧ r.2.sem = fun _ => 0)

def quiescent_DaoIdeal [hDaoIdeal : Cert.DaoIdeal.Facts] : Prop :=
  ∀ (m : (ℓ : Loc Cert.DaoIdeal.nD Cert.DaoIdeal.τ Cert.DaoIdeal.sig) → Buf (Elt Ideal) ℓ) (g : Dev Cert.DaoIdeal.nD → PrngReg), Pre_DaoIdeal m →
    θ_run (Cert.DaoIdeal.defs (F := Ideal)) (onTc (τ := Cert.DaoIdeal.τ) (Cert.DaoIdeal.main (F := Ideal))) ⟨m, fun _ => 0, g⟩ (fun r => (∀ c : Dev Cert.DaoIdeal.nD,
      r.2.mem ((c.tc : Thread Cert.DaoIdeal.nD Cert.DaoIdeal.τ).loc Cert.DaoIdeal.main_arg0) = m ((c.tc : Thread Cert.DaoIdeal.nD Cert.DaoIdeal.τ).loc Cert.DaoIdeal.main_arg0)
      ∧ r.2.mem ((c.tc : Thread Cert.DaoIdeal.nD Cert.DaoIdeal.τ).loc Cert.DaoIdeal.main_arg1) = m ((c.tc : Thread Cert.DaoIdeal.nD Cert.DaoIdeal.τ).loc Cert.DaoIdeal.main_arg1))
      ∧ r.2.sem = fun _ => 0)

def quiescent_DaoRefIdeal [hDaoRefIdeal : Cert.DaoRefIdeal.Facts] : Prop :=
  ∀ (m : (ℓ : Loc Cert.DaoRefIdeal.nD Cert.DaoRefIdeal.τ Cert.DaoRefIdeal.sig) → Buf (Elt Ideal) ℓ) (g : Dev Cert.DaoRefIdeal.nD → PrngReg), Pre_DaoRefIdeal m →
    θ_run (Cert.DaoRefIdeal.defs (F := Ideal)) (onTc (τ := Cert.DaoRefIdeal.τ) (Cert.DaoRefIdeal.main (F := Ideal))) ⟨m, fun _ => 0, g⟩ (fun r => (∀ c : Dev Cert.DaoRefIdeal.nD,
      r.2.mem ((c.tc : Thread Cert.DaoRefIdeal.nD Cert.DaoRefIdeal.τ).loc Cert.DaoRefIdeal.main_arg0) = m ((c.tc : Thread Cert.DaoRefIdeal.nD Cert.DaoRefIdeal.τ).loc Cert.DaoRefIdeal.main_arg0)
      ∧ r.2.mem ((c.tc : Thread Cert.DaoRefIdeal.nD Cert.DaoRefIdeal.τ).loc Cert.DaoRefIdeal.main_arg1) = m ((c.tc : Thread Cert.DaoRefIdeal.nD Cert.DaoRefIdeal.τ).loc Cert.DaoRefIdeal.main_arg1))
      ∧ r.2.sem = fun _ => 0)

def quiescent_Doa [hDoa : Cert.Doa.Facts] : Prop :=
  ∀ (m : (ℓ : Loc Cert.Doa.nD Cert.Doa.τ Cert.Doa.sig) → Buf (Elt Bits) ℓ) (g : Dev Cert.Doa.nD → PrngReg), Pre_Doa m →
    θ_run (Cert.Doa.defs (F := Bits)) (onTc (τ := Cert.Doa.τ) (Cert.Doa.main (F := Bits))) ⟨m, fun _ => 0, g⟩ (fun r => (∀ c : Dev Cert.Doa.nD,
      r.2.mem ((c.tc : Thread Cert.Doa.nD Cert.Doa.τ).loc Cert.Doa.main_arg0) = m ((c.tc : Thread Cert.Doa.nD Cert.Doa.τ).loc Cert.Doa.main_arg0)
      ∧ r.2.mem ((c.tc : Thread Cert.Doa.nD Cert.Doa.τ).loc Cert.Doa.main_arg1) = m ((c.tc : Thread Cert.Doa.nD Cert.Doa.τ).loc Cert.Doa.main_arg1))
      ∧ r.2.sem = fun _ => 0)

def quiescent_DoaIdeal [hDoaIdeal : Cert.DoaIdeal.Facts] : Prop :=
  ∀ (m : (ℓ : Loc Cert.DoaIdeal.nD Cert.DoaIdeal.τ Cert.DoaIdeal.sig) → Buf (Elt Ideal) ℓ) (g : Dev Cert.DoaIdeal.nD → PrngReg), Pre_DoaIdeal m →
    θ_run (Cert.DoaIdeal.defs (F := Ideal)) (onTc (τ := Cert.DoaIdeal.τ) (Cert.DoaIdeal.main (F := Ideal))) ⟨m, fun _ => 0, g⟩ (fun r => (∀ c : Dev Cert.DoaIdeal.nD,
      r.2.mem ((c.tc : Thread Cert.DoaIdeal.nD Cert.DoaIdeal.τ).loc Cert.DoaIdeal.main_arg0) = m ((c.tc : Thread Cert.DoaIdeal.nD Cert.DoaIdeal.τ).loc Cert.DoaIdeal.main_arg0)
      ∧ r.2.mem ((c.tc : Thread Cert.DoaIdeal.nD Cert.DoaIdeal.τ).loc Cert.DoaIdeal.main_arg1) = m ((c.tc : Thread Cert.DoaIdeal.nD Cert.DoaIdeal.τ).loc Cert.DoaIdeal.main_arg1))
      ∧ r.2.sem = fun _ => 0)

def quiescent_DoaRefIdeal [hDoaRefIdeal : Cert.DoaRefIdeal.Facts] : Prop :=
  ∀ (m : (ℓ : Loc Cert.DoaRefIdeal.nD Cert.DoaRefIdeal.τ Cert.DoaRefIdeal.sig) → Buf (Elt Ideal) ℓ) (g : Dev Cert.DoaRefIdeal.nD → PrngReg), Pre_DoaRefIdeal m →
    θ_run (Cert.DoaRefIdeal.defs (F := Ideal)) (onTc (τ := Cert.DoaRefIdeal.τ) (Cert.DoaRefIdeal.main (F := Ideal))) ⟨m, fun _ => 0, g⟩ (fun r => (∀ c : Dev Cert.DoaRefIdeal.nD,
      r.2.mem ((c.tc : Thread Cert.DoaRefIdeal.nD Cert.DoaRefIdeal.τ).loc Cert.DoaRefIdeal.main_arg0) = m ((c.tc : Thread Cert.DoaRefIdeal.nD Cert.DoaRefIdeal.τ).loc Cert.DoaRefIdeal.main_arg0)
      ∧ r.2.mem ((c.tc : Thread Cert.DoaRefIdeal.nD Cert.DoaRefIdeal.τ).loc Cert.DoaRefIdeal.main_arg1) = m ((c.tc : Thread Cert.DoaRefIdeal.nD Cert.DoaRefIdeal.τ).loc Cert.DoaRefIdeal.main_arg1))
      ∧ r.2.sem = fun _ => 0)

def quiescent_Dob [hDob : Cert.Dob.Facts] : Prop :=
  ∀ (m : (ℓ : Loc Cert.Dob.nD Cert.Dob.τ Cert.Dob.sig) → Buf (Elt Bits) ℓ) (g : Dev Cert.Dob.nD → PrngReg), Pre_Dob m →
    θ_run (Cert.Dob.defs (F := Bits)) (onTc (τ := Cert.Dob.τ) (Cert.Dob.main (F := Bits))) ⟨m, fun _ => 0, g⟩ (fun r => (∀ c : Dev Cert.Dob.nD,
      r.2.mem ((c.tc : Thread Cert.Dob.nD Cert.Dob.τ).loc Cert.Dob.main_arg0) = m ((c.tc : Thread Cert.Dob.nD Cert.Dob.τ).loc Cert.Dob.main_arg0)
      ∧ r.2.mem ((c.tc : Thread Cert.Dob.nD Cert.Dob.τ).loc Cert.Dob.main_arg1) = m ((c.tc : Thread Cert.Dob.nD Cert.Dob.τ).loc Cert.Dob.main_arg1))
      ∧ r.2.sem = fun _ => 0)

def quiescent_DobIdeal [hDobIdeal : Cert.DobIdeal.Facts] : Prop :=
  ∀ (m : (ℓ : Loc Cert.DobIdeal.nD Cert.DobIdeal.τ Cert.DobIdeal.sig) → Buf (Elt Ideal) ℓ) (g : Dev Cert.DobIdeal.nD → PrngReg), Pre_DobIdeal m →
    θ_run (Cert.DobIdeal.defs (F := Ideal)) (onTc (τ := Cert.DobIdeal.τ) (Cert.DobIdeal.main (F := Ideal))) ⟨m, fun _ => 0, g⟩ (fun r => (∀ c : Dev Cert.DobIdeal.nD,
      r.2.mem ((c.tc : Thread Cert.DobIdeal.nD Cert.DobIdeal.τ).loc Cert.DobIdeal.main_arg0) = m ((c.tc : Thread Cert.DobIdeal.nD Cert.DobIdeal.τ).loc Cert.DobIdeal.main_arg0)
      ∧ r.2.mem ((c.tc : Thread Cert.DobIdeal.nD Cert.DobIdeal.τ).loc Cert.DobIdeal.main_arg1) = m ((c.tc : Thread Cert.DobIdeal.nD Cert.DobIdeal.τ).loc Cert.DobIdeal.main_arg1))
      ∧ r.2.sem = fun _ => 0)

def quiescent_DobRefIdeal [hDobRefIdeal : Cert.DobRefIdeal.Facts] : Prop :=
  ∀ (m : (ℓ : Loc Cert.DobRefIdeal.nD Cert.DobRefIdeal.τ Cert.DobRefIdeal.sig) → Buf (Elt Ideal) ℓ) (g : Dev Cert.DobRefIdeal.nD → PrngReg), Pre_DobRefIdeal m →
    θ_run (Cert.DobRefIdeal.defs (F := Ideal)) (onTc (τ := Cert.DobRefIdeal.τ) (Cert.DobRefIdeal.main (F := Ideal))) ⟨m, fun _ => 0, g⟩ (fun r => (∀ c : Dev Cert.DobRefIdeal.nD,
      r.2.mem ((c.tc : Thread Cert.DobRefIdeal.nD Cert.DobRefIdeal.τ).loc Cert.DobRefIdeal.main_arg0) = m ((c.tc : Thread Cert.DobRefIdeal.nD Cert.DobRefIdeal.τ).loc Cert.DobRefIdeal.main_arg0)
      ∧ r.2.mem ((c.tc : Thread Cert.DobRefIdeal.nD Cert.DobRefIdeal.τ).loc Cert.DobRefIdeal.main_arg1) = m ((c.tc : Thread Cert.DobRefIdeal.nD Cert.DobRefIdeal.τ).loc Cert.DobRefIdeal.main_arg1))
      ∧ r.2.sem = fun _ => 0)

def quiescent_Gwo [hGwo : Cert.Gwo.Facts] : Prop :=
  ∀ (m : (ℓ : Loc Cert.Gwo.nD Cert.Gwo.τ Cert.Gwo.sig) → Buf (Elt Bits) ℓ) (g : Dev Cert.Gwo.nD → PrngReg), Pre_Gwo m →
    θ_run (Cert.Gwo.defs (F := Bits)) (onTc (τ := Cert.Gwo.τ) (Cert.Gwo.main (F := Bits))) ⟨m, fun _ => 0, g⟩ (fun r => (∀ c : Dev Cert.Gwo.nD,
      r.2.mem ((c.tc : Thread Cert.Gwo.nD Cert.Gwo.τ).loc Cert.Gwo.main_arg0) = m ((c.tc : Thread Cert.Gwo.nD Cert.Gwo.τ).loc Cert.Gwo.main_arg0)
      ∧ r.2.mem ((c.tc : Thread Cert.Gwo.nD Cert.Gwo.τ).loc Cert.Gwo.main_arg1) = m ((c.tc : Thread Cert.Gwo.nD Cert.Gwo.τ).loc Cert.Gwo.main_arg1)
      ∧ r.2.mem ((c.tc : Thread Cert.Gwo.nD Cert.Gwo.τ).loc Cert.Gwo.main_arg2) = m ((c.tc : Thread Cert.Gwo.nD Cert.Gwo.τ).loc Cert.Gwo.main_arg2))
      ∧ r.2.sem = fun _ => 0)

def quiescent_GwoIdeal [hGwoIdeal : Cert.GwoIdeal.Facts] : Prop :=
  ∀ (m : (ℓ : Loc Cert.GwoIdeal.nD Cert.GwoIdeal.τ Cert.GwoIdeal.sig) → Buf (Elt Ideal) ℓ) (g : Dev Cert.GwoIdeal.nD → PrngReg), Pre_GwoIdeal m →
    θ_run (Cert.GwoIdeal.defs (F := Ideal)) (onTc (τ := Cert.GwoIdeal.τ) (Cert.GwoIdeal.main (F := Ideal))) ⟨m, fun _ => 0, g⟩ (fun r => (∀ c : Dev Cert.GwoIdeal.nD,
      r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
      ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1)
      ∧ r.2.mem ((c.tc : Thread Cert.GwoIdeal.nD Cert.GwoIdeal.τ).loc Cert.GwoIdeal.main_arg2) = m ((c.tc : Thread Cert.GwoIdeal.nD Cert.GwoIdeal.τ).loc Cert.GwoIdeal.main_arg2))
      ∧ r.2.sem = fun _ => 0)

def quiescent_GwoRefIdeal [hGwoRefIdeal : Cert.GwoRefIdeal.Facts] : Prop :=
  ∀ (m : (ℓ : Loc Cert.GwoRefIdeal.nD Cert.GwoRefIdeal.τ Cert.GwoRefIdeal.sig) → Buf (Elt Ideal) ℓ) (g : Dev Cert.GwoRefIdeal.nD → PrngReg), Pre_GwoRefIdeal m →
    θ_run (Cert.GwoRefIdeal.defs (F := Ideal)) (onTc (τ := Cert.GwoRefIdeal.τ) (Cert.GwoRefIdeal.main (F := Ideal))) ⟨m, fun _ => 0, g⟩ (fun r => (∀ c : Dev Cert.GwoRefIdeal.nD,
      r.2.mem ((c.tc : Thread Cert.GwoRefIdeal.nD Cert.GwoRefIdeal.τ).loc Cert.GwoRefIdeal.main_arg0) = m ((c.tc : Thread Cert.GwoRefIdeal.nD Cert.GwoRefIdeal.τ).loc Cert.GwoRefIdeal.main_arg0)
      ∧ r.2.mem ((c.tc : Thread Cert.GwoRefIdeal.nD Cert.GwoRefIdeal.τ).loc Cert.GwoRefIdeal.main_arg1) = m ((c.tc : Thread Cert.GwoRefIdeal.nD Cert.GwoRefIdeal.τ).loc Cert.GwoRefIdeal.main_arg1)
      ∧ r.2.mem ((c.tc : Thread Cert.GwoRefIdeal.nD Cert.GwoRefIdeal.τ).loc Cert.GwoRefIdeal.main_arg2) = m ((c.tc : Thread Cert.GwoRefIdeal.nD Cert.GwoRefIdeal.τ).loc Cert.GwoRefIdeal.main_arg2))
      ∧ r.2.sem = fun _ => 0)

def quiescent_Gwq [hGwq : Cert.Gwq.Facts] : Prop :=
  ∀ (m : (ℓ : Loc Cert.Gwq.nD Cert.Gwq.τ Cert.Gwq.sig) → Buf (Elt Bits) ℓ) (g : Dev Cert.Gwq.nD → PrngReg), Pre_Gwq m →
    θ_run (Cert.Gwq.defs (F := Bits)) (onTc (τ := Cert.Gwq.τ) (Cert.Gwq.main (F := Bits))) ⟨m, fun _ => 0, g⟩ (fun r => (∀ c : Dev Cert.Gwq.nD,
      r.2.mem ((c.tc : Thread Cert.Gwq.nD Cert.Gwq.τ).loc Cert.Gwq.main_arg0) = m ((c.tc : Thread Cert.Gwq.nD Cert.Gwq.τ).loc Cert.Gwq.main_arg0)
      ∧ r.2.mem ((c.tc : Thread Cert.Gwq.nD Cert.Gwq.τ).loc Cert.Gwq.main_arg1) = m ((c.tc : Thread Cert.Gwq.nD Cert.Gwq.τ).loc Cert.Gwq.main_arg1)
      ∧ r.2.mem ((c.tc : Thread Cert.Gwq.nD Cert.Gwq.τ).loc Cert.Gwq.main_arg2) = m ((c.tc : Thread Cert.Gwq.nD Cert.Gwq.τ).loc Cert.Gwq.main_arg2))
      ∧ r.2.sem = fun _ => 0)

def quiescent_GwqIdeal [hGwqIdeal : Cert.GwqIdeal.Facts] : Prop :=
  ∀ (m : (ℓ : Loc Cert.GwqIdeal.nD Cert.GwqIdeal.τ Cert.GwqIdeal.sig) → Buf (Elt Ideal) ℓ) (g : Dev Cert.GwqIdeal.nD → PrngReg), Pre_GwqIdeal m →
    θ_run (Cert.GwqIdeal.defs (F := Ideal)) (onTc (τ := Cert.GwqIdeal.τ) (Cert.GwqIdeal.main (F := Ideal))) ⟨m, fun _ => 0, g⟩ (fun r => (∀ c : Dev Cert.GwqIdeal.nD,
      r.2.mem ((c.tc : Thread Cert.GwqIdeal.nD Cert.GwqIdeal.τ).loc Cert.GwqIdeal.main_arg0) = m ((c.tc : Thread Cert.GwqIdeal.nD Cert.GwqIdeal.τ).loc Cert.GwqIdeal.main_arg0)
      ∧ r.2.mem ((c.tc : Thread Cert.GwqIdeal.nD Cert.GwqIdeal.τ).loc Cert.GwqIdeal.main_arg1) = m ((c.tc : Thread Cert.GwqIdeal.nD Cert.GwqIdeal.τ).loc Cert.GwqIdeal.main_arg1)
      ∧ r.2.mem ((c.tc : Thread Cert.GwqIdeal.nD Cert.GwqIdeal.τ).loc Cert.GwqIdeal.main_arg2) = m ((c.tc : Thread Cert.GwqIdeal.nD Cert.GwqIdeal.τ).loc Cert.GwqIdeal.main_arg2))
      ∧ r.2.sem = fun _ => 0)

def quiescent_GwqRefIdeal [hGwqRefIdeal : Cert.GwqRefIdeal.Facts] : Prop :=
  ∀ (m : (ℓ : Loc Cert.GwqRefIdeal.nD Cert.GwqRefIdeal.τ Cert.GwqRefIdeal.sig) → Buf (Elt Ideal) ℓ) (g : Dev Cert.GwqRefIdeal.nD → PrngReg), Pre_GwqRefIdeal m →
    θ_run (Cert.GwqRefIdeal.defs (F := Ideal)) (onTc (τ := Cert.GwqRefIdeal.τ) (Cert.GwqRefIdeal.main (F := Ideal))) ⟨m, fun _ => 0, g⟩ (fun r => (∀ c : Dev Cert.GwqRefIdeal.nD,
      r.2.mem ((c.tc : Thread Cert.GwqRefIdeal.nD Cert.GwqRefIdeal.τ).loc Cert.GwqRefIdeal.main_arg0) = m ((c.tc : Thread Cert.GwqRefIdeal.nD Cert.GwqRefIdeal.τ).loc Cert.GwqRefIdeal.main_arg0)
      ∧ r.2.mem ((c.tc : Thread Cert.GwqRefIdeal.nD Cert.GwqRefIdeal.τ).loc Cert.GwqRefIdeal.main_arg1) = m ((c.tc : Thread Cert.GwqRefIdeal.nD Cert.GwqRefIdeal.τ).loc Cert.GwqRefIdeal.main_arg1)
      ∧ r.2.mem ((c.tc : Thread Cert.GwqRefIdeal.nD Cert.GwqRefIdeal.τ).loc Cert.GwqRefIdeal.main_arg2) = m ((c.tc : Thread Cert.GwqRefIdeal.nD Cert.GwqRefIdeal.τ).loc Cert.GwqRefIdeal.main_arg2))
      ∧ r.2.sem = fun _ => 0)

def quiescent_Gwouta [hGwouta : Cert.Gwouta.Facts] : Prop :=
  ∀ (m : (ℓ : Loc Cert.Gwouta.nD Cert.Gwouta.τ Cert.Gwouta.sig) → Buf (Elt Bits) ℓ) (g : Dev Cert.Gwouta.nD → PrngReg), Pre_Gwouta m →
    θ_run (Cert.Gwouta.defs (F := Bits)) (onTc (τ := Cert.Gwouta.τ) (Cert.Gwouta.main (F := Bits))) ⟨m, fun _ => 0, g⟩ (fun r => (∀ c : Dev Cert.Gwouta.nD,
      r.2.mem ((c.tc : Thread Cert.Gwouta.nD Cert.Gwouta.τ).loc Cert.Gwouta.main_arg0) = m ((c.tc : Thread Cert.Gwouta.nD Cert.Gwouta.τ).loc Cert.Gwouta.main_arg0)
      ∧ r.2.mem ((c.tc : Thread Cert.Gwouta.nD Cert.Gwouta.τ).loc Cert.Gwouta.main_arg1) = m ((c.tc : Thread Cert.Gwouta.nD Cert.Gwouta.τ).loc Cert.Gwouta.main_arg1)
      ∧ r.2.mem ((c.tc : Thread Cert.Gwouta.nD Cert.Gwouta.τ).loc Cert.Gwouta.main_arg2) = m ((c.tc : Thread Cert.Gwouta.nD Cert.Gwouta.τ).loc Cert.Gwouta.main_arg2))
      ∧ r.2.sem = fun _ => 0)

def quiescent_GwoutaIdeal [hGwoutaIdeal : Cert.GwoutaIdeal.Facts] : Prop :=
  ∀ (m : (ℓ : Loc Cert.GwoutaIdeal.nD Cert.GwoutaIdeal.τ Cert.GwoutaIdeal.sig) → Buf (Elt Ideal) ℓ) (g : Dev Cert.GwoutaIdeal.nD → PrngReg), Pre_GwoutaIdeal m →
    θ_run (Cert.GwoutaIdeal.defs (F := Ideal)) (onTc (τ := Cert.GwoutaIdeal.τ) (Cert.GwoutaIdeal.main (F := Ideal))) ⟨m, fun _ => 0, g⟩ (fun r => (∀ c : Dev Cert.GwoutaIdeal.nD,
      r.2.mem ((c.tc : Thread Cert.GwoutaIdeal.nD Cert.GwoutaIdeal.τ).loc Cert.GwoutaIdeal.main_arg0) = m ((c.tc : Thread Cert.GwoutaIdeal.nD Cert.GwoutaIdeal.τ).loc Cert.GwoutaIdeal.main_arg0)
      ∧ r.2.mem ((c.tc : Thread Cert.GwoutaIdeal.nD Cert.GwoutaIdeal.τ).loc Cert.GwoutaIdeal.main_arg1) = m ((c.tc : Thread Cert.GwoutaIdeal.nD Cert.GwoutaIdeal.τ).loc Cert.GwoutaIdeal.main_arg1)
      ∧ r.2.mem ((c.tc : Thread Cert.GwoutaIdeal.nD Cert.GwoutaIdeal.τ).loc Cert.GwoutaIdeal.main_arg2) = m ((c.tc : Thread Cert.GwoutaIdeal.nD Cert.GwoutaIdeal.τ).loc Cert.GwoutaIdeal.main_arg2))
      ∧ r.2.sem = fun _ => 0)

def quiescent_GwoutaRefIdeal [hGwoutaRefIdeal : Cert.GwoutaRefIdeal.Facts] : Prop :=
  ∀ (m : (ℓ : Loc Cert.GwoutaRefIdeal.nD Cert.GwoutaRefIdeal.τ Cert.GwoutaRefIdeal.sig) → Buf (Elt Ideal) ℓ) (g : Dev Cert.GwoutaRefIdeal.nD → PrngReg), Pre_GwoutaRefIdeal m →
    θ_run (Cert.GwoutaRefIdeal.defs (F := Ideal)) (onTc (τ := Cert.GwoutaRefIdeal.τ) (Cert.GwoutaRefIdeal.main (F := Ideal))) ⟨m, fun _ => 0, g⟩ (fun r => (∀ c : Dev Cert.GwoutaRefIdeal.nD,
      r.2.mem ((c.tc : Thread Cert.GwoutaRefIdeal.nD Cert.GwoutaRefIdeal.τ).loc Cert.GwoutaRefIdeal.main_arg0) = m ((c.tc : Thread Cert.GwoutaRefIdeal.nD Cert.GwoutaRefIdeal.τ).loc Cert.GwoutaRefIdeal.main_arg0)
      ∧ r.2.mem ((c.tc : Thread Cert.GwoutaRefIdeal.nD Cert.GwoutaRefIdeal.τ).loc Cert.GwoutaRefIdeal.main_arg1) = m ((c.tc : Thread Cert.GwoutaRefIdeal.nD Cert.GwoutaRefIdeal.τ).loc Cert.GwoutaRefIdeal.main_arg1)
      ∧ r.2.mem ((c.tc : Thread Cert.GwoutaRefIdeal.nD Cert.GwoutaRefIdeal.τ).loc Cert.GwoutaRefIdeal.main_arg2) = m ((c.tc : Thread Cert.GwoutaRefIdeal.nD Cert.GwoutaRefIdeal.τ).loc Cert.GwoutaRefIdeal.main_arg2))
      ∧ r.2.sem = fun _ => 0)

def quiescent_Gwoutb [hGwoutb : Cert.Gwoutb.Facts] : Prop :=
  ∀ (m : (ℓ : Loc Cert.Gwoutb.nD Cert.Gwoutb.τ Cert.Gwoutb.sig) → Buf (Elt Bits) ℓ) (g : Dev Cert.Gwoutb.nD → PrngReg), Pre_Gwoutb m →
    θ_run (Cert.Gwoutb.defs (F := Bits)) (onTc (τ := Cert.Gwoutb.τ) (Cert.Gwoutb.main (F := Bits))) ⟨m, fun _ => 0, g⟩ (fun r => (∀ c : Dev Cert.Gwoutb.nD,
      r.2.mem ((c.tc : Thread Cert.Gwoutb.nD Cert.Gwoutb.τ).loc Cert.Gwoutb.main_arg0) = m ((c.tc : Thread Cert.Gwoutb.nD Cert.Gwoutb.τ).loc Cert.Gwoutb.main_arg0)
      ∧ r.2.mem ((c.tc : Thread Cert.Gwoutb.nD Cert.Gwoutb.τ).loc Cert.Gwoutb.main_arg1) = m ((c.tc : Thread Cert.Gwoutb.nD Cert.Gwoutb.τ).loc Cert.Gwoutb.main_arg1)
      ∧ r.2.mem ((c.tc : Thread Cert.Gwoutb.nD Cert.Gwoutb.τ).loc Cert.Gwoutb.main_arg2) = m ((c.tc : Thread Cert.Gwoutb.nD Cert.Gwoutb.τ).loc Cert.Gwoutb.main_arg2))
      ∧ r.2.sem = fun _ => 0)

def quiescent_GwoutbIdeal [hGwoutbIdeal : Cert.GwoutbIdeal.Facts] : Prop :=
  ∀ (m : (ℓ : Loc Cert.GwoutbIdeal.nD Cert.GwoutbIdeal.τ Cert.GwoutbIdeal.sig) → Buf (Elt Ideal) ℓ) (g : Dev Cert.GwoutbIdeal.nD → PrngReg), Pre_GwoutbIdeal m →
    θ_run (Cert.GwoutbIdeal.defs (F := Ideal)) (onTc (τ := Cert.GwoutbIdeal.τ) (Cert.GwoutbIdeal.main (F := Ideal))) ⟨m, fun _ => 0, g⟩ (fun r => (∀ c : Dev Cert.GwoutbIdeal.nD,
      r.2.mem ((c.tc : Thread Cert.GwoutbIdeal.nD Cert.GwoutbIdeal.τ).loc Cert.GwoutbIdeal.main_arg0) = m ((c.tc : Thread Cert.GwoutbIdeal.nD Cert.GwoutbIdeal.τ).loc Cert.GwoutbIdeal.main_arg0)
      ∧ r.2.mem ((c.tc : Thread Cert.GwoutbIdeal.nD Cert.GwoutbIdeal.τ).loc Cert.GwoutbIdeal.main_arg1) = m ((c.tc : Thread Cert.GwoutbIdeal.nD Cert.GwoutbIdeal.τ).loc Cert.GwoutbIdeal.main_arg1)
      ∧ r.2.mem ((c.tc : Thread Cert.GwoutbIdeal.nD Cert.GwoutbIdeal.τ).loc Cert.GwoutbIdeal.main_arg2) = m ((c.tc : Thread Cert.GwoutbIdeal.nD Cert.GwoutbIdeal.τ).loc Cert.GwoutbIdeal.main_arg2))
      ∧ r.2.sem = fun _ => 0)

def quiescent_GwoutbRefIdeal [hGwoutbRefIdeal : Cert.GwoutbRefIdeal.Facts] : Prop :=
  ∀ (m : (ℓ : Loc Cert.GwoutbRefIdeal.nD Cert.GwoutbRefIdeal.τ Cert.GwoutbRefIdeal.sig) → Buf (Elt Ideal) ℓ) (g : Dev Cert.GwoutbRefIdeal.nD → PrngReg), Pre_GwoutbRefIdeal m →
    θ_run (Cert.GwoutbRefIdeal.defs (F := Ideal)) (onTc (τ := Cert.GwoutbRefIdeal.τ) (Cert.GwoutbRefIdeal.main (F := Ideal))) ⟨m, fun _ => 0, g⟩ (fun r => (∀ c : Dev Cert.GwoutbRefIdeal.nD,
      r.2.mem ((c.tc : Thread Cert.GwoutbRefIdeal.nD Cert.GwoutbRefIdeal.τ).loc Cert.GwoutbRefIdeal.main_arg0) = m ((c.tc : Thread Cert.GwoutbRefIdeal.nD Cert.GwoutbRefIdeal.τ).loc Cert.GwoutbRefIdeal.main_arg0)
      ∧ r.2.mem ((c.tc : Thread Cert.GwoutbRefIdeal.nD Cert.GwoutbRefIdeal.τ).loc Cert.GwoutbRefIdeal.main_arg1) = m ((c.tc : Thread Cert.GwoutbRefIdeal.nD Cert.GwoutbRefIdeal.τ).loc Cert.GwoutbRefIdeal.main_arg1)
      ∧ r.2.mem ((c.tc : Thread Cert.GwoutbRefIdeal.nD Cert.GwoutbRefIdeal.τ).loc Cert.GwoutbRefIdeal.main_arg2) = m ((c.tc : Thread Cert.GwoutbRefIdeal.nD Cert.GwoutbRefIdeal.τ).loc Cert.GwoutbRefIdeal.main_arg2))
      ∧ r.2.sem = fun _ => 0)

def quiescent_Rms1 [hRms1 : Cert.Rms1.Facts] : Prop :=
  ∀ (m : (ℓ : Loc Cert.Rms1.nD Cert.Rms1.τ Cert.Rms1.sig) → Buf (Elt Bits) ℓ) (g : Dev Cert.Rms1.nD → PrngReg), Pre_Rms1 m →
    θ_run (Cert.Rms1.defs (F := Bits)) (onTc (τ := Cert.Rms1.τ) (Cert.Rms1.main (F := Bits))) ⟨m, fun _ => 0, g⟩ (fun r => (∀ c : Dev Cert.Rms1.nD,
      r.2.mem ((c.tc : Thread Cert.Rms1.nD Cert.Rms1.τ).loc Cert.Rms1.main_arg0) = m ((c.tc : Thread Cert.Rms1.nD Cert.Rms1.τ).loc Cert.Rms1.main_arg0)
      ∧ r.2.mem ((c.tc : Thread Cert.Rms1.nD Cert.Rms1.τ).loc Cert.Rms1.main_arg1) = m ((c.tc : Thread Cert.Rms1.nD Cert.Rms1.τ).loc Cert.Rms1.main_arg1)
      ∧ r.2.mem ((c.tc : Thread Cert.Rms1.nD Cert.Rms1.τ).loc Cert.Rms1.main_arg2) = m ((c.tc : Thread Cert.Rms1.nD Cert.Rms1.τ).loc Cert.Rms1.main_arg2)
      ∧ r.2.mem ((c.tc : Thread Cert.Rms1.nD Cert.Rms1.τ).loc Cert.Rms1.main_arg3) = m ((c.tc : Thread Cert.Rms1.nD Cert.Rms1.τ).loc Cert.Rms1.main_arg3))
      ∧ r.2.sem = fun _ => 0)

def quiescent_Rms1Ideal [hRms1Ideal : Cert.Rms1Ideal.Facts] : Prop :=
  ∀ (m : (ℓ : Loc Cert.Rms1Ideal.nD Cert.Rms1Ideal.τ Cert.Rms1Ideal.sig) → Buf (Elt Ideal) ℓ) (g : Dev Cert.Rms1Ideal.nD → PrngReg), Pre_Rms1Ideal m →
    θ_run (Cert.Rms1Ideal.defs (F := Ideal)) (onTc (τ := Cert.Rms1Ideal.τ) (Cert.Rms1Ideal.main (F := Ideal))) ⟨m, fun _ => 0, g⟩ (fun r => (∀ c : Dev Cert.Rms1Ideal.nD,
      r.2.mem ((c.tc : Thread Cert.Rms1Ideal.nD Cert.Rms1Ideal.τ).loc Cert.Rms1Ideal.main_arg0) = m ((c.tc : Thread Cert.Rms1Ideal.nD Cert.Rms1Ideal.τ).loc Cert.Rms1Ideal.main_arg0)
      ∧ r.2.mem ((c.tc : Thread Cert.Rms1Ideal.nD Cert.Rms1Ideal.τ).loc Cert.Rms1Ideal.main_arg1) = m ((c.tc : Thread Cert.Rms1Ideal.nD Cert.Rms1Ideal.τ).loc Cert.Rms1Ideal.main_arg1)
      ∧ r.2.mem ((c.tc : Thread Cert.Rms1Ideal.nD Cert.Rms1Ideal.τ).loc Cert.Rms1Ideal.main_arg2) = m ((c.tc : Thread Cert.Rms1Ideal.nD Cert.Rms1Ideal.τ).loc Cert.Rms1Ideal.main_arg2)
      ∧ r.2.mem ((c.tc : Thread Cert.Rms1Ideal.nD Cert.Rms1Ideal.τ).loc Cert.Rms1Ideal.main_arg3) = m ((c.tc : Thread Cert.Rms1Ideal.nD Cert.Rms1Ideal.τ).loc Cert.Rms1Ideal.main_arg3))
      ∧ r.2.sem = fun _ => 0)

def quiescent_Rms1RefIdeal [hRms1RefIdeal : Cert.Rms1RefIdeal.Facts] : Prop :=
  ∀ (m : (ℓ : Loc Cert.Rms1RefIdeal.nD Cert.Rms1RefIdeal.τ Cert.Rms1RefIdeal.sig) → Buf (Elt Ideal) ℓ) (g : Dev Cert.Rms1RefIdeal.nD → PrngReg), Pre_Rms1RefIdeal m →
    θ_run (Cert.Rms1RefIdeal.defs (F := Ideal)) (onTc (τ := Cert.Rms1RefIdeal.τ) (Cert.Rms1RefIdeal.main (F := Ideal))) ⟨m, fun _ => 0, g⟩ (fun r => (∀ c : Dev Cert.Rms1RefIdeal.nD,
      r.2.mem ((c.tc : Thread Cert.Rms1RefIdeal.nD Cert.Rms1RefIdeal.τ).loc Cert.Rms1RefIdeal.main_arg0) = m ((c.tc : Thread Cert.Rms1RefIdeal.nD Cert.Rms1RefIdeal.τ).loc Cert.Rms1RefIdeal.main_arg0)
      ∧ r.2.mem ((c.tc : Thread Cert.Rms1RefIdeal.nD Cert.Rms1RefIdeal.τ).loc Cert.Rms1RefIdeal.main_arg1) = m ((c.tc : Thread Cert.Rms1RefIdeal.nD Cert.Rms1RefIdeal.τ).loc Cert.Rms1RefIdeal.main_arg1)
      ∧ r.2.mem ((c.tc : Thread Cert.Rms1RefIdeal.nD Cert.Rms1RefIdeal.τ).loc Cert.Rms1RefIdeal.main_arg2) = m ((c.tc : Thread Cert.Rms1RefIdeal.nD Cert.Rms1RefIdeal.τ).loc Cert.Rms1RefIdeal.main_arg2)
      ∧ r.2.mem ((c.tc : Thread Cert.Rms1RefIdeal.nD Cert.Rms1RefIdeal.τ).loc Cert.Rms1RefIdeal.main_arg3) = m ((c.tc : Thread Cert.Rms1RefIdeal.nD Cert.Rms1RefIdeal.τ).loc Cert.Rms1RefIdeal.main_arg3))
      ∧ r.2.sem = fun _ => 0)

def quiescent_Rms3 [hRms3 : Cert.Rms3.Facts] : Prop :=
  ∀ (m : (ℓ : Loc Cert.Rms3.nD Cert.Rms3.τ Cert.Rms3.sig) → Buf (Elt Bits) ℓ) (g : Dev Cert.Rms3.nD → PrngReg), Pre_Rms3 m →
    θ_run (Cert.Rms3.defs (F := Bits)) (onTc (τ := Cert.Rms3.τ) (Cert.Rms3.main (F := Bits))) ⟨m, fun _ => 0, g⟩ (fun r => (∀ c : Dev Cert.Rms3.nD,
      r.2.mem ((c.tc : Thread Cert.Rms3.nD Cert.Rms3.τ).loc Cert.Rms3.main_arg0) = m ((c.tc : Thread Cert.Rms3.nD Cert.Rms3.τ).loc Cert.Rms3.main_arg0)
      ∧ r.2.mem ((c.tc : Thread Cert.Rms3.nD Cert.Rms3.τ).loc Cert.Rms3.main_arg1) = m ((c.tc : Thread Cert.Rms3.nD Cert.Rms3.τ).loc Cert.Rms3.main_arg1)
      ∧ r.2.mem ((c.tc : Thread Cert.Rms3.nD Cert.Rms3.τ).loc Cert.Rms3.main_arg2) = m ((c.tc : Thread Cert.Rms3.nD Cert.Rms3.τ).loc Cert.Rms3.main_arg2)
      ∧ r.2.mem ((c.tc : Thread Cert.Rms3.nD Cert.Rms3.τ).loc Cert.Rms3.main_arg3) = m ((c.tc : Thread Cert.Rms3.nD Cert.Rms3.τ).loc Cert.Rms3.main_arg3))
      ∧ r.2.sem = fun _ => 0)

def quiescent_Rms3Ideal [hRms3Ideal : Cert.Rms3Ideal.Facts] : Prop :=
  ∀ (m : (ℓ : Loc Cert.Rms3Ideal.nD Cert.Rms3Ideal.τ Cert.Rms3Ideal.sig) → Buf (Elt Ideal) ℓ) (g : Dev Cert.Rms3Ideal.nD → PrngReg), Pre_Rms3Ideal m →
    θ_run (Cert.Rms3Ideal.defs (F := Ideal)) (onTc (τ := Cert.Rms3Ideal.τ) (Cert.Rms3Ideal.main (F := Ideal))) ⟨m, fun _ => 0, g⟩ (fun r => (∀ c : Dev Cert.Rms3Ideal.nD,
      r.2.mem ((c.tc : Thread Cert.Rms3Ideal.nD Cert.Rms3Ideal.τ).loc Cert.Rms3Ideal.main_arg0) = m ((c.tc : Thread Cert.Rms3Ideal.nD Cert.Rms3Ideal.τ).loc Cert.Rms3Ideal.main_arg0)
      ∧ r.2.mem ((c.tc : Thread Cert.Rms3Ideal.nD Cert.Rms3Ideal.τ).loc Cert.Rms3Ideal.main_arg1) = m ((c.tc : Thread Cert.Rms3Ideal.nD Cert.Rms3Ideal.τ).loc Cert.Rms3Ideal.main_arg1)
      ∧ r.2.mem ((c.tc : Thread Cert.Rms3Ideal.nD Cert.Rms3Ideal.τ).loc Cert.Rms3Ideal.main_arg2) = m ((c.tc : Thread Cert.Rms3Ideal.nD Cert.Rms3Ideal.τ).loc Cert.Rms3Ideal.main_arg2)
      ∧ r.2.mem ((c.tc : Thread Cert.Rms3Ideal.nD Cert.Rms3Ideal.τ).loc Cert.Rms3Ideal.main_arg3) = m ((c.tc : Thread Cert.Rms3Ideal.nD Cert.Rms3Ideal.τ).loc Cert.Rms3Ideal.main_arg3))
      ∧ r.2.sem = fun _ => 0)

def quiescent_Rms3RefIdeal [hRms3RefIdeal : Cert.Rms3RefIdeal.Facts] : Prop :=
  ∀ (m : (ℓ : Loc Cert.Rms3RefIdeal.nD Cert.Rms3RefIdeal.τ Cert.Rms3RefIdeal.sig) → Buf (Elt Ideal) ℓ) (g : Dev Cert.Rms3RefIdeal.nD → PrngReg), Pre_Rms3RefIdeal m →
    θ_run (Cert.Rms3RefIdeal.defs (F := Ideal)) (onTc (τ := Cert.Rms3RefIdeal.τ) (Cert.Rms3RefIdeal.main (F := Ideal))) ⟨m, fun _ => 0, g⟩ (fun r => (∀ c : Dev Cert.Rms3RefIdeal.nD,
      r.2.mem ((c.tc : Thread Cert.Rms3RefIdeal.nD Cert.Rms3RefIdeal.τ).loc Cert.Rms3RefIdeal.main_arg0) = m ((c.tc : Thread Cert.Rms3RefIdeal.nD Cert.Rms3RefIdeal.τ).loc Cert.Rms3RefIdeal.main_arg0)
      ∧ r.2.mem ((c.tc : Thread Cert.Rms3RefIdeal.nD Cert.Rms3RefIdeal.τ).loc Cert.Rms3RefIdeal.main_arg1) = m ((c.tc : Thread Cert.Rms3RefIdeal.nD Cert.Rms3RefIdeal.τ).loc Cert.Rms3RefIdeal.main_arg1)
      ∧ r.2.mem ((c.tc : Thread Cert.Rms3RefIdeal.nD Cert.Rms3RefIdeal.τ).loc Cert.Rms3RefIdeal.main_arg2) = m ((c.tc : Thread Cert.Rms3RefIdeal.nD Cert.Rms3RefIdeal.τ).loc Cert.Rms3RefIdeal.main_arg2)
      ∧ r.2.mem ((c.tc : Thread Cert.Rms3RefIdeal.nD Cert.Rms3RefIdeal.τ).loc Cert.Rms3RefIdeal.main_arg3) = m ((c.tc : Thread Cert.Rms3RefIdeal.nD Cert.Rms3RefIdeal.τ).loc Cert.Rms3RefIdeal.main_arg3))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3)
      ∧ r.2.mem ((c.tc : Thread Cert.AdamWin.nD Cert.AdamWin.τ).loc Cert.AdamWin.main_arg4) = m ((c.tc : Thread Cert.AdamWin.nD Cert.AdamWin.τ).loc Cert.AdamWin.main_arg4)
      ∧ r.2.mem ((c.tc : Thread Cert.AdamWin.nD Cert.AdamWin.τ).loc Cert.AdamWin.main_arg5) = m ((c.tc : Thread Cert.AdamWin.nD Cert.AdamWin.τ).loc Cert.AdamWin.main_arg5))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
      ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4)
      ∧ r.2.mem ((c.tc : Thread Cert.AdamWinIdeal.nD Cert.AdamWinIdeal.τ).loc Cert.AdamWinIdeal.main_arg5) = m ((c.tc : Thread Cert.AdamWinIdeal.nD Cert.AdamWinIdeal.τ).loc Cert.AdamWinIdeal.main_arg5))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3)
      ∧ r.2.mem ((c.tc : Thread Cert.AdamWinRefIdeal.nD Cert.AdamWinRefIdeal.τ).loc Cert.AdamWinRefIdeal.main_arg4) = m ((c.tc : Thread Cert.AdamWinRefIdeal.nD Cert.AdamWinRefIdeal.τ).loc Cert.AdamWinRefIdeal.main_arg4)
      ∧ r.2.mem ((c.tc : Thread Cert.AdamWinRefIdeal.nD Cert.AdamWinRefIdeal.τ).loc Cert.AdamWinRefIdeal.main_arg5) = m ((c.tc : Thread Cert.AdamWinRefIdeal.nD Cert.AdamWinRefIdeal.τ).loc Cert.AdamWinRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamWq [hAdamWq : Cert.AdamWq.Facts] : Prop :=
  ∀ (m : (ℓ : Loc Cert.AdamWq.nD Cert.AdamWq.τ Cert.AdamWq.sig) → Buf (Elt Bits) ℓ) (g : Dev Cert.AdamWq.nD → PrngReg), Pre_AdamWq m →
    θ_run (Cert.AdamWq.defs (F := Bits)) (onTc (τ := Cert.AdamWq.τ) (Cert.AdamWq.main (F := Bits))) ⟨m, fun _ => 0, g⟩ (fun r => (∀ c : Dev Cert.AdamWq.nD,
      r.2.mem ((c.tc : Thread Cert.AdamWq.nD Cert.AdamWq.τ).loc Cert.AdamWq.main_arg0) = m ((c.tc : Thread Cert.AdamWq.nD Cert.AdamWq.τ).loc Cert.AdamWq.main_arg0)
      ∧ r.2.mem ((c.tc : Thread Cert.AdamWq.nD Cert.AdamWq.τ).loc Cert.AdamWq.main_arg1) = m ((c.tc : Thread Cert.AdamWq.nD Cert.AdamWq.τ).loc Cert.AdamWq.main_arg1)
      ∧ r.2.mem ((c.tc : Thread Cert.AdamWq.nD Cert.AdamWq.τ).loc Cert.AdamWq.main_arg2) = m ((c.tc : Thread Cert.AdamWq.nD Cert.AdamWq.τ).loc Cert.AdamWq.main_arg2)
      ∧ r.2.mem ((c.tc : Thread Cert.AdamWq.nD Cert.AdamWq.τ).loc Cert.AdamWq.main_arg3) = m ((c.tc : Thread Cert.AdamWq.nD Cert.AdamWq.τ).loc Cert.AdamWq.main_arg3)
      ∧ r.2.mem ((c.tc : Thread Cert.AdamWq.nD Cert.AdamWq.τ).loc Cert.AdamWq.main_arg4) = m ((c.tc : Thread Cert.AdamWq.nD Cert.AdamWq.τ).loc Cert.AdamWq.main_arg4)
      ∧ r.2.mem ((c.tc : Thread Cert.AdamWq.nD Cert.AdamWq.τ).loc Cert.AdamWq.main_arg5) = m ((c.tc : Thread Cert.AdamWq.nD Cert.AdamWq.τ).loc Cert.AdamWq.main_arg5))
      ∧ r.2.sem = fun _ => 0)

def quiescent_AdamWqIdeal [hAdamWqIdeal : Cert.AdamWqIdeal.Facts] : Prop :=
  ∀ (m : (ℓ : Loc Cert.AdamWqIdeal.nD Cert.AdamWqIdeal.τ Cert.AdamWqIdeal.sig) → Buf (Elt Ideal) ℓ) (g : Dev Cert.AdamWqIdeal.nD → PrngReg), Pre_AdamWqIdeal m →
    θ_run (Cert.AdamWqIdeal.defs (F := Ideal)) (onTc (τ := Cert.AdamWqIdeal.τ) (Cert.AdamWqIdeal.main (F := Ideal))) ⟨m, fun _ => 0, g⟩ (fun r => (∀ c : Dev Cert.AdamWqIdeal.nD,
      r.2.mem ((c.tc : Thread Cert.AdamWqIdeal.nD Cert.AdamWqIdeal.τ).loc Cert.AdamWqIdeal.main_arg0) = m ((c.tc : Thread Cert.AdamWqIdeal.nD Cert.AdamWqIdeal.τ).loc Cert.AdamWqIdeal.main_arg0)
      ∧ r.2.mem ((c.tc : Thread Cert.AdamWqIdeal.nD Cert.AdamWqIdeal.τ).loc Cert.AdamWqIdeal.main_arg1) = m ((c.tc : Thread Cert.AdamWqIdeal.nD Cert.AdamWqIdeal.τ).loc Cert.AdamWqIdeal.main_arg1)
      ∧ r.2.mem ((c.tc : Thread Cert.AdamWqIdeal.nD Cert.AdamWqIdeal.τ).loc Cert.AdamWqIdeal.main_arg2) = m ((c.tc : Thread Cert.AdamWqIdeal.nD Cert.AdamWqIdeal.τ).loc Cert.AdamWqIdeal.main_arg2)
      ∧ r.2.mem ((c.tc : Thread Cert.AdamWqIdeal.nD Cert.AdamWqIdeal.τ).loc Cert.AdamWqIdeal.main_arg3) = m ((c.tc : Thread Cert.AdamWqIdeal.nD Cert.AdamWqIdeal.τ).loc Cert.AdamWqIdeal.main_arg3)
      ∧ r.2.mem ((c.tc : Thread Cert.AdamWqIdeal.nD Cert.AdamWqIdeal.τ).loc Cert.AdamWqIdeal.main_arg4) = m ((c.tc : Thread Cert.AdamWqIdeal.nD Cert.AdamWqIdeal.τ).loc Cert.AdamWqIdeal.main_arg4)
      ∧ r.2.mem ((c.tc : Thread Cert.AdamWqIdeal.nD Cert.AdamWqIdeal.τ).loc Cert.AdamWqIdeal.main_arg5) = m ((c.tc : Thread Cert.AdamWqIdeal.nD Cert.AdamWqIdeal.τ).loc Cert.AdamWqIdeal.main_arg5))
      ∧ r.2.sem = fun _ => 0)

def quiescent_AdamWqRefIdeal [hAdamWqRefIdeal : Cert.AdamWqRefIdeal.Facts] : Prop :=
  ∀ (m : (ℓ : Loc Cert.AdamWqRefIdeal.nD Cert.AdamWqRefIdeal.τ Cert.AdamWqRefIdeal.sig) → Buf (Elt Ideal) ℓ) (g : Dev Cert.AdamWqRefIdeal.nD → PrngReg), Pre_AdamWqRefIdeal m →
    θ_run (Cert.AdamWqRefIdeal.defs (F := Ideal)) (onTc (τ := Cert.AdamWqRefIdeal.τ) (Cert.AdamWqRefIdeal.main (F := Ideal))) ⟨m, fun _ => 0, g⟩ (fun r => (∀ c : Dev Cert.AdamWqRefIdeal.nD,
      r.2.mem ((c.tc : Thread Cert.AdamWqRefIdeal.nD Cert.AdamWqRefIdeal.τ).loc Cert.AdamWqRefIdeal.main_arg0) = m ((c.tc : Thread Cert.AdamWqRefIdeal.nD Cert.AdamWqRefIdeal.τ).loc Cert.AdamWqRefIdeal.main_arg0)
      ∧ r.2.mem ((c.tc : Thread Cert.AdamWqRefIdeal.nD Cert.AdamWqRefIdeal.τ).loc Cert.AdamWqRefIdeal.main_arg1) = m ((c.tc : Thread Cert.AdamWqRefIdeal.nD Cert.AdamWqRefIdeal.τ).loc Cert.AdamWqRefIdeal.main_arg1)
      ∧ r.2.mem ((c.tc : Thread Cert.AdamWqRefIdeal.nD Cert.AdamWqRefIdeal.τ).loc Cert.AdamWqRefIdeal.main_arg2) = m ((c.tc : Thread Cert.AdamWqRefIdeal.nD Cert.AdamWqRefIdeal.τ).loc Cert.AdamWqRefIdeal.main_arg2)
      ∧ r.2.mem ((c.tc : Thread Cert.AdamWqRefIdeal.nD Cert.AdamWqRefIdeal.τ).loc Cert.AdamWqRefIdeal.main_arg3) = m ((c.tc : Thread Cert.AdamWqRefIdeal.nD Cert.AdamWqRefIdeal.τ).loc Cert.AdamWqRefIdeal.main_arg3)
      ∧ r.2.mem ((c.tc : Thread Cert.AdamWqRefIdeal.nD Cert.AdamWqRefIdeal.τ).loc Cert.AdamWqRefIdeal.main_arg4) = m ((c.tc : Thread Cert.AdamWqRefIdeal.nD Cert.AdamWqRefIdeal.τ).loc Cert.AdamWqRefIdeal.main_arg4)
      ∧ r.2.mem ((c.tc : Thread Cert.AdamWqRefIdeal.nD Cert.AdamWqRefIdeal.τ).loc Cert.AdamWqRefIdeal.main_arg5) = m ((c.tc : Thread Cert.AdamWqRefIdeal.nD Cert.AdamWqRefIdeal.τ).loc Cert.AdamWqRefIdeal.main_arg5))
      ∧ r.2.sem = fun _ => 0)

def quiescent_AdamWk [hAdamWk : Cert.AdamWk.Facts] : Prop :=
  ∀ (m : (ℓ : Loc Cert.AdamWk.nD Cert.AdamWk.τ Cert.AdamWk.sig) → Buf (Elt Bits) ℓ) (g : Dev Cert.AdamWk.nD → PrngReg), Pre_AdamWk m →
    θ_run (Cert.AdamWk.defs (F := Bits)) (onTc (τ := Cert.AdamWk.τ) (Cert.AdamWk.main (F := Bits))) ⟨m, fun _ => 0, g⟩ (fun r => (∀ c : Dev Cert.AdamWk.nD,
      r.2.mem ((c.tc : Thread Cert.AdamWk.nD Cert.AdamWk.τ).loc Cert.AdamWk.main_arg0) = m ((c.tc : Thread Cert.AdamWk.nD Cert.AdamWk.τ).loc Cert.AdamWk.main_arg0)
      ∧ r.2.mem ((c.tc : Thread Cert.AdamWk.nD Cert.AdamWk.τ).loc Cert.AdamWk.main_arg1) = m ((c.tc : Thread Cert.AdamWk.nD Cert.AdamWk.τ).loc Cert.AdamWk.main_arg1)
      ∧ r.2.mem ((c.tc : Thread Cert.AdamWk.nD Cert.AdamWk.τ).loc Cert.AdamWk.main_arg2) = m ((c.tc : Thread Cert.AdamWk.nD Cert.AdamWk.τ).loc Cert.AdamWk.main_arg2)
      ∧ r.2.mem ((c.tc : Thread Cert.AdamWk.nD Cert.AdamWk.τ).loc Cert.AdamWk.main_arg3) = m ((c.tc : Thread Cert.AdamWk.nD Cert.AdamWk.τ).loc Cert.AdamWk.main_arg3)
      ∧ r.2.mem ((c.tc : Thread Cert.AdamWk.nD Cert.AdamWk.τ).loc Cert.AdamWk.main_arg4) = m ((c.tc : Thread Cert.AdamWk.nD Cert.AdamWk.τ).loc Cert.AdamWk.main_arg4)
      ∧ r.2.mem ((c.tc : Thread Cert.AdamWk.nD Cert.AdamWk.τ).loc Cert.AdamWk.main_arg5) = m ((c.tc : Thread Cert.AdamWk.nD Cert.AdamWk.τ).loc Cert.AdamWk.main_arg5))
      ∧ r.2.sem = fun _ => 0)

def quiescent_AdamWkIdeal [hAdamWkIdeal : Cert.AdamWkIdeal.Facts] : Prop :=
  ∀ (m : (ℓ : Loc Cert.AdamWkIdeal.nD Cert.AdamWkIdeal.τ Cert.AdamWkIdeal.sig) → Buf (Elt Ideal) ℓ) (g : Dev Cert.AdamWkIdeal.nD → PrngReg), Pre_AdamWkIdeal m →
    θ_run (Cert.AdamWkIdeal.defs (F := Ideal)) (onTc (τ := Cert.AdamWkIdeal.τ) (Cert.AdamWkIdeal.main (F := Ideal))) ⟨m, fun _ => 0, g⟩ (fun r => (∀ c : Dev Cert.AdamWkIdeal.nD,
      r.2.mem ((c.tc : Thread Cert.AdamWkIdeal.nD Cert.AdamWkIdeal.τ).loc Cert.AdamWkIdeal.main_arg0) = m ((c.tc : Thread Cert.AdamWkIdeal.nD Cert.AdamWkIdeal.τ).loc Cert.AdamWkIdeal.main_arg0)
      ∧ r.2.mem ((c.tc : Thread Cert.AdamWkIdeal.nD Cert.AdamWkIdeal.τ).loc Cert.AdamWkIdeal.main_arg1) = m ((c.tc : Thread Cert.AdamWkIdeal.nD Cert.AdamWkIdeal.τ).loc Cert.AdamWkIdeal.main_arg1)
      ∧ r.2.mem ((c.tc : Thread Cert.AdamWkIdeal.nD Cert.AdamWkIdeal.τ).loc Cert.AdamWkIdeal.main_arg2) = m ((c.tc : Thread Cert.AdamWkIdeal.nD Cert.AdamWkIdeal.τ).loc Cert.AdamWkIdeal.main_arg2)
      ∧ r.2.mem ((c.tc : Thread Cert.AdamWkIdeal.nD Cert.AdamWkIdeal.τ).loc Cert.AdamWkIdeal.main_arg3) = m ((c.tc : Thread Cert.AdamWkIdeal.nD Cert.AdamWkIdeal.τ).loc Cert.AdamWkIdeal.main_arg3)
      ∧ r.2.mem ((c.tc : Thread Cert.AdamWkIdeal.nD Cert.AdamWkIdeal.τ).loc Cert.AdamWkIdeal.main_arg4) = m ((c.tc : Thread Cert.AdamWkIdeal.nD Cert.AdamWkIdeal.τ).loc Cert.AdamWkIdeal.main_arg4)
      ∧ r.2.mem ((c.tc : Thread Cert.AdamWkIdeal.nD Cert.AdamWkIdeal.τ).loc Cert.AdamWkIdeal.main_arg5) = m ((c.tc : Thread Cert.AdamWkIdeal.nD Cert.AdamWkIdeal.τ).loc Cert.AdamWkIdeal.main_arg5))
      ∧ r.2.sem = fun _ => 0)

def quiescent_AdamWkRefIdeal [hAdamWkRefIdeal : Cert.AdamWkRefIdeal.Facts] : Prop :=
  ∀ (m : (ℓ : Loc Cert.AdamWkRefIdeal.nD Cert.AdamWkRefIdeal.τ Cert.AdamWkRefIdeal.sig) → Buf (Elt Ideal) ℓ) (g : Dev Cert.AdamWkRefIdeal.nD → PrngReg), Pre_AdamWkRefIdeal m →
    θ_run (Cert.AdamWkRefIdeal.defs (F := Ideal)) (onTc (τ := Cert.AdamWkRefIdeal.τ) (Cert.AdamWkRefIdeal.main (F := Ideal))) ⟨m, fun _ => 0, g⟩ (fun r => (∀ c : Dev Cert.AdamWkRefIdeal.nD,
      r.2.mem ((c.tc : Thread Cert.AdamWkRefIdeal.nD Cert.AdamWkRefIdeal.τ).loc Cert.AdamWkRefIdeal.main_arg0) = m ((c.tc : Thread Cert.AdamWkRefIdeal.nD Cert.AdamWkRefIdeal.τ).loc Cert.AdamWkRefIdeal.main_arg0)
      ∧ r.2.mem ((c.tc : Thread Cert.AdamWkRefIdeal.nD Cert.AdamWkRefIdeal.τ).loc Cert.AdamWkRefIdeal.main_arg1) = m ((c.tc : Thread Cert.AdamWkRefIdeal.nD Cert.AdamWkRefIdeal.τ).loc Cert.AdamWkRefIdeal.main_arg1)
      ∧ r.2.mem ((c.tc : Thread Cert.AdamWkRefIdeal.nD Cert.AdamWkRefIdeal.τ).loc Cert.AdamWkRefIdeal.main_arg2) = m ((c.tc : Thread Cert.AdamWkRefIdeal.nD Cert.AdamWkRefIdeal.τ).loc Cert.AdamWkRefIdeal.main_arg2)
      ∧ r.2.mem ((c.tc : Thread Cert.AdamWkRefIdeal.nD Cert.AdamWkRefIdeal.τ).loc Cert.AdamWkRefIdeal.main_arg3) = m ((c.tc : Thread Cert.AdamWkRefIdeal.nD Cert.AdamWkRefIdeal.τ).loc Cert.AdamWkRefIdeal.main_arg3)
      ∧ r.2.mem ((c.tc : Thread Cert.AdamWkRefIdeal.nD Cert.AdamWkRefIdeal.τ).loc Cert.AdamWkRefIdeal.main_arg4) = m ((c.tc : Thread Cert.AdamWkRefIdeal.nD Cert.AdamWkRefIdeal.τ).loc Cert.AdamWkRefIdeal.main_arg4)
      ∧ r.2.mem ((c.tc : Thread Cert.AdamWkRefIdeal.nD Cert.AdamWkRefIdeal.τ).loc Cert.AdamWkRefIdeal.main_arg5) = m ((c.tc : Thread Cert.AdamWkRefIdeal.nD Cert.AdamWkRefIdeal.τ).loc Cert.AdamWkRefIdeal.main_arg5))
      ∧ r.2.sem = fun _ => 0)

def quiescent_AdamWv [hAdamWv : Cert.AdamWv.Facts] : Prop :=
  ∀ (m : (ℓ : Loc Cert.AdamWv.nD Cert.AdamWv.τ Cert.AdamWv.sig) → Buf (Elt Bits) ℓ) (g : Dev Cert.AdamWv.nD → PrngReg), Pre_AdamWv m →
    θ_run (Cert.AdamWv.defs (F := Bits)) (onTc (τ := Cert.AdamWv.τ) (Cert.AdamWv.main (F := Bits))) ⟨m, fun _ => 0, g⟩ (fun r => (∀ c : Dev Cert.AdamWv.nD,
      r.2.mem ((c.tc : Thread Cert.AdamWv.nD Cert.AdamWv.τ).loc Cert.AdamWv.main_arg0) = m ((c.tc : Thread Cert.AdamWv.nD Cert.AdamWv.τ).loc Cert.AdamWv.main_arg0)
      ∧ r.2.mem ((c.tc : Thread Cert.AdamWv.nD Cert.AdamWv.τ).loc Cert.AdamWv.main_arg1) = m ((c.tc : Thread Cert.AdamWv.nD Cert.AdamWv.τ).loc Cert.AdamWv.main_arg1)
      ∧ r.2.mem ((c.tc : Thread Cert.AdamWv.nD Cert.AdamWv.τ).loc Cert.AdamWv.main_arg2) = m ((c.tc : Thread Cert.AdamWv.nD Cert.AdamWv.τ).loc Cert.AdamWv.main_arg2)
      ∧ r.2.mem ((c.tc : Thread Cert.AdamWv.nD Cert.AdamWv.τ).loc Cert.AdamWv.main_arg3) = m ((c.tc : Thread Cert.AdamWv.nD Cert.AdamWv.τ).loc Cert.AdamWv.main_arg3)
      ∧ r.2.mem ((c.tc : Thread Cert.AdamWv.nD Cert.AdamWv.τ).loc Cert.AdamWv.main_arg4) = m ((c.tc : Thread Cert.AdamWv.nD Cert.AdamWv.τ).loc Cert.AdamWv.main_arg4)
      ∧ r.2.mem ((c.tc : Thread Cert.AdamWv.nD Cert.AdamWv.τ).loc Cert.AdamWv.main_arg5) = m ((c.tc : Thread Cert.AdamWv.nD Cert.AdamWv.τ).loc Cert.AdamWv.main_arg5))
      ∧ r.2.sem = fun _ => 0)

def quiescent_AdamWvIdeal [hAdamWvIdeal : Cert.AdamWvIdeal.Facts] : Prop :=
  ∀ (m : (ℓ : Loc Cert.AdamWvIdeal.nD Cert.AdamWvIdeal.τ Cert.AdamWvIdeal.sig) → Buf (Elt Ideal) ℓ) (g : Dev Cert.AdamWvIdeal.nD → PrngReg), Pre_AdamWvIdeal m →
    θ_run (Cert.AdamWvIdeal.defs (F := Ideal)) (onTc (τ := Cert.AdamWvIdeal.τ) (Cert.AdamWvIdeal.main (F := Ideal))) ⟨m, fun _ => 0, g⟩ (fun r => (∀ c : Dev Cert.AdamWvIdeal.nD,
      r.2.mem ((c.tc : Thread Cert.AdamWvIdeal.nD Cert.AdamWvIdeal.τ).loc Cert.AdamWvIdeal.main_arg0) = m ((c.tc : Thread Cert.AdamWvIdeal.nD Cert.AdamWvIdeal.τ).loc Cert.AdamWvIdeal.main_arg0)
      ∧ r.2.mem ((c.tc : Thread Cert.AdamWvIdeal.nD Cert.AdamWvIdeal.τ).loc Cert.AdamWvIdeal.main_arg1) = m ((c.tc : Thread Cert.AdamWvIdeal.nD Cert.AdamWvIdeal.τ).loc Cert.AdamWvIdeal.main_arg1)
      ∧ r.2.mem ((c.tc : Thread Cert.AdamWvIdeal.nD Cert.AdamWvIdeal.τ).loc Cert.AdamWvIdeal.main_arg2) = m ((c.tc : Thread Cert.AdamWvIdeal.nD Cert.AdamWvIdeal.τ).loc Cert.AdamWvIdeal.main_arg2)
      ∧ r.2.mem ((c.tc : Thread Cert.AdamWvIdeal.nD Cert.AdamWvIdeal.τ).loc Cert.AdamWvIdeal.main_arg3) = m ((c.tc : Thread Cert.AdamWvIdeal.nD Cert.AdamWvIdeal.τ).loc Cert.AdamWvIdeal.main_arg3)
      ∧ r.2.mem ((c.tc : Thread Cert.AdamWvIdeal.nD Cert.AdamWvIdeal.τ).loc Cert.AdamWvIdeal.main_arg4) = m ((c.tc : Thread Cert.AdamWvIdeal.nD Cert.AdamWvIdeal.τ).loc Cert.AdamWvIdeal.main_arg4)
      ∧ r.2.mem ((c.tc : Thread Cert.AdamWvIdeal.nD Cert.AdamWvIdeal.τ).loc Cert.AdamWvIdeal.main_arg5) = m ((c.tc : Thread Cert.AdamWvIdeal.nD Cert.AdamWvIdeal.τ).loc Cert.AdamWvIdeal.main_arg5))
      ∧ r.2.sem = fun _ => 0)

def quiescent_AdamWvRefIdeal [hAdamWvRefIdeal : Cert.AdamWvRefIdeal.Facts] : Prop :=
  ∀ (m : (ℓ : Loc Cert.AdamWvRefIdeal.nD Cert.AdamWvRefIdeal.τ Cert.AdamWvRefIdeal.sig) → Buf (Elt Ideal) ℓ) (g : Dev Cert.AdamWvRefIdeal.nD → PrngReg), Pre_AdamWvRefIdeal m →
    θ_run (Cert.AdamWvRefIdeal.defs (F := Ideal)) (onTc (τ := Cert.AdamWvRefIdeal.τ) (Cert.AdamWvRefIdeal.main (F := Ideal))) ⟨m, fun _ => 0, g⟩ (fun r => (∀ c : Dev Cert.AdamWvRefIdeal.nD,
      r.2.mem ((c.tc : Thread Cert.AdamWvRefIdeal.nD Cert.AdamWvRefIdeal.τ).loc Cert.AdamWvRefIdeal.main_arg0) = m ((c.tc : Thread Cert.AdamWvRefIdeal.nD Cert.AdamWvRefIdeal.τ).loc Cert.AdamWvRefIdeal.main_arg0)
      ∧ r.2.mem ((c.tc : Thread Cert.AdamWvRefIdeal.nD Cert.AdamWvRefIdeal.τ).loc Cert.AdamWvRefIdeal.main_arg1) = m ((c.tc : Thread Cert.AdamWvRefIdeal.nD Cert.AdamWvRefIdeal.τ).loc Cert.AdamWvRefIdeal.main_arg1)
      ∧ r.2.mem ((c.tc : Thread Cert.AdamWvRefIdeal.nD Cert.AdamWvRefIdeal.τ).loc Cert.AdamWvRefIdeal.main_arg2) = m ((c.tc : Thread Cert.AdamWvRefIdeal.nD Cert.AdamWvRefIdeal.τ).loc Cert.AdamWvRefIdeal.main_arg2)
      ∧ r.2.mem ((c.tc : Thread Cert.AdamWvRefIdeal.nD Cert.AdamWvRefIdeal.τ).loc Cert.AdamWvRefIdeal.main_arg3) = m ((c.tc : Thread Cert.AdamWvRefIdeal.nD Cert.AdamWvRefIdeal.τ).loc Cert.AdamWvRefIdeal.main_arg3)
      ∧ r.2.mem ((c.tc : Thread Cert.AdamWvRefIdeal.nD Cert.AdamWvRefIdeal.τ).loc Cert.AdamWvRefIdeal.main_arg4) = m ((c.tc : Thread Cert.AdamWvRefIdeal.nD Cert.AdamWvRefIdeal.τ).loc Cert.AdamWvRefIdeal.main_arg4)
      ∧ r.2.mem ((c.tc : Thread Cert.AdamWvRefIdeal.nD Cert.AdamWvRefIdeal.τ).loc Cert.AdamWvRefIdeal.main_arg5) = m ((c.tc : Thread Cert.AdamWvRefIdeal.nD Cert.AdamWvRefIdeal.τ).loc Cert.AdamWvRefIdeal.main_arg5))
      ∧ r.2.sem = fun _ => 0)

def quiescent_AdamWo [hAdamWo : Cert.AdamWo.Facts] : Prop :=
  ∀ (m : (ℓ : Loc Cert.AdamWo.nD Cert.AdamWo.τ Cert.AdamWo.sig) → Buf (Elt Bits) ℓ) (g : Dev Cert.AdamWo.nD → PrngReg), Pre_AdamWo m →
    θ_run (Cert.AdamWo.defs (F := Bits)) (onTc (τ := Cert.AdamWo.τ) (Cert.AdamWo.main (F := Bits))) ⟨m, fun _ => 0, g⟩ (fun r => (∀ c : Dev Cert.AdamWo.nD,
      r.2.mem ((c.tc : Thread Cert.AdamWo.nD Cert.AdamWo.τ).loc Cert.AdamWo.main_arg0) = m ((c.tc : Thread Cert.AdamWo.nD Cert.AdamWo.τ).loc Cert.AdamWo.main_arg0)
      ∧ r.2.mem ((c.tc : Thread Cert.AdamWo.nD Cert.AdamWo.τ).loc Cert.AdamWo.main_arg1) = m ((c.tc : Thread Cert.AdamWo.nD Cert.AdamWo.τ).loc Cert.AdamWo.main_arg1)
      ∧ r.2.mem ((c.tc : Thread Cert.AdamWo.nD Cert.AdamWo.τ).loc Cert.AdamWo.main_arg2) = m ((c.tc : Thread Cert.AdamWo.nD Cert.AdamWo.τ).loc Cert.AdamWo.main_arg2)
      ∧ r.2.mem ((c.tc : Thread Cert.AdamWo.nD Cert.AdamWo.τ).loc Cert.AdamWo.main_arg3) = m ((c.tc : Thread Cert.AdamWo.nD Cert.AdamWo.τ).loc Cert.AdamWo.main_arg3)
      ∧ r.2.mem ((c.tc : Thread Cert.AdamWo.nD Cert.AdamWo.τ).loc Cert.AdamWo.main_arg4) = m ((c.tc : Thread Cert.AdamWo.nD Cert.AdamWo.τ).loc Cert.AdamWo.main_arg4)
      ∧ r.2.mem ((c.tc : Thread Cert.AdamWo.nD Cert.AdamWo.τ).loc Cert.AdamWo.main_arg5) = m ((c.tc : Thread Cert.AdamWo.nD Cert.AdamWo.τ).loc Cert.AdamWo.main_arg5))
      ∧ r.2.sem = fun _ => 0)

def quiescent_AdamWoIdeal [hAdamWoIdeal : Cert.AdamWoIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg), Pre_AdamWoIdeal m →
    θ_run (Cert.AdamWoIdeal.defs (F := Ideal)) (onTc (τ := Cert.AdamWoIdeal.τ) (Cert.AdamWoIdeal.main (F := Ideal))) ⟨m, fun _ => 0, g⟩ (fun r => (∀ c : Dev Cert.AdamWoIdeal.nD,
      r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
      ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
      ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
      ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3)
      ∧ r.2.mem ((c.tc : Thread Cert.AdamWoIdeal.nD Cert.AdamWoIdeal.τ).loc Cert.AdamWoIdeal.main_arg4) = m ((c.tc : Thread Cert.AdamWoIdeal.nD Cert.AdamWoIdeal.τ).loc Cert.AdamWoIdeal.main_arg4)
      ∧ r.2.mem ((c.tc : Thread Cert.AdamWoIdeal.nD Cert.AdamWoIdeal.τ).loc Cert.AdamWoIdeal.main_arg5) = m ((c.tc : Thread Cert.AdamWoIdeal.nD Cert.AdamWoIdeal.τ).loc Cert.AdamWoIdeal.main_arg5))
      ∧ r.2.sem = fun _ => 0)

def quiescent_AdamWoRefIdeal [hAdamWoRefIdeal : Cert.AdamWoRefIdeal.Facts] : Prop :=
  ∀ (m : (ℓ : Loc Cert.AdamWoRefIdeal.nD Cert.AdamWoRefIdeal.τ Cert.AdamWoRefIdeal.sig) → Buf (Elt Ideal) ℓ) (g : Dev Cert.AdamWoRefIdeal.nD → PrngReg), Pre_AdamWoRefIdeal m →
    θ_run (Cert.AdamWoRefIdeal.defs (F := Ideal)) (onTc (τ := Cert.AdamWoRefIdeal.τ) (Cert.AdamWoRefIdeal.main (F := Ideal))) ⟨m, fun _ => 0, g⟩ (fun r => (∀ c : Dev Cert.AdamWoRefIdeal.nD,
      r.2.mem ((c.tc : Thread Cert.AdamWoRefIdeal.nD Cert.AdamWoRefIdeal.τ).loc Cert.AdamWoRefIdeal.main_arg0) = m ((c.tc : Thread Cert.AdamWoRefIdeal.nD Cert.AdamWoRefIdeal.τ).loc Cert.AdamWoRefIdeal.main_arg0)
      ∧ r.2.mem ((c.tc : Thread Cert.AdamWoRefIdeal.nD Cert.AdamWoRefIdeal.τ).loc Cert.AdamWoRefIdeal.main_arg1) = m ((c.tc : Thread Cert.AdamWoRefIdeal.nD Cert.AdamWoRefIdeal.τ).loc Cert.AdamWoRefIdeal.main_arg1)
      ∧ r.2.mem ((c.tc : Thread Cert.AdamWoRefIdeal.nD Cert.AdamWoRefIdeal.τ).loc Cert.AdamWoRefIdeal.main_arg2) = m ((c.tc : Thread Cert.AdamWoRefIdeal.nD Cert.AdamWoRefIdeal.τ).loc Cert.AdamWoRefIdeal.main_arg2)
      ∧ r.2.mem ((c.tc : Thread Cert.AdamWoRefIdeal.nD Cert.AdamWoRefIdeal.τ).loc Cert.AdamWoRefIdeal.main_arg3) = m ((c.tc : Thread Cert.AdamWoRefIdeal.nD Cert.AdamWoRefIdeal.τ).loc Cert.AdamWoRefIdeal.main_arg3)
      ∧ r.2.mem ((c.tc : Thread Cert.AdamWoRefIdeal.nD Cert.AdamWoRefIdeal.τ).loc Cert.AdamWoRefIdeal.main_arg4) = m ((c.tc : Thread Cert.AdamWoRefIdeal.nD Cert.AdamWoRefIdeal.τ).loc Cert.AdamWoRefIdeal.main_arg4)
      ∧ r.2.mem ((c.tc : Thread Cert.AdamWoRefIdeal.nD Cert.AdamWoRefIdeal.τ).loc Cert.AdamWoRefIdeal.main_arg5) = m ((c.tc : Thread Cert.AdamWoRefIdeal.nD Cert.AdamWoRefIdeal.τ).loc Cert.AdamWoRefIdeal.main_arg5))
      ∧ r.2.sem = fun _ => 0)

def quiescent_AdamSmall1 [hAdamSmall1 : Cert.AdamSmall1.Facts] : Prop :=
  ∀ (m : (ℓ : Loc Cert.AdamSmall1.nD Cert.AdamSmall1.τ Cert.AdamSmall1.sig) → Buf (Elt Bits) ℓ) (g : Dev Cert.AdamSmall1.nD → PrngReg), Pre_AdamSmall1 m →
    θ_run (Cert.AdamSmall1.defs (F := Bits)) (onTc (τ := Cert.AdamSmall1.τ) (Cert.AdamSmall1.main (F := Bits))) ⟨m, fun _ => 0, g⟩ (fun r => (∀ c : Dev Cert.AdamSmall1.nD,
      r.2.mem ((c.tc : Thread Cert.AdamSmall1.nD Cert.AdamSmall1.τ).loc Cert.AdamSmall1.main_arg0) = m ((c.tc : Thread Cert.AdamSmall1.nD Cert.AdamSmall1.τ).loc Cert.AdamSmall1.main_arg0)
      ∧ r.2.mem ((c.tc : Thread Cert.AdamSmall1.nD Cert.AdamSmall1.τ).loc Cert.AdamSmall1.main_arg1) = m ((c.tc : Thread Cert.AdamSmall1.nD Cert.AdamSmall1.τ).loc Cert.AdamSmall1.main_arg1)
      ∧ r.2.mem ((c.tc : Thread Cert.AdamSmall1.nD Cert.AdamSmall1.τ).loc Cert.AdamSmall1.main_arg2) = m ((c.tc : Thread Cert.AdamSmall1.nD Cert.AdamSmall1.τ).loc Cert.AdamSmall1.main_arg2)
      ∧ r.2.mem ((c.tc : Thread Cert.AdamSmall1.nD Cert.AdamSmall1.τ).loc Cert.AdamSmall1.main_arg3) = m ((c.tc : Thread Cert.AdamSmall1.nD Cert.AdamSmall1.τ).loc Cert.AdamSmall1.main_arg3)
      ∧ r.2.mem ((c.tc : Thread Cert.AdamSmall1.nD Cert.AdamSmall1.τ).loc Cert.AdamSmall1.main_arg4) = m ((c.tc : Thread Cert.AdamSmall1.nD Cert.AdamSmall1.τ).loc Cert.AdamSmall1.main_arg4)
      ∧ r.2.mem ((c.tc : Thread Cert.AdamSmall1.nD Cert.AdamSmall1.τ).loc Cert.AdamSmall1.main_arg5) = m ((c.tc : Thread Cert.AdamSmall1.nD Cert.AdamSmall1.τ).loc Cert.AdamSmall1.main_arg5)
      ∧ r.2.mem ((c.tc : Thread Cert.AdamSmall1.nD Cert.AdamSmall1.τ).loc Cert.AdamSmall1.main_arg6) = m ((c.tc : Thread Cert.AdamSmall1.nD Cert.AdamSmall1.τ).loc Cert.AdamSmall1.main_arg6)
      ∧ r.2.mem ((c.tc : Thread Cert.AdamSmall1.nD Cert.AdamSmall1.τ).loc Cert.AdamSmall1.main_arg7) = m ((c.tc : Thread Cert.AdamSmall1.nD Cert.AdamSmall1.τ).loc Cert.AdamSmall1.main_arg7)
      ∧ r.2.mem ((c.tc : Thread Cert.AdamSmall1.nD Cert.AdamSmall1.τ).loc Cert.AdamSmall1.main_arg8) = m ((c.tc : Thread Cert.AdamSmall1.nD Cert.AdamSmall1.τ).loc Cert.AdamSmall1.main_arg8)
      ∧ r.2.mem ((c.tc : Thread Cert.AdamSmall1.nD Cert.AdamSmall1.τ).loc Cert.AdamSmall1.main_arg9) = m ((c.tc : Thread Cert.AdamSmall1.nD Cert.AdamSmall1.τ).loc Cert.AdamSmall1.main_arg9)
      ∧ r.2.mem ((c.tc : Thread Cert.AdamSmall1.nD Cert.AdamSmall1.τ).loc Cert.AdamSmall1.main_arg10) = m ((c.tc : Thread Cert.AdamSmall1.nD Cert.AdamSmall1.τ).loc Cert.AdamSmall1.main_arg10)
      ∧ r.2.mem ((c.tc : Thread Cert.AdamSmall1.nD Cert.AdamSmall1.τ).loc Cert.AdamSmall1.main_arg11) = m ((c.tc : Thread Cert.AdamSmall1.nD Cert.AdamSmall1.τ).loc Cert.AdamSmall1.main_arg11))
      ∧ r.2.sem = fun _ => 0)

def quiescent_AdamSmall1Ideal [hAdamSmall1Ideal : Cert.AdamSmall1Ideal.Facts] : Prop :=
  ∀ (m : (ℓ : Loc Cert.AdamSmall1Ideal.nD Cert.AdamSmall1Ideal.τ Cert.AdamSmall1Ideal.sig) → Buf (Elt Ideal) ℓ) (g : Dev Cert.AdamSmall1Ideal.nD → PrngReg), Pre_AdamSmall1Ideal m →
    θ_run (Cert.AdamSmall1Ideal.defs (F := Ideal)) (onTc (τ := Cert.AdamSmall1Ideal.τ) (Cert.AdamSmall1Ideal.main (F := Ideal))) ⟨m, fun _ => 0, g⟩ (fun r => (∀ c : Dev Cert.AdamSmall1Ideal.nD,
      r.2.mem ((c.tc : Thread Cert.AdamSmall1Ideal.nD Cert.AdamSmall1Ideal.τ).loc Cert.AdamSmall1Ideal.main_arg0) = m ((c.tc : Thread Cert.AdamSmall1Ideal.nD Cert.AdamSmall1Ideal.τ).loc Cert.AdamSmall1Ideal.main_arg0)
      ∧ r.2.mem ((c.tc : Thread Cert.AdamSmall1Ideal.nD Cert.AdamSmall1Ideal.τ).loc Cert.AdamSmall1Ideal.main_arg1) = m ((c.tc : Thread Cert.AdamSmall1Ideal.nD Cert.AdamSmall1Ideal.τ).loc Cert.AdamSmall1Ideal.main_arg1)
      ∧ r.2.mem ((c.tc : Thread Cert.AdamSmall1Ideal.nD Cert.AdamSmall1Ideal.τ).loc Cert.AdamSmall1Ideal.main_arg2) = m ((c.tc : Thread Cert.AdamSmall1Ideal.nD Cert.AdamSmall1Ideal.τ).loc Cert.AdamSmall1Ideal.main_arg2)
      ∧ r.2.mem ((c.tc : Thread Cert.AdamSmall1Ideal.nD Cert.AdamSmall1Ideal.τ).loc Cert.AdamSmall1Ideal.main_arg3) = m ((c.tc : Thread Cert.AdamSmall1Ideal.nD Cert.AdamSmall1Ideal.τ).loc Cert.AdamSmall1Ideal.main_arg3)
      ∧ r.2.mem ((c.tc : Thread Cert.AdamSmall1Ideal.nD Cert.AdamSmall1Ideal.τ).loc Cert.AdamSmall1Ideal.main_arg4) = m ((c.tc : Thread Cert.AdamSmall1Ideal.nD Cert.AdamSmall1Ideal.τ).loc Cert.AdamSmall1Ideal.main_arg4)
      ∧ r.2.mem ((c.tc : Thread Cert.AdamSmall1Ideal.nD Cert.AdamSmall1Ideal.τ).loc Cert.AdamSmall1Ideal.main_arg5) = m ((c.tc : Thread Cert.AdamSmall1Ideal.nD Cert.AdamSmall1Ideal.τ).loc Cert.AdamSmall1Ideal.main_arg5)
      ∧ r.2.mem ((c.tc : Thread Cert.AdamSmall1Ideal.nD Cert.AdamSmall1Ideal.τ).loc Cert.AdamSmall1Ideal.main_arg6) = m ((c.tc : Thread Cert.AdamSmall1Ideal.nD Cert.AdamSmall1Ideal.τ).loc Cert.AdamSmall1Ideal.main_arg6)
      ∧ r.2.mem ((c.tc : Thread Cert.AdamSmall1Ideal.nD Cert.AdamSmall1Ideal.τ).loc Cert.AdamSmall1Ideal.main_arg7) = m ((c.tc : Thread Cert.AdamSmall1Ideal.nD Cert.AdamSmall1Ideal.τ).loc Cert.AdamSmall1Ideal.main_arg7)
      ∧ r.2.mem ((c.tc : Thread Cert.AdamSmall1Ideal.nD Cert.AdamSmall1Ideal.τ).loc Cert.AdamSmall1Ideal.main_arg8) = m ((c.tc : Thread Cert.AdamSmall1Ideal.nD Cert.AdamSmall1Ideal.τ).loc Cert.AdamSmall1Ideal.main_arg8)
      ∧ r.2.mem ((c.tc : Thread Cert.AdamSmall1Ideal.nD Cert.AdamSmall1Ideal.τ).loc Cert.AdamSmall1Ideal.main_arg9) = m ((c.tc : Thread Cert.AdamSmall1Ideal.nD Cert.AdamSmall1Ideal.τ).loc Cert.AdamSmall1Ideal.main_arg9)
      ∧ r.2.mem ((c.tc : Thread Cert.AdamSmall1Ideal.nD Cert.AdamSmall1Ideal.τ).loc Cert.AdamSmall1Ideal.main_arg10) = m ((c.tc : Thread Cert.AdamSmall1Ideal.nD Cert.AdamSmall1Ideal.τ).loc Cert.AdamSmall1Ideal.main_arg10)
      ∧ r.2.mem ((c.tc : Thread Cert.AdamSmall1Ideal.nD Cert.AdamSmall1Ideal.τ).loc Cert.AdamSmall1Ideal.main_arg11) = m ((c.tc : Thread Cert.AdamSmall1Ideal.nD Cert.AdamSmall1Ideal.τ).loc Cert.AdamSmall1Ideal.main_arg11))
      ∧ r.2.sem = fun _ => 0)

def quiescent_AdamSmall1RefIdeal [hAdamSmall1RefIdeal : Cert.AdamSmall1RefIdeal.Facts] : Prop :=
  ∀ (m : (ℓ : Loc Cert.AdamSmall1RefIdeal.nD Cert.AdamSmall1RefIdeal.τ Cert.AdamSmall1RefIdeal.sig) → Buf (Elt Ideal) ℓ) (g : Dev Cert.AdamSmall1RefIdeal.nD → PrngReg), Pre_AdamSmall1RefIdeal m →
    θ_run (Cert.AdamSmall1RefIdeal.defs (F := Ideal)) (onTc (τ := Cert.AdamSmall1RefIdeal.τ) (Cert.AdamSmall1RefIdeal.main (F := Ideal))) ⟨m, fun _ => 0, g⟩ (fun r => (∀ c : Dev Cert.AdamSmall1RefIdeal.nD,
      r.2.mem ((c.tc : Thread Cert.AdamSmall1RefIdeal.nD Cert.AdamSmall1RefIdeal.τ).loc Cert.AdamSmall1RefIdeal.main_arg0) = m ((c.tc : Thread Cert.AdamSmall1RefIdeal.nD Cert.AdamSmall1RefIdeal.τ).loc Cert.AdamSmall1RefIdeal.main_arg0)
      ∧ r.2.mem ((c.tc : Thread Cert.AdamSmall1RefIdeal.nD Cert.AdamSmall1RefIdeal.τ).loc Cert.AdamSmall1RefIdeal.main_arg1) = m ((c.tc : Thread Cert.AdamSmall1RefIdeal.nD Cert.AdamSmall1RefIdeal.τ).loc Cert.AdamSmall1RefIdeal.main_arg1)
      ∧ r.2.mem ((c.tc : Thread Cert.AdamSmall1RefIdeal.nD Cert.AdamSmall1RefIdeal.τ).loc Cert.AdamSmall1RefIdeal.main_arg2) = m ((c.tc : Thread Cert.AdamSmall1RefIdeal.nD Cert.AdamSmall1RefIdeal.τ).loc Cert.AdamSmall1RefIdeal.main_arg2)
      ∧ r.2.mem ((c.tc : Thread Cert.AdamSmall1RefIdeal.nD Cert.AdamSmall1RefIdeal.τ).loc Cert.AdamSmall1RefIdeal.main_arg3) = m ((c.tc : Thread Cert.AdamSmall1RefIdeal.nD Cert.AdamSmall1RefIdeal.τ).loc Cert.AdamSmall1RefIdeal.main_arg3)
      ∧ r.2.mem ((c.tc : Thread Cert.AdamSmall1RefIdeal.nD Cert.AdamSmall1RefIdeal.τ).loc Cert.AdamSmall1RefIdeal.main_arg4) = m ((c.tc : Thread Cert.AdamSmall1RefIdeal.nD Cert.AdamSmall1RefIdeal.τ).loc Cert.AdamSmall1RefIdeal.main_arg4)
      ∧ r.2.mem ((c.tc : Thread Cert.AdamSmall1RefIdeal.nD Cert.AdamSmall1RefIdeal.τ).loc Cert.AdamSmall1RefIdeal.main_arg5) = m ((c.tc : Thread Cert.AdamSmall1RefIdeal.nD Cert.AdamSmall1RefIdeal.τ).loc Cert.AdamSmall1RefIdeal.main_arg5)
      ∧ r.2.mem ((c.tc : Thread Cert.AdamSmall1RefIdeal.nD Cert.AdamSmall1RefIdeal.τ).loc Cert.AdamSmall1RefIdeal.main_arg6) = m ((c.tc : Thread Cert.AdamSmall1RefIdeal.nD Cert.AdamSmall1RefIdeal.τ).loc Cert.AdamSmall1RefIdeal.main_arg6)
      ∧ r.2.mem ((c.tc : Thread Cert.AdamSmall1RefIdeal.nD Cert.AdamSmall1RefIdeal.τ).loc Cert.AdamSmall1RefIdeal.main_arg7) = m ((c.tc : Thread Cert.AdamSmall1RefIdeal.nD Cert.AdamSmall1RefIdeal.τ).loc Cert.AdamSmall1RefIdeal.main_arg7)
      ∧ r.2.mem ((c.tc : Thread Cert.AdamSmall1RefIdeal.nD Cert.AdamSmall1RefIdeal.τ).loc Cert.AdamSmall1RefIdeal.main_arg8) = m ((c.tc : Thread Cert.AdamSmall1RefIdeal.nD Cert.AdamSmall1RefIdeal.τ).loc Cert.AdamSmall1RefIdeal.main_arg8)
      ∧ r.2.mem ((c.tc : Thread Cert.AdamSmall1RefIdeal.nD Cert.AdamSmall1RefIdeal.τ).loc Cert.AdamSmall1RefIdeal.main_arg9) = m ((c.tc : Thread Cert.AdamSmall1RefIdeal.nD Cert.AdamSmall1RefIdeal.τ).loc Cert.AdamSmall1RefIdeal.main_arg9)
      ∧ r.2.mem ((c.tc : Thread Cert.AdamSmall1RefIdeal.nD Cert.AdamSmall1RefIdeal.τ).loc Cert.AdamSmall1RefIdeal.main_arg10) = m ((c.tc : Thread Cert.AdamSmall1RefIdeal.nD Cert.AdamSmall1RefIdeal.τ).loc Cert.AdamSmall1RefIdeal.main_arg10)
      ∧ r.2.mem ((c.tc : Thread Cert.AdamSmall1RefIdeal.nD Cert.AdamSmall1RefIdeal.τ).loc Cert.AdamSmall1RefIdeal.main_arg11) = m ((c.tc : Thread Cert.AdamSmall1RefIdeal.nD Cert.AdamSmall1RefIdeal.τ).loc Cert.AdamSmall1RefIdeal.main_arg11))
      ∧ r.2.sem = fun _ => 0)

def quiescent_AdamSmall2 [hAdamSmall2 : Cert.AdamSmall2.Facts] : Prop :=
  ∀ (m : (ℓ : Loc Cert.AdamSmall2.nD Cert.AdamSmall2.τ Cert.AdamSmall2.sig) → Buf (Elt Bits) ℓ) (g : Dev Cert.AdamSmall2.nD → PrngReg), Pre_AdamSmall2 m →
    θ_run (Cert.AdamSmall2.defs (F := Bits)) (onTc (τ := Cert.AdamSmall2.τ) (Cert.AdamSmall2.main (F := Bits))) ⟨m, fun _ => 0, g⟩ (fun r => (∀ c : Dev Cert.AdamSmall2.nD,
      r.2.mem ((c.tc : Thread Cert.AdamSmall2.nD Cert.AdamSmall2.τ).loc Cert.AdamSmall2.main_arg0) = m ((c.tc : Thread Cert.AdamSmall2.nD Cert.AdamSmall2.τ).loc Cert.AdamSmall2.main_arg0)
      ∧ r.2.mem ((c.tc : Thread Cert.AdamSmall2.nD Cert.AdamSmall2.τ).loc Cert.AdamSmall2.main_arg1) = m ((c.tc : Thread Cert.AdamSmall2.nD Cert.AdamSmall2.τ).loc Cert.AdamSmall2.main_arg1)
      ∧ r.2.mem ((c.tc : Thread Cert.AdamSmall2.nD Cert.AdamSmall2.τ).loc Cert.AdamSmall2.main_arg2) = m ((c.tc : Thread Cert.AdamSmall2.nD Cert.AdamSmall2.τ).loc Cert.AdamSmall2.main_arg2)
      ∧ r.2.mem ((c.tc : Thread Cert.AdamSmall2.nD Cert.AdamSmall2.τ).loc Cert.AdamSmall2.main_arg3) = m ((c.tc : Thread Cert.AdamSmall2.nD Cert.AdamSmall2.τ).loc Cert.AdamSmall2.main_arg3)
      ∧ r.2.mem ((c.tc : Thread Cert.AdamSmall2.nD Cert.AdamSmall2.τ).loc Cert.AdamSmall2.main_arg4) = m ((c.tc : Thread Cert.AdamSmall2.nD Cert.AdamSmall2.τ).loc Cert.AdamSmall2.main_arg4)
      ∧ r.2.mem ((c.tc : Thread Cert.AdamSmall2.nD Cert.AdamSmall2.τ).loc Cert.AdamSmall2.main_arg5) = m ((c.tc : Thread Cert.AdamSmall2.nD Cert.AdamSmall2.τ).loc Cert.AdamSmall2.main_arg5)
      ∧ r.2.mem ((c.tc : Thread Cert.AdamSmall2.nD Cert.AdamSmall2.τ).loc Cert.AdamSmall2.main_arg6) = m ((c.tc : Thread Cert.AdamSmall2.nD Cert.AdamSmall2.τ).loc Cert.AdamSmall2.main_arg6)
      ∧ r.2.mem ((c.tc : Thread Cert.AdamSmall2.nD Cert.AdamSmall2.τ).loc Cert.AdamSmall2.main_arg7) = m ((c.tc : Thread Cert.AdamSmall2.nD Cert.AdamSmall2.τ).loc Cert.AdamSmall2.main_arg7)
      ∧ r.2.mem ((c.tc : Thread Cert.AdamSmall2.nD Cert.AdamSmall2.τ).loc Cert.AdamSmall2.main_arg8) = m ((c.tc : Thread Cert.AdamSmall2.nD Cert.AdamSmall2.τ).loc Cert.AdamSmall2.main_arg8)
      ∧ r.2.mem ((c.tc : Thread Cert.AdamSmall2.nD Cert.AdamSmall2.τ).loc Cert.AdamSmall2.main_arg9) = m ((c.tc : Thread Cert.AdamSmall2.nD Cert.AdamSmall2.τ).loc Cert.AdamSmall2.main_arg9)
      ∧ r.2.mem ((c.tc : Thread Cert.AdamSmall2.nD Cert.AdamSmall2.τ).loc Cert.AdamSmall2.main_arg10) = m ((c.tc : Thread Cert.AdamSmall2.nD Cert.AdamSmall2.τ).loc Cert.AdamSmall2.main_arg10)
      ∧ r.2.mem ((c.tc : Thread Cert.AdamSmall2.nD Cert.AdamSmall2.τ).loc Cert.AdamSmall2.main_arg11) = m ((c.tc : Thread Cert.AdamSmall2.nD Cert.AdamSmall2.τ).loc Cert.AdamSmall2.main_arg11))
      ∧ r.2.sem = fun _ => 0)

def quiescent_AdamSmall2Ideal [hAdamSmall2Ideal : Cert.AdamSmall2Ideal.Facts] : Prop :=
  ∀ (m : (ℓ : Loc Cert.AdamSmall2Ideal.nD Cert.AdamSmall2Ideal.τ Cert.AdamSmall2Ideal.sig) → Buf (Elt Ideal) ℓ) (g : Dev Cert.AdamSmall2Ideal.nD → PrngReg), Pre_AdamSmall2Ideal m →
    θ_run (Cert.AdamSmall2Ideal.defs (F := Ideal)) (onTc (τ := Cert.AdamSmall2Ideal.τ) (Cert.AdamSmall2Ideal.main (F := Ideal))) ⟨m, fun _ => 0, g⟩ (fun r => (∀ c : Dev Cert.AdamSmall2Ideal.nD,
      r.2.mem ((c.tc : Thread Cert.AdamSmall2Ideal.nD Cert.AdamSmall2Ideal.τ).loc Cert.AdamSmall2Ideal.main_arg0) = m ((c.tc : Thread Cert.AdamSmall2Ideal.nD Cert.AdamSmall2Ideal.τ).loc Cert.AdamSmall2Ideal.main_arg0)
      ∧ r.2.mem ((c.tc : Thread Cert.AdamSmall2Ideal.nD Cert.AdamSmall2Ideal.τ).loc Cert.AdamSmall2Ideal.main_arg1) = m ((c.tc : Thread Cert.AdamSmall2Ideal.nD Cert.AdamSmall2Ideal.τ).loc Cert.AdamSmall2Ideal.main_arg1)
      ∧ r.2.mem ((c.tc : Thread Cert.AdamSmall2Ideal.nD Cert.AdamSmall2Ideal.τ).loc Cert.AdamSmall2Ideal.main_arg2) = m ((c.tc : Thread Cert.AdamSmall2Ideal.nD Cert.AdamSmall2Ideal.τ).loc Cert.AdamSmall2Ideal.main_arg2)
      ∧ r.2.mem ((c.tc : Thread Cert.AdamSmall2Ideal.nD Cert.AdamSmall2Ideal.τ).loc Cert.AdamSmall2Ideal.main_arg3) = m ((c.tc : Thread Cert.AdamSmall2Ideal.nD Cert.AdamSmall2Ideal.τ).loc Cert.AdamSmall2Ideal.main_arg3)
      ∧ r.2.mem ((c.tc : Thread Cert.AdamSmall2Ideal.nD Cert.AdamSmall2Ideal.τ).loc Cert.AdamSmall2Ideal.main_arg4) = m ((c.tc : Thread Cert.AdamSmall2Ideal.nD Cert.AdamSmall2Ideal.τ).loc Cert.AdamSmall2Ideal.main_arg4)
      ∧ r.2.mem ((c.tc : Thread Cert.AdamSmall2Ideal.nD Cert.AdamSmall2Ideal.τ).loc Cert.AdamSmall2Ideal.main_arg5) = m ((c.tc : Thread Cert.AdamSmall2Ideal.nD Cert.AdamSmall2Ideal.τ).loc Cert.AdamSmall2Ideal.main_arg5)
      ∧ r.2.mem ((c.tc : Thread Cert.AdamSmall2Ideal.nD Cert.AdamSmall2Ideal.τ).loc Cert.AdamSmall2Ideal.main_arg6) = m ((c.tc : Thread Cert.AdamSmall2Ideal.nD Cert.AdamSmall2Ideal.τ).loc Cert.AdamSmall2Ideal.main_arg6)
      ∧ r.2.mem ((c.tc : Thread Cert.AdamSmall2Ideal.nD Cert.AdamSmall2Ideal.τ).loc Cert.AdamSmall2Ideal.main_arg7) = m ((c.tc : Thread Cert.AdamSmall2Ideal.nD Cert.AdamSmall2Ideal.τ).loc Cert.AdamSmall2Ideal.main_arg7)
      ∧ r.2.mem ((c.tc : Thread Cert.AdamSmall2Ideal.nD Cert.AdamSmall2Ideal.τ).loc Cert.AdamSmall2Ideal.main_arg8) = m ((c.tc : Thread Cert.AdamSmall2Ideal.nD Cert.AdamSmall2Ideal.τ).loc Cert.AdamSmall2Ideal.main_arg8)
      ∧ r.2.mem ((c.tc : Thread Cert.AdamSmall2Ideal.nD Cert.AdamSmall2Ideal.τ).loc Cert.AdamSmall2Ideal.main_arg9) = m ((c.tc : Thread Cert.AdamSmall2Ideal.nD Cert.AdamSmall2Ideal.τ).loc Cert.AdamSmall2Ideal.main_arg9)
      ∧ r.2.mem ((c.tc : Thread Cert.AdamSmall2Ideal.nD Cert.AdamSmall2Ideal.τ).loc Cert.AdamSmall2Ideal.main_arg10) = m ((c.tc : Thread Cert.AdamSmall2Ideal.nD Cert.AdamSmall2Ideal.τ).loc Cert.AdamSmall2Ideal.main_arg10)
      ∧ r.2.mem ((c.tc : Thread Cert.AdamSmall2Ideal.nD Cert.AdamSmall2Ideal.τ).loc Cert.AdamSmall2Ideal.main_arg11) = m ((c.tc : Thread Cert.AdamSmall2Ideal.nD Cert.AdamSmall2Ideal.τ).loc Cert.AdamSmall2Ideal.main_arg11))
      ∧ r.2.sem = fun _ => 0)

def quiescent_AdamSmall2RefIdeal [hAdamSmall2RefIdeal : Cert.AdamSmall2RefIdeal.Facts] : Prop :=
  ∀ (m : (ℓ : Loc Cert.AdamSmall2RefIdeal.nD Cert.AdamSmall2RefIdeal.τ Cert.AdamSmall2RefIdeal.sig) → Buf (Elt Ideal) ℓ) (g : Dev Cert.AdamSmall2RefIdeal.nD → PrngReg), Pre_AdamSmall2RefIdeal m →
    θ_run (Cert.AdamSmall2RefIdeal.defs (F := Ideal)) (onTc (τ := Cert.AdamSmall2RefIdeal.τ) (Cert.AdamSmall2RefIdeal.main (F := Ideal))) ⟨m, fun _ => 0, g⟩ (fun r => (∀ c : Dev Cert.AdamSmall2RefIdeal.nD,
      r.2.mem ((c.tc : Thread Cert.AdamSmall2RefIdeal.nD Cert.AdamSmall2RefIdeal.τ).loc Cert.AdamSmall2RefIdeal.main_arg0) = m ((c.tc : Thread Cert.AdamSmall2RefIdeal.nD Cert.AdamSmall2RefIdeal.τ).loc Cert.AdamSmall2RefIdeal.main_arg0)
      ∧ r.2.mem ((c.tc : Thread Cert.AdamSmall2RefIdeal.nD Cert.AdamSmall2RefIdeal.τ).loc Cert.AdamSmall2RefIdeal.main_arg1) = m ((c.tc : Thread Cert.AdamSmall2RefIdeal.nD Cert.AdamSmall2RefIdeal.τ).loc Cert.AdamSmall2RefIdeal.main_arg1)
      ∧ r.2.mem ((c.tc : Thread Cert.AdamSmall2RefIdeal.nD Cert.AdamSmall2RefIdeal.τ).loc Cert.AdamSmall2RefIdeal.main_arg2) = m ((c.tc : Thread Cert.AdamSmall2RefIdeal.nD Cert.AdamSmall2RefIdeal.τ).loc Cert.AdamSmall2RefIdeal.main_arg2)
      ∧ r.2.mem ((c.tc : Thread Cert.AdamSmall2RefIdeal.nD Cert.AdamSmall2RefIdeal.τ).loc Cert.AdamSmall2RefIdeal.main_arg3) = m ((c.tc : Thread Cert.AdamSmall2RefIdeal.nD Cert.AdamSmall2RefIdeal.τ).loc Cert.AdamSmall2RefIdeal.main_arg3)
      ∧ r.2.mem ((c.tc : Thread Cert.AdamSmall2RefIdeal.nD Cert.AdamSmall2RefIdeal.τ).loc Cert.AdamSmall2RefIdeal.main_arg4) = m ((c.tc : Thread Cert.AdamSmall2RefIdeal.nD Cert.AdamSmall2RefIdeal.τ).loc Cert.AdamSmall2RefIdeal.main_arg4)
      ∧ r.2.mem ((c.tc : Thread Cert.AdamSmall2RefIdeal.nD Cert.AdamSmall2RefIdeal.τ).loc Cert.AdamSmall2RefIdeal.main_arg5) = m ((c.tc : Thread Cert.AdamSmall2RefIdeal.nD Cert.AdamSmall2RefIdeal.τ).loc Cert.AdamSmall2RefIdeal.main_arg5)
      ∧ r.2.mem ((c.tc : Thread Cert.AdamSmall2RefIdeal.nD Cert.AdamSmall2RefIdeal.τ).loc Cert.AdamSmall2RefIdeal.main_arg6) = m ((c.tc : Thread Cert.AdamSmall2RefIdeal.nD Cert.AdamSmall2RefIdeal.τ).loc Cert.AdamSmall2RefIdeal.main_arg6)
      ∧ r.2.mem ((c.tc : Thread Cert.AdamSmall2RefIdeal.nD Cert.AdamSmall2RefIdeal.τ).loc Cert.AdamSmall2RefIdeal.main_arg7) = m ((c.tc : Thread Cert.AdamSmall2RefIdeal.nD Cert.AdamSmall2RefIdeal.τ).loc Cert.AdamSmall2RefIdeal.main_arg7)
      ∧ r.2.mem ((c.tc : Thread Cert.AdamSmall2RefIdeal.nD Cert.AdamSmall2RefIdeal.τ).loc Cert.AdamSmall2RefIdeal.main_arg8) = m ((c.tc : Thread Cert.AdamSmall2RefIdeal.nD Cert.AdamSmall2RefIdeal.τ).loc Cert.AdamSmall2RefIdeal.main_arg8)
      ∧ r.2.mem ((c.tc : Thread Cert.AdamSmall2RefIdeal.nD Cert.AdamSmall2RefIdeal.τ).loc Cert.AdamSmall2RefIdeal.main_arg9) = m ((c.tc : Thread Cert.AdamSmall2RefIdeal.nD Cert.AdamSmall2RefIdeal.τ).loc Cert.AdamSmall2RefIdeal.main_arg9)
      ∧ r.2.mem ((c.tc : Thread Cert.AdamSmall2RefIdeal.nD Cert.AdamSmall2RefIdeal.τ).loc Cert.AdamSmall2RefIdeal.main_arg10) = m ((c.tc : Thread Cert.AdamSmall2RefIdeal.nD Cert.AdamSmall2RefIdeal.τ).loc Cert.AdamSmall2RefIdeal.main_arg10)
      ∧ r.2.mem ((c.tc : Thread Cert.AdamSmall2RefIdeal.nD Cert.AdamSmall2RefIdeal.τ).loc Cert.AdamSmall2RefIdeal.main_arg11) = m ((c.tc : Thread Cert.AdamSmall2RefIdeal.nD Cert.AdamSmall2RefIdeal.τ).loc Cert.AdamSmall2RefIdeal.main_arg11))
      ∧ r.2.sem = fun _ => 0)

def quiescent_AdamSmall3 [hAdamSmall3 : Cert.AdamSmall3.Facts] : Prop :=
  ∀ (m : (ℓ : Loc Cert.AdamSmall3.nD Cert.AdamSmall3.τ Cert.AdamSmall3.sig) → Buf (Elt Bits) ℓ) (g : Dev Cert.AdamSmall3.nD → PrngReg), Pre_AdamSmall3 m →
    θ_run (Cert.AdamSmall3.defs (F := Bits)) (onTc (τ := Cert.AdamSmall3.τ) (Cert.AdamSmall3.main (F := Bits))) ⟨m, fun _ => 0, g⟩ (fun r => (∀ c : Dev Cert.AdamSmall3.nD,
      r.2.mem ((c.tc : Thread Cert.AdamSmall3.nD Cert.AdamSmall3.τ).loc Cert.AdamSmall3.main_arg0) = m ((c.tc : Thread Cert.AdamSmall3.nD Cert.AdamSmall3.τ).loc Cert.AdamSmall3.main_arg0)
      ∧ r.2.mem ((c.tc : Thread Cert.AdamSmall3.nD Cert.AdamSmall3.τ).loc Cert.AdamSmall3.main_arg1) = m ((c.tc : Thread Cert.AdamSmall3.nD Cert.AdamSmall3.τ).loc Cert.AdamSmall3.main_arg1)
      ∧ r.2.mem ((c.tc : Thread Cert.AdamSmall3.nD Cert.AdamSmall3.τ).loc Cert.AdamSmall3.main_arg2) = m ((c.tc : Thread Cert.AdamSmall3.nD Cert.AdamSmall3.τ).loc Cert.AdamSmall3.main_arg2)
      ∧ r.2.mem ((c.tc : Thread Cert.AdamSmall3.nD Cert.AdamSmall3.τ).loc Cert.AdamSmall3.main_arg3) = m ((c.tc : Thread Cert.AdamSmall3.nD Cert.AdamSmall3.τ).loc Cert.AdamSmall3.main_arg3)
      ∧ r.2.mem ((c.tc : Thread Cert.AdamSmall3.nD Cert.AdamSmall3.τ).loc Cert.AdamSmall3.main_arg4) = m ((c.tc : Thread Cert.AdamSmall3.nD Cert.AdamSmall3.τ).loc Cert.AdamSmall3.main_arg4)
      ∧ r.2.mem ((c.tc : Thread Cert.AdamSmall3.nD Cert.AdamSmall3.τ).loc Cert.AdamSmall3.main_arg5) = m ((c.tc : Thread Cert.AdamSmall3.nD Cert.AdamSmall3.τ).loc Cert.AdamSmall3.main_arg5)
      ∧ r.2.mem ((c.tc : Thread Cert.AdamSmall3.nD Cert.AdamSmall3.τ).loc Cert.AdamSmall3.main_arg6) = m ((c.tc : Thread Cert.AdamSmall3.nD Cert.AdamSmall3.τ).loc Cert.AdamSmall3.main_arg6)
      ∧ r.2.mem ((c.tc : Thread Cert.AdamSmall3.nD Cert.AdamSmall3.τ).loc Cert.AdamSmall3.main_arg7) = m ((c.tc : Thread Cert.AdamSmall3.nD Cert.AdamSmall3.τ).loc Cert.AdamSmall3.main_arg7)
      ∧ r.2.mem ((c.tc : Thread Cert.AdamSmall3.nD Cert.AdamSmall3.τ).loc Cert.AdamSmall3.main_arg8) = m ((c.tc : Thread Cert.AdamSmall3.nD Cert.AdamSmall3.τ).loc Cert.AdamSmall3.main_arg8)
      ∧ r.2.mem ((c.tc : Thread Cert.AdamSmall3.nD Cert.AdamSmall3.τ).loc Cert.AdamSmall3.main_arg9) = m ((c.tc : Thread Cert.AdamSmall3.nD Cert.AdamSmall3.τ).loc Cert.AdamSmall3.main_arg9)
      ∧ r.2.mem ((c.tc : Thread Cert.AdamSmall3.nD Cert.AdamSmall3.τ).loc Cert.AdamSmall3.main_arg10) = m ((c.tc : Thread Cert.AdamSmall3.nD Cert.AdamSmall3.τ).loc Cert.AdamSmall3.main_arg10)
      ∧ r.2.mem ((c.tc : Thread Cert.AdamSmall3.nD Cert.AdamSmall3.τ).loc Cert.AdamSmall3.main_arg11) = m ((c.tc : Thread Cert.AdamSmall3.nD Cert.AdamSmall3.τ).loc Cert.AdamSmall3.main_arg11))
      ∧ r.2.sem = fun _ => 0)

def quiescent_AdamSmall3Ideal [hAdamSmall3Ideal : Cert.AdamSmall3Ideal.Facts] : Prop :=
  ∀ (m : (ℓ : Loc Cert.AdamSmall3Ideal.nD Cert.AdamSmall3Ideal.τ Cert.AdamSmall3Ideal.sig) → Buf (Elt Ideal) ℓ) (g : Dev Cert.AdamSmall3Ideal.nD → PrngReg), Pre_AdamSmall3Ideal m →
    θ_run (Cert.AdamSmall3Ideal.defs (F := Ideal)) (onTc (τ := Cert.AdamSmall3Ideal.τ) (Cert.AdamSmall3Ideal.main (F := Ideal))) ⟨m, fun _ => 0, g⟩ (fun r => (∀ c : Dev Cert.AdamSmall3Ideal.nD,
      r.2.mem ((c.tc : Thread Cert.AdamSmall3Ideal.nD Cert.AdamSmall3Ideal.τ).loc Cert.AdamSmall3Ideal.main_arg0) = m ((c.tc : Thread Cert.AdamSmall3Ideal.nD Cert.AdamSmall3Ideal.τ).loc Cert.AdamSmall3Ideal.main_arg0)
      ∧ r.2.mem ((c.tc : Thread Cert.AdamSmall3Ideal.nD Cert.AdamSmall3Ideal.τ).loc Cert.AdamSmall3Ideal.main_arg1) = m ((c.tc : Thread Cert.AdamSmall3Ideal.nD Cert.AdamSmall3Ideal.τ).loc Cert.AdamSmall3Ideal.main_arg1)
      ∧ r.2.mem ((c.tc : Thread Cert.AdamSmall3Ideal.nD Cert.AdamSmall3Ideal.τ).loc Cert.AdamSmall3Ideal.main_arg2) = m ((c.tc : Thread Cert.AdamSmall3Ideal.nD Cert.AdamSmall3Ideal.τ).loc Cert.AdamSmall3Ideal.main_arg2)
      ∧ r.2.mem ((c.tc : Thread Cert.AdamSmall3Ideal.nD Cert.AdamSmall3Ideal.τ).loc Cert.AdamSmall3Ideal.main_arg3) = m ((c.tc : Thread Cert.AdamSmall3Ideal.nD Cert.AdamSmall3Ideal.τ).loc Cert.AdamSmall3Ideal.main_arg3)
      ∧ r.2.mem ((c.tc : Thread Cert.AdamSmall3Ideal.nD Cert.AdamSmall3Ideal.τ).loc Cert.AdamSmall3Ideal.main_arg4) = m ((c.tc : Thread Cert.AdamSmall3Ideal.nD Cert.AdamSmall3Ideal.τ).loc Cert.AdamSmall3Ideal.main_arg4)
      ∧ r.2.mem ((c.tc : Thread Cert.AdamSmall3Ideal.nD Cert.AdamSmall3Ideal.τ).loc Cert.AdamSmall3Ideal.main_arg5) = m ((c.tc : Thread Cert.AdamSmall3Ideal.nD Cert.AdamSmall3Ideal.τ).loc Cert.AdamSmall3Ideal.main_arg5)
      ∧ r.2.mem ((c.tc : Thread Cert.AdamSmall3Ideal.nD Cert.AdamSmall3Ideal.τ).loc Cert.AdamSmall3Ideal.main_arg6) = m ((c.tc : Thread Cert.AdamSmall3Ideal.nD Cert.AdamSmall3Ideal.τ).loc Cert.AdamSmall3Ideal.main_arg6)
      ∧ r.2.mem ((c.tc : Thread Cert.AdamSmall3Ideal.nD Cert.AdamSmall3Ideal.τ).loc Cert.AdamSmall3Ideal.main_arg7) = m ((c.tc : Thread Cert.AdamSmall3Ideal.nD Cert.AdamSmall3Ideal.τ).loc Cert.AdamSmall3Ideal.main_arg7)
      ∧ r.2.mem ((c.tc : Thread Cert.AdamSmall3Ideal.nD Cert.AdamSmall3Ideal.τ).loc Cert.AdamSmall3Ideal.main_arg8) = m ((c.tc : Thread Cert.AdamSmall3Ideal.nD Cert.AdamSmall3Ideal.τ).loc Cert.AdamSmall3Ideal.main_arg8)
      ∧ r.2.mem ((c.tc : Thread Cert.AdamSmall3Ideal.nD Cert.AdamSmall3Ideal.τ).loc Cert.AdamSmall3Ideal.main_arg9) = m ((c.tc : Thread Cert.AdamSmall3Ideal.nD Cert.AdamSmall3Ideal.τ).loc Cert.AdamSmall3Ideal.main_arg9)
      ∧ r.2.mem ((c.tc : Thread Cert.AdamSmall3Ideal.nD Cert.AdamSmall3Ideal.τ).loc Cert.AdamSmall3Ideal.main_arg10) = m ((c.tc : Thread Cert.AdamSmall3Ideal.nD Cert.AdamSmall3Ideal.τ).loc Cert.AdamSmall3Ideal.main_arg10)
      ∧ r.2.mem ((c.tc : Thread Cert.AdamSmall3Ideal.nD Cert.AdamSmall3Ideal.τ).loc Cert.AdamSmall3Ideal.main_arg11) = m ((c.tc : Thread Cert.AdamSmall3Ideal.nD Cert.AdamSmall3Ideal.τ).loc Cert.AdamSmall3Ideal.main_arg11))
      ∧ r.2.sem = fun _ => 0)

def quiescent_AdamSmall3RefIdeal [hAdamSmall3RefIdeal : Cert.AdamSmall3RefIdeal.Facts] : Prop :=
  ∀ (m : (ℓ : Loc Cert.AdamSmall3RefIdeal.nD Cert.AdamSmall3RefIdeal.τ Cert.AdamSmall3RefIdeal.sig) → Buf (Elt Ideal) ℓ) (g : Dev Cert.AdamSmall3RefIdeal.nD → PrngReg), Pre_AdamSmall3RefIdeal m →
    θ_run (Cert.AdamSmall3RefIdeal.defs (F := Ideal)) (onTc (τ := Cert.AdamSmall3RefIdeal.τ) (Cert.AdamSmall3RefIdeal.main (F := Ideal))) ⟨m, fun _ => 0, g⟩ (fun r => (∀ c : Dev Cert.AdamSmall3RefIdeal.nD,
      r.2.mem ((c.tc : Thread Cert.AdamSmall3RefIdeal.nD Cert.AdamSmall3RefIdeal.τ).loc Cert.AdamSmall3RefIdeal.main_arg0) = m ((c.tc : Thread Cert.AdamSmall3RefIdeal.nD Cert.AdamSmall3RefIdeal.τ).loc Cert.AdamSmall3RefIdeal.main_arg0)
      ∧ r.2.mem ((c.tc : Thread Cert.AdamSmall3RefIdeal.nD Cert.AdamSmall3RefIdeal.τ).loc Cert.AdamSmall3RefIdeal.main_arg1) = m ((c.tc : Thread Cert.AdamSmall3RefIdeal.nD Cert.AdamSmall3RefIdeal.τ).loc Cert.AdamSmall3RefIdeal.main_arg1)
      ∧ r.2.mem ((c.tc : Thread Cert.AdamSmall3RefIdeal.nD Cert.AdamSmall3RefIdeal.τ).loc Cert.AdamSmall3RefIdeal.main_arg2) = m ((c.tc : Thread Cert.AdamSmall3RefIdeal.nD Cert.AdamSmall3RefIdeal.τ).loc Cert.AdamSmall3RefIdeal.main_arg2)
      ∧ r.2.mem ((c.tc : Thread Cert.AdamSmall3RefIdeal.nD Cert.AdamSmall3RefIdeal.τ).loc Cert.AdamSmall3RefIdeal.main_arg3) = m ((c.tc : Thread Cert.AdamSmall3RefIdeal.nD Cert.AdamSmall3RefIdeal.τ).loc Cert.AdamSmall3RefIdeal.main_arg3)
      ∧ r.2.mem ((c.tc : Thread Cert.AdamSmall3RefIdeal.nD Cert.AdamSmall3RefIdeal.τ).loc Cert.AdamSmall3RefIdeal.main_arg4) = m ((c.tc : Thread Cert.AdamSmall3RefIdeal.nD Cert.AdamSmall3RefIdeal.τ).loc Cert.AdamSmall3RefIdeal.main_arg4)
      ∧ r.2.mem ((c.tc : Thread Cert.AdamSmall3RefIdeal.nD Cert.AdamSmall3RefIdeal.τ).loc Cert.AdamSmall3RefIdeal.main_arg5) = m ((c.tc : Thread Cert.AdamSmall3RefIdeal.nD Cert.AdamSmall3RefIdeal.τ).loc Cert.AdamSmall3RefIdeal.main_arg5)
      ∧ r.2.mem ((c.tc : Thread Cert.AdamSmall3RefIdeal.nD Cert.AdamSmall3RefIdeal.τ).loc Cert.AdamSmall3RefIdeal.main_arg6) = m ((c.tc : Thread Cert.AdamSmall3RefIdeal.nD Cert.AdamSmall3RefIdeal.τ).loc Cert.AdamSmall3RefIdeal.main_arg6)
      ∧ r.2.mem ((c.tc : Thread Cert.AdamSmall3RefIdeal.nD Cert.AdamSmall3RefIdeal.τ).loc Cert.AdamSmall3RefIdeal.main_arg7) = m ((c.tc : Thread Cert.AdamSmall3RefIdeal.nD Cert.AdamSmall3RefIdeal.τ).loc Cert.AdamSmall3RefIdeal.main_arg7)
      ∧ r.2.mem ((c.tc : Thread Cert.AdamSmall3RefIdeal.nD Cert.AdamSmall3RefIdeal.τ).loc Cert.AdamSmall3RefIdeal.main_arg8) = m ((c.tc : Thread Cert.AdamSmall3RefIdeal.nD Cert.AdamSmall3RefIdeal.τ).loc Cert.AdamSmall3RefIdeal.main_arg8)
      ∧ r.2.mem ((c.tc : Thread Cert.AdamSmall3RefIdeal.nD Cert.AdamSmall3RefIdeal.τ).loc Cert.AdamSmall3RefIdeal.main_arg9) = m ((c.tc : Thread Cert.AdamSmall3RefIdeal.nD Cert.AdamSmall3RefIdeal.τ).loc Cert.AdamSmall3RefIdeal.main_arg9)
      ∧ r.2.mem ((c.tc : Thread Cert.AdamSmall3RefIdeal.nD Cert.AdamSmall3RefIdeal.τ).loc Cert.AdamSmall3RefIdeal.main_arg10) = m ((c.tc : Thread Cert.AdamSmall3RefIdeal.nD Cert.AdamSmall3RefIdeal.τ).loc Cert.AdamSmall3RefIdeal.main_arg10)
      ∧ r.2.mem ((c.tc : Thread Cert.AdamSmall3RefIdeal.nD Cert.AdamSmall3RefIdeal.τ).loc Cert.AdamSmall3RefIdeal.main_arg11) = m ((c.tc : Thread Cert.AdamSmall3RefIdeal.nD Cert.AdamSmall3RefIdeal.τ).loc Cert.AdamSmall3RefIdeal.main_arg11))
      ∧ r.2.sem = fun _ => 0)

def quiescent_AdamSmall4 [hAdamSmall4 : Cert.AdamSmall4.Facts] : Prop :=
  ∀ (m : (ℓ : Loc Cert.AdamSmall4.nD Cert.AdamSmall4.τ Cert.AdamSmall4.sig) → Buf (Elt Bits) ℓ) (g : Dev Cert.AdamSmall4.nD → PrngReg), Pre_AdamSmall4 m →
    θ_run (Cert.AdamSmall4.defs (F := Bits)) (onTc (τ := Cert.AdamSmall4.τ) (Cert.AdamSmall4.main (F := Bits))) ⟨m, fun _ => 0, g⟩ (fun r => (∀ c : Dev Cert.AdamSmall4.nD,
      r.2.mem ((c.tc : Thread Cert.AdamSmall4.nD Cert.AdamSmall4.τ).loc Cert.AdamSmall4.main_arg0) = m ((c.tc : Thread Cert.AdamSmall4.nD Cert.AdamSmall4.τ).loc Cert.AdamSmall4.main_arg0)
      ∧ r.2.mem ((c.tc : Thread Cert.AdamSmall4.nD Cert.AdamSmall4.τ).loc Cert.AdamSmall4.main_arg1) = m ((c.tc : Thread Cert.AdamSmall4.nD Cert.AdamSmall4.τ).loc Cert.AdamSmall4.main_arg1)
      ∧ r.2.mem ((c.tc : Thread Cert.AdamSmall4.nD Cert.AdamSmall4.τ).loc Cert.AdamSmall4.main_arg2) = m ((c.tc : Thread Cert.AdamSmall4.nD Cert.AdamSmall4.τ).loc Cert.AdamSmall4.main_arg2)
      ∧ r.2.mem ((c.tc : Thread Cert.AdamSmall4.nD Cert.AdamSmall4.τ).loc Cert.AdamSmall4.main_arg3) = m ((c.tc : Thread Cert.AdamSmall4.nD Cert.AdamSmall4.τ).loc Cert.AdamSmall4.main_arg3)
      ∧ r.2.mem ((c.tc : Thread Cert.AdamSmall4.nD Cert.AdamSmall4.τ).loc Cert.AdamSmall4.main_arg4) = m ((c.tc : Thread Cert.AdamSmall4.nD Cert.AdamSmall4.τ).loc Cert.AdamSmall4.main_arg4)
      ∧ r.2.mem ((c.tc : Thread Cert.AdamSmall4.nD Cert.AdamSmall4.τ).loc Cert.AdamSmall4.main_arg5) = m ((c.tc : Thread Cert.AdamSmall4.nD Cert.AdamSmall4.τ).loc Cert.AdamSmall4.main_arg5)
      ∧ r.2.mem ((c.tc : Thread Cert.AdamSmall4.nD Cert.AdamSmall4.τ).loc Cert.AdamSmall4.main_arg6) = m ((c.tc : Thread Cert.AdamSmall4.nD Cert.AdamSmall4.τ).loc Cert.AdamSmall4.main_arg6)
      ∧ r.2.mem ((c.tc : Thread Cert.AdamSmall4.nD Cert.AdamSmall4.τ).loc Cert.AdamSmall4.main_arg7) = m ((c.tc : Thread Cert.AdamSmall4.nD Cert.AdamSmall4.τ).loc Cert.AdamSmall4.main_arg7)
      ∧ r.2.mem ((c.tc : Thread Cert.AdamSmall4.nD Cert.AdamSmall4.τ).loc Cert.AdamSmall4.main_arg8) = m ((c.tc : Thread Cert.AdamSmall4.nD Cert.AdamSmall4.τ).loc Cert.AdamSmall4.main_arg8)
      ∧ r.2.mem ((c.tc : Thread Cert.AdamSmall4.nD Cert.AdamSmall4.τ).loc Cert.AdamSmall4.main_arg9) = m ((c.tc : Thread Cert.AdamSmall4.nD Cert.AdamSmall4.τ).loc Cert.AdamSmall4.main_arg9)
      ∧ r.2.mem ((c.tc : Thread Cert.AdamSmall4.nD Cert.AdamSmall4.τ).loc Cert.AdamSmall4.main_arg10) = m ((c.tc : Thread Cert.AdamSmall4.nD Cert.AdamSmall4.τ).loc Cert.AdamSmall4.main_arg10)
      ∧ r.2.mem ((c.tc : Thread Cert.AdamSmall4.nD Cert.AdamSmall4.τ).loc Cert.AdamSmall4.main_arg11) = m ((c.tc : Thread Cert.AdamSmall4.nD Cert.AdamSmall4.τ).loc Cert.AdamSmall4.main_arg11))
      ∧ r.2.sem = fun _ => 0)

def quiescent_AdamSmall4Ideal [hAdamSmall4Ideal : Cert.AdamSmall4Ideal.Facts] : Prop :=
  ∀ (m : (ℓ : Loc Cert.AdamSmall4Ideal.nD Cert.AdamSmall4Ideal.τ Cert.AdamSmall4Ideal.sig) → Buf (Elt Ideal) ℓ) (g : Dev Cert.AdamSmall4Ideal.nD → PrngReg), Pre_AdamSmall4Ideal m →
    θ_run (Cert.AdamSmall4Ideal.defs (F := Ideal)) (onTc (τ := Cert.AdamSmall4Ideal.τ) (Cert.AdamSmall4Ideal.main (F := Ideal))) ⟨m, fun _ => 0, g⟩ (fun r => (∀ c : Dev Cert.AdamSmall4Ideal.nD,
      r.2.mem ((c.tc : Thread Cert.AdamSmall4Ideal.nD Cert.AdamSmall4Ideal.τ).loc Cert.AdamSmall4Ideal.main_arg0) = m ((c.tc : Thread Cert.AdamSmall4Ideal.nD Cert.AdamSmall4Ideal.τ).loc Cert.AdamSmall4Ideal.main_arg0)
      ∧ r.2.mem ((c.tc : Thread Cert.AdamSmall4Ideal.nD Cert.AdamSmall4Ideal.τ).loc Cert.AdamSmall4Ideal.main_arg1) = m ((c.tc : Thread Cert.AdamSmall4Ideal.nD Cert.AdamSmall4Ideal.τ).loc Cert.AdamSmall4Ideal.main_arg1)
      ∧ r.2.mem ((c.tc : Thread Cert.AdamSmall4Ideal.nD Cert.AdamSmall4Ideal.τ).loc Cert.AdamSmall4Ideal.main_arg2) = m ((c.tc : Thread Cert.AdamSmall4Ideal.nD Cert.AdamSmall4Ideal.τ).loc Cert.AdamSmall4Ideal.main_arg2)
      ∧ r.2.mem ((c.tc : Thread Cert.AdamSmall4Ideal.nD Cert.AdamSmall4Ideal.τ).loc Cert.AdamSmall4Ideal.main_arg3) = m ((c.tc : Thread Cert.AdamSmall4Ideal.nD Cert.AdamSmall4Ideal.τ).loc Cert.AdamSmall4Ideal.main_arg3)
      ∧ r.2.mem ((c.tc : Thread Cert.AdamSmall4Ideal.nD Cert.AdamSmall4Ideal.τ).loc Cert.AdamSmall4Ideal.main_arg4) = m ((c.tc : Thread Cert.AdamSmall4Ideal.nD Cert.AdamSmall4Ideal.τ).loc Cert.AdamSmall4Ideal.main_arg4)
      ∧ r.2.mem ((c.tc : Thread Cert.AdamSmall4Ideal.nD Cert.AdamSmall4Ideal.τ).loc Cert.AdamSmall4Ideal.main_arg5) = m ((c.tc : Thread Cert.AdamSmall4Ideal.nD Cert.AdamSmall4Ideal.τ).loc Cert.AdamSmall4Ideal.main_arg5)
      ∧ r.2.mem ((c.tc : Thread Cert.AdamSmall4Ideal.nD Cert.AdamSmall4Ideal.τ).loc Cert.AdamSmall4Ideal.main_arg6) = m ((c.tc : Thread Cert.AdamSmall4Ideal.nD Cert.AdamSmall4Ideal.τ).loc Cert.AdamSmall4Ideal.main_arg6)
      ∧ r.2.mem ((c.tc : Thread Cert.AdamSmall4Ideal.nD Cert.AdamSmall4Ideal.τ).loc Cert.AdamSmall4Ideal.main_arg7) = m ((c.tc : Thread Cert.AdamSmall4Ideal.nD Cert.AdamSmall4Ideal.τ).loc Cert.AdamSmall4Ideal.main_arg7)
      ∧ r.2.mem ((c.tc : Thread Cert.AdamSmall4Ideal.nD Cert.AdamSmall4Ideal.τ).loc Cert.AdamSmall4Ideal.main_arg8) = m ((c.tc : Thread Cert.AdamSmall4Ideal.nD Cert.AdamSmall4Ideal.τ).loc Cert.AdamSmall4Ideal.main_arg8)
      ∧ r.2.mem ((c.tc : Thread Cert.AdamSmall4Ideal.nD Cert.AdamSmall4Ideal.τ).loc Cert.AdamSmall4Ideal.main_arg9) = m ((c.tc : Thread Cert.AdamSmall4Ideal.nD Cert.AdamSmall4Ideal.τ).loc Cert.AdamSmall4Ideal.main_arg9)
      ∧ r.2.mem ((c.tc : Thread Cert.AdamSmall4Ideal.nD Cert.AdamSmall4Ideal.τ).loc Cert.AdamSmall4Ideal.main_arg10) = m ((c.tc : Thread Cert.AdamSmall4Ideal.nD Cert.AdamSmall4Ideal.τ).loc Cert.AdamSmall4Ideal.main_arg10)
      ∧ r.2.mem ((c.tc : Thread Cert.AdamSmall4Ideal.nD Cert.AdamSmall4Ideal.τ).loc Cert.AdamSmall4Ideal.main_arg11) = m ((c.tc : Thread Cert.AdamSmall4Ideal.nD Cert.AdamSmall4Ideal.τ).loc Cert.AdamSmall4Ideal.main_arg11))
      ∧ r.2.sem = fun _ => 0)

def quiescent_AdamSmall4RefIdeal [hAdamSmall4RefIdeal : Cert.AdamSmall4RefIdeal.Facts] : Prop :=
  ∀ (m : (ℓ : Loc Cert.AdamSmall4RefIdeal.nD Cert.AdamSmall4RefIdeal.τ Cert.AdamSmall4RefIdeal.sig) → Buf (Elt Ideal) ℓ) (g : Dev Cert.AdamSmall4RefIdeal.nD → PrngReg), Pre_AdamSmall4RefIdeal m →
    θ_run (Cert.AdamSmall4RefIdeal.defs (F := Ideal)) (onTc (τ := Cert.AdamSmall4RefIdeal.τ) (Cert.AdamSmall4RefIdeal.main (F := Ideal))) ⟨m, fun _ => 0, g⟩ (fun r => (∀ c : Dev Cert.AdamSmall4RefIdeal.nD,
      r.2.mem ((c.tc : Thread Cert.AdamSmall4RefIdeal.nD Cert.AdamSmall4RefIdeal.τ).loc Cert.AdamSmall4RefIdeal.main_arg0) = m ((c.tc : Thread Cert.AdamSmall4RefIdeal.nD Cert.AdamSmall4RefIdeal.τ).loc Cert.AdamSmall4RefIdeal.main_arg0)
      ∧ r.2.mem ((c.tc : Thread Cert.AdamSmall4RefIdeal.nD Cert.AdamSmall4RefIdeal.τ).loc Cert.AdamSmall4RefIdeal.main_arg1) = m ((c.tc : Thread Cert.AdamSmall4RefIdeal.nD Cert.AdamSmall4RefIdeal.τ).loc Cert.AdamSmall4RefIdeal.main_arg1)
      ∧ r.2.mem ((c.tc : Thread Cert.AdamSmall4RefIdeal.nD Cert.AdamSmall4RefIdeal.τ).loc Cert.AdamSmall4RefIdeal.main_arg2) = m ((c.tc : Thread Cert.AdamSmall4RefIdeal.nD Cert.AdamSmall4RefIdeal.τ).loc Cert.AdamSmall4RefIdeal.main_arg2)
      ∧ r.2.mem ((c.tc : Thread Cert.AdamSmall4RefIdeal.nD Cert.AdamSmall4RefIdeal.τ).loc Cert.AdamSmall4RefIdeal.main_arg3) = m ((c.tc : Thread Cert.AdamSmall4RefIdeal.nD Cert.AdamSmall4RefIdeal.τ).loc Cert.AdamSmall4RefIdeal.main_arg3)
      ∧ r.2.mem ((c.tc : Thread Cert.AdamSmall4RefIdeal.nD Cert.AdamSmall4RefIdeal.τ).loc Cert.AdamSmall4RefIdeal.main_arg4) = m ((c.tc : Thread Cert.AdamSmall4RefIdeal.nD Cert.AdamSmall4RefIdeal.τ).loc Cert.AdamSmall4RefIdeal.main_arg4)
      ∧ r.2.mem ((c.tc : Thread Cert.AdamSmall4RefIdeal.nD Cert.AdamSmall4RefIdeal.τ).loc Cert.AdamSmall4RefIdeal.main_arg5) = m ((c.tc : Thread Cert.AdamSmall4RefIdeal.nD Cert.AdamSmall4RefIdeal.τ).loc Cert.AdamSmall4RefIdeal.main_arg5)
      ∧ r.2.mem ((c.tc : Thread Cert.AdamSmall4RefIdeal.nD Cert.AdamSmall4RefIdeal.τ).loc Cert.AdamSmall4RefIdeal.main_arg6) = m ((c.tc : Thread Cert.AdamSmall4RefIdeal.nD Cert.AdamSmall4RefIdeal.τ).loc Cert.AdamSmall4RefIdeal.main_arg6)
      ∧ r.2.mem ((c.tc : Thread Cert.AdamSmall4RefIdeal.nD Cert.AdamSmall4RefIdeal.τ).loc Cert.AdamSmall4RefIdeal.main_arg7) = m ((c.tc : Thread Cert.AdamSmall4RefIdeal.nD Cert.AdamSmall4RefIdeal.τ).loc Cert.AdamSmall4RefIdeal.main_arg7)
      ∧ r.2.mem ((c.tc : Thread Cert.AdamSmall4RefIdeal.nD Cert.AdamSmall4RefIdeal.τ).loc Cert.AdamSmall4RefIdeal.main_arg8) = m ((c.tc : Thread Cert.AdamSmall4RefIdeal.nD Cert.AdamSmall4RefIdeal.τ).loc Cert.AdamSmall4RefIdeal.main_arg8)
      ∧ r.2.mem ((c.tc : Thread Cert.AdamSmall4RefIdeal.nD Cert.AdamSmall4RefIdeal.τ).loc Cert.AdamSmall4RefIdeal.main_arg9) = m ((c.tc : Thread Cert.AdamSmall4RefIdeal.nD Cert.AdamSmall4RefIdeal.τ).loc Cert.AdamSmall4RefIdeal.main_arg9)
      ∧ r.2.mem ((c.tc : Thread Cert.AdamSmall4RefIdeal.nD Cert.AdamSmall4RefIdeal.τ).loc Cert.AdamSmall4RefIdeal.main_arg10) = m ((c.tc : Thread Cert.AdamSmall4RefIdeal.nD Cert.AdamSmall4RefIdeal.τ).loc Cert.AdamSmall4RefIdeal.main_arg10)
      ∧ r.2.mem ((c.tc : Thread Cert.AdamSmall4RefIdeal.nD Cert.AdamSmall4RefIdeal.τ).loc Cert.AdamSmall4RefIdeal.main_arg11) = m ((c.tc : Thread Cert.AdamSmall4RefIdeal.nD Cert.AdamSmall4RefIdeal.τ).loc Cert.AdamSmall4RefIdeal.main_arg11))
      ∧ r.2.sem = fun _ => 0)

def quiescent_AdamSmall5 [hAdamSmall5 : Cert.AdamSmall5.Facts] : Prop :=
  ∀ (m : (ℓ : Loc Cert.AdamSmall5.nD Cert.AdamSmall5.τ Cert.AdamSmall5.sig) → Buf (Elt Bits) ℓ) (g : Dev Cert.AdamSmall5.nD → PrngReg), Pre_AdamSmall5 m →
    θ_run (Cert.AdamSmall5.defs (F := Bits)) (onTc (τ := Cert.AdamSmall5.τ) (Cert.AdamSmall5.main (F := Bits))) ⟨m, fun _ => 0, g⟩ (fun r => (∀ c : Dev Cert.AdamSmall5.nD,
      r.2.mem ((c.tc : Thread Cert.AdamSmall5.nD Cert.AdamSmall5.τ).loc Cert.AdamSmall5.main_arg0) = m ((c.tc : Thread Cert.AdamSmall5.nD Cert.AdamSmall5.τ).loc Cert.AdamSmall5.main_arg0)
      ∧ r.2.mem ((c.tc : Thread Cert.AdamSmall5.nD Cert.AdamSmall5.τ).loc Cert.AdamSmall5.main_arg1) = m ((c.tc : Thread Cert.AdamSmall5.nD Cert.AdamSmall5.τ).loc Cert.AdamSmall5.main_arg1)
      ∧ r.2.mem ((c.tc : Thread Cert.AdamSmall5.nD Cert.AdamSmall5.τ).loc Cert.AdamSmall5.main_arg2) = m ((c.tc : Thread Cert.AdamSmall5.nD Cert.AdamSmall5.τ).loc Cert.AdamSmall5.main_arg2)
      ∧ r.2.mem ((c.tc : Thread Cert.AdamSmall5.nD Cert.AdamSmall5.τ).loc Cert.AdamSmall5.main_arg3) = m ((c.tc : Thread Cert.AdamSmall5.nD Cert.AdamSmall5.τ).loc Cert.AdamSmall5.main_arg3)
      ∧ r.2.mem ((c.tc : Thread Cert.AdamSmall5.nD Cert.AdamSmall5.τ).loc Cert.AdamSmall5.main_arg4) = m ((c.tc : Thread Cert.AdamSmall5.nD Cert.AdamSmall5.τ).loc Cert.AdamSmall5.main_arg4)
      ∧ r.2.mem ((c.tc : Thread Cert.AdamSmall5.nD Cert.AdamSmall5.τ).loc Cert.AdamSmall5.main_arg5) = m ((c.tc : Thread Cert.AdamSmall5.nD Cert.AdamSmall5.τ).loc Cert.AdamSmall5.main_arg5)
      ∧ r.2.mem ((c.tc : Thread Cert.AdamSmall5.nD Cert.AdamSmall5.τ).loc Cert.AdamSmall5.main_arg6) = m ((c.tc : Thread Cert.AdamSmall5.nD Cert.AdamSmall5.τ).loc Cert.AdamSmall5.main_arg6)
      ∧ r.2.mem ((c.tc : Thread Cert.AdamSmall5.nD Cert.AdamSmall5.τ).loc Cert.AdamSmall5.main_arg7) = m ((c.tc : Thread Cert.AdamSmall5.nD Cert.AdamSmall5.τ).loc Cert.AdamSmall5.main_arg7)
      ∧ r.2.mem ((c.tc : Thread Cert.AdamSmall5.nD Cert.AdamSmall5.τ).loc Cert.AdamSmall5.main_arg8) = m ((c.tc : Thread Cert.AdamSmall5.nD Cert.AdamSmall5.τ).loc Cert.AdamSmall5.main_arg8)
      ∧ r.2.mem ((c.tc : Thread Cert.AdamSmall5.nD Cert.AdamSmall5.τ).loc Cert.AdamSmall5.main_arg9) = m ((c.tc : Thread Cert.AdamSmall5.nD Cert.AdamSmall5.τ).loc Cert.AdamSmall5.main_arg9)
      ∧ r.2.mem ((c.tc : Thread Cert.AdamSmall5.nD Cert.AdamSmall5.τ).loc Cert.AdamSmall5.main_arg10) = m ((c.tc : Thread Cert.AdamSmall5.nD Cert.AdamSmall5.τ).loc Cert.AdamSmall5.main_arg10)
      ∧ r.2.mem ((c.tc : Thread Cert.AdamSmall5.nD Cert.AdamSmall5.τ).loc Cert.AdamSmall5.main_arg11) = m ((c.tc : Thread Cert.AdamSmall5.nD Cert.AdamSmall5.τ).loc Cert.AdamSmall5.main_arg11))
      ∧ r.2.sem = fun _ => 0)

def quiescent_AdamSmall5Ideal [hAdamSmall5Ideal : Cert.AdamSmall5Ideal.Facts] : Prop :=
  ∀ (m : (ℓ : Loc Cert.AdamSmall5Ideal.nD Cert.AdamSmall5Ideal.τ Cert.AdamSmall5Ideal.sig) → Buf (Elt Ideal) ℓ) (g : Dev Cert.AdamSmall5Ideal.nD → PrngReg), Pre_AdamSmall5Ideal m →
    θ_run (Cert.AdamSmall5Ideal.defs (F := Ideal)) (onTc (τ := Cert.AdamSmall5Ideal.τ) (Cert.AdamSmall5Ideal.main (F := Ideal))) ⟨m, fun _ => 0, g⟩ (fun r => (∀ c : Dev Cert.AdamSmall5Ideal.nD,
      r.2.mem ((c.tc : Thread Cert.AdamSmall5Ideal.nD Cert.AdamSmall5Ideal.τ).loc Cert.AdamSmall5Ideal.main_arg0) = m ((c.tc : Thread Cert.AdamSmall5Ideal.nD Cert.AdamSmall5Ideal.τ).loc Cert.AdamSmall5Ideal.main_arg0)
      ∧ r.2.mem ((c.tc : Thread Cert.AdamSmall5Ideal.nD Cert.AdamSmall5Ideal.τ).loc Cert.AdamSmall5Ideal.main_arg1) = m ((c.tc : Thread Cert.AdamSmall5Ideal.nD Cert.AdamSmall5Ideal.τ).loc Cert.AdamSmall5Ideal.main_arg1)
      ∧ r.2.mem ((c.tc : Thread Cert.AdamSmall5Ideal.nD Cert.AdamSmall5Ideal.τ).loc Cert.AdamSmall5Ideal.main_arg2) = m ((c.tc : Thread Cert.AdamSmall5Ideal.nD Cert.AdamSmall5Ideal.τ).loc Cert.AdamSmall5Ideal.main_arg2)
      ∧ r.2.mem ((c.tc : Thread Cert.AdamSmall5Ideal.nD Cert.AdamSmall5Ideal.τ).loc Cert.AdamSmall5Ideal.main_arg3) = m ((c.tc : Thread Cert.AdamSmall5Ideal.nD Cert.AdamSmall5Ideal.τ).loc Cert.AdamSmall5Ideal.main_arg3)
      ∧ r.2.mem ((c.tc : Thread Cert.AdamSmall5Ideal.nD Cert.AdamSmall5Ideal.τ).loc Cert.AdamSmall5Ideal.main_arg4) = m ((c.tc : Thread Cert.AdamSmall5Ideal.nD Cert.AdamSmall5Ideal.τ).loc Cert.AdamSmall5Ideal.main_arg4)
      ∧ r.2.mem ((c.tc : Thread Cert.AdamSmall5Ideal.nD Cert.AdamSmall5Ideal.τ).loc Cert.AdamSmall5Ideal.main_arg5) = m ((c.tc : Thread Cert.AdamSmall5Ideal.nD Cert.AdamSmall5Ideal.τ).loc Cert.AdamSmall5Ideal.main_arg5)
      ∧ r.2.mem ((c.tc : Thread Cert.AdamSmall5Ideal.nD Cert.AdamSmall5Ideal.τ).loc Cert.AdamSmall5Ideal.main_arg6) = m ((c.tc : Thread Cert.AdamSmall5Ideal.nD Cert.AdamSmall5Ideal.τ).loc Cert.AdamSmall5Ideal.main_arg6)
      ∧ r.2.mem ((c.tc : Thread Cert.AdamSmall5Ideal.nD Cert.AdamSmall5Ideal.τ).loc Cert.AdamSmall5Ideal.main_arg7) = m ((c.tc : Thread Cert.AdamSmall5Ideal.nD Cert.AdamSmall5Ideal.τ).loc Cert.AdamSmall5Ideal.main_arg7)
      ∧ r.2.mem ((c.tc : Thread Cert.AdamSmall5Ideal.nD Cert.AdamSmall5Ideal.τ).loc Cert.AdamSmall5Ideal.main_arg8) = m ((c.tc : Thread Cert.AdamSmall5Ideal.nD Cert.AdamSmall5Ideal.τ).loc Cert.AdamSmall5Ideal.main_arg8)
      ∧ r.2.mem ((c.tc : Thread Cert.AdamSmall5Ideal.nD Cert.AdamSmall5Ideal.τ).loc Cert.AdamSmall5Ideal.main_arg9) = m ((c.tc : Thread Cert.AdamSmall5Ideal.nD Cert.AdamSmall5Ideal.τ).loc Cert.AdamSmall5Ideal.main_arg9)
      ∧ r.2.mem ((c.tc : Thread Cert.AdamSmall5Ideal.nD Cert.AdamSmall5Ideal.τ).loc Cert.AdamSmall5Ideal.main_arg10) = m ((c.tc : Thread Cert.AdamSmall5Ideal.nD Cert.AdamSmall5Ideal.τ).loc Cert.AdamSmall5Ideal.main_arg10)
      ∧ r.2.mem ((c.tc : Thread Cert.AdamSmall5Ideal.nD Cert.AdamSmall5Ideal.τ).loc Cert.AdamSmall5Ideal.main_arg11) = m ((c.tc : Thread Cert.AdamSmall5Ideal.nD Cert.AdamSmall5Ideal.τ).loc Cert.AdamSmall5Ideal.main_arg11))
      ∧ r.2.sem = fun _ => 0)

def quiescent_AdamSmall5RefIdeal [hAdamSmall5RefIdeal : Cert.AdamSmall5RefIdeal.Facts] : Prop :=
  ∀ (m : (ℓ : Loc Cert.AdamSmall5RefIdeal.nD Cert.AdamSmall5RefIdeal.τ Cert.AdamSmall5RefIdeal.sig) → Buf (Elt Ideal) ℓ) (g : Dev Cert.AdamSmall5RefIdeal.nD → PrngReg), Pre_AdamSmall5RefIdeal m →
    θ_run (Cert.AdamSmall5RefIdeal.defs (F := Ideal)) (onTc (τ := Cert.AdamSmall5RefIdeal.τ) (Cert.AdamSmall5RefIdeal.main (F := Ideal))) ⟨m, fun _ => 0, g⟩ (fun r => (∀ c : Dev Cert.AdamSmall5RefIdeal.nD,
      r.2.mem ((c.tc : Thread Cert.AdamSmall5RefIdeal.nD Cert.AdamSmall5RefIdeal.τ).loc Cert.AdamSmall5RefIdeal.main_arg0) = m ((c.tc : Thread Cert.AdamSmall5RefIdeal.nD Cert.AdamSmall5RefIdeal.τ).loc Cert.AdamSmall5RefIdeal.main_arg0)
      ∧ r.2.mem ((c.tc : Thread Cert.AdamSmall5RefIdeal.nD Cert.AdamSmall5RefIdeal.τ).loc Cert.AdamSmall5RefIdeal.main_arg1) = m ((c.tc : Thread Cert.AdamSmall5RefIdeal.nD Cert.AdamSmall5RefIdeal.τ).loc Cert.AdamSmall5RefIdeal.main_arg1)
      ∧ r.2.mem ((c.tc : Thread Cert.AdamSmall5RefIdeal.nD Cert.AdamSmall5RefIdeal.τ).loc Cert.AdamSmall5RefIdeal.main_arg2) = m ((c.tc : Thread Cert.AdamSmall5RefIdeal.nD Cert.AdamSmall5RefIdeal.τ).loc Cert.AdamSmall5RefIdeal.main_arg2)
      ∧ r.2.mem ((c.tc : Thread Cert.AdamSmall5RefIdeal.nD Cert.AdamSmall5RefIdeal.τ).loc Cert.AdamSmall5RefIdeal.main_arg3) = m ((c.tc : Thread Cert.AdamSmall5RefIdeal.nD Cert.AdamSmall5RefIdeal.τ).loc Cert.AdamSmall5RefIdeal.main_arg3)
      ∧ r.2.mem ((c.tc : Thread Cert.AdamSmall5RefIdeal.nD Cert.AdamSmall5RefIdeal.τ).loc Cert.AdamSmall5RefIdeal.main_arg4) = m ((c.tc : Thread Cert.AdamSmall5RefIdeal.nD Cert.AdamSmall5RefIdeal.τ).loc Cert.AdamSmall5RefIdeal.main_arg4)
      ∧ r.2.mem ((c.tc : Thread Cert.AdamSmall5RefIdeal.nD Cert.AdamSmall5RefIdeal.τ).loc Cert.AdamSmall5RefIdeal.main_arg5) = m ((c.tc : Thread Cert.AdamSmall5RefIdeal.nD Cert.AdamSmall5RefIdeal.τ).loc Cert.AdamSmall5RefIdeal.main_arg5)
      ∧ r.2.mem ((c.tc : Thread Cert.AdamSmall5RefIdeal.nD Cert.AdamSmall5RefIdeal.τ).loc Cert.AdamSmall5RefIdeal.main_arg6) = m ((c.tc : Thread Cert.AdamSmall5RefIdeal.nD Cert.AdamSmall5RefIdeal.τ).loc Cert.AdamSmall5RefIdeal.main_arg6)
      ∧ r.2.mem ((c.tc : Thread Cert.AdamSmall5RefIdeal.nD Cert.AdamSmall5RefIdeal.τ).loc Cert.AdamSmall5RefIdeal.main_arg7) = m ((c.tc : Thread Cert.AdamSmall5RefIdeal.nD Cert.AdamSmall5RefIdeal.τ).loc Cert.AdamSmall5RefIdeal.main_arg7)
      ∧ r.2.mem ((c.tc : Thread Cert.AdamSmall5RefIdeal.nD Cert.AdamSmall5RefIdeal.τ).loc Cert.AdamSmall5RefIdeal.main_arg8) = m ((c.tc : Thread Cert.AdamSmall5RefIdeal.nD Cert.AdamSmall5RefIdeal.τ).loc Cert.AdamSmall5RefIdeal.main_arg8)
      ∧ r.2.mem ((c.tc : Thread Cert.AdamSmall5RefIdeal.nD Cert.AdamSmall5RefIdeal.τ).loc Cert.AdamSmall5RefIdeal.main_arg9) = m ((c.tc : Thread Cert.AdamSmall5RefIdeal.nD Cert.AdamSmall5RefIdeal.τ).loc Cert.AdamSmall5RefIdeal.main_arg9)
      ∧ r.2.mem ((c.tc : Thread Cert.AdamSmall5RefIdeal.nD Cert.AdamSmall5RefIdeal.τ).loc Cert.AdamSmall5RefIdeal.main_arg10) = m ((c.tc : Thread Cert.AdamSmall5RefIdeal.nD Cert.AdamSmall5RefIdeal.τ).loc Cert.AdamSmall5RefIdeal.main_arg10)
      ∧ r.2.mem ((c.tc : Thread Cert.AdamSmall5RefIdeal.nD Cert.AdamSmall5RefIdeal.τ).loc Cert.AdamSmall5RefIdeal.main_arg11) = m ((c.tc : Thread Cert.AdamSmall5RefIdeal.nD Cert.AdamSmall5RefIdeal.τ).loc Cert.AdamSmall5RefIdeal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def preserves_Dh1_Dh1Ideal : Prop :=
  True

def preserves_Gwin_GwinIdeal : Prop :=
  True

def preserves_Up_UpIdeal : Prop :=
  True

def preserves_Down_DownIdeal : Prop :=
  True

def preserves_Dact_DactIdeal : Prop :=
  True

def preserves_Dh3_Dh3Ideal : Prop :=
  True

def preserves_Gdown_GdownIdeal : Prop :=
  True

def preserves_Gup_GupIdeal : Prop :=
  True

def preserves_Outa_OutaIdeal : Prop :=
  True

def preserves_Q_QIdeal : Prop :=
  True

def preserves_Dao_DaoIdeal : Prop :=
  True

def preserves_Doa_DoaIdeal : Prop :=
  True

def preserves_Dob_DobIdeal : Prop :=
  True

def preserves_Gwo_GwoIdeal : Prop :=
  True

def preserves_Gwq_GwqIdeal : Prop :=
  True

def preserves_Gwouta_GwoutaIdeal : Prop :=
  True

def preserves_Gwoutb_GwoutbIdeal : Prop :=
  True

def preserves_Rms1_Rms1Ideal : Prop :=
  True

def preserves_Rms3_Rms3Ideal : Prop :=
  True

def preserves_AdamWin_AdamWinIdeal : Prop :=
  True

def preserves_AdamUp_AdamUpIdeal : Prop :=
  True

def preserves_AdamDown_AdamDownIdeal : Prop :=
  True

def preserves_AdamOut_AdamOutIdeal : Prop :=
  True

def preserves_AdamWq_AdamWqIdeal : Prop :=
  True

def preserves_AdamWk_AdamWkIdeal : Prop :=
  True

def preserves_AdamWv_AdamWvIdeal : Prop :=
  True

def preserves_AdamWo_AdamWoIdeal : Prop :=
  True

def preserves_AdamSmall1_AdamSmall1Ideal : Prop :=
  True

def preserves_AdamSmall2_AdamSmall2Ideal : Prop :=
  True

def preserves_AdamSmall3_AdamSmall3Ideal : Prop :=
  True

def preserves_AdamSmall4_AdamSmall4Ideal : Prop :=
  True

def preserves_AdamSmall5_AdamSmall5Ideal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v4) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def algebraic_GwinIdeal_GwinRefIdeal [hGwinIdeal : Cert.GwinIdeal.Facts] [hGwinRefIdeal : Cert.GwinRefIdeal.Facts] : Prop :=
  ∀ (m : (ℓ : Loc Cert.GwinIdeal.nD Cert.GwinIdeal.τ Cert.GwinIdeal.sig) → Buf (Elt Ideal) ℓ) (g : Dev Cert.GwinIdeal.nD → PrngReg)
    (m' : (ℓ : Loc Cert.GwinRefIdeal.nD Cert.GwinRefIdeal.τ Cert.GwinRefIdeal.sig) → Buf (Elt Ideal) ℓ) (g' : Dev Cert.GwinRefIdeal.nD → PrngReg), Pre_GwinIdeal m →
    (∀ c : Dev Cert.GwinIdeal.nD,
      m' ((c.tc : Thread Cert.GwinRefIdeal.nD Cert.GwinRefIdeal.τ).loc Cert.GwinRefIdeal.main_arg0) = m ((c.tc : Thread Cert.GwinIdeal.nD Cert.GwinIdeal.τ).loc Cert.GwinIdeal.main_arg0)
      ∧ m' ((c.tc : Thread Cert.GwinRefIdeal.nD Cert.GwinRefIdeal.τ).loc Cert.GwinRefIdeal.main_arg1) = m ((c.tc : Thread Cert.GwinIdeal.nD Cert.GwinIdeal.τ).loc Cert.GwinIdeal.main_arg1)) →
    ∃ (v0 : (c : Dev Cert.GwinIdeal.nD) → Buf (Elt Ideal) ((c.tc : Thread Cert.GwinIdeal.nD Cert.GwinIdeal.τ).loc Cert.GwinIdeal.main_v0)),
      θ_run (Cert.GwinIdeal.defs (F := Ideal)) (onTc (τ := Cert.GwinIdeal.τ) (Cert.GwinIdeal.main (F := Ideal))) ⟨m, fun _ => 0, g⟩ (fun r => ∀ c : Dev Cert.GwinIdeal.nD,
          r.2.mem ((c.tc : Thread Cert.GwinIdeal.nD Cert.GwinIdeal.τ).loc Cert.GwinIdeal.main_v0) = v0 c
          ∧ r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
          ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ θ_run (Cert.GwinRefIdeal.defs (F := Ideal)) (onTc (τ := Cert.GwinRefIdeal.τ) (Cert.GwinRefIdeal.main (F := Ideal))) ⟨m', fun _ => 0, g'⟩ (fun r => ∀ c : Dev Cert.GwinRefIdeal.nD,
          r.2.mem ((c.tc : Thread Cert.GwinRefIdeal.nD Cert.GwinRefIdeal.τ).loc Cert.GwinRefIdeal.main_v5) = v0 c
          ∧ r.2.mem ((c.tc : Thread Cert.GwinRefIdeal.nD Cert.GwinRefIdeal.τ).loc Cert.GwinRefIdeal.main_arg0) = m' ((c.tc : Thread Cert.GwinRefIdeal.nD Cert.GwinRefIdeal.τ).loc Cert.GwinRefIdeal.main_arg0)
          ∧ r.2.mem ((c.tc : Thread Cert.GwinRefIdeal.nD Cert.GwinRefIdeal.τ).loc Cert.GwinRefIdeal.main_arg1) = m' ((c.tc : Thread Cert.GwinRefIdeal.nD Cert.GwinRefIdeal.τ).loc Cert.GwinRefIdeal.main_arg1))

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v16) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def algebraic_Dh3Ideal_Dh3RefIdeal [hDh3Ideal : Cert.Dh3Ideal.Facts] [hDh3RefIdeal : Cert.Dh3RefIdeal.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.Dh3RefIdeal.nD Cert.Dh3RefIdeal.τ Cert.Dh3RefIdeal.sig) → Buf (Elt Ideal) ℓ) (g' : Dev Cert.Dh3RefIdeal.nD → PrngReg), Pre_Dh3Ideal m →
    (∀ c : Dev Cert.Dh3Ideal.nD,
      m' ((c.tc : Thread Cert.Dh3RefIdeal.nD Cert.Dh3RefIdeal.τ).loc Cert.Dh3RefIdeal.main_arg0) = m ((c.tc : Thread Cert.Dh3Ideal.nD Cert.Dh3Ideal.τ).loc Cert.Dh3Ideal.main_arg0)
      ∧ m' ((c.tc : Thread Cert.Dh3RefIdeal.nD Cert.Dh3RefIdeal.τ).loc Cert.Dh3RefIdeal.main_arg1) = m ((c.tc : Thread Cert.Dh3Ideal.nD Cert.Dh3Ideal.τ).loc Cert.Dh3Ideal.main_arg1)) →
    ∃ (v0 : (c : Dev Cert.Dh3Ideal.nD) → Buf (Elt Ideal) ((c.tc : Thread Cert.Dh3Ideal.nD Cert.Dh3Ideal.τ).loc Cert.Dh3Ideal.main_v0)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v0) = v0 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1))
      ∧ θ_run (Cert.Dh3RefIdeal.defs (F := Ideal)) (onTc (τ := Cert.Dh3RefIdeal.τ) (Cert.Dh3RefIdeal.main (F := Ideal))) ⟨m', fun _ => 0, g'⟩ (fun r => ∀ c : Dev Cert.Dh3RefIdeal.nD,
          r.2.mem ((c.tc : Thread Cert.Dh3RefIdeal.nD Cert.Dh3RefIdeal.τ).loc Cert.Dh3RefIdeal.main_v7) = v0 c
          ∧ r.2.mem ((c.tc : Thread Cert.Dh3RefIdeal.nD Cert.Dh3RefIdeal.τ).loc Cert.Dh3RefIdeal.main_arg0) = m' ((c.tc : Thread Cert.Dh3RefIdeal.nD Cert.Dh3RefIdeal.τ).loc Cert.Dh3RefIdeal.main_arg0)
          ∧ r.2.mem ((c.tc : Thread Cert.Dh3RefIdeal.nD Cert.Dh3RefIdeal.τ).loc Cert.Dh3RefIdeal.main_arg1) = m' ((c.tc : Thread Cert.Dh3RefIdeal.nD Cert.Dh3RefIdeal.τ).loc Cert.Dh3RefIdeal.main_arg1))

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v1)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v1) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v6) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1))

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v0)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v0) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v9) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def algebraic_OutaIdeal_OutaRefIdeal [hOutaIdeal : Cert.OutaIdeal.Facts] [hOutaRefIdeal : Cert.OutaRefIdeal.Facts] : Prop :=
  ∀ (m : (ℓ : Loc Cert.OutaIdeal.nD Cert.OutaIdeal.τ Cert.OutaIdeal.sig) → Buf (Elt Ideal) ℓ) (g : Dev Cert.OutaIdeal.nD → PrngReg)
    (m' : (ℓ : Loc Cert.OutaRefIdeal.nD Cert.OutaRefIdeal.τ Cert.OutaRefIdeal.sig) → Buf (Elt Ideal) ℓ) (g' : Dev Cert.OutaRefIdeal.nD → PrngReg), Pre_OutaIdeal m →
    (∀ c : Dev Cert.OutaIdeal.nD,
      m' ((c.tc : Thread Cert.OutaRefIdeal.nD Cert.OutaRefIdeal.τ).loc Cert.OutaRefIdeal.main_arg0) = m ((c.tc : Thread Cert.OutaIdeal.nD Cert.OutaIdeal.τ).loc Cert.OutaIdeal.main_arg0)
      ∧ m' ((c.tc : Thread Cert.OutaRefIdeal.nD Cert.OutaRefIdeal.τ).loc Cert.OutaRefIdeal.main_arg1) = m ((c.tc : Thread Cert.OutaIdeal.nD Cert.OutaIdeal.τ).loc Cert.OutaIdeal.main_arg1)
      ∧ m' ((c.tc : Thread Cert.OutaRefIdeal.nD Cert.OutaRefIdeal.τ).loc Cert.OutaRefIdeal.main_arg2) = m ((c.tc : Thread Cert.OutaIdeal.nD Cert.OutaIdeal.τ).loc Cert.OutaIdeal.main_arg2)) →
    ∃ (v0 : (c : Dev Cert.OutaIdeal.nD) → Buf (Elt Ideal) ((c.tc : Thread Cert.OutaIdeal.nD Cert.OutaIdeal.τ).loc Cert.OutaIdeal.main_v0)),
      θ_run (Cert.OutaIdeal.defs (F := Ideal)) (onTc (τ := Cert.OutaIdeal.τ) (Cert.OutaIdeal.main (F := Ideal))) ⟨m, fun _ => 0, g⟩ (fun r => ∀ c : Dev Cert.OutaIdeal.nD,
          r.2.mem ((c.tc : Thread Cert.OutaIdeal.nD Cert.OutaIdeal.τ).loc Cert.OutaIdeal.main_v0) = v0 c
          ∧ r.2.mem ((c.tc : Thread Cert.OutaIdeal.nD Cert.OutaIdeal.τ).loc Cert.OutaIdeal.main_arg0) = m ((c.tc : Thread Cert.OutaIdeal.nD Cert.OutaIdeal.τ).loc Cert.OutaIdeal.main_arg0)
          ∧ r.2.mem ((c.tc : Thread Cert.OutaIdeal.nD Cert.OutaIdeal.τ).loc Cert.OutaIdeal.main_arg1) = m ((c.tc : Thread Cert.OutaIdeal.nD Cert.OutaIdeal.τ).loc Cert.OutaIdeal.main_arg1)
          ∧ r.2.mem ((c.tc : Thread Cert.OutaIdeal.nD Cert.OutaIdeal.τ).loc Cert.OutaIdeal.main_arg2) = m ((c.tc : Thread Cert.OutaIdeal.nD Cert.OutaIdeal.τ).loc Cert.OutaIdeal.main_arg2))
      ∧ θ_run (Cert.OutaRefIdeal.defs (F := Ideal)) (onTc (τ := Cert.OutaRefIdeal.τ) (Cert.OutaRefIdeal.main (F := Ideal))) ⟨m', fun _ => 0, g'⟩ (fun r => ∀ c : Dev Cert.OutaRefIdeal.nD,
          r.2.mem ((c.tc : Thread Cert.OutaRefIdeal.nD Cert.OutaRefIdeal.τ).loc Cert.OutaRefIdeal.main_v6) = v0 c
          ∧ r.2.mem ((c.tc : Thread Cert.OutaRefIdeal.nD Cert.OutaRefIdeal.τ).loc Cert.OutaRefIdeal.main_arg0) = m' ((c.tc : Thread Cert.OutaRefIdeal.nD Cert.OutaRefIdeal.τ).loc Cert.OutaRefIdeal.main_arg0)
          ∧ r.2.mem ((c.tc : Thread Cert.OutaRefIdeal.nD Cert.OutaRefIdeal.τ).loc Cert.OutaRefIdeal.main_arg1) = m' ((c.tc : Thread Cert.OutaRefIdeal.nD Cert.OutaRefIdeal.τ).loc Cert.OutaRefIdeal.main_arg1)
          ∧ r.2.mem ((c.tc : Thread Cert.OutaRefIdeal.nD Cert.OutaRefIdeal.τ).loc Cert.OutaRefIdeal.main_arg2) = m' ((c.tc : Thread Cert.OutaRefIdeal.nD Cert.OutaRefIdeal.τ).loc Cert.OutaRefIdeal.main_arg2))

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v5) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def algebraic_DaoIdeal_DaoRefIdeal [hDaoIdeal : Cert.DaoIdeal.Facts] [hDaoRefIdeal : Cert.DaoRefIdeal.Facts] : Prop :=
  ∀ (m : (ℓ : Loc Cert.DaoIdeal.nD Cert.DaoIdeal.τ Cert.DaoIdeal.sig) → Buf (Elt Ideal) ℓ) (g : Dev Cert.DaoIdeal.nD → PrngReg)
    (m' : (ℓ : Loc Cert.DaoRefIdeal.nD Cert.DaoRefIdeal.τ Cert.DaoRefIdeal.sig) → Buf (Elt Ideal) ℓ) (g' : Dev Cert.DaoRefIdeal.nD → PrngReg), Pre_DaoIdeal m →
    (∀ c : Dev Cert.DaoIdeal.nD,
      m' ((c.tc : Thread Cert.DaoRefIdeal.nD Cert.DaoRefIdeal.τ).loc Cert.DaoRefIdeal.main_arg0) = m ((c.tc : Thread Cert.DaoIdeal.nD Cert.DaoIdeal.τ).loc Cert.DaoIdeal.main_arg0)
      ∧ m' ((c.tc : Thread Cert.DaoRefIdeal.nD Cert.DaoRefIdeal.τ).loc Cert.DaoRefIdeal.main_arg1) = m ((c.tc : Thread Cert.DaoIdeal.nD Cert.DaoIdeal.τ).loc Cert.DaoIdeal.main_arg1)) →
    ∃ (v0 : (c : Dev Cert.DaoIdeal.nD) → Buf (Elt Ideal) ((c.tc : Thread Cert.DaoIdeal.nD Cert.DaoIdeal.τ).loc Cert.DaoIdeal.main_v0)),
      θ_run (Cert.DaoIdeal.defs (F := Ideal)) (onTc (τ := Cert.DaoIdeal.τ) (Cert.DaoIdeal.main (F := Ideal))) ⟨m, fun _ => 0, g⟩ (fun r => ∀ c : Dev Cert.DaoIdeal.nD,
          r.2.mem ((c.tc : Thread Cert.DaoIdeal.nD Cert.DaoIdeal.τ).loc Cert.DaoIdeal.main_v0) = v0 c
          ∧ r.2.mem ((c.tc : Thread Cert.DaoIdeal.nD Cert.DaoIdeal.τ).loc Cert.DaoIdeal.main_arg0) = m ((c.tc : Thread Cert.DaoIdeal.nD Cert.DaoIdeal.τ).loc Cert.DaoIdeal.main_arg0)
          ∧ r.2.mem ((c.tc : Thread Cert.DaoIdeal.nD Cert.DaoIdeal.τ).loc Cert.DaoIdeal.main_arg1) = m ((c.tc : Thread Cert.DaoIdeal.nD Cert.DaoIdeal.τ).loc Cert.DaoIdeal.main_arg1))
      ∧ θ_run (Cert.DaoRefIdeal.defs (F := Ideal)) (onTc (τ := Cert.DaoRefIdeal.τ) (Cert.DaoRefIdeal.main (F := Ideal))) ⟨m', fun _ => 0, g'⟩ (fun r => ∀ c : Dev Cert.DaoRefIdeal.nD,
          r.2.mem ((c.tc : Thread Cert.DaoRefIdeal.nD Cert.DaoRefIdeal.τ).loc Cert.DaoRefIdeal.main_v6) = v0 c
          ∧ r.2.mem ((c.tc : Thread Cert.DaoRefIdeal.nD Cert.DaoRefIdeal.τ).loc Cert.DaoRefIdeal.main_arg0) = m' ((c.tc : Thread Cert.DaoRefIdeal.nD Cert.DaoRefIdeal.τ).loc Cert.DaoRefIdeal.main_arg0)
          ∧ r.2.mem ((c.tc : Thread Cert.DaoRefIdeal.nD Cert.DaoRefIdeal.τ).loc Cert.DaoRefIdeal.main_arg1) = m' ((c.tc : Thread Cert.DaoRefIdeal.nD Cert.DaoRefIdeal.τ).loc Cert.DaoRefIdeal.main_arg1))

def algebraic_DoaIdeal_DoaRefIdeal [hDoaIdeal : Cert.DoaIdeal.Facts] [hDoaRefIdeal : Cert.DoaRefIdeal.Facts] : Prop :=
  ∀ (m : (ℓ : Loc Cert.DoaIdeal.nD Cert.DoaIdeal.τ Cert.DoaIdeal.sig) → Buf (Elt Ideal) ℓ) (g : Dev Cert.DoaIdeal.nD → PrngReg)
    (m' : (ℓ : Loc Cert.DoaRefIdeal.nD Cert.DoaRefIdeal.τ Cert.DoaRefIdeal.sig) → Buf (Elt Ideal) ℓ) (g' : Dev Cert.DoaRefIdeal.nD → PrngReg), Pre_DoaIdeal m →
    (∀ c : Dev Cert.DoaIdeal.nD,
      m' ((c.tc : Thread Cert.DoaRefIdeal.nD Cert.DoaRefIdeal.τ).loc Cert.DoaRefIdeal.main_arg0) = m ((c.tc : Thread Cert.DoaIdeal.nD Cert.DoaIdeal.τ).loc Cert.DoaIdeal.main_arg0)
      ∧ m' ((c.tc : Thread Cert.DoaRefIdeal.nD Cert.DoaRefIdeal.τ).loc Cert.DoaRefIdeal.main_arg1) = m ((c.tc : Thread Cert.DoaIdeal.nD Cert.DoaIdeal.τ).loc Cert.DoaIdeal.main_arg1)) →
    ∃ (v0 : (c : Dev Cert.DoaIdeal.nD) → Buf (Elt Ideal) ((c.tc : Thread Cert.DoaIdeal.nD Cert.DoaIdeal.τ).loc Cert.DoaIdeal.main_v0)),
      θ_run (Cert.DoaIdeal.defs (F := Ideal)) (onTc (τ := Cert.DoaIdeal.τ) (Cert.DoaIdeal.main (F := Ideal))) ⟨m, fun _ => 0, g⟩ (fun r => ∀ c : Dev Cert.DoaIdeal.nD,
          r.2.mem ((c.tc : Thread Cert.DoaIdeal.nD Cert.DoaIdeal.τ).loc Cert.DoaIdeal.main_v0) = v0 c
          ∧ r.2.mem ((c.tc : Thread Cert.DoaIdeal.nD Cert.DoaIdeal.τ).loc Cert.DoaIdeal.main_arg0) = m ((c.tc : Thread Cert.DoaIdeal.nD Cert.DoaIdeal.τ).loc Cert.DoaIdeal.main_arg0)
          ∧ r.2.mem ((c.tc : Thread Cert.DoaIdeal.nD Cert.DoaIdeal.τ).loc Cert.DoaIdeal.main_arg1) = m ((c.tc : Thread Cert.DoaIdeal.nD Cert.DoaIdeal.τ).loc Cert.DoaIdeal.main_arg1))
      ∧ θ_run (Cert.DoaRefIdeal.defs (F := Ideal)) (onTc (τ := Cert.DoaRefIdeal.τ) (Cert.DoaRefIdeal.main (F := Ideal))) ⟨m', fun _ => 0, g'⟩ (fun r => ∀ c : Dev Cert.DoaRefIdeal.nD,
          r.2.mem ((c.tc : Thread Cert.DoaRefIdeal.nD Cert.DoaRefIdeal.τ).loc Cert.DoaRefIdeal.main_v7) = v0 c
          ∧ r.2.mem ((c.tc : Thread Cert.DoaRefIdeal.nD Cert.DoaRefIdeal.τ).loc Cert.DoaRefIdeal.main_arg0) = m' ((c.tc : Thread Cert.DoaRefIdeal.nD Cert.DoaRefIdeal.τ).loc Cert.DoaRefIdeal.main_arg0)
          ∧ r.2.mem ((c.tc : Thread Cert.DoaRefIdeal.nD Cert.DoaRefIdeal.τ).loc Cert.DoaRefIdeal.main_arg1) = m' ((c.tc : Thread Cert.DoaRefIdeal.nD Cert.DoaRefIdeal.τ).loc Cert.DoaRefIdeal.main_arg1))

def algebraic_DobIdeal_DobRefIdeal [hDobIdeal : Cert.DobIdeal.Facts] [hDobRefIdeal : Cert.DobRefIdeal.Facts] : Prop :=
  ∀ (m : (ℓ : Loc Cert.DobIdeal.nD Cert.DobIdeal.τ Cert.DobIdeal.sig) → Buf (Elt Ideal) ℓ) (g : Dev Cert.DobIdeal.nD → PrngReg)
    (m' : (ℓ : Loc Cert.DobRefIdeal.nD Cert.DobRefIdeal.τ Cert.DobRefIdeal.sig) → Buf (Elt Ideal) ℓ) (g' : Dev Cert.DobRefIdeal.nD → PrngReg), Pre_DobIdeal m →
    (∀ c : Dev Cert.DobIdeal.nD,
      m' ((c.tc : Thread Cert.DobRefIdeal.nD Cert.DobRefIdeal.τ).loc Cert.DobRefIdeal.main_arg0) = m ((c.tc : Thread Cert.DobIdeal.nD Cert.DobIdeal.τ).loc Cert.DobIdeal.main_arg0)
      ∧ m' ((c.tc : Thread Cert.DobRefIdeal.nD Cert.DobRefIdeal.τ).loc Cert.DobRefIdeal.main_arg1) = m ((c.tc : Thread Cert.DobIdeal.nD Cert.DobIdeal.τ).loc Cert.DobIdeal.main_arg1)) →
    ∃ (v0 : (c : Dev Cert.DobIdeal.nD) → Buf (Elt Ideal) ((c.tc : Thread Cert.DobIdeal.nD Cert.DobIdeal.τ).loc Cert.DobIdeal.main_v0)),
      θ_run (Cert.DobIdeal.defs (F := Ideal)) (onTc (τ := Cert.DobIdeal.τ) (Cert.DobIdeal.main (F := Ideal))) ⟨m, fun _ => 0, g⟩ (fun r => ∀ c : Dev Cert.DobIdeal.nD,
          r.2.mem ((c.tc : Thread Cert.DobIdeal.nD Cert.DobIdeal.τ).loc Cert.DobIdeal.main_v0) = v0 c
          ∧ r.2.mem ((c.tc : Thread Cert.DobIdeal.nD Cert.DobIdeal.τ).loc Cert.DobIdeal.main_arg0) = m ((c.tc : Thread Cert.DobIdeal.nD Cert.DobIdeal.τ).loc Cert.DobIdeal.main_arg0)
          ∧ r.2.mem ((c.tc : Thread Cert.DobIdeal.nD Cert.DobIdeal.τ).loc Cert.DobIdeal.main_arg1) = m ((c.tc : Thread Cert.DobIdeal.nD Cert.DobIdeal.τ).loc Cert.DobIdeal.main_arg1))
      ∧ θ_run (Cert.DobRefIdeal.defs (F := Ideal)) (onTc (τ := Cert.DobRefIdeal.τ) (Cert.DobRefIdeal.main (F := Ideal))) ⟨m', fun _ => 0, g'⟩ (fun r => ∀ c : Dev Cert.DobRefIdeal.nD,
          r.2.mem ((c.tc : Thread Cert.DobRefIdeal.nD Cert.DobRefIdeal.τ).loc Cert.DobRefIdeal.main_v7) = v0 c
          ∧ r.2.mem ((c.tc : Thread Cert.DobRefIdeal.nD Cert.DobRefIdeal.τ).loc Cert.DobRefIdeal.main_arg0) = m' ((c.tc : Thread Cert.DobRefIdeal.nD Cert.DobRefIdeal.τ).loc Cert.DobRefIdeal.main_arg0)
          ∧ r.2.mem ((c.tc : Thread Cert.DobRefIdeal.nD Cert.DobRefIdeal.τ).loc Cert.DobRefIdeal.main_arg1) = m' ((c.tc : Thread Cert.DobRefIdeal.nD Cert.DobRefIdeal.τ).loc Cert.DobRefIdeal.main_arg1))

def algebraic_GwoIdeal_GwoRefIdeal [hGwoIdeal : Cert.GwoIdeal.Facts] [hGwoRefIdeal : Cert.GwoRefIdeal.Facts] : Prop :=
  ∀ (m : (ℓ : Loc Cert.GwoIdeal.nD Cert.GwoIdeal.τ Cert.GwoIdeal.sig) → Buf (Elt Ideal) ℓ) (g : Dev Cert.GwoIdeal.nD → PrngReg)
    (m' : (ℓ : Loc Cert.GwoRefIdeal.nD Cert.GwoRefIdeal.τ Cert.GwoRefIdeal.sig) → Buf (Elt Ideal) ℓ) (g' : Dev Cert.GwoRefIdeal.nD → PrngReg), Pre_GwoIdeal m →
    (∀ c : Dev Cert.GwoIdeal.nD,
      m' ((c.tc : Thread Cert.GwoRefIdeal.nD Cert.GwoRefIdeal.τ).loc Cert.GwoRefIdeal.main_arg0) = m ((c.tc : Thread Cert.GwoIdeal.nD Cert.GwoIdeal.τ).loc Cert.GwoIdeal.main_arg0)
      ∧ m' ((c.tc : Thread Cert.GwoRefIdeal.nD Cert.GwoRefIdeal.τ).loc Cert.GwoRefIdeal.main_arg1) = m ((c.tc : Thread Cert.GwoIdeal.nD Cert.GwoIdeal.τ).loc Cert.GwoIdeal.main_arg1)
      ∧ m' ((c.tc : Thread Cert.GwoRefIdeal.nD Cert.GwoRefIdeal.τ).loc Cert.GwoRefIdeal.main_arg2) = m ((c.tc : Thread Cert.GwoIdeal.nD Cert.GwoIdeal.τ).loc Cert.GwoIdeal.main_arg2)) →
    ∃ (v0 : (c : Dev Cert.GwoIdeal.nD) → Buf (Elt Ideal) ((c.tc : Thread Cert.GwoIdeal.nD Cert.GwoIdeal.τ).loc Cert.GwoIdeal.main_v0)),
      θ_run (Cert.GwoIdeal.defs (F := Ideal)) (onTc (τ := Cert.GwoIdeal.τ) (Cert.GwoIdeal.main (F := Ideal))) ⟨m, fun _ => 0, g⟩ (fun r => ∀ c : Dev Cert.GwoIdeal.nD,
          r.2.mem ((c.tc : Thread Cert.GwoIdeal.nD Cert.GwoIdeal.τ).loc Cert.GwoIdeal.main_v0) = v0 c
          ∧ r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
          ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1)
          ∧ r.2.mem ((c.tc : Thread Cert.GwoIdeal.nD Cert.GwoIdeal.τ).loc Cert.GwoIdeal.main_arg2) = m ((c.tc : Thread Cert.GwoIdeal.nD Cert.GwoIdeal.τ).loc Cert.GwoIdeal.main_arg2))
      ∧ θ_run (Cert.GwoRefIdeal.defs (F := Ideal)) (onTc (τ := Cert.GwoRefIdeal.τ) (Cert.GwoRefIdeal.main (F := Ideal))) ⟨m', fun _ => 0, g'⟩ (fun r => ∀ c : Dev Cert.GwoRefIdeal.nD,
          r.2.mem ((c.tc : Thread Cert.GwoRefIdeal.nD Cert.GwoRefIdeal.τ).loc Cert.GwoRefIdeal.main_v8) = v0 c
          ∧ r.2.mem ((c.tc : Thread Cert.GwoRefIdeal.nD Cert.GwoRefIdeal.τ).loc Cert.GwoRefIdeal.main_arg0) = m' ((c.tc : Thread Cert.GwoRefIdeal.nD Cert.GwoRefIdeal.τ).loc Cert.GwoRefIdeal.main_arg0)
          ∧ r.2.mem ((c.tc : Thread Cert.GwoRefIdeal.nD Cert.GwoRefIdeal.τ).loc Cert.GwoRefIdeal.main_arg1) = m' ((c.tc : Thread Cert.GwoRefIdeal.nD Cert.GwoRefIdeal.τ).loc Cert.GwoRefIdeal.main_arg1)
          ∧ r.2.mem ((c.tc : Thread Cert.GwoRefIdeal.nD Cert.GwoRefIdeal.τ).loc Cert.GwoRefIdeal.main_arg2) = m' ((c.tc : Thread Cert.GwoRefIdeal.nD Cert.GwoRefIdeal.τ).loc Cert.GwoRefIdeal.main_arg2))

def algebraic_GwqIdeal_GwqRefIdeal [hGwqIdeal : Cert.GwqIdeal.Facts] [hGwqRefIdeal : Cert.GwqRefIdeal.Facts] : Prop :=
  ∀ (m : (ℓ : Loc Cert.GwqIdeal.nD Cert.GwqIdeal.τ Cert.GwqIdeal.sig) → Buf (Elt Ideal) ℓ) (g : Dev Cert.GwqIdeal.nD → PrngReg)
    (m' : (ℓ : Loc Cert.GwqRefIdeal.nD Cert.GwqRefIdeal.τ Cert.GwqRefIdeal.sig) → Buf (Elt Ideal) ℓ) (g' : Dev Cert.GwqRefIdeal.nD → PrngReg), Pre_GwqIdeal m →
    (∀ c : Dev Cert.GwqIdeal.nD,
      m' ((c.tc : Thread Cert.GwqRefIdeal.nD Cert.GwqRefIdeal.τ).loc Cert.GwqRefIdeal.main_arg0) = m ((c.tc : Thread Cert.GwqIdeal.nD Cert.GwqIdeal.τ).loc Cert.GwqIdeal.main_arg0)
      ∧ m' ((c.tc : Thread Cert.GwqRefIdeal.nD Cert.GwqRefIdeal.τ).loc Cert.GwqRefIdeal.main_arg1) = m ((c.tc : Thread Cert.GwqIdeal.nD Cert.GwqIdeal.τ).loc Cert.GwqIdeal.main_arg1)
      ∧ m' ((c.tc : Thread Cert.GwqRefIdeal.nD Cert.GwqRefIdeal.τ).loc Cert.GwqRefIdeal.main_arg2) = m ((c.tc : Thread Cert.GwqIdeal.nD Cert.GwqIdeal.τ).loc Cert.GwqIdeal.main_arg2)) →
    ∃ (v0 : (c : Dev Cert.GwqIdeal.nD) → Buf (Elt Ideal) ((c.tc : Thread Cert.GwqIdeal.nD Cert.GwqIdeal.τ).loc Cert.GwqIdeal.main_v0)),
      θ_run (Cert.GwqIdeal.defs (F := Ideal)) (onTc (τ := Cert.GwqIdeal.τ) (Cert.GwqIdeal.main (F := Ideal))) ⟨m, fun _ => 0, g⟩ (fun r => ∀ c : Dev Cert.GwqIdeal.nD,
          r.2.mem ((c.tc : Thread Cert.GwqIdeal.nD Cert.GwqIdeal.τ).loc Cert.GwqIdeal.main_v0) = v0 c
          ∧ r.2.mem ((c.tc : Thread Cert.GwqIdeal.nD Cert.GwqIdeal.τ).loc Cert.GwqIdeal.main_arg0) = m ((c.tc : Thread Cert.GwqIdeal.nD Cert.GwqIdeal.τ).loc Cert.GwqIdeal.main_arg0)
          ∧ r.2.mem ((c.tc : Thread Cert.GwqIdeal.nD Cert.GwqIdeal.τ).loc Cert.GwqIdeal.main_arg1) = m ((c.tc : Thread Cert.GwqIdeal.nD Cert.GwqIdeal.τ).loc Cert.GwqIdeal.main_arg1)
          ∧ r.2.mem ((c.tc : Thread Cert.GwqIdeal.nD Cert.GwqIdeal.τ).loc Cert.GwqIdeal.main_arg2) = m ((c.tc : Thread Cert.GwqIdeal.nD Cert.GwqIdeal.τ).loc Cert.GwqIdeal.main_arg2))
      ∧ θ_run (Cert.GwqRefIdeal.defs (F := Ideal)) (onTc (τ := Cert.GwqRefIdeal.τ) (Cert.GwqRefIdeal.main (F := Ideal))) ⟨m', fun _ => 0, g'⟩ (fun r => ∀ c : Dev Cert.GwqRefIdeal.nD,
          r.2.mem ((c.tc : Thread Cert.GwqRefIdeal.nD Cert.GwqRefIdeal.τ).loc Cert.GwqRefIdeal.main_v9) = v0 c
          ∧ r.2.mem ((c.tc : Thread Cert.GwqRefIdeal.nD Cert.GwqRefIdeal.τ).loc Cert.GwqRefIdeal.main_arg0) = m' ((c.tc : Thread Cert.GwqRefIdeal.nD Cert.GwqRefIdeal.τ).loc Cert.GwqRefIdeal.main_arg0)
          ∧ r.2.mem ((c.tc : Thread Cert.GwqRefIdeal.nD Cert.GwqRefIdeal.τ).loc Cert.GwqRefIdeal.main_arg1) = m' ((c.tc : Thread Cert.GwqRefIdeal.nD Cert.GwqRefIdeal.τ).loc Cert.GwqRefIdeal.main_arg1)
          ∧ r.2.mem ((c.tc : Thread Cert.GwqRefIdeal.nD Cert.GwqRefIdeal.τ).loc Cert.GwqRefIdeal.main_arg2) = m' ((c.tc : Thread Cert.GwqRefIdeal.nD Cert.GwqRefIdeal.τ).loc Cert.GwqRefIdeal.main_arg2))

def algebraic_GwoutaIdeal_GwoutaRefIdeal [hGwoutaIdeal : Cert.GwoutaIdeal.Facts] [hGwoutaRefIdeal : Cert.GwoutaRefIdeal.Facts] : Prop :=
  ∀ (m : (ℓ : Loc Cert.GwoutaIdeal.nD Cert.GwoutaIdeal.τ Cert.GwoutaIdeal.sig) → Buf (Elt Ideal) ℓ) (g : Dev Cert.GwoutaIdeal.nD → PrngReg)
    (m' : (ℓ : Loc Cert.GwoutaRefIdeal.nD Cert.GwoutaRefIdeal.τ Cert.GwoutaRefIdeal.sig) → Buf (Elt Ideal) ℓ) (g' : Dev Cert.GwoutaRefIdeal.nD → PrngReg), Pre_GwoutaIdeal m →
    (∀ c : Dev Cert.GwoutaIdeal.nD,
      m' ((c.tc : Thread Cert.GwoutaRefIdeal.nD Cert.GwoutaRefIdeal.τ).loc Cert.GwoutaRefIdeal.main_arg0) = m ((c.tc : Thread Cert.GwoutaIdeal.nD Cert.GwoutaIdeal.τ).loc Cert.GwoutaIdeal.main_arg0)
      ∧ m' ((c.tc : Thread Cert.GwoutaRefIdeal.nD Cert.GwoutaRefIdeal.τ).loc Cert.GwoutaRefIdeal.main_arg1) = m ((c.tc : Thread Cert.GwoutaIdeal.nD Cert.GwoutaIdeal.τ).loc Cert.GwoutaIdeal.main_arg1)
      ∧ m' ((c.tc : Thread Cert.GwoutaRefIdeal.nD Cert.GwoutaRefIdeal.τ).loc Cert.GwoutaRefIdeal.main_arg2) = m ((c.tc : Thread Cert.GwoutaIdeal.nD Cert.GwoutaIdeal.τ).loc Cert.GwoutaIdeal.main_arg2)) →
    ∃ (v0 : (c : Dev Cert.GwoutaIdeal.nD) → Buf (Elt Ideal) ((c.tc : Thread Cert.GwoutaIdeal.nD Cert.GwoutaIdeal.τ).loc Cert.GwoutaIdeal.main_v0)),
      θ_run (Cert.GwoutaIdeal.defs (F := Ideal)) (onTc (τ := Cert.GwoutaIdeal.τ) (Cert.GwoutaIdeal.main (F := Ideal))) ⟨m, fun _ => 0, g⟩ (fun r => ∀ c : Dev Cert.GwoutaIdeal.nD,
          r.2.mem ((c.tc : Thread Cert.GwoutaIdeal.nD Cert.GwoutaIdeal.τ).loc Cert.GwoutaIdeal.main_v0) = v0 c
          ∧ r.2.mem ((c.tc : Thread Cert.GwoutaIdeal.nD Cert.GwoutaIdeal.τ).loc Cert.GwoutaIdeal.main_arg0) = m ((c.tc : Thread Cert.GwoutaIdeal.nD Cert.GwoutaIdeal.τ).loc Cert.GwoutaIdeal.main_arg0)
          ∧ r.2.mem ((c.tc : Thread Cert.GwoutaIdeal.nD Cert.GwoutaIdeal.τ).loc Cert.GwoutaIdeal.main_arg1) = m ((c.tc : Thread Cert.GwoutaIdeal.nD Cert.GwoutaIdeal.τ).loc Cert.GwoutaIdeal.main_arg1)
          ∧ r.2.mem ((c.tc : Thread Cert.GwoutaIdeal.nD Cert.GwoutaIdeal.τ).loc Cert.GwoutaIdeal.main_arg2) = m ((c.tc : Thread Cert.GwoutaIdeal.nD Cert.GwoutaIdeal.τ).loc Cert.GwoutaIdeal.main_arg2))
      ∧ θ_run (Cert.GwoutaRefIdeal.defs (F := Ideal)) (onTc (τ := Cert.GwoutaRefIdeal.τ) (Cert.GwoutaRefIdeal.main (F := Ideal))) ⟨m', fun _ => 0, g'⟩ (fun r => ∀ c : Dev Cert.GwoutaRefIdeal.nD,
          r.2.mem ((c.tc : Thread Cert.GwoutaRefIdeal.nD Cert.GwoutaRefIdeal.τ).loc Cert.GwoutaRefIdeal.main_v11) = v0 c
          ∧ r.2.mem ((c.tc : Thread Cert.GwoutaRefIdeal.nD Cert.GwoutaRefIdeal.τ).loc Cert.GwoutaRefIdeal.main_arg0) = m' ((c.tc : Thread Cert.GwoutaRefIdeal.nD Cert.GwoutaRefIdeal.τ).loc Cert.GwoutaRefIdeal.main_arg0)
          ∧ r.2.mem ((c.tc : Thread Cert.GwoutaRefIdeal.nD Cert.GwoutaRefIdeal.τ).loc Cert.GwoutaRefIdeal.main_arg1) = m' ((c.tc : Thread Cert.GwoutaRefIdeal.nD Cert.GwoutaRefIdeal.τ).loc Cert.GwoutaRefIdeal.main_arg1)
          ∧ r.2.mem ((c.tc : Thread Cert.GwoutaRefIdeal.nD Cert.GwoutaRefIdeal.τ).loc Cert.GwoutaRefIdeal.main_arg2) = m' ((c.tc : Thread Cert.GwoutaRefIdeal.nD Cert.GwoutaRefIdeal.τ).loc Cert.GwoutaRefIdeal.main_arg2))

def algebraic_GwoutbIdeal_GwoutbRefIdeal [hGwoutbIdeal : Cert.GwoutbIdeal.Facts] [hGwoutbRefIdeal : Cert.GwoutbRefIdeal.Facts] : Prop :=
  ∀ (m : (ℓ : Loc Cert.GwoutbIdeal.nD Cert.GwoutbIdeal.τ Cert.GwoutbIdeal.sig) → Buf (Elt Ideal) ℓ) (g : Dev Cert.GwoutbIdeal.nD → PrngReg)
    (m' : (ℓ : Loc Cert.GwoutbRefIdeal.nD Cert.GwoutbRefIdeal.τ Cert.GwoutbRefIdeal.sig) → Buf (Elt Ideal) ℓ) (g' : Dev Cert.GwoutbRefIdeal.nD → PrngReg), Pre_GwoutbIdeal m →
    (∀ c : Dev Cert.GwoutbIdeal.nD,
      m' ((c.tc : Thread Cert.GwoutbRefIdeal.nD Cert.GwoutbRefIdeal.τ).loc Cert.GwoutbRefIdeal.main_arg0) = m ((c.tc : Thread Cert.GwoutbIdeal.nD Cert.GwoutbIdeal.τ).loc Cert.GwoutbIdeal.main_arg0)
      ∧ m' ((c.tc : Thread Cert.GwoutbRefIdeal.nD Cert.GwoutbRefIdeal.τ).loc Cert.GwoutbRefIdeal.main_arg1) = m ((c.tc : Thread Cert.GwoutbIdeal.nD Cert.GwoutbIdeal.τ).loc Cert.GwoutbIdeal.main_arg1)
      ∧ m' ((c.tc : Thread Cert.GwoutbRefIdeal.nD Cert.GwoutbRefIdeal.τ).loc Cert.GwoutbRefIdeal.main_arg2) = m ((c.tc : Thread Cert.GwoutbIdeal.nD Cert.GwoutbIdeal.τ).loc Cert.GwoutbIdeal.main_arg2)) →
    ∃ (v0 : (c : Dev Cert.GwoutbIdeal.nD) → Buf (Elt Ideal) ((c.tc : Thread Cert.GwoutbIdeal.nD Cert.GwoutbIdeal.τ).loc Cert.GwoutbIdeal.main_v0)),
      θ_run (Cert.GwoutbIdeal.defs (F := Ideal)) (onTc (τ := Cert.GwoutbIdeal.τ) (Cert.GwoutbIdeal.main (F := Ideal))) ⟨m, fun _ => 0, g⟩ (fun r => ∀ c : Dev Cert.GwoutbIdeal.nD,
          r.2.mem ((c.tc : Thread Cert.GwoutbIdeal.nD Cert.GwoutbIdeal.τ).loc Cert.GwoutbIdeal.main_v0) = v0 c
          ∧ r.2.mem ((c.tc : Thread Cert.GwoutbIdeal.nD Cert.GwoutbIdeal.τ).loc Cert.GwoutbIdeal.main_arg0) = m ((c.tc : Thread Cert.GwoutbIdeal.nD Cert.GwoutbIdeal.τ).loc Cert.GwoutbIdeal.main_arg0)
          ∧ r.2.mem ((c.tc : Thread Cert.GwoutbIdeal.nD Cert.GwoutbIdeal.τ).loc Cert.GwoutbIdeal.main_arg1) = m ((c.tc : Thread Cert.GwoutbIdeal.nD Cert.GwoutbIdeal.τ).loc Cert.GwoutbIdeal.main_arg1)
          ∧ r.2.mem ((c.tc : Thread Cert.GwoutbIdeal.nD Cert.GwoutbIdeal.τ).loc Cert.GwoutbIdeal.main_arg2) = m ((c.tc : Thread Cert.GwoutbIdeal.nD Cert.GwoutbIdeal.τ).loc Cert.GwoutbIdeal.main_arg2))
      ∧ θ_run (Cert.GwoutbRefIdeal.defs (F := Ideal)) (onTc (τ := Cert.GwoutbRefIdeal.τ) (Cert.GwoutbRefIdeal.main (F := Ideal))) ⟨m', fun _ => 0, g'⟩ (fun r => ∀ c : Dev Cert.GwoutbRefIdeal.nD,
          r.2.mem ((c.tc : Thread Cert.GwoutbRefIdeal.nD Cert.GwoutbRefIdeal.τ).loc Cert.GwoutbRefIdeal.main_v11) = v0 c
          ∧ r.2.mem ((c.tc : Thread Cert.GwoutbRefIdeal.nD Cert.GwoutbRefIdeal.τ).loc Cert.GwoutbRefIdeal.main_arg0) = m' ((c.tc : Thread Cert.GwoutbRefIdeal.nD Cert.GwoutbRefIdeal.τ).loc Cert.GwoutbRefIdeal.main_arg0)
          ∧ r.2.mem ((c.tc : Thread Cert.GwoutbRefIdeal.nD Cert.GwoutbRefIdeal.τ).loc Cert.GwoutbRefIdeal.main_arg1) = m' ((c.tc : Thread Cert.GwoutbRefIdeal.nD Cert.GwoutbRefIdeal.τ).loc Cert.GwoutbRefIdeal.main_arg1)
          ∧ r.2.mem ((c.tc : Thread Cert.GwoutbRefIdeal.nD Cert.GwoutbRefIdeal.τ).loc Cert.GwoutbRefIdeal.main_arg2) = m' ((c.tc : Thread Cert.GwoutbRefIdeal.nD Cert.GwoutbRefIdeal.τ).loc Cert.GwoutbRefIdeal.main_arg2))

def algebraic_Rms1Ideal_Rms1RefIdeal [hRms1Ideal : Cert.Rms1Ideal.Facts] [hRms1RefIdeal : Cert.Rms1RefIdeal.Facts] : Prop :=
  ∀ (m : (ℓ : Loc Cert.Rms1Ideal.nD Cert.Rms1Ideal.τ Cert.Rms1Ideal.sig) → Buf (Elt Ideal) ℓ) (g : Dev Cert.Rms1Ideal.nD → PrngReg)
    (m' : (ℓ : Loc Cert.Rms1RefIdeal.nD Cert.Rms1RefIdeal.τ Cert.Rms1RefIdeal.sig) → Buf (Elt Ideal) ℓ) (g' : Dev Cert.Rms1RefIdeal.nD → PrngReg), Pre_Rms1Ideal m →
    (∀ c : Dev Cert.Rms1Ideal.nD,
      m' ((c.tc : Thread Cert.Rms1RefIdeal.nD Cert.Rms1RefIdeal.τ).loc Cert.Rms1RefIdeal.main_arg0) = m ((c.tc : Thread Cert.Rms1Ideal.nD Cert.Rms1Ideal.τ).loc Cert.Rms1Ideal.main_arg0)
      ∧ m' ((c.tc : Thread Cert.Rms1RefIdeal.nD Cert.Rms1RefIdeal.τ).loc Cert.Rms1RefIdeal.main_arg1) = m ((c.tc : Thread Cert.Rms1Ideal.nD Cert.Rms1Ideal.τ).loc Cert.Rms1Ideal.main_arg1)
      ∧ m' ((c.tc : Thread Cert.Rms1RefIdeal.nD Cert.Rms1RefIdeal.τ).loc Cert.Rms1RefIdeal.main_arg2) = m ((c.tc : Thread Cert.Rms1Ideal.nD Cert.Rms1Ideal.τ).loc Cert.Rms1Ideal.main_arg2)
      ∧ m' ((c.tc : Thread Cert.Rms1RefIdeal.nD Cert.Rms1RefIdeal.τ).loc Cert.Rms1RefIdeal.main_arg3) = m ((c.tc : Thread Cert.Rms1Ideal.nD Cert.Rms1Ideal.τ).loc Cert.Rms1Ideal.main_arg3)) →
    ∃ (v0 : (c : Dev Cert.Rms1Ideal.nD) → Buf (Elt Ideal) ((c.tc : Thread Cert.Rms1Ideal.nD Cert.Rms1Ideal.τ).loc Cert.Rms1Ideal.main_v1_0)) (v1 : (c : Dev Cert.Rms1Ideal.nD) → Buf (Elt Ideal) ((c.tc : Thread Cert.Rms1Ideal.nD Cert.Rms1Ideal.τ).loc Cert.Rms1Ideal.main_v1_1)),
      θ_run (Cert.Rms1Ideal.defs (F := Ideal)) (onTc (τ := Cert.Rms1Ideal.τ) (Cert.Rms1Ideal.main (F := Ideal))) ⟨m, fun _ => 0, g⟩ (fun r => ∀ c : Dev Cert.Rms1Ideal.nD,
          r.2.mem ((c.tc : Thread Cert.Rms1Ideal.nD Cert.Rms1Ideal.τ).loc Cert.Rms1Ideal.main_v1_0) = v0 c
          ∧ r.2.mem ((c.tc : Thread Cert.Rms1Ideal.nD Cert.Rms1Ideal.τ).loc Cert.Rms1Ideal.main_v1_1) = v1 c
          ∧ r.2.mem ((c.tc : Thread Cert.Rms1Ideal.nD Cert.Rms1Ideal.τ).loc Cert.Rms1Ideal.main_arg0) = m ((c.tc : Thread Cert.Rms1Ideal.nD Cert.Rms1Ideal.τ).loc Cert.Rms1Ideal.main_arg0)
          ∧ r.2.mem ((c.tc : Thread Cert.Rms1Ideal.nD Cert.Rms1Ideal.τ).loc Cert.Rms1Ideal.main_arg1) = m ((c.tc : Thread Cert.Rms1Ideal.nD Cert.Rms1Ideal.τ).loc Cert.Rms1Ideal.main_arg1)
          ∧ r.2.mem ((c.tc : Thread Cert.Rms1Ideal.nD Cert.Rms1Ideal.τ).loc Cert.Rms1Ideal.main_arg2) = m ((c.tc : Thread Cert.Rms1Ideal.nD Cert.Rms1Ideal.τ).loc Cert.Rms1Ideal.main_arg2)
          ∧ r.2.mem ((c.tc : Thread Cert.Rms1Ideal.nD Cert.Rms1Ideal.τ).loc Cert.Rms1Ideal.main_arg3) = m ((c.tc : Thread Cert.Rms1Ideal.nD Cert.Rms1Ideal.τ).loc Cert.Rms1Ideal.main_arg3))
      ∧ θ_run (Cert.Rms1RefIdeal.defs (F := Ideal)) (onTc (τ := Cert.Rms1RefIdeal.τ) (Cert.Rms1RefIdeal.main (F := Ideal))) ⟨m', fun _ => 0, g'⟩ (fun r => ∀ c : Dev Cert.Rms1RefIdeal.nD,
          r.2.mem ((c.tc : Thread Cert.Rms1RefIdeal.nD Cert.Rms1RefIdeal.τ).loc Cert.Rms1RefIdeal.main_v36) = v0 c
          ∧ r.2.mem ((c.tc : Thread Cert.Rms1RefIdeal.nD Cert.Rms1RefIdeal.τ).loc Cert.Rms1RefIdeal.main_v37) = v1 c
          ∧ r.2.mem ((c.tc : Thread Cert.Rms1RefIdeal.nD Cert.Rms1RefIdeal.τ).loc Cert.Rms1RefIdeal.main_arg0) = m' ((c.tc : Thread Cert.Rms1RefIdeal.nD Cert.Rms1RefIdeal.τ).loc Cert.Rms1RefIdeal.main_arg0)
          ∧ r.2.mem ((c.tc : Thread Cert.Rms1RefIdeal.nD Cert.Rms1RefIdeal.τ).loc Cert.Rms1RefIdeal.main_arg1) = m' ((c.tc : Thread Cert.Rms1RefIdeal.nD Cert.Rms1RefIdeal.τ).loc Cert.Rms1RefIdeal.main_arg1)
          ∧ r.2.mem ((c.tc : Thread Cert.Rms1RefIdeal.nD Cert.Rms1RefIdeal.τ).loc Cert.Rms1RefIdeal.main_arg2) = m' ((c.tc : Thread Cert.Rms1RefIdeal.nD Cert.Rms1RefIdeal.τ).loc Cert.Rms1RefIdeal.main_arg2)
          ∧ r.2.mem ((c.tc : Thread Cert.Rms1RefIdeal.nD Cert.Rms1RefIdeal.τ).loc Cert.Rms1RefIdeal.main_arg3) = m' ((c.tc : Thread Cert.Rms1RefIdeal.nD Cert.Rms1RefIdeal.τ).loc Cert.Rms1RefIdeal.main_arg3))

def algebraic_Rms3Ideal_Rms3RefIdeal [hRms3Ideal : Cert.Rms3Ideal.Facts] [hRms3RefIdeal : Cert.Rms3RefIdeal.Facts] : Prop :=
  ∀ (m : (ℓ : Loc Cert.Rms3Ideal.nD Cert.Rms3Ideal.τ Cert.Rms3Ideal.sig) → Buf (Elt Ideal) ℓ) (g : Dev Cert.Rms3Ideal.nD → PrngReg)
    (m' : (ℓ : Loc Cert.Rms3RefIdeal.nD Cert.Rms3RefIdeal.τ Cert.Rms3RefIdeal.sig) → Buf (Elt Ideal) ℓ) (g' : Dev Cert.Rms3RefIdeal.nD → PrngReg), Pre_Rms3Ideal m →
    (∀ c : Dev Cert.Rms3Ideal.nD,
      m' ((c.tc : Thread Cert.Rms3RefIdeal.nD Cert.Rms3RefIdeal.τ).loc Cert.Rms3RefIdeal.main_arg0) = m ((c.tc : Thread Cert.Rms3Ideal.nD Cert.Rms3Ideal.τ).loc Cert.Rms3Ideal.main_arg0)
      ∧ m' ((c.tc : Thread Cert.Rms3RefIdeal.nD Cert.Rms3RefIdeal.τ).loc Cert.Rms3RefIdeal.main_arg1) = m ((c.tc : Thread Cert.Rms3Ideal.nD Cert.Rms3Ideal.τ).loc Cert.Rms3Ideal.main_arg1)
      ∧ m' ((c.tc : Thread Cert.Rms3RefIdeal.nD Cert.Rms3RefIdeal.τ).loc Cert.Rms3RefIdeal.main_arg2) = m ((c.tc : Thread Cert.Rms3Ideal.nD Cert.Rms3Ideal.τ).loc Cert.Rms3Ideal.main_arg2)
      ∧ m' ((c.tc : Thread Cert.Rms3RefIdeal.nD Cert.Rms3RefIdeal.τ).loc Cert.Rms3RefIdeal.main_arg3) = m ((c.tc : Thread Cert.Rms3Ideal.nD Cert.Rms3Ideal.τ).loc Cert.Rms3Ideal.main_arg3)) →
    ∃ (v0 : (c : Dev Cert.Rms3Ideal.nD) → Buf (Elt Ideal) ((c.tc : Thread Cert.Rms3Ideal.nD Cert.Rms3Ideal.τ).loc Cert.Rms3Ideal.main_v1_0)) (v1 : (c : Dev Cert.Rms3Ideal.nD) → Buf (Elt Ideal) ((c.tc : Thread Cert.Rms3Ideal.nD Cert.Rms3Ideal.τ).loc Cert.Rms3Ideal.main_v1_1)) (v2 : (c : Dev Cert.Rms3Ideal.nD) → Buf (Elt Ideal) ((c.tc : Thread Cert.Rms3Ideal.nD Cert.Rms3Ideal.τ).loc Cert.Rms3Ideal.main_v1_2)),
      θ_run (Cert.Rms3Ideal.defs (F := Ideal)) (onTc (τ := Cert.Rms3Ideal.τ) (Cert.Rms3Ideal.main (F := Ideal))) ⟨m, fun _ => 0, g⟩ (fun r => ∀ c : Dev Cert.Rms3Ideal.nD,
          r.2.mem ((c.tc : Thread Cert.Rms3Ideal.nD Cert.Rms3Ideal.τ).loc Cert.Rms3Ideal.main_v1_0) = v0 c
          ∧ r.2.mem ((c.tc : Thread Cert.Rms3Ideal.nD Cert.Rms3Ideal.τ).loc Cert.Rms3Ideal.main_v1_1) = v1 c
          ∧ r.2.mem ((c.tc : Thread Cert.Rms3Ideal.nD Cert.Rms3Ideal.τ).loc Cert.Rms3Ideal.main_v1_2) = v2 c
          ∧ r.2.mem ((c.tc : Thread Cert.Rms3Ideal.nD Cert.Rms3Ideal.τ).loc Cert.Rms3Ideal.main_arg0) = m ((c.tc : Thread Cert.Rms3Ideal.nD Cert.Rms3Ideal.τ).loc Cert.Rms3Ideal.main_arg0)
          ∧ r.2.mem ((c.tc : Thread Cert.Rms3Ideal.nD Cert.Rms3Ideal.τ).loc Cert.Rms3Ideal.main_arg1) = m ((c.tc : Thread Cert.Rms3Ideal.nD Cert.Rms3Ideal.τ).loc Cert.Rms3Ideal.main_arg1)
          ∧ r.2.mem ((c.tc : Thread Cert.Rms3Ideal.nD Cert.Rms3Ideal.τ).loc Cert.Rms3Ideal.main_arg2) = m ((c.tc : Thread Cert.Rms3Ideal.nD Cert.Rms3Ideal.τ).loc Cert.Rms3Ideal.main_arg2)
          ∧ r.2.mem ((c.tc : Thread Cert.Rms3Ideal.nD Cert.Rms3Ideal.τ).loc Cert.Rms3Ideal.main_arg3) = m ((c.tc : Thread Cert.Rms3Ideal.nD Cert.Rms3Ideal.τ).loc Cert.Rms3Ideal.main_arg3))
      ∧ θ_run (Cert.Rms3RefIdeal.defs (F := Ideal)) (onTc (τ := Cert.Rms3RefIdeal.τ) (Cert.Rms3RefIdeal.main (F := Ideal))) ⟨m', fun _ => 0, g'⟩ (fun r => ∀ c : Dev Cert.Rms3RefIdeal.nD,
          r.2.mem ((c.tc : Thread Cert.Rms3RefIdeal.nD Cert.Rms3RefIdeal.τ).loc Cert.Rms3RefIdeal.main_v36) = v0 c
          ∧ r.2.mem ((c.tc : Thread Cert.Rms3RefIdeal.nD Cert.Rms3RefIdeal.τ).loc Cert.Rms3RefIdeal.main_v38) = v1 c
          ∧ r.2.mem ((c.tc : Thread Cert.Rms3RefIdeal.nD Cert.Rms3RefIdeal.τ).loc Cert.Rms3RefIdeal.main_v39) = v2 c
          ∧ r.2.mem ((c.tc : Thread Cert.Rms3RefIdeal.nD Cert.Rms3RefIdeal.τ).loc Cert.Rms3RefIdeal.main_arg0) = m' ((c.tc : Thread Cert.Rms3RefIdeal.nD Cert.Rms3RefIdeal.τ).loc Cert.Rms3RefIdeal.main_arg0)
          ∧ r.2.mem ((c.tc : Thread Cert.Rms3RefIdeal.nD Cert.Rms3RefIdeal.τ).loc Cert.Rms3RefIdeal.main_arg1) = m' ((c.tc : Thread Cert.Rms3RefIdeal.nD Cert.Rms3RefIdeal.τ).loc Cert.Rms3RefIdeal.main_arg1)
          ∧ r.2.mem ((c.tc : Thread Cert.Rms3RefIdeal.nD Cert.Rms3RefIdeal.τ).loc Cert.Rms3RefIdeal.main_arg2) = m' ((c.tc : Thread Cert.Rms3RefIdeal.nD Cert.Rms3RefIdeal.τ).loc Cert.Rms3RefIdeal.main_arg2)
          ∧ r.2.mem ((c.tc : Thread Cert.Rms3RefIdeal.nD Cert.Rms3RefIdeal.τ).loc Cert.Rms3RefIdeal.main_arg3) = m' ((c.tc : Thread Cert.Rms3RefIdeal.nD Cert.Rms3RefIdeal.τ).loc Cert.Rms3RefIdeal.main_arg3))

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)
      ∧ m' ((c.tc : Thread Cert.AdamWinRefIdeal.nD Cert.AdamWinRefIdeal.τ).loc Cert.AdamWinRefIdeal.main_arg4) = m ((c.tc : Thread Cert.AdamWinIdeal.nD Cert.AdamWinIdeal.τ).loc Cert.AdamWinIdeal.main_arg4)
      ∧ m' ((c.tc : Thread Cert.AdamWinRefIdeal.nD Cert.AdamWinRefIdeal.τ).loc Cert.AdamWinRefIdeal.main_arg5) = m ((c.tc : Thread Cert.AdamWinIdeal.nD Cert.AdamWinIdeal.τ).loc Cert.AdamWinIdeal.main_arg5)) →
    ∃ (v0 : (c : Dev Cert.AdamWinIdeal.nD) → Buf (Elt Ideal) ((c.tc : Thread Cert.AdamWinIdeal.nD Cert.AdamWinIdeal.τ).loc Cert.AdamWinIdeal.main_v9)) (v1 : (c : Dev Cert.AdamWinIdeal.nD) → Buf (Elt Ideal) ((c.tc : Thread Cert.AdamWinIdeal.nD Cert.AdamWinIdeal.τ).loc Cert.AdamWinIdeal.main_v10)) (v2 : (c : Dev Cert.AdamWinIdeal.nD) → Buf (Elt Ideal) ((c.tc : Thread Cert.AdamWinIdeal.nD Cert.AdamWinIdeal.τ).loc Cert.AdamWinIdeal.main_v11)) (v3 : (c : Dev Cert.AdamWinIdeal.nD) → Buf (Elt Ideal) ((c.tc : Thread Cert.AdamWinIdeal.nD Cert.AdamWinIdeal.τ).loc Cert.AdamWinIdeal.main_v12)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v9) = v0 c
          ∧ r.2.mem ((c.tc : Thread Cert.AdamWinIdeal.nD Cert.AdamWinIdeal.τ).loc Cert.AdamWinIdeal.main_v10) = v1 c
          ∧ r.2.mem ((c.tc : Thread Cert.AdamWinIdeal.nD Cert.AdamWinIdeal.τ).loc Cert.AdamWinIdeal.main_v11) = v2 c
          ∧ r.2.mem ((c.tc : Thread Cert.AdamWinIdeal.nD Cert.AdamWinIdeal.τ).loc Cert.AdamWinIdeal.main_v12) = v3 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
          ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4)
          ∧ r.2.mem ((c.tc : Thread Cert.AdamWinIdeal.nD Cert.AdamWinIdeal.τ).loc Cert.AdamWinIdeal.main_arg5) = m ((c.tc : Thread Cert.AdamWinIdeal.nD Cert.AdamWinIdeal.τ).loc Cert.AdamWinIdeal.main_arg5))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v3) = v0 c
          ∧ r.2.mem ((c.tc : Thread Cert.AdamWinRefIdeal.nD Cert.AdamWinRefIdeal.τ).loc Cert.AdamWinRefIdeal.main_v27) = v1 c
          ∧ r.2.mem ((c.tc : Thread Cert.AdamWinRefIdeal.nD Cert.AdamWinRefIdeal.τ).loc Cert.AdamWinRefIdeal.main_v8) = v2 c
          ∧ r.2.mem ((c.tc : Thread Cert.AdamWinRefIdeal.nD Cert.AdamWinRefIdeal.τ).loc Cert.AdamWinRefIdeal.main_v14) = v3 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3)
          ∧ r.2.mem ((c.tc : Thread Cert.AdamWinRefIdeal.nD Cert.AdamWinRefIdeal.τ).loc Cert.AdamWinRefIdeal.main_arg4) = m' ((c.tc : Thread Cert.AdamWinRefIdeal.nD Cert.AdamWinRefIdeal.τ).loc Cert.AdamWinRefIdeal.main_arg4)
          ∧ r.2.mem ((c.tc : Thread Cert.AdamWinRefIdeal.nD Cert.AdamWinRefIdeal.τ).loc Cert.AdamWinRefIdeal.main_arg5) = m' ((c.tc : Thread Cert.AdamWinRefIdeal.nD Cert.AdamWinRefIdeal.τ).loc Cert.AdamWinRefIdeal.main_arg5))

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v7) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_v18) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v7) = v0 c
          ∧ r.2.mem ((c.tc : Thread Cert.AdamDownRefIdeal.nD Cert.AdamDownRefIdeal.τ).loc Cert.AdamDownRefIdeal.main_v31) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_v18) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def algebraic_AdamWqIdeal_AdamWqRefIdeal [hAdamWqIdeal : Cert.AdamWqIdeal.Facts] [hAdamWqRefIdeal : Cert.AdamWqRefIdeal.Facts] : Prop :=
  ∀ (m : (ℓ : Loc Cert.AdamWqIdeal.nD Cert.AdamWqIdeal.τ Cert.AdamWqIdeal.sig) → Buf (Elt Ideal) ℓ) (g : Dev Cert.AdamWqIdeal.nD → PrngReg)
    (m' : (ℓ : Loc Cert.AdamWqRefIdeal.nD Cert.AdamWqRefIdeal.τ Cert.AdamWqRefIdeal.sig) → Buf (Elt Ideal) ℓ) (g' : Dev Cert.AdamWqRefIdeal.nD → PrngReg), Pre_AdamWqIdeal m →
    (∀ c : Dev Cert.AdamWqIdeal.nD,
      m' ((c.tc : Thread Cert.AdamWqRefIdeal.nD Cert.AdamWqRefIdeal.τ).loc Cert.AdamWqRefIdeal.main_arg0) = m ((c.tc : Thread Cert.AdamWqIdeal.nD Cert.AdamWqIdeal.τ).loc Cert.AdamWqIdeal.main_arg0)
      ∧ m' ((c.tc : Thread Cert.AdamWqRefIdeal.nD Cert.AdamWqRefIdeal.τ).loc Cert.AdamWqRefIdeal.main_arg1) = m ((c.tc : Thread Cert.AdamWqIdeal.nD Cert.AdamWqIdeal.τ).loc Cert.AdamWqIdeal.main_arg1)
      ∧ m' ((c.tc : Thread Cert.AdamWqRefIdeal.nD Cert.AdamWqRefIdeal.τ).loc Cert.AdamWqRefIdeal.main_arg2) = m ((c.tc : Thread Cert.AdamWqIdeal.nD Cert.AdamWqIdeal.τ).loc Cert.AdamWqIdeal.main_arg2)
      ∧ m' ((c.tc : Thread Cert.AdamWqRefIdeal.nD Cert.AdamWqRefIdeal.τ).loc Cert.AdamWqRefIdeal.main_arg3) = m ((c.tc : Thread Cert.AdamWqIdeal.nD Cert.AdamWqIdeal.τ).loc Cert.AdamWqIdeal.main_arg3)
      ∧ m' ((c.tc : Thread Cert.AdamWqRefIdeal.nD Cert.AdamWqRefIdeal.τ).loc Cert.AdamWqRefIdeal.main_arg4) = m ((c.tc : Thread Cert.AdamWqIdeal.nD Cert.AdamWqIdeal.τ).loc Cert.AdamWqIdeal.main_arg4)
      ∧ m' ((c.tc : Thread Cert.AdamWqRefIdeal.nD Cert.AdamWqRefIdeal.τ).loc Cert.AdamWqRefIdeal.main_arg5) = m ((c.tc : Thread Cert.AdamWqIdeal.nD Cert.AdamWqIdeal.τ).loc Cert.AdamWqIdeal.main_arg5)) →
    ∃ (v0 : (c : Dev Cert.AdamWqIdeal.nD) → Buf (Elt Ideal) ((c.tc : Thread Cert.AdamWqIdeal.nD Cert.AdamWqIdeal.τ).loc Cert.AdamWqIdeal.main_v0_0)) (v1 : (c : Dev Cert.AdamWqIdeal.nD) → Buf (Elt Ideal) ((c.tc : Thread Cert.AdamWqIdeal.nD Cert.AdamWqIdeal.τ).loc Cert.AdamWqIdeal.main_v0_1)) (v2 : (c : Dev Cert.AdamWqIdeal.nD) → Buf (Elt Ideal) ((c.tc : Thread Cert.AdamWqIdeal.nD Cert.AdamWqIdeal.τ).loc Cert.AdamWqIdeal.main_v0_2)) (v3 : (c : Dev Cert.AdamWqIdeal.nD) → Buf (Elt Ideal) ((c.tc : Thread Cert.AdamWqIdeal.nD Cert.AdamWqIdeal.τ).loc Cert.AdamWqIdeal.main_v0_3)),
      θ_run (Cert.AdamWqIdeal.defs (F := Ideal)) (onTc (τ := Cert.AdamWqIdeal.τ) (Cert.AdamWqIdeal.main (F := Ideal))) ⟨m, fun _ => 0, g⟩ (fun r => ∀ c : Dev Cert.AdamWqIdeal.nD,
          r.2.mem ((c.tc : Thread Cert.AdamWqIdeal.nD Cert.AdamWqIdeal.τ).loc Cert.AdamWqIdeal.main_v0_0) = v0 c
          ∧ r.2.mem ((c.tc : Thread Cert.AdamWqIdeal.nD Cert.AdamWqIdeal.τ).loc Cert.AdamWqIdeal.main_v0_1) = v1 c
          ∧ r.2.mem ((c.tc : Thread Cert.AdamWqIdeal.nD Cert.AdamWqIdeal.τ).loc Cert.AdamWqIdeal.main_v0_2) = v2 c
          ∧ r.2.mem ((c.tc : Thread Cert.AdamWqIdeal.nD Cert.AdamWqIdeal.τ).loc Cert.AdamWqIdeal.main_v0_3) = v3 c
          ∧ r.2.mem ((c.tc : Thread Cert.AdamWqIdeal.nD Cert.AdamWqIdeal.τ).loc Cert.AdamWqIdeal.main_arg0) = m ((c.tc : Thread Cert.AdamWqIdeal.nD Cert.AdamWqIdeal.τ).loc Cert.AdamWqIdeal.main_arg0)
          ∧ r.2.mem ((c.tc : Thread Cert.AdamWqIdeal.nD Cert.AdamWqIdeal.τ).loc Cert.AdamWqIdeal.main_arg1) = m ((c.tc : Thread Cert.AdamWqIdeal.nD Cert.AdamWqIdeal.τ).loc Cert.AdamWqIdeal.main_arg1)
          ∧ r.2.mem ((c.tc : Thread Cert.AdamWqIdeal.nD Cert.AdamWqIdeal.τ).loc Cert.AdamWqIdeal.main_arg2) = m ((c.tc : Thread Cert.AdamWqIdeal.nD Cert.AdamWqIdeal.τ).loc Cert.AdamWqIdeal.main_arg2)
          ∧ r.2.mem ((c.tc : Thread Cert.AdamWqIdeal.nD Cert.AdamWqIdeal.τ).loc Cert.AdamWqIdeal.main_arg3) = m ((c.tc : Thread Cert.AdamWqIdeal.nD Cert.AdamWqIdeal.τ).loc Cert.AdamWqIdeal.main_arg3)
          ∧ r.2.mem ((c.tc : Thread Cert.AdamWqIdeal.nD Cert.AdamWqIdeal.τ).loc Cert.AdamWqIdeal.main_arg4) = m ((c.tc : Thread Cert.AdamWqIdeal.nD Cert.AdamWqIdeal.τ).loc Cert.AdamWqIdeal.main_arg4)
          ∧ r.2.mem ((c.tc : Thread Cert.AdamWqIdeal.nD Cert.AdamWqIdeal.τ).loc Cert.AdamWqIdeal.main_arg5) = m ((c.tc : Thread Cert.AdamWqIdeal.nD Cert.AdamWqIdeal.τ).loc Cert.AdamWqIdeal.main_arg5))
      ∧ θ_run (Cert.AdamWqRefIdeal.defs (F := Ideal)) (onTc (τ := Cert.AdamWqRefIdeal.τ) (Cert.AdamWqRefIdeal.main (F := Ideal))) ⟨m', fun _ => 0, g'⟩ (fun r => ∀ c : Dev Cert.AdamWqRefIdeal.nD,
          r.2.mem ((c.tc : Thread Cert.AdamWqRefIdeal.nD Cert.AdamWqRefIdeal.τ).loc Cert.AdamWqRefIdeal.main_v7) = v0 c
          ∧ r.2.mem ((c.tc : Thread Cert.AdamWqRefIdeal.nD Cert.AdamWqRefIdeal.τ).loc Cert.AdamWqRefIdeal.main_v31) = v1 c
          ∧ r.2.mem ((c.tc : Thread Cert.AdamWqRefIdeal.nD Cert.AdamWqRefIdeal.τ).loc Cert.AdamWqRefIdeal.main_v12) = v2 c
          ∧ r.2.mem ((c.tc : Thread Cert.AdamWqRefIdeal.nD Cert.AdamWqRefIdeal.τ).loc Cert.AdamWqRefIdeal.main_v18) = v3 c
          ∧ r.2.mem ((c.tc : Thread Cert.AdamWqRefIdeal.nD Cert.AdamWqRefIdeal.τ).loc Cert.AdamWqRefIdeal.main_arg0) = m' ((c.tc : Thread Cert.AdamWqRefIdeal.nD Cert.AdamWqRefIdeal.τ).loc Cert.AdamWqRefIdeal.main_arg0)
          ∧ r.2.mem ((c.tc : Thread Cert.AdamWqRefIdeal.nD Cert.AdamWqRefIdeal.τ).loc Cert.AdamWqRefIdeal.main_arg1) = m' ((c.tc : Thread Cert.AdamWqRefIdeal.nD Cert.AdamWqRefIdeal.τ).loc Cert.AdamWqRefIdeal.main_arg1)
          ∧ r.2.mem ((c.tc : Thread Cert.AdamWqRefIdeal.nD Cert.AdamWqRefIdeal.τ).loc Cert.AdamWqRefIdeal.main_arg2) = m' ((c.tc : Thread Cert.AdamWqRefIdeal.nD Cert.AdamWqRefIdeal.τ).loc Cert.AdamWqRefIdeal.main_arg2)
          ∧ r.2.mem ((c.tc : Thread Cert.AdamWqRefIdeal.nD Cert.AdamWqRefIdeal.τ).loc Cert.AdamWqRefIdeal.main_arg3) = m' ((c.tc : Thread Cert.AdamWqRefIdeal.nD Cert.AdamWqRefIdeal.τ).loc Cert.AdamWqRefIdeal.main_arg3)
          ∧ r.2.mem ((c.tc : Thread Cert.AdamWqRefIdeal.nD Cert.AdamWqRefIdeal.τ).loc Cert.AdamWqRefIdeal.main_arg4) = m' ((c.tc : Thread Cert.AdamWqRefIdeal.nD Cert.AdamWqRefIdeal.τ).loc Cert.AdamWqRefIdeal.main_arg4)
          ∧ r.2.mem ((c.tc : Thread Cert.AdamWqRefIdeal.nD Cert.AdamWqRefIdeal.τ).loc Cert.AdamWqRefIdeal.main_arg5) = m' ((c.tc : Thread Cert.AdamWqRefIdeal.nD Cert.AdamWqRefIdeal.τ).loc Cert.AdamWqRefIdeal.main_arg5))

def algebraic_AdamWkIdeal_AdamWkRefIdeal [hAdamWkIdeal : Cert.AdamWkIdeal.Facts] [hAdamWkRefIdeal : Cert.AdamWkRefIdeal.Facts] : Prop :=
  ∀ (m : (ℓ : Loc Cert.AdamWkIdeal.nD Cert.AdamWkIdeal.τ Cert.AdamWkIdeal.sig) → Buf (Elt Ideal) ℓ) (g : Dev Cert.AdamWkIdeal.nD → PrngReg)
    (m' : (ℓ : Loc Cert.AdamWkRefIdeal.nD Cert.AdamWkRefIdeal.τ Cert.AdamWkRefIdeal.sig) → Buf (Elt Ideal) ℓ) (g' : Dev Cert.AdamWkRefIdeal.nD → PrngReg), Pre_AdamWkIdeal m →
    (∀ c : Dev Cert.AdamWkIdeal.nD,
      m' ((c.tc : Thread Cert.AdamWkRefIdeal.nD Cert.AdamWkRefIdeal.τ).loc Cert.AdamWkRefIdeal.main_arg0) = m ((c.tc : Thread Cert.AdamWkIdeal.nD Cert.AdamWkIdeal.τ).loc Cert.AdamWkIdeal.main_arg0)
      ∧ m' ((c.tc : Thread Cert.AdamWkRefIdeal.nD Cert.AdamWkRefIdeal.τ).loc Cert.AdamWkRefIdeal.main_arg1) = m ((c.tc : Thread Cert.AdamWkIdeal.nD Cert.AdamWkIdeal.τ).loc Cert.AdamWkIdeal.main_arg1)
      ∧ m' ((c.tc : Thread Cert.AdamWkRefIdeal.nD Cert.AdamWkRefIdeal.τ).loc Cert.AdamWkRefIdeal.main_arg2) = m ((c.tc : Thread Cert.AdamWkIdeal.nD Cert.AdamWkIdeal.τ).loc Cert.AdamWkIdeal.main_arg2)
      ∧ m' ((c.tc : Thread Cert.AdamWkRefIdeal.nD Cert.AdamWkRefIdeal.τ).loc Cert.AdamWkRefIdeal.main_arg3) = m ((c.tc : Thread Cert.AdamWkIdeal.nD Cert.AdamWkIdeal.τ).loc Cert.AdamWkIdeal.main_arg3)
      ∧ m' ((c.tc : Thread Cert.AdamWkRefIdeal.nD Cert.AdamWkRefIdeal.τ).loc Cert.AdamWkRefIdeal.main_arg4) = m ((c.tc : Thread Cert.AdamWkIdeal.nD Cert.AdamWkIdeal.τ).loc Cert.AdamWkIdeal.main_arg4)
      ∧ m' ((c.tc : Thread Cert.AdamWkRefIdeal.nD Cert.AdamWkRefIdeal.τ).loc Cert.AdamWkRefIdeal.main_arg5) = m ((c.tc : Thread Cert.AdamWkIdeal.nD Cert.AdamWkIdeal.τ).loc Cert.AdamWkIdeal.main_arg5)) →
    ∃ (v0 : (c : Dev Cert.AdamWkIdeal.nD) → Buf (Elt Ideal) ((c.tc : Thread Cert.AdamWkIdeal.nD Cert.AdamWkIdeal.τ).loc Cert.AdamWkIdeal.main_v0_0)) (v1 : (c : Dev Cert.AdamWkIdeal.nD) → Buf (Elt Ideal) ((c.tc : Thread Cert.AdamWkIdeal.nD Cert.AdamWkIdeal.τ).loc Cert.AdamWkIdeal.main_v0_1)) (v2 : (c : Dev Cert.AdamWkIdeal.nD) → Buf (Elt Ideal) ((c.tc : Thread Cert.AdamWkIdeal.nD Cert.AdamWkIdeal.τ).loc Cert.AdamWkIdeal.main_v0_2)) (v3 : (c : Dev Cert.AdamWkIdeal.nD) → Buf (Elt Ideal) ((c.tc : Thread Cert.AdamWkIdeal.nD Cert.AdamWkIdeal.τ).loc Cert.AdamWkIdeal.main_v0_3)),
      θ_run (Cert.AdamWkIdeal.defs (F := Ideal)) (onTc (τ := Cert.AdamWkIdeal.τ) (Cert.AdamWkIdeal.main (F := Ideal))) ⟨m, fun _ => 0, g⟩ (fun r => ∀ c : Dev Cert.AdamWkIdeal.nD,
          r.2.mem ((c.tc : Thread Cert.AdamWkIdeal.nD Cert.AdamWkIdeal.τ).loc Cert.AdamWkIdeal.main_v0_0) = v0 c
          ∧ r.2.mem ((c.tc : Thread Cert.AdamWkIdeal.nD Cert.AdamWkIdeal.τ).loc Cert.AdamWkIdeal.main_v0_1) = v1 c
          ∧ r.2.mem ((c.tc : Thread Cert.AdamWkIdeal.nD Cert.AdamWkIdeal.τ).loc Cert.AdamWkIdeal.main_v0_2) = v2 c
          ∧ r.2.mem ((c.tc : Thread Cert.AdamWkIdeal.nD Cert.AdamWkIdeal.τ).loc Cert.AdamWkIdeal.main_v0_3) = v3 c
          ∧ r.2.mem ((c.tc : Thread Cert.AdamWkIdeal.nD Cert.AdamWkIdeal.τ).loc Cert.AdamWkIdeal.main_arg0) = m ((c.tc : Thread Cert.AdamWkIdeal.nD Cert.AdamWkIdeal.τ).loc Cert.AdamWkIdeal.main_arg0)
          ∧ r.2.mem ((c.tc : Thread Cert.AdamWkIdeal.nD Cert.AdamWkIdeal.τ).loc Cert.AdamWkIdeal.main_arg1) = m ((c.tc : Thread Cert.AdamWkIdeal.nD Cert.AdamWkIdeal.τ).loc Cert.AdamWkIdeal.main_arg1)
          ∧ r.2.mem ((c.tc : Thread Cert.AdamWkIdeal.nD Cert.AdamWkIdeal.τ).loc Cert.AdamWkIdeal.main_arg2) = m ((c.tc : Thread Cert.AdamWkIdeal.nD Cert.AdamWkIdeal.τ).loc Cert.AdamWkIdeal.main_arg2)
          ∧ r.2.mem ((c.tc : Thread Cert.AdamWkIdeal.nD Cert.AdamWkIdeal.τ).loc Cert.AdamWkIdeal.main_arg3) = m ((c.tc : Thread Cert.AdamWkIdeal.nD Cert.AdamWkIdeal.τ).loc Cert.AdamWkIdeal.main_arg3)
          ∧ r.2.mem ((c.tc : Thread Cert.AdamWkIdeal.nD Cert.AdamWkIdeal.τ).loc Cert.AdamWkIdeal.main_arg4) = m ((c.tc : Thread Cert.AdamWkIdeal.nD Cert.AdamWkIdeal.τ).loc Cert.AdamWkIdeal.main_arg4)
          ∧ r.2.mem ((c.tc : Thread Cert.AdamWkIdeal.nD Cert.AdamWkIdeal.τ).loc Cert.AdamWkIdeal.main_arg5) = m ((c.tc : Thread Cert.AdamWkIdeal.nD Cert.AdamWkIdeal.τ).loc Cert.AdamWkIdeal.main_arg5))
      ∧ θ_run (Cert.AdamWkRefIdeal.defs (F := Ideal)) (onTc (τ := Cert.AdamWkRefIdeal.τ) (Cert.AdamWkRefIdeal.main (F := Ideal))) ⟨m', fun _ => 0, g'⟩ (fun r => ∀ c : Dev Cert.AdamWkRefIdeal.nD,
          r.2.mem ((c.tc : Thread Cert.AdamWkRefIdeal.nD Cert.AdamWkRefIdeal.τ).loc Cert.AdamWkRefIdeal.main_v7) = v0 c
          ∧ r.2.mem ((c.tc : Thread Cert.AdamWkRefIdeal.nD Cert.AdamWkRefIdeal.τ).loc Cert.AdamWkRefIdeal.main_v31) = v1 c
          ∧ r.2.mem ((c.tc : Thread Cert.AdamWkRefIdeal.nD Cert.AdamWkRefIdeal.τ).loc Cert.AdamWkRefIdeal.main_v12) = v2 c
          ∧ r.2.mem ((c.tc : Thread Cert.AdamWkRefIdeal.nD Cert.AdamWkRefIdeal.τ).loc Cert.AdamWkRefIdeal.main_v18) = v3 c
          ∧ r.2.mem ((c.tc : Thread Cert.AdamWkRefIdeal.nD Cert.AdamWkRefIdeal.τ).loc Cert.AdamWkRefIdeal.main_arg0) = m' ((c.tc : Thread Cert.AdamWkRefIdeal.nD Cert.AdamWkRefIdeal.τ).loc Cert.AdamWkRefIdeal.main_arg0)
          ∧ r.2.mem ((c.tc : Thread Cert.AdamWkRefIdeal.nD Cert.AdamWkRefIdeal.τ).loc Cert.AdamWkRefIdeal.main_arg1) = m' ((c.tc : Thread Cert.AdamWkRefIdeal.nD Cert.AdamWkRefIdeal.τ).loc Cert.AdamWkRefIdeal.main_arg1)
          ∧ r.2.mem ((c.tc : Thread Cert.AdamWkRefIdeal.nD Cert.AdamWkRefIdeal.τ).loc Cert.AdamWkRefIdeal.main_arg2) = m' ((c.tc : Thread Cert.AdamWkRefIdeal.nD Cert.AdamWkRefIdeal.τ).loc Cert.AdamWkRefIdeal.main_arg2)
          ∧ r.2.mem ((c.tc : Thread Cert.AdamWkRefIdeal.nD Cert.AdamWkRefIdeal.τ).loc Cert.AdamWkRefIdeal.main_arg3) = m' ((c.tc : Thread Cert.AdamWkRefIdeal.nD Cert.AdamWkRefIdeal.τ).loc Cert.AdamWkRefIdeal.main_arg3)
          ∧ r.2.mem ((c.tc : Thread Cert.AdamWkRefIdeal.nD Cert.AdamWkRefIdeal.τ).loc Cert.AdamWkRefIdeal.main_arg4) = m' ((c.tc : Thread Cert.AdamWkRefIdeal.nD Cert.AdamWkRefIdeal.τ).loc Cert.AdamWkRefIdeal.main_arg4)
          ∧ r.2.mem ((c.tc : Thread Cert.AdamWkRefIdeal.nD Cert.AdamWkRefIdeal.τ).loc Cert.AdamWkRefIdeal.main_arg5) = m' ((c.tc : Thread Cert.AdamWkRefIdeal.nD Cert.AdamWkRefIdeal.τ).loc Cert.AdamWkRefIdeal.main_arg5))

def algebraic_AdamWvIdeal_AdamWvRefIdeal [hAdamWvIdeal : Cert.AdamWvIdeal.Facts] [hAdamWvRefIdeal : Cert.AdamWvRefIdeal.Facts] : Prop :=
  ∀ (m : (ℓ : Loc Cert.AdamWvIdeal.nD Cert.AdamWvIdeal.τ Cert.AdamWvIdeal.sig) → Buf (Elt Ideal) ℓ) (g : Dev Cert.AdamWvIdeal.nD → PrngReg)
    (m' : (ℓ : Loc Cert.AdamWvRefIdeal.nD Cert.AdamWvRefIdeal.τ Cert.AdamWvRefIdeal.sig) → Buf (Elt Ideal) ℓ) (g' : Dev Cert.AdamWvRefIdeal.nD → PrngReg), Pre_AdamWvIdeal m →
    (∀ c : Dev Cert.AdamWvIdeal.nD,
      m' ((c.tc : Thread Cert.AdamWvRefIdeal.nD Cert.AdamWvRefIdeal.τ).loc Cert.AdamWvRefIdeal.main_arg0) = m ((c.tc : Thread Cert.AdamWvIdeal.nD Cert.AdamWvIdeal.τ).loc Cert.AdamWvIdeal.main_arg0)
      ∧ m' ((c.tc : Thread Cert.AdamWvRefIdeal.nD Cert.AdamWvRefIdeal.τ).loc Cert.AdamWvRefIdeal.main_arg1) = m ((c.tc : Thread Cert.AdamWvIdeal.nD Cert.AdamWvIdeal.τ).loc Cert.AdamWvIdeal.main_arg1)
      ∧ m' ((c.tc : Thread Cert.AdamWvRefIdeal.nD Cert.AdamWvRefIdeal.τ).loc Cert.AdamWvRefIdeal.main_arg2) = m ((c.tc : Thread Cert.AdamWvIdeal.nD Cert.AdamWvIdeal.τ).loc Cert.AdamWvIdeal.main_arg2)
      ∧ m' ((c.tc : Thread Cert.AdamWvRefIdeal.nD Cert.AdamWvRefIdeal.τ).loc Cert.AdamWvRefIdeal.main_arg3) = m ((c.tc : Thread Cert.AdamWvIdeal.nD Cert.AdamWvIdeal.τ).loc Cert.AdamWvIdeal.main_arg3)
      ∧ m' ((c.tc : Thread Cert.AdamWvRefIdeal.nD Cert.AdamWvRefIdeal.τ).loc Cert.AdamWvRefIdeal.main_arg4) = m ((c.tc : Thread Cert.AdamWvIdeal.nD Cert.AdamWvIdeal.τ).loc Cert.AdamWvIdeal.main_arg4)
      ∧ m' ((c.tc : Thread Cert.AdamWvRefIdeal.nD Cert.AdamWvRefIdeal.τ).loc Cert.AdamWvRefIdeal.main_arg5) = m ((c.tc : Thread Cert.AdamWvIdeal.nD Cert.AdamWvIdeal.τ).loc Cert.AdamWvIdeal.main_arg5)) →
    ∃ (v0 : (c : Dev Cert.AdamWvIdeal.nD) → Buf (Elt Ideal) ((c.tc : Thread Cert.AdamWvIdeal.nD Cert.AdamWvIdeal.τ).loc Cert.AdamWvIdeal.main_v0_0)) (v1 : (c : Dev Cert.AdamWvIdeal.nD) → Buf (Elt Ideal) ((c.tc : Thread Cert.AdamWvIdeal.nD Cert.AdamWvIdeal.τ).loc Cert.AdamWvIdeal.main_v0_1)) (v2 : (c : Dev Cert.AdamWvIdeal.nD) → Buf (Elt Ideal) ((c.tc : Thread Cert.AdamWvIdeal.nD Cert.AdamWvIdeal.τ).loc Cert.AdamWvIdeal.main_v0_2)) (v3 : (c : Dev Cert.AdamWvIdeal.nD) → Buf (Elt Ideal) ((c.tc : Thread Cert.AdamWvIdeal.nD Cert.AdamWvIdeal.τ).loc Cert.AdamWvIdeal.main_v0_3)),
      θ_run (Cert.AdamWvIdeal.defs (F := Ideal)) (onTc (τ := Cert.AdamWvIdeal.τ) (Cert.AdamWvIdeal.main (F := Ideal))) ⟨m, fun _ => 0, g⟩ (fun r => ∀ c : Dev Cert.AdamWvIdeal.nD,
          r.2.mem ((c.tc : Thread Cert.AdamWvIdeal.nD Cert.AdamWvIdeal.τ).loc Cert.AdamWvIdeal.main_v0_0) = v0 c
          ∧ r.2.mem ((c.tc : Thread Cert.AdamWvIdeal.nD Cert.AdamWvIdeal.τ).loc Cert.AdamWvIdeal.main_v0_1) = v1 c
          ∧ r.2.mem ((c.tc : Thread Cert.AdamWvIdeal.nD Cert.AdamWvIdeal.τ).loc Cert.AdamWvIdeal.main_v0_2) = v2 c
          ∧ r.2.mem ((c.tc : Thread Cert.AdamWvIdeal.nD Cert.AdamWvIdeal.τ).loc Cert.AdamWvIdeal.main_v0_3) = v3 c
          ∧ r.2.mem ((c.tc : Thread Cert.AdamWvIdeal.nD Cert.AdamWvIdeal.τ).loc Cert.AdamWvIdeal.main_arg0) = m ((c.tc : Thread Cert.AdamWvIdeal.nD Cert.AdamWvIdeal.τ).loc Cert.AdamWvIdeal.main_arg0)
          ∧ r.2.mem ((c.tc : Thread Cert.AdamWvIdeal.nD Cert.AdamWvIdeal.τ).loc Cert.AdamWvIdeal.main_arg1) = m ((c.tc : Thread Cert.AdamWvIdeal.nD Cert.AdamWvIdeal.τ).loc Cert.AdamWvIdeal.main_arg1)
          ∧ r.2.mem ((c.tc : Thread Cert.AdamWvIdeal.nD Cert.AdamWvIdeal.τ).loc Cert.AdamWvIdeal.main_arg2) = m ((c.tc : Thread Cert.AdamWvIdeal.nD Cert.AdamWvIdeal.τ).loc Cert.AdamWvIdeal.main_arg2)
          ∧ r.2.mem ((c.tc : Thread Cert.AdamWvIdeal.nD Cert.AdamWvIdeal.τ).loc Cert.AdamWvIdeal.main_arg3) = m ((c.tc : Thread Cert.AdamWvIdeal.nD Cert.AdamWvIdeal.τ).loc Cert.AdamWvIdeal.main_arg3)
          ∧ r.2.mem ((c.tc : Thread Cert.AdamWvIdeal.nD Cert.AdamWvIdeal.τ).loc Cert.AdamWvIdeal.main_arg4) = m ((c.tc : Thread Cert.AdamWvIdeal.nD Cert.AdamWvIdeal.τ).loc Cert.AdamWvIdeal.main_arg4)
          ∧ r.2.mem ((c.tc : Thread Cert.AdamWvIdeal.nD Cert.AdamWvIdeal.τ).loc Cert.AdamWvIdeal.main_arg5) = m ((c.tc : Thread Cert.AdamWvIdeal.nD Cert.AdamWvIdeal.τ).loc Cert.AdamWvIdeal.main_arg5))
      ∧ θ_run (Cert.AdamWvRefIdeal.defs (F := Ideal)) (onTc (τ := Cert.AdamWvRefIdeal.τ) (Cert.AdamWvRefIdeal.main (F := Ideal))) ⟨m', fun _ => 0, g'⟩ (fun r => ∀ c : Dev Cert.AdamWvRefIdeal.nD,
          r.2.mem ((c.tc : Thread Cert.AdamWvRefIdeal.nD Cert.AdamWvRefIdeal.τ).loc Cert.AdamWvRefIdeal.main_v7) = v0 c
          ∧ r.2.mem ((c.tc : Thread Cert.AdamWvRefIdeal.nD Cert.AdamWvRefIdeal.τ).loc Cert.AdamWvRefIdeal.main_v31) = v1 c
          ∧ r.2.mem ((c.tc : Thread Cert.AdamWvRefIdeal.nD Cert.AdamWvRefIdeal.τ).loc Cert.AdamWvRefIdeal.main_v12) = v2 c
          ∧ r.2.mem ((c.tc : Thread Cert.AdamWvRefIdeal.nD Cert.AdamWvRefIdeal.τ).loc Cert.AdamWvRefIdeal.main_v18) = v3 c
          ∧ r.2.mem ((c.tc : Thread Cert.AdamWvRefIdeal.nD Cert.AdamWvRefIdeal.τ).loc Cert.AdamWvRefIdeal.main_arg0) = m' ((c.tc : Thread Cert.AdamWvRefIdeal.nD Cert.AdamWvRefIdeal.τ).loc Cert.AdamWvRefIdeal.main_arg0)
          ∧ r.2.mem ((c.tc : Thread Cert.AdamWvRefIdeal.nD Cert.AdamWvRefIdeal.τ).loc Cert.AdamWvRefIdeal.main_arg1) = m' ((c.tc : Thread Cert.AdamWvRefIdeal.nD Cert.AdamWvRefIdeal.τ).loc Cert.AdamWvRefIdeal.main_arg1)
          ∧ r.2.mem ((c.tc : Thread Cert.AdamWvRefIdeal.nD Cert.AdamWvRefIdeal.τ).loc Cert.AdamWvRefIdeal.main_arg2) = m' ((c.tc : Thread Cert.AdamWvRefIdeal.nD Cert.AdamWvRefIdeal.τ).loc Cert.AdamWvRefIdeal.main_arg2)
          ∧ r.2.mem ((c.tc : Thread Cert.AdamWvRefIdeal.nD Cert.AdamWvRefIdeal.τ).loc Cert.AdamWvRefIdeal.main_arg3) = m' ((c.tc : Thread Cert.AdamWvRefIdeal.nD Cert.AdamWvRefIdeal.τ).loc Cert.AdamWvRefIdeal.main_arg3)
          ∧ r.2.mem ((c.tc : Thread Cert.AdamWvRefIdeal.nD Cert.AdamWvRefIdeal.τ).loc Cert.AdamWvRefIdeal.main_arg4) = m' ((c.tc : Thread Cert.AdamWvRefIdeal.nD Cert.AdamWvRefIdeal.τ).loc Cert.AdamWvRefIdeal.main_arg4)
          ∧ r.2.mem ((c.tc : Thread Cert.AdamWvRefIdeal.nD Cert.AdamWvRefIdeal.τ).loc Cert.AdamWvRefIdeal.main_arg5) = m' ((c.tc : Thread Cert.AdamWvRefIdeal.nD Cert.AdamWvRefIdeal.τ).loc Cert.AdamWvRefIdeal.main_arg5))

def algebraic_AdamWoIdeal_AdamWoRefIdeal [hAdamWoIdeal : Cert.AdamWoIdeal.Facts] [hAdamWoRefIdeal : Cert.AdamWoRefIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg)
    (m' : (ℓ : Loc Cert.AdamWoRefIdeal.nD Cert.AdamWoRefIdeal.τ Cert.AdamWoRefIdeal.sig) → Buf (Elt Ideal) ℓ) (g' : Dev Cert.AdamWoRefIdeal.nD → PrngReg), Pre_AdamWoIdeal m →
    (∀ c : Dev Cert.AdamWoIdeal.nD,
      m' ((c.tc : Thread Cert.AdamWoRefIdeal.nD Cert.AdamWoRefIdeal.τ).loc Cert.AdamWoRefIdeal.main_arg0) = m ((c.tc : Thread Cert.AdamWoIdeal.nD Cert.AdamWoIdeal.τ).loc Cert.AdamWoIdeal.main_arg0)
      ∧ m' ((c.tc : Thread Cert.AdamWoRefIdeal.nD Cert.AdamWoRefIdeal.τ).loc Cert.AdamWoRefIdeal.main_arg1) = m ((c.tc : Thread Cert.AdamWoIdeal.nD Cert.AdamWoIdeal.τ).loc Cert.AdamWoIdeal.main_arg1)
      ∧ m' ((c.tc : Thread Cert.AdamWoRefIdeal.nD Cert.AdamWoRefIdeal.τ).loc Cert.AdamWoRefIdeal.main_arg2) = m ((c.tc : Thread Cert.AdamWoIdeal.nD Cert.AdamWoIdeal.τ).loc Cert.AdamWoIdeal.main_arg2)
      ∧ m' ((c.tc : Thread Cert.AdamWoRefIdeal.nD Cert.AdamWoRefIdeal.τ).loc Cert.AdamWoRefIdeal.main_arg3) = m ((c.tc : Thread Cert.AdamWoIdeal.nD Cert.AdamWoIdeal.τ).loc Cert.AdamWoIdeal.main_arg3)
      ∧ m' ((c.tc : Thread Cert.AdamWoRefIdeal.nD Cert.AdamWoRefIdeal.τ).loc Cert.AdamWoRefIdeal.main_arg4) = m ((c.tc : Thread Cert.AdamWoIdeal.nD Cert.AdamWoIdeal.τ).loc Cert.AdamWoIdeal.main_arg4)
      ∧ m' ((c.tc : Thread Cert.AdamWoRefIdeal.nD Cert.AdamWoRefIdeal.τ).loc Cert.AdamWoRefIdeal.main_arg5) = m ((c.tc : Thread Cert.AdamWoIdeal.nD Cert.AdamWoIdeal.τ).loc Cert.AdamWoIdeal.main_arg5)) →
    ∃ (v0 : (c : Dev Cert.AdamWoIdeal.nD) → Buf (Elt Ideal) ((c.tc : Thread Cert.AdamWoIdeal.nD Cert.AdamWoIdeal.τ).loc Cert.AdamWoIdeal.main_v0_0)) (v1 : (c : Dev Cert.AdamWoIdeal.nD) → Buf (Elt Ideal) ((c.tc : Thread Cert.AdamWoIdeal.nD Cert.AdamWoIdeal.τ).loc Cert.AdamWoIdeal.main_v0_1)) (v2 : (c : Dev Cert.AdamWoIdeal.nD) → Buf (Elt Ideal) ((c.tc : Thread Cert.AdamWoIdeal.nD Cert.AdamWoIdeal.τ).loc Cert.AdamWoIdeal.main_v0_2)) (v3 : (c : Dev Cert.AdamWoIdeal.nD) → Buf (Elt Ideal) ((c.tc : Thread Cert.AdamWoIdeal.nD Cert.AdamWoIdeal.τ).loc Cert.AdamWoIdeal.main_v0_3)),
      θ_run (Cert.AdamWoIdeal.defs (F := Ideal)) (onTc (τ := Cert.AdamWoIdeal.τ) (Cert.AdamWoIdeal.main (F := Ideal))) ⟨m, fun _ => 0, g⟩ (fun r => ∀ c : Dev Cert.AdamWoIdeal.nD,
          r.2.mem ((c.tc : Thread Cert.AdamWoIdeal.nD Cert.AdamWoIdeal.τ).loc Cert.AdamWoIdeal.main_v0_0) = v0 c
          ∧ r.2.mem ((c.tc : Thread Cert.AdamWoIdeal.nD Cert.AdamWoIdeal.τ).loc Cert.AdamWoIdeal.main_v0_1) = v1 c
          ∧ r.2.mem ((c.tc : Thread Cert.AdamWoIdeal.nD Cert.AdamWoIdeal.τ).loc Cert.AdamWoIdeal.main_v0_2) = v2 c
          ∧ r.2.mem ((c.tc : Thread Cert.AdamWoIdeal.nD Cert.AdamWoIdeal.τ).loc Cert.AdamWoIdeal.main_v0_3) = v3 c
          ∧ r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
          ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
          ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
          ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3)
          ∧ r.2.mem ((c.tc : Thread Cert.AdamWoIdeal.nD Cert.AdamWoIdeal.τ).loc Cert.AdamWoIdeal.main_arg4) = m ((c.tc : Thread Cert.AdamWoIdeal.nD Cert.AdamWoIdeal.τ).loc Cert.AdamWoIdeal.main_arg4)
          ∧ r.2.mem ((c.tc : Thread Cert.AdamWoIdeal.nD Cert.AdamWoIdeal.τ).loc Cert.AdamWoIdeal.main_arg5) = m ((c.tc : Thread Cert.AdamWoIdeal.nD Cert.AdamWoIdeal.τ).loc Cert.AdamWoIdeal.main_arg5))
      ∧ θ_run (Cert.AdamWoRefIdeal.defs (F := Ideal)) (onTc (τ := Cert.AdamWoRefIdeal.τ) (Cert.AdamWoRefIdeal.main (F := Ideal))) ⟨m', fun _ => 0, g'⟩ (fun r => ∀ c : Dev Cert.AdamWoRefIdeal.nD,
          r.2.mem ((c.tc : Thread Cert.AdamWoRefIdeal.nD Cert.AdamWoRefIdeal.τ).loc Cert.AdamWoRefIdeal.main_v7) = v0 c
          ∧ r.2.mem ((c.tc : Thread Cert.AdamWoRefIdeal.nD Cert.AdamWoRefIdeal.τ).loc Cert.AdamWoRefIdeal.main_v31) = v1 c
          ∧ r.2.mem ((c.tc : Thread Cert.AdamWoRefIdeal.nD Cert.AdamWoRefIdeal.τ).loc Cert.AdamWoRefIdeal.main_v12) = v2 c
          ∧ r.2.mem ((c.tc : Thread Cert.AdamWoRefIdeal.nD Cert.AdamWoRefIdeal.τ).loc Cert.AdamWoRefIdeal.main_v18) = v3 c
          ∧ r.2.mem ((c.tc : Thread Cert.AdamWoRefIdeal.nD Cert.AdamWoRefIdeal.τ).loc Cert.AdamWoRefIdeal.main_arg0) = m' ((c.tc : Thread Cert.AdamWoRefIdeal.nD Cert.AdamWoRefIdeal.τ).loc Cert.AdamWoRefIdeal.main_arg0)
          ∧ r.2.mem ((c.tc : Thread Cert.AdamWoRefIdeal.nD Cert.AdamWoRefIdeal.τ).loc Cert.AdamWoRefIdeal.main_arg1) = m' ((c.tc : Thread Cert.AdamWoRefIdeal.nD Cert.AdamWoRefIdeal.τ).loc Cert.AdamWoRefIdeal.main_arg1)
          ∧ r.2.mem ((c.tc : Thread Cert.AdamWoRefIdeal.nD Cert.AdamWoRefIdeal.τ).loc Cert.AdamWoRefIdeal.main_arg2) = m' ((c.tc : Thread Cert.AdamWoRefIdeal.nD Cert.AdamWoRefIdeal.τ).loc Cert.AdamWoRefIdeal.main_arg2)
          ∧ r.2.mem ((c.tc : Thread Cert.AdamWoRefIdeal.nD Cert.AdamWoRefIdeal.τ).loc Cert.AdamWoRefIdeal.main_arg3) = m' ((c.tc : Thread Cert.AdamWoRefIdeal.nD Cert.AdamWoRefIdeal.τ).loc Cert.AdamWoRefIdeal.main_arg3)
          ∧ r.2.mem ((c.tc : Thread Cert.AdamWoRefIdeal.nD Cert.AdamWoRefIdeal.τ).loc Cert.AdamWoRefIdeal.main_arg4) = m' ((c.tc : Thread Cert.AdamWoRefIdeal.nD Cert.AdamWoRefIdeal.τ).loc Cert.AdamWoRefIdeal.main_arg4)
          ∧ r.2.mem ((c.tc : Thread Cert.AdamWoRefIdeal.nD Cert.AdamWoRefIdeal.τ).loc Cert.AdamWoRefIdeal.main_arg5) = m' ((c.tc : Thread Cert.AdamWoRefIdeal.nD Cert.AdamWoRefIdeal.τ).loc Cert.AdamWoRefIdeal.main_arg5))

def algebraic_AdamSmall1Ideal_AdamSmall1RefIdeal [hAdamSmall1Ideal : Cert.AdamSmall1Ideal.Facts] [hAdamSmall1RefIdeal : Cert.AdamSmall1RefIdeal.Facts] : Prop :=
  ∀ (m : (ℓ : Loc Cert.AdamSmall1Ideal.nD Cert.AdamSmall1Ideal.τ Cert.AdamSmall1Ideal.sig) → Buf (Elt Ideal) ℓ) (g : Dev Cert.AdamSmall1Ideal.nD → PrngReg)
    (m' : (ℓ : Loc Cert.AdamSmall1RefIdeal.nD Cert.AdamSmall1RefIdeal.τ Cert.AdamSmall1RefIdeal.sig) → Buf (Elt Ideal) ℓ) (g' : Dev Cert.AdamSmall1RefIdeal.nD → PrngReg), Pre_AdamSmall1Ideal m →
    (∀ c : Dev Cert.AdamSmall1Ideal.nD,
      m' ((c.tc : Thread Cert.AdamSmall1RefIdeal.nD Cert.AdamSmall1RefIdeal.τ).loc Cert.AdamSmall1RefIdeal.main_arg0) = m ((c.tc : Thread Cert.AdamSmall1Ideal.nD Cert.AdamSmall1Ideal.τ).loc Cert.AdamSmall1Ideal.main_arg0)
      ∧ m' ((c.tc : Thread Cert.AdamSmall1RefIdeal.nD Cert.AdamSmall1RefIdeal.τ).loc Cert.AdamSmall1RefIdeal.main_arg1) = m ((c.tc : Thread Cert.AdamSmall1Ideal.nD Cert.AdamSmall1Ideal.τ).loc Cert.AdamSmall1Ideal.main_arg1)
      ∧ m' ((c.tc : Thread Cert.AdamSmall1RefIdeal.nD Cert.AdamSmall1RefIdeal.τ).loc Cert.AdamSmall1RefIdeal.main_arg2) = m ((c.tc : Thread Cert.AdamSmall1Ideal.nD Cert.AdamSmall1Ideal.τ).loc Cert.AdamSmall1Ideal.main_arg2)
      ∧ m' ((c.tc : Thread Cert.AdamSmall1RefIdeal.nD Cert.AdamSmall1RefIdeal.τ).loc Cert.AdamSmall1RefIdeal.main_arg3) = m ((c.tc : Thread Cert.AdamSmall1Ideal.nD Cert.AdamSmall1Ideal.τ).loc Cert.AdamSmall1Ideal.main_arg3)
      ∧ m' ((c.tc : Thread Cert.AdamSmall1RefIdeal.nD Cert.AdamSmall1RefIdeal.τ).loc Cert.AdamSmall1RefIdeal.main_arg4) = m ((c.tc : Thread Cert.AdamSmall1Ideal.nD Cert.AdamSmall1Ideal.τ).loc Cert.AdamSmall1Ideal.main_arg4)
      ∧ m' ((c.tc : Thread Cert.AdamSmall1RefIdeal.nD Cert.AdamSmall1RefIdeal.τ).loc Cert.AdamSmall1RefIdeal.main_arg5) = m ((c.tc : Thread Cert.AdamSmall1Ideal.nD Cert.AdamSmall1Ideal.τ).loc Cert.AdamSmall1Ideal.main_arg5)
      ∧ m' ((c.tc : Thread Cert.AdamSmall1RefIdeal.nD Cert.AdamSmall1RefIdeal.τ).loc Cert.AdamSmall1RefIdeal.main_arg6) = m ((c.tc : Thread Cert.AdamSmall1Ideal.nD Cert.AdamSmall1Ideal.τ).loc Cert.AdamSmall1Ideal.main_arg6)
      ∧ m' ((c.tc : Thread Cert.AdamSmall1RefIdeal.nD Cert.AdamSmall1RefIdeal.τ).loc Cert.AdamSmall1RefIdeal.main_arg7) = m ((c.tc : Thread Cert.AdamSmall1Ideal.nD Cert.AdamSmall1Ideal.τ).loc Cert.AdamSmall1Ideal.main_arg7)
      ∧ m' ((c.tc : Thread Cert.AdamSmall1RefIdeal.nD Cert.AdamSmall1RefIdeal.τ).loc Cert.AdamSmall1RefIdeal.main_arg8) = m ((c.tc : Thread Cert.AdamSmall1Ideal.nD Cert.AdamSmall1Ideal.τ).loc Cert.AdamSmall1Ideal.main_arg8)
      ∧ m' ((c.tc : Thread Cert.AdamSmall1RefIdeal.nD Cert.AdamSmall1RefIdeal.τ).loc Cert.AdamSmall1RefIdeal.main_arg9) = m ((c.tc : Thread Cert.AdamSmall1Ideal.nD Cert.AdamSmall1Ideal.τ).loc Cert.AdamSmall1Ideal.main_arg9)
      ∧ m' ((c.tc : Thread Cert.AdamSmall1RefIdeal.nD Cert.AdamSmall1RefIdeal.τ).loc Cert.AdamSmall1RefIdeal.main_arg10) = m ((c.tc : Thread Cert.AdamSmall1Ideal.nD Cert.AdamSmall1Ideal.τ).loc Cert.AdamSmall1Ideal.main_arg10)
      ∧ m' ((c.tc : Thread Cert.AdamSmall1RefIdeal.nD Cert.AdamSmall1RefIdeal.τ).loc Cert.AdamSmall1RefIdeal.main_arg11) = m ((c.tc : Thread Cert.AdamSmall1Ideal.nD Cert.AdamSmall1Ideal.τ).loc Cert.AdamSmall1Ideal.main_arg11)) →
    ∃ (v0 : (c : Dev Cert.AdamSmall1Ideal.nD) → Buf (Elt Ideal) ((c.tc : Thread Cert.AdamSmall1Ideal.nD Cert.AdamSmall1Ideal.τ).loc Cert.AdamSmall1Ideal.main_v8_0)) (v1 : (c : Dev Cert.AdamSmall1Ideal.nD) → Buf (Elt Ideal) ((c.tc : Thread Cert.AdamSmall1Ideal.nD Cert.AdamSmall1Ideal.τ).loc Cert.AdamSmall1Ideal.main_v8_1)) (v2 : (c : Dev Cert.AdamSmall1Ideal.nD) → Buf (Elt Ideal) ((c.tc : Thread Cert.AdamSmall1Ideal.nD Cert.AdamSmall1Ideal.τ).loc Cert.AdamSmall1Ideal.main_v8_2)) (v3 : (c : Dev Cert.AdamSmall1Ideal.nD) → Buf (Elt Ideal) ((c.tc : Thread Cert.AdamSmall1Ideal.nD Cert.AdamSmall1Ideal.τ).loc Cert.AdamSmall1Ideal.main_v8_3)) (v4 : (c : Dev Cert.AdamSmall1Ideal.nD) → Buf (Elt Ideal) ((c.tc : Thread Cert.AdamSmall1Ideal.nD Cert.AdamSmall1Ideal.τ).loc Cert.AdamSmall1Ideal.main_v8_4)) (v5 : (c : Dev Cert.AdamSmall1Ideal.nD) → Buf (Elt Ideal) ((c.tc : Thread Cert.AdamSmall1Ideal.nD Cert.AdamSmall1Ideal.τ).loc Cert.AdamSmall1Ideal.main_v8_5)) (v6 : (c : Dev Cert.AdamSmall1Ideal.nD) → Buf (Elt Ideal) ((c.tc : Thread Cert.AdamSmall1Ideal.nD Cert.AdamSmall1Ideal.τ).loc Cert.AdamSmall1Ideal.main_v8_6)) (v7 : (c : Dev Cert.AdamSmall1Ideal.nD) → Buf (Elt Ideal) ((c.tc : Thread Cert.AdamSmall1Ideal.nD Cert.AdamSmall1Ideal.τ).loc Cert.AdamSmall1Ideal.main_v8_7)) (v8 : (c : Dev Cert.AdamSmall1Ideal.nD) → Buf (Elt Ideal) ((c.tc : Thread Cert.AdamSmall1Ideal.nD Cert.AdamSmall1Ideal.τ).loc Cert.AdamSmall1Ideal.main_v8_8)),
      θ_run (Cert.AdamSmall1Ideal.defs (F := Ideal)) (onTc (τ := Cert.AdamSmall1Ideal.τ) (Cert.AdamSmall1Ideal.main (F := Ideal))) ⟨m, fun _ => 0, g⟩ (fun r => ∀ c : Dev Cert.AdamSmall1Ideal.nD,
          r.2.mem ((c.tc : Thread Cert.AdamSmall1Ideal.nD Cert.AdamSmall1Ideal.τ).loc Cert.AdamSmall1Ideal.main_v8_0) = v0 c
          ∧ r.2.mem ((c.tc : Thread Cert.AdamSmall1Ideal.nD Cert.AdamSmall1Ideal.τ).loc Cert.AdamSmall1Ideal.main_v8_1) = v1 c
          ∧ r.2.mem ((c.tc : Thread Cert.AdamSmall1Ideal.nD Cert.AdamSmall1Ideal.τ).loc Cert.AdamSmall1Ideal.main_v8_2) = v2 c
          ∧ r.2.mem ((c.tc : Thread Cert.AdamSmall1Ideal.nD Cert.AdamSmall1Ideal.τ).loc Cert.AdamSmall1Ideal.main_v8_3) = v3 c
          ∧ r.2.mem ((c.tc : Thread Cert.AdamSmall1Ideal.nD Cert.AdamSmall1Ideal.τ).loc Cert.AdamSmall1Ideal.main_v8_4) = v4 c
          ∧ r.2.mem ((c.tc : Thread Cert.AdamSmall1Ideal.nD Cert.AdamSmall1Ideal.τ).loc Cert.AdamSmall1Ideal.main_v8_5) = v5 c
          ∧ r.2.mem ((c.tc : Thread Cert.AdamSmall1Ideal.nD Cert.AdamSmall1Ideal.τ).loc Cert.AdamSmall1Ideal.main_v8_6) = v6 c
          ∧ r.2.mem ((c.tc : Thread Cert.AdamSmall1Ideal.nD Cert.AdamSmall1Ideal.τ).loc Cert.AdamSmall1Ideal.main_v8_7) = v7 c
          ∧ r.2.mem ((c.tc : Thread Cert.AdamSmall1Ideal.nD Cert.AdamSmall1Ideal.τ).loc Cert.AdamSmall1Ideal.main_v8_8) = v8 c
          ∧ r.2.mem ((c.tc : Thread Cert.AdamSmall1Ideal.nD Cert.AdamSmall1Ideal.τ).loc Cert.AdamSmall1Ideal.main_arg0) = m ((c.tc : Thread Cert.AdamSmall1Ideal.nD Cert.AdamSmall1Ideal.τ).loc Cert.AdamSmall1Ideal.main_arg0)
          ∧ r.2.mem ((c.tc : Thread Cert.AdamSmall1Ideal.nD Cert.AdamSmall1Ideal.τ).loc Cert.AdamSmall1Ideal.main_arg1) = m ((c.tc : Thread Cert.AdamSmall1Ideal.nD Cert.AdamSmall1Ideal.τ).loc Cert.AdamSmall1Ideal.main_arg1)
          ∧ r.2.mem ((c.tc : Thread Cert.AdamSmall1Ideal.nD Cert.AdamSmall1Ideal.τ).loc Cert.AdamSmall1Ideal.main_arg2) = m ((c.tc : Thread Cert.AdamSmall1Ideal.nD Cert.AdamSmall1Ideal.τ).loc Cert.AdamSmall1Ideal.main_arg2)
          ∧ r.2.mem ((c.tc : Thread Cert.AdamSmall1Ideal.nD Cert.AdamSmall1Ideal.τ).loc Cert.AdamSmall1Ideal.main_arg3) = m ((c.tc : Thread Cert.AdamSmall1Ideal.nD Cert.AdamSmall1Ideal.τ).loc Cert.AdamSmall1Ideal.main_arg3)
          ∧ r.2.mem ((c.tc : Thread Cert.AdamSmall1Ideal.nD Cert.AdamSmall1Ideal.τ).loc Cert.AdamSmall1Ideal.main_arg4) = m ((c.tc : Thread Cert.AdamSmall1Ideal.nD Cert.AdamSmall1Ideal.τ).loc Cert.AdamSmall1Ideal.main_arg4)
          ∧ r.2.mem ((c.tc : Thread Cert.AdamSmall1Ideal.nD Cert.AdamSmall1Ideal.τ).loc Cert.AdamSmall1Ideal.main_arg5) = m ((c.tc : Thread Cert.AdamSmall1Ideal.nD Cert.AdamSmall1Ideal.τ).loc Cert.AdamSmall1Ideal.main_arg5)
          ∧ r.2.mem ((c.tc : Thread Cert.AdamSmall1Ideal.nD Cert.AdamSmall1Ideal.τ).loc Cert.AdamSmall1Ideal.main_arg6) = m ((c.tc : Thread Cert.AdamSmall1Ideal.nD Cert.AdamSmall1Ideal.τ).loc Cert.AdamSmall1Ideal.main_arg6)
          ∧ r.2.mem ((c.tc : Thread Cert.AdamSmall1Ideal.nD Cert.AdamSmall1Ideal.τ).loc Cert.AdamSmall1Ideal.main_arg7) = m ((c.tc : Thread Cert.AdamSmall1Ideal.nD Cert.AdamSmall1Ideal.τ).loc Cert.AdamSmall1Ideal.main_arg7)
          ∧ r.2.mem ((c.tc : Thread Cert.AdamSmall1Ideal.nD Cert.AdamSmall1Ideal.τ).loc Cert.AdamSmall1Ideal.main_arg8) = m ((c.tc : Thread Cert.AdamSmall1Ideal.nD Cert.AdamSmall1Ideal.τ).loc Cert.AdamSmall1Ideal.main_arg8)
          ∧ r.2.mem ((c.tc : Thread Cert.AdamSmall1Ideal.nD Cert.AdamSmall1Ideal.τ).loc Cert.AdamSmall1Ideal.main_arg9) = m ((c.tc : Thread Cert.AdamSmall1Ideal.nD Cert.AdamSmall1Ideal.τ).loc Cert.AdamSmall1Ideal.main_arg9)
          ∧ r.2.mem ((c.tc : Thread Cert.AdamSmall1Ideal.nD Cert.AdamSmall1Ideal.τ).loc Cert.AdamSmall1Ideal.main_arg10) = m ((c.tc : Thread Cert.AdamSmall1Ideal.nD Cert.AdamSmall1Ideal.τ).loc Cert.AdamSmall1Ideal.main_arg10)
          ∧ r.2.mem ((c.tc : Thread Cert.AdamSmall1Ideal.nD Cert.AdamSmall1Ideal.τ).loc Cert.AdamSmall1Ideal.main_arg11) = m ((c.tc : Thread Cert.AdamSmall1Ideal.nD Cert.AdamSmall1Ideal.τ).loc Cert.AdamSmall1Ideal.main_arg11))
      ∧ θ_run (Cert.AdamSmall1RefIdeal.defs (F := Ideal)) (onTc (τ := Cert.AdamSmall1RefIdeal.τ) (Cert.AdamSmall1RefIdeal.main (F := Ideal))) ⟨m', fun _ => 0, g'⟩ (fun r => ∀ c : Dev Cert.AdamSmall1RefIdeal.nD,
          r.2.mem ((c.tc : Thread Cert.AdamSmall1RefIdeal.nD Cert.AdamSmall1RefIdeal.τ).loc Cert.AdamSmall1RefIdeal.main_v72) = v0 c
          ∧ r.2.mem ((c.tc : Thread Cert.AdamSmall1RefIdeal.nD Cert.AdamSmall1RefIdeal.τ).loc Cert.AdamSmall1RefIdeal.main_v47) = v1 c
          ∧ r.2.mem ((c.tc : Thread Cert.AdamSmall1RefIdeal.nD Cert.AdamSmall1RefIdeal.τ).loc Cert.AdamSmall1RefIdeal.main_v73) = v2 c
          ∧ r.2.mem ((c.tc : Thread Cert.AdamSmall1RefIdeal.nD Cert.AdamSmall1RefIdeal.τ).loc Cert.AdamSmall1RefIdeal.main_v74) = v3 c
          ∧ r.2.mem ((c.tc : Thread Cert.AdamSmall1RefIdeal.nD Cert.AdamSmall1RefIdeal.τ).loc Cert.AdamSmall1RefIdeal.main_v28) = v4 c
          ∧ r.2.mem ((c.tc : Thread Cert.AdamSmall1RefIdeal.nD Cert.AdamSmall1RefIdeal.τ).loc Cert.AdamSmall1RefIdeal.main_v75) = v5 c
          ∧ r.2.mem ((c.tc : Thread Cert.AdamSmall1RefIdeal.nD Cert.AdamSmall1RefIdeal.τ).loc Cert.AdamSmall1RefIdeal.main_v76) = v6 c
          ∧ r.2.mem ((c.tc : Thread Cert.AdamSmall1RefIdeal.nD Cert.AdamSmall1RefIdeal.τ).loc Cert.AdamSmall1RefIdeal.main_v34) = v7 c
          ∧ r.2.mem ((c.tc : Thread Cert.AdamSmall1RefIdeal.nD Cert.AdamSmall1RefIdeal.τ).loc Cert.AdamSmall1RefIdeal.main_v77) = v8 c
          ∧ r.2.mem ((c.tc : Thread Cert.AdamSmall1RefIdeal.nD Cert.AdamSmall1RefIdeal.τ).loc Cert.AdamSmall1RefIdeal.main_arg0) = m' ((c.tc : Thread Cert.AdamSmall1RefIdeal.nD Cert.AdamSmall1RefIdeal.τ).loc Cert.AdamSmall1RefIdeal.main_arg0)
          ∧ r.2.mem ((c.tc : Thread Cert.AdamSmall1RefIdeal.nD Cert.AdamSmall1RefIdeal.τ).loc Cert.AdamSmall1RefIdeal.main_arg1) = m' ((c.tc : Thread Cert.AdamSmall1RefIdeal.nD Cert.AdamSmall1RefIdeal.τ).loc Cert.AdamSmall1RefIdeal.main_arg1)
          ∧ r.2.mem ((c.tc : Thread Cert.AdamSmall1RefIdeal.nD Cert.AdamSmall1RefIdeal.τ).loc Cert.AdamSmall1RefIdeal.main_arg2) = m' ((c.tc : Thread Cert.AdamSmall1RefIdeal.nD Cert.AdamSmall1RefIdeal.τ).loc Cert.AdamSmall1RefIdeal.main_arg2)
          ∧ r.2.mem ((c.tc : Thread Cert.AdamSmall1RefIdeal.nD Cert.AdamSmall1RefIdeal.τ).loc Cert.AdamSmall1RefIdeal.main_arg3) = m' ((c.tc : Thread Cert.AdamSmall1RefIdeal.nD Cert.AdamSmall1RefIdeal.τ).loc Cert.AdamSmall1RefIdeal.main_arg3)
          ∧ r.2.mem ((c.tc : Thread Cert.AdamSmall1RefIdeal.nD Cert.AdamSmall1RefIdeal.τ).loc Cert.AdamSmall1RefIdeal.main_arg4) = m' ((c.tc : Thread Cert.AdamSmall1RefIdeal.nD Cert.AdamSmall1RefIdeal.τ).loc Cert.AdamSmall1RefIdeal.main_arg4)
          ∧ r.2.mem ((c.tc : Thread Cert.AdamSmall1RefIdeal.nD Cert.AdamSmall1RefIdeal.τ).loc Cert.AdamSmall1RefIdeal.main_arg5) = m' ((c.tc : Thread Cert.AdamSmall1RefIdeal.nD Cert.AdamSmall1RefIdeal.τ).loc Cert.AdamSmall1RefIdeal.main_arg5)
          ∧ r.2.mem ((c.tc : Thread Cert.AdamSmall1RefIdeal.nD Cert.AdamSmall1RefIdeal.τ).loc Cert.AdamSmall1RefIdeal.main_arg6) = m' ((c.tc : Thread Cert.AdamSmall1RefIdeal.nD Cert.AdamSmall1RefIdeal.τ).loc Cert.AdamSmall1RefIdeal.main_arg6)
          ∧ r.2.mem ((c.tc : Thread Cert.AdamSmall1RefIdeal.nD Cert.AdamSmall1RefIdeal.τ).loc Cert.AdamSmall1RefIdeal.main_arg7) = m' ((c.tc : Thread Cert.AdamSmall1RefIdeal.nD Cert.AdamSmall1RefIdeal.τ).loc Cert.AdamSmall1RefIdeal.main_arg7)
          ∧ r.2.mem ((c.tc : Thread Cert.AdamSmall1RefIdeal.nD Cert.AdamSmall1RefIdeal.τ).loc Cert.AdamSmall1RefIdeal.main_arg8) = m' ((c.tc : Thread Cert.AdamSmall1RefIdeal.nD Cert.AdamSmall1RefIdeal.τ).loc Cert.AdamSmall1RefIdeal.main_arg8)
          ∧ r.2.mem ((c.tc : Thread Cert.AdamSmall1RefIdeal.nD Cert.AdamSmall1RefIdeal.τ).loc Cert.AdamSmall1RefIdeal.main_arg9) = m' ((c.tc : Thread Cert.AdamSmall1RefIdeal.nD Cert.AdamSmall1RefIdeal.τ).loc Cert.AdamSmall1RefIdeal.main_arg9)
          ∧ r.2.mem ((c.tc : Thread Cert.AdamSmall1RefIdeal.nD Cert.AdamSmall1RefIdeal.τ).loc Cert.AdamSmall1RefIdeal.main_arg10) = m' ((c.tc : Thread Cert.AdamSmall1RefIdeal.nD Cert.AdamSmall1RefIdeal.τ).loc Cert.AdamSmall1RefIdeal.main_arg10)
          ∧ r.2.mem ((c.tc : Thread Cert.AdamSmall1RefIdeal.nD Cert.AdamSmall1RefIdeal.τ).loc Cert.AdamSmall1RefIdeal.main_arg11) = m' ((c.tc : Thread Cert.AdamSmall1RefIdeal.nD Cert.AdamSmall1RefIdeal.τ).loc Cert.AdamSmall1RefIdeal.main_arg11))

def algebraic_AdamSmall2Ideal_AdamSmall2RefIdeal [hAdamSmall2Ideal : Cert.AdamSmall2Ideal.Facts] [hAdamSmall2RefIdeal : Cert.AdamSmall2RefIdeal.Facts] : Prop :=
  ∀ (m : (ℓ : Loc Cert.AdamSmall2Ideal.nD Cert.AdamSmall2Ideal.τ Cert.AdamSmall2Ideal.sig) → Buf (Elt Ideal) ℓ) (g : Dev Cert.AdamSmall2Ideal.nD → PrngReg)
    (m' : (ℓ : Loc Cert.AdamSmall2RefIdeal.nD Cert.AdamSmall2RefIdeal.τ Cert.AdamSmall2RefIdeal.sig) → Buf (Elt Ideal) ℓ) (g' : Dev Cert.AdamSmall2RefIdeal.nD → PrngReg), Pre_AdamSmall2Ideal m →
    (∀ c : Dev Cert.AdamSmall2Ideal.nD,
      m' ((c.tc : Thread Cert.AdamSmall2RefIdeal.nD Cert.AdamSmall2RefIdeal.τ).loc Cert.AdamSmall2RefIdeal.main_arg0) = m ((c.tc : Thread Cert.AdamSmall2Ideal.nD Cert.AdamSmall2Ideal.τ).loc Cert.AdamSmall2Ideal.main_arg0)
      ∧ m' ((c.tc : Thread Cert.AdamSmall2RefIdeal.nD Cert.AdamSmall2RefIdeal.τ).loc Cert.AdamSmall2RefIdeal.main_arg1) = m ((c.tc : Thread Cert.AdamSmall2Ideal.nD Cert.AdamSmall2Ideal.τ).loc Cert.AdamSmall2Ideal.main_arg1)
      ∧ m' ((c.tc : Thread Cert.AdamSmall2RefIdeal.nD Cert.AdamSmall2RefIdeal.τ).loc Cert.AdamSmall2RefIdeal.main_arg2) = m ((c.tc : Thread Cert.AdamSmall2Ideal.nD Cert.AdamSmall2Ideal.τ).loc Cert.AdamSmall2Ideal.main_arg2)
      ∧ m' ((c.tc : Thread Cert.AdamSmall2RefIdeal.nD Cert.AdamSmall2RefIdeal.τ).loc Cert.AdamSmall2RefIdeal.main_arg3) = m ((c.tc : Thread Cert.AdamSmall2Ideal.nD Cert.AdamSmall2Ideal.τ).loc Cert.AdamSmall2Ideal.main_arg3)
      ∧ m' ((c.tc : Thread Cert.AdamSmall2RefIdeal.nD Cert.AdamSmall2RefIdeal.τ).loc Cert.AdamSmall2RefIdeal.main_arg4) = m ((c.tc : Thread Cert.AdamSmall2Ideal.nD Cert.AdamSmall2Ideal.τ).loc Cert.AdamSmall2Ideal.main_arg4)
      ∧ m' ((c.tc : Thread Cert.AdamSmall2RefIdeal.nD Cert.AdamSmall2RefIdeal.τ).loc Cert.AdamSmall2RefIdeal.main_arg5) = m ((c.tc : Thread Cert.AdamSmall2Ideal.nD Cert.AdamSmall2Ideal.τ).loc Cert.AdamSmall2Ideal.main_arg5)
      ∧ m' ((c.tc : Thread Cert.AdamSmall2RefIdeal.nD Cert.AdamSmall2RefIdeal.τ).loc Cert.AdamSmall2RefIdeal.main_arg6) = m ((c.tc : Thread Cert.AdamSmall2Ideal.nD Cert.AdamSmall2Ideal.τ).loc Cert.AdamSmall2Ideal.main_arg6)
      ∧ m' ((c.tc : Thread Cert.AdamSmall2RefIdeal.nD Cert.AdamSmall2RefIdeal.τ).loc Cert.AdamSmall2RefIdeal.main_arg7) = m ((c.tc : Thread Cert.AdamSmall2Ideal.nD Cert.AdamSmall2Ideal.τ).loc Cert.AdamSmall2Ideal.main_arg7)
      ∧ m' ((c.tc : Thread Cert.AdamSmall2RefIdeal.nD Cert.AdamSmall2RefIdeal.τ).loc Cert.AdamSmall2RefIdeal.main_arg8) = m ((c.tc : Thread Cert.AdamSmall2Ideal.nD Cert.AdamSmall2Ideal.τ).loc Cert.AdamSmall2Ideal.main_arg8)
      ∧ m' ((c.tc : Thread Cert.AdamSmall2RefIdeal.nD Cert.AdamSmall2RefIdeal.τ).loc Cert.AdamSmall2RefIdeal.main_arg9) = m ((c.tc : Thread Cert.AdamSmall2Ideal.nD Cert.AdamSmall2Ideal.τ).loc Cert.AdamSmall2Ideal.main_arg9)
      ∧ m' ((c.tc : Thread Cert.AdamSmall2RefIdeal.nD Cert.AdamSmall2RefIdeal.τ).loc Cert.AdamSmall2RefIdeal.main_arg10) = m ((c.tc : Thread Cert.AdamSmall2Ideal.nD Cert.AdamSmall2Ideal.τ).loc Cert.AdamSmall2Ideal.main_arg10)
      ∧ m' ((c.tc : Thread Cert.AdamSmall2RefIdeal.nD Cert.AdamSmall2RefIdeal.τ).loc Cert.AdamSmall2RefIdeal.main_arg11) = m ((c.tc : Thread Cert.AdamSmall2Ideal.nD Cert.AdamSmall2Ideal.τ).loc Cert.AdamSmall2Ideal.main_arg11)) →
    ∃ (v0 : (c : Dev Cert.AdamSmall2Ideal.nD) → Buf (Elt Ideal) ((c.tc : Thread Cert.AdamSmall2Ideal.nD Cert.AdamSmall2Ideal.τ).loc Cert.AdamSmall2Ideal.main_v8_0)) (v1 : (c : Dev Cert.AdamSmall2Ideal.nD) → Buf (Elt Ideal) ((c.tc : Thread Cert.AdamSmall2Ideal.nD Cert.AdamSmall2Ideal.τ).loc Cert.AdamSmall2Ideal.main_v8_1)) (v2 : (c : Dev Cert.AdamSmall2Ideal.nD) → Buf (Elt Ideal) ((c.tc : Thread Cert.AdamSmall2Ideal.nD Cert.AdamSmall2Ideal.τ).loc Cert.AdamSmall2Ideal.main_v8_2)) (v3 : (c : Dev Cert.AdamSmall2Ideal.nD) → Buf (Elt Ideal) ((c.tc : Thread Cert.AdamSmall2Ideal.nD Cert.AdamSmall2Ideal.τ).loc Cert.AdamSmall2Ideal.main_v8_3)) (v4 : (c : Dev Cert.AdamSmall2Ideal.nD) → Buf (Elt Ideal) ((c.tc : Thread Cert.AdamSmall2Ideal.nD Cert.AdamSmall2Ideal.τ).loc Cert.AdamSmall2Ideal.main_v8_4)) (v5 : (c : Dev Cert.AdamSmall2Ideal.nD) → Buf (Elt Ideal) ((c.tc : Thread Cert.AdamSmall2Ideal.nD Cert.AdamSmall2Ideal.τ).loc Cert.AdamSmall2Ideal.main_v8_5)) (v6 : (c : Dev Cert.AdamSmall2Ideal.nD) → Buf (Elt Ideal) ((c.tc : Thread Cert.AdamSmall2Ideal.nD Cert.AdamSmall2Ideal.τ).loc Cert.AdamSmall2Ideal.main_v8_6)) (v7 : (c : Dev Cert.AdamSmall2Ideal.nD) → Buf (Elt Ideal) ((c.tc : Thread Cert.AdamSmall2Ideal.nD Cert.AdamSmall2Ideal.τ).loc Cert.AdamSmall2Ideal.main_v8_7)) (v8 : (c : Dev Cert.AdamSmall2Ideal.nD) → Buf (Elt Ideal) ((c.tc : Thread Cert.AdamSmall2Ideal.nD Cert.AdamSmall2Ideal.τ).loc Cert.AdamSmall2Ideal.main_v8_8)),
      θ_run (Cert.AdamSmall2Ideal.defs (F := Ideal)) (onTc (τ := Cert.AdamSmall2Ideal.τ) (Cert.AdamSmall2Ideal.main (F := Ideal))) ⟨m, fun _ => 0, g⟩ (fun r => ∀ c : Dev Cert.AdamSmall2Ideal.nD,
          r.2.mem ((c.tc : Thread Cert.AdamSmall2Ideal.nD Cert.AdamSmall2Ideal.τ).loc Cert.AdamSmall2Ideal.main_v8_0) = v0 c
          ∧ r.2.mem ((c.tc : Thread Cert.AdamSmall2Ideal.nD Cert.AdamSmall2Ideal.τ).loc Cert.AdamSmall2Ideal.main_v8_1) = v1 c
          ∧ r.2.mem ((c.tc : Thread Cert.AdamSmall2Ideal.nD Cert.AdamSmall2Ideal.τ).loc Cert.AdamSmall2Ideal.main_v8_2) = v2 c
          ∧ r.2.mem ((c.tc : Thread Cert.AdamSmall2Ideal.nD Cert.AdamSmall2Ideal.τ).loc Cert.AdamSmall2Ideal.main_v8_3) = v3 c
          ∧ r.2.mem ((c.tc : Thread Cert.AdamSmall2Ideal.nD Cert.AdamSmall2Ideal.τ).loc Cert.AdamSmall2Ideal.main_v8_4) = v4 c
          ∧ r.2.mem ((c.tc : Thread Cert.AdamSmall2Ideal.nD Cert.AdamSmall2Ideal.τ).loc Cert.AdamSmall2Ideal.main_v8_5) = v5 c
          ∧ r.2.mem ((c.tc : Thread Cert.AdamSmall2Ideal.nD Cert.AdamSmall2Ideal.τ).loc Cert.AdamSmall2Ideal.main_v8_6) = v6 c
          ∧ r.2.mem ((c.tc : Thread Cert.AdamSmall2Ideal.nD Cert.AdamSmall2Ideal.τ).loc Cert.AdamSmall2Ideal.main_v8_7) = v7 c
          ∧ r.2.mem ((c.tc : Thread Cert.AdamSmall2Ideal.nD Cert.AdamSmall2Ideal.τ).loc Cert.AdamSmall2Ideal.main_v8_8) = v8 c
          ∧ r.2.mem ((c.tc : Thread Cert.AdamSmall2Ideal.nD Cert.AdamSmall2Ideal.τ).loc Cert.AdamSmall2Ideal.main_arg0) = m ((c.tc : Thread Cert.AdamSmall2Ideal.nD Cert.AdamSmall2Ideal.τ).loc Cert.AdamSmall2Ideal.main_arg0)
          ∧ r.2.mem ((c.tc : Thread Cert.AdamSmall2Ideal.nD Cert.AdamSmall2Ideal.τ).loc Cert.AdamSmall2Ideal.main_arg1) = m ((c.tc : Thread Cert.AdamSmall2Ideal.nD Cert.AdamSmall2Ideal.τ).loc Cert.AdamSmall2Ideal.main_arg1)
          ∧ r.2.mem ((c.tc : Thread Cert.AdamSmall2Ideal.nD Cert.AdamSmall2Ideal.τ).loc Cert.AdamSmall2Ideal.main_arg2) = m ((c.tc : Thread Cert.AdamSmall2Ideal.nD Cert.AdamSmall2Ideal.τ).loc Cert.AdamSmall2Ideal.main_arg2)
          ∧ r.2.mem ((c.tc : Thread Cert.AdamSmall2Ideal.nD Cert.AdamSmall2Ideal.τ).loc Cert.AdamSmall2Ideal.main_arg3) = m ((c.tc : Thread Cert.AdamSmall2Ideal.nD Cert.AdamSmall2Ideal.τ).loc Cert.AdamSmall2Ideal.main_arg3)
          ∧ r.2.mem ((c.tc : Thread Cert.AdamSmall2Ideal.nD Cert.AdamSmall2Ideal.τ).loc Cert.AdamSmall2Ideal.main_arg4) = m ((c.tc : Thread Cert.AdamSmall2Ideal.nD Cert.AdamSmall2Ideal.τ).loc Cert.AdamSmall2Ideal.main_arg4)
          ∧ r.2.mem ((c.tc : Thread Cert.AdamSmall2Ideal.nD Cert.AdamSmall2Ideal.τ).loc Cert.AdamSmall2Ideal.main_arg5) = m ((c.tc : Thread Cert.AdamSmall2Ideal.nD Cert.AdamSmall2Ideal.τ).loc Cert.AdamSmall2Ideal.main_arg5)
          ∧ r.2.mem ((c.tc : Thread Cert.AdamSmall2Ideal.nD Cert.AdamSmall2Ideal.τ).loc Cert.AdamSmall2Ideal.main_arg6) = m ((c.tc : Thread Cert.AdamSmall2Ideal.nD Cert.AdamSmall2Ideal.τ).loc Cert.AdamSmall2Ideal.main_arg6)
          ∧ r.2.mem ((c.tc : Thread Cert.AdamSmall2Ideal.nD Cert.AdamSmall2Ideal.τ).loc Cert.AdamSmall2Ideal.main_arg7) = m ((c.tc : Thread Cert.AdamSmall2Ideal.nD Cert.AdamSmall2Ideal.τ).loc Cert.AdamSmall2Ideal.main_arg7)
          ∧ r.2.mem ((c.tc : Thread Cert.AdamSmall2Ideal.nD Cert.AdamSmall2Ideal.τ).loc Cert.AdamSmall2Ideal.main_arg8) = m ((c.tc : Thread Cert.AdamSmall2Ideal.nD Cert.AdamSmall2Ideal.τ).loc Cert.AdamSmall2Ideal.main_arg8)
          ∧ r.2.mem ((c.tc : Thread Cert.AdamSmall2Ideal.nD Cert.AdamSmall2Ideal.τ).loc Cert.AdamSmall2Ideal.main_arg9) = m ((c.tc : Thread Cert.AdamSmall2Ideal.nD Cert.AdamSmall2Ideal.τ).loc Cert.AdamSmall2Ideal.main_arg9)
          ∧ r.2.mem ((c.tc : Thread Cert.AdamSmall2Ideal.nD Cert.AdamSmall2Ideal.τ).loc Cert.AdamSmall2Ideal.main_arg10) = m ((c.tc : Thread Cert.AdamSmall2Ideal.nD Cert.AdamSmall2Ideal.τ).loc Cert.AdamSmall2Ideal.main_arg10)
          ∧ r.2.mem ((c.tc : Thread Cert.AdamSmall2Ideal.nD Cert.AdamSmall2Ideal.τ).loc Cert.AdamSmall2Ideal.main_arg11) = m ((c.tc : Thread Cert.AdamSmall2Ideal.nD Cert.AdamSmall2Ideal.τ).loc Cert.AdamSmall2Ideal.main_arg11))
      ∧ θ_run (Cert.AdamSmall2RefIdeal.defs (F := Ideal)) (onTc (τ := Cert.AdamSmall2RefIdeal.τ) (Cert.AdamSmall2RefIdeal.main (F := Ideal))) ⟨m', fun _ => 0, g'⟩ (fun r => ∀ c : Dev Cert.AdamSmall2RefIdeal.nD,
          r.2.mem ((c.tc : Thread Cert.AdamSmall2RefIdeal.nD Cert.AdamSmall2RefIdeal.τ).loc Cert.AdamSmall2RefIdeal.main_v72) = v0 c
          ∧ r.2.mem ((c.tc : Thread Cert.AdamSmall2RefIdeal.nD Cert.AdamSmall2RefIdeal.τ).loc Cert.AdamSmall2RefIdeal.main_v73) = v1 c
          ∧ r.2.mem ((c.tc : Thread Cert.AdamSmall2RefIdeal.nD Cert.AdamSmall2RefIdeal.τ).loc Cert.AdamSmall2RefIdeal.main_v71) = v2 c
          ∧ r.2.mem ((c.tc : Thread Cert.AdamSmall2RefIdeal.nD Cert.AdamSmall2RefIdeal.τ).loc Cert.AdamSmall2RefIdeal.main_v74) = v3 c
          ∧ r.2.mem ((c.tc : Thread Cert.AdamSmall2RefIdeal.nD Cert.AdamSmall2RefIdeal.τ).loc Cert.AdamSmall2RefIdeal.main_v75) = v4 c
          ∧ r.2.mem ((c.tc : Thread Cert.AdamSmall2RefIdeal.nD Cert.AdamSmall2RefIdeal.τ).loc Cert.AdamSmall2RefIdeal.main_v52) = v5 c
          ∧ r.2.mem ((c.tc : Thread Cert.AdamSmall2RefIdeal.nD Cert.AdamSmall2RefIdeal.τ).loc Cert.AdamSmall2RefIdeal.main_v76) = v6 c
          ∧ r.2.mem ((c.tc : Thread Cert.AdamSmall2RefIdeal.nD Cert.AdamSmall2RefIdeal.τ).loc Cert.AdamSmall2RefIdeal.main_v77) = v7 c
          ∧ r.2.mem ((c.tc : Thread Cert.AdamSmall2RefIdeal.nD Cert.AdamSmall2RefIdeal.τ).loc Cert.AdamSmall2RefIdeal.main_v58) = v8 c
          ∧ r.2.mem ((c.tc : Thread Cert.AdamSmall2RefIdeal.nD Cert.AdamSmall2RefIdeal.τ).loc Cert.AdamSmall2RefIdeal.main_arg0) = m' ((c.tc : Thread Cert.AdamSmall2RefIdeal.nD Cert.AdamSmall2RefIdeal.τ).loc Cert.AdamSmall2RefIdeal.main_arg0)
          ∧ r.2.mem ((c.tc : Thread Cert.AdamSmall2RefIdeal.nD Cert.AdamSmall2RefIdeal.τ).loc Cert.AdamSmall2RefIdeal.main_arg1) = m' ((c.tc : Thread Cert.AdamSmall2RefIdeal.nD Cert.AdamSmall2RefIdeal.τ).loc Cert.AdamSmall2RefIdeal.main_arg1)
          ∧ r.2.mem ((c.tc : Thread Cert.AdamSmall2RefIdeal.nD Cert.AdamSmall2RefIdeal.τ).loc Cert.AdamSmall2RefIdeal.main_arg2) = m' ((c.tc : Thread Cert.AdamSmall2RefIdeal.nD Cert.AdamSmall2RefIdeal.τ).loc Cert.AdamSmall2RefIdeal.main_arg2)
          ∧ r.2.mem ((c.tc : Thread Cert.AdamSmall2RefIdeal.nD Cert.AdamSmall2RefIdeal.τ).loc Cert.AdamSmall2RefIdeal.main_arg3) = m' ((c.tc : Thread Cert.AdamSmall2RefIdeal.nD Cert.AdamSmall2RefIdeal.τ).loc Cert.AdamSmall2RefIdeal.main_arg3)
          ∧ r.2.mem ((c.tc : Thread Cert.AdamSmall2RefIdeal.nD Cert.AdamSmall2RefIdeal.τ).loc Cert.AdamSmall2RefIdeal.main_arg4) = m' ((c.tc : Thread Cert.AdamSmall2RefIdeal.nD Cert.AdamSmall2RefIdeal.τ).loc Cert.AdamSmall2RefIdeal.main_arg4)
          ∧ r.2.mem ((c.tc : Thread Cert.AdamSmall2RefIdeal.nD Cert.AdamSmall2RefIdeal.τ).loc Cert.AdamSmall2RefIdeal.main_arg5) = m' ((c.tc : Thread Cert.AdamSmall2RefIdeal.nD Cert.AdamSmall2RefIdeal.τ).loc Cert.AdamSmall2RefIdeal.main_arg5)
          ∧ r.2.mem ((c.tc : Thread Cert.AdamSmall2RefIdeal.nD Cert.AdamSmall2RefIdeal.τ).loc Cert.AdamSmall2RefIdeal.main_arg6) = m' ((c.tc : Thread Cert.AdamSmall2RefIdeal.nD Cert.AdamSmall2RefIdeal.τ).loc Cert.AdamSmall2RefIdeal.main_arg6)
          ∧ r.2.mem ((c.tc : Thread Cert.AdamSmall2RefIdeal.nD Cert.AdamSmall2RefIdeal.τ).loc Cert.AdamSmall2RefIdeal.main_arg7) = m' ((c.tc : Thread Cert.AdamSmall2RefIdeal.nD Cert.AdamSmall2RefIdeal.τ).loc Cert.AdamSmall2RefIdeal.main_arg7)
          ∧ r.2.mem ((c.tc : Thread Cert.AdamSmall2RefIdeal.nD Cert.AdamSmall2RefIdeal.τ).loc Cert.AdamSmall2RefIdeal.main_arg8) = m' ((c.tc : Thread Cert.AdamSmall2RefIdeal.nD Cert.AdamSmall2RefIdeal.τ).loc Cert.AdamSmall2RefIdeal.main_arg8)
          ∧ r.2.mem ((c.tc : Thread Cert.AdamSmall2RefIdeal.nD Cert.AdamSmall2RefIdeal.τ).loc Cert.AdamSmall2RefIdeal.main_arg9) = m' ((c.tc : Thread Cert.AdamSmall2RefIdeal.nD Cert.AdamSmall2RefIdeal.τ).loc Cert.AdamSmall2RefIdeal.main_arg9)
          ∧ r.2.mem ((c.tc : Thread Cert.AdamSmall2RefIdeal.nD Cert.AdamSmall2RefIdeal.τ).loc Cert.AdamSmall2RefIdeal.main_arg10) = m' ((c.tc : Thread Cert.AdamSmall2RefIdeal.nD Cert.AdamSmall2RefIdeal.τ).loc Cert.AdamSmall2RefIdeal.main_arg10)
          ∧ r.2.mem ((c.tc : Thread Cert.AdamSmall2RefIdeal.nD Cert.AdamSmall2RefIdeal.τ).loc Cert.AdamSmall2RefIdeal.main_arg11) = m' ((c.tc : Thread Cert.AdamSmall2RefIdeal.nD Cert.AdamSmall2RefIdeal.τ).loc Cert.AdamSmall2RefIdeal.main_arg11))

def algebraic_AdamSmall3Ideal_AdamSmall3RefIdeal [hAdamSmall3Ideal : Cert.AdamSmall3Ideal.Facts] [hAdamSmall3RefIdeal : Cert.AdamSmall3RefIdeal.Facts] : Prop :=
  ∀ (m : (ℓ : Loc Cert.AdamSmall3Ideal.nD Cert.AdamSmall3Ideal.τ Cert.AdamSmall3Ideal.sig) → Buf (Elt Ideal) ℓ) (g : Dev Cert.AdamSmall3Ideal.nD → PrngReg)
    (m' : (ℓ : Loc Cert.AdamSmall3RefIdeal.nD Cert.AdamSmall3RefIdeal.τ Cert.AdamSmall3RefIdeal.sig) → Buf (Elt Ideal) ℓ) (g' : Dev Cert.AdamSmall3RefIdeal.nD → PrngReg), Pre_AdamSmall3Ideal m →
    (∀ c : Dev Cert.AdamSmall3Ideal.nD,
      m' ((c.tc : Thread Cert.AdamSmall3RefIdeal.nD Cert.AdamSmall3RefIdeal.τ).loc Cert.AdamSmall3RefIdeal.main_arg0) = m ((c.tc : Thread Cert.AdamSmall3Ideal.nD Cert.AdamSmall3Ideal.τ).loc Cert.AdamSmall3Ideal.main_arg0)
      ∧ m' ((c.tc : Thread Cert.AdamSmall3RefIdeal.nD Cert.AdamSmall3RefIdeal.τ).loc Cert.AdamSmall3RefIdeal.main_arg1) = m ((c.tc : Thread Cert.AdamSmall3Ideal.nD Cert.AdamSmall3Ideal.τ).loc Cert.AdamSmall3Ideal.main_arg1)
      ∧ m' ((c.tc : Thread Cert.AdamSmall3RefIdeal.nD Cert.AdamSmall3RefIdeal.τ).loc Cert.AdamSmall3RefIdeal.main_arg2) = m ((c.tc : Thread Cert.AdamSmall3Ideal.nD Cert.AdamSmall3Ideal.τ).loc Cert.AdamSmall3Ideal.main_arg2)
      ∧ m' ((c.tc : Thread Cert.AdamSmall3RefIdeal.nD Cert.AdamSmall3RefIdeal.τ).loc Cert.AdamSmall3RefIdeal.main_arg3) = m ((c.tc : Thread Cert.AdamSmall3Ideal.nD Cert.AdamSmall3Ideal.τ).loc Cert.AdamSmall3Ideal.main_arg3)
      ∧ m' ((c.tc : Thread Cert.AdamSmall3RefIdeal.nD Cert.AdamSmall3RefIdeal.τ).loc Cert.AdamSmall3RefIdeal.main_arg4) = m ((c.tc : Thread Cert.AdamSmall3Ideal.nD Cert.AdamSmall3Ideal.τ).loc Cert.AdamSmall3Ideal.main_arg4)
      ∧ m' ((c.tc : Thread Cert.AdamSmall3RefIdeal.nD Cert.AdamSmall3RefIdeal.τ).loc Cert.AdamSmall3RefIdeal.main_arg5) = m ((c.tc : Thread Cert.AdamSmall3Ideal.nD Cert.AdamSmall3Ideal.τ).loc Cert.AdamSmall3Ideal.main_arg5)
      ∧ m' ((c.tc : Thread Cert.AdamSmall3RefIdeal.nD Cert.AdamSmall3RefIdeal.τ).loc Cert.AdamSmall3RefIdeal.main_arg6) = m ((c.tc : Thread Cert.AdamSmall3Ideal.nD Cert.AdamSmall3Ideal.τ).loc Cert.AdamSmall3Ideal.main_arg6)
      ∧ m' ((c.tc : Thread Cert.AdamSmall3RefIdeal.nD Cert.AdamSmall3RefIdeal.τ).loc Cert.AdamSmall3RefIdeal.main_arg7) = m ((c.tc : Thread Cert.AdamSmall3Ideal.nD Cert.AdamSmall3Ideal.τ).loc Cert.AdamSmall3Ideal.main_arg7)
      ∧ m' ((c.tc : Thread Cert.AdamSmall3RefIdeal.nD Cert.AdamSmall3RefIdeal.τ).loc Cert.AdamSmall3RefIdeal.main_arg8) = m ((c.tc : Thread Cert.AdamSmall3Ideal.nD Cert.AdamSmall3Ideal.τ).loc Cert.AdamSmall3Ideal.main_arg8)
      ∧ m' ((c.tc : Thread Cert.AdamSmall3RefIdeal.nD Cert.AdamSmall3RefIdeal.τ).loc Cert.AdamSmall3RefIdeal.main_arg9) = m ((c.tc : Thread Cert.AdamSmall3Ideal.nD Cert.AdamSmall3Ideal.τ).loc Cert.AdamSmall3Ideal.main_arg9)
      ∧ m' ((c.tc : Thread Cert.AdamSmall3RefIdeal.nD Cert.AdamSmall3RefIdeal.τ).loc Cert.AdamSmall3RefIdeal.main_arg10) = m ((c.tc : Thread Cert.AdamSmall3Ideal.nD Cert.AdamSmall3Ideal.τ).loc Cert.AdamSmall3Ideal.main_arg10)
      ∧ m' ((c.tc : Thread Cert.AdamSmall3RefIdeal.nD Cert.AdamSmall3RefIdeal.τ).loc Cert.AdamSmall3RefIdeal.main_arg11) = m ((c.tc : Thread Cert.AdamSmall3Ideal.nD Cert.AdamSmall3Ideal.τ).loc Cert.AdamSmall3Ideal.main_arg11)) →
    ∃ (v0 : (c : Dev Cert.AdamSmall3Ideal.nD) → Buf (Elt Ideal) ((c.tc : Thread Cert.AdamSmall3Ideal.nD Cert.AdamSmall3Ideal.τ).loc Cert.AdamSmall3Ideal.main_v12_0)) (v1 : (c : Dev Cert.AdamSmall3Ideal.nD) → Buf (Elt Ideal) ((c.tc : Thread Cert.AdamSmall3Ideal.nD Cert.AdamSmall3Ideal.τ).loc Cert.AdamSmall3Ideal.main_v12_1)) (v2 : (c : Dev Cert.AdamSmall3Ideal.nD) → Buf (Elt Ideal) ((c.tc : Thread Cert.AdamSmall3Ideal.nD Cert.AdamSmall3Ideal.τ).loc Cert.AdamSmall3Ideal.main_v12_2)) (v3 : (c : Dev Cert.AdamSmall3Ideal.nD) → Buf (Elt Ideal) ((c.tc : Thread Cert.AdamSmall3Ideal.nD Cert.AdamSmall3Ideal.τ).loc Cert.AdamSmall3Ideal.main_v12_3)) (v4 : (c : Dev Cert.AdamSmall3Ideal.nD) → Buf (Elt Ideal) ((c.tc : Thread Cert.AdamSmall3Ideal.nD Cert.AdamSmall3Ideal.τ).loc Cert.AdamSmall3Ideal.main_v12_4)) (v5 : (c : Dev Cert.AdamSmall3Ideal.nD) → Buf (Elt Ideal) ((c.tc : Thread Cert.AdamSmall3Ideal.nD Cert.AdamSmall3Ideal.τ).loc Cert.AdamSmall3Ideal.main_v12_5)) (v6 : (c : Dev Cert.AdamSmall3Ideal.nD) → Buf (Elt Ideal) ((c.tc : Thread Cert.AdamSmall3Ideal.nD Cert.AdamSmall3Ideal.τ).loc Cert.AdamSmall3Ideal.main_v12_6)) (v7 : (c : Dev Cert.AdamSmall3Ideal.nD) → Buf (Elt Ideal) ((c.tc : Thread Cert.AdamSmall3Ideal.nD Cert.AdamSmall3Ideal.τ).loc Cert.AdamSmall3Ideal.main_v12_7)) (v8 : (c : Dev Cert.AdamSmall3Ideal.nD) → Buf (Elt Ideal) ((c.tc : Thread Cert.AdamSmall3Ideal.nD Cert.AdamSmall3Ideal.τ).loc Cert.AdamSmall3Ideal.main_v12_8)),
      θ_run (Cert.AdamSmall3Ideal.defs (F := Ideal)) (onTc (τ := Cert.AdamSmall3Ideal.τ) (Cert.AdamSmall3Ideal.main (F := Ideal))) ⟨m, fun _ => 0, g⟩ (fun r => ∀ c : Dev Cert.AdamSmall3Ideal.nD,
          r.2.mem ((c.tc : Thread Cert.AdamSmall3Ideal.nD Cert.AdamSmall3Ideal.τ).loc Cert.AdamSmall3Ideal.main_v12_0) = v0 c
          ∧ r.2.mem ((c.tc : Thread Cert.AdamSmall3Ideal.nD Cert.AdamSmall3Ideal.τ).loc Cert.AdamSmall3Ideal.main_v12_1) = v1 c
          ∧ r.2.mem ((c.tc : Thread Cert.AdamSmall3Ideal.nD Cert.AdamSmall3Ideal.τ).loc Cert.AdamSmall3Ideal.main_v12_2) = v2 c
          ∧ r.2.mem ((c.tc : Thread Cert.AdamSmall3Ideal.nD Cert.AdamSmall3Ideal.τ).loc Cert.AdamSmall3Ideal.main_v12_3) = v3 c
          ∧ r.2.mem ((c.tc : Thread Cert.AdamSmall3Ideal.nD Cert.AdamSmall3Ideal.τ).loc Cert.AdamSmall3Ideal.main_v12_4) = v4 c
          ∧ r.2.mem ((c.tc : Thread Cert.AdamSmall3Ideal.nD Cert.AdamSmall3Ideal.τ).loc Cert.AdamSmall3Ideal.main_v12_5) = v5 c
          ∧ r.2.mem ((c.tc : Thread Cert.AdamSmall3Ideal.nD Cert.AdamSmall3Ideal.τ).loc Cert.AdamSmall3Ideal.main_v12_6) = v6 c
          ∧ r.2.mem ((c.tc : Thread Cert.AdamSmall3Ideal.nD Cert.AdamSmall3Ideal.τ).loc Cert.AdamSmall3Ideal.main_v12_7) = v7 c
          ∧ r.2.mem ((c.tc : Thread Cert.AdamSmall3Ideal.nD Cert.AdamSmall3Ideal.τ).loc Cert.AdamSmall3Ideal.main_v12_8) = v8 c
          ∧ r.2.mem ((c.tc : Thread Cert.AdamSmall3Ideal.nD Cert.AdamSmall3Ideal.τ).loc Cert.AdamSmall3Ideal.main_arg0) = m ((c.tc : Thread Cert.AdamSmall3Ideal.nD Cert.AdamSmall3Ideal.τ).loc Cert.AdamSmall3Ideal.main_arg0)
          ∧ r.2.mem ((c.tc : Thread Cert.AdamSmall3Ideal.nD Cert.AdamSmall3Ideal.τ).loc Cert.AdamSmall3Ideal.main_arg1) = m ((c.tc : Thread Cert.AdamSmall3Ideal.nD Cert.AdamSmall3Ideal.τ).loc Cert.AdamSmall3Ideal.main_arg1)
          ∧ r.2.mem ((c.tc : Thread Cert.AdamSmall3Ideal.nD Cert.AdamSmall3Ideal.τ).loc Cert.AdamSmall3Ideal.main_arg2) = m ((c.tc : Thread Cert.AdamSmall3Ideal.nD Cert.AdamSmall3Ideal.τ).loc Cert.AdamSmall3Ideal.main_arg2)
          ∧ r.2.mem ((c.tc : Thread Cert.AdamSmall3Ideal.nD Cert.AdamSmall3Ideal.τ).loc Cert.AdamSmall3Ideal.main_arg3) = m ((c.tc : Thread Cert.AdamSmall3Ideal.nD Cert.AdamSmall3Ideal.τ).loc Cert.AdamSmall3Ideal.main_arg3)
          ∧ r.2.mem ((c.tc : Thread Cert.AdamSmall3Ideal.nD Cert.AdamSmall3Ideal.τ).loc Cert.AdamSmall3Ideal.main_arg4) = m ((c.tc : Thread Cert.AdamSmall3Ideal.nD Cert.AdamSmall3Ideal.τ).loc Cert.AdamSmall3Ideal.main_arg4)
          ∧ r.2.mem ((c.tc : Thread Cert.AdamSmall3Ideal.nD Cert.AdamSmall3Ideal.τ).loc Cert.AdamSmall3Ideal.main_arg5) = m ((c.tc : Thread Cert.AdamSmall3Ideal.nD Cert.AdamSmall3Ideal.τ).loc Cert.AdamSmall3Ideal.main_arg5)
          ∧ r.2.mem ((c.tc : Thread Cert.AdamSmall3Ideal.nD Cert.AdamSmall3Ideal.τ).loc Cert.AdamSmall3Ideal.main_arg6) = m ((c.tc : Thread Cert.AdamSmall3Ideal.nD Cert.AdamSmall3Ideal.τ).loc Cert.AdamSmall3Ideal.main_arg6)
          ∧ r.2.mem ((c.tc : Thread Cert.AdamSmall3Ideal.nD Cert.AdamSmall3Ideal.τ).loc Cert.AdamSmall3Ideal.main_arg7) = m ((c.tc : Thread Cert.AdamSmall3Ideal.nD Cert.AdamSmall3Ideal.τ).loc Cert.AdamSmall3Ideal.main_arg7)
          ∧ r.2.mem ((c.tc : Thread Cert.AdamSmall3Ideal.nD Cert.AdamSmall3Ideal.τ).loc Cert.AdamSmall3Ideal.main_arg8) = m ((c.tc : Thread Cert.AdamSmall3Ideal.nD Cert.AdamSmall3Ideal.τ).loc Cert.AdamSmall3Ideal.main_arg8)
          ∧ r.2.mem ((c.tc : Thread Cert.AdamSmall3Ideal.nD Cert.AdamSmall3Ideal.τ).loc Cert.AdamSmall3Ideal.main_arg9) = m ((c.tc : Thread Cert.AdamSmall3Ideal.nD Cert.AdamSmall3Ideal.τ).loc Cert.AdamSmall3Ideal.main_arg9)
          ∧ r.2.mem ((c.tc : Thread Cert.AdamSmall3Ideal.nD Cert.AdamSmall3Ideal.τ).loc Cert.AdamSmall3Ideal.main_arg10) = m ((c.tc : Thread Cert.AdamSmall3Ideal.nD Cert.AdamSmall3Ideal.τ).loc Cert.AdamSmall3Ideal.main_arg10)
          ∧ r.2.mem ((c.tc : Thread Cert.AdamSmall3Ideal.nD Cert.AdamSmall3Ideal.τ).loc Cert.AdamSmall3Ideal.main_arg11) = m ((c.tc : Thread Cert.AdamSmall3Ideal.nD Cert.AdamSmall3Ideal.τ).loc Cert.AdamSmall3Ideal.main_arg11))
      ∧ θ_run (Cert.AdamSmall3RefIdeal.defs (F := Ideal)) (onTc (τ := Cert.AdamSmall3RefIdeal.τ) (Cert.AdamSmall3RefIdeal.main (F := Ideal))) ⟨m', fun _ => 0, g'⟩ (fun r => ∀ c : Dev Cert.AdamSmall3RefIdeal.nD,
          r.2.mem ((c.tc : Thread Cert.AdamSmall3RefIdeal.nD Cert.AdamSmall3RefIdeal.τ).loc Cert.AdamSmall3RefIdeal.main_v72) = v0 c
          ∧ r.2.mem ((c.tc : Thread Cert.AdamSmall3RefIdeal.nD Cert.AdamSmall3RefIdeal.τ).loc Cert.AdamSmall3RefIdeal.main_v73) = v1 c
          ∧ r.2.mem ((c.tc : Thread Cert.AdamSmall3RefIdeal.nD Cert.AdamSmall3RefIdeal.τ).loc Cert.AdamSmall3RefIdeal.main_v74) = v2 c
          ∧ r.2.mem ((c.tc : Thread Cert.AdamSmall3RefIdeal.nD Cert.AdamSmall3RefIdeal.τ).loc Cert.AdamSmall3RefIdeal.main_v75) = v3 c
          ∧ r.2.mem ((c.tc : Thread Cert.AdamSmall3RefIdeal.nD Cert.AdamSmall3RefIdeal.τ).loc Cert.AdamSmall3RefIdeal.main_v76) = v4 c
          ∧ r.2.mem ((c.tc : Thread Cert.AdamSmall3RefIdeal.nD Cert.AdamSmall3RefIdeal.τ).loc Cert.AdamSmall3RefIdeal.main_v77) = v5 c
          ∧ r.2.mem ((c.tc : Thread Cert.AdamSmall3RefIdeal.nD Cert.AdamSmall3RefIdeal.τ).loc Cert.AdamSmall3RefIdeal.main_v78) = v6 c
          ∧ r.2.mem ((c.tc : Thread Cert.AdamSmall3RefIdeal.nD Cert.AdamSmall3RefIdeal.τ).loc Cert.AdamSmall3RefIdeal.main_v79) = v7 c
          ∧ r.2.mem ((c.tc : Thread Cert.AdamSmall3RefIdeal.nD Cert.AdamSmall3RefIdeal.τ).loc Cert.AdamSmall3RefIdeal.main_v80) = v8 c
          ∧ r.2.mem ((c.tc : Thread Cert.AdamSmall3RefIdeal.nD Cert.AdamSmall3RefIdeal.τ).loc Cert.AdamSmall3RefIdeal.main_arg0) = m' ((c.tc : Thread Cert.AdamSmall3RefIdeal.nD Cert.AdamSmall3RefIdeal.τ).loc Cert.AdamSmall3RefIdeal.main_arg0)
          ∧ r.2.mem ((c.tc : Thread Cert.AdamSmall3RefIdeal.nD Cert.AdamSmall3RefIdeal.τ).loc Cert.AdamSmall3RefIdeal.main_arg1) = m' ((c.tc : Thread Cert.AdamSmall3RefIdeal.nD Cert.AdamSmall3RefIdeal.τ).loc Cert.AdamSmall3RefIdeal.main_arg1)
          ∧ r.2.mem ((c.tc : Thread Cert.AdamSmall3RefIdeal.nD Cert.AdamSmall3RefIdeal.τ).loc Cert.AdamSmall3RefIdeal.main_arg2) = m' ((c.tc : Thread Cert.AdamSmall3RefIdeal.nD Cert.AdamSmall3RefIdeal.τ).loc Cert.AdamSmall3RefIdeal.main_arg2)
          ∧ r.2.mem ((c.tc : Thread Cert.AdamSmall3RefIdeal.nD Cert.AdamSmall3RefIdeal.τ).loc Cert.AdamSmall3RefIdeal.main_arg3) = m' ((c.tc : Thread Cert.AdamSmall3RefIdeal.nD Cert.AdamSmall3RefIdeal.τ).loc Cert.AdamSmall3RefIdeal.main_arg3)
          ∧ r.2.mem ((c.tc : Thread Cert.AdamSmall3RefIdeal.nD Cert.AdamSmall3RefIdeal.τ).loc Cert.AdamSmall3RefIdeal.main_arg4) = m' ((c.tc : Thread Cert.AdamSmall3RefIdeal.nD Cert.AdamSmall3RefIdeal.τ).loc Cert.AdamSmall3RefIdeal.main_arg4)
          ∧ r.2.mem ((c.tc : Thread Cert.AdamSmall3RefIdeal.nD Cert.AdamSmall3RefIdeal.τ).loc Cert.AdamSmall3RefIdeal.main_arg5) = m' ((c.tc : Thread Cert.AdamSmall3RefIdeal.nD Cert.AdamSmall3RefIdeal.τ).loc Cert.AdamSmall3RefIdeal.main_arg5)
          ∧ r.2.mem ((c.tc : Thread Cert.AdamSmall3RefIdeal.nD Cert.AdamSmall3RefIdeal.τ).loc Cert.AdamSmall3RefIdeal.main_arg6) = m' ((c.tc : Thread Cert.AdamSmall3RefIdeal.nD Cert.AdamSmall3RefIdeal.τ).loc Cert.AdamSmall3RefIdeal.main_arg6)
          ∧ r.2.mem ((c.tc : Thread Cert.AdamSmall3RefIdeal.nD Cert.AdamSmall3RefIdeal.τ).loc Cert.AdamSmall3RefIdeal.main_arg7) = m' ((c.tc : Thread Cert.AdamSmall3RefIdeal.nD Cert.AdamSmall3RefIdeal.τ).loc Cert.AdamSmall3RefIdeal.main_arg7)
          ∧ r.2.mem ((c.tc : Thread Cert.AdamSmall3RefIdeal.nD Cert.AdamSmall3RefIdeal.τ).loc Cert.AdamSmall3RefIdeal.main_arg8) = m' ((c.tc : Thread Cert.AdamSmall3RefIdeal.nD Cert.AdamSmall3RefIdeal.τ).loc Cert.AdamSmall3RefIdeal.main_arg8)
          ∧ r.2.mem ((c.tc : Thread Cert.AdamSmall3RefIdeal.nD Cert.AdamSmall3RefIdeal.τ).loc Cert.AdamSmall3RefIdeal.main_arg9) = m' ((c.tc : Thread Cert.AdamSmall3RefIdeal.nD Cert.AdamSmall3RefIdeal.τ).loc Cert.AdamSmall3RefIdeal.main_arg9)
          ∧ r.2.mem ((c.tc : Thread Cert.AdamSmall3RefIdeal.nD Cert.AdamSmall3RefIdeal.τ).loc Cert.AdamSmall3RefIdeal.main_arg10) = m' ((c.tc : Thread Cert.AdamSmall3RefIdeal.nD Cert.AdamSmall3RefIdeal.τ).loc Cert.AdamSmall3RefIdeal.main_arg10)
          ∧ r.2.mem ((c.tc : Thread Cert.AdamSmall3RefIdeal.nD Cert.AdamSmall3RefIdeal.τ).loc Cert.AdamSmall3RefIdeal.main_arg11) = m' ((c.tc : Thread Cert.AdamSmall3RefIdeal.nD Cert.AdamSmall3RefIdeal.τ).loc Cert.AdamSmall3RefIdeal.main_arg11))

def algebraic_AdamSmall4Ideal_AdamSmall4RefIdeal [hAdamSmall4Ideal : Cert.AdamSmall4Ideal.Facts] [hAdamSmall4RefIdeal : Cert.AdamSmall4RefIdeal.Facts] : Prop :=
  ∀ (m : (ℓ : Loc Cert.AdamSmall4Ideal.nD Cert.AdamSmall4Ideal.τ Cert.AdamSmall4Ideal.sig) → Buf (Elt Ideal) ℓ) (g : Dev Cert.AdamSmall4Ideal.nD → PrngReg)
    (m' : (ℓ : Loc Cert.AdamSmall4RefIdeal.nD Cert.AdamSmall4RefIdeal.τ Cert.AdamSmall4RefIdeal.sig) → Buf (Elt Ideal) ℓ) (g' : Dev Cert.AdamSmall4RefIdeal.nD → PrngReg), Pre_AdamSmall4Ideal m →
    (∀ c : Dev Cert.AdamSmall4Ideal.nD,
      m' ((c.tc : Thread Cert.AdamSmall4RefIdeal.nD Cert.AdamSmall4RefIdeal.τ).loc Cert.AdamSmall4RefIdeal.main_arg0) = m ((c.tc : Thread Cert.AdamSmall4Ideal.nD Cert.AdamSmall4Ideal.τ).loc Cert.AdamSmall4Ideal.main_arg0)
      ∧ m' ((c.tc : Thread Cert.AdamSmall4RefIdeal.nD Cert.AdamSmall4RefIdeal.τ).loc Cert.AdamSmall4RefIdeal.main_arg1) = m ((c.tc : Thread Cert.AdamSmall4Ideal.nD Cert.AdamSmall4Ideal.τ).loc Cert.AdamSmall4Ideal.main_arg1)
      ∧ m' ((c.tc : Thread Cert.AdamSmall4RefIdeal.nD Cert.AdamSmall4RefIdeal.τ).loc Cert.AdamSmall4RefIdeal.main_arg2) = m ((c.tc : Thread Cert.AdamSmall4Ideal.nD Cert.AdamSmall4Ideal.τ).loc Cert.AdamSmall4Ideal.main_arg2)
      ∧ m' ((c.tc : Thread Cert.AdamSmall4RefIdeal.nD Cert.AdamSmall4RefIdeal.τ).loc Cert.AdamSmall4RefIdeal.main_arg3) = m ((c.tc : Thread Cert.AdamSmall4Ideal.nD Cert.AdamSmall4Ideal.τ).loc Cert.AdamSmall4Ideal.main_arg3)
      ∧ m' ((c.tc : Thread Cert.AdamSmall4RefIdeal.nD Cert.AdamSmall4RefIdeal.τ).loc Cert.AdamSmall4RefIdeal.main_arg4) = m ((c.tc : Thread Cert.AdamSmall4Ideal.nD Cert.AdamSmall4Ideal.τ).loc Cert.AdamSmall4Ideal.main_arg4)
      ∧ m' ((c.tc : Thread Cert.AdamSmall4RefIdeal.nD Cert.AdamSmall4RefIdeal.τ).loc Cert.AdamSmall4RefIdeal.main_arg5) = m ((c.tc : Thread Cert.AdamSmall4Ideal.nD Cert.AdamSmall4Ideal.τ).loc Cert.AdamSmall4Ideal.main_arg5)
      ∧ m' ((c.tc : Thread Cert.AdamSmall4RefIdeal.nD Cert.AdamSmall4RefIdeal.τ).loc Cert.AdamSmall4RefIdeal.main_arg6) = m ((c.tc : Thread Cert.AdamSmall4Ideal.nD Cert.AdamSmall4Ideal.τ).loc Cert.AdamSmall4Ideal.main_arg6)
      ∧ m' ((c.tc : Thread Cert.AdamSmall4RefIdeal.nD Cert.AdamSmall4RefIdeal.τ).loc Cert.AdamSmall4RefIdeal.main_arg7) = m ((c.tc : Thread Cert.AdamSmall4Ideal.nD Cert.AdamSmall4Ideal.τ).loc Cert.AdamSmall4Ideal.main_arg7)
      ∧ m' ((c.tc : Thread Cert.AdamSmall4RefIdeal.nD Cert.AdamSmall4RefIdeal.τ).loc Cert.AdamSmall4RefIdeal.main_arg8) = m ((c.tc : Thread Cert.AdamSmall4Ideal.nD Cert.AdamSmall4Ideal.τ).loc Cert.AdamSmall4Ideal.main_arg8)
      ∧ m' ((c.tc : Thread Cert.AdamSmall4RefIdeal.nD Cert.AdamSmall4RefIdeal.τ).loc Cert.AdamSmall4RefIdeal.main_arg9) = m ((c.tc : Thread Cert.AdamSmall4Ideal.nD Cert.AdamSmall4Ideal.τ).loc Cert.AdamSmall4Ideal.main_arg9)
      ∧ m' ((c.tc : Thread Cert.AdamSmall4RefIdeal.nD Cert.AdamSmall4RefIdeal.τ).loc Cert.AdamSmall4RefIdeal.main_arg10) = m ((c.tc : Thread Cert.AdamSmall4Ideal.nD Cert.AdamSmall4Ideal.τ).loc Cert.AdamSmall4Ideal.main_arg10)
      ∧ m' ((c.tc : Thread Cert.AdamSmall4RefIdeal.nD Cert.AdamSmall4RefIdeal.τ).loc Cert.AdamSmall4RefIdeal.main_arg11) = m ((c.tc : Thread Cert.AdamSmall4Ideal.nD Cert.AdamSmall4Ideal.τ).loc Cert.AdamSmall4Ideal.main_arg11)) →
    ∃ (v0 : (c : Dev Cert.AdamSmall4Ideal.nD) → Buf (Elt Ideal) ((c.tc : Thread Cert.AdamSmall4Ideal.nD Cert.AdamSmall4Ideal.τ).loc Cert.AdamSmall4Ideal.main_v12_0)) (v1 : (c : Dev Cert.AdamSmall4Ideal.nD) → Buf (Elt Ideal) ((c.tc : Thread Cert.AdamSmall4Ideal.nD Cert.AdamSmall4Ideal.τ).loc Cert.AdamSmall4Ideal.main_v12_1)) (v2 : (c : Dev Cert.AdamSmall4Ideal.nD) → Buf (Elt Ideal) ((c.tc : Thread Cert.AdamSmall4Ideal.nD Cert.AdamSmall4Ideal.τ).loc Cert.AdamSmall4Ideal.main_v12_2)) (v3 : (c : Dev Cert.AdamSmall4Ideal.nD) → Buf (Elt Ideal) ((c.tc : Thread Cert.AdamSmall4Ideal.nD Cert.AdamSmall4Ideal.τ).loc Cert.AdamSmall4Ideal.main_v12_3)) (v4 : (c : Dev Cert.AdamSmall4Ideal.nD) → Buf (Elt Ideal) ((c.tc : Thread Cert.AdamSmall4Ideal.nD Cert.AdamSmall4Ideal.τ).loc Cert.AdamSmall4Ideal.main_v12_4)) (v5 : (c : Dev Cert.AdamSmall4Ideal.nD) → Buf (Elt Ideal) ((c.tc : Thread Cert.AdamSmall4Ideal.nD Cert.AdamSmall4Ideal.τ).loc Cert.AdamSmall4Ideal.main_v12_5)) (v6 : (c : Dev Cert.AdamSmall4Ideal.nD) → Buf (Elt Ideal) ((c.tc : Thread Cert.AdamSmall4Ideal.nD Cert.AdamSmall4Ideal.τ).loc Cert.AdamSmall4Ideal.main_v12_6)) (v7 : (c : Dev Cert.AdamSmall4Ideal.nD) → Buf (Elt Ideal) ((c.tc : Thread Cert.AdamSmall4Ideal.nD Cert.AdamSmall4Ideal.τ).loc Cert.AdamSmall4Ideal.main_v12_7)) (v8 : (c : Dev Cert.AdamSmall4Ideal.nD) → Buf (Elt Ideal) ((c.tc : Thread Cert.AdamSmall4Ideal.nD Cert.AdamSmall4Ideal.τ).loc Cert.AdamSmall4Ideal.main_v12_8)),
      θ_run (Cert.AdamSmall4Ideal.defs (F := Ideal)) (onTc (τ := Cert.AdamSmall4Ideal.τ) (Cert.AdamSmall4Ideal.main (F := Ideal))) ⟨m, fun _ => 0, g⟩ (fun r => ∀ c : Dev Cert.AdamSmall4Ideal.nD,
          r.2.mem ((c.tc : Thread Cert.AdamSmall4Ideal.nD Cert.AdamSmall4Ideal.τ).loc Cert.AdamSmall4Ideal.main_v12_0) = v0 c
          ∧ r.2.mem ((c.tc : Thread Cert.AdamSmall4Ideal.nD Cert.AdamSmall4Ideal.τ).loc Cert.AdamSmall4Ideal.main_v12_1) = v1 c
          ∧ r.2.mem ((c.tc : Thread Cert.AdamSmall4Ideal.nD Cert.AdamSmall4Ideal.τ).loc Cert.AdamSmall4Ideal.main_v12_2) = v2 c
          ∧ r.2.mem ((c.tc : Thread Cert.AdamSmall4Ideal.nD Cert.AdamSmall4Ideal.τ).loc Cert.AdamSmall4Ideal.main_v12_3) = v3 c
          ∧ r.2.mem ((c.tc : Thread Cert.AdamSmall4Ideal.nD Cert.AdamSmall4Ideal.τ).loc Cert.AdamSmall4Ideal.main_v12_4) = v4 c
          ∧ r.2.mem ((c.tc : Thread Cert.AdamSmall4Ideal.nD Cert.AdamSmall4Ideal.τ).loc Cert.AdamSmall4Ideal.main_v12_5) = v5 c
          ∧ r.2.mem ((c.tc : Thread Cert.AdamSmall4Ideal.nD Cert.AdamSmall4Ideal.τ).loc Cert.AdamSmall4Ideal.main_v12_6) = v6 c
          ∧ r.2.mem ((c.tc : Thread Cert.AdamSmall4Ideal.nD Cert.AdamSmall4Ideal.τ).loc Cert.AdamSmall4Ideal.main_v12_7) = v7 c
          ∧ r.2.mem ((c.tc : Thread Cert.AdamSmall4Ideal.nD Cert.AdamSmall4Ideal.τ).loc Cert.AdamSmall4Ideal.main_v12_8) = v8 c
          ∧ r.2.mem ((c.tc : Thread Cert.AdamSmall4Ideal.nD Cert.AdamSmall4Ideal.τ).loc Cert.AdamSmall4Ideal.main_arg0) = m ((c.tc : Thread Cert.AdamSmall4Ideal.nD Cert.AdamSmall4Ideal.τ).loc Cert.AdamSmall4Ideal.main_arg0)
          ∧ r.2.mem ((c.tc : Thread Cert.AdamSmall4Ideal.nD Cert.AdamSmall4Ideal.τ).loc Cert.AdamSmall4Ideal.main_arg1) = m ((c.tc : Thread Cert.AdamSmall4Ideal.nD Cert.AdamSmall4Ideal.τ).loc Cert.AdamSmall4Ideal.main_arg1)
          ∧ r.2.mem ((c.tc : Thread Cert.AdamSmall4Ideal.nD Cert.AdamSmall4Ideal.τ).loc Cert.AdamSmall4Ideal.main_arg2) = m ((c.tc : Thread Cert.AdamSmall4Ideal.nD Cert.AdamSmall4Ideal.τ).loc Cert.AdamSmall4Ideal.main_arg2)
          ∧ r.2.mem ((c.tc : Thread Cert.AdamSmall4Ideal.nD Cert.AdamSmall4Ideal.τ).loc Cert.AdamSmall4Ideal.main_arg3) = m ((c.tc : Thread Cert.AdamSmall4Ideal.nD Cert.AdamSmall4Ideal.τ).loc Cert.AdamSmall4Ideal.main_arg3)
          ∧ r.2.mem ((c.tc : Thread Cert.AdamSmall4Ideal.nD Cert.AdamSmall4Ideal.τ).loc Cert.AdamSmall4Ideal.main_arg4) = m ((c.tc : Thread Cert.AdamSmall4Ideal.nD Cert.AdamSmall4Ideal.τ).loc Cert.AdamSmall4Ideal.main_arg4)
          ∧ r.2.mem ((c.tc : Thread Cert.AdamSmall4Ideal.nD Cert.AdamSmall4Ideal.τ).loc Cert.AdamSmall4Ideal.main_arg5) = m ((c.tc : Thread Cert.AdamSmall4Ideal.nD Cert.AdamSmall4Ideal.τ).loc Cert.AdamSmall4Ideal.main_arg5)
          ∧ r.2.mem ((c.tc : Thread Cert.AdamSmall4Ideal.nD Cert.AdamSmall4Ideal.τ).loc Cert.AdamSmall4Ideal.main_arg6) = m ((c.tc : Thread Cert.AdamSmall4Ideal.nD Cert.AdamSmall4Ideal.τ).loc Cert.AdamSmall4Ideal.main_arg6)
          ∧ r.2.mem ((c.tc : Thread Cert.AdamSmall4Ideal.nD Cert.AdamSmall4Ideal.τ).loc Cert.AdamSmall4Ideal.main_arg7) = m ((c.tc : Thread Cert.AdamSmall4Ideal.nD Cert.AdamSmall4Ideal.τ).loc Cert.AdamSmall4Ideal.main_arg7)
          ∧ r.2.mem ((c.tc : Thread Cert.AdamSmall4Ideal.nD Cert.AdamSmall4Ideal.τ).loc Cert.AdamSmall4Ideal.main_arg8) = m ((c.tc : Thread Cert.AdamSmall4Ideal.nD Cert.AdamSmall4Ideal.τ).loc Cert.AdamSmall4Ideal.main_arg8)
          ∧ r.2.mem ((c.tc : Thread Cert.AdamSmall4Ideal.nD Cert.AdamSmall4Ideal.τ).loc Cert.AdamSmall4Ideal.main_arg9) = m ((c.tc : Thread Cert.AdamSmall4Ideal.nD Cert.AdamSmall4Ideal.τ).loc Cert.AdamSmall4Ideal.main_arg9)
          ∧ r.2.mem ((c.tc : Thread Cert.AdamSmall4Ideal.nD Cert.AdamSmall4Ideal.τ).loc Cert.AdamSmall4Ideal.main_arg10) = m ((c.tc : Thread Cert.AdamSmall4Ideal.nD Cert.AdamSmall4Ideal.τ).loc Cert.AdamSmall4Ideal.main_arg10)
          ∧ r.2.mem ((c.tc : Thread Cert.AdamSmall4Ideal.nD Cert.AdamSmall4Ideal.τ).loc Cert.AdamSmall4Ideal.main_arg11) = m ((c.tc : Thread Cert.AdamSmall4Ideal.nD Cert.AdamSmall4Ideal.τ).loc Cert.AdamSmall4Ideal.main_arg11))
      ∧ θ_run (Cert.AdamSmall4RefIdeal.defs (F := Ideal)) (onTc (τ := Cert.AdamSmall4RefIdeal.τ) (Cert.AdamSmall4RefIdeal.main (F := Ideal))) ⟨m', fun _ => 0, g'⟩ (fun r => ∀ c : Dev Cert.AdamSmall4RefIdeal.nD,
          r.2.mem ((c.tc : Thread Cert.AdamSmall4RefIdeal.nD Cert.AdamSmall4RefIdeal.τ).loc Cert.AdamSmall4RefIdeal.main_v72) = v0 c
          ∧ r.2.mem ((c.tc : Thread Cert.AdamSmall4RefIdeal.nD Cert.AdamSmall4RefIdeal.τ).loc Cert.AdamSmall4RefIdeal.main_v73) = v1 c
          ∧ r.2.mem ((c.tc : Thread Cert.AdamSmall4RefIdeal.nD Cert.AdamSmall4RefIdeal.τ).loc Cert.AdamSmall4RefIdeal.main_v74) = v2 c
          ∧ r.2.mem ((c.tc : Thread Cert.AdamSmall4RefIdeal.nD Cert.AdamSmall4RefIdeal.τ).loc Cert.AdamSmall4RefIdeal.main_v75) = v3 c
          ∧ r.2.mem ((c.tc : Thread Cert.AdamSmall4RefIdeal.nD Cert.AdamSmall4RefIdeal.τ).loc Cert.AdamSmall4RefIdeal.main_v76) = v4 c
          ∧ r.2.mem ((c.tc : Thread Cert.AdamSmall4RefIdeal.nD Cert.AdamSmall4RefIdeal.τ).loc Cert.AdamSmall4RefIdeal.main_v77) = v5 c
          ∧ r.2.mem ((c.tc : Thread Cert.AdamSmall4RefIdeal.nD Cert.AdamSmall4RefIdeal.τ).loc Cert.AdamSmall4RefIdeal.main_v78) = v6 c
          ∧ r.2.mem ((c.tc : Thread Cert.AdamSmall4RefIdeal.nD Cert.AdamSmall4RefIdeal.τ).loc Cert.AdamSmall4RefIdeal.main_v79) = v7 c
          ∧ r.2.mem ((c.tc : Thread Cert.AdamSmall4RefIdeal.nD Cert.AdamSmall4RefIdeal.τ).loc Cert.AdamSmall4RefIdeal.main_v80) = v8 c
          ∧ r.2.mem ((c.tc : Thread Cert.AdamSmall4RefIdeal.nD Cert.AdamSmall4RefIdeal.τ).loc Cert.AdamSmall4RefIdeal.main_arg0) = m' ((c.tc : Thread Cert.AdamSmall4RefIdeal.nD Cert.AdamSmall4RefIdeal.τ).loc Cert.AdamSmall4RefIdeal.main_arg0)
          ∧ r.2.mem ((c.tc : Thread Cert.AdamSmall4RefIdeal.nD Cert.AdamSmall4RefIdeal.τ).loc Cert.AdamSmall4RefIdeal.main_arg1) = m' ((c.tc : Thread Cert.AdamSmall4RefIdeal.nD Cert.AdamSmall4RefIdeal.τ).loc Cert.AdamSmall4RefIdeal.main_arg1)
          ∧ r.2.mem ((c.tc : Thread Cert.AdamSmall4RefIdeal.nD Cert.AdamSmall4RefIdeal.τ).loc Cert.AdamSmall4RefIdeal.main_arg2) = m' ((c.tc : Thread Cert.AdamSmall4RefIdeal.nD Cert.AdamSmall4RefIdeal.τ).loc Cert.AdamSmall4RefIdeal.main_arg2)
          ∧ r.2.mem ((c.tc : Thread Cert.AdamSmall4RefIdeal.nD Cert.AdamSmall4RefIdeal.τ).loc Cert.AdamSmall4RefIdeal.main_arg3) = m' ((c.tc : Thread Cert.AdamSmall4RefIdeal.nD Cert.AdamSmall4RefIdeal.τ).loc Cert.AdamSmall4RefIdeal.main_arg3)
          ∧ r.2.mem ((c.tc : Thread Cert.AdamSmall4RefIdeal.nD Cert.AdamSmall4RefIdeal.τ).loc Cert.AdamSmall4RefIdeal.main_arg4) = m' ((c.tc : Thread Cert.AdamSmall4RefIdeal.nD Cert.AdamSmall4RefIdeal.τ).loc Cert.AdamSmall4RefIdeal.main_arg4)
          ∧ r.2.mem ((c.tc : Thread Cert.AdamSmall4RefIdeal.nD Cert.AdamSmall4RefIdeal.τ).loc Cert.AdamSmall4RefIdeal.main_arg5) = m' ((c.tc : Thread Cert.AdamSmall4RefIdeal.nD Cert.AdamSmall4RefIdeal.τ).loc Cert.AdamSmall4RefIdeal.main_arg5)
          ∧ r.2.mem ((c.tc : Thread Cert.AdamSmall4RefIdeal.nD Cert.AdamSmall4RefIdeal.τ).loc Cert.AdamSmall4RefIdeal.main_arg6) = m' ((c.tc : Thread Cert.AdamSmall4RefIdeal.nD Cert.AdamSmall4RefIdeal.τ).loc Cert.AdamSmall4RefIdeal.main_arg6)
          ∧ r.2.mem ((c.tc : Thread Cert.AdamSmall4RefIdeal.nD Cert.AdamSmall4RefIdeal.τ).loc Cert.AdamSmall4RefIdeal.main_arg7) = m' ((c.tc : Thread Cert.AdamSmall4RefIdeal.nD Cert.AdamSmall4RefIdeal.τ).loc Cert.AdamSmall4RefIdeal.main_arg7)
          ∧ r.2.mem ((c.tc : Thread Cert.AdamSmall4RefIdeal.nD Cert.AdamSmall4RefIdeal.τ).loc Cert.AdamSmall4RefIdeal.main_arg8) = m' ((c.tc : Thread Cert.AdamSmall4RefIdeal.nD Cert.AdamSmall4RefIdeal.τ).loc Cert.AdamSmall4RefIdeal.main_arg8)
          ∧ r.2.mem ((c.tc : Thread Cert.AdamSmall4RefIdeal.nD Cert.AdamSmall4RefIdeal.τ).loc Cert.AdamSmall4RefIdeal.main_arg9) = m' ((c.tc : Thread Cert.AdamSmall4RefIdeal.nD Cert.AdamSmall4RefIdeal.τ).loc Cert.AdamSmall4RefIdeal.main_arg9)
          ∧ r.2.mem ((c.tc : Thread Cert.AdamSmall4RefIdeal.nD Cert.AdamSmall4RefIdeal.τ).loc Cert.AdamSmall4RefIdeal.main_arg10) = m' ((c.tc : Thread Cert.AdamSmall4RefIdeal.nD Cert.AdamSmall4RefIdeal.τ).loc Cert.AdamSmall4RefIdeal.main_arg10)
          ∧ r.2.mem ((c.tc : Thread Cert.AdamSmall4RefIdeal.nD Cert.AdamSmall4RefIdeal.τ).loc Cert.AdamSmall4RefIdeal.main_arg11) = m' ((c.tc : Thread Cert.AdamSmall4RefIdeal.nD Cert.AdamSmall4RefIdeal.τ).loc Cert.AdamSmall4RefIdeal.main_arg11))

def algebraic_AdamSmall5Ideal_AdamSmall5RefIdeal [hAdamSmall5Ideal : Cert.AdamSmall5Ideal.Facts] [hAdamSmall5RefIdeal : Cert.AdamSmall5RefIdeal.Facts] : Prop :=
  ∀ (m : (ℓ : Loc Cert.AdamSmall5Ideal.nD Cert.AdamSmall5Ideal.τ Cert.AdamSmall5Ideal.sig) → Buf (Elt Ideal) ℓ) (g : Dev Cert.AdamSmall5Ideal.nD → PrngReg)
    (m' : (ℓ : Loc Cert.AdamSmall5RefIdeal.nD Cert.AdamSmall5RefIdeal.τ Cert.AdamSmall5RefIdeal.sig) → Buf (Elt Ideal) ℓ) (g' : Dev Cert.AdamSmall5RefIdeal.nD → PrngReg), Pre_AdamSmall5Ideal m →
    (∀ c : Dev Cert.AdamSmall5Ideal.nD,
      m' ((c.tc : Thread Cert.AdamSmall5RefIdeal.nD Cert.AdamSmall5RefIdeal.τ).loc Cert.AdamSmall5RefIdeal.main_arg0) = m ((c.tc : Thread Cert.AdamSmall5Ideal.nD Cert.AdamSmall5Ideal.τ).loc Cert.AdamSmall5Ideal.main_arg0)
      ∧ m' ((c.tc : Thread Cert.AdamSmall5RefIdeal.nD Cert.AdamSmall5RefIdeal.τ).loc Cert.AdamSmall5RefIdeal.main_arg1) = m ((c.tc : Thread Cert.AdamSmall5Ideal.nD Cert.AdamSmall5Ideal.τ).loc Cert.AdamSmall5Ideal.main_arg1)
      ∧ m' ((c.tc : Thread Cert.AdamSmall5RefIdeal.nD Cert.AdamSmall5RefIdeal.τ).loc Cert.AdamSmall5RefIdeal.main_arg2) = m ((c.tc : Thread Cert.AdamSmall5Ideal.nD Cert.AdamSmall5Ideal.τ).loc Cert.AdamSmall5Ideal.main_arg2)
      ∧ m' ((c.tc : Thread Cert.AdamSmall5RefIdeal.nD Cert.AdamSmall5RefIdeal.τ).loc Cert.AdamSmall5RefIdeal.main_arg3) = m ((c.tc : Thread Cert.AdamSmall5Ideal.nD Cert.AdamSmall5Ideal.τ).loc Cert.AdamSmall5Ideal.main_arg3)
      ∧ m' ((c.tc : Thread Cert.AdamSmall5RefIdeal.nD Cert.AdamSmall5RefIdeal.τ).loc Cert.AdamSmall5RefIdeal.main_arg4) = m ((c.tc : Thread Cert.AdamSmall5Ideal.nD Cert.AdamSmall5Ideal.τ).loc Cert.AdamSmall5Ideal.main_arg4)
      ∧ m' ((c.tc : Thread Cert.AdamSmall5RefIdeal.nD Cert.AdamSmall5RefIdeal.τ).loc Cert.AdamSmall5RefIdeal.main_arg5) = m ((c.tc : Thread Cert.AdamSmall5Ideal.nD Cert.AdamSmall5Ideal.τ).loc Cert.AdamSmall5Ideal.main_arg5)
      ∧ m' ((c.tc : Thread Cert.AdamSmall5RefIdeal.nD Cert.AdamSmall5RefIdeal.τ).loc Cert.AdamSmall5RefIdeal.main_arg6) = m ((c.tc : Thread Cert.AdamSmall5Ideal.nD Cert.AdamSmall5Ideal.τ).loc Cert.AdamSmall5Ideal.main_arg6)
      ∧ m' ((c.tc : Thread Cert.AdamSmall5RefIdeal.nD Cert.AdamSmall5RefIdeal.τ).loc Cert.AdamSmall5RefIdeal.main_arg7) = m ((c.tc : Thread Cert.AdamSmall5Ideal.nD Cert.AdamSmall5Ideal.τ).loc Cert.AdamSmall5Ideal.main_arg7)
      ∧ m' ((c.tc : Thread Cert.AdamSmall5RefIdeal.nD Cert.AdamSmall5RefIdeal.τ).loc Cert.AdamSmall5RefIdeal.main_arg8) = m ((c.tc : Thread Cert.AdamSmall5Ideal.nD Cert.AdamSmall5Ideal.τ).loc Cert.AdamSmall5Ideal.main_arg8)
      ∧ m' ((c.tc : Thread Cert.AdamSmall5RefIdeal.nD Cert.AdamSmall5RefIdeal.τ).loc Cert.AdamSmall5RefIdeal.main_arg9) = m ((c.tc : Thread Cert.AdamSmall5Ideal.nD Cert.AdamSmall5Ideal.τ).loc Cert.AdamSmall5Ideal.main_arg9)
      ∧ m' ((c.tc : Thread Cert.AdamSmall5RefIdeal.nD Cert.AdamSmall5RefIdeal.τ).loc Cert.AdamSmall5RefIdeal.main_arg10) = m ((c.tc : Thread Cert.AdamSmall5Ideal.nD Cert.AdamSmall5Ideal.τ).loc Cert.AdamSmall5Ideal.main_arg10)
      ∧ m' ((c.tc : Thread Cert.AdamSmall5RefIdeal.nD Cert.AdamSmall5RefIdeal.τ).loc Cert.AdamSmall5RefIdeal.main_arg11) = m ((c.tc : Thread Cert.AdamSmall5Ideal.nD Cert.AdamSmall5Ideal.τ).loc Cert.AdamSmall5Ideal.main_arg11)) →
    ∃ (v0 : (c : Dev Cert.AdamSmall5Ideal.nD) → Buf (Elt Ideal) ((c.tc : Thread Cert.AdamSmall5Ideal.nD Cert.AdamSmall5Ideal.τ).loc Cert.AdamSmall5Ideal.main_v12_0)) (v1 : (c : Dev Cert.AdamSmall5Ideal.nD) → Buf (Elt Ideal) ((c.tc : Thread Cert.AdamSmall5Ideal.nD Cert.AdamSmall5Ideal.τ).loc Cert.AdamSmall5Ideal.main_v12_1)) (v2 : (c : Dev Cert.AdamSmall5Ideal.nD) → Buf (Elt Ideal) ((c.tc : Thread Cert.AdamSmall5Ideal.nD Cert.AdamSmall5Ideal.τ).loc Cert.AdamSmall5Ideal.main_v12_2)) (v3 : (c : Dev Cert.AdamSmall5Ideal.nD) → Buf (Elt Ideal) ((c.tc : Thread Cert.AdamSmall5Ideal.nD Cert.AdamSmall5Ideal.τ).loc Cert.AdamSmall5Ideal.main_v12_3)) (v4 : (c : Dev Cert.AdamSmall5Ideal.nD) → Buf (Elt Ideal) ((c.tc : Thread Cert.AdamSmall5Ideal.nD Cert.AdamSmall5Ideal.τ).loc Cert.AdamSmall5Ideal.main_v12_4)) (v5 : (c : Dev Cert.AdamSmall5Ideal.nD) → Buf (Elt Ideal) ((c.tc : Thread Cert.AdamSmall5Ideal.nD Cert.AdamSmall5Ideal.τ).loc Cert.AdamSmall5Ideal.main_v12_5)) (v6 : (c : Dev Cert.AdamSmall5Ideal.nD) → Buf (Elt Ideal) ((c.tc : Thread Cert.AdamSmall5Ideal.nD Cert.AdamSmall5Ideal.τ).loc Cert.AdamSmall5Ideal.main_v12_6)) (v7 : (c : Dev Cert.AdamSmall5Ideal.nD) → Buf (Elt Ideal) ((c.tc : Thread Cert.AdamSmall5Ideal.nD Cert.AdamSmall5Ideal.τ).loc Cert.AdamSmall5Ideal.main_v12_7)) (v8 : (c : Dev Cert.AdamSmall5Ideal.nD) → Buf (Elt Ideal) ((c.tc : Thread Cert.AdamSmall5Ideal.nD Cert.AdamSmall5Ideal.τ).loc Cert.AdamSmall5Ideal.main_v12_8)),
      θ_run (Cert.AdamSmall5Ideal.defs (F := Ideal)) (onTc (τ := Cert.AdamSmall5Ideal.τ) (Cert.AdamSmall5Ideal.main (F := Ideal))) ⟨m, fun _ => 0, g⟩ (fun r => ∀ c : Dev Cert.AdamSmall5Ideal.nD,
          r.2.mem ((c.tc : Thread Cert.AdamSmall5Ideal.nD Cert.AdamSmall5Ideal.τ).loc Cert.AdamSmall5Ideal.main_v12_0) = v0 c
          ∧ r.2.mem ((c.tc : Thread Cert.AdamSmall5Ideal.nD Cert.AdamSmall5Ideal.τ).loc Cert.AdamSmall5Ideal.main_v12_1) = v1 c
          ∧ r.2.mem ((c.tc : Thread Cert.AdamSmall5Ideal.nD Cert.AdamSmall5Ideal.τ).loc Cert.AdamSmall5Ideal.main_v12_2) = v2 c
          ∧ r.2.mem ((c.tc : Thread Cert.AdamSmall5Ideal.nD Cert.AdamSmall5Ideal.τ).loc Cert.AdamSmall5Ideal.main_v12_3) = v3 c
          ∧ r.2.mem ((c.tc : Thread Cert.AdamSmall5Ideal.nD Cert.AdamSmall5Ideal.τ).loc Cert.AdamSmall5Ideal.main_v12_4) = v4 c
          ∧ r.2.mem ((c.tc : Thread Cert.AdamSmall5Ideal.nD Cert.AdamSmall5Ideal.τ).loc Cert.AdamSmall5Ideal.main_v12_5) = v5 c
          ∧ r.2.mem ((c.tc : Thread Cert.AdamSmall5Ideal.nD Cert.AdamSmall5Ideal.τ).loc Cert.AdamSmall5Ideal.main_v12_6) = v6 c
          ∧ r.2.mem ((c.tc : Thread Cert.AdamSmall5Ideal.nD Cert.AdamSmall5Ideal.τ).loc Cert.AdamSmall5Ideal.main_v12_7) = v7 c
          ∧ r.2.mem ((c.tc : Thread Cert.AdamSmall5Ideal.nD Cert.AdamSmall5Ideal.τ).loc Cert.AdamSmall5Ideal.main_v12_8) = v8 c
          ∧ r.2.mem ((c.tc : Thread Cert.AdamSmall5Ideal.nD Cert.AdamSmall5Ideal.τ).loc Cert.AdamSmall5Ideal.main_arg0) = m ((c.tc : Thread Cert.AdamSmall5Ideal.nD Cert.AdamSmall5Ideal.τ).loc Cert.AdamSmall5Ideal.main_arg0)
          ∧ r.2.mem ((c.tc : Thread Cert.AdamSmall5Ideal.nD Cert.AdamSmall5Ideal.τ).loc Cert.AdamSmall5Ideal.main_arg1) = m ((c.tc : Thread Cert.AdamSmall5Ideal.nD Cert.AdamSmall5Ideal.τ).loc Cert.AdamSmall5Ideal.main_arg1)
          ∧ r.2.mem ((c.tc : Thread Cert.AdamSmall5Ideal.nD Cert.AdamSmall5Ideal.τ).loc Cert.AdamSmall5Ideal.main_arg2) = m ((c.tc : Thread Cert.AdamSmall5Ideal.nD Cert.AdamSmall5Ideal.τ).loc Cert.AdamSmall5Ideal.main_arg2)
          ∧ r.2.mem ((c.tc : Thread Cert.AdamSmall5Ideal.nD Cert.AdamSmall5Ideal.τ).loc Cert.AdamSmall5Ideal.main_arg3) = m ((c.tc : Thread Cert.AdamSmall5Ideal.nD Cert.AdamSmall5Ideal.τ).loc Cert.AdamSmall5Ideal.main_arg3)
          ∧ r.2.mem ((c.tc : Thread Cert.AdamSmall5Ideal.nD Cert.AdamSmall5Ideal.τ).loc Cert.AdamSmall5Ideal.main_arg4) = m ((c.tc : Thread Cert.AdamSmall5Ideal.nD Cert.AdamSmall5Ideal.τ).loc Cert.AdamSmall5Ideal.main_arg4)
          ∧ r.2.mem ((c.tc : Thread Cert.AdamSmall5Ideal.nD Cert.AdamSmall5Ideal.τ).loc Cert.AdamSmall5Ideal.main_arg5) = m ((c.tc : Thread Cert.AdamSmall5Ideal.nD Cert.AdamSmall5Ideal.τ).loc Cert.AdamSmall5Ideal.main_arg5)
          ∧ r.2.mem ((c.tc : Thread Cert.AdamSmall5Ideal.nD Cert.AdamSmall5Ideal.τ).loc Cert.AdamSmall5Ideal.main_arg6) = m ((c.tc : Thread Cert.AdamSmall5Ideal.nD Cert.AdamSmall5Ideal.τ).loc Cert.AdamSmall5Ideal.main_arg6)
          ∧ r.2.mem ((c.tc : Thread Cert.AdamSmall5Ideal.nD Cert.AdamSmall5Ideal.τ).loc Cert.AdamSmall5Ideal.main_arg7) = m ((c.tc : Thread Cert.AdamSmall5Ideal.nD Cert.AdamSmall5Ideal.τ).loc Cert.AdamSmall5Ideal.main_arg7)
          ∧ r.2.mem ((c.tc : Thread Cert.AdamSmall5Ideal.nD Cert.AdamSmall5Ideal.τ).loc Cert.AdamSmall5Ideal.main_arg8) = m ((c.tc : Thread Cert.AdamSmall5Ideal.nD Cert.AdamSmall5Ideal.τ).loc Cert.AdamSmall5Ideal.main_arg8)
          ∧ r.2.mem ((c.tc : Thread Cert.AdamSmall5Ideal.nD Cert.AdamSmall5Ideal.τ).loc Cert.AdamSmall5Ideal.main_arg9) = m ((c.tc : Thread Cert.AdamSmall5Ideal.nD Cert.AdamSmall5Ideal.τ).loc Cert.AdamSmall5Ideal.main_arg9)
          ∧ r.2.mem ((c.tc : Thread Cert.AdamSmall5Ideal.nD Cert.AdamSmall5Ideal.τ).loc Cert.AdamSmall5Ideal.main_arg10) = m ((c.tc : Thread Cert.AdamSmall5Ideal.nD Cert.AdamSmall5Ideal.τ).loc Cert.AdamSmall5Ideal.main_arg10)
          ∧ r.2.mem ((c.tc : Thread Cert.AdamSmall5Ideal.nD Cert.AdamSmall5Ideal.τ).loc Cert.AdamSmall5Ideal.main_arg11) = m ((c.tc : Thread Cert.AdamSmall5Ideal.nD Cert.AdamSmall5Ideal.τ).loc Cert.AdamSmall5Ideal.main_arg11))
      ∧ θ_run (Cert.AdamSmall5RefIdeal.defs (F := Ideal)) (onTc (τ := Cert.AdamSmall5RefIdeal.τ) (Cert.AdamSmall5RefIdeal.main (F := Ideal))) ⟨m', fun _ => 0, g'⟩ (fun r => ∀ c : Dev Cert.AdamSmall5RefIdeal.nD,
          r.2.mem ((c.tc : Thread Cert.AdamSmall5RefIdeal.nD Cert.AdamSmall5RefIdeal.τ).loc Cert.AdamSmall5RefIdeal.main_v72) = v0 c
          ∧ r.2.mem ((c.tc : Thread Cert.AdamSmall5RefIdeal.nD Cert.AdamSmall5RefIdeal.τ).loc Cert.AdamSmall5RefIdeal.main_v73) = v1 c
          ∧ r.2.mem ((c.tc : Thread Cert.AdamSmall5RefIdeal.nD Cert.AdamSmall5RefIdeal.τ).loc Cert.AdamSmall5RefIdeal.main_v74) = v2 c
          ∧ r.2.mem ((c.tc : Thread Cert.AdamSmall5RefIdeal.nD Cert.AdamSmall5RefIdeal.τ).loc Cert.AdamSmall5RefIdeal.main_v75) = v3 c
          ∧ r.2.mem ((c.tc : Thread Cert.AdamSmall5RefIdeal.nD Cert.AdamSmall5RefIdeal.τ).loc Cert.AdamSmall5RefIdeal.main_v76) = v4 c
          ∧ r.2.mem ((c.tc : Thread Cert.AdamSmall5RefIdeal.nD Cert.AdamSmall5RefIdeal.τ).loc Cert.AdamSmall5RefIdeal.main_v77) = v5 c
          ∧ r.2.mem ((c.tc : Thread Cert.AdamSmall5RefIdeal.nD Cert.AdamSmall5RefIdeal.τ).loc Cert.AdamSmall5RefIdeal.main_v78) = v6 c
          ∧ r.2.mem ((c.tc : Thread Cert.AdamSmall5RefIdeal.nD Cert.AdamSmall5RefIdeal.τ).loc Cert.AdamSmall5RefIdeal.main_v79) = v7 c
          ∧ r.2.mem ((c.tc : Thread Cert.AdamSmall5RefIdeal.nD Cert.AdamSmall5RefIdeal.τ).loc Cert.AdamSmall5RefIdeal.main_v80) = v8 c
          ∧ r.2.mem ((c.tc : Thread Cert.AdamSmall5RefIdeal.nD Cert.AdamSmall5RefIdeal.τ).loc Cert.AdamSmall5RefIdeal.main_arg0) = m' ((c.tc : Thread Cert.AdamSmall5RefIdeal.nD Cert.AdamSmall5RefIdeal.τ).loc Cert.AdamSmall5RefIdeal.main_arg0)
          ∧ r.2.mem ((c.tc : Thread Cert.AdamSmall5RefIdeal.nD Cert.AdamSmall5RefIdeal.τ).loc Cert.AdamSmall5RefIdeal.main_arg1) = m' ((c.tc : Thread Cert.AdamSmall5RefIdeal.nD Cert.AdamSmall5RefIdeal.τ).loc Cert.AdamSmall5RefIdeal.main_arg1)
          ∧ r.2.mem ((c.tc : Thread Cert.AdamSmall5RefIdeal.nD Cert.AdamSmall5RefIdeal.τ).loc Cert.AdamSmall5RefIdeal.main_arg2) = m' ((c.tc : Thread Cert.AdamSmall5RefIdeal.nD Cert.AdamSmall5RefIdeal.τ).loc Cert.AdamSmall5RefIdeal.main_arg2)
          ∧ r.2.mem ((c.tc : Thread Cert.AdamSmall5RefIdeal.nD Cert.AdamSmall5RefIdeal.τ).loc Cert.AdamSmall5RefIdeal.main_arg3) = m' ((c.tc : Thread Cert.AdamSmall5RefIdeal.nD Cert.AdamSmall5RefIdeal.τ).loc Cert.AdamSmall5RefIdeal.main_arg3)
          ∧ r.2.mem ((c.tc : Thread Cert.AdamSmall5RefIdeal.nD Cert.AdamSmall5RefIdeal.τ).loc Cert.AdamSmall5RefIdeal.main_arg4) = m' ((c.tc : Thread Cert.AdamSmall5RefIdeal.nD Cert.AdamSmall5RefIdeal.τ).loc Cert.AdamSmall5RefIdeal.main_arg4)
          ∧ r.2.mem ((c.tc : Thread Cert.AdamSmall5RefIdeal.nD Cert.AdamSmall5RefIdeal.τ).loc Cert.AdamSmall5RefIdeal.main_arg5) = m' ((c.tc : Thread Cert.AdamSmall5RefIdeal.nD Cert.AdamSmall5RefIdeal.τ).loc Cert.AdamSmall5RefIdeal.main_arg5)
          ∧ r.2.mem ((c.tc : Thread Cert.AdamSmall5RefIdeal.nD Cert.AdamSmall5RefIdeal.τ).loc Cert.AdamSmall5RefIdeal.main_arg6) = m' ((c.tc : Thread Cert.AdamSmall5RefIdeal.nD Cert.AdamSmall5RefIdeal.τ).loc Cert.AdamSmall5RefIdeal.main_arg6)
          ∧ r.2.mem ((c.tc : Thread Cert.AdamSmall5RefIdeal.nD Cert.AdamSmall5RefIdeal.τ).loc Cert.AdamSmall5RefIdeal.main_arg7) = m' ((c.tc : Thread Cert.AdamSmall5RefIdeal.nD Cert.AdamSmall5RefIdeal.τ).loc Cert.AdamSmall5RefIdeal.main_arg7)
          ∧ r.2.mem ((c.tc : Thread Cert.AdamSmall5RefIdeal.nD Cert.AdamSmall5RefIdeal.τ).loc Cert.AdamSmall5RefIdeal.main_arg8) = m' ((c.tc : Thread Cert.AdamSmall5RefIdeal.nD Cert.AdamSmall5RefIdeal.τ).loc Cert.AdamSmall5RefIdeal.main_arg8)
          ∧ r.2.mem ((c.tc : Thread Cert.AdamSmall5RefIdeal.nD Cert.AdamSmall5RefIdeal.τ).loc Cert.AdamSmall5RefIdeal.main_arg9) = m' ((c.tc : Thread Cert.AdamSmall5RefIdeal.nD Cert.AdamSmall5RefIdeal.τ).loc Cert.AdamSmall5RefIdeal.main_arg9)
          ∧ r.2.mem ((c.tc : Thread Cert.AdamSmall5RefIdeal.nD Cert.AdamSmall5RefIdeal.τ).loc Cert.AdamSmall5RefIdeal.main_arg10) = m' ((c.tc : Thread Cert.AdamSmall5RefIdeal.nD Cert.AdamSmall5RefIdeal.τ).loc Cert.AdamSmall5RefIdeal.main_arg10)
          ∧ r.2.mem ((c.tc : Thread Cert.AdamSmall5RefIdeal.nD Cert.AdamSmall5RefIdeal.τ).loc Cert.AdamSmall5RefIdeal.main_arg11) = m' ((c.tc : Thread Cert.AdamSmall5RefIdeal.nD Cert.AdamSmall5RefIdeal.τ).loc Cert.AdamSmall5RefIdeal.main_arg11))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hDh1 : Cert.Dh1.Facts) (hDh1Ideal : Cert.Dh1Ideal.Facts) (hDh1RefIdeal : Cert.Dh1RefIdeal.Facts) (hGwin : Cert.Gwin.Facts) (hGwinIdeal : Cert.GwinIdeal.Facts) (hGwinRefIdeal : Cert.GwinRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDact : Cert.Dact.Facts) (hDactIdeal : Cert.DactIdeal.Facts) (hDactRefIdeal : Cert.DactRefIdeal.Facts) (hDh3 : Cert.Dh3.Facts) (hDh3Ideal : Cert.Dh3Ideal.Facts) (hDh3RefIdeal : Cert.Dh3RefIdeal.Facts) (hGdown : Cert.Gdown.Facts) (hGdownIdeal : Cert.GdownIdeal.Facts) (hGdownRefIdeal : Cert.GdownRefIdeal.Facts) (hGup : Cert.Gup.Facts) (hGupIdeal : Cert.GupIdeal.Facts) (hGupRefIdeal : Cert.GupRefIdeal.Facts) (hOuta : Cert.Outa.Facts) (hOutaIdeal : Cert.OutaIdeal.Facts) (hOutaRefIdeal : Cert.OutaRefIdeal.Facts) (hQ : Cert.Q.Facts) (hQIdeal : Cert.QIdeal.Facts) (hQRefIdeal : Cert.QRefIdeal.Facts) (hDao : Cert.Dao.Facts) (hDaoIdeal : Cert.DaoIdeal.Facts) (hDaoRefIdeal : Cert.DaoRefIdeal.Facts) (hDoa : Cert.Doa.Facts) (hDoaIdeal : Cert.DoaIdeal.Facts) (hDoaRefIdeal : Cert.DoaRefIdeal.Facts) (hDob : Cert.Dob.Facts) (hDobIdeal : Cert.DobIdeal.Facts) (hDobRefIdeal : Cert.DobRefIdeal.Facts) (hGwo : Cert.Gwo.Facts) (hGwoIdeal : Cert.GwoIdeal.Facts) (hGwoRefIdeal : Cert.GwoRefIdeal.Facts) (hGwq : Cert.Gwq.Facts) (hGwqIdeal : Cert.GwqIdeal.Facts) (hGwqRefIdeal : Cert.GwqRefIdeal.Facts) (hGwouta : Cert.Gwouta.Facts) (hGwoutaIdeal : Cert.GwoutaIdeal.Facts) (hGwoutaRefIdeal : Cert.GwoutaRefIdeal.Facts) (hGwoutb : Cert.Gwoutb.Facts) (hGwoutbIdeal : Cert.GwoutbIdeal.Facts) (hGwoutbRefIdeal : Cert.GwoutbRefIdeal.Facts) (hRms1 : Cert.Rms1.Facts) (hRms1Ideal : Cert.Rms1Ideal.Facts) (hRms1RefIdeal : Cert.Rms1RefIdeal.Facts) (hRms3 : Cert.Rms3.Facts) (hRms3Ideal : Cert.Rms3Ideal.Facts) (hRms3RefIdeal : Cert.Rms3RefIdeal.Facts) (hAdamWin : Cert.AdamWin.Facts) (hAdamWinIdeal : Cert.AdamWinIdeal.Facts) (hAdamWinRefIdeal : Cert.AdamWinRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamWq : Cert.AdamWq.Facts) (hAdamWqIdeal : Cert.AdamWqIdeal.Facts) (hAdamWqRefIdeal : Cert.AdamWqRefIdeal.Facts) (hAdamWk : Cert.AdamWk.Facts) (hAdamWkIdeal : Cert.AdamWkIdeal.Facts) (hAdamWkRefIdeal : Cert.AdamWkRefIdeal.Facts) (hAdamWv : Cert.AdamWv.Facts) (hAdamWvIdeal : Cert.AdamWvIdeal.Facts) (hAdamWvRefIdeal : Cert.AdamWvRefIdeal.Facts) (hAdamWo : Cert.AdamWo.Facts) (hAdamWoIdeal : Cert.AdamWoIdeal.Facts) (hAdamWoRefIdeal : Cert.AdamWoRefIdeal.Facts) (hAdamSmall1 : Cert.AdamSmall1.Facts) (hAdamSmall1Ideal : Cert.AdamSmall1Ideal.Facts) (hAdamSmall1RefIdeal : Cert.AdamSmall1RefIdeal.Facts) (hAdamSmall2 : Cert.AdamSmall2.Facts) (hAdamSmall2Ideal : Cert.AdamSmall2Ideal.Facts) (hAdamSmall2RefIdeal : Cert.AdamSmall2RefIdeal.Facts) (hAdamSmall3 : Cert.AdamSmall3.Facts) (hAdamSmall3Ideal : Cert.AdamSmall3Ideal.Facts) (hAdamSmall3RefIdeal : Cert.AdamSmall3RefIdeal.Facts) (hAdamSmall4 : Cert.AdamSmall4.Facts) (hAdamSmall4Ideal : Cert.AdamSmall4Ideal.Facts) (hAdamSmall4RefIdeal : Cert.AdamSmall4RefIdeal.Facts) (hAdamSmall5 : Cert.AdamSmall5.Facts) (hAdamSmall5Ideal : Cert.AdamSmall5Ideal.Facts) (hAdamSmall5RefIdeal : Cert.AdamSmall5RefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_In (hIn := hIn)
    ∧ quiescent_InIdeal (hInIdeal := hInIdeal)
    ∧ quiescent_InRefIdeal (hInRefIdeal := hInRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Gwin (hGwin := hGwin)
    ∧ quiescent_GwinIdeal (hGwinIdeal := hGwinIdeal)
    ∧ quiescent_GwinRefIdeal (hGwinRefIdeal := hGwinRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dact (hDact := hDact)
    ∧ quiescent_DactIdeal (hDactIdeal := hDactIdeal)
    ∧ quiescent_DactRefIdeal (hDactRefIdeal := hDactRefIdeal)
    ∧ quiescent_Dh3 (hDh3 := hDh3)
    ∧ quiescent_Dh3Ideal (hDh3Ideal := hDh3Ideal)
    ∧ quiescent_Dh3RefIdeal (hDh3RefIdeal := hDh3RefIdeal)
    ∧ quiescent_Gdown (hGdown := hGdown)
    ∧ quiescent_GdownIdeal (hGdownIdeal := hGdownIdeal)
    ∧ quiescent_GdownRefIdeal (hGdownRefIdeal := hGdownRefIdeal)
    ∧ quiescent_Gup (hGup := hGup)
    ∧ quiescent_GupIdeal (hGupIdeal := hGupIdeal)
    ∧ quiescent_GupRefIdeal (hGupRefIdeal := hGupRefIdeal)
    ∧ quiescent_Outa (hOuta := hOuta)
    ∧ quiescent_OutaIdeal (hOutaIdeal := hOutaIdeal)
    ∧ quiescent_OutaRefIdeal (hOutaRefIdeal := hOutaRefIdeal)
    ∧ quiescent_Q (hQ := hQ)
    ∧ quiescent_QIdeal (hQIdeal := hQIdeal)
    ∧ quiescent_QRefIdeal (hQRefIdeal := hQRefIdeal)
    ∧ quiescent_Dao (hDao := hDao)
    ∧ quiescent_DaoIdeal (hDaoIdeal := hDaoIdeal)
    ∧ quiescent_DaoRefIdeal (hDaoRefIdeal := hDaoRefIdeal)
    ∧ quiescent_Doa (hDoa := hDoa)
    ∧ quiescent_DoaIdeal (hDoaIdeal := hDoaIdeal)
    ∧ quiescent_DoaRefIdeal (hDoaRefIdeal := hDoaRefIdeal)
    ∧ quiescent_Dob (hDob := hDob)
    ∧ quiescent_DobIdeal (hDobIdeal := hDobIdeal)
    ∧ quiescent_DobRefIdeal (hDobRefIdeal := hDobRefIdeal)
    ∧ quiescent_Gwo (hGwo := hGwo)
    ∧ quiescent_GwoIdeal (hGwoIdeal := hGwoIdeal)
    ∧ quiescent_GwoRefIdeal (hGwoRefIdeal := hGwoRefIdeal)
    ∧ quiescent_Gwq (hGwq := hGwq)
    ∧ quiescent_GwqIdeal (hGwqIdeal := hGwqIdeal)
    ∧ quiescent_GwqRefIdeal (hGwqRefIdeal := hGwqRefIdeal)
    ∧ quiescent_Gwouta (hGwouta := hGwouta)
    ∧ quiescent_GwoutaIdeal (hGwoutaIdeal := hGwoutaIdeal)
    ∧ quiescent_GwoutaRefIdeal (hGwoutaRefIdeal := hGwoutaRefIdeal)
    ∧ quiescent_Gwoutb (hGwoutb := hGwoutb)
    ∧ quiescent_GwoutbIdeal (hGwoutbIdeal := hGwoutbIdeal)
    ∧ quiescent_GwoutbRefIdeal (hGwoutbRefIdeal := hGwoutbRefIdeal)
    ∧ quiescent_Rms1 (hRms1 := hRms1)
    ∧ quiescent_Rms1Ideal (hRms1Ideal := hRms1Ideal)
    ∧ quiescent_Rms1RefIdeal (hRms1RefIdeal := hRms1RefIdeal)
    ∧ quiescent_Rms3 (hRms3 := hRms3)
    ∧ quiescent_Rms3Ideal (hRms3Ideal := hRms3Ideal)
    ∧ quiescent_Rms3RefIdeal (hRms3RefIdeal := hRms3RefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamWq (hAdamWq := hAdamWq)
    ∧ quiescent_AdamWqIdeal (hAdamWqIdeal := hAdamWqIdeal)
    ∧ quiescent_AdamWqRefIdeal (hAdamWqRefIdeal := hAdamWqRefIdeal)
    ∧ quiescent_AdamWk (hAdamWk := hAdamWk)
    ∧ quiescent_AdamWkIdeal (hAdamWkIdeal := hAdamWkIdeal)
    ∧ quiescent_AdamWkRefIdeal (hAdamWkRefIdeal := hAdamWkRefIdeal)
    ∧ quiescent_AdamWv (hAdamWv := hAdamWv)
    ∧ quiescent_AdamWvIdeal (hAdamWvIdeal := hAdamWvIdeal)
    ∧ quiescent_AdamWvRefIdeal (hAdamWvRefIdeal := hAdamWvRefIdeal)
    ∧ quiescent_AdamWo (hAdamWo := hAdamWo)
    ∧ quiescent_AdamWoIdeal (hAdamWoIdeal := hAdamWoIdeal)
    ∧ quiescent_AdamWoRefIdeal (hAdamWoRefIdeal := hAdamWoRefIdeal)
    ∧ quiescent_AdamSmall1 (hAdamSmall1 := hAdamSmall1)
    ∧ quiescent_AdamSmall1Ideal (hAdamSmall1Ideal := hAdamSmall1Ideal)
    ∧ quiescent_AdamSmall1RefIdeal (hAdamSmall1RefIdeal := hAdamSmall1RefIdeal)
    ∧ quiescent_AdamSmall2 (hAdamSmall2 := hAdamSmall2)
    ∧ quiescent_AdamSmall2Ideal (hAdamSmall2Ideal := hAdamSmall2Ideal)
    ∧ quiescent_AdamSmall2RefIdeal (hAdamSmall2RefIdeal := hAdamSmall2RefIdeal)
    ∧ quiescent_AdamSmall3 (hAdamSmall3 := hAdamSmall3)
    ∧ quiescent_AdamSmall3Ideal (hAdamSmall3Ideal := hAdamSmall3Ideal)
    ∧ quiescent_AdamSmall3RefIdeal (hAdamSmall3RefIdeal := hAdamSmall3RefIdeal)
    ∧ quiescent_AdamSmall4 (hAdamSmall4 := hAdamSmall4)
    ∧ quiescent_AdamSmall4Ideal (hAdamSmall4Ideal := hAdamSmall4Ideal)
    ∧ quiescent_AdamSmall4RefIdeal (hAdamSmall4RefIdeal := hAdamSmall4RefIdeal)
    ∧ quiescent_AdamSmall5 (hAdamSmall5 := hAdamSmall5)
    ∧ quiescent_AdamSmall5Ideal (hAdamSmall5Ideal := hAdamSmall5Ideal)
    ∧ quiescent_AdamSmall5RefIdeal (hAdamSmall5RefIdeal := hAdamSmall5RefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_In_InIdeal
    ∧ preserves_Dh1_Dh1Ideal
    ∧ preserves_Gwin_GwinIdeal
    ∧ preserves_Up_UpIdeal
    ∧ preserves_Down_DownIdeal
    ∧ preserves_Dact_DactIdeal
    ∧ preserves_Dh3_Dh3Ideal
    ∧ preserves_Gdown_GdownIdeal
    ∧ preserves_Gup_GupIdeal
    ∧ preserves_Outa_OutaIdeal
    ∧ preserves_Q_QIdeal
    ∧ preserves_Dao_DaoIdeal
    ∧ preserves_Doa_DoaIdeal
    ∧ preserves_Dob_DobIdeal
    ∧ preserves_Gwo_GwoIdeal
    ∧ preserves_Gwq_GwqIdeal
    ∧ preserves_Gwouta_GwoutaIdeal
    ∧ preserves_Gwoutb_GwoutbIdeal
    ∧ preserves_Rms1_Rms1Ideal
    ∧ preserves_Rms3_Rms3Ideal
    ∧ preserves_AdamWin_AdamWinIdeal
    ∧ preserves_AdamUp_AdamUpIdeal
    ∧ preserves_AdamDown_AdamDownIdeal
    ∧ preserves_AdamOut_AdamOutIdeal
    ∧ preserves_AdamWq_AdamWqIdeal
    ∧ preserves_AdamWk_AdamWkIdeal
    ∧ preserves_AdamWv_AdamWvIdeal
    ∧ preserves_AdamWo_AdamWoIdeal
    ∧ preserves_AdamSmall1_AdamSmall1Ideal
    ∧ preserves_AdamSmall2_AdamSmall2Ideal
    ∧ preserves_AdamSmall3_AdamSmall3Ideal
    ∧ preserves_AdamSmall4_AdamSmall4Ideal
    ∧ preserves_AdamSmall5_AdamSmall5Ideal
    ∧ algebraic_InIdeal_InRefIdeal (hInIdeal := hInIdeal) (hInRefIdeal := hInRefIdeal)
    ∧ algebraic_Dh1Ideal_Dh1RefIdeal (hDh1Ideal := hDh1Ideal) (hDh1RefIdeal := hDh1RefIdeal)
    ∧ algebraic_GwinIdeal_GwinRefIdeal (hGwinIdeal := hGwinIdeal) (hGwinRefIdeal := hGwinRefIdeal)
    ∧ algebraic_UpIdeal_UpRefIdeal (hUpIdeal := hUpIdeal) (hUpRefIdeal := hUpRefIdeal)
    ∧ algebraic_DownIdeal_DownRefIdeal (hDownIdeal := hDownIdeal) (hDownRefIdeal := hDownRefIdeal)
    ∧ algebraic_DactIdeal_DactRefIdeal (hDactIdeal := hDactIdeal) (hDactRefIdeal := hDactRefIdeal)
    ∧ algebraic_Dh3Ideal_Dh3RefIdeal (hDh3Ideal := hDh3Ideal) (hDh3RefIdeal := hDh3RefIdeal)
    ∧ algebraic_GdownIdeal_GdownRefIdeal (hGdownIdeal := hGdownIdeal) (hGdownRefIdeal := hGdownRefIdeal)
    ∧ algebraic_GupIdeal_GupRefIdeal (hGupIdeal := hGupIdeal) (hGupRefIdeal := hGupRefIdeal)
    ∧ algebraic_OutaIdeal_OutaRefIdeal (hOutaIdeal := hOutaIdeal) (hOutaRefIdeal := hOutaRefIdeal)
    ∧ algebraic_QIdeal_QRefIdeal (hQIdeal := hQIdeal) (hQRefIdeal := hQRefIdeal)
    ∧ algebraic_DaoIdeal_DaoRefIdeal (hDaoIdeal := hDaoIdeal) (hDaoRefIdeal := hDaoRefIdeal)
    ∧ algebraic_DoaIdeal_DoaRefIdeal (hDoaIdeal := hDoaIdeal) (hDoaRefIdeal := hDoaRefIdeal)
    ∧ algebraic_DobIdeal_DobRefIdeal (hDobIdeal := hDobIdeal) (hDobRefIdeal := hDobRefIdeal)
    ∧ algebraic_GwoIdeal_GwoRefIdeal (hGwoIdeal := hGwoIdeal) (hGwoRefIdeal := hGwoRefIdeal)
    ∧ algebraic_GwqIdeal_GwqRefIdeal (hGwqIdeal := hGwqIdeal) (hGwqRefIdeal := hGwqRefIdeal)
    ∧ algebraic_GwoutaIdeal_GwoutaRefIdeal (hGwoutaIdeal := hGwoutaIdeal) (hGwoutaRefIdeal := hGwoutaRefIdeal)
    ∧ algebraic_GwoutbIdeal_GwoutbRefIdeal (hGwoutbIdeal := hGwoutbIdeal) (hGwoutbRefIdeal := hGwoutbRefIdeal)
    ∧ algebraic_Rms1Ideal_Rms1RefIdeal (hRms1Ideal := hRms1Ideal) (hRms1RefIdeal := hRms1RefIdeal)
    ∧ algebraic_Rms3Ideal_Rms3RefIdeal (hRms3Ideal := hRms3Ideal) (hRms3RefIdeal := hRms3RefIdeal)
    ∧ algebraic_AdamWinIdeal_AdamWinRefIdeal (hAdamWinIdeal := hAdamWinIdeal) (hAdamWinRefIdeal := hAdamWinRefIdeal)
    ∧ algebraic_AdamUpIdeal_AdamUpRefIdeal (hAdamUpIdeal := hAdamUpIdeal) (hAdamUpRefIdeal := hAdamUpRefIdeal)
    ∧ algebraic_AdamDownIdeal_AdamDownRefIdeal (hAdamDownIdeal := hAdamDownIdeal) (hAdamDownRefIdeal := hAdamDownRefIdeal)
    ∧ algebraic_AdamOutIdeal_AdamOutRefIdeal (hAdamOutIdeal := hAdamOutIdeal) (hAdamOutRefIdeal := hAdamOutRefIdeal)
    ∧ algebraic_AdamWqIdeal_AdamWqRefIdeal (hAdamWqIdeal := hAdamWqIdeal) (hAdamWqRefIdeal := hAdamWqRefIdeal)
    ∧ algebraic_AdamWkIdeal_AdamWkRefIdeal (hAdamWkIdeal := hAdamWkIdeal) (hAdamWkRefIdeal := hAdamWkRefIdeal)
    ∧ algebraic_AdamWvIdeal_AdamWvRefIdeal (hAdamWvIdeal := hAdamWvIdeal) (hAdamWvRefIdeal := hAdamWvRefIdeal)
    ∧ algebraic_AdamWoIdeal_AdamWoRefIdeal (hAdamWoIdeal := hAdamWoIdeal) (hAdamWoRefIdeal := hAdamWoRefIdeal)
    ∧ algebraic_AdamSmall1Ideal_AdamSmall1RefIdeal (hAdamSmall1Ideal := hAdamSmall1Ideal) (hAdamSmall1RefIdeal := hAdamSmall1RefIdeal)
    ∧ algebraic_AdamSmall2Ideal_AdamSmall2RefIdeal (hAdamSmall2Ideal := hAdamSmall2Ideal) (hAdamSmall2RefIdeal := hAdamSmall2RefIdeal)
    ∧ algebraic_AdamSmall3Ideal_AdamSmall3RefIdeal (hAdamSmall3Ideal := hAdamSmall3Ideal) (hAdamSmall3RefIdeal := hAdamSmall3RefIdeal)
    ∧ algebraic_AdamSmall4Ideal_AdamSmall4RefIdeal (hAdamSmall4Ideal := hAdamSmall4Ideal) (hAdamSmall4RefIdeal := hAdamSmall4RefIdeal)
    ∧ algebraic_AdamSmall5Ideal_AdamSmall5RefIdeal (hAdamSmall5Ideal := hAdamSmall5Ideal) (hAdamSmall5RefIdeal := hAdamSmall5RefIdeal)
-- ==== Pre_finite_scores.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S8192x1024 .f32) (main_arg2 : FVec F S256x1024 .bf16) (main_arg3 : FVec F S256x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .f32 := (extf .f32 · bitsLt_bf16_f32) main_arg2
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Kernel.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S256x1024, .bf16⟩
  | .hbm, ⟨3, _⟩ => ⟨S256x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v153 : BitVec 1 := Scalar.cmpi .eq arg0 c0_i32
  let v154 : BitVec 32 := Scalar.extui v153
  let c0_i32_48 : BitVec 32 := 0#32
  let v155 : BitVec 1 := Scalar.cmpi .ne v154 c0_i32_48
  v155

def k0_cond2 (i : grid0.Coords) : BitVec 1 :=
  let arg0 : BitVec 32 := BitVec.ofNat 32 (i 0).val
  let c0_i32_49 : BitVec 32 := 0#32
  let v156 : BitVec 1 := Scalar.cmpi .sgt arg0 c0_i32_49
  let v157 : BitVec 32 := Scalar.extui v156
  let c0_i32_50 : BitVec 32 := 0#32
  let v158 : BitVec 1 := Scalar.cmpi .ne v157 c0_i32_50
  v158

def k0_cond3 (i : grid0.Coords) : BitVec 1 :=
  let arg0 : BitVec 32 := BitVec.ofNat 32 (i 0).val
  let c0_i32_51 : BitVec 32 := 0#32
  let v159 : BitVec 1 := Scalar.cmpi .eq arg0 c0_i32_51
  let v160 : BitVec 32 := Scalar.extui v159
  let c0_i32_52 : BitVec 32 := 0#32
  let v161 : BitVec 1 := Scalar.cmpi .ne v160 c0_i32_52
  v161

def k0_cond4 (i : grid0.Coords) : BitVec 1 :=
  let arg0 : BitVec 32 := BitVec.ofNat 32 (i 0).val
  let c0_i32_53 : BitVec 32 := 0#32
  let v162 : BitVec 1 := Scalar.cmpi .sgt arg0 c0_i32_53
  let v163 : BitVec 32 := Scalar.extui v162
  let c0_i32_54 : BitVec 32 := 0#32
  let v164 : BitVec 1 := Scalar.cmpi .ne v163 c0_i32_54
  v164

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S256x1024, .bf16⟩
  | .hbm, ⟨3, _⟩ => ⟨S256x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x4x256, .f32⟩
  | .hbm, ⟨56, _⟩ => ⟨S4x256x8192, .f32⟩
  | .hbm, ⟨57, _⟩ => ⟨S4x8192x256, .f32⟩
  | .hbm, ⟨58, _⟩ => ⟨S4x256x256, .f32⟩
  | .hbm, ⟨59, _⟩ => ⟨S256x4x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x256, .f32⟩
  | .hbm, ⟨78, _⟩ => ⟨S256x4x256, .f32⟩
  | .hbm, ⟨79, _⟩ => ⟨S4x8192x256, .f32⟩
  | .hbm, ⟨80, _⟩ => ⟨S8192x4x256, .f32⟩
  | .hbm, ⟨81, _⟩ => ⟨S256x1024, .f32⟩
  | .hbm, ⟨82, _⟩ => ⟨S256x1024, .f32⟩
  | .hbm, ⟨83, _⟩ => ⟨S8192x1024, .f32⟩
  | .hbm, ⟨84, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== In.lean ====
abbrev S8192x1024 : Shape := ⟨2, ![8192, 1024]⟩
abbrev S1024x6912 : Shape := ⟨2, ![1024, 6912]⟩
abbrev S8192x6912 : Shape := ⟨2, ![8192, 6912]⟩
abbrev S2048x1024 : Shape := ⟨2, ![2048, 1024]⟩
abbrev S1024x768 : Shape := ⟨2, ![1024, 768]⟩
abbrev S2048x768 : Shape := ⟨2, ![2048, 768]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x6912, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x1024 : Shape := ⟨2, ![8192, 1024]⟩
abbrev S1024x6912 : Shape := ⟨2, ![1024, 6912]⟩
abbrev S8192x6912 : Shape := ⟨2, ![8192, 6912]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x1024, .f32⟩
  | .hbm, ⟨3, _⟩ => ⟨S1024x6912, .f32⟩
  | .hbm, ⟨4, _⟩ => ⟨S8192x6912, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dh1.lean ====
abbrev S8192x6912 : Shape := ⟨2, ![8192, 6912]⟩
abbrev S1024x6912 : Shape := ⟨2, ![1024, 6912]⟩
abbrev S8192x1024 : Shape := ⟨2, ![8192, 1024]⟩
abbrev S1024x2304 : Shape := ⟨2, ![1024, 2304]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S8192x6912 : Shape := ⟨2, ![8192, 6912]⟩
abbrev S1024x6912 : Shape := ⟨2, ![1024, 6912]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S_, .f32⟩
  | .hbm, ⟨3, _⟩ => ⟨S8192x1024, .f32⟩
  | .hbm, ⟨4, _⟩ => ⟨S1024x6912, .f32⟩
  | .hbm, ⟨5, _⟩ => ⟨S8192x6912, .f32⟩
  | .hbm, ⟨6, _⟩ => ⟨S8192x6912, .f32⟩
  | .hbm, ⟨7, _⟩ => ⟨S8192x1024, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gwin.lean ====
abbrev S8192x1024 : Shape := ⟨2, ![8192, 1024]⟩
abbrev S8192x6912 : Shape := ⟨2, ![8192, 6912]⟩
abbrev S1024x6912 : Shape := ⟨2, ![1024, 6912]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S1024x6912, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwinRefIdeal.lean ====
abbrev S8192x1024 : Shape := ⟨2, ![8192, 1024]⟩
abbrev S8192x6912 : Shape := ⟨2, ![8192, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S_, .f32⟩
  | .hbm, ⟨3, _⟩ => ⟨S1024x6912, .f32⟩
  | .hbm, ⟨4, _⟩ => ⟨S8192x1024, .f32⟩
  | .hbm, ⟨5, _⟩ => ⟨S8192x6912, .f32⟩
  | .hbm, ⟨6, _⟩ => ⟨S8192x6912, .f32⟩
  | .hbm, ⟨7, _⟩ => ⟨S6912x1024, .f32⟩
  | .hbm, ⟨8, _⟩ => ⟨S1024x6912, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S4x3584x1024 : Shape := ⟨3, ![4, 3584, 1024]⟩
abbrev S8192x4096 : Shape := ⟨2, ![8192, 4096]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x1024 : Shape := ⟨2, ![8192, 1024]⟩
abbrev S4x3584x1024 : Shape := ⟨3, ![4, 3584, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S1024x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .f32⟩
  | .hbm, ⟨13, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Down.lean ====
abbrev S8192x4096 : Shape := ⟨2, ![8192, 4096]⟩
abbrev S4x3584x1024 : Shape := ⟨3, ![4, 3584, 1024]⟩
abbrev S8192x1024 : Shape := ⟨2, ![8192, 1024]⟩
abbrev S1024x2048 : Shape := ⟨2, ![1024, 2048]⟩
abbrev S2x1024x1024 : Shape := ⟨3, ![2, 1024, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4x3584x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x4096 : Shape := ⟨2, ![8192, 4096]⟩
abbrev S4x3584x1024 : Shape := ⟨3, ![4, 3584, 1024]⟩
abbrev S8192x1024 : Shape := ⟨2, ![8192, 1024]⟩
abbrev S4x1024x1024 : Shape := ⟨3, ![4, 1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x3584x1024, .bf16⟩
  | .hbm, ⟨2, _⟩ => ⟨S8192x1024, .f32⟩
  | .hbm, ⟨3, _⟩ => ⟨S8192x4096, .f32⟩
  | .hbm, ⟨4, _⟩ => ⟨S4x1024x1024, .bf16⟩
  | .hbm, ⟨5, _⟩ => ⟨S4096x1024, .bf16⟩
  | .hbm, ⟨6, _⟩ => ⟨S4096x1024, .f32⟩
  | .hbm, ⟨7, _⟩ => ⟨S8192x1024, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dact.lean ====
abbrev S8192x1024 : Shape := ⟨2, ![8192, 1024]⟩
abbrev S8192x4096 : Shape := ⟨2, ![8192, 4096]⟩
abbrev S4x3584x1024 : Shape := ⟨3, ![4, 3584, 1024]⟩
abbrev S_ : Shape := ⟨0, ![]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S4x3584x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S8192x1024 : Shape := ⟨2, ![8192, 1024]⟩
abbrev S8192x4096 : Shape := ⟨2, ![8192, 4096]⟩
abbrev S4x3584x1024 : Shape := ⟨3, ![4, 3584, 1024]⟩
abbrev S_ : Shape := ⟨0, ![]⟩
abbrev S4x1024x1024 : Shape := ⟨3, ![4, 1024, 1024]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S4x3584x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S4x1024x1024, .bf16⟩
  | .hbm, ⟨13, _⟩ => ⟨S4096x1024, .bf16⟩
  | .hbm, ⟨14, _⟩ => ⟨S4096x1024, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Dh3.lean ====
abbrev S8192x4096 : Shape := ⟨2, ![8192, 4096]⟩
abbrev S4x3584x1024 : Shape := ⟨3, ![4, 3584, 1024]⟩
abbrev S8192x1024 : Shape := ⟨2, ![8192, 1024]⟩
abbrev S1024x4096 : Shape := ⟨2, ![1024, 4096]⟩
abbrev S4x1024x1024 : Shape := ⟨3, ![4, 1024, 1024]⟩
abbrev S1024x1024 : Shape := ⟨2, ![1024, 1024]⟩
abbrev S8x128 : Shape := ⟨2, ![8, 128]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x3584x1024, .bf16⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh3RefIdeal.lean ====
abbrev S8192x4096 : Shape := ⟨2, ![8192, 4096]⟩
abbrev S4x3584x1024 : Shape := ⟨3, ![4, 3584, 1024]⟩
abbrev S_ : Shape := ⟨0, ![]⟩
abbrev S8192x1024 : Shape := ⟨2, ![8192, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x3584x1024, .bf16⟩
  | .hbm, ⟨2, _⟩ => ⟨S_, .f32⟩
  | .hbm, ⟨3, _⟩ => ⟨S8192x1024, .f32⟩
  | .hbm, ⟨4, _⟩ => ⟨S4x1024x1024, .bf16⟩
  | .hbm, ⟨5, _⟩ => ⟨S1024x4x1024, .bf16⟩
  | .hbm, ⟨6, _⟩ => ⟨S1024x4096, .bf16⟩
  | .hbm, ⟨7, _⟩ => ⟨S1024x4096, .f32⟩
  | .hbm, ⟨8, _⟩ => ⟨S8192x4096, .f32⟩
  | .hbm, ⟨9, _⟩ => ⟨S8192x4096, .f32⟩
  | .hbm, ⟨10, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gdown.lean ====
abbrev S8192x4096 : Shape := ⟨2, ![8192, 4096]⟩
abbrev S8192x1024 : Shape := ⟨2, ![8192, 1024]⟩
abbrev S4x3584x1024 : Shape := ⟨3, ![4, 3584, 1024]⟩
abbrev S4096x1024 : Shape := ⟨2, ![4096, 1024]⟩
abbrev S1x1024x1024 : Shape := ⟨3, ![1, 1024, 1024]⟩
abbrev S1024x1024 : Shape := ⟨2, ![1024, 1024]⟩
abbrev S4x1024x1024 : Shape := ⟨3, ![4, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x3584x1024, .f32⟩
  | .hbm, ⟨3, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GdownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gup.lean ====
abbrev S8192x1024 : Shape := ⟨2, ![8192, 1024]⟩
abbrev S8192x4096 : Shape := ⟨2, ![8192, 4096]⟩
abbrev S4x3584x1024 : Shape := ⟨3, ![4, 3584, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x3584x1024, .f32⟩
  | .hbm, ⟨3, _⟩ => ⟨S4x3584x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GupRefIdeal.lean ====
abbrev S8192x1024 : Shape := ⟨2, ![8192, 1024]⟩
abbrev S8192x4096 : Shape := ⟨2, ![8192, 4096]⟩
abbrev S4x3584x1024 : Shape := ⟨3, ![4, 3584, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x2560x1024 : Shape := ⟨3, ![4, 2560, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x3584x1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x2560x1024, .f32⟩
  | .hbm, ⟨13, _⟩ => ⟨S4x3584x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Outa.lean ====
abbrev S8192x1024 : Shape := ⟨2, ![8192, 1024]⟩
abbrev S4x3584x1024 : Shape := ⟨3, ![4, 3584, 1024]⟩
abbrev S1024x1024 : Shape := ⟨2, ![1024, 1024]⟩
abbrev S2x512x1024 : Shape := ⟨3, ![2, 512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutaRefIdeal.lean ====
abbrev S8192x1024 : Shape := ⟨2, ![8192, 1024]⟩
abbrev S4x3584x1024 : Shape := ⟨3, ![4, 3584, 1024]⟩
abbrev S4x512x1024 : Shape := ⟨3, ![4, 512, 1024]⟩
abbrev S2048x1024 : Shape := ⟨2, ![2048, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .hbm, ⟨3, _⟩ => ⟨S8192x1024, .f32⟩
  | .hbm, ⟨4, _⟩ => ⟨S4x512x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Q.lean ====
abbrev S8192x1024 : Shape := ⟨2, ![8192, 1024]⟩
abbrev S4x3584x1024 : Shape := ⟨3, ![4, 3584, 1024]⟩
abbrev S1024x1024 : Shape := ⟨2, ![1024, 1024]⟩
abbrev S4x256x1024 : Shape := ⟨3, ![4, 256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QRefIdeal.lean ====
abbrev S8192x1024 : Shape := ⟨2, ![8192, 1024]⟩
abbrev S4x3584x1024 : Shape := ⟨3, ![4, 3584, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .hbm, ⟨3, _⟩ => ⟨S4x256x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dao.lean ====
abbrev S8192x1024 : Shape := ⟨2, ![8192, 1024]⟩
abbrev S4x3584x1024 : Shape := ⟨3, ![4, 3584, 1024]⟩
abbrev S1024x1024 : Shape := ⟨2, ![1024, 1024]⟩
abbrev S4x256x1024 : Shape := ⟨3, ![4, 256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c13_i32 : BitVec 32 := 13#32
  let c0_i32_0 : BitVec 32 := 0#32
  let c0_i32_1 : BitVec 32 := 0#32
  ![c0_i32.toNat, c13_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaoRefIdeal.lean ====
abbrev S8192x1024 : Shape := ⟨2, ![8192, 1024]⟩
abbrev S4x3584x1024 : Shape := ⟨3, ![4, 3584, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S_, .f32⟩
  | .hbm, ⟨3, _⟩ => ⟨S8192x1024, .f32⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Doa.lean ====
abbrev S8192x1024 : Shape := ⟨2, ![8192, 1024]⟩
abbrev S4x3584x1024 : Shape := ⟨3, ![4, 3584, 1024]⟩
abbrev S2048x1024 : Shape := ⟨2, ![2048, 1024]⟩
abbrev S2x512x1024 : Shape := ⟨3, ![2, 512, 1024]⟩
abbrev S8x128 : Shape := ⟨2, ![8, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x512x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoaRefIdeal.lean ====
abbrev S8192x1024 : Shape := ⟨2, ![8192, 1024]⟩
abbrev S4x3584x1024 : Shape := ⟨3, ![4, 3584, 1024]⟩
abbrev S_ : Shape := ⟨0, ![]⟩
abbrev S4x512x1024 : Shape := ⟨3, ![4, 512, 1024]⟩
abbrev S2048x1024 : Shape := ⟨2, ![2048, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S_, .f32⟩
  | .hbm, ⟨3, _⟩ => ⟨S8192x1024, .f32⟩
  | .hbm, ⟨4, _⟩ => ⟨S4x512x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dob.lean ====
abbrev S8192x1024 : Shape := ⟨2, ![8192, 1024]⟩
abbrev S4x3584x1024 : Shape := ⟨3, ![4, 3584, 1024]⟩
abbrev S2048x1024 : Shape := ⟨2, ![2048, 1024]⟩
abbrev S2x512x1024 : Shape := ⟨3, ![2, 512, 1024]⟩
abbrev S8x128 : Shape := ⟨2, ![8, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x512x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c4_i32 : BitVec 32 := 4#32
  let c0_i32 : BitVec 32 := 0#32
  let c0_i32_0 : BitVec 32 := 0#32
  ![c1_i32.toNat, c4_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DobRefIdeal.lean ====
abbrev S8192x1024 : Shape := ⟨2, ![8192, 1024]⟩
abbrev S4x3584x1024 : Shape := ⟨3, ![4, 3584, 1024]⟩
abbrev S_ : Shape := ⟨0, ![]⟩
abbrev S4x512x1024 : Shape := ⟨3, ![4, 512, 1024]⟩
abbrev S2048x1024 : Shape := ⟨2, ![2048, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x3584x1024, .bf16⟩
  | .hbm, ⟨2, _⟩ => ⟨S_, .f32⟩
  | .hbm, ⟨3, _⟩ => ⟨S8192x1024, .f32⟩
  | .hbm, ⟨4, _⟩ => ⟨S4x512x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gwo.lean ====
abbrev S8192x1024 : Shape := ⟨2, ![8192, 1024]⟩
abbrev S4x3584x1024 : Shape := ⟨3, ![4, 3584, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x3584x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c13_i32 : BitVec 32 := 13#32
  let c0_i32_0 : BitVec 32 := 0#32
  let c0_i32_1 : BitVec 32 := 0#32
  ![c0_i32.toNat, c13_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== GwoRefIdeal.lean ====
abbrev S8192x1024 : Shape := ⟨2, ![8192, 1024]⟩
abbrev S4x3584x1024 : Shape := ⟨3, ![4, 3584, 1024]⟩
abbrev S4x3328x1024 : Shape := ⟨3, ![4, 3328, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x3328x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x3584x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gwq.lean ====
abbrev S8192x1024 : Shape := ⟨2, ![8192, 1024]⟩
abbrev S4x3584x1024 : Shape := ⟨3, ![4, 3584, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x3584x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== GwqRefIdeal.lean ====
abbrev S8192x1024 : Shape := ⟨2, ![8192, 1024]⟩
abbrev S4x3584x1024 : Shape := ⟨3, ![4, 3584, 1024]⟩
abbrev S4x2560x1024 : Shape := ⟨3, ![4, 2560, 1024]⟩
abbrev S_ : Shape := ⟨0, ![]⟩
abbrev S1024x1024 : Shape := ⟨2, ![1024, 1024]⟩
abbrev S4x256x1024 : Shape := ⟨3, ![4, 256, 1024]⟩
abbrev S4x768x1024 : Shape := ⟨3, ![4, 768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x2560x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x768x1024, .f32⟩
  | .hbm, ⟨13, _⟩ => ⟨S4x3584x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Gwouta.lean ====
abbrev S8192x1024 : Shape := ⟨2, ![8192, 1024]⟩
abbrev S4x3584x1024 : Shape := ⟨3, ![4, 3584, 1024]⟩
abbrev S2048x1024 : Shape := ⟨2, ![2048, 1024]⟩
abbrev S2x512x1024 : Shape := ⟨3, ![2, 512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x3584x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== GwoutaRefIdeal.lean ====
abbrev S8192x1024 : Shape := ⟨2, ![8192, 1024]⟩
abbrev S4x3584x1024 : Shape := ⟨3, ![4, 3584, 1024]⟩
abbrev S_ : Shape := ⟨0, ![]⟩
abbrev S1024x1024 : Shape := ⟨2, ![1024, 1024]⟩
abbrev S2x512x1024 : Shape := ⟨3, ![2, 512, 1024]⟩
abbrev S2x2048x1024 : Shape := ⟨3, ![2, 2048, 1024]⟩
abbrev S2x1024x1024 : Shape := ⟨3, ![2, 1024, 1024]⟩
abbrev S2x3584x1024 : Shape := ⟨3, ![2, 3584, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S2x512x1024, .f32⟩
  | .hbm, ⟨11, _⟩ => ⟨S2x2048x1024, .f32⟩
  | .hbm, ⟨12, _⟩ => ⟨S2x1024x1024, .f32⟩
  | .hbm, ⟨13, _⟩ => ⟨S2x3584x1024, .f32⟩
  | .hbm, ⟨14, _⟩ => ⟨S2x3584x1024, .f32⟩
  | .hbm, ⟨15, _⟩ => ⟨S4x3584x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gwoutb.lean ====
abbrev S8192x1024 : Shape := ⟨2, ![8192, 1024]⟩
abbrev S4x3584x1024 : Shape := ⟨3, ![4, 3584, 1024]⟩
abbrev S2048x1024 : Shape := ⟨2, ![2048, 1024]⟩
abbrev S2x512x1024 : Shape := ⟨3, ![2, 512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S4x3584x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c4_i32 : BitVec 32 := 4#32
  let c0_i32 : BitVec 32 := 0#32
  let c0_i32_0 : BitVec 32 := 0#32
  ![c1_i32.toNat, c4_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== GwoutbRefIdeal.lean ====
abbrev S8192x1024 : Shape := ⟨2, ![8192, 1024]⟩
abbrev S4x3584x1024 : Shape := ⟨3, ![4, 3584, 1024]⟩
abbrev S_ : Shape := ⟨0, ![]⟩
abbrev S1024x1024 : Shape := ⟨2, ![1024, 1024]⟩
abbrev S2x512x1024 : Shape := ⟨3, ![2, 512, 1024]⟩
abbrev S2x2048x1024 : Shape := ⟨3, ![2, 2048, 1024]⟩
abbrev S2x1024x1024 : Shape := ⟨3, ![2, 1024, 1024]⟩
abbrev S2x3584x1024 : Shape := ⟨3, ![2, 3584, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x3584x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S2x512x1024, .f32⟩
  | .hbm, ⟨11, _⟩ => ⟨S2x2048x1024, .f32⟩
  | .hbm, ⟨12, _⟩ => ⟨S2x1024x1024, .f32⟩
  | .hbm, ⟨13, _⟩ => ⟨S2x3584x1024, .f32⟩
  | .hbm, ⟨14, _⟩ => ⟨S2x3584x1024, .f32⟩
  | .hbm, ⟨15, _⟩ => ⟨S4x3584x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Rms1.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Rms1RefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Rms3.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Rms3RefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AdamWin.lean ====
abbrev S1024x1672 : Shape := ⟨2, ![1024, 1672]⟩
abbrev S512x1672 : Shape := ⟨2, ![512, 1672]⟩
abbrev S_ : Shape := ⟨0, ![]⟩
abbrev S1672x1024 : Shape := ⟨2, ![1672, 1024]⟩
abbrev S152x1024 : Shape := ⟨2, ![152, 1024]⟩

abbrev nBuf : Space → Nat
  | .hbm => 22
  | .vmem => 14
  | .smem => 0
  | _ => 0

abbrev bufTy : (tb : Table) → Fin (tcTables nBuf tb) → BufTy
  | .hbm, ⟨0, _⟩ => ⟨S1024x1672, .f32⟩
  | .hbm, ⟨1, _⟩ => ⟨S1024x1672, .f32⟩
  | .hbm, ⟨2, _⟩ => ⟨S1024x1672, .f32⟩
  | .hbm, ⟨3, _⟩ => ⟨S512x1672, .f32⟩
  | .hbm, ⟨4, _⟩ => ⟨S512x1672, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x1672, .f32⟩
  | .hbm, ⟨9, _⟩ => ⟨S1024x1672, .f32⟩
  | .hbm, ⟨10, _⟩ => ⟨S1024x1672, .f32⟩
  | .hbm, ⟨11, _⟩ => ⟨S1672x1024, .f32⟩
  | .hbm, ⟨12, _⟩ => ⟨S1672x1024, .f32⟩
  | .hbm, ⟨13, _⟩ => ⟨S1672x1024, .f32⟩
  | .hbm, ⟨14, _⟩ => ⟨S1672x1024, .f32⟩
  | .hbm, ⟨15, _⟩ => ⟨S1672x1024, .f32⟩
  | .hbm, ⟨16, _⟩ => ⟨S1672x1024, .f32⟩
  | .hbm, ⟨17, _⟩ => ⟨S1672x1024, .f32⟩
  | .hbm, ⟨18, _⟩ => ⟨S1024x1672, .f32⟩
  | .hbm, ⟨19, _⟩ => ⟨S1024x1672, .f32⟩
  | .hbm, ⟨20, _⟩ => ⟨S1024x1672, .f32⟩
  | .hbm, ⟨21, _⟩ => ⟨S1024x1672, .f32⟩
  | .local _ .vmem, ⟨0, _⟩ => ⟨S152x1024, .f32⟩
  | .local _ .vmem, ⟨1, _⟩ => ⟨S152x1024, .f32⟩
  | .local _ .vmem, ⟨2, _⟩ => ⟨S152x1024, .f32⟩
  | .local _ .vmem, ⟨3, _⟩ => ⟨S152x1024, .f32⟩
  | .local _ .vmem, ⟨4, _⟩ => ⟨S152x1024, .f32⟩
  | .local _ .vmem, ⟨5, _⟩ => ⟨S152x1024, .f32⟩
  | .local _ .vmem, ⟨6, _⟩ => ⟨S152x1024, .f32⟩
  | .local _ .vmem, ⟨7, _⟩ => ⟨S152x1024, .f32⟩
  | .local _ .vmem, ⟨8, _⟩ => ⟨S152x1024, .f32⟩
  | .local _ .vmem, ⟨9, _⟩ => ⟨S152x1024, .f32⟩
  | .local _ .vmem, ⟨10, _⟩ => ⟨S152x1024, .f32⟩
  | .local _ .vmem, ⟨11, _⟩ => ⟨S152x1024, .f32⟩
  | .local _ .vmem, ⟨12, _⟩ => ⟨S152x1024, .f32⟩
  | .local _ .vmem, ⟨13, _⟩ => ⟨S152x1024, .f32⟩
  | _, _ => ⟨S1024x1672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinRefIdeal.lean ====
abbrev S1024x1672 : Shape := ⟨2, ![1024, 1672]⟩
abbrev S512x1672 : Shape := ⟨2, ![512, 1672]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x1672, .f32⟩
  | .hbm, ⟨1, _⟩ => ⟨S1024x1672, .f32⟩
  | .hbm, ⟨2, _⟩ => ⟨S1024x1672, .f32⟩
  | .hbm, ⟨3, _⟩ => ⟨S512x1672, .f32⟩
  | .hbm, ⟨4, _⟩ => ⟨S512x1672, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x1672, .f32⟩
  | .hbm, ⟨9, _⟩ => ⟨S1024x1672, .f32⟩
  | .hbm, ⟨10, _⟩ => ⟨S1024x1672, .f32⟩
  | .hbm, ⟨11, _⟩ => ⟨S_, .f32⟩
  | .hbm, ⟨12, _⟩ => ⟨S1024x1672, .f32⟩
  | .hbm, ⟨13, _⟩ => ⟨S1024x1672, .f32⟩
  | .hbm, ⟨14, _⟩ => ⟨S_, .f32⟩
  | .hbm, ⟨15, _⟩ => ⟨S1024x1672, .f32⟩
  | .hbm, ⟨16, _⟩ => ⟨S1024x1672, .f32⟩
  | .hbm, ⟨17, _⟩ => ⟨S1024x1672, .f32⟩
  | .hbm, ⟨18, _⟩ => ⟨S_, .f32⟩
  | .hbm, ⟨19, _⟩ => ⟨S1024x1672, .f32⟩
  | .hbm, ⟨20, _⟩ => ⟨S1024x1672, .f32⟩
  | .hbm, ⟨21, _⟩ => ⟨S1024x1672, .f32⟩
  | .hbm, ⟨22, _⟩ => ⟨S_, .f32⟩
  | .hbm, ⟨23, _⟩ => ⟨S1024x1672, .f32⟩
  | .hbm, ⟨24, _⟩ => ⟨S1024x1672, .f32⟩
  | .hbm, ⟨25, _⟩ => ⟨S1024x1672, .f32⟩
  | .hbm, ⟨26, _⟩ => ⟨S_, .f32⟩
  | .hbm, ⟨27, _⟩ => ⟨S1024x1672, .f32⟩
  | .hbm, ⟨28, _⟩ => ⟨S1024x1672, .f32⟩
  | .hbm, ⟨29, _⟩ => ⟨S_, .f32⟩
  | .hbm, ⟨30, _⟩ => ⟨S1024x1672, .f32⟩
  | .hbm, ⟨31, _⟩ => ⟨S1024x1672, .f32⟩
  | .hbm, ⟨32, _⟩ => ⟨S1024x1672, .f32⟩
  | .hbm, ⟨33, _⟩ => ⟨S_, .f32⟩
  | .hbm, ⟨34, _⟩ => ⟨S1024x1672, .f32⟩
  | .hbm, ⟨35, _⟩ => ⟨S1024x1672, .f32⟩
  | .hbm, ⟨36, _⟩ => ⟨S1024x1672, .f32⟩
  | .hbm, ⟨37, _⟩ => ⟨S_, .f32⟩
  | .hbm, ⟨38, _⟩ => ⟨S1024x1672, .f32⟩
  | .hbm, ⟨39, _⟩ => ⟨S1024x1672, .f32⟩
  | .hbm, ⟨40, _⟩ => ⟨S1024x1672, .f32⟩
  | .hbm, ⟨41, _⟩ => ⟨S_, .f32⟩
  | .hbm, ⟨42, _⟩ => ⟨S1024x1672, .f32⟩
  | .hbm, ⟨43, _⟩ => ⟨S1024x1672, .f32⟩
  | _, _ => ⟨S1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== AdamUp.lean ====
abbrev S1024x1024 : Shape := ⟨2, ![1024, 1024]⟩
abbrev S1792x1024 : Shape := ⟨2, ![1792, 1024]⟩
abbrev S2 : Shape := ⟨1, ![2]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1792x1024, .f32⟩
  | .hbm, ⟨4, _⟩ => ⟨S1792x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S2, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  let v1 : BitVec 1 := Scalar.cmpi .eq c7_i32 c0_i32_0
  let c1_i32 : BitVec 32 := 1#32
  let v2 : BitVec 32 := Scalar.select v1 c1_i32 c7_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  let v1 : BitVec 1 := Scalar.cmpi .eq c7_i32 c0_i32_0
  let c1_i32 : BitVec 32 := 1#32
  let v2 : BitVec 32 := Scalar.select v1 c1_i32 c7_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1024x1024 : Shape := ⟨2, ![1024, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamDown.lean ====
abbrev S1024x1024 : Shape := ⟨2, ![1024, 1024]⟩
abbrev S1792x1024 : Shape := ⟨2, ![1792, 1024]⟩
abbrev S2 : Shape := ⟨1, ![2]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1792x1024, .f32⟩
  | .hbm, ⟨4, _⟩ => ⟨S1792x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S2, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1024x1024 : Shape := ⟨2, ![1024, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamOut.lean ====
abbrev S512x1024 : Shape := ⟨2, ![512, 1024]⟩
abbrev S1792x1024 : Shape := ⟨2, ![1792, 1024]⟩
abbrev S2 : Shape := ⟨1, ![2]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1792x1024, .f32⟩
  | .hbm, ⟨4, _⟩ => ⟨S1792x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S2, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S512x1024 : Shape := ⟨2, ![512, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamWq.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩

abbrev nBuf : Space → Nat
  | .hbm => 9
  | .vmem => 9
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.addi c10_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c10_i32 : BitVec 32 := 10#32
  let v0 : BitVec 32 := Scalar.addi c10_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWqRefIdeal.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamWk.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩

abbrev nBuf : Space → Nat
  | .hbm => 9
  | .vmem => 9
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c11_i32 : BitVec 32 := 11#32
  let v0 : BitVec 32 := Scalar.addi c11_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWkRefIdeal.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamWv.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩

abbrev nBuf : Space → Nat
  | .hbm => 9
  | .vmem => 9
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWvRefIdeal.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamWo.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩

abbrev nBuf : Space → Nat
  | .hbm => 9
  | .vmem => 9
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c13_i32 : BitVec 32 := 13#32
  let v0 : BitVec 32 := Scalar.addi c13_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c13_i32 : BitVec 32 := 13#32
  let v0 : BitVec 32 := Scalar.addi c13_i32 arg0
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWoRefIdeal.lean ====
abbrev S256x1024 : Shape := ⟨2, ![256, 1024]⟩
abbrev S1792x1024 : Shape := ⟨2, ![1792, 1024]⟩
abbrev S2 : Shape := ⟨1, ![2]⟩
abbrev S1 : Shape := ⟨1, ![1]⟩
abbrev S_ : Shape := ⟨0, ![]⟩
abbrev S3584x1024 : Shape := ⟨2, ![3584, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1792x1024, .f32⟩
  | .hbm, ⟨4, _⟩ => ⟨S1792x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1792x1024, .f32⟩
  | .hbm, ⟨11, _⟩ => ⟨S_, .i32⟩
  | .hbm, ⟨12, _⟩ => ⟨S_, .i1⟩
  | .hbm, ⟨13, _⟩ => ⟨S1792x1024, .f32⟩
  | .hbm, ⟨14, _⟩ => ⟨S3584x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamSmall1.lean ====
abbrev S1024 : Shape := ⟨1, ![1024]⟩
abbrev S4x768 : Shape := ⟨2, ![4, 768]⟩
abbrev S8 : Shape := ⟨1, ![8]⟩
abbrev S1x1024 : Shape := ⟨2, ![1, 1024]⟩
abbrev S1x8 : Shape := ⟨2, ![1, 8]⟩

abbrev nBuf : Space → Nat
  | .hbm => 29
  | .vmem => 21
  | .smem => 0
  | _ => 0

abbrev bufTy : (tb : Table) → Fin (tcTables nBuf tb) → BufTy
  | .hbm, ⟨0, _⟩ => ⟨S1024, .f32⟩
  | .hbm, ⟨1, _⟩ => ⟨S4x768, .f32⟩
  | .hbm, ⟨2, _⟩ => ⟨S8, .f32⟩
  | .hbm, ⟨3, _⟩ => ⟨S1024, .f32⟩
  | .hbm, ⟨4, _⟩ => ⟨S4x768, .f32⟩
  | .hbm, ⟨5, _⟩ => ⟨S8, .f32⟩
  | .hbm, ⟨6, _⟩ => ⟨S1024, .f32⟩
  | .hbm, ⟨7, _⟩ => ⟨S4x768, .f32⟩
  | .hbm, ⟨8, _⟩ => ⟨S8, .f32⟩
  | .hbm, ⟨9, _⟩ => ⟨S1024, .f32⟩
  | .hbm, ⟨10, _⟩ => ⟨S4x768, .f32⟩
  | .hbm, ⟨11, _⟩ => ⟨S8, .f32⟩
  | .hbm, ⟨12, _⟩ => ⟨S1x1024, .f32⟩
  | .hbm, ⟨13, _⟩ => ⟨S1x8, .f32⟩
  | .hbm, ⟨14, _⟩ => ⟨S1x1024, .f32⟩
  | .hbm, ⟨15, _⟩ => ⟨S1x8, .f32⟩
  | .hbm, ⟨16, _⟩ => ⟨S1x1024, .f32⟩
  | .hbm, ⟨17, _⟩ => ⟨S1x8, .f32⟩
  | .hbm, ⟨18, _⟩ => ⟨S1x1024, .f32⟩
  | .hbm, ⟨19, _⟩ => ⟨S1x8, .f32⟩
  | .hbm, ⟨20, _⟩ => ⟨S1x1024, .f32⟩
  | .hbm, ⟨21, _⟩ => ⟨S4x768, .f32⟩
  | .hbm, ⟨22, _⟩ => ⟨S1x8, .f32⟩
  | .hbm, ⟨23, _⟩ => ⟨S1x1024, .f32⟩
  | .hbm, ⟨24, _⟩ => ⟨S4x768, .f32⟩
  | .hbm, ⟨25, _⟩ => ⟨S1x8, .f32⟩
  | .hbm, ⟨26, _⟩ => ⟨S1x1024, .f32⟩
  | .hbm, ⟨27, _⟩ => ⟨S4x768, .f32⟩
  | .hbm, ⟨28, _⟩ => ⟨S1x8, .f32⟩
  | .local _ .vmem, ⟨0, _⟩ => ⟨S1x1024, .f32⟩
  | .local _ .vmem, ⟨1, _⟩ => ⟨S4x768, .f32⟩
  | .local _ .vmem, ⟨2, _⟩ => ⟨S1x8, .f32⟩
  | .local _ .vmem, ⟨3, _⟩ => ⟨S1x1024, .f32⟩
  | .local _ .vmem, ⟨4, _⟩ => ⟨S4x768, .f32⟩
  | .local _ .vmem, ⟨5, _⟩ => ⟨S1x8, .f32⟩
  | .local _ .vmem, ⟨6, _⟩ => ⟨S1x1024, .f32⟩
  | .local _ .vmem, ⟨7, _⟩ => ⟨S4x768, .f32⟩
  | .local _ .vmem, ⟨8, _⟩ => ⟨S1x8, .f32⟩
  | .local _ .vmem, ⟨9, _⟩ => ⟨S1x1024, .f32⟩
  | .local _ .vmem, ⟨10, _⟩ => ⟨S4x768, .f32⟩
  | .local _ .vmem, ⟨11, _⟩ => ⟨S1x8, .f32⟩
  | .local _ .vmem, ⟨12, _⟩ => ⟨S1x1024, .f32⟩
  | .local _ .vmem, ⟨13, _⟩ => ⟨S4x768, .f32⟩
  | .local _ .vmem, ⟨14, _⟩ => ⟨S1x8, .f32⟩
  | .local _ .vmem, ⟨15, _⟩ => ⟨S1x1024, .f32⟩
  | .local _ .vmem, ⟨16, _⟩ => ⟨S4x768, .f32⟩
  | .local _ .vmem, ⟨17, _⟩ => ⟨S1x8, .f32⟩
  | .local _ .vmem, ⟨18, _⟩ => ⟨S1x1024, .f32⟩
  | .local _ .vmem, ⟨19, _⟩ => ⟨S4x768, .f32⟩
  | .local _ .vmem, ⟨20, _⟩ => ⟨S1x8, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall1Ideal.lean ====
abbrev S1024 : Shape := ⟨1, ![1024]⟩
abbrev S4x768 : Shape := ⟨2, ![4, 768]⟩
abbrev S8 : Shape := ⟨1, ![8]⟩
abbrev S1x1024 : Shape := ⟨2, ![1, 1024]⟩
abbrev S1x8 : Shape := ⟨2, ![1, 8]⟩

abbrev nBuf : Space → Nat
  | .hbm => 29
  | .vmem => 21
  | .smem => 0
  | _ => 0

abbrev bufTy : (tb : Table) → Fin (tcTables nBuf tb) → BufTy
  | .hbm, ⟨0, _⟩ => ⟨S1024, .f32⟩
  | .hbm, ⟨1, _⟩ => ⟨S4x768, .f32⟩
  | .hbm, ⟨2, _⟩ => ⟨S8, .f32⟩
  | .hbm, ⟨3, _⟩ => ⟨S1024, .f32⟩
  | .hbm, ⟨4, _⟩ => ⟨S4x768, .f32⟩
  | .hbm, ⟨5, _⟩ => ⟨S8, .f32⟩
  | .hbm, ⟨6, _⟩ => ⟨S1024, .f32⟩
  | .hbm, ⟨7, _⟩ => ⟨S4x768, .f32⟩
  | .hbm, ⟨8, _⟩ => ⟨S8, .f32⟩
  | .hbm, ⟨9, _⟩ => ⟨S1024, .f32⟩
  | .hbm, ⟨10, _⟩ => ⟨S4x768, .f32⟩
  | .hbm, ⟨11, _⟩ => ⟨S8, .f32⟩
  | .hbm, ⟨12, _⟩ => ⟨S1x1024, .f32⟩
  | .hbm, ⟨13, _⟩ => ⟨S1x8, .f32⟩
  | .hbm, ⟨14, _⟩ => ⟨S1x1024, .f32⟩
  | .hbm, ⟨15, _⟩ => ⟨S1x8, .f32⟩
  | .hbm, ⟨16, _⟩ => ⟨S1x1024, .f32⟩
  | .hbm, ⟨17, _⟩ => ⟨S1x8, .f32⟩
  | .hbm, ⟨18, _⟩ => ⟨S1x1024, .f32⟩
  | .hbm, ⟨19, _⟩ => ⟨S1x8, .f32⟩
  | .hbm, ⟨20, _⟩ => ⟨S1x1024, .f32⟩
  | .hbm, ⟨21, _⟩ => ⟨S4x768, .f32⟩
  | .hbm, ⟨22, _⟩ => ⟨S1x8, .f32⟩
  | .hbm, ⟨23, _⟩ => ⟨S1x1024, .f32⟩
  | .hbm, ⟨24, _⟩ => ⟨S4x768, .f32⟩
  | .hbm, ⟨25, _⟩ => ⟨S1x8, .f32⟩
  | .hbm, ⟨26, _⟩ => ⟨S1x1024, .f32⟩
  | .hbm, ⟨27, _⟩ => ⟨S4x768, .f32⟩
  | .hbm, ⟨28, _⟩ => ⟨S1x8, .f32⟩
  | .local _ .vmem, ⟨0, _⟩ => ⟨S1x1024, .f32⟩
  | .local _ .vmem, ⟨1, _⟩ => ⟨S4x768, .f32⟩
  | .local _ .vmem, ⟨2, _⟩ => ⟨S1x8, .f32⟩
  | .local _ .vmem, ⟨3, _⟩ => ⟨S1x1024, .f32⟩
  | .local _ .vmem, ⟨4, _⟩ => ⟨S4x768, .f32⟩
  | .local _ .vmem, ⟨5, _⟩ => ⟨S1x8, .f32⟩
  | .local _ .vmem, ⟨6, _⟩ => ⟨S1x1024, .f32⟩
  | .local _ .vmem, ⟨7, _⟩ => ⟨S4x768, .f32⟩
  | .local _ .vmem, ⟨8, _⟩ => ⟨S1x8, .f32⟩
  | .local _ .vmem, ⟨9, _⟩ => ⟨S1x1024, .f32⟩
  | .local _ .vmem, ⟨10, _⟩ => ⟨S4x768, .f32⟩
  | .local _ .vmem, ⟨11, _⟩ => ⟨S1x8, .f32⟩
  | .local _ .vmem, ⟨12, _⟩ => ⟨S1x1024, .f32⟩
  | .local _ .vmem, ⟨13, _⟩ => ⟨S4x768, .f32⟩
  | .local _ .vmem, ⟨14, _⟩ => ⟨S1x8, .f32⟩
  | .local _ .vmem, ⟨15, _⟩ => ⟨S1x1024, .f32⟩
  | .local _ .vmem, ⟨16, _⟩ => ⟨S4x768, .f32⟩
  | .local _ .vmem, ⟨17, _⟩ => ⟨S1x8, .f32⟩
  | .local _ .vmem, ⟨18, _⟩ => ⟨S1x1024, .f32⟩
  | .local _ .vmem, ⟨19, _⟩ => ⟨S4x768, .f32⟩
  | .local _ .vmem, ⟨20, _⟩ => ⟨S1x8, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall1RefIdeal.lean ====
abbrev S1024 : Shape := ⟨1, ![1024]⟩
abbrev S4x768 : Shape := ⟨2, ![4, 768]⟩
abbrev S8 : Shape := ⟨1, ![8]⟩
abbrev S_ : Shape := ⟨0, ![]⟩
abbrev S1x1024 : Shape := ⟨2, ![1, 1024]⟩
abbrev S1x8 : Shape := ⟨2, ![1, 8]⟩

abbrev nBuf : Space → Nat
  | .hbm => 117
  | .vmem => 0
  | .smem => 0
  | _ => 0

abbrev bufTy : (tb : Table) → Fin (tcTables nBuf tb) → BufTy
  | .hbm, ⟨0, _⟩ => ⟨S1024, .f32⟩
  | .hbm, ⟨1, _⟩ => ⟨S4x768, .f32⟩
  | .hbm, ⟨2, _⟩ => ⟨S8, .f32⟩
  | .hbm, ⟨3, _⟩ => ⟨S1024, .f32⟩
  | .hbm, ⟨4, _⟩ => ⟨S4x768, .f32⟩
  | .hbm, ⟨5, _⟩ => ⟨S8, .f32⟩
  | .hbm, ⟨6, _⟩ => ⟨S1024, .f32⟩
  | .hbm, ⟨7, _⟩ => ⟨S4x768, .f32⟩
  | .hbm, ⟨8, _⟩ => ⟨S8, .f32⟩
  | .hbm, ⟨9, _⟩ => ⟨S1024, .f32⟩
  | .hbm, ⟨10, _⟩ => ⟨S4x768, .f32⟩
  | .hbm, ⟨11, _⟩ => ⟨S8, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S4x768, .f32⟩
  | .hbm, ⟨47, _⟩ => ⟨S4x768, .f32⟩
  | .hbm, ⟨48, _⟩ => ⟨S_, .f32⟩
  | .hbm, ⟨49, _⟩ => ⟨S4x768, .f32⟩
  | .hbm, ⟨50, _⟩ => ⟨S4x768, .f32⟩
  | .hbm, ⟨51, _⟩ => ⟨S4x768, .f32⟩
  | .hbm, ⟨52, _⟩ => ⟨S_, .f32⟩
  | .hbm, ⟨53, _⟩ => ⟨S4x768, .f32⟩
  | .hbm, ⟨54, _⟩ => ⟨S4x768, .f32⟩
  | .hbm, ⟨55, _⟩ => ⟨S4x768, .f32⟩
  | .hbm, ⟨56, _⟩ => ⟨S_, .f32⟩
  | .hbm, ⟨57, _⟩ => ⟨S4x768, .f32⟩
  | .hbm, ⟨58, _⟩ => ⟨S4x768, .f32⟩
  | .hbm, ⟨59, _⟩ => ⟨S4x768, .f32⟩
  | .hbm, ⟨60, _⟩ => ⟨S_, .f32⟩
  | .hbm, ⟨61, _⟩ => ⟨S4x768, .f32⟩
  | .hbm, ⟨62, _⟩ => ⟨S4x768, .f32⟩
  | .hbm, ⟨63, _⟩ => ⟨S_, .f32⟩
  | .hbm, ⟨64, _⟩ => ⟨S4x768, .f32⟩
  | .hbm, ⟨65, _⟩ => ⟨S4x768, .f32⟩
  | .hbm, ⟨66, _⟩ => ⟨S4x768, .f32⟩
  | .hbm, ⟨67, _⟩ => ⟨S_, .f32⟩
  | .hbm, ⟨68, _⟩ => ⟨S4x768, .f32⟩
  | .hbm, ⟨69, _⟩ => ⟨S4x768, .f32⟩
  | .hbm, ⟨70, _⟩ => ⟨S4x768, .f32⟩
  | .hbm, ⟨71, _⟩ => ⟨S_, .f32⟩
  | .hbm, ⟨72, _⟩ => ⟨S4x768, .f32⟩
  | .hbm, ⟨73, _⟩ => ⟨S4x768, .f32⟩
  | .hbm, ⟨74, _⟩ => ⟨S4x768, .f32⟩
  | .hbm, ⟨75, _⟩ => ⟨S_, .f32⟩
  | .hbm, ⟨76, _⟩ => ⟨S4x768, .f32⟩
  | .hbm, ⟨77, _⟩ => ⟨S4x768, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S8, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S8, .f32⟩
  | .hbm, ⟨106, _⟩ => ⟨S8, .f32⟩
  | .hbm, ⟨107, _⟩ => ⟨S8, .f32⟩
  | .hbm, ⟨108, _⟩ => ⟨S_, .f32⟩
  | .hbm, ⟨109, _⟩ => ⟨S8, .f32⟩
  | .hbm, ⟨110, _⟩ => ⟨S8, .f32⟩
  | .hbm, ⟨111, _⟩ => ⟨S1x1024, .f32⟩
  | .hbm, ⟨112, _⟩ => ⟨S1x8, .f32⟩
  | .hbm, ⟨113, _⟩ => ⟨S1x1024, .f32⟩
  | .hbm, ⟨114, _⟩ => ⟨S1x8, .f32⟩
  | .hbm, ⟨115, _⟩ => ⟨S1x1024, .f32⟩
  | .hbm, ⟨116, _⟩ => ⟨S1x8, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamSmall2.lean ====
abbrev S8 : Shape := ⟨1, ![8]⟩
abbrev S128 : Shape := ⟨1, ![128]⟩
abbrev S4x384 : Shape := ⟨2, ![4, 384]⟩
abbrev S1x8 : Shape := ⟨2, ![1, 8]⟩
abbrev S1x128 : Shape := ⟨2, ![1, 128]⟩

abbrev nBuf : Space → Nat
  | .hbm => 29
  | .vmem => 21
  | .smem => 0
  | _ => 0

abbrev bufTy : (tb : Table) → Fin (tcTables nBuf tb) → BufTy
  | .hbm, ⟨0, _⟩ => ⟨S8, .f32⟩
  | .hbm, ⟨1, _⟩ => ⟨S128, .f32⟩
  | .hbm, ⟨2, _⟩ => ⟨S4x384, .f32⟩
  | .hbm, ⟨3, _⟩ => ⟨S8, .f32⟩
  | .hbm, ⟨4, _⟩ => ⟨S128, .f32⟩
  | .hbm, ⟨5, _⟩ => ⟨S4x384, .f32⟩
  | .hbm, ⟨6, _⟩ => ⟨S8, .f32⟩
  | .hbm, ⟨7, _⟩ => ⟨S128, .f32⟩
  | .hbm, ⟨8, _⟩ => ⟨S4x384, .f32⟩
  | .hbm, ⟨9, _⟩ => ⟨S8, .f32⟩
  | .hbm, ⟨10, _⟩ => ⟨S128, .f32⟩
  | .hbm, ⟨11, _⟩ => ⟨S4x384, .f32⟩
  | .hbm, ⟨12, _⟩ => ⟨S1x8, .f32⟩
  | .hbm, ⟨13, _⟩ => ⟨S1x128, .f32⟩
  | .hbm, ⟨14, _⟩ => ⟨S1x8, .f32⟩
  | .hbm, ⟨15, _⟩ => ⟨S1x128, .f32⟩
  | .hbm, ⟨16, _⟩ => ⟨S1x8, .f32⟩
  | .hbm, ⟨17, _⟩ => ⟨S1x128, .f32⟩
  | .hbm, ⟨18, _⟩ => ⟨S1x8, .f32⟩
  | .hbm, ⟨19, _⟩ => ⟨S1x128, .f32⟩
  | .hbm, ⟨20, _⟩ => ⟨S1x8, .f32⟩
  | .hbm, ⟨21, _⟩ => ⟨S1x128, .f32⟩
  | .hbm, ⟨22, _⟩ => ⟨S4x384, .f32⟩
  | .hbm, ⟨23, _⟩ => ⟨S1x8, .f32⟩
  | .hbm, ⟨24, _⟩ => ⟨S1x128, .f32⟩
  | .hbm, ⟨25, _⟩ => ⟨S4x384, .f32⟩
  | .hbm, ⟨26, _⟩ => ⟨S1x8, .f32⟩
  | .hbm, ⟨27, _⟩ => ⟨S1x128, .f32⟩
  | .hbm, ⟨28, _⟩ => ⟨S4x384, .f32⟩
  | .local _ .vmem, ⟨0, _⟩ => ⟨S1x8, .f32⟩
  | .local _ .vmem, ⟨1, _⟩ => ⟨S1x128, .f32⟩
  | .local _ .vmem, ⟨2, _⟩ => ⟨S4x384, .f32⟩
  | .local _ .vmem, ⟨3, _⟩ => ⟨S1x8, .f32⟩
  | .local _ .vmem, ⟨4, _⟩ => ⟨S1x128, .f32⟩
  | .local _ .vmem, ⟨5, _⟩ => ⟨S4x384, .f32⟩
  | .local _ .vmem, ⟨6, _⟩ => ⟨S1x8, .f32⟩
  | .local _ .vmem, ⟨7, _⟩ => ⟨S1x128, .f32⟩
  | .local _ .vmem, ⟨8, _⟩ => ⟨S4x384, .f32⟩
  | .local _ .vmem, ⟨9, _⟩ => ⟨S1x8, .f32⟩
  | .local _ .vmem, ⟨10, _⟩ => ⟨S1x128, .f32⟩
  | .local _ .vmem, ⟨11, _⟩ => ⟨S4x384, .f32⟩
  | .local _ .vmem, ⟨12, _⟩ => ⟨S1x8, .f32⟩
  | .local _ .vmem, ⟨13, _⟩ => ⟨S1x128, .f32⟩
  | .local _ .vmem, ⟨14, _⟩ => ⟨S4x384, .f32⟩
  | .local _ .vmem, ⟨15, _⟩ => ⟨S1x8, .f32⟩
  | .local _ .vmem, ⟨16, _⟩ => ⟨S1x128, .f32⟩
  | .local _ .vmem, ⟨17, _⟩ => ⟨S4x384, .f32⟩
  | .local _ .vmem, ⟨18, _⟩ => ⟨S1x8, .f32⟩
  | .local _ .vmem, ⟨19, _⟩ => ⟨S1x128, .f32⟩
  | .local _ .vmem, ⟨20, _⟩ => ⟨S4x384, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall2Ideal.lean ====
abbrev S8 : Shape := ⟨1, ![8]⟩
abbrev S128 : Shape := ⟨1, ![128]⟩
abbrev S4x384 : Shape := ⟨2, ![4, 384]⟩
abbrev S1x8 : Shape := ⟨2, ![1, 8]⟩
abbrev S1x128 : Shape := ⟨2, ![1, 128]⟩

abbrev nBuf : Space → Nat
  | .hbm => 29
  | .vmem => 21
  | .smem => 0
  | _ => 0

abbrev bufTy : (tb : Table) → Fin (tcTables nBuf tb) → BufTy
  | .hbm, ⟨0, _⟩ => ⟨S8, .f32⟩
  | .hbm, ⟨1, _⟩ => ⟨S128, .f32⟩
  | .hbm, ⟨2, _⟩ => ⟨S4x384, .f32⟩
  | .hbm, ⟨3, _⟩ => ⟨S8, .f32⟩
  | .hbm, ⟨4, _⟩ => ⟨S128, .f32⟩
  | .hbm, ⟨5, _⟩ => ⟨S4x384, .f32⟩
  | .hbm, ⟨6, _⟩ => ⟨S8, .f32⟩
  | .hbm, ⟨7, _⟩ => ⟨S128, .f32⟩
  | .hbm, ⟨8, _⟩ => ⟨S4x384, .f32⟩
  | .hbm, ⟨9, _⟩ => ⟨S8, .f32⟩
  | .hbm, ⟨10, _⟩ => ⟨S128, .f32⟩
  | .hbm, ⟨11, _⟩ => ⟨S4x384, .f32⟩
  | .hbm, ⟨12, _⟩ => ⟨S1x8, .f32⟩
  | .hbm, ⟨13, _⟩ => ⟨S1x128, .f32⟩
  | .hbm, ⟨14, _⟩ => ⟨S1x8, .f32⟩
  | .hbm, ⟨15, _⟩ => ⟨S1x128, .f32⟩
  | .hbm, ⟨16, _⟩ => ⟨S1x8, .f32⟩
  | .hbm, ⟨17, _⟩ => ⟨S1x128, .f32⟩
  | .hbm, ⟨18, _⟩ => ⟨S1x8, .f32⟩
  | .hbm, ⟨19, _⟩ => ⟨S1x128, .f32⟩
  | .hbm, ⟨20, _⟩ => ⟨S1x8, .f32⟩
  | .hbm, ⟨21, _⟩ => ⟨S1x128, .f32⟩
  | .hbm, ⟨22, _⟩ => ⟨S4x384, .f32⟩
  | .hbm, ⟨23, _⟩ => ⟨S1x8, .f32⟩
  | .hbm, ⟨24, _⟩ => ⟨S1x128, .f32⟩
  | .hbm, ⟨25, _⟩ => ⟨S4x384, .f32⟩
  | .hbm, ⟨26, _⟩ => ⟨S1x8, .f32⟩
  | .hbm, ⟨27, _⟩ => ⟨S1x128, .f32⟩
  | .hbm, ⟨28, _⟩ => ⟨S4x384, .f32⟩
  | .local _ .vmem, ⟨0, _⟩ => ⟨S1x8, .f32⟩
  | .local _ .vmem, ⟨1, _⟩ => ⟨S1x128, .f32⟩
  | .local _ .vmem, ⟨2, _⟩ => ⟨S4x384, .f32⟩
  | .local _ .vmem, ⟨3, _⟩ => ⟨S1x8, .f32⟩
  | .local _ .vmem, ⟨4, _⟩ => ⟨S1x128, .f32⟩
  | .local _ .vmem, ⟨5, _⟩ => ⟨S4x384, .f32⟩
  | .local _ .vmem, ⟨6, _⟩ => ⟨S1x8, .f32⟩
  | .local _ .vmem, ⟨7, _⟩ => ⟨S1x128, .f32⟩
  | .local _ .vmem, ⟨8, _⟩ => ⟨S4x384, .f32⟩
  | .local _ .vmem, ⟨9, _⟩ => ⟨S1x8, .f32⟩
  | .local _ .vmem, ⟨10, _⟩ => ⟨S1x128, .f32⟩
  | .local _ .vmem, ⟨11, _⟩ => ⟨S4x384, .f32⟩
  | .local _ .vmem, ⟨12, _⟩ => ⟨S1x8, .f32⟩
  | .local _ .vmem, ⟨13, _⟩ => ⟨S1x128, .f32⟩
  | .local _ .vmem, ⟨14, _⟩ => ⟨S4x384, .f32⟩
  | .local _ .vmem, ⟨15, _⟩ => ⟨S1x8, .f32⟩
  | .local _ .vmem, ⟨16, _⟩ => ⟨S1x128, .f32⟩
  | .local _ .vmem, ⟨17, _⟩ => ⟨S4x384, .f32⟩
  | .local _ .vmem, ⟨18, _⟩ => ⟨S1x8, .f32⟩
  | .local _ .vmem, ⟨19, _⟩ => ⟨S1x128, .f32⟩
  | .local _ .vmem, ⟨20, _⟩ => ⟨S4x384, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall2RefIdeal.lean ====
abbrev S8 : Shape := ⟨1, ![8]⟩
abbrev S128 : Shape := ⟨1, ![128]⟩
abbrev S4x384 : Shape := ⟨2, ![4, 384]⟩
abbrev S_ : Shape := ⟨0, ![]⟩
abbrev S1x8 : Shape := ⟨2, ![1, 8]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S8, .f32⟩
  | .hbm, ⟨1, _⟩ => ⟨S128, .f32⟩
  | .hbm, ⟨2, _⟩ => ⟨S4x384, .f32⟩
  | .hbm, ⟨3, _⟩ => ⟨S8, .f32⟩
  | .hbm, ⟨4, _⟩ => ⟨S128, .f32⟩
  | .hbm, ⟨5, _⟩ => ⟨S4x384, .f32⟩
  | .hbm, ⟨6, _⟩ => ⟨S8, .f32⟩
  | .hbm, ⟨7, _⟩ => ⟨S128, .f32⟩
  | .hbm, ⟨8, _⟩ => ⟨S4x384, .f32⟩
  | .hbm, ⟨9, _⟩ => ⟨S8, .f32⟩
  | .hbm, ⟨10, _⟩ => ⟨S128, .f32⟩
  | .hbm, ⟨11, _⟩ => ⟨S4x384, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S4x384, .f32⟩
  | .hbm, ⟨80, _⟩ => ⟨S4x384, .f32⟩
  | .hbm, ⟨81, _⟩ => ⟨S_, .f32⟩
  | .hbm, ⟨82, _⟩ => ⟨S4x384, .f32⟩
  | .hbm, ⟨83, _⟩ => ⟨S4x384, .f32⟩
  | .hbm, ⟨84, _⟩ => ⟨S4x384, .f32⟩
  | .hbm, ⟨85, _⟩ => ⟨S_, .f32⟩
  | .hbm, ⟨86, _⟩ => ⟨S4x384, .f32⟩
  | .hbm, ⟨87, _⟩ => ⟨S4x384, .f32⟩
  | .hbm, ⟨88, _⟩ => ⟨S4x384, .f32⟩
  | .hbm, ⟨89, _⟩ => ⟨S_, .f32⟩
  | .hbm, ⟨90, _⟩ => ⟨S4x384, .f32⟩
  | .hbm, ⟨91, _⟩ => ⟨S4x384, .f32⟩
  | .hbm, ⟨92, _⟩ => ⟨S4x384, .f32⟩
  | .hbm, ⟨93, _⟩ => ⟨S_, .f32⟩
  | .hbm, ⟨94, _⟩ => ⟨S4x384, .f32⟩
  | .hbm, ⟨95, _⟩ => ⟨S4x384, .f32⟩
  | .hbm, ⟨96, _⟩ => ⟨S_, .f32⟩
  | .hbm, ⟨97, _⟩ => ⟨S4x384, .f32⟩
  | .hbm, ⟨98, _⟩ => ⟨S4x384, .f32⟩
  | .hbm, ⟨99, _⟩ => ⟨S4x384, .f32⟩
  | .hbm, ⟨100, _⟩ => ⟨S_, .f32⟩
  | .hbm, ⟨101, _⟩ => ⟨S4x384, .f32⟩
  | .hbm, ⟨102, _⟩ => ⟨S4x384, .f32⟩
  | .hbm, ⟨103, _⟩ => ⟨S4x384, .f32⟩
  | .hbm, ⟨104, _⟩ => ⟨S_, .f32⟩
  | .hbm, ⟨105, _⟩ => ⟨S4x384, .f32⟩
  | .hbm, ⟨106, _⟩ => ⟨S4x384, .f32⟩
  | .hbm, ⟨107, _⟩ => ⟨S4x384, .f32⟩
  | .hbm, ⟨108, _⟩ => ⟨S_, .f32⟩
  | .hbm, ⟨109, _⟩ => ⟨S4x384, .f32⟩
  | .hbm, ⟨110, _⟩ => ⟨S4x384, .f32⟩
  | .hbm, ⟨111, _⟩ => ⟨S1x8, .f32⟩
  | .hbm, ⟨112, _⟩ => ⟨S1x128, .f32⟩
  | .hbm, ⟨113, _⟩ => ⟨S1x8, .f32⟩
  | .hbm, ⟨114, _⟩ => ⟨S1x128, .f32⟩
  | .hbm, ⟨115, _⟩ => ⟨S1x8, .f32⟩
  | .hbm, ⟨116, _⟩ => ⟨S1x128, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamSmall3.lean ====
abbrev S1536 : Shape := ⟨1, ![1536]⟩
abbrev S16 : Shape := ⟨1, ![16]⟩
abbrev S1x1536 : Shape := ⟨2, ![1, 1536]⟩
abbrev S1x16 : Shape := ⟨2, ![1, 16]⟩

abbrev nBuf : Space → Nat
  | .hbm => 33
  | .vmem => 21
  | .smem => 0
  | _ => 0

abbrev bufTy : (tb : Table) → Fin (tcTables nBuf tb) → BufTy
  | .hbm, ⟨0, _⟩ => ⟨S1536, .f32⟩
  | .hbm, ⟨1, _⟩ => ⟨S16, .f32⟩
  | .hbm, ⟨2, _⟩ => ⟨S16, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S1536, .f32⟩
  | .hbm, ⟨10, _⟩ => ⟨S16, .f32⟩
  | .hbm, ⟨11, _⟩ => ⟨S16, .f32⟩
  | .hbm, ⟨12, _⟩ => ⟨S1x1536, .f32⟩
  | .hbm, ⟨13, _⟩ => ⟨S1x16, .f32⟩
  | .hbm, ⟨14, _⟩ => ⟨S1x16, .f32⟩
  | .hbm, ⟨15, _⟩ => ⟨S1x1536, .f32⟩
  | .hbm, ⟨16, _⟩ => ⟨S1x16, .f32⟩
  | .hbm, ⟨17, _⟩ => ⟨S1x16, .f32⟩
  | .hbm, ⟨18, _⟩ => ⟨S1x1536, .f32⟩
  | .hbm, ⟨19, _⟩ => ⟨S1x16, .f32⟩
  | .hbm, ⟨20, _⟩ => ⟨S1x16, .f32⟩
  | .hbm, ⟨21, _⟩ => ⟨S1x1536, .f32⟩
  | .hbm, ⟨22, _⟩ => ⟨S1x16, .f32⟩
  | .hbm, ⟨23, _⟩ => ⟨S1x16, .f32⟩
  | .hbm, ⟨24, _⟩ => ⟨S1x1536, .f32⟩
  | .hbm, ⟨25, _⟩ => ⟨S1x16, .f32⟩
  | .hbm, ⟨26, _⟩ => ⟨S1x16, .f32⟩
  | .hbm, ⟨27, _⟩ => ⟨S1x1536, .f32⟩
  | .hbm, ⟨28, _⟩ => ⟨S1x16, .f32⟩
  | .hbm, ⟨29, _⟩ => ⟨S1x16, .f32⟩
  | .hbm, ⟨30, _⟩ => ⟨S1x1536, .f32⟩
  | .hbm, ⟨31, _⟩ => ⟨S1x16, .f32⟩
  | .hbm, ⟨32, _⟩ => ⟨S1x16, .f32⟩
  | .local _ .vmem, ⟨0, _⟩ => ⟨S1x1536, .f32⟩
  | .local _ .vmem, ⟨1, _⟩ => ⟨S1x16, .f32⟩
  | .local _ .vmem, ⟨2, _⟩ => ⟨S1x16, .f32⟩
  | .local _ .vmem, ⟨3, _⟩ => ⟨S1x1536, .f32⟩
  | .local _ .vmem, ⟨4, _⟩ => ⟨S1x16, .f32⟩
  | .local _ .vmem, ⟨5, _⟩ => ⟨S1x16, .f32⟩
  | .local _ .vmem, ⟨6, _⟩ => ⟨S1x1536, .f32⟩
  | .local _ .vmem, ⟨7, _⟩ => ⟨S1x16, .f32⟩
  | .local _ .vmem, ⟨8, _⟩ => ⟨S1x16, .f32⟩
  | .local _ .vmem, ⟨9, _⟩ => ⟨S1x1536, .f32⟩
  | .local _ .vmem, ⟨10, _⟩ => ⟨S1x16, .f32⟩
  | .local _ .vmem, ⟨11, _⟩ => ⟨S1x16, .f32⟩
  | .local _ .vmem, ⟨12, _⟩ => ⟨S1x1536, .f32⟩
  | .local _ .vmem, ⟨13, _⟩ => ⟨S1x16, .f32⟩
  | .local _ .vmem, ⟨14, _⟩ => ⟨S1x16, .f32⟩
  | .local _ .vmem, ⟨15, _⟩ => ⟨S1x1536, .f32⟩
  | .local _ .vmem, ⟨16, _⟩ => ⟨S1x16, .f32⟩
  | .local _ .vmem, ⟨17, _⟩ => ⟨S1x16, .f32⟩
  | .local _ .vmem, ⟨18, _⟩ => ⟨S1x1536, .f32⟩
  | .local _ .vmem, ⟨19, _⟩ => ⟨S1x16, .f32⟩
  | .local _ .vmem, ⟨20, _⟩ => ⟨S1x16, .f32⟩
  | _, _ => ⟨S1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall3Ideal.lean ====
abbrev S1536 : Shape := ⟨1, ![1536]⟩
abbrev S16 : Shape := ⟨1, ![16]⟩
abbrev S1x1536 : Shape := ⟨2, ![1, 1536]⟩
abbrev S1x16 : Shape := ⟨2, ![1, 16]⟩

abbrev nBuf : Space → Nat
  | .hbm => 33
  | .vmem => 21
  | .smem => 0
  | _ => 0

abbrev bufTy : (tb : Table) → Fin (tcTables nBuf tb) → BufTy
  | .hbm, ⟨0, _⟩ => ⟨S1536, .f32⟩
  | .hbm, ⟨1, _⟩ => ⟨S16, .f32⟩
  | .hbm, ⟨2, _⟩ => ⟨S16, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S1536, .f32⟩
  | .hbm, ⟨10, _⟩ => ⟨S16, .f32⟩
  | .hbm, ⟨11, _⟩ => ⟨S16, .f32⟩
  | .hbm, ⟨12, _⟩ => ⟨S1x1536, .f32⟩
  | .hbm, ⟨13, _⟩ => ⟨S1x16, .f32⟩
  | .hbm, ⟨14, _⟩ => ⟨S1x16, .f32⟩
  | .hbm, ⟨15, _⟩ => ⟨S1x1536, .f32⟩
  | .hbm, ⟨16, _⟩ => ⟨S1x16, .f32⟩
  | .hbm, ⟨17, _⟩ => ⟨S1x16, .f32⟩
  | .hbm, ⟨18, _⟩ => ⟨S1x1536, .f32⟩
  | .hbm, ⟨19, _⟩ => ⟨S1x16, .f32⟩
  | .hbm, ⟨20, _⟩ => ⟨S1x16, .f32⟩
  | .hbm, ⟨21, _⟩ => ⟨S1x1536, .f32⟩
  | .hbm, ⟨22, _⟩ => ⟨S1x16, .f32⟩
  | .hbm, ⟨23, _⟩ => ⟨S1x16, .f32⟩
  | .hbm, ⟨24, _⟩ => ⟨S1x1536, .f32⟩
  | .hbm, ⟨25, _⟩ => ⟨S1x16, .f32⟩
  | .hbm, ⟨26, _⟩ => ⟨S1x16, .f32⟩
  | .hbm, ⟨27, _⟩ => ⟨S1x1536, .f32⟩
  | .hbm, ⟨28, _⟩ => ⟨S1x16, .f32⟩
  | .hbm, ⟨29, _⟩ => ⟨S1x16, .f32⟩
  | .hbm, ⟨30, _⟩ => ⟨S1x1536, .f32⟩
  | .hbm, ⟨31, _⟩ => ⟨S1x16, .f32⟩
  | .hbm, ⟨32, _⟩ => ⟨S1x16, .f32⟩
  | .local _ .vmem, ⟨0, _⟩ => ⟨S1x1536, .f32⟩
  | .local _ .vmem, ⟨1, _⟩ => ⟨S1x16, .f32⟩
  | .local _ .vmem, ⟨2, _⟩ => ⟨S1x16, .f32⟩
  | .local _ .vmem, ⟨3, _⟩ => ⟨S1x1536, .f32⟩
  | .local _ .vmem, ⟨4, _⟩ => ⟨S1x16, .f32⟩
  | .local _ .vmem, ⟨5, _⟩ => ⟨S1x16, .f32⟩
  | .local _ .vmem, ⟨6, _⟩ => ⟨S1x1536, .f32⟩
  | .local _ .vmem, ⟨7, _⟩ => ⟨S1x16, .f32⟩
  | .local _ .vmem, ⟨8, _⟩ => ⟨S1x16, .f32⟩
  | .local _ .vmem, ⟨9, _⟩ => ⟨S1x1536, .f32⟩
  | .local _ .vmem, ⟨10, _⟩ => ⟨S1x16, .f32⟩
  | .local _ .vmem, ⟨11, _⟩ => ⟨S1x16, .f32⟩
  | .local _ .vmem, ⟨12, _⟩ => ⟨S1x1536, .f32⟩
  | .local _ .vmem, ⟨13, _⟩ => ⟨S1x16, .f32⟩
  | .local _ .vmem, ⟨14, _⟩ => ⟨S1x16, .f32⟩
  | .local _ .vmem, ⟨15, _⟩ => ⟨S1x1536, .f32⟩
  | .local _ .vmem, ⟨16, _⟩ => ⟨S1x16, .f32⟩
  | .local _ .vmem, ⟨17, _⟩ => ⟨S1x16, .f32⟩
  | .local _ .vmem, ⟨18, _⟩ => ⟨S1x1536, .f32⟩
  | .local _ .vmem, ⟨19, _⟩ => ⟨S1x16, .f32⟩
  | .local _ .vmem, ⟨20, _⟩ => ⟨S1x16, .f32⟩
  | _, _ => ⟨S1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall3RefIdeal.lean ====
abbrev S1536 : Shape := ⟨1, ![1536]⟩
abbrev S16 : Shape := ⟨1, ![16]⟩
abbrev S_ : Shape := ⟨0, ![]⟩
abbrev S1x1536 : Shape := ⟨2, ![1, 1536]⟩
abbrev S1x16 : Shape := ⟨2, ![1, 16]⟩

abbrev nBuf : Space → Nat
  | .hbm => 120
  | .vmem => 0
  | .smem => 0
  | _ => 0

abbrev bufTy : (tb : Table) → Fin (tcTables nBuf tb) → BufTy
  | .hbm, ⟨0, _⟩ => ⟨S1536, .f32⟩
  | .hbm, ⟨1, _⟩ => ⟨S16, .f32⟩
  | .hbm, ⟨2, _⟩ => ⟨S16, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S1536, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S_, .f32⟩
  | .hbm, ⟨16, _⟩ => ⟨S1536, .f32⟩
  | .hbm, ⟨17, _⟩ => ⟨S1536, .f32⟩
  | .hbm, ⟨18, _⟩ => ⟨S1536, .f32⟩
  | .hbm, ⟨19, _⟩ => ⟨S_, .f32⟩
  | .hbm, ⟨20, _⟩ => ⟨S1536, .f32⟩
  | .hbm, ⟨21, _⟩ => ⟨S1536, .f32⟩
  | .hbm, ⟨22, _⟩ => ⟨S1536, .f32⟩
  | .hbm, ⟨23, _⟩ => ⟨S_, .f32⟩
  | .hbm, ⟨24, _⟩ => ⟨S1536, .f32⟩
  | .hbm, ⟨25, _⟩ => ⟨S1536, .f32⟩
  | .hbm, ⟨26, _⟩ => ⟨S1536, .f32⟩
  | .hbm, ⟨27, _⟩ => ⟨S_, .f32⟩
  | .hbm, ⟨28, _⟩ => ⟨S1536, .f32⟩
  | .hbm, ⟨29, _⟩ => ⟨S1536, .f32⟩
  | .hbm, ⟨30, _⟩ => ⟨S_, .f32⟩
  | .hbm, ⟨31, _⟩ => ⟨S1536, .f32⟩
  | .hbm, ⟨32, _⟩ => ⟨S1536, .f32⟩
  | .hbm, ⟨33, _⟩ => ⟨S1536, .f32⟩
  | .hbm, ⟨34, _⟩ => ⟨S_, .f32⟩
  | .hbm, ⟨35, _⟩ => ⟨S1536, .f32⟩
  | .hbm, ⟨36, _⟩ => ⟨S1536, .f32⟩
  | .hbm, ⟨37, _⟩ => ⟨S1536, .f32⟩
  | .hbm, ⟨38, _⟩ => ⟨S_, .f32⟩
  | .hbm, ⟨39, _⟩ => ⟨S1536, .f32⟩
  | .hbm, ⟨40, _⟩ => ⟨S1536, .f32⟩
  | .hbm, ⟨41, _⟩ => ⟨S1536, .f32⟩
  | .hbm, ⟨42, _⟩ => ⟨S_, .f32⟩
  | .hbm, ⟨43, _⟩ => ⟨S1536, .f32⟩
  | .hbm, ⟨44, _⟩ => ⟨S1536, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S16, .f32⟩
  | .hbm, ⟨100, _⟩ => ⟨S_, .f32⟩
  | .hbm, ⟨101, _⟩ => ⟨S16, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S16, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S16, .f32⟩
  | .hbm, ⟨110, _⟩ => ⟨S16, .f32⟩
  | .hbm, ⟨111, _⟩ => ⟨S1x1536, .f32⟩
  | .hbm, ⟨112, _⟩ => ⟨S1x16, .f32⟩
  | .hbm, ⟨113, _⟩ => ⟨S1x16, .f32⟩
  | .hbm, ⟨114, _⟩ => ⟨S1x1536, .f32⟩
  | .hbm, ⟨115, _⟩ => ⟨S1x16, .f32⟩
  | .hbm, ⟨116, _⟩ => ⟨S1x16, .f32⟩
  | .hbm, ⟨117, _⟩ => ⟨S1x1536, .f32⟩
  | .hbm, ⟨118, _⟩ => ⟨S1x16, .f32⟩
  | .hbm, ⟨119, _⟩ => ⟨S1x16, .f32⟩
  | _, _ => ⟨S1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== AdamSmall4.lean ====
abbrev S16 : Shape := ⟨1, ![16]⟩
abbrev S1024 : Shape := ⟨1, ![1024]⟩
abbrev S1x16 : Shape := ⟨2, ![1, 16]⟩
abbrev S1x1024 : Shape := ⟨2, ![1, 1024]⟩

abbrev nBuf : Space → Nat
  | .hbm => 33
  | .vmem => 21
  | .smem => 0
  | _ => 0

abbrev bufTy : (tb : Table) → Fin (tcTables nBuf tb) → BufTy
  | .hbm, ⟨0, _⟩ => ⟨S16, .f32⟩
  | .hbm, ⟨1, _⟩ => ⟨S1024, .f32⟩
  | .hbm, ⟨2, _⟩ => ⟨S1024, .f32⟩
  | .hbm, ⟨3, _⟩ => ⟨S16, .f32⟩
  | .hbm, ⟨4, _⟩ => ⟨S1024, .f32⟩
  | .hbm, ⟨5, _⟩ => ⟨S1024, .f32⟩
  | .hbm, ⟨6, _⟩ => ⟨S16, .f32⟩
  | .hbm, ⟨7, _⟩ => ⟨S1024, .f32⟩
  | .hbm, ⟨8, _⟩ => ⟨S1024, .f32⟩
  | .hbm, ⟨9, _⟩ => ⟨S16, .f32⟩
  | .hbm, ⟨10, _⟩ => ⟨S1024, .f32⟩
  | .hbm, ⟨11, _⟩ => ⟨S1024, .f32⟩
  | .hbm, ⟨12, _⟩ => ⟨S1x16, .f32⟩
  | .hbm, ⟨13, _⟩ => ⟨S1x1024, .f32⟩
  | .hbm, ⟨14, _⟩ => ⟨S1x1024, .f32⟩
  | .hbm, ⟨15, _⟩ => ⟨S1x16, .f32⟩
  | .hbm, ⟨16, _⟩ => ⟨S1x1024, .f32⟩
  | .hbm, ⟨17, _⟩ => ⟨S1x1024, .f32⟩
  | .hbm, ⟨18, _⟩ => ⟨S1x16, .f32⟩
  | .hbm, ⟨19, _⟩ => ⟨S1x1024, .f32⟩
  | .hbm, ⟨20, _⟩ => ⟨S1x1024, .f32⟩
  | .hbm, ⟨21, _⟩ => ⟨S1x16, .f32⟩
  | .hbm, ⟨22, _⟩ => ⟨S1x1024, .f32⟩
  | .hbm, ⟨23, _⟩ => ⟨S1x1024, .f32⟩
  | .hbm, ⟨24, _⟩ => ⟨S1x16, .f32⟩
  | .hbm, ⟨25, _⟩ => ⟨S1x1024, .f32⟩
  | .hbm, ⟨26, _⟩ => ⟨S1x1024, .f32⟩
  | .hbm, ⟨27, _⟩ => ⟨S1x16, .f32⟩
  | .hbm, ⟨28, _⟩ => ⟨S1x1024, .f32⟩
  | .hbm, ⟨29, _⟩ => ⟨S1x1024, .f32⟩
  | .hbm, ⟨30, _⟩ => ⟨S1x16, .f32⟩
  | .hbm, ⟨31, _⟩ => ⟨S1x1024, .f32⟩
  | .hbm, ⟨32, _⟩ => ⟨S1x1024, .f32⟩
  | .local _ .vmem, ⟨0, _⟩ => ⟨S1x16, .f32⟩
  | .local _ .vmem, ⟨1, _⟩ => ⟨S1x1024, .f32⟩
  | .local _ .vmem, ⟨2, _⟩ => ⟨S1x1024, .f32⟩
  | .local _ .vmem, ⟨3, _⟩ => ⟨S1x16, .f32⟩
  | .local _ .vmem, ⟨4, _⟩ => ⟨S1x1024, .f32⟩
  | .local _ .vmem, ⟨5, _⟩ => ⟨S1x1024, .f32⟩
  | .local _ .vmem, ⟨6, _⟩ => ⟨S1x16, .f32⟩
  | .local _ .vmem, ⟨7, _⟩ => ⟨S1x1024, .f32⟩
  | .local _ .vmem, ⟨8, _⟩ => ⟨S1x1024, .f32⟩
  | .local _ .vmem, ⟨9, _⟩ => ⟨S1x16, .f32⟩
  | .local _ .vmem, ⟨10, _⟩ => ⟨S1x1024, .f32⟩
  | .local _ .vmem, ⟨11, _⟩ => ⟨S1x1024, .f32⟩
  | .local _ .vmem, ⟨12, _⟩ => ⟨S1x16, .f32⟩
  | .local _ .vmem, ⟨13, _⟩ => ⟨S1x1024, .f32⟩
  | .local _ .vmem, ⟨14, _⟩ => ⟨S1x1024, .f32⟩
  | .local _ .vmem, ⟨15, _⟩ => ⟨S1x16, .f32⟩
  | .local _ .vmem, ⟨16, _⟩ => ⟨S1x1024, .f32⟩
  | .local _ .vmem, ⟨17, _⟩ => ⟨S1x1024, .f32⟩
  | .local _ .vmem, ⟨18, _⟩ => ⟨S1x16, .f32⟩
  | .local _ .vmem, ⟨19, _⟩ => ⟨S1x1024, .f32⟩
  | .local _ .vmem, ⟨20, _⟩ => ⟨S1x1024, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall4Ideal.lean ====
abbrev S16 : Shape := ⟨1, ![16]⟩
abbrev S1024 : Shape := ⟨1, ![1024]⟩
abbrev S1x16 : Shape := ⟨2, ![1, 16]⟩
abbrev S1x1024 : Shape := ⟨2, ![1, 1024]⟩

abbrev nBuf : Space → Nat
  | .hbm => 33
  | .vmem => 21
  | .smem => 0
  | _ => 0

abbrev bufTy : (tb : Table) → Fin (tcTables nBuf tb) → BufTy
  | .hbm, ⟨0, _⟩ => ⟨S16, .f32⟩
  | .hbm, ⟨1, _⟩ => ⟨S1024, .f32⟩
  | .hbm, ⟨2, _⟩ => ⟨S1024, .f32⟩
  | .hbm, ⟨3, _⟩ => ⟨S16, .f32⟩
  | .hbm, ⟨4, _⟩ => ⟨S1024, .f32⟩
  | .hbm, ⟨5, _⟩ => ⟨S1024, .f32⟩
  | .hbm, ⟨6, _⟩ => ⟨S16, .f32⟩
  | .hbm, ⟨7, _⟩ => ⟨S1024, .f32⟩
  | .hbm, ⟨8, _⟩ => ⟨S1024, .f32⟩
  | .hbm, ⟨9, _⟩ => ⟨S16, .f32⟩
  | .hbm, ⟨10, _⟩ => ⟨S1024, .f32⟩
  | .hbm, ⟨11, _⟩ => ⟨S1024, .f32⟩
  | .hbm, ⟨12, _⟩ => ⟨S1x16, .f32⟩
  | .hbm, ⟨13, _⟩ => ⟨S1x1024, .f32⟩
  | .hbm, ⟨14, _⟩ => ⟨S1x1024, .f32⟩
  | .hbm, ⟨15, _⟩ => ⟨S1x16, .f32⟩
  | .hbm, ⟨16, _⟩ => ⟨S1x1024, .f32⟩
  | .hbm, ⟨17, _⟩ => ⟨S1x1024, .f32⟩
  | .hbm, ⟨18, _⟩ => ⟨S1x16, .f32⟩
  | .hbm, ⟨19, _⟩ => ⟨S1x1024, .f32⟩
  | .hbm, ⟨20, _⟩ => ⟨S1x1024, .f32⟩
  | .hbm, ⟨21, _⟩ => ⟨S1x16, .f32⟩
  | .hbm, ⟨22, _⟩ => ⟨S1x1024, .f32⟩
  | .hbm, ⟨23, _⟩ => ⟨S1x1024, .f32⟩
  | .hbm, ⟨24, _⟩ => ⟨S1x16, .f32⟩
  | .hbm, ⟨25, _⟩ => ⟨S1x1024, .f32⟩
  | .hbm, ⟨26, _⟩ => ⟨S1x1024, .f32⟩
  | .hbm, ⟨27, _⟩ => ⟨S1x16, .f32⟩
  | .hbm, ⟨28, _⟩ => ⟨S1x1024, .f32⟩
  | .hbm, ⟨29, _⟩ => ⟨S1x1024, .f32⟩
  | .hbm, ⟨30, _⟩ => ⟨S1x16, .f32⟩
  | .hbm, ⟨31, _⟩ => ⟨S1x1024, .f32⟩
  | .hbm, ⟨32, _⟩ => ⟨S1x1024, .f32⟩
  | .local _ .vmem, ⟨0, _⟩ => ⟨S1x16, .f32⟩
  | .local _ .vmem, ⟨1, _⟩ => ⟨S1x1024, .f32⟩
  | .local _ .vmem, ⟨2, _⟩ => ⟨S1x1024, .f32⟩
  | .local _ .vmem, ⟨3, _⟩ => ⟨S1x16, .f32⟩
  | .local _ .vmem, ⟨4, _⟩ => ⟨S1x1024, .f32⟩
  | .local _ .vmem, ⟨5, _⟩ => ⟨S1x1024, .f32⟩
  | .local _ .vmem, ⟨6, _⟩ => ⟨S1x16, .f32⟩
  | .local _ .vmem, ⟨7, _⟩ => ⟨S1x1024, .f32⟩
  | .local _ .vmem, ⟨8, _⟩ => ⟨S1x1024, .f32⟩
  | .local _ .vmem, ⟨9, _⟩ => ⟨S1x16, .f32⟩
  | .local _ .vmem, ⟨10, _⟩ => ⟨S1x1024, .f32⟩
  | .local _ .vmem, ⟨11, _⟩ => ⟨S1x1024, .f32⟩
  | .local _ .vmem, ⟨12, _⟩ => ⟨S1x16, .f32⟩
  | .local _ .vmem, ⟨13, _⟩ => ⟨S1x1024, .f32⟩
  | .local _ .vmem, ⟨14, _⟩ => ⟨S1x1024, .f32⟩
  | .local _ .vmem, ⟨15, _⟩ => ⟨S1x16, .f32⟩
  | .local _ .vmem, ⟨16, _⟩ => ⟨S1x1024, .f32⟩
  | .local _ .vmem, ⟨17, _⟩ => ⟨S1x1024, .f32⟩
  | .local _ .vmem, ⟨18, _⟩ => ⟨S1x16, .f32⟩
  | .local _ .vmem, ⟨19, _⟩ => ⟨S1x1024, .f32⟩
  | .local _ .vmem, ⟨20, _⟩ => ⟨S1x1024, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall4RefIdeal.lean ====
abbrev S16 : Shape := ⟨1, ![16]⟩
abbrev S1024 : Shape := ⟨1, ![1024]⟩
abbrev S_ : Shape := ⟨0, ![]⟩
abbrev S1x16 : Shape := ⟨2, ![1, 16]⟩
abbrev S1x1024 : Shape := ⟨2, ![1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16, .f32⟩
  | .hbm, ⟨1, _⟩ => ⟨S1024, .f32⟩
  | .hbm, ⟨2, _⟩ => ⟨S1024, .f32⟩
  | .hbm, ⟨3, _⟩ => ⟨S16, .f32⟩
  | .hbm, ⟨4, _⟩ => ⟨S1024, .f32⟩
  | .hbm, ⟨5, _⟩ => ⟨S1024, .f32⟩
  | .hbm, ⟨6, _⟩ => ⟨S16, .f32⟩
  | .hbm, ⟨7, _⟩ => ⟨S1024, .f32⟩
  | .hbm, ⟨8, _⟩ => ⟨S1024, .f32⟩
  | .hbm, ⟨9, _⟩ => ⟨S16, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | .hbm, ⟨111, _⟩ => ⟨S1x16, .f32⟩
  | .hbm, ⟨112, _⟩ => ⟨S1x1024, .f32⟩
  | .hbm, ⟨113, _⟩ => ⟨S1x1024, .f32⟩
  | .hbm, ⟨114, _⟩ => ⟨S1x16, .f32⟩
  | .hbm, ⟨115, _⟩ => ⟨S1x1024, .f32⟩
  | .hbm, ⟨116, _⟩ => ⟨S1x1024, .f32⟩
  | .hbm, ⟨117, _⟩ => ⟨S1x16, .f32⟩
  | .hbm, ⟨118, _⟩ => ⟨S1x1024, .f32⟩
  | .hbm, ⟨119, _⟩ => ⟨S1x1024, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== AdamSmall5.lean ====
abbrev S1024 : Shape := ⟨1, ![1024]⟩
abbrev S1x1024 : Shape := ⟨2, ![1, 1024]⟩

abbrev nBuf : Space → Nat
  | .hbm => 33
  | .vmem => 21
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmall5RefIdeal.lean ====
abbrev S1024 : Shape := ⟨1, ![1024]⟩
abbrev S_ : Shape := ⟨0, ![]⟩
abbrev S1x1024 : Shape := ⟨2, ![1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | .hbm, ⟨111, _⟩ => ⟨S1x1024, .f32⟩
  | .hbm, ⟨112, _⟩ => ⟨S1x1024, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x1024, .f32⟩
  | .hbm, ⟨117, _⟩ => ⟨S1x1024, .f32⟩
  | .hbm, ⟨118, _⟩ => ⟨S1x1024, .f32⟩
  | .hbm, ⟨119, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== Proof.SoftmaxGrad.lean ====
/- The gradient of a softmax, one row of scores at a time, over the extended reals: the two ways of writing it
   (through the quotients, and through the derivative of the quotient) agree when the scores are real numbers. -/
module

public import Idealize.ShloMosaic.PureOps.Ideal

@[expose] public section

noncomputable section

namespace Cert.SoftmaxGrad

open Idealize.ShloMosaic

/-! ## The heads' columns and the constants -/

/-- Column `d` of head `h`: the four heads lie side by side, 256 columns each. -/
def hc (h : Fin 4) (d : Fin 256) : Fin 1024 := ⟨h.val * 256 + d.val, by omega⟩

theorem hc_zero (d : Fin 256) : hc 0 d = ⟨d.val, by omega⟩ := Fin.ext (Nat.zero_add _)
theorem hc_one (d : Fin 256) : hc 1 d = ⟨256 + d.val, by omega⟩ := rfl
theorem hc_two (d : Fin 256) : hc 2 d = ⟨512 + d.val, by omega⟩ := rfl
theorem hc_three (d : Fin 256) : hc 3 d = ⟨768 + d.val, by omega⟩ := rfl

/-- The head of a column. -/
theorem hc_head (h : Fin 4) (d : Fin 256) (p : (hc h d).val / 256 < 4) : (⟨(hc h d).val / 256, p⟩ : Fin 4) = h :=
  Fin.ext (by show (h.val * 256 + d.val) / 256 = h.val; omega)

/-- Every column is a column of some head. -/
theorem exists_hc (j : Fin 1024) : ∃ h d, j = hc h d :=
  ⟨⟨j.val / 256, by omega⟩, ⟨j.val % 256, by omega⟩, Fin.ext (by show j.val = j.val / 256 * 256 + j.val % 256; omega)⟩

/-- The factor of the scores, one sixteenth. -/
abbrev scale : EReal := Ideal.ofBits .f32 0x3D800000#32

/-- The word of minus infinity is the least extended real. -/
theorem ofBits_bot : Ideal.ofBits .f32 0xFF800000#32 = ⊥ := by simp [Ideal.ofBits, Ideal.ieee]

/-! ## One row -/

variable {n : ℕ}

/-- The largest of a row's scores, `⊥` for an empty row. -/
def top (s : Fin n → EReal) : EReal := Finset.univ.fold max ⊥ s

/-- The exponential of a score, after the largest one is subtracted. -/
def wgt (s : Fin n → EReal) (m : Fin n) : EReal := Ideal.exp (s m - top s)

/-- The sum of a row's exponentials. -/
def tot (s : Fin n → EReal) : EReal := ∑ l, wgt s l

/-- The probability the softmax gives to an entry. -/
def prob (s : Fin n → EReal) (m : Fin n) : EReal := Ideal.div (wgt s m) (tot s)

/-- The gradient with respect to the scores, written with the probabilities; `dp` is the gradient with respect to the
    probabilities and `c` the factor the scores were scaled by. -/
def gradP (c : EReal) (s dp : Fin n → EReal) (m : Fin n) : EReal :=
  prob s m * (dp m - ∑ l, dp l * prob s l) * c

/-- The same gradient, written as the derivative of a quotient of the exponentials. -/
def gradQ (c : EReal) (s dp : Fin n → EReal) (m : Fin n) : EReal :=
  (Ideal.div (dp m) (tot s) + -(∑ l, dp l * Ideal.div 1 (tot s * tot s) * wgt s l)) * wgt s m * c

/-- A sum of extended reals, each multiplied by the same nonnegative real, is the sum multiplied by it. -/
theorem sum_mul_coe {ι : Type*} (t : Finset ι) (f : ι → EReal) {r : ℝ} (hr : 0 ≤ r) :
    ∑ i ∈ t, f i * (r : EReal) = (∑ i ∈ t, f i) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- A sum of reals, read in the extended reals. -/
theorem sum_coe {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The largest of finitely many real scores is a real number. -/
theorem top_real [NeZero n] {s : Fin n → EReal} {σ : Fin n → ℝ} (hs : ∀ m, s m = (σ m : EReal)) :
    ∃ μ : ℝ, top s = (μ : EReal) := by
  have h1 : top s < ⊤ := (Finset.fold_max_lt _).2 ⟨bot_lt_top, fun m _ => by rw [hs]; exact EReal.coe_lt_top _⟩
  have h2 : ⊥ < top s := (Finset.lt_fold_max _).2 (.inr ⟨0, Finset.mem_univ _, by rw [hs]; exact EReal.bot_lt_coe _⟩)
  exact ⟨(top s).toReal, (EReal.coe_toReal h1.ne h2.ne').symm⟩

/-- Over real scores the exponentials are positive reals, and so is their sum. -/
theorem wgt_real [NeZero n] {s : Fin n → EReal} (hs : ∀ m, ∃ r : ℝ, s m = (r : EReal)) :
    ∃ e : Fin n → ℝ, ∃ z : ℝ, (∀ m, 0 < e m) ∧ 0 < z ∧ (∀ m, wgt s m = (e m : EReal)) ∧ tot s = (z : EReal) := by
  choose σ hσ using hs
  obtain ⟨μ, hμ⟩ := top_real hσ
  have hw : ∀ m, wgt s m = ((Real.exp (σ m - μ) : ℝ) : EReal) := fun m => by
    rw [wgt, hσ, hμ, ← EReal.coe_sub, Ideal.exp_coe]
  refine ⟨fun m => Real.exp (σ m - μ), ∑ m, Real.exp (σ m - μ), fun m => Real.exp_pos _,
    Finset.sum_pos (fun m _ => Real.exp_pos _) ⟨0, Finset.mem_univ _⟩, hw, ?_⟩
  rw [tot, Finset.sum_congr rfl fun m _ => hw m, sum_coe]

/-- The two ways of writing the gradient agree over real scores, whatever the gradient `dp` holds. -/
theorem gradP_eq_gradQ [NeZero n] (c : EReal) {s : Fin n → EReal} (dp : Fin n → EReal)
    (hs : ∀ m, ∃ r : ℝ, s m = (r : EReal)) (m : Fin n) : gradP c s dp m = gradQ c s dp m := by
  obtain ⟨e, z, he, hz, hw, ht⟩ := wgt_real hs
  have hz0 : z ≠ 0 := hz.ne'
  have hzz : z * z ≠ 0 := mul_ne_zero hz0 hz0
  have hp : ∀ l, prob s l = ((e l * (1 / z) : ℝ) : EReal) := fun l => by
    rw [prob, hw, ht, Ideal.div_coe hz0, ← EReal.coe_mul]
  have hq : ∑ l, dp l * Ideal.div 1 (tot s * tot s) * wgt s l
      = (∑ l, dp l * prob s l) * ((1 / z : ℝ) : EReal) := by
    rw [← sum_mul_coe _ _ (by positivity)]
    refine Finset.sum_congr rfl fun l _ => ?_
    rw [ht, ← EReal.coe_mul, Ideal.div_coe hzz, one_mul, hw, hp, mul_assoc, mul_assoc, ← EReal.coe_mul, ← EReal.coe_mul]
    congr 2
    field_simp
  have hd : Ideal.div (dp m) (tot s) + -((∑ l, dp l * prob s l) * ((1 / z : ℝ) : EReal))
      = (dp m - ∑ l, dp l * prob s l) * ((1 / z : ℝ) : EReal) := by
    rw [ht, Ideal.div_coe hz0, ← EReal.neg_mul,
      ← EReal.right_distrib_of_nonneg_of_ne_top (by exact_mod_cast (by positivity : (0 : ℝ) ≤ 1 / z))
        (EReal.coe_ne_top _), sub_eq_add_neg]
  rw [gradP, gradQ, hq, hd, hw, hp, mul_assoc (dp m - _), ← EReal.coe_mul, mul_comm (1 / z), mul_comm (dp m - _)]

end Cert.SoftmaxGrad

end
-- ==== Proof.AttnBlock.lean ====
/- What one block of the attention's backward kernel computes: the probabilities, the gradient of the scores and the three
   products of each head, read at a row and a column. -/
module

public import proofs.«01_k».proof.Proof.Gen.KernelIdeal.Skeleton
public import proofs.«01_k».proof.Proof.SoftmaxGrad
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.SoftmaxGrad

/-! The queries, the gradient of the output, the keys and the values are `x0`, `x1`, `x2`, `x3`. -/

variable (x0 : FVec Ideal S512x1024 .bf16) (x1 : FVec Ideal S512x1024 .f32) (x2 x3 : FVec Ideal S256x1024 .bf16)

/-- The scores of row `r` in head `h`. -/
def sc (h : Fin 4) (r : Fin 512) : Fin 256 → EReal := fun m => (∑ d, x0 (ix2 r (hc h d)) * x2 (ix2 m (hc h d))) * scale

/-- The gradient with respect to the probabilities of row `r` in head `h`. -/
def dpr (h : Fin 4) (r : Fin 512) : Fin 256 → EReal := fun m => ∑ d, x1 (ix2 r (hc h d)) * x3 (ix2 m (hc h d))

/-- The gradient with respect to the scores of row `r` in head `h`. -/
def dsc (h : Fin 4) (r : Fin 512) (m : Fin 256) : EReal := gradP scale (sc x0 x2 h r) (dpr x1 x3 h r) m

/-- The gradient with respect to the queries, at row `r` and column `d` of head `h`. -/
def dq (h : Fin 4) (r : Fin 512) (d : Fin 256) : EReal := ∑ m, dsc x0 x1 x2 x3 h r m * x2 (ix2 m (hc h d))

/-- What the block adds to the gradient with respect to the keys. -/
def dk (h : Fin 4) (m d : Fin 256) : EReal := ∑ r, dsc x0 x1 x2 x3 h r m * x0 (ix2 r (hc h d))

/-- What the block adds to the gradient with respect to the values. -/
def dv (h : Fin 4) (m d : Fin 256) : EReal := ∑ r, prob (sc x0 x2 h r) m * x1 (ix2 r (hc h d))

/-! ## Head 0 -/

theorem prob_zero (r : Fin 512) (m : Fin 256) : k0_pay10 (F := Ideal) (k0_pay7 (F := Ideal) x0 x2) (ix2 r m) = prob (sc x0 x2 0 r) m := by
  pointwise [k0_pay10, k0_pay7]
  simp only [prob, tot, wgt, top, ofBits_bot]
  unfold sc
  simp only [hc_zero]

theorem dv_zero (m d : Fin 256) : k0_pay14 (F := Ideal) x1 (k0_pay7 (F := Ideal) x0 x2) (ix2 m d) = dv x0 x1 x2 0 m d := by
  pointwise [k0_pay14, prob_zero]
  simp only [dv, hc_zero]

theorem dpr_zero (r : Fin 512) (m : Fin 256) : k0_pay18 (F := Ideal) x1 x3 (ix2 r m) = dpr x1 x3 0 r m := by
  pointwise [k0_pay18]
  simp only [dpr, hc_zero]

theorem dsc_zero (r : Fin 512) (m : Fin 256) :
    k0_pay21 (F := Ideal) (k0_pay10 (F := Ideal) (k0_pay7 (F := Ideal) x0 x2)) (k0_pay18 (F := Ideal) x1 x3) (ix2 r m) = dsc x0 x1 x2 x3 0 r m := by
  pointwise [k0_pay21, prob_zero, dpr_zero]
  simp only [dsc, gradP]

theorem dq_zero (r : Fin 512) (d : Fin 256) :
    k0_pay25 (F := Ideal) x2 (k0_pay10 (F := Ideal) (k0_pay7 (F := Ideal) x0 x2)) (k0_pay18 (F := Ideal) x1 x3) (ix2 r d) = dq x0 x1 x2 x3 0 r d := by
  pointwise [k0_pay25, dsc_zero]
  simp only [dq, hc_zero]

/-! ## Head 1 -/

theorem prob_one (r : Fin 512) (m : Fin 256) : k0_pay11 (F := Ideal) (k0_pay8 (F := Ideal) x0 x2) (ix2 r m) = prob (sc x0 x2 1 r) m := by
  pointwise [k0_pay11, k0_pay8]
  simp only [prob, tot, wgt, top, ofBits_bot]
  unfold sc
  simp only [hc_one]

theorem dv_one (m d : Fin 256) : k0_pay15 (F := Ideal) x1 (k0_pay8 (F := Ideal) x0 x2) (ix2 m d) = dv x0 x1 x2 1 m d := by
  pointwise [k0_pay15, prob_one]
  simp only [dv, hc_one]

theorem dpr_one (r : Fin 512) (m : Fin 256) : k0_pay19 (F := Ideal) x1 x3 (ix2 r m) = dpr x1 x3 1 r m := by
  pointwise [k0_pay19]
  simp only [dpr, hc_one]

theorem dsc_one (r : Fin 512) (m : Fin 256) :
    k0_pay22 (F := Ideal) (k0_pay11 (F := Ideal) (k0_pay8 (F := Ideal) x0 x2)) (k0_pay19 (F := Ideal) x1 x3) (ix2 r m) = dsc x0 x1 x2 x3 1 r m := by
  pointwise [k0_pay22, prob_one, dpr_one]
  simp only [dsc, gradP]

theorem dq_one (r : Fin 512) (d : Fin 256) :
    k0_pay26 (F := Ideal) x2 (k0_pay11 (F := Ideal) (k0_pay8 (F := Ideal) x0 x2)) (k0_pay19 (F := Ideal) x1 x3) (ix2 r d) = dq x0 x1 x2 x3 1 r d := by
  pointwise [k0_pay26, dsc_one]
  simp only [dq, hc_one]

/-! ## Head 2 -/

theorem prob_two (r : Fin 512) (m : Fin 256) : k0_pay12 (F := Ideal) (k0_pay9 (F := Ideal) x0 x2) (ix2 r m) = prob (sc x0 x2 2 r) m := by
  pointwise [k0_pay12, k0_pay9]
  simp only [prob, tot, wgt, top, ofBits_bot]
  unfold sc
  simp only [hc_two]

theorem dv_two (m d : Fin 256) : k0_pay16 (F := Ideal) x1 (k0_pay9 (F := Ideal) x0 x2) (ix2 m d) = dv x0 x1 x2 2 m d := by
  pointwise [k0_pay16, prob_two]
  simp only [dv, hc_two]

theorem dpr_two (r : Fin 512) (m : Fin 256) : k0_pay20 (F := Ideal) x1 x3 (ix2 r m) = dpr x1 x3 2 r m := by
  pointwise [k0_pay20]
  simp only [dpr, hc_two]

theorem dsc_two (r : Fin 512) (m : Fin 256) :
    k0_pay23 (F := Ideal) (k0_pay12 (F := Ideal) (k0_pay9 (F := Ideal) x0 x2)) (k0_pay20 (F := Ideal) x1 x3) (ix2 r m) = dsc x0 x1 x2 x3 2 r m := by
  pointwise [k0_pay23, prob_two, dpr_two]
  simp only [dsc, gradP]

theorem dq_two (r : Fin 512) (d : Fin 256) :
    k0_pay27 (F := Ideal) x2 (k0_pay12 (F := Ideal) (k0_pay9 (F := Ideal) x0 x2)) (k0_pay20 (F := Ideal) x1 x3) (ix2 r d) = dq x0 x1 x2 x3 2 r d := by
  pointwise [k0_pay27, dsc_two]
  simp only [dq, hc_two]

/-! ## Head 3 -/

theorem prob_three (r : Fin 512) (m : Fin 256) : k0_pay13 (F := Ideal) (k0_pay6 (F := Ideal) x0 x2) (ix2 r m) = prob (sc x0 x2 3 r) m := by
  pointwise [k0_pay13, k0_pay6]
  simp only [prob, tot, wgt, top, ofBits_bot]
  unfold sc
  simp only [hc_three]

theorem dv_three (m d : Fin 256) : k0_pay17 (F := Ideal) x1 (k0_pay6 (F := Ideal) x0 x2) (ix2 m d) = dv x0 x1 x2 3 m d := by
  pointwise [k0_pay17, prob_three]
  simp only [dv, hc_three]

theorem dsc_three (r : Fin 512) (m : Fin 256) :
    k0_pay24 (F := Ideal) x1 x3 (k0_pay13 (F := Ideal) (k0_pay6 (F := Ideal) x0 x2)) (ix2 r m) = dsc x0 x1 x2 x3 3 r m := by
  pointwise [k0_pay24, prob_three]
  simp only [dsc, gradP, dpr, hc_three]

/-! ## The three stored blocks -/

/-- The stored block of the gradient with respect to the queries. -/
def bQ : FVec Ideal S512x1024 .bf16 :=
  k0_pay3 (F := Ideal) (k0_pay25 (F := Ideal) x2 (k0_pay10 (F := Ideal) (k0_pay7 (F := Ideal) x0 x2)) (k0_pay18 (F := Ideal) x1 x3)) (k0_pay26 (F := Ideal) x2 (k0_pay11 (F := Ideal) (k0_pay8 (F := Ideal) x0 x2)) (k0_pay19 (F := Ideal) x1 x3)) (k0_pay27 (F := Ideal) x2 (k0_pay12 (F := Ideal) (k0_pay9 (F := Ideal) x0 x2)) (k0_pay20 (F := Ideal) x1 x3)) (k0_pay28 (F := Ideal) x2)
      (k0_pay29 (F := Ideal) x1 x3 (k0_pay13 (F := Ideal) (k0_pay6 (F := Ideal) x0 x2)))
      (constant S512x256 .f32 0x00000000#32)

/-- What is added to the gradient with respect to the keys. -/
def bK : FVec Ideal S256x1024 .f32 :=
  k0_pay1 (F := Ideal) x0 (k0_pay21 (F := Ideal) (k0_pay10 (F := Ideal) (k0_pay7 (F := Ideal) x0 x2)) (k0_pay18 (F := Ideal) x1 x3)) (k0_pay22 (F := Ideal) (k0_pay11 (F := Ideal) (k0_pay8 (F := Ideal) x0 x2)) (k0_pay19 (F := Ideal) x1 x3)) (k0_pay23 (F := Ideal) (k0_pay12 (F := Ideal) (k0_pay9 (F := Ideal) x0 x2)) (k0_pay20 (F := Ideal) x1 x3)) (k0_pay24 (F := Ideal) x1 x3 (k0_pay13 (F := Ideal) (k0_pay6 (F := Ideal) x0 x2)))

/-- What is added to the gradient with respect to the values. -/
def bV : FVec Ideal S256x1024 .f32 :=
  k0_pay2 (F := Ideal) (k0_pay14 (F := Ideal) x1 (k0_pay7 (F := Ideal) x0 x2)) (k0_pay15 (F := Ideal) x1 (k0_pay8 (F := Ideal) x0 x2)) (k0_pay16 (F := Ideal) x1 (k0_pay9 (F := Ideal) x0 x2)) (k0_pay17 (F := Ideal) x1 (k0_pay6 (F := Ideal) x0 x2))

theorem accK_at (a : FVec Ideal S256x1024 .f32) (j : S256x1024.Idx) :
    k0_pay4 (F := Ideal) x0 (k0_pay21 (F := Ideal) (k0_pay10 (F := Ideal) (k0_pay7 (F := Ideal) x0 x2)) (k0_pay18 (F := Ideal) x1 x3)) (k0_pay22 (F := Ideal) (k0_pay11 (F := Ideal) (k0_pay8 (F := Ideal) x0 x2)) (k0_pay19 (F := Ideal) x1 x3)) (k0_pay23 (F := Ideal) (k0_pay12 (F := Ideal) (k0_pay9 (F := Ideal) x0 x2)) (k0_pay20 (F := Ideal) x1 x3)) (k0_pay24 (F := Ideal) x1 x3 (k0_pay13 (F := Ideal) (k0_pay6 (F := Ideal) x0 x2))) a j = a j + bK x0 x1 x2 x3 j := by
  pointwise [k0_pay4]
  rfl

theorem accV_at (a : FVec Ideal S256x1024 .f32) (j : S256x1024.Idx) :
    k0_pay5 (F := Ideal) (k0_pay14 (F := Ideal) x1 (k0_pay7 (F := Ideal) x0 x2)) (k0_pay15 (F := Ideal) x1 (k0_pay8 (F := Ideal) x0 x2)) (k0_pay16 (F := Ideal) x1 (k0_pay9 (F := Ideal) x0 x2)) (k0_pay17 (F := Ideal) x1 (k0_pay6 (F := Ideal) x0 x2)) a j = a j + bV x0 x1 x2 j := by
  pointwise [k0_pay5]
  rfl

/-! ## The three stored blocks, at a column of a head -/

/-- The block of the gradient with respect to the queries. -/
theorem dq_at (h : Fin 4) (r : Fin 512) (d : Fin 256) :
    bQ x0 x1 x2 x3 (ix2 r (hc h d)) = dq x0 x1 x2 x3 h r d := by
  fin_cases h
  · show _ = dq x0 x1 x2 x3 0 r d
    dsimp only [Fin.zero_eta, Fin.mk_one, Fin.reduceFinMk]
    rw [hc_zero]
    pointwise [bQ, k0_pay3, k0_pay28, k0_pay29, dq_zero, dq_one, dq_two, dsc_three]
    all_goals simp only [dq, hc_zero]
  · show _ = dq x0 x1 x2 x3 1 r d
    dsimp only [Fin.zero_eta, Fin.mk_one, Fin.reduceFinMk]
    rw [hc_one]
    pointwise [bQ, k0_pay3, k0_pay28, k0_pay29, dq_zero, dq_one, dq_two, dsc_three]
    all_goals simp only [dq, hc_one]
  · show _ = dq x0 x1 x2 x3 2 r d
    dsimp only [Fin.zero_eta, Fin.mk_one, Fin.reduceFinMk]
    rw [hc_two]
    pointwise [bQ, k0_pay3, k0_pay28, k0_pay29, dq_zero, dq_one, dq_two, dsc_three]
    rw [dif_neg (by omega), dif_neg (by omega), dif_pos (by omega)]
    simp only [show 512 + d.val - 256 - 256 = d.val by omega, dq, hc_two]
  · show _ = dq x0 x1 x2 x3 3 r d
    dsimp only [Fin.zero_eta, Fin.mk_one, Fin.reduceFinMk]
    rw [hc_three]
    pointwise [bQ, k0_pay3, k0_pay28, k0_pay29, dq_zero, dq_one, dq_two, dsc_three]
    rw [dif_neg (by omega), dif_neg (by omega), dif_neg (by omega)]
    simp only [show 768 + d.val - 256 - 256 - 256 = d.val by omega, dq, hc_three]

/-- What the block adds to the gradient with respect to the keys. -/
theorem dk_at (h : Fin 4) (m d : Fin 256) :
    bK x0 x1 x2 x3 (ix2 m (hc h d)) = dk x0 x1 x2 x3 h m d := by
  fin_cases h
  · show _ = dk x0 x1 x2 x3 0 m d
    dsimp only [Fin.zero_eta, Fin.mk_one, Fin.reduceFinMk]
    rw [hc_zero]
    pointwise [bK, k0_pay1, dsc_zero, dsc_one, dsc_two, dsc_three]
    all_goals simp only [dk, hc_zero]
  · show _ = dk x0 x1 x2 x3 1 m d
    dsimp only [Fin.zero_eta, Fin.mk_one, Fin.reduceFinMk]
    rw [hc_one]
    pointwise [bK, k0_pay1, dsc_zero, dsc_one, dsc_two, dsc_three]
    all_goals simp only [dk, hc_one]
  · show _ = dk x0 x1 x2 x3 2 m d
    dsimp only [Fin.zero_eta, Fin.mk_one, Fin.reduceFinMk]
    rw [hc_two]
    pointwise [bK, k0_pay1, dsc_zero, dsc_one, dsc_two, dsc_three]
    rw [dif_neg (by omega), dif_neg (by omega), dif_pos (by omega)]
    simp only [show 512 + d.val - 256 - 256 = d.val by omega, dk, hc_two]
  · show _ = dk x0 x1 x2 x3 3 m d
    dsimp only [Fin.zero_eta, Fin.mk_one, Fin.reduceFinMk]
    rw [hc_three]
    pointwise [bK, k0_pay1, dsc_zero, dsc_one, dsc_two, dsc_three]
    rw [dif_neg (by omega), dif_neg (by omega), dif_neg (by omega)]
    simp only [show 768 + d.val - 256 - 256 - 256 = d.val by omega, dk, hc_three]

/-- What the block adds to the gradient with respect to the values. -/
theorem dv_at (h : Fin 4) (m d : Fin 256) :
    bV x0 x1 x2 (ix2 m (hc h d)) = dv x0 x1 x2 h m d := by
  fin_cases h
  · show _ = dv x0 x1 x2 0 m d
    dsimp only [Fin.zero_eta, Fin.mk_one, Fin.reduceFinMk]
    rw [hc_zero]
    pointwise [bV, k0_pay2, dv_zero, dv_one, dv_two, dv_three]
    all_goals simp only [dv, hc_zero]
  · show _ = dv x0 x1 x2 1 m d
    dsimp only [Fin.zero_eta, Fin.mk_one, Fin.reduceFinMk]
    rw [hc_one]
    pointwise [bV, k0_pay2, dv_zero, dv_one, dv_two, dv_three]
    all_goals simp only [dv, hc_one]
  · show _ = dv x0 x1 x2 2 m d
    dsimp only [Fin.zero_eta, Fin.mk_one, Fin.reduceFinMk]
    rw [hc_two]
    pointwise [bV, k0_pay2, dv_zero, dv_one, dv_two, dv_three]
    rw [dif_neg (by omega), dif_neg (by omega), dif_pos (by omega)]
    simp only [show 512 + d.val - 256 - 256 = d.val by omega, dv, hc_two]
  · show _ = dv x0 x1 x2 3 m d
    dsimp only [Fin.zero_eta, Fin.mk_one, Fin.reduceFinMk]
    rw [hc_three]
    pointwise [bV, k0_pay2, dv_zero, dv_one, dv_two, dv_three]
    rw [dif_neg (by omega), dif_neg (by omega), dif_neg (by omega)]
    simp only [show 768 + d.val - 256 - 256 - 256 = d.val by omega, dv, hc_three]

end Cert.KernelIdeal.Block

end
-- ==== Proof.AttnRef.lean ====
/- What the reference computes: the same scores, probabilities and gradients over the whole arrays, head by head. -/
module

public import proofs.«01_k».proof.Proof.Gen.ReferenceIdeal.Run
public import proofs.«01_k».proof.Proof.SoftmaxGrad
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.SoftmaxGrad

variable (X0 : FVec Ideal S8192x1024 .bf16) (X1 : FVec Ideal S8192x1024 .f32) (X2 X3 : FVec Ideal S256x1024 .bf16)

/-! ## The reference's values, named -/

def rQ : FVec Ideal S8192x4x256 .f32 := shapeCast _ (extf .f32 X0 bitsLt_bf16_f32) shapeCasts_S8192x1024_S8192x4x256
def rK : FVec Ideal S256x4x256 .f32 := shapeCast _ (extf .f32 X2 bitsLt_bf16_f32) shapeCasts_S256x1024_S256x4x256
def rO : FVec Ideal S4x256x8192 .f32 :=
  transpose S4x256x8192 [1, 2, 0] (shapeCast _ X1 shapeCasts_S8192x1024_S8192x4x256) transposes_S8192x4x256_S4x256x8192_1_2_0

/-- The scores. -/
def rS : FVec Ideal S4x8192x256 .f32 :=
  mulf (Host.dotGeneral dot_S8192x4x256_S256x4x256_S4x8192x256_2_2_0_0_1_1 none (rQ X0) (rK X2))
    (broadcastInDim S4x8192x256 ![] bcast_S_S4x8192x256 (constant S_ .f32 0x3D800000#32))

/-- The largest entry of each row. -/
def rMax (v : FVec Ideal S4x8192x256 .f32) : FVec Ideal S4x8192 .f32 :=
  maximumf (broadcastInDim S4x8192 ![] bcast_S_S4x8192 (constant S_ .f32 0xFF800000#32))
    (Host.reduce FloatOps.maximumf v (constant S_ .f32 0xFF800000#32) reducesTo_S4x8192x256_S4x8192_d2 h_S_)

/-- The exponentials. -/
def rE : FVec Ideal S4x8192x256 .f32 :=
  Host.exp (subf (rS X0 X2) (broadcastInDim S4x8192x256 ![0, 1, 2] bcast_S4x8192x1_S4x8192x256_0_1_2
    (broadcastInDim S4x8192x1 ![0, 1] bcast_S4x8192_S4x8192x1_0_1 (rMax (rS X0 X2)))))

/-- Their sums. -/
def rZ : FVec Ideal S4x8192x1 .f32 :=
  broadcastInDim S4x8192x1 ![0, 1] bcast_S4x8192_S4x8192x1_0_1
    (Host.reduceAdd (rE X0 X2) (constant S_ .f32 0x00000000#32) reducesTo_S4x8192x256_S4x8192_d2 h_S_)

/-- The probabilities. -/
def rP : FVec Ideal S4x8192x256 .f32 :=
  Host.divf (rE X0 X2) (broadcastInDim S4x8192x256 ![0, 1, 2] bcast_S4x8192x1_S4x8192x256_0_1_2 (rZ X0 X2))

/-- The gradient with respect to the probabilities. -/
def rDP : FVec Ideal S4x8192x256 .f32 :=
  Host.dotGeneral dot_S4x256x8192_S256x4x256_S4x8192x256_1_2_2_0_0_1 none (rO X1) (rK X3)

/-- The gradient with respect to the scores. -/
def rDS : FVec Ideal S4x8192x256 .f32 :=
  mulf (mulf (addf
    (Host.divf (rDP X1 X3) (broadcastInDim S4x8192x256 ![0, 1, 2] bcast_S4x8192x1_S4x8192x256_0_1_2 (rZ X0 X2)))
    (broadcastInDim S4x8192x256 ![0, 1] bcast_S4x8192_S4x8192x256_0_1
      (Host.reduceAdd (Host.negf (shapeCast _ (Host.reduceAdd (mulf (mulf (rDP X1 X3)
          (broadcastInDim S4x8192x256 ![0, 1, 2] bcast_S4x8192x1_S4x8192x256_0_1_2
            (Host.divf (broadcastInDim S4x8192x1 ![] bcast_S_S4x8192x1 (constant S_ .f32 0x3F800000#32))
              (mulf (rZ X0 X2) (rZ X0 X2))))) (rE X0 X2))
        (constant S_ .f32 0x00000000#32) reducesTo_S4x8192x256_S4x8192_d2 h_S_) shapeCasts_S4x8192_S4x8192x1))
        (constant S_ .f32 0x00000000#32) reducesTo_S4x8192x1_S4x8192_d2 h_S_)))
    (rE X0 X2)) (broadcastInDim S4x8192x256 ![] bcast_S_S4x8192x256 (constant S_ .f32 0x3D800000#32))

/-- The gradient with respect to the queries. -/
def rDQ : FVec Ideal S8192x1024 .bf16 :=
  truncf .bf16 (shapeCast _ (transpose S8192x4x256 [1, 0, 2]
    (Host.dotGeneral dot_S4x8192x256_S256x4x256_S4x8192x256_2_0_1_2_0_1 none (rDS X0 X1 X2 X3) (rK X2))
    transposes_S4x8192x256_S8192x4x256_1_0_2) shapeCasts_S8192x4x256_S8192x1024) bitsLt_bf16_f32

/-- The gradient with respect to the keys. -/
def rDK : FVec Ideal S256x1024 .f32 :=
  shapeCast _ (transpose S256x4x256 [1, 0, 2]
    (Host.dotGeneral dot_S4x8192x256_S8192x4x256_S4x256x256_1_0_2_2_0_1 none (rDS X0 X1 X2 X3) (rQ X0))
    transposes_S4x256x256_S256x4x256_1_0_2) shapeCasts_S256x4x256_S256x1024

/-- The gradient with respect to the values. -/
def rDV : FVec Ideal S256x1024 .f32 :=
  shapeCast _ (transpose S256x4x256 [2, 0, 1]
    (Host.dotGeneral dot_S4x256x8192_S4x8192x256_S4x256x256_2_1_1_2_0_0 none (rO X1) (rP X0 X2))
    transposes_S4x256x256_S256x4x256_2_0_1) shapeCasts_S256x4x256_S256x1024

variable (m : (ℓ : Loc nD τ sig) → Buf (Elt Ideal) ℓ) (c : Dev nD)

theorem res_dq : Value.res_main_v66 m c = rDQ (m ((c.tc : Thread nD τ).loc main_arg0)) (m ((c.tc : Thread nD τ).loc main_arg1))
    (m ((c.tc : Thread nD τ).loc main_arg2)) (m ((c.tc : Thread nD τ).loc main_arg3)) := rfl

theorem res_dk : Value.res_main_v64 m c = rDK (m ((c.tc : Thread nD τ).loc main_arg0)) (m ((c.tc : Thread nD τ).loc main_arg1))
    (m ((c.tc : Thread nD τ).loc main_arg2)) (m ((c.tc : Thread nD τ).loc main_arg3)) := rfl

/-- The reference's run: what its three results hold, and that its arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v66) = rDQ (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v64) = rDK (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v63) = rDV (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_dq m c), (h c).2.1.trans (res_dk m c),
    (h c).2.2.1.trans rfl, (h c).2.2.2⟩) (Value.run m ρ)

/-! ## Read at an index -/

/-- The scores of row `t` in head `h`. -/
def sc (h : Fin 4) (t : Fin 8192) : Fin 256 → EReal := fun m => (∑ d, X0 (ix2 t (hc h d)) * X2 (ix2 m (hc h d))) * scale

/-- The gradient with respect to the probabilities of row `t` in head `h`. -/
def dpr (h : Fin 4) (t : Fin 8192) : Fin 256 → EReal := fun m => ∑ d, X1 (ix2 t (hc h d)) * X3 (ix2 m (hc h d))

/-- The gradient with respect to the scores of row `t` in head `h`. -/
def dsc (h : Fin 4) (t : Fin 8192) (m : Fin 256) : EReal := gradQ scale (sc X0 X2 h t) (dpr X1 X3 h t) m

theorem rS_at (h : Fin 4) (t : Fin 8192) (m : Fin 256) : rS X0 X2 (ix3 h t m) = sc X0 X2 h t m := by
  pointwise [rS, rQ, rK]
  rfl

/-- The largest entry of a row, with the start `⊥`. -/
theorem fold_at (v : FVec Ideal S4x8192x256 .f32) (h : Fin 4) (t : Fin 8192) :
    Host.reduce FloatOps.maximumf v (constant S_ .f32 0xFF800000#32) reducesTo_S4x8192x256_S4x8192_d2 h_S_ (ix2 h t)
      = top (fun m => v (ix3 h t m)) := by
  pointwise
  rw [ofBits_bot]; rfl

theorem maximumf_at (a b : FVec Ideal S4x8192 .f32) (j : S4x8192.Idx) : maximumf a b j = max (a j) (b j) := rfl

theorem bot_at (j : S4x8192.Idx) :
    broadcastInDim S4x8192 ![] bcast_S_S4x8192 (constant (F := Ideal) S_ .f32 0xFF800000#32) j = ⊥ := by
  pointwise
  exact ofBits_bot

/-- The largest entry of a row, read at an index. -/
theorem rMax_at (v : FVec Ideal S4x8192x256 .f32) (h : Fin 4) (t : Fin 8192) :
    rMax v (ix2 h t) = top (fun m => v (ix3 h t m)) := by
  unfold rMax
  rw [maximumf_at, fold_at, bot_at]
  exact max_eq_right bot_le

/-- Row by row, the scores are those of `sc`. -/
theorem rS_row (h : Fin 4) (t : Fin 8192) : (fun m => rS X0 X2 (ix3 h t m)) = sc X0 X2 h t :=
  funext fun m => rS_at X0 X2 h t m

/-- The exponential of a score less its row's largest one, read at an index. -/
theorem exp_at (v : FVec Ideal S4x8192x256 .f32) (b : FVec Ideal S4x8192 .f32) (h : Fin 4) (t : Fin 8192) (m : Fin 256) :
    Host.exp (subf v (broadcastInDim S4x8192x256 ![0, 1, 2] bcast_S4x8192x1_S4x8192x256_0_1_2
      (broadcastInDim S4x8192x1 ![0, 1] bcast_S4x8192_S4x8192x1_0_1 b))) (ix3 h t m)
      = Ideal.exp (v (ix3 h t m) - b (ix2 h t)) := by
  pointwise

theorem rE_at (h : Fin 4) (t : Fin 8192) (m : Fin 256) : rE X0 X2 (ix3 h t m) = wgt (sc X0 X2 h t) m := by
  refine (exp_at (rS X0 X2) (rMax (rS X0 X2)) h t m).trans ?_
  rw [rMax_at, rS_row, rS_at, wgt]

theorem rZ_at (h : Fin 4) (t : Fin 8192) (u : Fin 1) : rZ X0 X2 (ix3 h t u) = tot (sc X0 X2 h t) := by
  pointwise [rZ, rE_at]
  rfl

theorem rP_at (h : Fin 4) (t : Fin 8192) (m : Fin 256) : rP X0 X2 (ix3 h t m) = prob (sc X0 X2 h t) m := by
  pointwise [rP, rE_at, rZ_at]
  rfl

theorem rDP_at (h : Fin 4) (t : Fin 8192) (m : Fin 256) : rDP X1 X3 (ix3 h t m) = dpr X1 X3 h t m := by
  pointwise [rDP, rO, rK]
  rfl

theorem rDS_at (h : Fin 4) (t : Fin 8192) (m : Fin 256) : rDS X0 X1 X2 X3 (ix3 h t m) = dsc X0 X1 X2 X3 h t m := by
  pointwise [rDS, rDP_at, rE_at, rZ_at]
  rw [Fin.sum_univ_one]
  rfl

theorem rDQ_at (h : Fin 4) (t : Fin 8192) (d : Fin 256) :
    rDQ X0 X1 X2 X3 (ix2 t (hc h d)) = ∑ m, dsc X0 X1 X2 X3 h t m * X2 (ix2 m (hc h d)) := by
  pointwise [rDQ, rDS_at, rK]
  simp only [hc_head]

theorem rDK_at (h : Fin 4) (m d : Fin 256) :
    rDK X0 X1 X2 X3 (ix2 m (hc h d)) = ∑ t, dsc X0 X1 X2 X3 h t m * X0 (ix2 t (hc h d)) := by
  pointwise [rDK, rDS_at, rQ]
  simp only [hc_head]

theorem rDV_at (h : Fin 4) (m d : Fin 256) :
    rDV X0 X1 X2 (ix2 m (hc h d)) = ∑ t, prob (sc X0 X2 h t) m * X1 (ix2 t (hc h d)) := by
  pointwise [rDV, rP_at, rO]
  simp only [hc_head, mul_comm]

end Cert.ReferenceIdeal.Attn

end
-- ==== Proof.AttnFinal.lean ====
/- The three result arrays of the attention's backward kernel after its sixteen grid points are the reference's, where the
   scores are real numbers. -/
module

public import proofs.«01_k».proof.Proof.Gen.KernelIdeal.Frame
public import proofs.«01_k».proof.Proof.AttnBlock
public import proofs.«01_k».proof.Proof.AttnRef
public import Idealize.ShloMosaic.Lib.Pipeline.ValueKit

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.SoftmaxGrad

variable (m : (ℓ : Loc nD τ sig) → Buf (Elt Ideal) ℓ) (c : Dev nD)

/-- The four argument arrays, and their blocks at a grid point. -/
abbrev X0 : FVec Ideal S8192x1024 .bf16 := m ((c : Thread nD τ).loc main_arg0)
abbrev X1 : FVec Ideal S8192x1024 .f32 := m ((c : Thread nD τ).loc main_arg1)
abbrev X2 : FVec Ideal S256x1024 .bf16 := m ((c : Thread nD τ).loc main_arg2)
abbrev X3 : FVec Ideal S256x1024 .bf16 := m ((c : Thread nD τ).loc main_arg3)
abbrev b0 (t : Fin cfg0.N) : FVec Ideal S512x1024 .bf16 := iblk m c 0 t
abbrev b1 (t : Fin cfg0.N) : FVec Ideal S512x1024 .f32 := iblk m c 1 t
abbrev b2 (t : Fin cfg0.N) : FVec Ideal S256x1024 .bf16 := iblk m c 2 t
abbrev b3 (t : Fin cfg0.N) : FVec Ideal S256x1024 .bf16 := iblk m c 3 t

/-- Where each window's block lies at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

theorem val_lt (t : Fin cfg0.N) : t.val < 16 := lt_of_lt_of_eq t.isLt N_0

/-- The array's row at row `r` of point `t`'s block. -/
def row (t : Fin cfg0.N) (r : Fin 512) : Fin 8192 := ⟨t.val * 512 + r.val, by have := val_lt t; omega⟩

theorem read0 (t : Fin cfg0.N) (r : Fin 512) (j : Fin 1024) : b0 m c t (ix2 r j) = X0 m c (ix2 (row t r) j) := by
  unfold row
  blk_ext [iblk, V, idx t]
theorem read1 (t : Fin cfg0.N) (r : Fin 512) (j : Fin 1024) : b1 m c t (ix2 r j) = X1 m c (ix2 (row t r) j) := by
  unfold row
  blk_ext [iblk, V, idx t]
theorem read2 (t : Fin cfg0.N) : b2 m c t = X2 m c := by
  blk_ext! [iblk, V, idx t]
theorem read3 (t : Fin cfg0.N) : b3 m c t = X3 m c := by
  blk_ext! [iblk, V, idx t]

/-- The scores of every head and row are real numbers. -/
def RealScores : Prop :=
  ∀ (h : Fin 4) (t : Fin 8192) (k : Fin 256), ∃ r : ℝ, Cert.ReferenceIdeal.Attn.sc (X0 m c) (X2 m c) h t k = (r : EReal)

theorem sc_eq (t : Fin cfg0.N) (h : Fin 4) (r : Fin 512) :
    Block.sc (b0 m c t) (b2 m c t) h r = Cert.ReferenceIdeal.Attn.sc (X0 m c) (X2 m c) h (row t r) := by
  unfold Block.sc Cert.ReferenceIdeal.Attn.sc
  simp only [read0, read2]

theorem dpr_eq (t : Fin cfg0.N) (h : Fin 4) (r : Fin 512) :
    Block.dpr (b1 m c t) (b3 m c t) h r = Cert.ReferenceIdeal.Attn.dpr (X1 m c) (X3 m c) h (row t r) := by
  unfold Block.dpr Cert.ReferenceIdeal.Attn.dpr
  simp only [read1, read3]

theorem dsc_eq (hr : RealScores m c) (t : Fin cfg0.N) (h : Fin 4) (r : Fin 512) (k : Fin 256) :
    Block.dsc (b0 m c t) (b1 m c t) (b2 m c t) (b3 m c t) h r k
      = Cert.ReferenceIdeal.Attn.dsc (X0 m c) (X1 m c) (X2 m c) (X3 m c) h (row t r) k := by
  unfold Block.dsc Cert.ReferenceIdeal.Attn.dsc
  rw [sc_eq, dpr_eq]
  exact gradP_eq_gradQ _ _ (fun k => hr h (row t r) k) k

/-- The block of the gradient with respect to the queries that a grid point stores. -/
theorem pointQ (hr : RealScores m c) (t : Fin cfg0.N) (r : Fin 512) (j : Fin 1024) :
    Block.bQ (b0 m c t) (b1 m c t) (b2 m c t) (b3 m c t) (ix2 r j)
      = Cert.ReferenceIdeal.Attn.rDQ (X0 m c) (X1 m c) (X2 m c) (X3 m c) (ix2 (row t r) j) := by
  obtain ⟨h, d, rfl⟩ := exists_hc j
  refine (Block.dq_at _ _ _ _ h r d).trans (Eq.trans ?_ (Cert.ReferenceIdeal.Attn.rDQ_at _ _ _ _ h (row t r) d).symm)
  unfold Block.dq
  refine Finset.sum_congr rfl fun k _ => ?_
  rw [dsc_eq m c hr, read2]

/-- The gradient with respect to the queries. -/
theorem finalQ (hr : RealScores m c) : (dats m 0 c).arrAt 4 (cfgs 0).N
    = Cert.ReferenceIdeal.Attn.rDQ (X0 m c) (X1 m c) (X2 m c) (X3 m c) := by
  refine (dats m 0 c).arrAt_eq_of_covers 4 _ (by decide +kernel) fun t _ y => ?_
  blk_simp
  rw [after0_4]
  have hlt := val_lt t
  have hy : (((View.whole main_v0_0).slice (win0_4.rect t)).emb y : S8192x1024.Idx) = ix2 (row t (y 0)) (y 1) := by
    unfold row
    blk_ext [idx t]
  have key : Block.bQ (b0 m c t) (b1 m c t) (b2 m c t) (b3 m c t) y
      = Cert.ReferenceIdeal.Attn.rDQ (X0 m c) (X1 m c) (X2 m c) (X3 m c)
        (((View.whole main_v0_0).slice (win0_4.rect t)).emb y) := by
    rw [hy]
    refine Eq.trans ?_ (pointQ m c hr t (y 0) (y 1))
    exact congrArg _ (eq_ix2 y)
  by_cases h : t.val % 16 = 0
  · rw [outsAt0_A m c t h (by omega) h (by omega)]
    frame_out
    exact key
  · rw [outsAt0_B m c t h (by omega) h (by omega)]
    frame_out
    exact key

/-- The gradient with respect to the keys: the sum of what the points add. -/
theorem finalK (hr : RealScores m c) : (dats m 0 c).arrAt 5 (cfgs 0).N
    = Cert.ReferenceIdeal.Attn.rDK (X0 m c) (X1 m c) (X2 m c) (X3 m c) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => (0 : EReal))
    (fun t j => Block.bK (b0 m c t) (b1 m c t) (b2 m c t) (b3 m c t) j)
    (fun t h j => by
      have hlt := val_lt t
      rw [outsAt0_A m c t h (by omega) h (by omega)]
      frame_out
      exact (zero_add _).symm)
    (fun t h j => by
      rw [outsAt0_B m c t h (by omega) h (by omega)]
      frame_out
      exact Block.accK_at (b0 m c t) (b1 m c t) (b2 m c t) (b3 m c t) _ j)
    (le_of_eq N_0) t0_15 rfl j, zero_add]
  obtain ⟨k, l, rfl⟩ : ∃ k l, j = ix2 k l := ⟨j 0, j 1, eq_ix2 j⟩
  obtain ⟨h, d, rfl⟩ := exists_hc l
  refine Eq.trans ?_ (Cert.ReferenceIdeal.Attn.rDK_at _ _ _ _ h k d).symm
  have e : ∀ t : Fin cfg0.N, Block.bK (b0 m c t) (b1 m c t) (b2 m c t) (b3 m c t) (ix2 k (hc h d))
      = ∑ r : Fin 512, Cert.ReferenceIdeal.Attn.dsc (X0 m c) (X1 m c) (X2 m c) (X3 m c) h (row t r) k
          * X0 m c (ix2 (row t r) (hc h d)) := fun t => by
    refine (Block.dk_at _ _ _ _ h k d).trans ?_
    unfold Block.dk
    simp only [dsc_eq m c hr, read0]
  refine (Fin.sum_fin_congr fun t => e t).trans ?_
  exact Fin.sum_mul_add_congr fun t r hl => rfl

/-- The gradient with respect to the values: the sum of what the points add. -/
theorem finalV : (dats m 0 c).arrAt 6 (cfgs 0).N
    = Cert.ReferenceIdeal.Attn.rDV (X0 m c) (X1 m c) (X2 m c) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => (0 : EReal))
    (fun t j => Block.bV (b0 m c t) (b1 m c t) (b2 m c t) j)
    (fun t h j => by
      have hlt := val_lt t
      rw [outsAt0_A m c t h (by omega) h (by omega)]
      frame_out
      exact (zero_add _).symm)
    (fun t h j => by
      rw [outsAt0_B m c t h (by omega) h (by omega)]
      frame_out
      exact Block.accV_at (b0 m c t) (b1 m c t) (b2 m c t) _ j)
    (le_of_eq N_0) t0_15 rfl j, zero_add]
  obtain ⟨k, l, rfl⟩ : ∃ k l, j = ix2 k l := ⟨j 0, j 1, eq_ix2 j⟩
  obtain ⟨h, d, rfl⟩ := exists_hc l
  refine Eq.trans ?_ (Cert.ReferenceIdeal.Attn.rDV_at _ _ _ h k d).symm
  have e : ∀ t : Fin cfg0.N, Block.bV (b0 m c t) (b1 m c t) (b2 m c t) (ix2 k (hc h d))
      = ∑ r : Fin 512, prob (Cert.ReferenceIdeal.Attn.sc (X0 m c) (X2 m c) h (row t r)) k
          * X1 m c (ix2 (row t r) (hc h d)) := fun t => by
    refine (Block.dv_at _ _ _ h k d).trans ?_
    unfold Block.dv
    simp only [sc_eq, read1]
  refine (Fin.sum_fin_congr fun t => e t).trans ?_
  exact Fin.sum_mul_add_congr fun t r hl => rfl

end Cert.KernelIdeal.Final

end
-- ==== Proof.Precondition.lean ====
/- The precondition `finite_scores`, read back: the queries and the keys are real numbers, so the scores are. -/
module

public import proofs.«01_k».proof.Pre_finite_scores
public import proofs.«01_k».proof.Proof.AttnRef
public import Idealize.ShloMosaic.Lib.ReduceAll
public import Idealize.ShloMosaic.Lib.Decide

@[expose] public section

set_option maxRecDepth 16384

noncomputable section

namespace Cert.Pre_finite_scores.Read

open Idealize.ShloMosaic Idealize.SL.Sem Cert.Pre_finite_scores

/-- The side conditions of the precondition's operations. -/
instance facts : Cert.Pre_finite_scores.Facts where
  bitsLt_bf16_f32 := by decide
  bcast_S_S8192x1024 := by decide
  reducesTo_S8192x1024_S_d0_1 := by decide
  h_S_ := by decide
  bcast_S_S256x1024 := by decide
  reducesTo_S256x1024_S_d0_1 := by decide

/-- A number whose absolute value is less than +∞ is real. -/
theorem real_of_abs_lt {x : EReal} (h : FloatOps.cmpf (F := Ideal) (φ := .f32) .olt (FloatOps.hostAbsf (F := Ideal) (φ := .f32) x)
    (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x with
  | bot => simp [FloatOps.cmpf, FloatOps.hostAbsf] at h; exact absurd h (by simp [Ideal.cmp])
  | top => simp [FloatOps.cmpf, FloatOps.hostAbsf] at h; exact absurd h (by simp [Ideal.cmp])
  | coe r => exact ⟨r, rfl⟩

/-- The factor of the scores is the real number 1/16. -/
theorem scale_real : ∃ r : ℝ, Cert.SoftmaxGrad.scale = (r : EReal) := by
  refine ⟨1 / 16, ?_⟩
  simp [Cert.SoftmaxGrad.scale, Ideal.ofBits, Ideal.ieee]
  rw [← EReal.coe_mul]
  norm_num

instance : Subsingleton S_.Idx := ⟨fun a b => funext fun i => i.elim0⟩

theorem reals (X0 : FVec Ideal S8192x1024 .bf16) (X1 : FVec Ideal S8192x1024 .f32) (X2 X3 : FVec Ideal S256x1024 .bf16)
    (h : fn (F := Ideal) X0 X1 X2 X3 = fun _ => 1#1) :
    (∀ i, ∃ r : ℝ, X0 i = (r : EReal)) ∧ ∀ i, ∃ r : ℝ, X2 i = (r : EReal) := by
  have h0 := congrFun h (fun i => i.elim0)
  obtain ⟨ha, hb⟩ := IntOp.andi_eq_one.1 h0
  refine ⟨fun i => ?_, fun i => ?_⟩
  · have := Host.reduce_andi_all _ _ _ _ _ ha i
    exact real_of_abs_lt this
  · have := Host.reduce_andi_all _ _ _ _ _ hb i
    exact real_of_abs_lt this

/-- Over real queries and keys every score is a real number. -/
theorem sc_real (X0 : FVec Ideal S8192x1024 .bf16) (X2 : FVec Ideal S256x1024 .bf16)
    (h0 : ∀ i, ∃ r : ℝ, X0 i = (r : EReal)) (h2 : ∀ i, ∃ r : ℝ, X2 i = (r : EReal)) (h : Fin 4) (t : Fin 8192) (k : Fin 256) :
    ∃ r : ℝ, Cert.ReferenceIdeal.Attn.sc X0 X2 h t k = (r : EReal) := by
  choose f0 e0 using h0
  choose f2 e2 using h2
  unfold Cert.ReferenceIdeal.Attn.sc
  simp only [e0, e2, ← EReal.coe_mul]
  obtain ⟨r, hr⟩ := scale_real
  rw [Cert.SoftmaxGrad.sum_coe, hr, ← EReal.coe_mul]
  exact ⟨_, rfl⟩

end Cert.Pre_finite_scores.Read

end
-- ==== Proof.ProductIn.lean ====
/- The projection `h @ w` into the step's branches: a grid point multiplies one block of rows by one block of columns. -/
module

public import proofs.«01_k».proof.Proof.Gen.InIdeal.Frame
public import proofs.«01_k».proof.Proof.Gen.InRefIdeal.Run
public import Idealize.ShloMosaic.Lib.Pointwise
public import Idealize.ShloMosaic.Lib.Pipeline.ValueKit

@[expose] public section

set_option maxRecDepth 16384

noncomputable section

namespace Cert.InRefIdeal.Product

open Idealize.ShloMosaic Idealize.ShloMosaic.TcCoe Idealize.SL.Sem
open Cert.InRefIdeal Cert.InRefIdeal.Gen

variable (X0 : FVec Ideal S8192x1024 .bf16) (X1 : FVec Ideal S1024x6912 .bf16)

/-- The entry in row `i` and column `j` of the product. -/
def entry (i : Fin 8192) (j : Fin 6912) : EReal := ∑ l : Fin 1024, X0 (ix2 i l) * X1 (ix2 l j)

/-- The reference's result. -/
def result : FVec Ideal S8192x6912 .f32 :=
  Host.dotGeneral dot_S8192x1024_S1024x6912_S8192x6912_1_0_0_1_n_n none (extf .f32 X0 bitsLt_bf16_f32) (extf .f32 X1 bitsLt_bf16_f32)

theorem result_at (i : Fin 8192) (j : Fin 6912) : result X0 X1 (ix2 i j) = entry X0 X1 i j := by
  pointwise [result, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.InRefIdeal.Value.run m ρ

end Cert.InRefIdeal.Product

namespace Cert.InIdeal.Product

open Idealize.ShloMosaic Idealize.ShloMosaic.TcCoe Idealize.SL.Sem
open Cert.InIdeal Cert.InIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S1024x6912 .bf16 := m ((c : Thread nD τ).loc main_arg1)
abbrev b0 (t : Fin cfg0.N) : FVec Ideal S2048x1024 .bf16 := iblk m c 0 t
abbrev b1 (t : Fin cfg0.N) : FVec Ideal S1024x768 .bf16 := iblk m c 1 t

/-- Where each window's block lies at a grid point. -/
theorem idx : ∀ t : Fin cfg0.N, win0_0.index t = ![t.val / 9, 0] ∧ win0_1.index t = ![0, t.val % 9]
    ∧ win0_2.index t = ![t.val / 9, t.val % 9] :=
  (by decide +kernel : ∀ t : Fin grid0.N, _)

theorem val_lt (t : Fin cfg0.N) : t.val < 36 := lt_of_lt_of_eq t.isLt N_0

/-- The array's row and column at row `r` and column `s` of point `t`'s block. -/
def row (t : Fin cfg0.N) (r : Fin 2048) : Fin 8192 := ⟨t.val / 9 * 2048 + r.val, by have := val_lt t; omega⟩
def col (t : Fin cfg0.N) (s : Fin 768) : Fin 6912 := ⟨t.val % 9 * 768 + s.val, by omega⟩

theorem read0 (t : Fin cfg0.N) (r : Fin 2048) (l : Fin 1024) : b0 m c t (ix2 r l) = X0 m c (ix2 (row t r) l) := by
  unfold row
  blk_ext [iblk, V, idx t]
theorem read1 (t : Fin cfg0.N) (l : Fin 1024) (s : Fin 768) : b1 m c t (ix2 l s) = X1 m c (ix2 l (col t s)) := by
  unfold col
  blk_ext [iblk, V, idx t]

/-- What one grid point computes from its two blocks. -/
theorem block_at (v0 : FVec Ideal S1024x768 .bf16) (v1 : FVec Ideal S2048x1024 .bf16) (r : Fin 2048) (s : Fin 768) :
    k0_pay1 (F := Ideal) v0 v1 (ix2 r s) = ∑ l : Fin 1024, v1 (ix2 r l) * v0 (ix2 l s) := by
  pointwise [k0_pay1]

/-- A grid point's block is the reference's. -/
theorem point (t : Fin cfg0.N) (r : Fin 2048) (s : Fin 768) : k0_pay1 (F := Ideal) (b1 m c t) (b0 m c t) (ix2 r s)
    = Cert.InRefIdeal.Product.result (X0 m c) (X1 m c) (ix2 (row t r) (col t s)) := by
  refine (block_at _ _ r s).trans (Eq.trans ?_ (Cert.InRefIdeal.Product.result_at _ _ _ _).symm)
  unfold Cert.InRefIdeal.Product.entry
  simp only [read0, read1]

/-- The array after all grid points is the reference's result. -/
theorem final : (dats m 0 c).arrAt 2 (cfgs 0).N = Cert.InRefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x6912.Idx) = ix2 (row t (y 0)) (col t (y 1)) := by
    unfold row col
    blk_ext [idx t]
  have key : k0_pay1 (F := Ideal) (b1 m c t) (b0 m c t) y
      = Cert.InRefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.InIdeal.Product

end
-- ==== Proof.ProductDh1.lean ====
/- The gradient of the projection with respect to its input: dp @ wᵀ, its sum over the columns in three parts kept in a
   scratch array. -/
module

public import proofs.«01_k».proof.Proof.Gen.Dh1Ideal.Frame
public import proofs.«01_k».proof.Proof.Gen.Dh1RefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Dh1RefIdeal.Product

open Idealize.ShloMosaic Idealize.ShloMosaic.TcCoe Idealize.SL.Sem
open Cert.Dh1RefIdeal Cert.Dh1RefIdeal.Gen

variable (X0 : FVec Ideal S8192x6912 .bf16) (X1 : FVec Ideal S1024x6912 .bf16)

/-- The entry in row `i` and column `j` of the gradient. -/
def entry (i : Fin 8192) (j : Fin 1024) : EReal := ∑ l : Fin 6912, X0 (ix2 i l) * X1 (ix2 j l)

/-- The reference's result. -/
def result : FVec Ideal S8192x1024 .f32 :=
  Host.dotGeneral dot_S8192x6912_S1024x6912_S8192x1024_1_1_0_0_n_n none (extf .f32 X0 bitsLt_bf16_f32) (extf .f32 X1 bitsLt_bf16_f32)

theorem result_at (i : Fin 8192) (j : Fin 1024) : result X0 X1 (ix2 i j) = entry X0 X1 i j := by
  pointwise [result, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Dh1RefIdeal.Value.run m ρ

end Cert.Dh1RefIdeal.Product

namespace Cert.Dh1Ideal.Product

open Idealize.ShloMosaic Idealize.ShloMosaic.TcCoe Idealize.SL.Sem
open Cert.Dh1Ideal Cert.Dh1Ideal.Gen

variable (m : (ℓ : Loc nD τ sig) → Buf (Elt Ideal) ℓ) (c : Dev nD)

/-- The argument arrays, and their blocks at a grid point. -/
abbrev X0 : FVec Ideal S8192x6912 .bf16 := m ((c : Thread nD τ).loc main_arg0)
abbrev X1 : FVec Ideal S1024x6912 .bf16 := m ((c : Thread nD τ).loc main_arg1)
abbrev b0 (t : Fin cfg0.N) : FVec Ideal S1024x2304 .bf16 := iblk m c 0 t
abbrev b1 (t : Fin cfg0.N) : FVec Ideal S1024x2304 .bf16 := iblk m c 1 t

/-- Where each window's block lies at a grid point. -/
theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

theorem val_lt (t : Fin cfg0.N) : t.val < 24 := lt_of_lt_of_eq t.isLt N_0

/-- The array's row at row `r` of point `t`'s block, and the place in the sum of the block's `k`-th column. -/
def row (t : Fin cfg0.N) (r : Fin 1024) : Fin 8192 := ⟨t.val / 3 * 1024 + r.val, by have := val_lt t; omega⟩
def mid (t : Fin cfg0.N) (k : Fin 2304) : Fin 6912 := ⟨t.val % 3 * 2304 + k.val, by omega⟩

theorem read0 (t : Fin cfg0.N) (r : Fin 1024) (k : Fin 2304) : b0 m c t (ix2 r k) = X0 m c (ix2 (row t r) (mid t k)) := by
  unfold row mid
  blk_ext [iblk, V, idx t]
theorem read1 (t : Fin cfg0.N) (s : Fin 1024) (k : Fin 2304) : b1 m c t (ix2 s k) = X1 m c (ix2 s (mid t k)) := by
  unfold mid
  blk_ext [iblk, V, idx t]

/-- What one grid point computes from its two blocks, and what it leaves in the scratch array. -/
theorem pay1_at (v0 v1 : FVec Ideal S1024x2304 .bf16) (r s : Fin 1024) :
    k0_pay1 (F := Ideal) v0 v1 (ix2 r s) = ∑ k : Fin 2304, v1 (ix2 r k) * v0 (ix2 s k) := by
  pointwise [k0_pay1]
theorem pay2_eq (v0 v1 : FVec Ideal S1024x2304 .bf16) (j : S1024x1024.Idx) :
    k0_pay2 (F := Ideal) v0 v1 j = k0_pay1 (F := Ideal) v0 v1 j := by
  unfold k0_pay2
  exact congrFun (shapeCast_self _ _) j
theorem pay3_eq (v0 v1 : FVec Ideal S1024x2304 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- A grid point that stores a block has the reference's block in the scratch array. -/
theorem point (t : Fin cfg0.N) (h : t.val % 3 = 2) (r s : Fin 1024) : (outsAt0 m c t.val t.isLt).2 (ix2 r s)
    = Cert.Dh1RefIdeal.Product.result (X0 m c) (X1 m c) (ix2 (row t r) s) := by
  refine (Pipeline.eq_sum_fin_of_reset_step_apply_of_flush (fun n h => (outsAt0 m c n h).2) 3 (fun _ => (0 : EReal))
    (fun t j => k0_pay1 (F := Ideal) (b1 m c t) (b0 m c t) j)
    (fun t h j => by
      rw [outsAt0_A m c t h (by omega) (by omega)]
      frame_out
      exact (pay2_eq _ _ j).trans (zero_add _).symm)
    (fun t h j => by
      by_cases h2 : t.val % 3 = 2
      · rw [outsAt0_C m c t h (by omega) h2]
        frame_out
        rw [read_unread_whole]
        exact pay3_eq (b1 m c t) (b0 m c t) _ j
      · rw [outsAt0_B m c t h (by omega) h2]
        frame_out
        rw [read_unread_whole]
        exact pay3_eq (b1 m c t) (b0 m c t) _ j)
    t h (ix2 r s)).trans ?_
  rw [zero_add, Cert.Dh1RefIdeal.Product.result_at]
  unfold Cert.Dh1RefIdeal.Product.entry
  simp only [pay1_at, read0, read1]
  have hlt := val_lt t
  refine Fin.sum_mul_add_congr fun p k hl => ?_
  have e0 : row ⟨3 * (t.val / 3) + p.val, by omega⟩ r = row t r := by
    unfold row
    exact Fin.ext (by dsimp only; omega)
  have e1 : mid ⟨3 * (t.val / 3) + p.val, by omega⟩ k = ⟨p.val * 2304 + k.val, hl⟩ := by
    unfold mid
    exact Fin.ext (by dsimp only; omega)
  rw [e0, e1]

/-- The array after all grid points is the reference's result. -/
theorem final : (dats m 0 c).arrAt 2 (cfgs 0).N = Cert.Dh1RefIdeal.Product.result (X0 m c) (X1 m c) := by
  refine (dats m 0 c).arrAt_eq_of_covers 2 _ (by decide +kernel) fun t hf y => ?_
  have h : t.val % 3 = 2 := (flush0_2 t).mp hf
  blk_simp
  rw [after0_2]
  have hy : (((View.whole main_v0).slice (win0_2.rect t)).emb y : S8192x1024.Idx) = ix2 (row t (y 0)) (y 1) := by
    unfold row
    blk_ext [idx t]
  have key : (outsAt0 m c t.val t.isLt).2 y
      = Cert.Dh1RefIdeal.Product.result (X0 m c) (X1 m c) (((View.whole main_v0).slice (win0_2.rect t)).emb y) := by
    rw [hy]
    exact (congrArg _ (eq_ix2 y)).trans (point m c t h (y 0) (y 1))
  refine Eq.trans ?_ key
  rw [outsAt0_C m c t (by omega) (by omega) h]
  frame_out

end Cert.Dh1Ideal.Product

end
-- ==== Proof.ProductGwin.lean ====
/- The gradient of the projection with respect to its weight: hᵀ @ dp, the sum over the rows in two halves kept in a scratch array. -/
module

public import proofs.«01_k».proof.Proof.Gen.GwinIdeal.Frame
public import proofs.«01_k».proof.Proof.Gen.GwinRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GwinRefIdeal.Product

open Idealize.ShloMosaic Idealize.ShloMosaic.TcCoe Idealize.SL.Sem
open Cert.GwinRefIdeal Cert.GwinRefIdeal.Gen

variable (X0 : FVec Ideal S8192x1024 .bf16) (X1 : FVec Ideal S8192x6912 .bf16)

/-- The entry in row `i` and column `j` of the gradient. -/
def entry (i : Fin 1024) (j : Fin 6912) : EReal := ∑ l : Fin 8192, X0 (ix2 l i) * X1 (ix2 l j)

/-- The reference's result. -/
def result : FVec Ideal S1024x6912 .f32 :=
  transpose S1024x6912 [1, 0] (Host.dotGeneral dot_S8192x6912_S8192x1024_S6912x1024_0_0_1_1_n_n none (extf .f32 X1 bitsLt_bf16_f32) (extf .f32 X0 bitsLt_bf16_f32)) transposes_S6912x1024_S1024x6912_1_0

theorem result_at (i : Fin 1024) (j : Fin 6912) : result X0 X1 (ix2 i j) = entry X0 X1 i j := by
  pointwise [result]
  exact Finset.sum_congr rfl fun l _ => mul_comm _ _

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.GwinRefIdeal.Value.run m ρ

end Cert.GwinRefIdeal.Product

namespace Cert.GwinIdeal.Product

open Idealize.ShloMosaic Idealize.ShloMosaic.TcCoe Idealize.SL.Sem
open Cert.GwinIdeal Cert.GwinIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x6912 .bf16 := m ((c : Thread nD τ).loc main_arg1)
abbrev b0 (t : Fin cfg0.N) : FVec Ideal S4096x1024 .bf16 := iblk m c 0 t
abbrev b1 (t : Fin cfg0.N) : FVec Ideal S4096x768 .bf16 := iblk m c 1 t

/-- Where each window's block lies at a grid point. -/
theorem idx : ∀ t : Fin cfg0.N, win0_0.index t = ![t.val % 2, 0]
    ∧ win0_1.index t = ![t.val % 2, t.val / 2]
    ∧ win0_2.index t = ![0, t.val / 2] :=
  (by decide +kernel : ∀ t : Fin grid0.N, _)

theorem val_lt (t : Fin cfg0.N) : t.val < 18 := lt_of_lt_of_eq t.isLt N_0

/-- The array's column at column `s` of point `t`'s block, and the place in the sum of the block's `k`-th row. -/
def col (t : Fin cfg0.N) (s : Fin 768) : Fin 6912 := ⟨t.val / 2 * 768 + s.val, by have := val_lt t; omega⟩
def mid (t : Fin cfg0.N) (k : Fin 4096) : Fin 8192 := ⟨t.val % 2 * 4096 + k.val, by have := val_lt t; omega⟩

theorem read0 (t : Fin cfg0.N) (k : Fin 4096) (r : Fin 1024) : b0 m c t (ix2 k r) = X0 m c (ix2 (mid t k) r) := by
  unfold mid
  blk_ext [iblk, V, idx t]
theorem read1 (t : Fin cfg0.N) (k : Fin 4096) (s : Fin 768) : b1 m c t (ix2 k s) = X1 m c (ix2 (mid t k) (col t s)) := by
  unfold mid col
  blk_ext [iblk, V, idx t]

/-- What one grid point computes from its two blocks, and what it leaves in the scratch array. -/
theorem pay1_at (v0 : FVec Ideal S4096x768 .bf16) (v1 : FVec Ideal S4096x1024 .bf16) (r : Fin 1024) (s : Fin 768) :
    k0_pay1 (F := Ideal) v0 v1 (ix2 r s) = ∑ k : Fin 4096, v1 (ix2 k r) * v0 (ix2 k s) := by
  pointwise [k0_pay1]
theorem pay2_eq (v0 : FVec Ideal S4096x768 .bf16) (v1 : FVec Ideal S4096x1024 .bf16) (j : S1024x768.Idx) :
    k0_pay2 (F := Ideal) v0 v1 j = k0_pay1 (F := Ideal) v0 v1 j := by
  unfold k0_pay2
  exact congrFun (shapeCast_self _ _) j
theorem pay3_eq (v0 : FVec Ideal S4096x768 .bf16) (v1 : FVec Ideal S4096x1024 .bf16) (a : FVec Ideal S1024x768 .f32) (j : S1024x768.Idx) :
    k0_pay3 (F := Ideal) v0 v1 a j = a j + k0_pay1 (F := Ideal) v0 v1 j := by
  unfold k0_pay3
  exact congrFun (shapeCast_self _ _) j

/-- A grid point that stores a block has the reference's block in the scratch array. -/
theorem point (t : Fin cfg0.N) (h : t.val % 2 = 1) (r : Fin 1024) (s : Fin 768) : (outsAt0 m c t.val t.isLt).2 (ix2 r s)
    = Cert.GwinRefIdeal.Product.result (X0 m c) (X1 m c) (ix2 r (col t s)) := by
  refine (Pipeline.eq_sum_fin_of_reset_step_apply_of_flush (fun n h => (outsAt0 m c n h).2) 2 (fun _ => (0 : EReal))
    (fun t j => k0_pay1 (F := Ideal) (b1 m c t) (b0 m c t) j)
    (fun t h j => by
      rw [outsAt0_A m c t h (by omega) (by omega)]
      frame_out
      exact (pay2_eq (b1 m c t) (b0 m c t) j).trans (zero_add _).symm)
    (fun t h j => by
      rw [outsAt0_B m c t h (by omega) (by omega)]
      frame_out
      rw [read_unread_whole]
      exact pay3_eq (b1 m c t) (b0 m c t) _ j)
    t h (ix2 r s)).trans ?_
  rw [zero_add, Cert.GwinRefIdeal.Product.result_at]
  unfold Cert.GwinRefIdeal.Product.entry
  simp only [pay1_at, read0, read1]
  have hlt := val_lt t
  refine Fin.sum_mul_add_congr fun p k hl => ?_
  have e0 : col ⟨2 * (t.val / 2) + p.val, by omega⟩ s = col t s := by
    unfold col
    exact Fin.ext (by dsimp only; omega)
  have e1 : mid ⟨2 * (t.val / 2) + p.val, by omega⟩ k = ⟨p.val * 4096 + k.val, hl⟩ := by
    unfold mid
    exact Fin.ext (by dsimp only; omega)
  rw [e0, e1]

/-- The array after all grid points is the reference's result. -/
theorem final : (dats m 0 c).arrAt 2 (cfgs 0).N = Cert.GwinRefIdeal.Product.result (X0 m c) (X1 m c) := by
  refine (dats m 0 c).arrAt_eq_of_covers 2 _ (by decide +kernel) fun t hf y => ?_
  have h : t.val % 2 = 1 := (flush0_2 t).mp hf
  blk_simp
  rw [after0_2]
  have hy : (((View.whole main_v0).slice (win0_2.rect t)).emb y : S1024x6912.Idx) = ix2 (y 0) (col t (y 1)) := by
    unfold col
    blk_ext [idx t]
  have key : (outsAt0 m c t.val t.isLt).2 y
      = Cert.GwinRefIdeal.Product.result (X0 m c) (X1 m c) (((View.whole main_v0).slice (win0_2.rect t)).emb y) := by
    rw [hy]
    exact (congrArg _ (eq_ix2 y)).trans (point m c t h (y 0) (y 1))
  refine Eq.trans ?_ key
  rw [outsAt0_B m c t (by omega) h h]
  frame_out

end Cert.GwinIdeal.Product

end
-- ==== Proof.ProductUp.lean ====
/- The widening product of the MLP and its squared relu: u = relu(h @ w_up) and u * u, the columns of w_up in four shards. -/
module

public import proofs.«01_k».proof.Proof.Gen.UpIdeal.Frame
public import proofs.«01_k».proof.Proof.Gen.UpRefIdeal.Run
public import Idealize.ShloMosaic.Lib.Pointwise
public import Idealize.ShloMosaic.Lib.Pipeline.ValueKit

@[expose] public section

set_option maxRecDepth 16384

noncomputable section

namespace Cert.UpRefIdeal.Product

open Idealize.ShloMosaic Idealize.ShloMosaic.TcCoe Idealize.SL.Sem
open Cert.UpRefIdeal Cert.UpRefIdeal.Gen

variable (X0 : FVec Ideal S8192x1024 .bf16) (X1 : FVec Ideal S4x3584x1024 .bf16)

/-- The entry of w_up in row `l` and column `j`, read from the shards. -/
def wUp (l : Fin 1024) (j : Fin 4096) : EReal :=
  X1 (ix3 (⟨j.val / 1024, by omega⟩ : Fin 4) (⟨l.val, by omega⟩ : Fin 3584) (⟨j.val % 1024, by omega⟩ : Fin 1024))

/-- The entry of u in row `i` and column `j`. -/
def entry (i : Fin 8192) (j : Fin 4096) : EReal := max (∑ l : Fin 1024, X0 (ix2 i l) * wUp X1 l j) 0

/-- The weight, as the reference puts it together from the shards. -/
def weight : FVec Ideal S1024x4096 .f32 :=
  extf .f32 (shapeCast _ (transpose S1024x4x1024 [1, 0, 2] (extractStridedSlice S4x1024x1024 ![0, 0, 0] X1 slices_S4x3584x1024_S4x1024x1024_0_0_0) transposes_S4x1024x1024_S1024x4x1024_1_0_2) shapeCasts_S1024x4x1024_S1024x4096) bitsLt_bf16_f32

theorem weight_at (l : Fin 1024) (j : Fin 4096) : weight X1 (ix2 l j) = wUp X1 l j := by
  pointwise [weight, wUp]

/-- The reference's results. -/
def u : FVec Ideal S8192x4096 .f32 :=
  maximumf (Host.dotGeneral dot_S8192x1024_S1024x4096_S8192x4096_1_0_0_1_n_n none (extf .f32 X0 bitsLt_bf16_f32) (weight X1))
    (broadcastInDim S8192x4096 ![] bcast_S_S8192x4096 (constant S_ .f32 0x00000000#32))
def result0 : FVec Ideal S8192x4096 .bf16 := truncf .bf16 (u X0 X1) bitsLt_bf16_f32
def result1 : FVec Ideal S8192x4096 .bf16 := truncf .bf16 (mulf (u X0 X1) (u X0 X1)) bitsLt_bf16_f32

theorem u_at (i : Fin 8192) (j : Fin 4096) : u X0 X1 (ix2 i j) = entry X0 X1 i j := by
  pointwise [u, weight_at, entry]

theorem result0_at (i : Fin 8192) (j : Fin 4096) : result0 X0 X1 (ix2 i j) = entry X0 X1 i j := by
  pointwise [result0, u_at]
theorem result1_at (i : Fin 8192) (j : Fin 4096) : result1 X0 X1 (ix2 i j) = entry X0 X1 i j * entry X0 X1 i j := by
  pointwise [result1, u_at]

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result0 (m ((c.tc : Thread nD τ).loc main_arg0)) (m ((c.tc : Thread nD τ).loc main_arg1))
      ∧ r.2.mem ((c.tc : Thread nD τ).loc main_v9) = result1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.UpRefIdeal.Value.run m ρ

end Cert.UpRefIdeal.Product

namespace Cert.UpIdeal.Product

open Idealize.ShloMosaic Idealize.ShloMosaic.TcCoe Idealize.SL.Sem
open Cert.UpIdeal Cert.UpIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev b0 (t : Fin cfg0.N) : FVec Ideal S2048x1024 .bf16 := iblk m c 0 t
abbrev b1 (t : Fin cfg0.N) : FVec Ideal S1x1024x1024 .bf16 := X0_1 m c t

/-- Where each window's block lies at a grid point. -/
theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

theorem val_lt (t : Fin cfg0.N) : t.val < 16 := lt_of_lt_of_eq t.isLt N_0

/-- The array's row and column at row `r` and column `s` of point `t`'s block. -/
def row (t : Fin cfg0.N) (r : Fin 2048) : Fin 8192 := ⟨t.val / 4 * 2048 + r.val, by have := val_lt t; omega⟩
def col (t : Fin cfg0.N) (s : Fin 1024) : Fin 4096 := ⟨t.val % 4 * 1024 + s.val, by omega⟩

theorem read0 (t : Fin cfg0.N) (r : Fin 2048) (l : Fin 1024) : b0 m c t (ix2 r l) = X0 m c (ix2 (row t r) l) := by
  unfold row
  blk_ext [iblk, V, idx t]
theorem read1 (t : Fin cfg0.N) (l : Fin 1024) (s : Fin 1024) :
    b1 m c t (ix3 (0 : Fin 1) l s) = Cert.UpRefIdeal.Product.wUp (X1 m c) l (col t s) := by
  unfold b1 X0_1 Pipeline.Window.fill Cert.UpRefIdeal.Product.wUp col
  rw [dif_pos (moved0_1 t _)]
  blk_ext [iblk, V, idx t]

/-- What one grid point computes from its two blocks. -/
theorem pay1_at (v0 : FVec Ideal S1x1024x1024 .bf16) (v1 : FVec Ideal S2048x1024 .bf16) (r : Fin 2048) (s : Fin 1024) :
    k0_pay1 (F := Ideal) v0 v1 (ix2 r s) = max (∑ l : Fin 1024, v1 (ix2 r l) * v0 (ix3 (0 : Fin 1) l s)) 0 := by
  pointwise [k0_pay1]

/-- A grid point's block of u is the reference's. -/
theorem point (t : Fin cfg0.N) (r : Fin 2048) (s : Fin 1024) : k0_pay1 (F := Ideal) (b1 m c t) (b0 m c t) (ix2 r s)
    = Cert.UpRefIdeal.Product.entry (X0 m c) (X1 m c) (row t r) (col t s) := by
  refine (pay1_at _ _ r s).trans ?_
  unfold Cert.UpRefIdeal.Product.entry
  simp only [read0, read1]

theorem point0 (t : Fin cfg0.N) (r : Fin 2048) (s : Fin 1024) : k0_pay2 (F := Ideal) (b1 m c t) (b0 m c t) (ix2 r s)
    = Cert.UpRefIdeal.Product.result0 (X0 m c) (X1 m c) (ix2 (row t r) (col t s)) := by
  refine Eq.trans ?_ (Cert.UpRefIdeal.Product.result0_at _ _ _ _).symm
  rw [← point]
  pointwise [k0_pay2]
theorem point1 (t : Fin cfg0.N) (r : Fin 2048) (s : Fin 1024) : k0_pay3 (F := Ideal) (b1 m c t) (b0 m c t) (ix2 r s)
    = Cert.UpRefIdeal.Product.result1 (X0 m c) (X1 m c) (ix2 (row t r) (col t s)) := by
  refine Eq.trans ?_ (Cert.UpRefIdeal.Product.result1_at _ _ _ _).symm
  rw [← point]
  pointwise [k0_pay3]

/-- The arrays after all grid points are the reference's results. -/
theorem final0 : (dats m 0 c).arrAt 2 (cfgs 0).N = Cert.UpRefIdeal.Product.result0 (X0 m c) (X1 m c) := by
  refine (dats m 0 c).arrAt_eq_of_covers 2 _ (by decide +kernel) fun t _ y => ?_
  blk_simp
  rw [after0_2]
  have hy : (((View.whole main_v0_0).slice (win0_2.rect t)).emb y : S8192x4096.Idx) = ix2 (row t (y 0)) (col t (y 1)) := by
    unfold row col
    blk_ext [idx t]
  have key : k0_pay2 (F := Ideal) (b1 m c t) (b0 m c t) y
      = Cert.UpRefIdeal.Product.result0 (X0 m c) (X1 m c) (((View.whole main_v0_0).slice (win0_2.rect t)).emb y) := by
    rw [hy]
    exact (congrArg _ (eq_ix2 y)).trans (point0 m c t (y 0) (y 1))
  unfold outsAt0
  frame_out
  exact key
theorem final1 : (dats m 0 c).arrAt 3 (cfgs 0).N = Cert.UpRefIdeal.Product.result1 (X0 m c) (X1 m c) := by
  refine (dats m 0 c).arrAt_eq_of_covers 3 _ (by decide +kernel) fun t _ y => ?_
  blk_simp
  rw [after0_3]
  have hy : (((View.whole main_v0_1).slice (win0_3.rect t)).emb y : S8192x4096.Idx) = ix2 (row t (y 0)) (col t (y 1)) := by
    unfold row col
    blk_ext [idx t]
  have key : k0_pay3 (F := Ideal) (b1 m c t) (b0 m c t) y
      = Cert.UpRefIdeal.Product.result1 (X0 m c) (X1 m c) (((View.whole main_v0_1).slice (win0_3.rect t)).emb y) := by
    rw [hy]
    exact (congrArg _ (eq_ix2 y)).trans (point1 m c t (y 0) (y 1))
  unfold outsAt0
  frame_out
  exact key

end Cert.UpIdeal.Product

end
-- ==== Proof.ProductDown.lean ====
/- The narrowing product of the MLP added to the step's activations: x + act @ w_down, the rows of w_down in four shards, the sum in two halves kept in a scratch array. -/
module

public import proofs.«01_k».proof.Proof.Gen.DownIdeal.Frame
public import proofs.«01_k».proof.Proof.Gen.DownRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DownRefIdeal.Product

open Idealize.ShloMosaic Idealize.ShloMosaic.TcCoe Idealize.SL.Sem
open Cert.DownRefIdeal Cert.DownRefIdeal.Gen

variable (X0 : FVec Ideal S8192x4096 .bf16) (X1 : FVec Ideal S4x3584x1024 .bf16) (X2 : FVec Ideal S8192x1024 .f32)

/-- The entry of w_down in row `l` and column `j`, read from the shards. -/
def wDown (l : Fin 4096) (j : Fin 1024) : EReal :=
  X1 (ix3 (⟨l.val / 1024, by omega⟩ : Fin 4) (⟨1024 + l.val % 1024, by omega⟩ : Fin 3584) j)

/-- The entry in row `i` and column `j` of the product. -/
def entry (i : Fin 8192) (j : Fin 1024) : EReal := ∑ l : Fin 4096, X0 (ix2 i l) * wDown X1 l j

/-- The weight, as the reference puts it together from the shards. -/
def weight : FVec Ideal S4096x1024 .f32 :=
  extf .f32 (shapeCast _ (extractStridedSlice S4x1024x1024 ![0, 1024, 0] X1 slices_S4x3584x1024_S4x1024x1024_0_1024_0) shapeCasts_S4x1024x1024_S4096x1024) bitsLt_bf16_f32

theorem weight_at (l : Fin 4096) (j : Fin 1024) : weight X1 (ix2 l j) = wDown X1 l j := by
  pointwise [weight, wDown]

/-- The reference's result. -/
def result : FVec Ideal S8192x1024 .f32 :=
  addf X2 (Host.dotGeneral dot_S8192x4096_S4096x1024_S8192x1024_1_0_0_1_n_n none (extf .f32 X0 bitsLt_bf16_f32) (weight X1))

theorem result_at (i : Fin 8192) (j : Fin 1024) : result X0 X1 X2 (ix2 i j) = X2 (ix2 i j) + entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.DownRefIdeal.Value.run m ρ

end Cert.DownRefIdeal.Product

namespace Cert.DownIdeal.Product

open Idealize.ShloMosaic Idealize.ShloMosaic.TcCoe Idealize.SL.Sem
open Cert.DownIdeal Cert.DownIdeal.Gen

variable (m : (ℓ : Loc nD τ sig) → Buf (Elt Ideal) ℓ) (c : Dev nD)

/-- The argument arrays, and their blocks at a grid point. -/
abbrev X0 : FVec Ideal S8192x4096 .bf16 := m ((c : Thread nD τ).loc main_arg0)
abbrev X1 : FVec Ideal S4x3584x1024 .bf16 := m ((c : Thread nD τ).loc main_arg1)
abbrev X2 : FVec Ideal S8192x1024 .f32 := m ((c : Thread nD τ).loc main_arg2)
abbrev b0 (t : Fin cfg0.N) : FVec Ideal S1024x2048 .bf16 := iblk m c 0 t
abbrev b1 (t : Fin cfg0.N) : FVec Ideal S2x1024x1024 .bf16 := X0_1 m c t
abbrev b2 (t : Fin cfg0.N) : FVec Ideal S1024x1024 .f32 := iblk m c 2 t

/-- Where each window's block lies at a grid point. -/
theorem idx : ∀ t : Fin cfg0.N, win0_0.index t = ![t.val / 2, t.val % 2]
    ∧ win0_1.index t = ![t.val % 2, 1, 0]
    ∧ win0_2.index t = ![t.val / 2, 0]
    ∧ win0_3.index t = ![t.val / 2, 0] :=
  (by decide +kernel : ∀ t : Fin grid0.N, _)

theorem val_lt (t : Fin cfg0.N) : t.val < 16 := lt_of_lt_of_eq t.isLt N_0

/-- The array's row at row `r` of point `t`'s block, and the place in the sum of the block's `k`-th column. -/
def row (t : Fin cfg0.N) (r : Fin 1024) : Fin 8192 := ⟨t.val / 2 * 1024 + r.val, by have := val_lt t; omega⟩
def mid (t : Fin cfg0.N) (k : Fin 2048) : Fin 4096 := ⟨t.val % 2 * 2048 + k.val, by have := val_lt t; omega⟩

theorem read0 (t : Fin cfg0.N) (r : Fin 1024) (k : Fin 2048) : b0 m c t (ix2 r k) = X0 m c (ix2 (row t r) (mid t k)) := by
  unfold row mid
  blk_ext [iblk, V, idx t]
theorem read1 (t : Fin cfg0.N) (k : Fin 2048) (s : Fin 1024) :
    b1 m c t (ix3 (⟨k.val / 1024, by omega⟩ : Fin 2) (⟨k.val % 1024, by omega⟩ : Fin 1024) s)
      = Cert.DownRefIdeal.Product.wDown (X1 m c) (mid t k) s := by
  unfold b1 X0_1 Pipeline.Window.fill Cert.DownRefIdeal.Product.wDown mid
  rw [dif_pos (moved0_1 t _)]
  blk_ext [iblk, V, idx t]
theorem read2 (t : Fin cfg0.N) (r : Fin 1024) (s : Fin 1024) : b2 m c t (ix2 r s) = X2 m c (ix2 (row t r) s) := by
  unfold row
  blk_ext [iblk, V, idx t]

/-- What one grid point computes from its two blocks, and what it leaves in the scratch array. -/
theorem pay1_at (v0 : FVec Ideal S2x1024x1024 .bf16) (v1 : FVec Ideal S1024x2048 .bf16) (r s : Fin 1024) :
    k0_pay1 (F := Ideal) v0 v1 (ix2 r s)
      = ∑ k : Fin 2048, v1 (ix2 r k) * v0 (ix3 (⟨k.val / 1024, by omega⟩ : Fin 2) (⟨k.val % 1024, by omega⟩ : Fin 1024) s) := by
  pointwise [k0_pay1]
theorem pay2_eq (v0 : FVec Ideal S2x1024x1024 .bf16) (v1 : FVec Ideal S1024x2048 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S2x1024x1024 .bf16) (v1 : FVec Ideal S1024x2048 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- A grid point that stores a block has the block of the product in the scratch array. -/
theorem point (t : Fin cfg0.N) (h : t.val % 2 = 1) (r s : Fin 1024) : (outsAt0 m c t.val t.isLt).2 (ix2 r s)
    = Cert.DownRefIdeal.Product.entry (X0 m c) (X1 m c) (row t r) s := by
  refine (Pipeline.eq_sum_fin_of_reset_step_apply_of_flush (fun n h => (outsAt0 m c n h).2) 2 (fun _ => (0 : EReal))
    (fun t j => k0_pay1 (F := Ideal) (b1 m c t) (b0 m c t) j)
    (fun t h j => by
      rw [outsAt0_A m c t h (by omega) (by omega)]
      frame_out
      exact (pay2_eq (b1 m c t) (b0 m c t) j).trans (zero_add _).symm)
    (fun t h j => by
      rw [outsAt0_B m c t h (by omega) (by omega)]
      frame_out
      rw [read_unread_whole]
      exact pay3_eq (b1 m c t) (b0 m c t) _ j)
    t h (ix2 r s)).trans ?_
  rw [zero_add]
  unfold Cert.DownRefIdeal.Product.entry
  simp only [pay1_at, read0, read1]
  have hlt := val_lt t
  refine Fin.sum_mul_add_congr fun p k hl => ?_
  have e0 : row ⟨2 * (t.val / 2) + p.val, by omega⟩ r = row t r := by
    unfold row
    exact Fin.ext (by dsimp only; omega)
  have e1 : mid ⟨2 * (t.val / 2) + p.val, by omega⟩ k = ⟨p.val * 2048 + k.val, hl⟩ := by
    unfold mid
    exact Fin.ext (by dsimp only; omega)
  rw [e0, e1]

/-- The sum of the scratch array and the block of activations is the reference's block. -/
theorem point_add (t : Fin cfg0.N) (h : t.val % 2 = 1) (r s : Fin 1024) :
    k0_pay4 (F := Ideal) (outsAt0 m c t.val t.isLt).2 (b2 m c t) (ix2 r s)
      = Cert.DownRefIdeal.Product.result (X0 m c) (X1 m c) (X2 m c) (ix2 (row t r) s) := by
  refine Eq.trans ?_ (Cert.DownRefIdeal.Product.result_at _ _ _ _ _).symm
  rw [← read2, ← point m c t h]
  pointwise [k0_pay4]

/-- The array after all grid points is the reference's result. -/
theorem final : (dats m 0 c).arrAt 3 (cfgs 0).N = Cert.DownRefIdeal.Product.result (X0 m c) (X1 m c) (X2 m c) := by
  refine (dats m 0 c).arrAt_eq_of_covers 3 _ (by decide +kernel) fun t hf y => ?_
  have h : t.val % 2 = 1 := (flush0_3 t).mp hf
  blk_simp
  rw [after0_3]
  have hy : (((View.whole main_v0).slice (win0_3.rect t)).emb y : S8192x1024.Idx) = ix2 (row t (y 0)) (y 1) := by
    unfold row
    blk_ext [idx t]
  have key : k0_pay4 (F := Ideal) (outsAt0 m c t.val t.isLt).2 (b2 m c t) y
      = Cert.DownRefIdeal.Product.result (X0 m c) (X1 m c) (X2 m c) (((View.whole main_v0).slice (win0_3.rect t)).emb y) := by
    rw [hy]
    exact (congrArg _ (eq_ix2 y)).trans (point_add m c t h (y 0) (y 1))
  refine Eq.trans ?_ key
  rw [outsAt0_B m c t (by omega) h h]
  frame_out

end Cert.DownIdeal.Product

end
-- ==== Proof.ProductDact.lean ====
/- The gradient of the squared relu: (dx @ w_downᵀ) * 2 * relu(up), one block of rows by one shard of w_down at a grid point. -/
module

public import proofs.«01_k».proof.Proof.Gen.DactIdeal.Frame
public import proofs.«01_k».proof.Proof.Gen.DactRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DactRefIdeal.Product

open Idealize.ShloMosaic Idealize.ShloMosaic.TcCoe Idealize.SL.Sem
open Cert.DactRefIdeal Cert.DactRefIdeal.Gen

variable (X0 : FVec Ideal S8192x1024 .bf16) (X1 : FVec Ideal S8192x4096 .f32) (X2 : FVec Ideal S4x3584x1024 .bf16)

/-- The entry of w_down in row `l` and column `j`, read from the shards. -/
def wDown (l : Fin 4096) (j : Fin 1024) : EReal :=
  X2 (ix3 (⟨l.val / 1024, by omega⟩ : Fin 4) (⟨1024 + l.val % 1024, by omega⟩ : Fin 3584) j)

/-- The entry in row `i` and column `j` of the gradient with respect to the squares. -/
def entry (i : Fin 8192) (j : Fin 4096) : EReal := ∑ l : Fin 1024, X0 (ix2 i l) * wDown X2 j l

/-- The single-precision word of two. -/
theorem ofBits_two : Ideal.ofBits .f32 0x40000000#32 = 2 := by
  rw [show (2 : EReal) = ((2 : ℝ) : EReal) from rfl]
  simp [Ideal.ofBits, Ideal.ieee, -EReal.coe_mul]
  norm_num

theorem mul_two_eq (z : EReal) : z * 2 = z + z := by
  induction z with
  | bot => exact EReal.bot_mul_of_pos (by norm_num)
  | top => exact EReal.top_mul_of_pos (by norm_num)
  | coe r =>
    rw [show (2 : EReal) = ((2 : ℝ) : EReal) from rfl, ← EReal.coe_mul, ← EReal.coe_add, mul_two]

/-- The derivative of the squared relu, as one product and as the reference's choice between a sum and zero. -/
theorem relu_grad (x y : EReal) : x * 2 * max y 0 = if 0 < y then max y 0 * x + x * max y 0 else 0 := by
  split_ifs with h
  · rw [mul_comm (max y 0) x, mul_right_comm, mul_two_eq]
  · rw [max_eq_right (not_lt.mp h), mul_zero]

/-- The weight, as the reference puts it together from the shards. -/
def weight : FVec Ideal S4096x1024 .f32 :=
  extf .f32 (shapeCast _ (extractStridedSlice S4x1024x1024 ![0, 1024, 0] X2 slices_S4x3584x1024_S4x1024x1024_0_1024_0) shapeCasts_S4x1024x1024_S4096x1024) bitsLt_bf16_f32

theorem weight_at (l : Fin 4096) (j : Fin 1024) : weight X2 (ix2 l j) = wDown X2 l j := by
  pointwise [weight, wDown]

/-- The reference's values: the zeros, the relu, the gradient with respect to its square, the result. -/
def zeros : FVec Ideal S8192x4096 .f32 := broadcastInDim S8192x4096 ![] bcast_S_S8192x4096 (constant S_ .f32 0x00000000#32)
def u : FVec Ideal S8192x4096 .f32 := maximumf X1 zeros
def ct : FVec Ideal S8192x4096 .f32 :=
  Host.dotGeneral dot_S8192x1024_S4096x1024_S8192x4096_1_1_0_0_n_n none (extf .f32 X0 bitsLt_bf16_f32) (weight X2)
def result : FVec Ideal S8192x4096 .bf16 :=
  truncf .bf16 (select (cmpf .ogt X1 zeros) (addf (mulf (u X1) (ct X0 X2)) (mulf (ct X0 X2) (u X1))) zeros) bitsLt_bf16_f32

theorem zeros_at (i : Fin 8192) (j : Fin 4096) : zeros (ix2 i j) = 0 := by
  pointwise [zeros]
theorem u_at (i : Fin 8192) (j : Fin 4096) : u X1 (ix2 i j) = max (X1 (ix2 i j)) 0 := by
  pointwise [u, zeros_at]
theorem ct_at (i : Fin 8192) (j : Fin 4096) : ct X0 X2 (ix2 i j) = entry X0 X2 i j := by
  pointwise [ct, weight_at, entry]

theorem result_at (i : Fin 8192) (j : Fin 4096) : result X0 X1 X2 (ix2 i j) = entry X0 X2 i j * 2 * max (X1 (ix2 i j)) 0 := by
  pointwise [result, zeros_at, u_at, ct_at]
  exact (relu_grad _ _).symm

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.DactRefIdeal.Value.run m ρ

end Cert.DactRefIdeal.Product

namespace Cert.DactIdeal.Product

open Idealize.ShloMosaic Idealize.ShloMosaic.TcCoe Idealize.SL.Sem
open Cert.DactIdeal Cert.DactIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x4096 .f32 := m ((c : Thread nD τ).loc main_arg1)
abbrev X2 : FVec Ideal S4x3584x1024 .bf16 := m ((c : Thread nD τ).loc main_arg2)
abbrev b0 (t : Fin cfg0.N) : FVec Ideal S2048x1024 .bf16 := iblk m c 0 t
abbrev b1 (t : Fin cfg0.N) : FVec Ideal S1x1024x1024 .bf16 := X0_1 m c t
abbrev b2 (t : Fin cfg0.N) : FVec Ideal S2048x1024 .bf16 := iblk m c 2 t

/-- Where each window's block lies at a grid point. -/
theorem idx : ∀ t : Fin cfg0.N, win0_0.index t = ![t.val / 4, 0]
    ∧ win0_1.index t = ![t.val % 4, 1, 0]
    ∧ win0_2.index t = ![t.val / 4, t.val % 4]
    ∧ win0_3.index t = ![t.val / 4, t.val % 4] :=
  (by decide +kernel : ∀ t : Fin grid0.N, _)

theorem val_lt (t : Fin cfg0.N) : t.val < 16 := lt_of_lt_of_eq t.isLt N_0

/-- The array's row and column at row `r` and column `s` of point `t`'s block. -/
def row (t : Fin cfg0.N) (r : Fin 2048) : Fin 8192 := ⟨t.val / 4 * 2048 + r.val, by have := val_lt t; omega⟩
def col (t : Fin cfg0.N) (s : Fin 1024) : Fin 4096 := ⟨t.val % 4 * 1024 + s.val, by have := val_lt t; omega⟩

theorem read0 (t : Fin cfg0.N) (r : Fin 2048) (l : Fin 1024) : b0 m c t (ix2 r l) = X0 m c (ix2 (row t r) l) := by
  unfold row
  blk_ext [iblk, V, idx t]
theorem read1 (t : Fin cfg0.N) (s : Fin 1024) (l : Fin 1024) :
    b1 m c t (ix3 (0 : Fin 1) s l) = Cert.DactRefIdeal.Product.wDown (X2 m c) (col t s) l := by
  unfold b1 X0_1 Pipeline.Window.fill Cert.DactRefIdeal.Product.wDown col
  rw [dif_pos (moved0_1 t _)]
  blk_ext [iblk, V, idx t]
theorem read2 (t : Fin cfg0.N) (r : Fin 2048) (s : Fin 1024) :
    b2 m c t (ix2 r s) = max (X1 m c (ix2 (row t r) (col t s))) 0 := by
  have e : b2 m c t (ix2 r s) = V m c main_v2 (ix2 (row t r) (col t s)) := by
    unfold row col
    blk_ext [iblk, idx t]
  rw [e]
  unfold V
  after_results
  pointwise []

/-- What one grid point computes from its three blocks. -/
theorem pay1_at (v0 : FVec Ideal S1x1024x1024 .bf16) (v1 v2 : FVec Ideal S2048x1024 .bf16) (r : Fin 2048) (s : Fin 1024) :
    k0_pay1 (F := Ideal) v0 v1 v2 (ix2 r s)
      = (∑ l : Fin 1024, v1 (ix2 r l) * v0 (ix3 (0 : Fin 1) s l)) * 2 * v2 (ix2 r s) := by
  pointwise [k0_pay1]
  rw [Cert.DactRefIdeal.Product.ofBits_two]

/-- A grid point's block is the reference's. -/
theorem point (t : Fin cfg0.N) (r : Fin 2048) (s : Fin 1024) :
    k0_pay1 (F := Ideal) (b1 m c t) (b0 m c t) (b2 m c t) (ix2 r s)
      = Cert.DactRefIdeal.Product.result (X0 m c) (X1 m c) (X2 m c) (ix2 (row t r) (col t s)) := by
  refine (pay1_at _ _ _ r s).trans (Eq.trans ?_ (Cert.DactRefIdeal.Product.result_at _ _ _ _ _).symm)
  unfold Cert.DactRefIdeal.Product.entry
  simp only [read0, read1, read2]

/-- The array after all grid points is the reference's result. -/
theorem final : (dats m 0 c).arrAt 3 (cfgs 0).N = Cert.DactRefIdeal.Product.result (X0 m c) (X1 m c) (X2 m c) := by
  refine (dats m 0 c).arrAt_eq_of_covers 3 _ (by decide +kernel) fun t _ y => ?_
  blk_simp
  rw [after0_3]
  have hy : (((View.whole main_v3).slice (win0_3.rect t)).emb y : S8192x4096.Idx) = ix2 (row t (y 0)) (col t (y 1)) := by
    unfold row col
    blk_ext [idx t]
  have key : k0_pay1 (F := Ideal) (b1 m c t) (b0 m c t) (b2 m c t) y
      = Cert.DactRefIdeal.Product.result (X0 m c) (X1 m c) (X2 m c) (((View.whole main_v3).slice (win0_3.rect t)).emb y) := by
    rw [hy]
    exact (congrArg _ (eq_ix2 y)).trans (point m c t (y 0) (y 1))
  unfold outsAt0
  frame_out
  exact key

end Cert.DactIdeal.Product

end
-- ==== Proof.ProductDh3.lean ====
/- The gradient of the MLP's widening product with respect to its input: dup @ w_upᵀ, the four shards of w_up laid side by side. -/
module

public import proofs.«01_k».proof.Proof.Gen.Dh3Ideal.Frame
public import proofs.«01_k».proof.Proof.Gen.Dh3RefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Dh3RefIdeal.Product

open Idealize.ShloMosaic Idealize.ShloMosaic.TcCoe Idealize.SL.Sem
open Cert.Dh3RefIdeal Cert.Dh3RefIdeal.Gen

variable (X0 : FVec Ideal S8192x4096 .bf16) (X1 : FVec Ideal S4x3584x1024 .bf16)

/-- The entry of w_up in row `l` and column `j`, read from the shards. -/
def wUp (l : Fin 1024) (j : Fin 4096) : EReal :=
  X1 (ix3 (⟨j.val / 1024, by omega⟩ : Fin 4) (⟨l.val, by omega⟩ : Fin 3584) (⟨j.val % 1024, by omega⟩ : Fin 1024))

/-- The entry in row `i` and column `j` of the gradient. -/
def entry (i : Fin 8192) (j : Fin 1024) : EReal := ∑ l : Fin 4096, X0 (ix2 i l) * wUp X1 j l

/-- The weight, as the reference puts it together from the shards. -/
def weight : FVec Ideal S1024x4096 .f32 :=
  extf .f32 (shapeCast _ (transpose S1024x4x1024 [1, 0, 2] (extractStridedSlice S4x1024x1024 ![0, 0, 0] X1 slices_S4x3584x1024_S4x1024x1024_0_0_0) transposes_S4x1024x1024_S1024x4x1024_1_0_2) shapeCasts_S1024x4x1024_S1024x4096) bitsLt_bf16_f32

theorem weight_at (l : Fin 1024) (j : Fin 4096) : weight X1 (ix2 l j) = wUp X1 l j := by
  pointwise [weight, wUp]

/-- The reference's result. -/
def result : FVec Ideal S8192x1024 .f32 :=
  Host.dotGeneral dot_S8192x4096_S1024x4096_S8192x1024_1_1_0_0_n_n none (extf .f32 X0 bitsLt_bf16_f32) (weight X1)

theorem result_at (i : Fin 8192) (j : Fin 1024) : result X0 X1 (ix2 i j) = entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Dh3RefIdeal.Value.run m ρ

end Cert.Dh3RefIdeal.Product

namespace Cert.Dh3Ideal.Product

open Idealize.ShloMosaic Idealize.ShloMosaic.TcCoe Idealize.SL.Sem
open Cert.Dh3Ideal Cert.Dh3Ideal.Gen

variable (m : (ℓ : Loc nD τ sig) → Buf (Elt Ideal) ℓ) (c : Dev nD)

/-- The argument arrays, and their blocks at a grid point. -/
abbrev X0 : FVec Ideal S8192x4096 .bf16 := m ((c : Thread nD τ).loc main_arg0)
abbrev X1 : FVec Ideal S4x3584x1024 .bf16 := m ((c : Thread nD τ).loc main_arg1)
abbrev b0 (t : Fin cfg0.N) : FVec Ideal S1024x4096 .bf16 := iblk m c 0 t
abbrev b1 (t : Fin cfg0.N) : FVec Ideal S4x1024x1024 .bf16 := X0_1 m c t

/-- Where each window's block lies at a grid point. -/
theorem idx : ∀ t : Fin cfg0.N, win0_0.index t = ![t.val, 0]
    ∧ win0_1.index t = ![0, 0, 0]
    ∧ win0_2.index t = ![t.val, 0] :=
  (by decide +kernel : ∀ t : Fin grid0.N, _)

theorem val_lt (t : Fin cfg0.N) : t.val < 8 := lt_of_lt_of_eq t.isLt N_0

/-- The array's row at row `r` of point `t`'s block. -/
def row (t : Fin cfg0.N) (r : Fin 1024) : Fin 8192 := ⟨t.val * 1024 + r.val, by have := val_lt t; omega⟩

theorem read0 (t : Fin cfg0.N) (r : Fin 1024) (l : Fin 4096) : b0 m c t (ix2 r l) = X0 m c (ix2 (row t r) l) := by
  unfold row
  blk_ext [iblk, V, idx t]
theorem read1 (t : Fin cfg0.N) (s : Fin 1024) (l : Fin 4096) :
    b1 m c t (ix3 (⟨l.val / 1024, by omega⟩ : Fin 4) s (⟨l.val % 1024, by omega⟩ : Fin 1024))
      = Cert.Dh3RefIdeal.Product.wUp (X1 m c) s l := by
  unfold b1 X0_1 Pipeline.Window.fill Cert.Dh3RefIdeal.Product.wUp
  rw [dif_pos (moved0_1 t _)]
  blk_ext [iblk, V, idx t]

/-- Two names of one entry of the four shards. -/
theorem shard_at (v : FVec Ideal S4x1024x1024 .bf16) (s : Fin 1024) {p p' : Fin 4} (l l' : Fin 1024) (hp : p.val = p'.val)
    (hl : l.val = l'.val) : v (ix3 p s l) = v (ix3 p' s l') := by
  rw [Fin.ext hp, Fin.ext hl]

/-- What one grid point computes from its two blocks. -/
theorem pay1_at (v0 : FVec Ideal S4x1024x1024 .bf16) (v1 : FVec Ideal S1024x4096 .bf16) (r s : Fin 1024) :
    k0_pay1 (F := Ideal) v0 v1 (ix2 r s)
      = ∑ l : Fin 4096, v1 (ix2 r l) * v0 (ix3 (⟨l.val / 1024, by omega⟩ : Fin 4) s (⟨l.val % 1024, by omega⟩ : Fin 1024)) := by
  pointwise [k0_pay1]
  refine Finset.sum_congr rfl fun l _ => congrArg _ ?_
  have hl := l.isLt
  split_ifs <;> first
    | exact shard_at v0 s _ _ (show 0 = l.val / 1024 by omega) (by dsimp only; omega)
    | exact shard_at v0 s _ _ (show 1 = l.val / 1024 by omega) (by dsimp only; omega)
    | exact shard_at v0 s _ _ (show 2 = l.val / 1024 by omega) (by dsimp only; omega)
    | exact shard_at v0 s _ _ (show 3 = l.val / 1024 by omega) (by dsimp only; omega)

/-- A grid point's block is the reference's. -/
theorem point (t : Fin cfg0.N) (r s : Fin 1024) : k0_pay1 (F := Ideal) (b1 m c t) (b0 m c t) (ix2 r s)
    = Cert.Dh3RefIdeal.Product.result (X0 m c) (X1 m c) (ix2 (row t r) s) := by
  refine (pay1_at _ _ r s).trans (Eq.trans ?_ (Cert.Dh3RefIdeal.Product.result_at _ _ _ _).symm)
  unfold Cert.Dh3RefIdeal.Product.entry
  simp only [read0, read1]

/-- The array after all grid points is the reference's result. -/
theorem final : (dats m 0 c).arrAt 2 (cfgs 0).N = Cert.Dh3RefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x1024.Idx) = ix2 (row t (y 0)) (y 1) := by
    unfold row
    blk_ext [idx t]
  have key : k0_pay1 (F := Ideal) (b1 m c t) (b0 m c t) y
      = Cert.Dh3RefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.Dh3Ideal.Product

end
-- ==== Proof.ProductGdown.lean ====
/- The gradient of the narrowing product with respect to its weight, actᵀ @ dx, written into its rows of the gradients' buffer and read back from there. -/
module

public import proofs.«01_k».proof.Proof.Gen.GdownIdeal.Frame
public import proofs.«01_k».proof.Proof.Gen.GdownRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GdownRefIdeal.Product

open Idealize.ShloMosaic Idealize.ShloMosaic.TcCoe Idealize.SL.Sem
open Cert.GdownRefIdeal Cert.GdownRefIdeal.Gen

variable (X0 : FVec Ideal S8192x4096 .bf16) (X1 : FVec Ideal S8192x1024 .bf16)

/-- The entry in row `i` and column `j` of the gradient. -/
def entry (i : Fin 4096) (j : Fin 1024) : EReal := ∑ l : Fin 8192, X0 (ix2 l i) * X1 (ix2 l j)

/-- The gradient, as the reference computes it. -/
def grad : FVec Ideal S4096x1024 .f32 :=
  transpose S4096x1024 [1, 0] (Host.dotGeneral dot_S8192x1024_S8192x4096_S1024x4096_0_0_1_1_n_n none (extf .f32 X1 bitsLt_bf16_f32) (extf .f32 X0 bitsLt_bf16_f32)) transposes_S1024x4096_S4096x1024_1_0

theorem grad_at (i : Fin 4096) (j : Fin 1024) : grad X0 X1 (ix2 i j) = entry X0 X1 i j := by
  pointwise [grad]
  exact Finset.sum_congr rfl fun l _ => mul_comm _ _

/-- The reference's result: the gradient, its rows in four shards. -/
def result : FVec Ideal S4x1024x1024 .f32 := shapeCast _ (grad X0 X1) shapeCasts_S4096x1024_S4x1024x1024

theorem result_at (p : Fin 4) (r s : Fin 1024) : result X0 X1 (ix3 p r s) = entry X0 X1 ⟨p.val * 1024 + r.val, by omega⟩ s := by
  rw [← grad_at]
  pointwise [result]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.GdownRefIdeal.Value.run m ρ

end Cert.GdownRefIdeal.Product

namespace Cert.GdownIdeal.Product

open Idealize.ShloMosaic Idealize.ShloMosaic.TcCoe Idealize.SL.Sem
open Cert.GdownIdeal Cert.GdownIdeal.Gen

variable (m : (ℓ : Loc nD τ sig) → Buf (Elt Ideal) ℓ) (c : Dev nD)

/-- The argument arrays, and their blocks at a grid point. -/
abbrev X0 : FVec Ideal S8192x4096 .bf16 := m ((c : Thread nD τ).loc main_arg0)
abbrev X1 : FVec Ideal S8192x1024 .bf16 := m ((c : Thread nD τ).loc main_arg1)
abbrev b0 (t : Fin cfg0.N) : FVec Ideal S4096x1024 .bf16 := iblk m c 0 t
abbrev b1 (t : Fin cfg0.N) : FVec Ideal S4096x1024 .bf16 := iblk m c 1 t

/-- Where each window's block lies at a grid point. -/
theorem idx : ∀ t : Fin cfg0.N, win0_0.index t = ![t.val % 2, t.val / 2]
    ∧ win0_1.index t = ![t.val % 2, 0]
    ∧ win0_2.index t = ![t.val / 2, 1, 0] :=
  (by decide +kernel : ∀ t : Fin grid0.N, _)

theorem val_lt (t : Fin cfg0.N) : t.val < 8 := lt_of_lt_of_eq t.isLt N_0

/-- The shard whose rows point `t`'s block is, the gradient's row at row `r` of the block, and the place in the sum of its `k`-th row. -/
def shard (t : Fin cfg0.N) : Fin 4 := ⟨t.val / 2, by have := val_lt t; omega⟩
def row (t : Fin cfg0.N) (r : Fin 1024) : Fin 4096 := ⟨t.val / 2 * 1024 + r.val, by have := val_lt t; omega⟩
def mid (t : Fin cfg0.N) (k : Fin 4096) : Fin 8192 := ⟨t.val % 2 * 4096 + k.val, by have := val_lt t; omega⟩

theorem read0 (t : Fin cfg0.N) (k : Fin 4096) (r : Fin 1024) : b0 m c t (ix2 k r) = X0 m c (ix2 (mid t k) (row t r)) := by
  unfold mid row
  rw [show X0 m c = V m c main_arg0 from (V_main_arg0 m c).symm]
  blk_ext [iblk, idx t]
theorem read1 (t : Fin cfg0.N) (k : Fin 4096) (s : Fin 1024) : b1 m c t (ix2 k s) = X1 m c (ix2 (mid t k) s) := by
  unfold mid
  rw [show X1 m c = V m c main_arg1 from (V_main_arg1 m c).symm]
  blk_ext [iblk, idx t]

/-- What one grid point computes from its two blocks, what it leaves in the scratch array and what it stores. -/
theorem pay1_at (v0 v1 : FVec Ideal S4096x1024 .bf16) (r s : Fin 1024) :
    k0_pay1 (F := Ideal) v0 v1 (ix2 r s) = ∑ k : Fin 4096, v1 (ix2 k r) * v0 (ix2 k s) := by
  pointwise [k0_pay1]
theorem pay4_at (a : FVec Ideal S1024x1024 .f32) (r s : Fin 1024) : k0_pay4 (F := Ideal) a (ix3 (0 : Fin 1) r s) = a (ix2 r s) := by
  pointwise [k0_pay4]
theorem pay2_eq (v0 : FVec Ideal S4096x1024 .bf16) (v1 : FVec Ideal S4096x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S4096x1024 .bf16) (v1 : FVec Ideal S4096x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- A grid point that stores a block has the block of the gradient in the scratch array. -/
theorem point (t : Fin cfg0.N) (h : t.val % 2 = 1) (r s : Fin 1024) : (outsAt0 m c t.val t.isLt).2 (ix2 r s)
    = Cert.GdownRefIdeal.Product.entry (X0 m c) (X1 m c) (row t r) s := by
  refine (Pipeline.eq_sum_fin_of_reset_step_apply_of_flush (fun n h => (outsAt0 m c n h).2) 2 (fun _ => (0 : EReal))
    (fun t j => k0_pay1 (F := Ideal) (b1 m c t) (b0 m c t) j)
    (fun t h j => by
      rw [outsAt0_A m c t h (by omega) (by omega)]
      frame_out
      exact (pay2_eq (b1 m c t) (b0 m c t) j).trans (zero_add _).symm)
    (fun t h j => by
      rw [outsAt0_B m c t h (by omega) (by omega)]
      frame_out
      rw [read_unread_whole]
      exact pay3_eq (b1 m c t) (b0 m c t) _ j)
    t h (ix2 r s)).trans ?_
  rw [zero_add]
  unfold Cert.GdownRefIdeal.Product.entry
  simp only [pay1_at, read0, read1]
  have hlt := val_lt t
  refine Fin.sum_mul_add_congr fun p k hl => ?_
  have e0 : row ⟨2 * (t.val / 2) + p.val, by omega⟩ r = row t r := by
    unfold row
    exact Fin.ext (by dsimp only; omega)
  have e1 : mid ⟨2 * (t.val / 2) + p.val, by omega⟩ k = ⟨p.val * 4096 + k.val, hl⟩ := by
    unfold mid
    exact Fin.ext (by dsimp only; omega)
  rw [e0, e1]

/-- What the points that store leave in the array, at every index. -/
def spread : FVec Ideal S4x3584x1024 .f32 := fun i =>
  Cert.GdownRefIdeal.Product.entry (X0 m c) (X1 m c)
    (⟨(i 0).val * 1024 + (i 1).val % 1024, by have : (i 0).val < 4 := (i 0).isLt; omega⟩ : Fin 4096) (i 2)

/-- The place in the array of an index of point `t`'s block. -/
def place (t : Fin cfg0.N) (z : S1x1024x1024.Idx) : S4x3584x1024.Idx :=
  ix3 (shard t) (⟨1024 + (z 1).val, by have : (z 1).val < 1024 := (z 1).isLt; omega⟩ : Fin 3584) (z 2)

theorem point_store (t : Fin cfg0.N) (h : t.val % 2 = 1) (r s : Fin 1024) :
    k0_pay4 (F := Ideal) (outsAt0 m c t.val t.isLt).2 (ix3 (0 : Fin 1) r s) = spread m c (place t (ix3 (0 : Fin 1) r s)) := by
  refine (pay4_at _ r s).trans ((point m c t h r s).trans ?_)
  unfold spread
  refine congrArg (fun i => Cert.GdownRefIdeal.Product.entry (X0 m c) (X1 m c) i s) (Fin.ext ?_)
  show t.val / 2 * 1024 + r.val = t.val / 2 * 1024 + (1024 + r.val) % 1024
  omega

theorem stored (t : Fin cfg0.N) (h : t.val % 2 = 1) (z : S1x1024x1024.Idx) :
    (outsAt0 m c t.val t.isLt).1 z = spread m c (place t z) := by
  obtain ⟨r, s, rfl⟩ : ∃ (r s : Fin 1024), z = ix3 (0 : Fin 1) r s :=
    ⟨z 1, z 2, by
      refine (eq_ix3 z).trans ?_
      rw [show z 0 = (0 : Fin 1) from Fin.ext (Nat.lt_one_iff.mp (z 0).isLt)]⟩
  have key := point_store m c t h r s
  revert key
  rw [outsAt0_B m c t (by omega) h h]
  frame_out
  exact id

/-- After all grid points the array holds the gradient in its rows 1024 to 2047. -/
theorem array_at (p : Fin 4) (r s : Fin 1024) :
    (dats m 0 c).arrAt 2 (cfgs 0).N (ix3 p (⟨1024 + r.val, by omega⟩ : Fin 3584) s)
      = Cert.GdownRefIdeal.Product.result (X0 m c) (X1 m c) (ix3 p r s) := by
  refine ((dats m 0 c).arrAt_apply_of_coversWhere 2 (spread m c) (fun β => β (1 : Fin _) = 1) (by decide +kernel)
    (P := fun i => (i 1 : ℕ) / 1024 = 1) (fun t hf y => ?_) (fun j => Iff.rfl) (ix3 p (⟨1024 + r.val, by omega⟩ : Fin 3584) s)).trans ?_
  · have h : t.val % 2 = 1 := (flush0_2 t).mp hf
    have hy : (((cfg0.win 2).blk t).view.emb y : S4x3584x1024.Idx) = place t ((cfg0.win 2).xinj (cfg0.grid.coords t) y) := by
      have h0 : (y 0).val < 1 := ((cfg0.win 2).xinj (cfg0.grid.coords t) y 0).isLt
      unfold place shard
      blk_ext [idx t]
    rw [hy, after0_2]
    exact stored m c t h _
  · refine (if_pos (show (1024 + r.val) / 1024 = 1 by omega)).trans ?_
    rw [Cert.GdownRefIdeal.Product.result_at]
    unfold spread
    refine congrArg (fun i => Cert.GdownRefIdeal.Product.entry (X0 m c) (X1 m c) i s) (Fin.ext ?_)
    show p.val * 1024 + (1024 + r.val) % 1024 = p.val * 1024 + r.val
    omega

/-- What the lines after the region leave in the result is the reference's. -/
theorem final : Pipeline.afterTail₀ cfgs (dats m) 0 (V0 m) [hostOps1] c main_v1 = Cert.GdownRefIdeal.Product.result (X0 m c) (X1 m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v0)
      = (dats m 0 c).arrAt 2 (cfgs 0).N := Pipeline.withArrays_arr (cfgs 0).spec (by decide) c (V0 m c) _ 2
  rw [e]
  funext i
  obtain ⟨p, r, s, rfl⟩ : ∃ (p : Fin 4) (r s : Fin 1024), i = ix3 p r s := ⟨i 0, i 1, i 2, eq_ix3 i⟩
  refine Eq.trans ?_ (array_at m c p r s)
  generalize (dats m 0 c).arrAt 2 (cfgs 0).N = Z
  pointwise []

end Cert.GdownIdeal.Product

end
-- ==== Proof.ProductGup.lean ====
/- The gradient of the widening product with respect to its weight, hᵀ @ dup, written into its rows of the gradients' buffer. -/
module

public import proofs.«01_k».proof.Proof.Gen.GupIdeal.Frame
public import proofs.«01_k».proof.Proof.Gen.GupRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GupRefIdeal.Product

open Idealize.ShloMosaic Idealize.ShloMosaic.TcCoe Idealize.SL.Sem
open Cert.GupRefIdeal Cert.GupRefIdeal.Gen

variable (X0 : FVec Ideal S8192x1024 .bf16) (X1 : FVec Ideal S8192x4096 .bf16) (X2 : FVec Ideal S4x3584x1024 .f32)

/-- The entry in row `i` and column `j` of the gradient. -/
def entry (i : Fin 1024) (j : Fin 4096) : EReal := ∑ l : Fin 8192, X0 (ix2 l i) * X1 (ix2 l j)

/-- The gradient, as the reference computes it. -/
def grad : FVec Ideal S1024x4096 .f32 :=
  transpose S1024x4096 [1, 0] (Host.dotGeneral dot_S8192x4096_S8192x1024_S4096x1024_0_0_1_1_n_n none (extf .f32 X1 bitsLt_bf16_f32) (extf .f32 X0 bitsLt_bf16_f32)) transposes_S4096x1024_S1024x4096_1_0

theorem grad_at (i : Fin 1024) (j : Fin 4096) : grad X0 X1 (ix2 i j) = entry X0 X1 i j := by
  pointwise [grad]
  exact Finset.sum_congr rfl fun l _ => mul_comm _ _

/-- The reference's result: the buffer with the gradient in its first 1024 rows, its columns in four shards. -/
def result : FVec Ideal S4x3584x1024 .f32 :=
  concatenate S4x3584x1024 1 [⟨S4x1024x1024, transpose S4x1024x1024 [1, 0, 2] (shapeCast _ (grad X0 X1) shapeCasts_S1024x4096_S1024x4x1024) transposes_S1024x4x1024_S4x1024x1024_1_0_2⟩,
    ⟨S4x2560x1024, extractStridedSlice S4x2560x1024 ![0, 1024, 0] X2 slices_S4x3584x1024_S4x2560x1024_0_1024_0⟩]
    concatenates_S4x1024x1024_S4x2560x1024_S4x3584x1024_d1

/-- In the rows of the gradient the result is the gradient. -/
theorem result_in (p : Fin 4) (r s : Fin 1024) : result X0 X1 X2 (ix3 p (⟨r.val, by omega⟩ : Fin 3584) s)
    = entry X0 X1 r ⟨p.val * 1024 + s.val, by omega⟩ := by
  rw [← grad_at]
  pointwise [result]

/-- Two names of one row of the buffer. -/
theorem row_at (X : FVec Ideal S4x3584x1024 .f32) (p : Fin 4) (s : Fin 1024) (q q' : Fin 3584) (h : q.val = q'.val) :
    X (ix3 p q s) = X (ix3 p q' s) := by
  rw [Fin.ext h]

/-- Outside the rows of the gradient the result is the buffer. -/
theorem result_out (i : S4x3584x1024.Idx) (h : ¬(i 1 : ℕ) / 1024 = 0) : result X0 X1 X2 i = X2 i := by
  obtain ⟨p, q, s, rfl⟩ : ∃ p q s, i = ix3 p q s := ⟨i 0, i 1, i 2, eq_ix3 i⟩
  have hq : ¬q.val / 1024 = 0 := h
  pointwise [result]
  split_ifs <;> first
    | omega
    | exact row_at X2 p s _ _ (by dsimp only; omega)

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GupRefIdeal.Value.run m ρ

end Cert.GupRefIdeal.Product

namespace Cert.GupIdeal.Product

open Idealize.ShloMosaic Idealize.ShloMosaic.TcCoe Idealize.SL.Sem
open Cert.GupIdeal Cert.GupIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x4096 .bf16 := m ((c : Thread nD τ).loc main_arg1)
abbrev X2 : FVec Ideal S4x3584x1024 .f32 := m ((c : Thread nD τ).loc main_arg2)
abbrev b0 (t : Fin cfg0.N) : FVec Ideal S4096x1024 .bf16 := iblk m c 0 t
abbrev b1 (t : Fin cfg0.N) : FVec Ideal S4096x1024 .bf16 := iblk m c 1 t

/-- Where each window's block lies at a grid point. -/
theorem idx : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

theorem val_lt (t : Fin cfg0.N) : t.val < 8 := lt_of_lt_of_eq t.isLt N_0

/-- The shard whose rows point `t`'s block is, the gradient's column at column `s` of the block, and the place in the sum of its `k`-th row. -/
def shard (t : Fin cfg0.N) : Fin 4 := ⟨t.val / 2, by have := val_lt t; omega⟩
def col (t : Fin cfg0.N) (s : Fin 1024) : Fin 4096 := ⟨t.val / 2 * 1024 + s.val, by have := val_lt t; omega⟩
def mid (t : Fin cfg0.N) (k : Fin 4096) : Fin 8192 := ⟨t.val % 2 * 4096 + k.val, by have := val_lt t; omega⟩

theorem read0 (t : Fin cfg0.N) (k : Fin 4096) (r : Fin 1024) : b0 m c t (ix2 k r) = X0 m c (ix2 (mid t k) r) := by
  unfold mid
  rw [show X0 m c = V m c main_arg0 from (V_main_arg0 m c).symm]
  blk_ext [iblk, idx t]
theorem read1 (t : Fin cfg0.N) (k : Fin 4096) (s : Fin 1024) : b1 m c t (ix2 k s) = X1 m c (ix2 (mid t k) (col t s)) := by
  unfold mid col
  rw [show X1 m c = V m c main_arg1 from (V_main_arg1 m c).symm]
  blk_ext [iblk, idx t]

/-- What one grid point computes from its two blocks, what it leaves in the scratch array and what it stores. -/
theorem pay1_at (v0 v1 : FVec Ideal S4096x1024 .bf16) (r s : Fin 1024) :
    k0_pay1 (F := Ideal) v0 v1 (ix2 r s) = ∑ k : Fin 4096, v1 (ix2 k r) * v0 (ix2 k s) := by
  pointwise [k0_pay1]
theorem pay4_at (a : FVec Ideal S1024x1024 .f32) (r s : Fin 1024) : k0_pay4 (F := Ideal) a (ix3 (0 : Fin 1) r s) = a (ix2 r s) := by
  pointwise [k0_pay4]
theorem pay2_eq (v0 : FVec Ideal S4096x1024 .bf16) (v1 : FVec Ideal S4096x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S4096x1024 .bf16) (v1 : FVec Ideal S4096x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- A grid point that stores a block has the block of the gradient in the scratch array. -/
theorem point (t : Fin cfg0.N) (h : t.val % 2 = 1) (r s : Fin 1024) : (outsAt0 m c t.val t.isLt).2 (ix2 r s)
    = Cert.GupRefIdeal.Product.entry (X0 m c) (X1 m c) r (col t s) := by
  refine (Pipeline.eq_sum_fin_of_reset_step_apply_of_flush (fun n h => (outsAt0 m c n h).2) 2 (fun _ => (0 : EReal))
    (fun t j => k0_pay1 (F := Ideal) (b1 m c t) (b0 m c t) j)
    (fun t h j => by
      rw [outsAt0_A m c t h (by omega) (by omega)]
      frame_out
      exact (pay2_eq (b1 m c t) (b0 m c t) j).trans (zero_add _).symm)
    (fun t h j => by
      rw [outsAt0_B m c t h (by omega) (by omega)]
      frame_out
      rw [read_unread_whole]
      exact pay3_eq (b1 m c t) (b0 m c t) _ j)
    t h (ix2 r s)).trans ?_
  rw [zero_add]
  unfold Cert.GupRefIdeal.Product.entry
  simp only [pay1_at, read0, read1]
  have hlt := val_lt t
  refine Fin.sum_mul_add_congr fun p k hl => ?_
  have e0 : col ⟨2 * (t.val / 2) + p.val, by omega⟩ s = col t s := by
    unfold col
    exact Fin.ext (by dsimp only; omega)
  have e1 : mid ⟨2 * (t.val / 2) + p.val, by omega⟩ k = ⟨p.val * 4096 + k.val, hl⟩ := by
    unfold mid
    exact Fin.ext (by dsimp only; omega)
  rw [e0, e1]

/-- What such a point stores is the reference's. -/
theorem point_store (t : Fin cfg0.N) (h : t.val % 2 = 1) (r s : Fin 1024) :
    k0_pay4 (F := Ideal) (outsAt0 m c t.val t.isLt).2 (ix3 (0 : Fin 1) r s)
      = Cert.GupRefIdeal.Product.result (X0 m c) (X1 m c) (X2 m c) (ix3 (shard t) (⟨r.val, by omega⟩ : Fin 3584) s) :=
  (pay4_at _ r s).trans ((point m c t h r s).trans (Cert.GupRefIdeal.Product.result_in _ _ _ (shard t) r s).symm)

/-- The place in the result array of an index of point `t`'s block. -/
def place (t : Fin cfg0.N) (z : S1x1024x1024.Idx) : S4x3584x1024.Idx := ix3 (shard t) (⟨(z 1).val, by have : (z 1).val < 1024 := (z 1).isLt; omega⟩ : Fin 3584) (z 2)

theorem stored (t : Fin cfg0.N) (h : t.val % 2 = 1) (z : S1x1024x1024.Idx) :
    (outsAt0 m c t.val t.isLt).1 z = Cert.GupRefIdeal.Product.result (X0 m c) (X1 m c) (X2 m c) (place t z) := by
  obtain ⟨r, s, rfl⟩ : ∃ (r s : Fin 1024), z = ix3 (0 : Fin 1) r s :=
    ⟨z 1, z 2, by
      refine (eq_ix3 z).trans ?_
      rw [show z 0 = (0 : Fin 1) from Fin.ext (Nat.lt_one_iff.mp (z 0).isLt)]⟩
  have key := point_store m c t h r s
  revert key
  rw [outsAt0_B m c t (by omega) h h]
  frame_out
  exact id

/-- The region finds the result array a copy of the buffer it is given. -/
theorem entry_buf : V m c main_v0 = X2 m c := by
  unfold V
  after_results
  rfl

/-- The array after all grid points is the reference's result: the stored blocks, and the buffer's own entries elsewhere. -/
theorem final : (dats m 0 c).arrAt 2 (cfgs 0).N = Cert.GupRefIdeal.Product.result (X0 m c) (X1 m c) (X2 m c) := by
  refine (dats m 0 c).arrAt_eq_of_coversWhere_of_agree 2 (Cert.GupRefIdeal.Product.result (X0 m c) (X1 m c) (X2 m c))
    (fun β => β (1 : Fin _) = 0) (by decide +kernel) (fun t hf y => ?_) (fun j hj => ?_)
  · have h : t.val % 2 = 1 := (flush0_2 t).mp hf
    have hy : (((cfg0.win 2).blk t).view.emb y : S4x3584x1024.Idx) = place t ((cfg0.win 2).xinj (cfg0.grid.coords t) y) := by
      have h0 : (y 0).val < 1 := ((cfg0.win 2).xinj (cfg0.grid.coords t) y 0).isLt
      unfold place shard
      blk_ext [idx t]
    rw [hy, after0_2]
    exact stored m c t h _
  · exact (congrFun (entry_buf m c) _).trans (Cert.GupRefIdeal.Product.result_out _ _ _ _ hj).symm

end Cert.GupIdeal.Product

end
-- ==== Proof.ProductOuta.lean ====
/- The first half of the output projection added to the step's activations: x + oa @ w_out, the weight's rows in two shards. -/
module

public import proofs.«01_k».proof.Proof.Gen.OutaIdeal.Frame
public import proofs.«01_k».proof.Proof.Gen.OutaRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.OutaRefIdeal.Product

open Idealize.ShloMosaic Idealize.ShloMosaic.TcCoe Idealize.SL.Sem
open Cert.OutaRefIdeal Cert.OutaRefIdeal.Gen

variable (X0 : FVec Ideal S8192x1024 .bf16) (X1 : FVec Ideal S4x3584x1024 .bf16) (X2 : FVec Ideal S8192x1024 .f32)

/-- The weight's entry in row `l` and column `j`, read from the shards. -/
def wAt (l j : Fin 1024) : EReal :=
  X1 (ix3 (⟨l.val / 512, by omega⟩ : Fin 4) (⟨2048 + l.val % 512, by omega⟩ : Fin 3584) j)

/-- The entry in row `i` and column `j` of the product. -/
def entry (i : Fin 8192) (j : Fin 1024) : EReal := ∑ l : Fin 1024, X0 (ix2 i l) * wAt X1 l j

/-- The weight, as the reference puts it together from the shards. -/
def weight : FVec Ideal S1024x1024 .f32 :=
  extractStridedSlice S1024x1024 ![0, 0] (extf .f32 (shapeCast _ (extractStridedSlice S4x512x1024 ![0, 2048, 0] X1 slices_S4x3584x1024_S4x512x1024_0_2048_0) shapeCasts_S4x512x1024_S2048x1024) bitsLt_bf16_f32) slices_S2048x1024_S1024x1024_0_0

theorem weight_at (l j : Fin 1024) : weight X1 (ix2 l j) = wAt X1 l j := by
  pointwise [weight, wAt]

/-- The reference's result. -/
def result : FVec Ideal S8192x1024 .f32 :=
  addf X2 (Host.dotGeneral dot_S8192x1024_S1024x1024_S8192x1024_1_0_0_1_n_n none (extf .f32 X0 bitsLt_bf16_f32) (weight X1))

theorem result_at (i : Fin 8192) (j : Fin 1024) : result X0 X1 X2 (ix2 i j) = X2 (ix2 i j) + entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.OutaRefIdeal.Value.run m ρ

end Cert.OutaRefIdeal.Product

namespace Cert.OutaIdeal.Product

open Idealize.ShloMosaic Idealize.ShloMosaic.TcCoe Idealize.SL.Sem
open Cert.OutaIdeal Cert.OutaIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev X2 : FVec Ideal S8192x1024 .f32 := m ((c : Thread nD τ).loc main_arg2)
abbrev b0 (t : Fin cfg0.N) : FVec Ideal S1024x1024 .bf16 := iblk m c 0 t
abbrev b1 (t : Fin cfg0.N) : FVec Ideal S2x512x1024 .bf16 := iblk m c 1 t
abbrev b2 (t : Fin cfg0.N) : FVec Ideal S1024x1024 .f32 := iblk m c 2 t

/-- Where each window's block lies at a grid point. -/
theorem idx : ∀ t : Fin cfg0.N, win0_0.index t = ![t.val, 0]
    ∧ win0_1.index t = ![0, 4, 0]
    ∧ win0_2.index t = ![t.val, 0]
    ∧ win0_3.index t = ![t.val, 0] :=
  (by decide +kernel : ∀ t : Fin grid0.N, _)

theorem val_lt (t : Fin cfg0.N) : t.val < 8 := lt_of_lt_of_eq t.isLt N_0

/-- The array's row at row `r` of point `t`'s block. -/
def row (t : Fin cfg0.N) (r : Fin 1024) : Fin 8192 := ⟨t.val * 1024 + r.val, by have := val_lt t; omega⟩

theorem read0 (t : Fin cfg0.N) (r : Fin 1024) (k : Fin 1024) : b0 m c t (ix2 r k) = X0 m c (ix2 (row t r) k) := by
  unfold row
  blk_ext [iblk, V, idx t]
theorem read1 (t : Fin cfg0.N) (k s : Fin 1024) :
    b1 m c t (ix3 (⟨k.val / 512, by omega⟩ : Fin 2) (⟨k.val % 512, by omega⟩ : Fin 512) s)
      = Cert.OutaRefIdeal.Product.wAt (X1 m c) k s := by
  unfold Cert.OutaRefIdeal.Product.wAt
  blk_ext [iblk, V, idx t]
theorem read2 (t : Fin cfg0.N) (r : Fin 1024) (s : Fin 1024) : b2 m c t (ix2 r s) = X2 m c (ix2 (row t r) s) := by
  unfold row
  blk_ext [iblk, V, idx t]

/-- What one grid point stores, from its blocks. -/
theorem pay1_at (v0 : FVec Ideal S2x512x1024 .bf16) (v1 : FVec Ideal S1024x1024 .bf16) (v4 : FVec Ideal S1024x1024 .f32) (r : Fin 1024) (s : Fin 1024) :
    k0_pay1 (F := Ideal) v0 v1 v4 (ix2 r s) = v4 (ix2 r s) + ∑ k : Fin 1024, v1 (ix2 r k) * v0 (ix3 (⟨k.val / 512, by omega⟩ : Fin 2) (⟨k.val % 512, by omega⟩ : Fin 512) s) := by
  pointwise [k0_pay1]

/-- A grid point's block is the reference's. -/
theorem point (t : Fin cfg0.N) (r : Fin 1024) (s : Fin 1024) : k0_pay1 (F := Ideal) (b1 m c t) (b0 m c t) (b2 m c t) (ix2 r s)
    = Cert.OutaRefIdeal.Product.result (X0 m c) (X1 m c) (X2 m c) (ix2 (row t r) s) := by
  rw [Cert.OutaRefIdeal.Product.result_at, pay1_at, read2]
  unfold Cert.OutaRefIdeal.Product.entry
  simp only [read0, read1]

/-- The array after all grid points is the reference's result. -/
theorem final : (dats m 0 c).arrAt 3 (cfgs 0).N = Cert.OutaRefIdeal.Product.result (X0 m c) (X1 m c) (X2 m c) := by
  refine (dats m 0 c).arrAt_eq_of_covers 3 _ (by decide +kernel) fun t _ y => ?_
  blk_simp
  rw [after0_3]
  have hy : (((View.whole main_v0).slice (win0_3.rect t)).emb y : S8192x1024.Idx) = ix2 (row t (y 0)) (y 1) := by
    unfold row
    blk_ext [idx t]
  have key : k0_pay1 (F := Ideal) (b1 m c t) (b0 m c t) (b2 m c t) y
      = Cert.OutaRefIdeal.Product.result (X0 m c) (X1 m c) (X2 m c) (((View.whole main_v0).slice (win0_3.rect t)).emb y) := by
    rw [hy]
    exact (congrArg _ (eq_ix2 y)).trans (point m c t (y 0) (y 1))
  unfold outsAt0
  frame_out
  exact key

end Cert.OutaIdeal.Product

end
-- ==== Proof.ProductQ.lean ====
/- The attention's queries: h @ wq, the weight's rows in four shards. -/
module

public import proofs.«01_k».proof.Proof.Gen.QIdeal.Frame
public import proofs.«01_k».proof.Proof.Gen.QRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.QRefIdeal.Product

open Idealize.ShloMosaic Idealize.ShloMosaic.TcCoe Idealize.SL.Sem
open Cert.QRefIdeal Cert.QRefIdeal.Gen

variable (X0 : FVec Ideal S8192x1024 .bf16) (X1 : FVec Ideal S4x3584x1024 .bf16)

/-- The weight's entry in row `l` and column `j`, read from the shards. -/
def wAt (l j : Fin 1024) : EReal :=
  X1 (ix3 (⟨l.val / 256, by omega⟩ : Fin 4) (⟨2560 + l.val % 256, by omega⟩ : Fin 3584) j)

/-- The entry in row `i` and column `j` of the product. -/
def entry (i : Fin 8192) (j : Fin 1024) : EReal := ∑ l : Fin 1024, X0 (ix2 i l) * wAt X1 l j

/-- The weight, as the reference puts it together from the shards. -/
def weight : FVec Ideal S1024x1024 .f32 :=
  extf .f32 (shapeCast _ (extractStridedSlice S4x256x1024 ![0, 2560, 0] X1 slices_S4x3584x1024_S4x256x1024_0_2560_0) shapeCasts_S4x256x1024_S1024x1024) bitsLt_bf16_f32

theorem weight_at (l j : Fin 1024) : weight X1 (ix2 l j) = wAt X1 l j := by
  pointwise [weight, wAt]

/-- The reference's result. -/
def result : FVec Ideal S8192x1024 .bf16 :=
  truncf .bf16 (Host.dotGeneral dot_S8192x1024_S1024x1024_S8192x1024_1_0_0_1_n_n none (extf .f32 X0 bitsLt_bf16_f32) (weight X1)) bitsLt_bf16_f32

theorem result_at (i : Fin 8192) (j : Fin 1024) : result X0 X1 (ix2 i j) = entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.QRefIdeal.Value.run m ρ

end Cert.QRefIdeal.Product

namespace Cert.QIdeal.Product

open Idealize.ShloMosaic Idealize.ShloMosaic.TcCoe Idealize.SL.Sem
open Cert.QIdeal Cert.QIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev b0 (t : Fin cfg0.N) : FVec Ideal S1024x1024 .bf16 := iblk m c 0 t
abbrev b1 (t : Fin cfg0.N) : FVec Ideal S4x256x1024 .bf16 := iblk m c 1 t

/-- Where each window's block lies at a grid point. -/
theorem idx : ∀ t : Fin cfg0.N, win0_0.index t = ![t.val, 0]
    ∧ win0_1.index t = ![0, 10, 0]
    ∧ win0_2.index t = ![t.val, 0] :=
  (by decide +kernel : ∀ t : Fin grid0.N, _)

theorem val_lt (t : Fin cfg0.N) : t.val < 8 := lt_of_lt_of_eq t.isLt N_0

/-- The array's row at row `r` of point `t`'s block. -/
def row (t : Fin cfg0.N) (r : Fin 1024) : Fin 8192 := ⟨t.val * 1024 + r.val, by have := val_lt t; omega⟩

theorem read0 (t : Fin cfg0.N) (r : Fin 1024) (k : Fin 1024) : b0 m c t (ix2 r k) = X0 m c (ix2 (row t r) k) := by
  unfold row
  blk_ext [iblk, V, idx t]
theorem read1 (t : Fin cfg0.N) (k s : Fin 1024) :
    b1 m c t (ix3 (⟨k.val / 256, by omega⟩ : Fin 4) (⟨k.val % 256, by omega⟩ : Fin 256) s)
      = Cert.QRefIdeal.Product.wAt (X1 m c) k s := by
  unfold Cert.QRefIdeal.Product.wAt
  blk_ext [iblk, V, idx t]

/-- What one grid point stores, from its blocks. -/
theorem pay1_at (v0 : FVec Ideal S4x256x1024 .bf16) (v1 : FVec Ideal S1024x1024 .bf16) (r : Fin 1024) (s : Fin 1024) :
    k0_pay1 (F := Ideal) v0 v1 (ix2 r s) = ∑ k : Fin 1024, v1 (ix2 r k) * v0 (ix3 (⟨k.val / 256, by omega⟩ : Fin 4) (⟨k.val % 256, by omega⟩ : Fin 256) s) := by
  pointwise [k0_pay1]

/-- A grid point's block is the reference's. -/
theorem point (t : Fin cfg0.N) (r : Fin 1024) (s : Fin 1024) : k0_pay1 (F := Ideal) (b1 m c t) (b0 m c t) (ix2 r s)
    = Cert.QRefIdeal.Product.result (X0 m c) (X1 m c) (ix2 (row t r) s) := by
  rw [Cert.QRefIdeal.Product.result_at, pay1_at]
  unfold Cert.QRefIdeal.Product.entry
  simp only [read0, read1]

/-- The array after all grid points is the reference's result. -/
theorem final : (dats m 0 c).arrAt 2 (cfgs 0).N = Cert.QRefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x1024.Idx) = ix2 (row t (y 0)) (y 1) := by
    unfold row
    blk_ext [idx t]
  have key : k0_pay1 (F := Ideal) (b1 m c t) (b0 m c t) y
      = Cert.QRefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.QIdeal.Product

end
-- ==== Proof.ProductDao.lean ====
/- The gradient of the attention's result: dx @ woᵀ, the weight's rows in four shards. -/
module

public import proofs.«01_k».proof.Proof.Gen.DaoIdeal.Frame
public import proofs.«01_k».proof.Proof.Gen.DaoRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DaoRefIdeal.Product

open Idealize.ShloMosaic Idealize.ShloMosaic.TcCoe Idealize.SL.Sem
open Cert.DaoRefIdeal Cert.DaoRefIdeal.Gen

variable (X0 : FVec Ideal S8192x1024 .bf16) (X1 : FVec Ideal S4x3584x1024 .bf16)

/-- The weight's entry in row `l` and column `j`, read from the shards. -/
def wAt (l j : Fin 1024) : EReal :=
  X1 (ix3 (⟨l.val / 256, by omega⟩ : Fin 4) (⟨3328 + l.val % 256, by omega⟩ : Fin 3584) j)

/-- The entry in row `i` and column `j` of the product. -/
def entry (i : Fin 8192) (j : Fin 1024) : EReal := ∑ l : Fin 1024, X0 (ix2 i l) * wAt X1 j l

/-- The weight, as the reference puts it together from the shards. -/
def weight : FVec Ideal S1024x1024 .f32 :=
  extf .f32 (shapeCast _ (extractStridedSlice S4x256x1024 ![0, 3328, 0] X1 slices_S4x3584x1024_S4x256x1024_0_3328_0) shapeCasts_S4x256x1024_S1024x1024) bitsLt_bf16_f32

theorem weight_at (l j : Fin 1024) : weight X1 (ix2 l j) = wAt X1 l j := by
  pointwise [weight, wAt]

/-- The reference's result. -/
def result : FVec Ideal S8192x1024 .f32 :=
  Host.dotGeneral dot_S8192x1024_S1024x1024_S8192x1024_1_1_0_0_n_n none (extf .f32 X0 bitsLt_bf16_f32) (weight X1)

theorem result_at (i : Fin 8192) (j : Fin 1024) : result X0 X1 (ix2 i j) = entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.DaoRefIdeal.Value.run m ρ

end Cert.DaoRefIdeal.Product

namespace Cert.DaoIdeal.Product

open Idealize.ShloMosaic Idealize.ShloMosaic.TcCoe Idealize.SL.Sem
open Cert.DaoIdeal Cert.DaoIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev b0 (t : Fin cfg0.N) : FVec Ideal S1024x1024 .bf16 := iblk m c 0 t
abbrev b1 (t : Fin cfg0.N) : FVec Ideal S4x256x1024 .bf16 := iblk m c 1 t

/-- Where each window's block lies at a grid point. -/
theorem idx : ∀ t : Fin cfg0.N, win0_0.index t = ![t.val, 0]
    ∧ win0_1.index t = ![0, 13, 0]
    ∧ win0_2.index t = ![t.val, 0] :=
  (by decide +kernel : ∀ t : Fin grid0.N, _)

theorem val_lt (t : Fin cfg0.N) : t.val < 8 := lt_of_lt_of_eq t.isLt N_0

/-- The array's row at row `r` of point `t`'s block. -/
def row (t : Fin cfg0.N) (r : Fin 1024) : Fin 8192 := ⟨t.val * 1024 + r.val, by have := val_lt t; omega⟩

theorem read0 (t : Fin cfg0.N) (r : Fin 1024) (k : Fin 1024) : b0 m c t (ix2 r k) = X0 m c (ix2 (row t r) k) := by
  unfold row
  blk_ext [iblk, V, idx t]
theorem read1 (t : Fin cfg0.N) (k s : Fin 1024) :
    b1 m c t (ix3 (⟨k.val / 256, by omega⟩ : Fin 4) (⟨k.val % 256, by omega⟩ : Fin 256) s)
      = Cert.DaoRefIdeal.Product.wAt (X1 m c) k s := by
  unfold Cert.DaoRefIdeal.Product.wAt
  blk_ext [iblk, V, idx t]

/-- What one grid point stores, from its blocks. -/
theorem pay1_at (v0 : FVec Ideal S4x256x1024 .bf16) (v1 : FVec Ideal S1024x1024 .bf16) (r : Fin 1024) (s : Fin 1024) :
    k0_pay1 (F := Ideal) v0 v1 (ix2 r s) = ∑ k : Fin 1024, v1 (ix2 r k) * v0 (ix3 (⟨s.val / 256, by omega⟩ : Fin 4) (⟨s.val % 256, by omega⟩ : Fin 256) k) := by
  pointwise [k0_pay1]

/-- A grid point's block is the reference's. -/
theorem point (t : Fin cfg0.N) (r : Fin 1024) (s : Fin 1024) : k0_pay1 (F := Ideal) (b1 m c t) (b0 m c t) (ix2 r s)
    = Cert.DaoRefIdeal.Product.result (X0 m c) (X1 m c) (ix2 (row t r) s) := by
  rw [Cert.DaoRefIdeal.Product.result_at, pay1_at]
  unfold Cert.DaoRefIdeal.Product.entry
  simp only [read0, read1]

/-- The array after all grid points is the reference's result. -/
theorem final : (dats m 0 c).arrAt 2 (cfgs 0).N = Cert.DaoRefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x1024.Idx) = ix2 (row t (y 0)) (y 1) := by
    unfold row
    blk_ext [idx t]
  have key : k0_pay1 (F := Ideal) (b1 m c t) (b0 m c t) y
      = Cert.DaoRefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.DaoIdeal.Product

end
-- ==== Proof.ProductDoa.lean ====
/- The gradient of the output projection's first operand: dx @ w_outᵀ for the first half of its rows. -/
module

public import proofs.«01_k».proof.Proof.Gen.DoaIdeal.Frame
public import proofs.«01_k».proof.Proof.Gen.DoaRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DoaRefIdeal.Product

open Idealize.ShloMosaic Idealize.ShloMosaic.TcCoe Idealize.SL.Sem
open Cert.DoaRefIdeal Cert.DoaRefIdeal.Gen

variable (X0 : FVec Ideal S8192x1024 .bf16) (X1 : FVec Ideal S4x3584x1024 .bf16)

/-- The weight's entry in row `l` and column `j`, read from the shards. -/
def wAt (l j : Fin 1024) : EReal :=
  X1 (ix3 (⟨l.val / 512, by omega⟩ : Fin 4) (⟨2048 + l.val % 512, by omega⟩ : Fin 3584) j)

/-- The entry in row `i` and column `j` of the product. -/
def entry (i : Fin 8192) (j : Fin 1024) : EReal := ∑ l : Fin 1024, X0 (ix2 i l) * wAt X1 j l

/-- The weight, as the reference puts it together from the shards. -/
def weight : FVec Ideal S1024x1024 .f32 :=
  extractStridedSlice S1024x1024 ![0, 0] (extf .f32 (shapeCast _ (extractStridedSlice S4x512x1024 ![0, 2048, 0] X1 slices_S4x3584x1024_S4x512x1024_0_2048_0) shapeCasts_S4x512x1024_S2048x1024) bitsLt_bf16_f32) slices_S2048x1024_S1024x1024_0_0

theorem weight_at (l j : Fin 1024) : weight X1 (ix2 l j) = wAt X1 l j := by
  pointwise [weight, wAt]

/-- The reference's result. -/
def result : FVec Ideal S8192x1024 .f32 :=
  Host.dotGeneral dot_S8192x1024_S1024x1024_S8192x1024_1_1_0_0_n_n none (extf .f32 X0 bitsLt_bf16_f32) (weight X1)

theorem result_at (i : Fin 8192) (j : Fin 1024) : result X0 X1 (ix2 i j) = entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.DoaRefIdeal.Value.run m ρ

end Cert.DoaRefIdeal.Product

namespace Cert.DoaIdeal.Product

open Idealize.ShloMosaic Idealize.ShloMosaic.TcCoe Idealize.SL.Sem
open Cert.DoaIdeal Cert.DoaIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev b0 (t : Fin cfg0.N) : FVec Ideal S2048x1024 .bf16 := iblk m c 0 t
abbrev b1 (t : Fin cfg0.N) : FVec Ideal S2x512x1024 .bf16 := iblk m c 1 t

/-- Where each window's block lies at a grid point. -/
theorem idx : ∀ t : Fin cfg0.N, win0_0.index t = ![t.val, 0]
    ∧ win0_1.index t = ![0, 4, 0]
    ∧ win0_2.index t = ![t.val, 0] :=
  (by decide +kernel : ∀ t : Fin grid0.N, _)

theorem val_lt (t : Fin cfg0.N) : t.val < 4 := lt_of_lt_of_eq t.isLt N_0

/-- The array's row at row `r` of point `t`'s block. -/
def row (t : Fin cfg0.N) (r : Fin 2048) : Fin 8192 := ⟨t.val * 2048 + r.val, by have := val_lt t; omega⟩

theorem read0 (t : Fin cfg0.N) (r : Fin 2048) (k : Fin 1024) : b0 m c t (ix2 r k) = X0 m c (ix2 (row t r) k) := by
  unfold row
  blk_ext [iblk, V, idx t]
theorem read1 (t : Fin cfg0.N) (k s : Fin 1024) :
    b1 m c t (ix3 (⟨k.val / 512, by omega⟩ : Fin 2) (⟨k.val % 512, by omega⟩ : Fin 512) s)
      = Cert.DoaRefIdeal.Product.wAt (X1 m c) k s := by
  unfold Cert.DoaRefIdeal.Product.wAt
  blk_ext [iblk, V, idx t]

/-- What one grid point stores, from its blocks. -/
theorem pay1_at (v0 : FVec Ideal S2x512x1024 .bf16) (v1 : FVec Ideal S2048x1024 .bf16) (r : Fin 2048) (s : Fin 1024) :
    k0_pay1 (F := Ideal) v0 v1 (ix2 r s) = ∑ k : Fin 1024, v1 (ix2 r k) * v0 (ix3 (⟨s.val / 512, by omega⟩ : Fin 2) (⟨s.val % 512, by omega⟩ : Fin 512) k) := by
  pointwise [k0_pay1]

/-- A grid point's block is the reference's. -/
theorem point (t : Fin cfg0.N) (r : Fin 2048) (s : Fin 1024) : k0_pay1 (F := Ideal) (b1 m c t) (b0 m c t) (ix2 r s)
    = Cert.DoaRefIdeal.Product.result (X0 m c) (X1 m c) (ix2 (row t r) s) := by
  rw [Cert.DoaRefIdeal.Product.result_at, pay1_at]
  unfold Cert.DoaRefIdeal.Product.entry
  simp only [read0, read1]

/-- The array after all grid points is the reference's result. -/
theorem final : (dats m 0 c).arrAt 2 (cfgs 0).N = Cert.DoaRefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x1024.Idx) = ix2 (row t (y 0)) (y 1) := by
    unfold row
    blk_ext [idx t]
  have key : k0_pay1 (F := Ideal) (b1 m c t) (b0 m c t) y
      = Cert.DoaRefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.DoaIdeal.Product

end
-- ==== Proof.ProductDob.lean ====
/- The gradient of the output projection's second operand: dx @ w_outᵀ for the second half of its rows. -/
module

public import proofs.«01_k».proof.Proof.Gen.DobIdeal.Frame
public import proofs.«01_k».proof.Proof.Gen.DobRefIdeal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DobRefIdeal.Product

open Idealize.ShloMosaic Idealize.ShloMosaic.TcCoe Idealize.SL.Sem
open Cert.DobRefIdeal Cert.DobRefIdeal.Gen

variable (X0 : FVec Ideal S8192x1024 .bf16) (X1 : FVec Ideal S4x3584x1024 .bf16)

/-- The weight's entry in row `l` and column `j`, read from the shards. -/
def wAt (l j : Fin 1024) : EReal :=
  X1 (ix3 (⟨2 + l.val / 512, by omega⟩ : Fin 4) (⟨2048 + l.val % 512, by omega⟩ : Fin 3584) j)

/-- The entry in row `i` and column `j` of the product. -/
def entry (i : Fin 8192) (j : Fin 1024) : EReal := ∑ l : Fin 1024, X0 (ix2 i l) * wAt X1 j l

/-- The weight, as the reference puts it together from the shards. -/
def weight : FVec Ideal S1024x1024 .f32 :=
  extractStridedSlice S1024x1024 ![1024, 0] (extf .f32 (shapeCast _ (extractStridedSlice S4x512x1024 ![0, 2048, 0] X1 slices_S4x3584x1024_S4x512x1024_0_2048_0) shapeCasts_S4x512x1024_S2048x1024) bitsLt_bf16_f32) slices_S2048x1024_S1024x1024_1024_0

/-- Two names of one entry of the shards. -/
theorem shard_at (X : FVec Ideal S4x3584x1024 .bf16) (s : Fin 1024) (p p' : Fin 4) (q q' : Fin 3584) (hp : p.val = p'.val)
    (hq : q.val = q'.val) : X (ix3 p q s) = X (ix3 p' q' s) := by
  rw [Fin.ext hp, Fin.ext hq]

theorem weight_at (l j : Fin 1024) : weight X1 (ix2 l j) = wAt X1 l j := by
  pointwise [weight, wAt]
  exact shard_at X1 j _ _ _ _ (by dsimp only; omega) (by dsimp only; omega)

/-- The reference's result. -/
def result : FVec Ideal S8192x1024 .f32 :=
  Host.dotGeneral dot_S8192x1024_S1024x1024_S8192x1024_1_1_0_0_n_n none (extf .f32 X0 bitsLt_bf16_f32) (weight X1)

theorem result_at (i : Fin 8192) (j : Fin 1024) : result X0 X1 (ix2 i j) = entry X0 X1 i j := by
  pointwise [result, weight_at, entry]

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.DobRefIdeal.Value.run m ρ

end Cert.DobRefIdeal.Product

namespace Cert.DobIdeal.Product

open Idealize.ShloMosaic Idealize.ShloMosaic.TcCoe Idealize.SL.Sem
open Cert.DobIdeal Cert.DobIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S4x3584x1024 .bf16 := m ((c : Thread nD τ).loc main_arg1)
abbrev b0 (t : Fin cfg0.N) : FVec Ideal S2048x1024 .bf16 := iblk m c 0 t
abbrev b1 (t : Fin cfg0.N) : FVec Ideal S2x512x1024 .bf16 := iblk m c 1 t

/-- Where each window's block lies at a grid point. -/
theorem idx : ∀ t : Fin cfg0.N, win0_0.index t = ![t.val, 0]
    ∧ win0_1.index t = ![1, 4, 0]
    ∧ win0_2.index t = ![t.val, 0] :=
  (by decide +kernel : ∀ t : Fin grid0.N, _)

theorem val_lt (t : Fin cfg0.N) : t.val < 4 := lt_of_lt_of_eq t.isLt N_0

/-- The array's row at row `r` of point `t`'s block. -/
def row (t : Fin cfg0.N) (r : Fin 2048) : Fin 8192 := ⟨t.val * 2048 + r.val, by have := val_lt t; omega⟩

theorem read0 (t : Fin cfg0.N) (r : Fin 2048) (k : Fin 1024) : b0 m c t (ix2 r k) = X0 m c (ix2 (row t r) k) := by
  unfold row
  blk_ext [iblk, V, idx t]
theorem read1 (t : Fin cfg0.N) (k s : Fin 1024) :
    b1 m c t (ix3 (⟨k.val / 512, by omega⟩ : Fin 2) (⟨k.val % 512, by omega⟩ : Fin 512) s)
      = Cert.DobRefIdeal.Product.wAt (X1 m c) k s := by
  unfold Cert.DobRefIdeal.Product.wAt
  blk_ext [iblk, V, idx t]

/-- What one grid point stores, from its blocks. -/
theorem pay1_at (v0 : FVec Ideal S2x512x1024 .bf16) (v1 : FVec Ideal S2048x1024 .bf16) (r : Fin 2048) (s : Fin 1024) :
    k0_pay1 (F := Ideal) v0 v1 (ix2 r s) = ∑ k : Fin 1024, v1 (ix2 r k) * v0 (ix3 (⟨s.val / 512, by omega⟩ : Fin 2) (⟨s.val % 512, by omega⟩ : Fin 512) k) := by
  pointwise [k0_pay1]

/-- A grid point's block is the reference's. -/
theorem point (t : Fin cfg0.N) (r : Fin 2048) (s : Fin 1024) : k0_pay1 (F := Ideal) (b1 m c t) (b0 m c t) (ix2 r s)
    = Cert.DobRefIdeal.Product.result (X0 m c) (X1 m c) (ix2 (row t r) s) := by
  rw [Cert.DobRefIdeal.Product.result_at, pay1_at]
  unfold Cert.DobRefIdeal.Product.entry
  simp only [read0, read1]

/-- The array after all grid points is the reference's result. -/
theorem final : (dats m 0 c).arrAt 2 (cfgs 0).N = Cert.DobRefIdeal.Product.result (X0 m c) (X1 m c) := by
  refine (dats m 0 c).arrAt_eq_of_covers 2 _ (by decide +kernel) fun t _ y => ?_
  blk_simp
  rw [after0_2]
  have hy : (((View.whole main_v0).slice (win0_2.rect t)).emb y : S8192x1024.Idx) = ix2 (row t (y 0)) (y 1) := by
    unfold row
    blk_ext [idx t]
  have key : k0_pay1 (F := Ideal) (b1 m c t) (b0 m c t) y
      = Cert.DobRefIdeal.Product.result (X0 m c) (X1 m c) (((View.whole main_v0).slice (win0_2.rect t)).emb y) := by
    rw [hy]
    exact (congrArg _ (eq_ix2 y)).trans (point m c t (y 0) (y 1))
  unfold outsAt0
  frame_out
  exact key

end Cert.DobIdeal.Product

end
-- ==== Proof.ProductGwo.lean ====
/- The gradient of the attention's output weight, aoᵀ @ dx, written into its rows of the gradients' buffer. -/
module

public import proofs.«01_k».proof.Proof.Gen.GwoIdeal.Frame
public import proofs.«01_k».proof.Proof.Gen.GwoRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GwoRefIdeal.Product

open Idealize.ShloMosaic Idealize.ShloMosaic.TcCoe Idealize.SL.Sem
open Cert.GwoRefIdeal Cert.GwoRefIdeal.Gen

variable (X0 X1 : FVec Ideal S8192x1024 .bf16) (X2 : FVec Ideal S4x3584x1024 .f32)

/-- The entry in row `i` and column `j` of the gradient. -/
def entry (i j : Fin 1024) : EReal := ∑ l : Fin 8192, X0 (ix2 l i) * X1 (ix2 l j)

/-- The gradient, as the reference computes it. -/
def grad : FVec Ideal S1024x1024 .f32 :=
  transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0

theorem grad_at (i j : Fin 1024) : grad X0 X1 (ix2 i j) = entry X0 X1 i j := by
  pointwise [grad]
  exact Finset.sum_congr rfl fun l _ => mul_comm _ _

/-- The reference's result: the buffer with the gradient in its rows. -/
def result : FVec Ideal S4x3584x1024 .f32 :=
  concatenate S4x3584x1024 1 [⟨S4x3328x1024, extractStridedSlice S4x3328x1024 ![0, 0, 0] X2 slices_S4x3584x1024_S4x3328x1024_0_0_0⟩,
    ⟨S4x256x1024, shapeCast _ (grad X0 X1) shapeCasts_S1024x1024_S4x256x1024⟩] concatenates_S4x3328x1024_S4x256x1024_S4x3584x1024_d1

/-- Two names of one entry of the buffer. -/
theorem row_at (X : FVec Ideal S4x3584x1024 .f32) (s : Fin 1024) (p p' : Fin 4) (q q' : Fin 3584) (hp : p.val = p'.val)
    (hq : q.val = q'.val) : X (ix3 p q s) = X (ix3 p' q' s) := by
  rw [Fin.ext hp, Fin.ext hq]

/-- Two names of one entry of the gradient. -/
theorem grad_name (s : Fin 1024) (i i' : Fin 1024) (h : i.val = i'.val) : grad X0 X1 (ix2 i s) = grad X0 X1 (ix2 i' s) := by
  rw [Fin.ext h]

/-- In the rows of the gradient the result is the gradient. -/
theorem result_in (p : Fin 4) (r : Fin 256) (s : Fin 1024) : result X0 X1 X2 (ix3 p (⟨3328 + r.val, by omega⟩ : Fin 3584) s)
    = entry X0 X1 ⟨p.val * 256 + r.val, by omega⟩ s := by
  rw [← grad_at]
  pointwise [result]

/-- Outside the rows of the gradient the result is the buffer. -/
theorem result_out (i : S4x3584x1024.Idx) (h : ¬((i 1 : ℕ) / 256 = 13)) : result X0 X1 X2 i = X2 i := by
  obtain ⟨p, q, s, rfl⟩ : ∃ p q s, i = ix3 p q s := ⟨i 0, i 1, i 2, eq_ix3 i⟩
  have hq : ¬(q.val / 256 = 13) := h
  pointwise [result]
  split_ifs <;> first
    | rfl
    | omega
    | exact row_at X2 s _ _ _ _ (by first | rfl | (dsimp only; omega)) (by first | rfl | (dsimp only; omega))

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GwoRefIdeal.Value.run m ρ

end Cert.GwoRefIdeal.Product

namespace Cert.GwoIdeal.Product

open Idealize.ShloMosaic Idealize.ShloMosaic.TcCoe Idealize.SL.Sem
open Cert.GwoIdeal Cert.GwoIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x1024 .bf16 := m ((c : Thread nD τ).loc main_arg1)
abbrev X2 : FVec Ideal S4x3584x1024 .f32 := m ((c : Thread nD τ).loc main_arg2)
abbrev b0 (t : Fin cfg0.N) : FVec Ideal S2048x1024 .bf16 := iblk m c 0 t
abbrev b1 (t : Fin cfg0.N) : FVec Ideal S2048x1024 .bf16 := iblk m c 1 t

/-- Where each window's block lies at a grid point. -/
theorem idx : ∀ t : Fin cfg0.N, win0_0.index t = ![t.val, 0]
    ∧ win0_1.index t = ![t.val, 0]
    ∧ win0_2.index t = ![0, 13, 0] :=
  (by decide +kernel : ∀ t : Fin grid0.N, _)

theorem val_lt (t : Fin cfg0.N) : t.val < 4 := lt_of_lt_of_eq t.isLt N_0

/-- The place in the sum of the `k`-th row of point `t`'s blocks. -/
def mid (t : Fin cfg0.N) (k : Fin 2048) : Fin 8192 := ⟨t.val % 4 * 2048 + k.val, by have := val_lt t; omega⟩

theorem read0 (t : Fin cfg0.N) (k : Fin 2048) (r : Fin 1024) : b0 m c t (ix2 k r) = X0 m c (ix2 (mid t k) r) := by
  have hlt := val_lt t
  unfold mid
  rw [show X0 m c = V m c main_arg0 from (V_main_arg0 m c).symm]
  blk_ext [iblk, idx t]
theorem read1 (t : Fin cfg0.N) (k : Fin 2048) (s : Fin 1024) : b1 m c t (ix2 k s) = X1 m c (ix2 (mid t k) s) := by
  have hlt := val_lt t
  unfold mid
  rw [show X1 m c = V m c main_arg1 from (V_main_arg1 m c).symm]
  blk_ext [iblk, idx t]

/-- What one grid point computes from its two blocks, what it leaves in the scratch array and what it stores. -/
theorem pay1_at (v0 v1 : FVec Ideal S2048x1024 .bf16) (r s : Fin 1024) :
    k0_pay1 (F := Ideal) v0 v1 (ix2 r s) = ∑ k : Fin 2048, v1 (ix2 k r) * v0 (ix2 k s) := by
  pointwise [k0_pay1]
theorem pay4_at (a : FVec Ideal S1024x1024 .f32) (p : Fin 4) (r : Fin 256) (s : Fin 1024) :
    k0_pay4 (F := Ideal) a (ix3 p r s) = a (ix2 (⟨p.val * 256 + r.val, by omega⟩ : Fin 1024) s) := by
  pointwise [k0_pay4]
theorem pay2_eq (v0 : FVec Ideal S2048x1024 .bf16) (v1 : FVec Ideal S2048x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S2048x1024 .bf16) (v1 : FVec Ideal S2048x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- The grid point that stores has the gradient in the scratch array. -/
theorem point (t : Fin cfg0.N) (h : t.val % 4 = 3) (r s : Fin 1024) : (outsAt0 m c t.val t.isLt).2 (ix2 r s)
    = Cert.GwoRefIdeal.Product.entry (X0 m c) (X1 m c) r s := by
  refine (Pipeline.eq_sum_fin_of_reset_step_apply_of_flush (fun n h => (outsAt0 m c n h).2) 4 (fun _ => (0 : EReal))
    (fun t j => k0_pay1 (F := Ideal) (b1 m c t) (b0 m c t) j)
    (fun t h j => by
      have hlt := val_lt t
      rw [outsAt0_A m c t h (by omega) (by omega)]
      frame_out
      exact (pay2_eq (b1 m c t) (b0 m c t) j).trans (zero_add _).symm)
    (fun t h j => by
      by_cases h2 : t.val % 4 = 3
      · rw [outsAt0_C m c t h (by omega) h2]
        frame_out
        rw [read_unread_whole]
        exact pay3_eq (b1 m c t) (b0 m c t) _ j
      · rw [outsAt0_B m c t h (by omega) h2]
        frame_out
        rw [read_unread_whole]
        exact pay3_eq (b1 m c t) (b0 m c t) _ j)
    t h (ix2 r s)).trans ?_
  rw [zero_add]
  unfold Cert.GwoRefIdeal.Product.entry
  simp only [pay1_at, read0, read1]
  have hlt := val_lt t
  refine Fin.sum_mul_add_congr fun p k hl => ?_
  have e1 : mid ⟨4 * (t.val / 4) + p.val, by omega⟩ k = ⟨p.val * 2048 + k.val, hl⟩ := by
    unfold mid
    exact Fin.ext (by dsimp only; omega)
  rw [e1]

/-- What such a point stores is the reference's. -/
theorem point_store (t : Fin cfg0.N) (h : t.val % 4 = 3) (p : Fin 4) (r : Fin 256) (s : Fin 1024) :
    k0_pay4 (F := Ideal) (outsAt0 m c t.val t.isLt).2 (ix3 p r s)
      = Cert.GwoRefIdeal.Product.result (X0 m c) (X1 m c) (X2 m c) (ix3 p (⟨3328 + r.val, by omega⟩ : Fin 3584) s) :=
  (pay4_at _ p r s).trans ((point m c t h _ s).trans (Cert.GwoRefIdeal.Product.result_in _ _ _ p r s).symm)

/-- The place in the result array of an index of the stored block. -/
def place (z : S4x256x1024.Idx) : S4x3584x1024.Idx :=
  ix3 (z 0) (⟨3328 + (z 1).val, by have : (z 1).val < 256 := (z 1).isLt; omega⟩ : Fin 3584) (z 2)

theorem stored (t : Fin cfg0.N) (h : t.val % 4 = 3) (z : S4x256x1024.Idx) :
    (outsAt0 m c t.val t.isLt).1 z = Cert.GwoRefIdeal.Product.result (X0 m c) (X1 m c) (X2 m c) (place z) := by
  obtain ⟨p, r, s, rfl⟩ : ∃ (p : Fin 4) (r : Fin 256) (s : Fin 1024), z = ix3 p r s := ⟨z 0, z 1, z 2, eq_ix3 z⟩
  have key := point_store m c t h p r s
  revert key
  rw [outsAt0_C m c t (by omega) (by omega) h]
  frame_out
  exact id

/-- The region finds the result array a copy of the buffer it is given. -/
theorem entry_buf : V m c main_v0 = X2 m c := by
  unfold V
  after_results
  rfl

/-- The array after all grid points is the reference's result: the stored blocks, and the buffer's own entries elsewhere. -/
theorem final : (dats m 0 c).arrAt 2 (cfgs 0).N = Cert.GwoRefIdeal.Product.result (X0 m c) (X1 m c) (X2 m c) := by
  refine (dats m 0 c).arrAt_eq_of_coversWhere_of_agree 2 (Cert.GwoRefIdeal.Product.result (X0 m c) (X1 m c) (X2 m c))
    (fun β => β (1 : Fin _) = 13) (by decide +kernel) (fun t hf y => ?_) (fun j hj => ?_)
  · have h : t.val % 4 = 3 := (flush0_2 t).mp hf
    have hy : (((cfg0.win 2).blk t).view.emb y : S4x3584x1024.Idx) = place ((cfg0.win 2).xinj (cfg0.grid.coords t) y) := by
      unfold place
      blk_ext [idx t]
    rw [hy, after0_2]
    exact stored m c t h _
  · exact (congrFun (entry_buf m c) _).trans (Cert.GwoRefIdeal.Product.result_out _ _ _ _ hj).symm

end Cert.GwoIdeal.Product

end
-- ==== Proof.ProductGwq.lean ====
/- The gradient of the queries' weight, hᵀ @ dq, written into its rows of the gradients' buffer. -/
module

public import proofs.«01_k».proof.Proof.Gen.GwqIdeal.Frame
public import proofs.«01_k».proof.Proof.Gen.GwqRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GwqRefIdeal.Product

open Idealize.ShloMosaic Idealize.ShloMosaic.TcCoe Idealize.SL.Sem
open Cert.GwqRefIdeal Cert.GwqRefIdeal.Gen

variable (X0 X1 : FVec Ideal S8192x1024 .bf16) (X2 : FVec Ideal S4x3584x1024 .f32)

/-- The entry in row `i` and column `j` of the gradient. -/
def entry (i j : Fin 1024) : EReal := ∑ l : Fin 8192, X0 (ix2 l i) * X1 (ix2 l j)

/-- The gradient, as the reference computes it. -/
def grad : FVec Ideal S1024x1024 .f32 :=
  transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0

theorem grad_at (i j : Fin 1024) : grad X0 X1 (ix2 i j) = entry X0 X1 i j := by
  pointwise [grad]
  exact Finset.sum_congr rfl fun l _ => mul_comm _ _

/-- The reference's result: the buffer with the gradient in its rows. -/
def result : FVec Ideal S4x3584x1024 .f32 :=
  concatenate S4x3584x1024 1 [⟨S4x2560x1024, extractStridedSlice S4x2560x1024 ![0, 0, 0] X2 slices_S4x3584x1024_S4x2560x1024_0_0_0⟩,
    ⟨S4x256x1024, shapeCast _ (grad X0 X1) shapeCasts_S1024x1024_S4x256x1024⟩,
    ⟨S4x768x1024, extractStridedSlice S4x768x1024 ![0, 2816, 0] X2 slices_S4x3584x1024_S4x768x1024_0_2816_0⟩] concatenates_S4x2560x1024_S4x256x1024_S4x768x1024_S4x3584x1024_d1

/-- Two names of one entry of the buffer. -/
theorem row_at (X : FVec Ideal S4x3584x1024 .f32) (s : Fin 1024) (p p' : Fin 4) (q q' : Fin 3584) (hp : p.val = p'.val)
    (hq : q.val = q'.val) : X (ix3 p q s) = X (ix3 p' q' s) := by
  rw [Fin.ext hp, Fin.ext hq]

/-- Two names of one entry of the gradient. -/
theorem grad_name (s : Fin 1024) (i i' : Fin 1024) (h : i.val = i'.val) : grad X0 X1 (ix2 i s) = grad X0 X1 (ix2 i' s) := by
  rw [Fin.ext h]

/-- In the rows of the gradient the result is the gradient. -/
theorem result_in (p : Fin 4) (r : Fin 256) (s : Fin 1024) : result X0 X1 X2 (ix3 p (⟨2560 + r.val, by omega⟩ : Fin 3584) s)
    = entry X0 X1 ⟨p.val * 256 + r.val, by omega⟩ s := by
  rw [← grad_at]
  pointwise [result]

/-- Outside the rows of the gradient the result is the buffer. -/
theorem result_out (i : S4x3584x1024.Idx) (h : ¬((i 1 : ℕ) / 256 = 10)) : result X0 X1 X2 i = X2 i := by
  obtain ⟨p, q, s, rfl⟩ : ∃ p q s, i = ix3 p q s := ⟨i 0, i 1, i 2, eq_ix3 i⟩
  have hq : ¬(q.val / 256 = 10) := h
  pointwise [result]
  split_ifs <;> first
    | rfl
    | omega
    | exact row_at X2 s _ _ _ _ (by first | rfl | (dsimp only; omega)) (by first | rfl | (dsimp only; omega))

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GwqRefIdeal.Value.run m ρ

end Cert.GwqRefIdeal.Product

namespace Cert.GwqIdeal.Product

open Idealize.ShloMosaic Idealize.ShloMosaic.TcCoe Idealize.SL.Sem
open Cert.GwqIdeal Cert.GwqIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x1024 .bf16 := m ((c : Thread nD τ).loc main_arg1)
abbrev X2 : FVec Ideal S4x3584x1024 .f32 := m ((c : Thread nD τ).loc main_arg2)
abbrev b0 (t : Fin cfg0.N) : FVec Ideal S2048x1024 .bf16 := iblk m c 0 t
abbrev b1 (t : Fin cfg0.N) : FVec Ideal S2048x1024 .bf16 := iblk m c 1 t

/-- Where each window's block lies at a grid point. -/
theorem idx : ∀ t : Fin cfg0.N, win0_0.index t = ![t.val, 0]
    ∧ win0_1.index t = ![t.val, 0]
    ∧ win0_2.index t = ![0, 10, 0] :=
  (by decide +kernel : ∀ t : Fin grid0.N, _)

theorem val_lt (t : Fin cfg0.N) : t.val < 4 := lt_of_lt_of_eq t.isLt N_0

/-- The place in the sum of the `k`-th row of point `t`'s blocks. -/
def mid (t : Fin cfg0.N) (k : Fin 2048) : Fin 8192 := ⟨t.val % 4 * 2048 + k.val, by have := val_lt t; omega⟩

theorem read0 (t : Fin cfg0.N) (k : Fin 2048) (r : Fin 1024) : b0 m c t (ix2 k r) = X0 m c (ix2 (mid t k) r) := by
  have hlt := val_lt t
  unfold mid
  rw [show X0 m c = V m c main_arg0 from (V_main_arg0 m c).symm]
  blk_ext [iblk, idx t]
theorem read1 (t : Fin cfg0.N) (k : Fin 2048) (s : Fin 1024) : b1 m c t (ix2 k s) = X1 m c (ix2 (mid t k) s) := by
  have hlt := val_lt t
  unfold mid
  rw [show X1 m c = V m c main_arg1 from (V_main_arg1 m c).symm]
  blk_ext [iblk, idx t]

/-- What one grid point computes from its two blocks, what it leaves in the scratch array and what it stores. -/
theorem pay1_at (v0 v1 : FVec Ideal S2048x1024 .bf16) (r s : Fin 1024) :
    k0_pay1 (F := Ideal) v0 v1 (ix2 r s) = ∑ k : Fin 2048, v1 (ix2 k r) * v0 (ix2 k s) := by
  pointwise [k0_pay1]
theorem pay4_at (a : FVec Ideal S1024x1024 .f32) (p : Fin 4) (r : Fin 256) (s : Fin 1024) :
    k0_pay4 (F := Ideal) a (ix3 p r s) = a (ix2 (⟨p.val * 256 + r.val, by omega⟩ : Fin 1024) s) := by
  pointwise [k0_pay4]
theorem pay2_eq (v0 : FVec Ideal S2048x1024 .bf16) (v1 : FVec Ideal S2048x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S2048x1024 .bf16) (v1 : FVec Ideal S2048x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- The grid point that stores has the gradient in the scratch array. -/
theorem point (t : Fin cfg0.N) (h : t.val % 4 = 3) (r s : Fin 1024) : (outsAt0 m c t.val t.isLt).2 (ix2 r s)
    = Cert.GwqRefIdeal.Product.entry (X0 m c) (X1 m c) r s := by
  refine (Pipeline.eq_sum_fin_of_reset_step_apply_of_flush (fun n h => (outsAt0 m c n h).2) 4 (fun _ => (0 : EReal))
    (fun t j => k0_pay1 (F := Ideal) (b1 m c t) (b0 m c t) j)
    (fun t h j => by
      have hlt := val_lt t
      rw [outsAt0_A m c t h (by omega) (by omega)]
      frame_out
      exact (pay2_eq (b1 m c t) (b0 m c t) j).trans (zero_add _).symm)
    (fun t h j => by
      by_cases h2 : t.val % 4 = 3
      · rw [outsAt0_C m c t h (by omega) h2]
        frame_out
        rw [read_unread_whole]
        exact pay3_eq (b1 m c t) (b0 m c t) _ j
      · rw [outsAt0_B m c t h (by omega) h2]
        frame_out
        rw [read_unread_whole]
        exact pay3_eq (b1 m c t) (b0 m c t) _ j)
    t h (ix2 r s)).trans ?_
  rw [zero_add]
  unfold Cert.GwqRefIdeal.Product.entry
  simp only [pay1_at, read0, read1]
  have hlt := val_lt t
  refine Fin.sum_mul_add_congr fun p k hl => ?_
  have e1 : mid ⟨4 * (t.val / 4) + p.val, by omega⟩ k = ⟨p.val * 2048 + k.val, hl⟩ := by
    unfold mid
    exact Fin.ext (by dsimp only; omega)
  rw [e1]

/-- What such a point stores is the reference's. -/
theorem point_store (t : Fin cfg0.N) (h : t.val % 4 = 3) (p : Fin 4) (r : Fin 256) (s : Fin 1024) :
    k0_pay4 (F := Ideal) (outsAt0 m c t.val t.isLt).2 (ix3 p r s)
      = Cert.GwqRefIdeal.Product.result (X0 m c) (X1 m c) (X2 m c) (ix3 p (⟨2560 + r.val, by omega⟩ : Fin 3584) s) :=
  (pay4_at _ p r s).trans ((point m c t h _ s).trans (Cert.GwqRefIdeal.Product.result_in _ _ _ p r s).symm)

/-- The place in the result array of an index of the stored block. -/
def place (z : S4x256x1024.Idx) : S4x3584x1024.Idx :=
  ix3 (z 0) (⟨2560 + (z 1).val, by have : (z 1).val < 256 := (z 1).isLt; omega⟩ : Fin 3584) (z 2)

theorem stored (t : Fin cfg0.N) (h : t.val % 4 = 3) (z : S4x256x1024.Idx) :
    (outsAt0 m c t.val t.isLt).1 z = Cert.GwqRefIdeal.Product.result (X0 m c) (X1 m c) (X2 m c) (place z) := by
  obtain ⟨p, r, s, rfl⟩ : ∃ (p : Fin 4) (r : Fin 256) (s : Fin 1024), z = ix3 p r s := ⟨z 0, z 1, z 2, eq_ix3 z⟩
  have key := point_store m c t h p r s
  revert key
  rw [outsAt0_C m c t (by omega) (by omega) h]
  frame_out
  exact id

/-- The region finds the result array a copy of the buffer it is given. -/
theorem entry_buf : V m c main_v0 = X2 m c := by
  unfold V
  after_results
  rfl

/-- The array after all grid points is the reference's result: the stored blocks, and the buffer's own entries elsewhere. -/
theorem final : (dats m 0 c).arrAt 2 (cfgs 0).N = Cert.GwqRefIdeal.Product.result (X0 m c) (X1 m c) (X2 m c) := by
  refine (dats m 0 c).arrAt_eq_of_coversWhere_of_agree 2 (Cert.GwqRefIdeal.Product.result (X0 m c) (X1 m c) (X2 m c))
    (fun β => β (1 : Fin _) = 10) (by decide +kernel) (fun t hf y => ?_) (fun j hj => ?_)
  · have h : t.val % 4 = 3 := (flush0_2 t).mp hf
    have hy : (((cfg0.win 2).blk t).view.emb y : S4x3584x1024.Idx) = place ((cfg0.win 2).xinj (cfg0.grid.coords t) y) := by
      unfold place
      blk_ext [idx t]
    rw [hy, after0_2]
    exact stored m c t h _
  · exact (congrFun (entry_buf m c) _).trans (Cert.GwqRefIdeal.Product.result_out _ _ _ _ hj).symm

end Cert.GwqIdeal.Product

end
-- ==== Proof.ProductGwouta.lean ====
/- The gradient of the output weight's first half, oaᵀ @ dx, written into its rows of the gradients' buffer. -/
module

public import proofs.«01_k».proof.Proof.Gen.GwoutaIdeal.Frame
public import proofs.«01_k».proof.Proof.Gen.GwoutaRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GwoutaRefIdeal.Product

open Idealize.ShloMosaic Idealize.ShloMosaic.TcCoe Idealize.SL.Sem
open Cert.GwoutaRefIdeal Cert.GwoutaRefIdeal.Gen

variable (X0 X1 : FVec Ideal S8192x1024 .bf16) (X2 : FVec Ideal S4x3584x1024 .f32)

/-- The entry in row `i` and column `j` of the gradient. -/
def entry (i j : Fin 1024) : EReal := ∑ l : Fin 8192, X0 (ix2 l i) * X1 (ix2 l j)

/-- The gradient, as the reference computes it. -/
def grad : FVec Ideal S1024x1024 .f32 :=
  transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0

theorem grad_at (i j : Fin 1024) : grad X0 X1 (ix2 i j) = entry X0 X1 i j := by
  pointwise [grad]
  exact Finset.sum_congr rfl fun l _ => mul_comm _ _

/-- The reference's result: the buffer with the gradient in its rows. -/
def result : FVec Ideal S4x3584x1024 .f32 :=
  concatenate S4x3584x1024 0 [⟨S2x3584x1024, concatenate S2x3584x1024 1 [⟨S2x2048x1024, extractStridedSlice S2x2048x1024 ![0, 0, 0] X2 slices_S4x3584x1024_S2x2048x1024_0_0_0⟩,
    ⟨S2x512x1024, shapeCast _ (grad X0 X1) shapeCasts_S1024x1024_S2x512x1024⟩,
    ⟨S2x1024x1024, extractStridedSlice S2x1024x1024 ![0, 2560, 0] X2 slices_S4x3584x1024_S2x1024x1024_0_2560_0⟩] concatenates_S2x2048x1024_S2x512x1024_S2x1024x1024_S2x3584x1024_d1⟩,
    ⟨S2x3584x1024, extractStridedSlice S2x3584x1024 ![2, 0, 0] X2 slices_S4x3584x1024_S2x3584x1024_2_0_0⟩] concatenates_S2x3584x1024_S2x3584x1024_S4x3584x1024_d0

/-- Two names of one entry of the buffer. -/
theorem row_at (X : FVec Ideal S4x3584x1024 .f32) (s : Fin 1024) (p p' : Fin 4) (q q' : Fin 3584) (hp : p.val = p'.val)
    (hq : q.val = q'.val) : X (ix3 p q s) = X (ix3 p' q' s) := by
  rw [Fin.ext hp, Fin.ext hq]

/-- Two names of one entry of the gradient. -/
theorem grad_name (s : Fin 1024) (i i' : Fin 1024) (h : i.val = i'.val) : grad X0 X1 (ix2 i s) = grad X0 X1 (ix2 i' s) := by
  rw [Fin.ext h]

/-- In the rows of the gradient the result is the gradient. -/
theorem result_in (p : Fin 2) (r : Fin 512) (s : Fin 1024) : result X0 X1 X2 (ix3 (⟨p.val, by omega⟩ : Fin 4) (⟨2048 + r.val, by omega⟩ : Fin 3584) s)
    = entry X0 X1 ⟨p.val * 512 + r.val, by omega⟩ s := by
  rw [← grad_at]
  pointwise [result]

/-- Outside the rows of the gradient the result is the buffer. -/
theorem result_out (i : S4x3584x1024.Idx) (h : ¬((i 0 : ℕ) / 2 = 0 ∧ (i 1 : ℕ) / 512 = 4)) : result X0 X1 X2 i = X2 i := by
  obtain ⟨p, q, s, rfl⟩ : ∃ p q s, i = ix3 p q s := ⟨i 0, i 1, i 2, eq_ix3 i⟩
  have hq : ¬(p.val / 2 = 0 ∧ q.val / 512 = 4) := h
  pointwise [result]
  split_ifs <;> first
    | rfl
    | omega
    | exact row_at X2 s _ _ _ _ (by first | rfl | (dsimp only; omega)) (by first | rfl | (dsimp only; omega))

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GwoutaRefIdeal.Value.run m ρ

end Cert.GwoutaRefIdeal.Product

namespace Cert.GwoutaIdeal.Product

open Idealize.ShloMosaic Idealize.ShloMosaic.TcCoe Idealize.SL.Sem
open Cert.GwoutaIdeal Cert.GwoutaIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x1024 .bf16 := m ((c : Thread nD τ).loc main_arg1)
abbrev X2 : FVec Ideal S4x3584x1024 .f32 := m ((c : Thread nD τ).loc main_arg2)
abbrev b0 (t : Fin cfg0.N) : FVec Ideal S2048x1024 .bf16 := iblk m c 0 t
abbrev b1 (t : Fin cfg0.N) : FVec Ideal S2048x1024 .bf16 := iblk m c 1 t

/-- Where each window's block lies at a grid point. -/
theorem idx : ∀ t : Fin cfg0.N, win0_0.index t = ![t.val, 0]
    ∧ win0_1.index t = ![t.val, 0]
    ∧ win0_2.index t = ![0, 4, 0] :=
  (by decide +kernel : ∀ t : Fin grid0.N, _)

theorem val_lt (t : Fin cfg0.N) : t.val < 4 := lt_of_lt_of_eq t.isLt N_0

/-- The place in the sum of the `k`-th row of point `t`'s blocks. -/
def mid (t : Fin cfg0.N) (k : Fin 2048) : Fin 8192 := ⟨t.val % 4 * 2048 + k.val, by have := val_lt t; omega⟩

theorem read0 (t : Fin cfg0.N) (k : Fin 2048) (r : Fin 1024) : b0 m c t (ix2 k r) = X0 m c (ix2 (mid t k) r) := by
  have hlt := val_lt t
  unfold mid
  rw [show X0 m c = V m c main_arg0 from (V_main_arg0 m c).symm]
  blk_ext [iblk, idx t]
theorem read1 (t : Fin cfg0.N) (k : Fin 2048) (s : Fin 1024) : b1 m c t (ix2 k s) = X1 m c (ix2 (mid t k) s) := by
  have hlt := val_lt t
  unfold mid
  rw [show X1 m c = V m c main_arg1 from (V_main_arg1 m c).symm]
  blk_ext [iblk, idx t]

/-- What one grid point computes from its two blocks, what it leaves in the scratch array and what it stores. -/
theorem pay1_at (v0 v1 : FVec Ideal S2048x1024 .bf16) (r s : Fin 1024) :
    k0_pay1 (F := Ideal) v0 v1 (ix2 r s) = ∑ k : Fin 2048, v1 (ix2 k r) * v0 (ix2 k s) := by
  pointwise [k0_pay1]
theorem pay4_at (a : FVec Ideal S1024x1024 .f32) (p : Fin 2) (r : Fin 512) (s : Fin 1024) :
    k0_pay4 (F := Ideal) a (ix3 p r s) = a (ix2 (⟨p.val * 512 + r.val, by omega⟩ : Fin 1024) s) := by
  pointwise [k0_pay4]
theorem pay2_eq (v0 : FVec Ideal S2048x1024 .bf16) (v1 : FVec Ideal S2048x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S2048x1024 .bf16) (v1 : FVec Ideal S2048x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- The grid point that stores has the gradient in the scratch array. -/
theorem point (t : Fin cfg0.N) (h : t.val % 4 = 3) (r s : Fin 1024) : (outsAt0 m c t.val t.isLt).2 (ix2 r s)
    = Cert.GwoutaRefIdeal.Product.entry (X0 m c) (X1 m c) r s := by
  refine (Pipeline.eq_sum_fin_of_reset_step_apply_of_flush (fun n h => (outsAt0 m c n h).2) 4 (fun _ => (0 : EReal))
    (fun t j => k0_pay1 (F := Ideal) (b1 m c t) (b0 m c t) j)
    (fun t h j => by
      have hlt := val_lt t
      rw [outsAt0_A m c t h (by omega) (by omega)]
      frame_out
      exact (pay2_eq (b1 m c t) (b0 m c t) j).trans (zero_add _).symm)
    (fun t h j => by
      by_cases h2 : t.val % 4 = 3
      · rw [outsAt0_C m c t h (by omega) h2]
        frame_out
        rw [read_unread_whole]
        exact pay3_eq (b1 m c t) (b0 m c t) _ j
      · rw [outsAt0_B m c t h (by omega) h2]
        frame_out
        rw [read_unread_whole]
        exact pay3_eq (b1 m c t) (b0 m c t) _ j)
    t h (ix2 r s)).trans ?_
  rw [zero_add]
  unfold Cert.GwoutaRefIdeal.Product.entry
  simp only [pay1_at, read0, read1]
  have hlt := val_lt t
  refine Fin.sum_mul_add_congr fun p k hl => ?_
  have e1 : mid ⟨4 * (t.val / 4) + p.val, by omega⟩ k = ⟨p.val * 2048 + k.val, hl⟩ := by
    unfold mid
    exact Fin.ext (by dsimp only; omega)
  rw [e1]

/-- What such a point stores is the reference's. -/
theorem point_store (t : Fin cfg0.N) (h : t.val % 4 = 3) (p : Fin 2) (r : Fin 512) (s : Fin 1024) :
    k0_pay4 (F := Ideal) (outsAt0 m c t.val t.isLt).2 (ix3 p r s)
      = Cert.GwoutaRefIdeal.Product.result (X0 m c) (X1 m c) (X2 m c) (ix3 (⟨p.val, by omega⟩ : Fin 4) (⟨2048 + r.val, by omega⟩ : Fin 3584) s) :=
  (pay4_at _ p r s).trans ((point m c t h _ s).trans (Cert.GwoutaRefIdeal.Product.result_in _ _ _ p r s).symm)

/-- The place in the result array of an index of the stored block. -/
def place (z : S2x512x1024.Idx) : S4x3584x1024.Idx :=
  ix3 (⟨(z 0).val, by have : (z 0).val < 2 := (z 0).isLt; omega⟩ : Fin 4) (⟨2048 + (z 1).val, by have : (z 1).val < 512 := (z 1).isLt; omega⟩ : Fin 3584) (z 2)

theorem stored (t : Fin cfg0.N) (h : t.val % 4 = 3) (z : S2x512x1024.Idx) :
    (outsAt0 m c t.val t.isLt).1 z = Cert.GwoutaRefIdeal.Product.result (X0 m c) (X1 m c) (X2 m c) (place z) := by
  obtain ⟨p, r, s, rfl⟩ : ∃ (p : Fin 2) (r : Fin 512) (s : Fin 1024), z = ix3 p r s := ⟨z 0, z 1, z 2, eq_ix3 z⟩
  have key := point_store m c t h p r s
  revert key
  rw [outsAt0_C m c t (by omega) (by omega) h]
  frame_out
  exact id

/-- The region finds the result array a copy of the buffer it is given. -/
theorem entry_buf : V m c main_v0 = X2 m c := by
  unfold V
  after_results
  rfl

/-- The array after all grid points is the reference's result: the stored blocks, and the buffer's own entries elsewhere. -/
theorem final : (dats m 0 c).arrAt 2 (cfgs 0).N = Cert.GwoutaRefIdeal.Product.result (X0 m c) (X1 m c) (X2 m c) := by
  refine (dats m 0 c).arrAt_eq_of_coversWhere_of_agree 2 (Cert.GwoutaRefIdeal.Product.result (X0 m c) (X1 m c) (X2 m c))
    (fun β => β (0 : Fin _) = 0 ∧ β (1 : Fin _) = 4) (by decide +kernel) (fun t hf y => ?_) (fun j hj => ?_)
  · have h : t.val % 4 = 3 := (flush0_2 t).mp hf
    have hy : (((cfg0.win 2).blk t).view.emb y : S4x3584x1024.Idx) = place ((cfg0.win 2).xinj (cfg0.grid.coords t) y) := by
      unfold place
      blk_ext [idx t]
    rw [hy, after0_2]
    exact stored m c t h _
  · exact (congrFun (entry_buf m c) _).trans (Cert.GwoutaRefIdeal.Product.result_out _ _ _ _ hj).symm

end Cert.GwoutaIdeal.Product

end
-- ==== Proof.ProductGwoutb.lean ====
/- The gradient of the output weight's second half, obᵀ @ dx, written into its rows of the gradients' buffer. -/
module

public import proofs.«01_k».proof.Proof.Gen.GwoutbIdeal.Frame
public import proofs.«01_k».proof.Proof.Gen.GwoutbRefIdeal.Run
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.GwoutbRefIdeal.Product

open Idealize.ShloMosaic Idealize.ShloMosaic.TcCoe Idealize.SL.Sem
open Cert.GwoutbRefIdeal Cert.GwoutbRefIdeal.Gen

variable (X0 X1 : FVec Ideal S8192x1024 .bf16) (X2 : FVec Ideal S4x3584x1024 .f32)

/-- The entry in row `i` and column `j` of the gradient. -/
def entry (i j : Fin 1024) : EReal := ∑ l : Fin 8192, X0 (ix2 l i) * X1 (ix2 l j)

/-- The gradient, as the reference computes it. -/
def grad : FVec Ideal S1024x1024 .f32 :=
  transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0

theorem grad_at (i j : Fin 1024) : grad X0 X1 (ix2 i j) = entry X0 X1 i j := by
  pointwise [grad]
  exact Finset.sum_congr rfl fun l _ => mul_comm _ _

/-- The reference's result: the buffer with the gradient in its rows. -/
def result : FVec Ideal S4x3584x1024 .f32 :=
  concatenate S4x3584x1024 0 [⟨S2x3584x1024, extractStridedSlice S2x3584x1024 ![0, 0, 0] X2 slices_S4x3584x1024_S2x3584x1024_0_0_0⟩,
    ⟨S2x3584x1024, concatenate S2x3584x1024 1 [⟨S2x2048x1024, extractStridedSlice S2x2048x1024 ![2, 0, 0] X2 slices_S4x3584x1024_S2x2048x1024_2_0_0⟩,
    ⟨S2x512x1024, shapeCast _ (grad X0 X1) shapeCasts_S1024x1024_S2x512x1024⟩,
    ⟨S2x1024x1024, extractStridedSlice S2x1024x1024 ![2, 2560, 0] X2 slices_S4x3584x1024_S2x1024x1024_2_2560_0⟩] concatenates_S2x2048x1024_S2x512x1024_S2x1024x1024_S2x3584x1024_d1⟩] concatenates_S2x3584x1024_S2x3584x1024_S4x3584x1024_d0

/-- Two names of one entry of the buffer. -/
theorem row_at (X : FVec Ideal S4x3584x1024 .f32) (s : Fin 1024) (p p' : Fin 4) (q q' : Fin 3584) (hp : p.val = p'.val)
    (hq : q.val = q'.val) : X (ix3 p q s) = X (ix3 p' q' s) := by
  rw [Fin.ext hp, Fin.ext hq]

/-- Two names of one entry of the gradient. -/
theorem grad_name (s : Fin 1024) (i i' : Fin 1024) (h : i.val = i'.val) : grad X0 X1 (ix2 i s) = grad X0 X1 (ix2 i' s) := by
  rw [Fin.ext h]

/-- In the rows of the gradient the result is the gradient. -/
theorem result_in (p : Fin 2) (r : Fin 512) (s : Fin 1024) : result X0 X1 X2 (ix3 (⟨2 + p.val, by omega⟩ : Fin 4) (⟨2048 + r.val, by omega⟩ : Fin 3584) s)
    = entry X0 X1 ⟨p.val * 512 + r.val, by omega⟩ s := by
  rw [← grad_at]
  pointwise [result]

/-- Outside the rows of the gradient the result is the buffer. -/
theorem result_out (i : S4x3584x1024.Idx) (h : ¬((i 0 : ℕ) / 2 = 1 ∧ (i 1 : ℕ) / 512 = 4)) : result X0 X1 X2 i = X2 i := by
  obtain ⟨p, q, s, rfl⟩ : ∃ p q s, i = ix3 p q s := ⟨i 0, i 1, i 2, eq_ix3 i⟩
  have hq : ¬(p.val / 2 = 1 ∧ q.val / 512 = 4) := h
  pointwise [result]
  split_ifs <;> first
    | rfl
    | omega
    | exact row_at X2 s _ _ _ _ (by first | rfl | (dsimp only; omega)) (by first | rfl | (dsimp only; omega))

/-- The reference ends with this result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GwoutbRefIdeal.Value.run m ρ

end Cert.GwoutbRefIdeal.Product

namespace Cert.GwoutbIdeal.Product

open Idealize.ShloMosaic Idealize.ShloMosaic.TcCoe Idealize.SL.Sem
open Cert.GwoutbIdeal Cert.GwoutbIdeal.Gen

variable (m : (ℓ : Loc nD τ sig) → Buf (Elt Ideal) ℓ) (c : Dev nD)

/-- The argument arrays, and their blocks at a grid point. -/
abbrev X0 : FVec Ideal S8192x1024 .bf16 := m ((c : Thread nD τ).loc main_arg0)
abbrev X1 : FVec Ideal S8192x1024 .bf16 := m ((c : Thread nD τ).loc main_arg1)
abbrev X2 : FVec Ideal S4x3584x1024 .f32 := m ((c : Thread nD τ).loc main_arg2)
abbrev b0 (t : Fin cfg0.N) : FVec Ideal S2048x1024 .bf16 := iblk m c 0 t
abbrev b1 (t : Fin cfg0.N) : FVec Ideal S2048x1024 .bf16 := iblk m c 1 t

/-- Where each window's block lies at a grid point. -/
theorem idx : ∀ t : Fin cfg0.N, win0_0.index t = ![t.val, 0]
    ∧ win0_1.index t = ![t.val, 0]
    ∧ win0_2.index t = ![1, 4, 0] :=
  (by decide +kernel : ∀ t : Fin grid0.N, _)

theorem val_lt (t : Fin cfg0.N) : t.val < 4 := lt_of_lt_of_eq t.isLt N_0

/-- The place in the sum of the `k`-th row of point `t`'s blocks. -/
def mid (t : Fin cfg0.N) (k : Fin 2048) : Fin 8192 := ⟨t.val % 4 * 2048 + k.val, by have := val_lt t; omega⟩

theorem read0 (t : Fin cfg0.N) (k : Fin 2048) (r : Fin 1024) : b0 m c t (ix2 k r) = X0 m c (ix2 (mid t k) r) := by
  have hlt := val_lt t
  unfold mid
  rw [show X0 m c = V m c main_arg0 from (V_main_arg0 m c).symm]
  blk_ext [iblk, idx t]
theorem read1 (t : Fin cfg0.N) (k : Fin 2048) (s : Fin 1024) : b1 m c t (ix2 k s) = X1 m c (ix2 (mid t k) s) := by
  have hlt := val_lt t
  unfold mid
  rw [show X1 m c = V m c main_arg1 from (V_main_arg1 m c).symm]
  blk_ext [iblk, idx t]

/-- What one grid point computes from its two blocks, what it leaves in the scratch array and what it stores. -/
theorem pay1_at (v0 v1 : FVec Ideal S2048x1024 .bf16) (r s : Fin 1024) :
    k0_pay1 (F := Ideal) v0 v1 (ix2 r s) = ∑ k : Fin 2048, v1 (ix2 k r) * v0 (ix2 k s) := by
  pointwise [k0_pay1]
theorem pay4_at (a : FVec Ideal S1024x1024 .f32) (p : Fin 2) (r : Fin 512) (s : Fin 1024) :
    k0_pay4 (F := Ideal) a (ix3 p r s) = a (ix2 (⟨p.val * 512 + r.val, by omega⟩ : Fin 1024) s) := by
  pointwise [k0_pay4]
theorem pay2_eq (v0 : FVec Ideal S2048x1024 .bf16) (v1 : FVec Ideal S2048x1024 .bf16) (j : S1024x1024.Idx) :
    k0_pay2 (F := Ideal) v0 v1 j = k0_pay1 (F := Ideal) v0 v1 j := by
  unfold k0_pay2
  exact congrFun (shapeCast_self _ _) j
theorem pay3_eq (v0 : FVec Ideal S2048x1024 .bf16) (v1 : FVec Ideal S2048x1024 .bf16) (a : FVec Ideal S1024x1024 .f32) (j : S1024x1024.Idx) :
    k0_pay3 (F := Ideal) v0 v1 a j = a j + k0_pay1 (F := Ideal) v0 v1 j := by
  unfold k0_pay3
  exact congrFun (shapeCast_self _ _) j

/-- The grid point that stores has the gradient in the scratch array. -/
theorem point (t : Fin cfg0.N) (h : t.val % 4 = 3) (r s : Fin 1024) : (outsAt0 m c t.val t.isLt).2 (ix2 r s)
    = Cert.GwoutbRefIdeal.Product.entry (X0 m c) (X1 m c) r s := by
  refine (Pipeline.eq_sum_fin_of_reset_step_apply_of_flush (fun n h => (outsAt0 m c n h).2) 4 (fun _ => (0 : EReal))
    (fun t j => k0_pay1 (F := Ideal) (b1 m c t) (b0 m c t) j)
    (fun t h j => by
      have hlt := val_lt t
      rw [outsAt0_A m c t h (by omega) (by omega)]
      frame_out
      exact (pay2_eq (b1 m c t) (b0 m c t) j).trans (zero_add _).symm)
    (fun t h j => by
      by_cases h2 : t.val % 4 = 3
      · rw [outsAt0_C m c t h (by omega) h2]
        frame_out
        rw [read_unread_whole]
        exact pay3_eq (b1 m c t) (b0 m c t) _ j
      · rw [outsAt0_B m c t h (by omega) h2]
        frame_out
        rw [read_unread_whole]
        exact pay3_eq (b1 m c t) (b0 m c t) _ j)
    t h (ix2 r s)).trans ?_
  rw [zero_add]
  unfold Cert.GwoutbRefIdeal.Product.entry
  simp only [pay1_at, read0, read1]
  have hlt := val_lt t
  refine Fin.sum_mul_add_congr fun p k hl => ?_
  have e1 : mid ⟨4 * (t.val / 4) + p.val, by omega⟩ k = ⟨p.val * 2048 + k.val, hl⟩ := by
    unfold mid
    exact Fin.ext (by dsimp only; omega)
  rw [e1]

/-- What such a point stores is the reference's. -/
theorem point_store (t : Fin cfg0.N) (h : t.val % 4 = 3) (p : Fin 2) (r : Fin 512) (s : Fin 1024) :
    k0_pay4 (F := Ideal) (outsAt0 m c t.val t.isLt).2 (ix3 p r s)
      = Cert.GwoutbRefIdeal.Product.result (X0 m c) (X1 m c) (X2 m c) (ix3 (⟨2 + p.val, by omega⟩ : Fin 4) (⟨2048 + r.val, by omega⟩ : Fin 3584) s) :=
  (pay4_at _ p r s).trans ((point m c t h _ s).trans (Cert.GwoutbRefIdeal.Product.result_in _ _ _ p r s).symm)

/-- The place in the result array of an index of the stored block. -/
def place (z : S2x512x1024.Idx) : S4x3584x1024.Idx :=
  ix3 (⟨2 + (z 0).val, by have : (z 0).val < 2 := (z 0).isLt; omega⟩ : Fin 4) (⟨2048 + (z 1).val, by have : (z 1).val < 512 := (z 1).isLt; omega⟩ : Fin 3584) (z 2)

theorem stored (t : Fin cfg0.N) (h : t.val % 4 = 3) (z : S2x512x1024.Idx) :
    (outsAt0 m c t.val t.isLt).1 z = Cert.GwoutbRefIdeal.Product.result (X0 m c) (X1 m c) (X2 m c) (place z) := by
  obtain ⟨p, r, s, rfl⟩ : ∃ (p : Fin 2) (r : Fin 512) (s : Fin 1024), z = ix3 p r s := ⟨z 0, z 1, z 2, eq_ix3 z⟩
  have key := point_store m c t h p r s
  revert key
  rw [outsAt0_C m c t (by omega) (by omega) h]
  frame_out
  exact id

/-- The region finds the result array a copy of the buffer it is given. -/
theorem entry_buf : V m c main_v0 = X2 m c := by
  unfold V
  after_results
  rfl

/-- The array after all grid points is the reference's result: the stored blocks, and the buffer's own entries elsewhere. -/
theorem final : (dats m 0 c).arrAt 2 (cfgs 0).N = Cert.GwoutbRefIdeal.Product.result (X0 m c) (X1 m c) (X2 m c) := by
  refine (dats m 0 c).arrAt_eq_of_coversWhere_of_agree 2 (Cert.GwoutbRefIdeal.Product.result (X0 m c) (X1 m c) (X2 m c))
    (fun β => β (0 : Fin _) = 1 ∧ β (1 : Fin _) = 4) (by decide +kernel) (fun t hf y => ?_) (fun j hj => ?_)
  · have h : t.val % 4 = 3 := (flush0_2 t).mp hf
    have hy : (((cfg0.win 2).blk t).view.emb y : S4x3584x1024.Idx) = place ((cfg0.win 2).xinj (cfg0.grid.coords t) y) := by
      unfold place
      blk_ext [idx t]
    rw [hy, after0_2]
    exact stored m c t h _
  · exact (congrFun (entry_buf m c) _).trans (Cert.GwoutbRefIdeal.Product.result_out _ _ _ _ hj).symm

end Cert.GwoutbIdeal.Product

end
-- ==== Proof.NormGrad.lean ====
/- The gradient of a root-mean-square norm, one row at a time, over the extended reals: the form written with the cube
   of the reciprocal root, and the form that differentiates the root, agree for all extended reals. -/
module

public import Idealize.ShloMosaic.PureOps.Ideal

@[expose] public section

noncomputable section

namespace Cert.NormGrad

open Idealize.ShloMosaic

/-- The number of columns. -/
abbrev width : EReal := Ideal.ofBits .f32 0x44800000#32

/-- The mean square of a row, made positive by a small constant. -/
def meanSq (x : Fin 1024 → EReal) : EReal := Ideal.div (∑ l, x l * x l) width + Ideal.ofBits .f32 0x358637BD#32

/-- The factor the norm multiplies a row by. -/
def inv (x : Fin 1024 → EReal) : EReal := Ideal.rsqrt (meanSq x)

/-- The gradient of the norm at column `s`, added to `r`, with the cube of the factor. -/
def gradCube (x d w : Fin 1024 → EReal) (r : EReal) (s : Fin 1024) : EReal :=
  r + inv x * (d s * w s) - x s * (inv x * inv x * inv x) * Ideal.div (∑ l, x l * (d l * w l)) width

/-- The gradient with respect to the mean square, spread over the squares. -/
def spread (x d w : Fin 1024 → EReal) : EReal :=
  Ideal.div ((∑ l, x l * (d l * w l)) * (Ideal.ofBits .f32 0xBF000000#32 * Ideal.div (inv x) (meanSq x))) width

/-- The gradient of the norm at column `s`, added to `r`, as the derivative of the norm's lines. -/
def gradRoot (x d w : Fin 1024 → EReal) (r : EReal) (s : Fin 1024) : EReal :=
  r + (d s * w s * inv x + x s * spread x d w + spread x d w * x s)

/-- The number an f32 word of a normal number denotes, by its sign, its exponent's field and its fraction's. -/
theorem word (b : BitVec 32) (neg : Bool) (ex fr : ℕ) (hs : (b.extractLsb' 31 1 == 1#1) = neg)
    (he : (b.extractLsb' 23 8).toNat = ex) (hf : (b.extractLsb' 0 23).toNat = fr) (h0 : ex ≠ 0) (h1 : ex ≠ 255) :
    Ideal.ofBits .f32 b = (((if neg then -1 else 1) * (2 ^ 23 + fr : ℕ) * (2 : ℝ) ^ ((ex : ℤ) - 150) : ℝ) : EReal) := by
  subst hs he hf
  unfold Ideal.ofBits Ideal.ieee
  refine (if_neg h1).trans ((if_neg h0).trans (congrArg (fun k : ℤ => (((if b.extractLsb' 31 1 == 1#1 then -1 else 1) *
    (2 ^ 23 + (b.extractLsb' 0 23).toNat : ℕ) * (2 : ℝ) ^ k : ℝ) : EReal)) ?_))
  norm_num
  ring

theorem width_eq : width = ((1024 : ℝ) : EReal) := by
  unfold width
  rw [word _ false 137 0 (by decide) (by decide) (by decide) (by decide) (by decide)]
  norm_num

theorem half_eq : Ideal.ofBits .f32 0xBF000000#32 = ((-1 / 2 : ℝ) : EReal) := by
  rw [word _ true 126 0 (by decide) (by decide) (by decide) (by decide) (by decide)]
  congr 1
  norm_num

theorem eps_pos : ∃ e : ℝ, 0 < e ∧ Ideal.ofBits .f32 0x358637BD#32 = (e : EReal) :=
  ⟨_, by rw [if_neg (by decide)]; positivity, word _ false 107 407485 (by decide) (by decide) (by decide) (by decide) (by decide)⟩

/-- A square is not negative. -/
theorem sq_nonneg (a : EReal) : 0 ≤ a * a := by
  rcases le_total 0 a with h | h
  · exact EReal.mul_nonneg h h
  · exact EReal.mul_nonneg_iff.mpr (.inr ⟨h, h⟩)

theorem meanSq_pos (x : Fin 1024 → EReal) : 0 < meanSq x := by
  obtain ⟨e, he, h⟩ := eps_pos
  unfold meanSq
  rw [h, width_eq, Ideal.div_coe (by norm_num)]
  have h0 : 0 ≤ (∑ l, x l * x l) * ((1 / 1024 : ℝ) : EReal) :=
    EReal.mul_nonneg (Finset.sum_nonneg fun l _ => sq_nonneg (x l)) (by exact_mod_cast (by norm_num : (0 : ℝ) ≤ 1 / 1024))
  exact lt_of_lt_of_le (by exact_mod_cast he) (le_add_of_nonneg_left h0)

/-- The cube of a reciprocal root is the reciprocal root divided by what it is the root of. -/
theorem cube {a : EReal} (ha : 0 < a) : Ideal.rsqrt a * Ideal.rsqrt a * Ideal.rsqrt a = Ideal.div (Ideal.rsqrt a) a := by
  induction a using EReal.rec with
  | bot => exact absurd ha (by simp)
  | top => simp [Ideal.div]
  | coe r =>
    have hr : 0 < r := by exact_mod_cast ha
    rw [Ideal.div_coe hr.ne', Ideal.rsqrt_coe, if_neg hr.not_gt, if_neg hr.ne', ← EReal.coe_mul, ← EReal.coe_mul, ← EReal.coe_mul]
    congr 1
    have h1 : Real.sqrt r * Real.sqrt r = r := Real.mul_self_sqrt hr.le
    have h2 : (Real.sqrt r)⁻¹ * (Real.sqrt r)⁻¹ = 1 / r := by rw [← mul_inv, h1, one_div]
    rw [h2, mul_comm]

/-- Twice a number. -/
theorem add_self (a : EReal) : a + a = ((2 : ℝ) : EReal) * a := by
  induction a using EReal.rec with
  | bot => rw [EReal.coe_mul_bot_of_pos (by norm_num)]; rfl
  | top => rw [EReal.coe_mul_top_of_pos (by norm_num)]; rfl
  | coe r => rw [← EReal.coe_add, ← EReal.coe_mul, two_mul]

theorem gradCube_eq_gradRoot (x d w : Fin 1024 → EReal) (r : EReal) (s : Fin 1024) :
    gradCube x d w r s = gradRoot x d w r s := by
  have hc : inv x * inv x * inv x = Ideal.div (inv x) (meanSq x) := cube (meanSq_pos x)
  have h : -(x s * Ideal.div (inv x) (meanSq x) * Ideal.div (∑ l, x l * (d l * w l)) width)
      = x s * spread x d w + spread x d w * x s := by
    rw [mul_comm (spread x d w), add_self]
    unfold spread
    rw [width_eq, half_eq, Ideal.div_coe (by norm_num), Ideal.div_coe (by norm_num)]
    generalize Ideal.div (inv x) (meanSq x) = u
    generalize ∑ l, x l * (d l * w l) = S
    have e : ((2 : ℝ) : EReal) * (x s * (S * (((-1 / 2 : ℝ) : EReal) * u) * ((1 / 1024 : ℝ) : EReal)))
        = (((2 : ℝ) : EReal) * ((-1 / 2 : ℝ) : EReal)) * (x s * u * (S * ((1 / 1024 : ℝ) : EReal))) := by ac_rfl
    rw [e, ← EReal.coe_mul, show (2 : ℝ) * (-1 / 2) = -1 by norm_num, EReal.coe_neg, EReal.coe_one, neg_one_mul]
  unfold gradCube gradRoot
  rw [hc, sub_eq_add_neg, h, mul_comm (inv x), add_assoc, add_assoc]

end Cert.NormGrad

end
-- ==== Proof.NormRms1.lean ====
/- The gradient of the first norm, with the gradient that passes it by added: the gradient with respect to the step's input. -/
module

public import proofs.«01_k».proof.Proof.Gen.Rms1Ideal.Frame
public import proofs.«01_k».proof.Proof.Gen.Rms1RefIdeal.Run
public import proofs.«01_k».proof.Proof.NormGrad
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Rms1RefIdeal.Norm

open Idealize.ShloMosaic Idealize.ShloMosaic.TcCoe Idealize.SL.Sem
open Cert.Rms1RefIdeal Cert.Rms1RefIdeal.Gen Cert.NormGrad

variable (X0 X1 X2 : FVec Ideal S8192x1024 .f32) (X3 : FVec Ideal S1024 .f32)

/-- A row of an array, and the weight as a row. -/
abbrev row (X : FVec Ideal S8192x1024 .f32) (i : Fin 8192) : Fin 1024 → EReal := fun l => X (ix2 i l)
abbrev wt : Fin 1024 → EReal := fun l => X3 (ix1 l)

/-- The reference's mean squares, its reciprocal roots, the weighted gradient, and the gradient of the mean squares. -/
def means : FVec Ideal S8192x1 .f32 :=
  addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def roots : FVec Ideal S8192x1 .f32 := Host.rsqrt (means X0)
def weighted : FVec Ideal S8192x1024 .f32 :=
  mulf X1 (broadcastInDim S8192x1024 ![0, 1] bcast_S1x1024_S8192x1024_0_1 (broadcastInDim S1x1024 ![1] bcast_S1024_S1x1024_1 X3))
def squares : FVec Ideal S8192 .f32 :=
  Host.reduceAdd (Host.divf (mulf (shapeCast _ (Host.reduceAdd (mulf X0 (weighted X1 X3)) (constant S_ .f32 0x00000000#32) reducesTo_S8192x1024_S8192_d1 h_S_) shapeCasts_S8192_S8192x1) (mulf (broadcastInDim S8192x1 ![] bcast_S_S8192x1 (constant S_ .f32 0xBF000000#32)) (Host.divf (roots X0) (means X0)))) (broadcastInDim S8192x1 ![] bcast_S_S8192x1 (constant S_ .f32 0x44800000#32))) (constant S_ .f32 0x00000000#32) reducesTo_S8192x1_S8192_d1 h_S_

/-- The reference's results: the gradient with respect to the norm's input, and the one with respect to the weight. -/
def dx : FVec Ideal S8192x1024 .f32 :=
  addf X2 (addf (addf (mulf (weighted X1 X3) (broadcastInDim S8192x1024 ![0, 1] bcast_S8192x1_S8192x1024_0_1 (roots X0))) (mulf X0 (broadcastInDim S8192x1024 ![0] bcast_S8192_S8192x1024_0 (squares X0 X1 X3)))) (mulf (broadcastInDim S8192x1024 ![0] bcast_S8192_S8192x1024_0 (squares X0 X1 X3)) X0))
def gw : FVec Ideal S1x1024 .f32 :=
  shapeCast _ (Host.reduceAdd (shapeCast _ (Host.reduceAdd (mulf (mulf X0 (broadcastInDim S8192x1024 ![0, 1] bcast_S8192x1_S8192x1024_0_1 (roots X0))) X1) (constant S_ .f32 0x00000000#32) reducesTo_S8192x1024_S1024_d0 h_S_) shapeCasts_S1024_S1x1024) (constant S_ .f32 0x00000000#32) reducesTo_S1x1024_S1024_d0 h_S_) shapeCasts_S1024_S1x1024

theorem means_at (i : Fin 8192) : means X0 (ix2 i (0 : Fin 1)) = meanSq (row X0 i) := by
  pointwise [means]
  rfl
theorem roots_at (i : Fin 8192) : roots X0 (ix2 i (0 : Fin 1)) = inv (row X0 i) := by
  pointwise [roots, means_at]
  rfl
theorem weighted_at (i : Fin 8192) (s : Fin 1024) : weighted X1 X3 (ix2 i s) = X1 (ix2 i s) * X3 (ix1 s) := by
  pointwise [weighted]
theorem squares_at (i : Fin 8192) : squares X0 X1 X3 (ix1 i) = spread (row X0 i) (row X1 i) (wt X3) := by
  pointwise [squares, weighted_at]
  refine (Fin.sum_univ_one _).trans ?_
  rw [roots_at, means_at]
  rfl
theorem dx_at (i : Fin 8192) (s : Fin 1024) :
    dx X0 X1 X2 X3 (ix2 i s) = gradRoot (row X0 i) (row X1 i) (wt X3) (X2 (ix2 i s)) s := by
  pointwise [dx, roots_at, weighted_at, squares_at]
  rfl
theorem gw_at (s : Fin 1024) : gw X0 X1 (ix2 (0 : Fin 1) s) = ∑ i : Fin 8192, X0 (ix2 i s) * inv (row X0 i) * X1 (ix2 i s) := by
  pointwise [gw, roots_at]
  exact Fin.sum_univ_one _

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = gw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Rms1RefIdeal.Value.run m ρ

end Cert.Rms1RefIdeal.Norm

namespace Cert.Rms1Ideal.Norm

open Idealize.ShloMosaic Idealize.ShloMosaic.TcCoe Idealize.SL.Sem
open Cert.Rms1Ideal Cert.Rms1Ideal.Gen Cert.NormGrad

/-! ## One block -/

section block

variable (v0 v1 v2 : FVec Ideal S1024x1024 .f32) (v3 : FVec Ideal S1x1024 .f32)

/-- A row of a block. -/
abbrev brow (v : FVec Ideal S1024x1024 .f32) (r : Fin 1024) : Fin 1024 → EReal := fun l => v (ix2 r l)

theorem roots_at (r : Fin 1024) : k0_pay2 (F := Ideal) v0 (ix2 r (0 : Fin 1)) = inv (brow v0 r) := by
  pointwise [k0_pay2]
  rfl
theorem block_at (r s : Fin 1024) : k0_pay3 (F := Ideal) v0 v1 v2 v3 (ix2 r s)
    = gradCube (brow v0 r) (brow v1 r) (fun l => v3 (ix2 (0 : Fin 1) l)) (v2 (ix2 r s)) s := by
  pointwise [k0_pay3, roots_at]
  rfl
theorem part_at (s : Fin 1024) : k0_pay4 (F := Ideal) v0 v1 (ix2 (0 : Fin 1) s)
    = ∑ r : Fin 1024, v1 (ix2 r s) * v0 (ix2 r s) * inv (brow v0 r) := by
  pointwise [k0_pay4, roots_at]
theorem acc_at (p a : FVec Ideal S1x1024 .f32) (j : S1x1024.Idx) : k0_pay1 (F := Ideal) p a j = a j + p j := by
  unfold k0_pay1
  exact congrArg (· + p j) (congrFun (shapeCast_self a _) j)

end block

variable (m : (ℓ : Loc nD τ sig) → Buf (Elt Ideal) ℓ) (c : Dev nD)

/-- The argument arrays, and their blocks at a grid point. -/
abbrev X0 : FVec Ideal S8192x1024 .f32 := m ((c : Thread nD τ).loc main_arg0)
abbrev X1 : FVec Ideal S8192x1024 .f32 := m ((c : Thread nD τ).loc main_arg1)
abbrev X2 : FVec Ideal S8192x1024 .f32 := m ((c : Thread nD τ).loc main_arg2)
abbrev X3 : FVec Ideal S1024 .f32 := m ((c : Thread nD τ).loc main_arg3)
abbrev b0 (t : Fin cfg0.N) : FVec Ideal S1024x1024 .f32 := iblk m c 0 t
abbrev b1 (t : Fin cfg0.N) : FVec Ideal S1024x1024 .f32 := iblk m c 1 t
abbrev b2 (t : Fin cfg0.N) : FVec Ideal S1024x1024 .f32 := iblk m c 2 t
abbrev b3 (t : Fin cfg0.N) : FVec Ideal S1x1024 .f32 := iblk m c 3 t

/-- Where each window's block lies at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

theorem val_lt (t : Fin cfg0.N) : t.val < 8 := lt_of_lt_of_eq t.isLt N_0

/-- The array's row at row `r` of point `t`'s block. -/
def at_ (t : Fin cfg0.N) (r : Fin 1024) : Fin 8192 := ⟨t.val * 1024 + r.val, by have := val_lt t; omega⟩

theorem read0 (t : Fin cfg0.N) (r s : Fin 1024) : b0 m c t (ix2 r s) = X0 m c (ix2 (at_ t r) s) := by
  unfold at_
  rw [show X0 m c = V m c main_arg0 from (V_main_arg0 m c).symm]
  blk_ext [iblk, idx t]
theorem read1 (t : Fin cfg0.N) (r s : Fin 1024) : b1 m c t (ix2 r s) = X1 m c (ix2 (at_ t r) s) := by
  unfold at_
  rw [show X1 m c = V m c main_arg1 from (V_main_arg1 m c).symm]
  blk_ext [iblk, idx t]
theorem read2 (t : Fin cfg0.N) (r s : Fin 1024) : b2 m c t (ix2 r s) = X2 m c (ix2 (at_ t r) s) := by
  unfold at_
  rw [show X2 m c = V m c main_arg2 from (V_main_arg2 m c).symm]
  blk_ext [iblk, idx t]
theorem weight : V m c main_v0 = (shapeCast S1x1024 (X3 m c) shapeCasts_S1024_S1x1024 : FVec Ideal S1x1024 .f32) := by
  unfold V
  after_results
  rfl
theorem read3 (t : Fin cfg0.N) (s : Fin 1024) : b3 m c t (ix2 (0 : Fin 1) s) = X3 m c (ix1 s) := by
  have e : b3 m c t (ix2 (0 : Fin 1) s) = (V m c main_v0 : FVec Ideal S1x1024 .f32) (ix2 (0 : Fin 1) s) := by
    blk_ext [iblk, idx t]
  rw [e, weight]
  pointwise []

/-- What a grid point stores is the reference's result at the rows of its block. -/
theorem point (t : Fin cfg0.N) (r s : Fin 1024) : k0_pay3 (F := Ideal) (b0 m c t) (b1 m c t) (b2 m c t) (b3 m c t) (ix2 r s)
    = Cert.Rms1RefIdeal.Norm.dx (X0 m c) (X1 m c) (X2 m c) (X3 m c) (ix2 (at_ t r) s) := by
  rw [block_at, Cert.Rms1RefIdeal.Norm.dx_at, ← gradCube_eq_gradRoot]
  have e0 : brow (b0 m c t) r = Cert.Rms1RefIdeal.Norm.row (X0 m c) (at_ t r) := funext fun l => read0 m c t r l
  have e1 : brow (b1 m c t) r = Cert.Rms1RefIdeal.Norm.row (X1 m c) (at_ t r) := funext fun l => read1 m c t r l
  have e3 : (fun l : Fin 1024 => b3 m c t (ix2 (0 : Fin 1) l)) = Cert.Rms1RefIdeal.Norm.wt (X3 m c) := funext fun l => read3 m c t l
  rw [e0, e1, e3, read2]

/-- The gradient with respect to the norm's input. -/
theorem finalX : (dats m 0 c).arrAt 4 (cfgs 0).N = Cert.Rms1RefIdeal.Norm.dx (X0 m c) (X1 m c) (X2 m c) (X3 m c) := by
  refine (dats m 0 c).arrAt_eq_of_covers 4 _ (by decide +kernel) fun t _ y => ?_
  blk_simp
  rw [after0_4]
  have hlt := val_lt t
  have hy : (((View.whole main_v1_0).slice (win0_4.rect t)).emb y : S8192x1024.Idx) = ix2 (at_ t (y 0)) (y 1) := by
    unfold at_
    blk_ext [idx t]
  have key : k0_pay3 (F := Ideal) (b0 m c t) (b1 m c t) (b2 m c t) (b3 m c t) y
      = Cert.Rms1RefIdeal.Norm.dx (X0 m c) (X1 m c) (X2 m c) (X3 m c) (((View.whole main_v1_0).slice (win0_4.rect t)).emb y) := by
    rw [hy]
    exact (congrArg _ (eq_ix2 y)).trans (point m c t (y 0) (y 1))
  by_cases h : t.val % 8 = 0
  · rw [outsAt0_A m c t h (by omega)]
    frame_out
    exact key
  · rw [outsAt0_B m c t h (by omega)]
    frame_out
    exact key

/-- The gradient with respect to the weight: the sum of what the points add. -/
theorem finalW : (dats m 0 c).arrAt 5 (cfgs 0).N = Cert.Rms1RefIdeal.Norm.gw (X0 m c) (X1 m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => (0 : EReal))
    (fun t j => k0_pay4 (F := Ideal) (b0 m c t) (b1 m c t) j)
    (fun t h j => by
      have hlt := val_lt t
      rw [outsAt0_A m c t h (by omega)]
      frame_out
      exact (zero_add _).symm)
    (fun t h j => by
      rw [outsAt0_B m c t h (by omega)]
      frame_out
      exact acc_at (k0_pay4 (F := Ideal) (b0 m c t) (b1 m c t)) _ j)
    (le_of_eq N_0) t0_7 rfl j, zero_add]
  obtain ⟨k, s, rfl⟩ : ∃ (k : Fin 1) (s : Fin 1024), j = ix2 k s := ⟨j 0, j 1, eq_ix2 j⟩
  obtain rfl : k = 0 := Fin.ext (Nat.lt_one_iff.mp k.isLt)
  refine Eq.trans ?_ (Cert.Rms1RefIdeal.Norm.gw_at _ _ s).symm
  have e : ∀ t : Fin cfg0.N, k0_pay4 (F := Ideal) (b0 m c t) (b1 m c t) (ix2 (0 : Fin 1) s)
      = ∑ r : Fin 1024, X0 m c (ix2 (at_ t r) s) * inv (Cert.Rms1RefIdeal.Norm.row (X0 m c) (at_ t r)) * X1 m c (ix2 (at_ t r) s) := fun t => by
    rw [part_at]
    refine Finset.sum_congr rfl fun r _ => ?_
    have e0 : brow (b0 m c t) r = Cert.Rms1RefIdeal.Norm.row (X0 m c) (at_ t r) := funext fun l => read0 m c t r l
    rw [e0, read0, read1]
    ac_rfl
  refine (Fin.sum_fin_congr fun t => e t).trans ?_
  exact Fin.sum_mul_add_congr fun t r hl => rfl

end Cert.Rms1Ideal.Norm

end
-- ==== Proof.NormRms3.lean ====
/- The gradient of the third norm, with the gradient that passes it by added, once more rounded, and the gradient of its weight. -/
module

public import proofs.«01_k».proof.Proof.Gen.Rms3Ideal.Frame
public import proofs.«01_k».proof.Proof.Gen.Rms3RefIdeal.Run
public import proofs.«01_k».proof.Proof.NormGrad
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Rms3RefIdeal.Norm

open Idealize.ShloMosaic Idealize.ShloMosaic.TcCoe Idealize.SL.Sem
open Cert.Rms3RefIdeal Cert.Rms3RefIdeal.Gen Cert.NormGrad

variable (X0 X1 X2 : FVec Ideal S8192x1024 .f32) (X3 : FVec Ideal S1024 .f32)

/-- A row of an array, and the weight as a row. -/
abbrev row (X : FVec Ideal S8192x1024 .f32) (i : Fin 8192) : Fin 1024 → EReal := fun l => X (ix2 i l)
abbrev wt : Fin 1024 → EReal := fun l => X3 (ix1 l)

/-- The reference's mean squares, its reciprocal roots, the weighted gradient, and the gradient of the mean squares. -/
def means : FVec Ideal S8192x1 .f32 :=
  addf (Host.divf (broadcastInDim S8192x1 ![0] bcast_S8192_S8192x1_0 (Host.reduceAdd (mulf X0 X0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def roots : FVec Ideal S8192x1 .f32 := Host.rsqrt (means X0)
def weighted : FVec Ideal S8192x1024 .f32 :=
  mulf X1 (broadcastInDim S8192x1024 ![0, 1] bcast_S1x1024_S8192x1024_0_1 (broadcastInDim S1x1024 ![1] bcast_S1024_S1x1024_1 X3))
def squares : FVec Ideal S8192 .f32 :=
  Host.reduceAdd (Host.divf (mulf (shapeCast _ (Host.reduceAdd (mulf X0 (weighted X1 X3)) (constant S_ .f32 0x00000000#32) reducesTo_S8192x1024_S8192_d1 h_S_) shapeCasts_S8192_S8192x1) (mulf (broadcastInDim S8192x1 ![] bcast_S_S8192x1 (constant S_ .f32 0xBF000000#32)) (Host.divf (roots X0) (means X0)))) (broadcastInDim S8192x1 ![] bcast_S_S8192x1 (constant S_ .f32 0x44800000#32))) (constant S_ .f32 0x00000000#32) reducesTo_S8192x1_S8192_d1 h_S_

/-- The reference's results: the gradient with respect to the norm's input, and the one with respect to the weight. -/
def dx : FVec Ideal S8192x1024 .f32 :=
  addf X2 (addf (addf (mulf (weighted X1 X3) (broadcastInDim S8192x1024 ![0, 1] bcast_S8192x1_S8192x1024_0_1 (roots X0))) (mulf X0 (broadcastInDim S8192x1024 ![0] bcast_S8192_S8192x1024_0 (squares X0 X1 X3)))) (mulf (broadcastInDim S8192x1024 ![0] bcast_S8192_S8192x1024_0 (squares X0 X1 X3)) X0))
def gw : FVec Ideal S1x1024 .f32 :=
  shapeCast _ (Host.reduceAdd (shapeCast _ (Host.reduceAdd (mulf (mulf X0 (broadcastInDim S8192x1024 ![0, 1] bcast_S8192x1_S8192x1024_0_1 (roots X0))) X1) (constant S_ .f32 0x00000000#32) reducesTo_S8192x1024_S1024_d0 h_S_) shapeCasts_S1024_S1x1024) (constant S_ .f32 0x00000000#32) reducesTo_S1x1024_S1024_d0 h_S_) shapeCasts_S1024_S1x1024

theorem means_at (i : Fin 8192) : means X0 (ix2 i (0 : Fin 1)) = meanSq (row X0 i) := by
  pointwise [means]
  rfl
theorem roots_at (i : Fin 8192) : roots X0 (ix2 i (0 : Fin 1)) = inv (row X0 i) := by
  pointwise [roots, means_at]
  rfl
theorem weighted_at (i : Fin 8192) (s : Fin 1024) : weighted X1 X3 (ix2 i s) = X1 (ix2 i s) * X3 (ix1 s) := by
  pointwise [weighted]
theorem squares_at (i : Fin 8192) : squares X0 X1 X3 (ix1 i) = spread (row X0 i) (row X1 i) (wt X3) := by
  pointwise [squares, weighted_at]
  refine (Fin.sum_univ_one _).trans ?_
  rw [roots_at, means_at]
  rfl
theorem dx_at (i : Fin 8192) (s : Fin 1024) :
    dx X0 X1 X2 X3 (ix2 i s) = gradRoot (row X0 i) (row X1 i) (wt X3) (X2 (ix2 i s)) s := by
  pointwise [dx, roots_at, weighted_at, squares_at]
  rfl
theorem gw_at (s : Fin 1024) : gw X0 X1 (ix2 (0 : Fin 1) s) = ∑ i : Fin 8192, X0 (ix2 i s) * inv (row X0 i) * X1 (ix2 i s) := by
  pointwise [gw, roots_at]
  exact Fin.sum_univ_one _

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v38) = truncf .bf16 (dx (m ((c.tc : Thread nD τ).loc main_arg0)) (m ((c.tc : Thread nD τ).loc main_arg1)) (m ((c.tc : Thread nD τ).loc main_arg2)) (m ((c.tc : Thread nD τ).loc main_arg3))) bitsLt_bf16_f32
      ∧ r.2.mem ((c.tc : Thread nD τ).loc main_v39) = gw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Rms3RefIdeal.Value.run m ρ

end Cert.Rms3RefIdeal.Norm

namespace Cert.Rms3Ideal.Norm

open Idealize.ShloMosaic Idealize.ShloMosaic.TcCoe Idealize.SL.Sem
open Cert.Rms3Ideal Cert.Rms3Ideal.Gen Cert.NormGrad

/-! ## One block -/

section block

variable (v0 v1 v2 : FVec Ideal S1024x1024 .f32) (v3 : FVec Ideal S1x1024 .f32)

/-- A row of a block. -/
abbrev brow (v : FVec Ideal S1024x1024 .f32) (r : Fin 1024) : Fin 1024 → EReal := fun l => v (ix2 r l)

theorem roots_at (r : Fin 1024) : k0_pay2 (F := Ideal) v0 (ix2 r (0 : Fin 1)) = inv (brow v0 r) := by
  pointwise [k0_pay2]
  rfl
theorem block_at (r s : Fin 1024) : k0_pay3 (F := Ideal) v0 v1 v2 v3 (ix2 r s)
    = gradCube (brow v0 r) (brow v1 r) (fun l => v3 (ix2 (0 : Fin 1) l)) (v2 (ix2 r s)) s := by
  pointwise [k0_pay3, roots_at]
  rfl
theorem part_at (s : Fin 1024) : k0_pay4 (F := Ideal) v0 v1 (ix2 (0 : Fin 1) s)
    = ∑ r : Fin 1024, v1 (ix2 r s) * v0 (ix2 r s) * inv (brow v0 r) := by
  pointwise [k0_pay4, roots_at]
theorem acc_at (p a : FVec Ideal S1x1024 .f32) (j : S1x1024.Idx) : k0_pay1 (F := Ideal) p a j = a j + p j := by
  unfold k0_pay1
  exact congrArg (· + p j) (congrFun (shapeCast_self a _) j)

end block

variable (m : (ℓ : Loc nD τ sig) → Buf (Elt Ideal) ℓ) (c : Dev nD)

/-- The argument arrays, and their blocks at a grid point. -/
abbrev X0 : FVec Ideal S8192x1024 .f32 := m ((c : Thread nD τ).loc main_arg0)
abbrev X1 : FVec Ideal S8192x1024 .f32 := m ((c : Thread nD τ).loc main_arg1)
abbrev X2 : FVec Ideal S8192x1024 .f32 := m ((c : Thread nD τ).loc main_arg2)
abbrev X3 : FVec Ideal S1024 .f32 := m ((c : Thread nD τ).loc main_arg3)
abbrev b0 (t : Fin cfg0.N) : FVec Ideal S1024x1024 .f32 := iblk m c 0 t
abbrev b1 (t : Fin cfg0.N) : FVec Ideal S1024x1024 .f32 := iblk m c 1 t
abbrev b2 (t : Fin cfg0.N) : FVec Ideal S1024x1024 .f32 := iblk m c 2 t
abbrev b3 (t : Fin cfg0.N) : FVec Ideal S1x1024 .f32 := iblk m c 3 t

/-- Where each window's block lies at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

theorem val_lt (t : Fin cfg0.N) : t.val < 8 := lt_of_lt_of_eq t.isLt N_0

/-- The array's row at row `r` of point `t`'s block. -/
def at_ (t : Fin cfg0.N) (r : Fin 1024) : Fin 8192 := ⟨t.val * 1024 + r.val, by have := val_lt t; omega⟩

theorem read0 (t : Fin cfg0.N) (r s : Fin 1024) : b0 m c t (ix2 r s) = X0 m c (ix2 (at_ t r) s) := by
  unfold at_
  rw [show X0 m c = V m c main_arg0 from (V_main_arg0 m c).symm]
  blk_ext [iblk, idx t]
theorem read1 (t : Fin cfg0.N) (r s : Fin 1024) : b1 m c t (ix2 r s) = X1 m c (ix2 (at_ t r) s) := by
  unfold at_
  rw [show X1 m c = V m c main_arg1 from (V_main_arg1 m c).symm]
  blk_ext [iblk, idx t]
theorem read2 (t : Fin cfg0.N) (r s : Fin 1024) : b2 m c t (ix2 r s) = X2 m c (ix2 (at_ t r) s) := by
  unfold at_
  rw [show X2 m c = V m c main_arg2 from (V_main_arg2 m c).symm]
  blk_ext [iblk, idx t]
theorem weight : V m c main_v0 = (shapeCast S1x1024 (X3 m c) shapeCasts_S1024_S1x1024 : FVec Ideal S1x1024 .f32) := by
  unfold V
  after_results
  rfl
theorem read3 (t : Fin cfg0.N) (s : Fin 1024) : b3 m c t (ix2 (0 : Fin 1) s) = X3 m c (ix1 s) := by
  have e : b3 m c t (ix2 (0 : Fin 1) s) = (V m c main_v0 : FVec Ideal S1x1024 .f32) (ix2 (0 : Fin 1) s) := by
    blk_ext [iblk, idx t]
  rw [e, weight]
  pointwise []

/-- What a grid point stores is the reference's result at the rows of its block. -/
theorem point (t : Fin cfg0.N) (r s : Fin 1024) : k0_pay3 (F := Ideal) (b0 m c t) (b1 m c t) (b2 m c t) (b3 m c t) (ix2 r s)
    = Cert.Rms3RefIdeal.Norm.dx (X0 m c) (X1 m c) (X2 m c) (X3 m c) (ix2 (at_ t r) s) := by
  rw [block_at, Cert.Rms3RefIdeal.Norm.dx_at, ← gradCube_eq_gradRoot]
  have e0 : brow (b0 m c t) r = Cert.Rms3RefIdeal.Norm.row (X0 m c) (at_ t r) := funext fun l => read0 m c t r l
  have e1 : brow (b1 m c t) r = Cert.Rms3RefIdeal.Norm.row (X1 m c) (at_ t r) := funext fun l => read1 m c t r l
  have e3 : (fun l : Fin 1024 => b3 m c t (ix2 (0 : Fin 1) l)) = Cert.Rms3RefIdeal.Norm.wt (X3 m c) := funext fun l => read3 m c t l
  rw [e0, e1, e3, read2]

/-- The gradient with respect to the norm's input. -/
theorem finalX : (dats m 0 c).arrAt 4 (cfgs 0).N = Cert.Rms3RefIdeal.Norm.dx (X0 m c) (X1 m c) (X2 m c) (X3 m c) := by
  refine (dats m 0 c).arrAt_eq_of_covers 4 _ (by decide +kernel) fun t _ y => ?_
  blk_simp
  rw [after0_4]
  have hlt := val_lt t
  have hy : (((View.whole main_v1_0).slice (win0_4.rect t)).emb y : S8192x1024.Idx) = ix2 (at_ t (y 0)) (y 1) := by
    unfold at_
    blk_ext [idx t]
  have key : k0_pay3 (F := Ideal) (b0 m c t) (b1 m c t) (b2 m c t) (b3 m c t) y
      = Cert.Rms3RefIdeal.Norm.dx (X0 m c) (X1 m c) (X2 m c) (X3 m c) (((View.whole main_v1_0).slice (win0_4.rect t)).emb y) := by
    rw [hy]
    exact (congrArg _ (eq_ix2 y)).trans (point m c t (y 0) (y 1))
  by_cases h : t.val % 8 = 0
  · rw [outsAt0_A m c t h (by omega)]
    frame_out
    exact key
  · rw [outsAt0_B m c t h (by omega)]
    frame_out
    exact key

/-- The same gradient, rounded. -/
theorem finalB : (dats m 0 c).arrAt 5 (cfgs 0).N
    = (truncf .bf16 (Cert.Rms3RefIdeal.Norm.dx (X0 m c) (X1 m c) (X2 m c) (X3 m c)) bitsLt_bf16_f32 : FVec Ideal S8192x1024 .bf16) := by
  refine (dats m 0 c).arrAt_eq_of_covers 5 _ (by decide +kernel) fun t _ y => ?_
  blk_simp
  rw [after0_5]
  have hlt := val_lt t
  have hy : (((View.whole main_v1_1).slice (win0_5.rect t)).emb y : S8192x1024.Idx) = ix2 (at_ t (y 0)) (y 1) := by
    unfold at_
    blk_ext [idx t]
  have key : k0_pay5 (F := Ideal) (b0 m c t) (b1 m c t) (b2 m c t) (b3 m c t) y
      = Cert.Rms3RefIdeal.Norm.dx (X0 m c) (X1 m c) (X2 m c) (X3 m c) (((View.whole main_v1_1).slice (win0_5.rect t)).emb y) := by
    rw [hy]
    exact (congrArg _ (eq_ix2 y)).trans (point m c t (y 0) (y 1))
  by_cases h : t.val % 8 = 0
  · rw [outsAt0_A m c t h (by omega)]
    frame_out
    exact key
  · rw [outsAt0_B m c t h (by omega)]
    frame_out
    exact key

/-- The gradient with respect to the weight: the sum of what the points add. -/
theorem finalW : (dats m 0 c).arrAt 6 (cfgs 0).N = Cert.Rms3RefIdeal.Norm.gw (X0 m c) (X1 m c) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal))
    (fun t j => k0_pay4 (F := Ideal) (b0 m c t) (b1 m c t) j)
    (fun t h j => by
      have hlt := val_lt t
      rw [outsAt0_A m c t h (by omega)]
      frame_out
      exact (zero_add _).symm)
    (fun t h j => by
      rw [outsAt0_B m c t h (by omega)]
      frame_out
      exact acc_at (k0_pay4 (F := Ideal) (b0 m c t) (b1 m c t)) _ j)
    (le_of_eq N_0) t0_7 rfl j, zero_add]
  obtain ⟨k, s, rfl⟩ : ∃ (k : Fin 1) (s : Fin 1024), j = ix2 k s := ⟨j 0, j 1, eq_ix2 j⟩
  obtain rfl : k = 0 := Fin.ext (Nat.lt_one_iff.mp k.isLt)
  refine Eq.trans ?_ (Cert.Rms3RefIdeal.Norm.gw_at _ _ s).symm
  have e : ∀ t : Fin cfg0.N, k0_pay4 (F := Ideal) (b0 m c t) (b1 m c t) (ix2 (0 : Fin 1) s)
      = ∑ r : Fin 1024, X0 m c (ix2 (at_ t r) s) * inv (Cert.Rms3RefIdeal.Norm.row (X0 m c) (at_ t r)) * X1 m c (ix2 (at_ t r) s) := fun t => by
    rw [part_at]
    refine Finset.sum_congr rfl fun r _ => ?_
    have e0 : brow (b0 m c t) r = Cert.Rms3RefIdeal.Norm.row (X0 m c) (at_ t r) := funext fun l => read0 m c t r l
    rw [e0, read0, read1]
    ac_rfl
  refine (Fin.sum_fin_congr fun t => e t).trans ?_
  exact Fin.sum_mul_add_congr fun t r hl => rfl

end Cert.Rms3Ideal.Norm

end
-- ==== Proof.AdamStep.lean ====
/- One AdamW step of one number, over the extended reals. -/
module

public import Idealize.ShloMosaic.PureOps.Ideal

@[expose] public section

noncomputable section

namespace Cert.AdamStep

open Idealize.ShloMosaic

/-- The new first moment of a gradient `g` and the old moment. -/
def first (g m : EReal) : EReal := Ideal.ofBits .f32 0x3F666666#32 * m + Ideal.ofBits .f32 0x3DCCCCCD#32 * g

/-- The new second moment of a gradient `g` and the old moment. -/
def second (g v : EReal) : EReal := Ideal.ofBits .f32 0x3F7FBE77#32 * v + Ideal.ofBits .f32 0x3A83126F#32 * (g * g)

/-- The change of a weight `w`. -/
def change (w g m v : EReal) : EReal :=
  Ideal.ofBits .f32 0xBA83126F#32 *
    (Ideal.div (Ideal.div (first g m) (Ideal.ofBits .f32 0x3F26BD02#32))
      (Ideal.sqrt (Ideal.div (second g v) (Ideal.ofBits .f32 0x3C231ACC#32)) + Ideal.ofBits .f32 0x322BCC77#32)
      + Ideal.ofBits .f32 0x3C23D70A#32 * w)

/-- A choice by the equality of two words. -/
theorem choose {α : Type} (a b : BitVec 32) (p q : α) : Scalar.select (IntOp.cmpi .eq a b) p q = if a = b then p else q := by
  by_cases h : a = b
  · rw [if_pos h, h]
    simp [Scalar.select, IntOp.cmpi]
  · rw [if_neg h]
    simp [Scalar.select, IntOp.cmpi, beq_eq_false_iff_ne.mpr h]

/-- Equal arguments give equal values. -/
theorem same {α β γ : Type} (f : α → α → α → α → α → β → γ) {a b c d e a' b' c' d' e' : α} {z z' : β}
    (ha : a = a') (hb : b = b') (hc : c = c') (hd : d = d') (he : e = e') (hz : z = z') : f a b c d e z = f a' b' c' d' e' z' := by
  subst ha hb hc hd he hz
  rfl

end Cert.AdamStep

end
-- ==== Proof.AdamWinStep.lean ====
/- The AdamW step of the input projection's weight, laid out with its columns as rows. -/
module

public import proofs.«01_k».proof.Proof.Gen.AdamWinIdeal.Frame
public import proofs.«01_k».proof.Proof.Gen.AdamWinRefIdeal.Run
public import proofs.«01_k».proof.Proof.AdamStep
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamWinRefIdeal.Step

open Idealize.ShloMosaic Idealize.ShloMosaic.TcCoe Idealize.SL.Sem
open Cert.AdamWinRefIdeal Cert.AdamWinRefIdeal.Gen Cert.AdamStep

variable (X0 X1 X2 : FVec Ideal S1024x1672 .f32) (X3 X4 : FVec Ideal S512x1672 .f32) (X5 : IVec S_ 32)

/-- The reference's results: the gradient put together from its halves, the two moments, and the change of the weight. -/
def grad : FVec Ideal S1024x1672 .f32 :=
  select (broadcastInDim S1024x1672 ![] bcast_S_S1024x1672 (cmpi .eq X5 (constantI S_ 32 0#32))) (concatenate S1024x1672 0 [⟨S512x1672, X3⟩, ⟨S512x1672, X4⟩] concatenates_S512x1672_S512x1672_S1024x1672_d0) (concatenate S1024x1672 0 [⟨S512x1672, X4⟩, ⟨S512x1672, X3⟩] concatenates_S512x1672_S512x1672_S1024x1672_d0)
def moment : FVec Ideal S1024x1672 .f32 :=
  addf (mulf (broadcastInDim S1024x1672 ![] bcast_S_S1024x1672 (constant S_ .f32 0x3F666666#32)) X1) (mulf (broadcastInDim S1024x1672 ![] bcast_S_S1024x1672 (constant S_ .f32 0x3DCCCCCD#32)) (grad X3 X4 X5))
def variance : FVec Ideal S1024x1672 .f32 :=
  addf (mulf (broadcastInDim S1024x1672 ![] bcast_S_S1024x1672 (constant S_ .f32 0x3F7FBE77#32)) X2) (mulf (broadcastInDim S1024x1672 ![] bcast_S_S1024x1672 (constant S_ .f32 0x3A83126F#32)) (mulf (grad X3 X4 X5) (grad X3 X4 X5)))
def delta : FVec Ideal S1024x1672 .f32 :=
  mulf (broadcastInDim S1024x1672 ![] bcast_S_S1024x1672 (constant S_ .f32 0xBA83126F#32)) (addf (Host.divf (Host.divf (moment X1 X3 X4 X5) (broadcastInDim S1024x1672 ![] bcast_S_S1024x1672 (constant S_ .f32 0x3F26BD02#32))) (addf (Host.sqrt (Host.divf (variance X2 X3 X4 X5) (broadcastInDim S1024x1672 ![] bcast_S_S1024x1672 (constant S_ .f32 0x3C231ACC#32)))) (broadcastInDim S1024x1672 ![] bcast_S_S1024x1672 (constant S_ .f32 0x322BCC77#32)))) (mulf (broadcastInDim S1024x1672 ![] bcast_S_S1024x1672 (constant S_ .f32 0x3C23D70A#32)) X0))

theorem moment_at (i : Fin 1024) (j : Fin 1672) : moment X1 X3 X4 X5 (ix2 i j) = first (grad X3 X4 X5 (ix2 i j)) (X1 (ix2 i j)) := by
  pointwise [moment]
  rfl
theorem variance_at (i : Fin 1024) (j : Fin 1672) : variance X2 X3 X4 X5 (ix2 i j) = second (grad X3 X4 X5 (ix2 i j)) (X2 (ix2 i j)) := by
  pointwise [variance]
  rfl
theorem delta_at (i : Fin 1024) (j : Fin 1672) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = grad (m ((c.tc : Thread nD τ).loc main_arg3)) (m ((c.tc : Thread nD τ).loc main_arg4)) (m ((c.tc : Thread nD τ).loc main_arg5))
      ∧ r.2.mem ((c.tc : Thread nD τ).loc main_v27) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v8) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v14) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamWinRefIdeal.Value.run m ρ

end Cert.AdamWinRefIdeal.Step

namespace Cert.AdamWinIdeal.Step

open Idealize.ShloMosaic Idealize.ShloMosaic.TcCoe Idealize.SL.Sem
open Cert.AdamWinIdeal Cert.AdamWinIdeal.Gen Cert.AdamStep

/-! ## One block -/

section block

variable (w g a v : FVec Ideal S152x1024 .f32)

theorem pay2_at (r : Fin 152) (s : Fin 1024) : k0_pay2 (F := Ideal) g a (ix2 r s) = first (g (ix2 r s)) (a (ix2 r s)) := by
  pointwise [k0_pay2, k0_pay1]
  rfl
theorem pay3_at (r : Fin 152) (s : Fin 1024) : k0_pay3 (F := Ideal) g v (ix2 r s) = second (g (ix2 r s)) (v (ix2 r s)) := by
  pointwise [k0_pay3, k0_pay1]
  rfl
theorem pay4_at (r : Fin 152) (s : Fin 1024) : k0_pay4 (F := Ideal) w g a v (ix2 r s)
    = change (w (ix2 r s)) (g (ix2 r s)) (a (ix2 r s)) (v (ix2 r s)) := by
  pointwise [k0_pay4, pay2_at, pay3_at]
  rfl

end block

variable (m : (ℓ : Loc nD τ sig) → Buf (Elt Ideal) ℓ) (c : Dev nD)

/-- The argument arrays, and their blocks at a grid point. -/
abbrev X0 : FVec Ideal S1024x1672 .f32 := m ((c : Thread nD τ).loc main_arg0)
abbrev X1 : FVec Ideal S1024x1672 .f32 := m ((c : Thread nD τ).loc main_arg1)
abbrev X2 : FVec Ideal S1024x1672 .f32 := m ((c : Thread nD τ).loc main_arg2)
abbrev X3 : FVec Ideal S512x1672 .f32 := m ((c : Thread nD τ).loc main_arg3)
abbrev X4 : FVec Ideal S512x1672 .f32 := m ((c : Thread nD τ).loc main_arg4)
abbrev X5 : IVec S_ 32 := m ((c : Thread nD τ).loc main_arg5)
abbrev b0 (t : Fin cfg0.N) : FVec Ideal S152x1024 .f32 := iblk m c 0 t
abbrev b1 (t : Fin cfg0.N) : FVec Ideal S152x1024 .f32 := iblk m c 1 t
abbrev b2 (t : Fin cfg0.N) : FVec Ideal S152x1024 .f32 := iblk m c 2 t
abbrev b3 (t : Fin cfg0.N) : FVec Ideal S152x1024 .f32 := iblk m c 3 t

/-- The gradient the kernel puts together. -/
abbrev G : FVec Ideal S1024x1672 .f32 := Cert.AdamWinRefIdeal.Step.grad (X3 m c) (X4 m c) (X5 m c)

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem val_lt (t : Fin cfg0.N) : t.val < 11 := lt_of_lt_of_eq t.isLt N_0

/-- The array's row at row `r` of point `t`'s block. -/
def at_ (t : Fin cfg0.N) (r : Fin 152) : Fin 1672 := ⟨t.val * 152 + r.val, by have := val_lt t; omega⟩

/-- The arrays the kernel reads are the transposed arguments. -/
theorem entry0 : V m c main_v5 = (transpose S1672x1024 [1, 0] (X0 m c) transposes_S1024x1672_S1672x1024_1_0 : FVec Ideal S1672x1024 .f32) := by
  unfold V V0
  simp only [List.flatten_cons, List.flatten_nil, List.append_nil, List.cons_append, List.nil_append]
  after_results
theorem entry1 : V m c main_v4 = (transpose S1672x1024 [1, 0] (G m c) transposes_S1024x1672_S1672x1024_1_0 : FVec Ideal S1672x1024 .f32) := by
  unfold V V0
  simp only [List.flatten_cons, List.flatten_nil, List.append_nil, List.cons_append, List.nil_append, StableHlo.TRef.ternary, StableHlo.TRef.toBuf, StableHlo.TRef.ofBuf, cast_eq]
  after_results
  rfl
theorem entry2 : V m c main_v6 = (transpose S1672x1024 [1, 0] (X1 m c) transposes_S1024x1672_S1672x1024_1_0 : FVec Ideal S1672x1024 .f32) := by
  unfold V V0
  simp only [List.flatten_cons, List.flatten_nil, List.append_nil, List.cons_append, List.nil_append]
  after_results
theorem entry3 : V m c main_v7 = (transpose S1672x1024 [1, 0] (X2 m c) transposes_S1024x1672_S1672x1024_1_0 : FVec Ideal S1672x1024 .f32) := by
  unfold V V0
  simp only [List.flatten_cons, List.flatten_nil, List.append_nil, List.cons_append, List.nil_append]
  after_results

theorem turned (Z : FVec Ideal S1024x1672 .f32) (k : Fin 1672) (s : Fin 1024) :
    transpose S1672x1024 [1, 0] Z transposes_S1024x1672_S1672x1024_1_0 (ix2 k s) = Z (ix2 s k) := by
  pointwise []

theorem read0 (t : Fin cfg0.N) (r : Fin 152) (s : Fin 1024) : b0 m c t (ix2 r s) = X0 m c (ix2 s (at_ t r)) := by
  have e : b0 m c t (ix2 r s) = (V m c main_v5 : FVec Ideal S1672x1024 .f32) (ix2 (at_ t r) s) := by
    unfold at_
    blk_ext [iblk, idx t]
  rw [e, entry0, turned]
theorem read1 (t : Fin cfg0.N) (r : Fin 152) (s : Fin 1024) : b1 m c t (ix2 r s) = G m c (ix2 s (at_ t r)) := by
  have e : b1 m c t (ix2 r s) = (V m c main_v4 : FVec Ideal S1672x1024 .f32) (ix2 (at_ t r) s) := by
    unfold at_
    blk_ext [iblk, idx t]
  rw [e, entry1, turned]
theorem read2 (t : Fin cfg0.N) (r : Fin 152) (s : Fin 1024) : b2 m c t (ix2 r s) = X1 m c (ix2 s (at_ t r)) := by
  have e : b2 m c t (ix2 r s) = (V m c main_v6 : FVec Ideal S1672x1024 .f32) (ix2 (at_ t r) s) := by
    unfold at_
    blk_ext [iblk, idx t]
  rw [e, entry2, turned]
theorem read3 (t : Fin cfg0.N) (r : Fin 152) (s : Fin 1024) : b3 m c t (ix2 r s) = X2 m c (ix2 s (at_ t r)) := by
  have e : b3 m c t (ix2 r s) = (V m c main_v7 : FVec Ideal S1672x1024 .f32) (ix2 (at_ t r) s) := by
    unfold at_
    blk_ext [iblk, idx t]
  rw [e, entry3, turned]

/-- What a grid point stores of the result `delta`, and the whole array. -/
theorem point_delta (t : Fin cfg0.N) (r : Fin 152) (s : Fin 1024) : k0_pay4 (F := Ideal) (b0 m c t) (b1 m c t) (b2 m c t) (b3 m c t) (ix2 r s) = Cert.AdamWinRefIdeal.Step.delta (X0 m c) (X1 m c) (X2 m c) (X3 m c) (X4 m c) (X5 m c) (ix2 s (at_ t r)) := by
  rw [pay4_at, Cert.AdamWinRefIdeal.Step.delta_at, read0, read1, read2, read3]
theorem array_delta : (dats m 0 c).arrAt 4 (cfgs 0).N
    = (fun i => Cert.AdamWinRefIdeal.Step.delta (X0 m c) (X1 m c) (X2 m c) (X3 m c) (X4 m c) (X5 m c) (ix2 (i 1 : Fin 1024) (i 0 : Fin 1672)) : FVec Ideal S1672x1024 .f32) := by
  refine (dats m 0 c).arrAt_eq_of_covers 4 _ (by decide +kernel) fun t _ y => ?_
  blk_simp
  rw [after0_4]
  have hy : (((View.whole main_v8_0).slice (win0_4.rect t)).emb y : S1672x1024.Idx) = ix2 (at_ t (y 0)) (y 1) := by
    unfold at_
    blk_ext [idx t]
  rw [hy]
  have key : k0_pay4 (F := Ideal) (b0 m c t) (b1 m c t) (b2 m c t) (b3 m c t) y = Cert.AdamWinRefIdeal.Step.delta (X0 m c) (X1 m c) (X2 m c) (X3 m c) (X4 m c) (X5 m c) (ix2 (y 1 : Fin 1024) (at_ t (y 0))) :=
    (congrArg _ (eq_ix2 y)).trans (point_delta m c t (y 0) (y 1))
  unfold out0_4
  frame_out
  exact key
/-- The result, turned back. -/
theorem final_delta : Pipeline.afterTail₀ cfgs (dats m) 0 (V0 m) [hostOps1] c main_v10 = Cert.AdamWinRefIdeal.Step.delta (X0 m c) (X1 m c) (X2 m c) (X3 m c) (X4 m c) (X5 m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v8_0)
      = (dats m 0 c).arrAt 4 (cfgs 0).N := Pipeline.withArrays_arr (cfgs 0).spec (by decide) c (V0 m c) _ 4
  rw [e, array_delta]
  funext i
  obtain ⟨p, q, rfl⟩ : ∃ (p : Fin 1024) (q : Fin 1672), i = ix2 p q := ⟨i 0, i 1, eq_ix2 i⟩
  pointwise []

/-- What a grid point stores of the result `moment`, and the whole array. -/
theorem point_moment (t : Fin cfg0.N) (r : Fin 152) (s : Fin 1024) : k0_pay2 (F := Ideal) (b1 m c t) (b2 m c t) (ix2 r s) = Cert.AdamWinRefIdeal.Step.moment (X1 m c) (X3 m c) (X4 m c) (X5 m c) (ix2 s (at_ t r)) := by
  rw [pay2_at, Cert.AdamWinRefIdeal.Step.moment_at, read1, read2]
theorem array_moment : (dats m 0 c).arrAt 5 (cfgs 0).N
    = (fun i => Cert.AdamWinRefIdeal.Step.moment (X1 m c) (X3 m c) (X4 m c) (X5 m c) (ix2 (i 1 : Fin 1024) (i 0 : Fin 1672)) : FVec Ideal S1672x1024 .f32) := by
  refine (dats m 0 c).arrAt_eq_of_covers 5 _ (by decide +kernel) fun t _ y => ?_
  blk_simp
  rw [after0_5]
  have hy : (((View.whole main_v8_1).slice (win0_5.rect t)).emb y : S1672x1024.Idx) = ix2 (at_ t (y 0)) (y 1) := by
    unfold at_
    blk_ext [idx t]
  rw [hy]
  have key : k0_pay2 (F := Ideal) (b1 m c t) (b2 m c t) y = Cert.AdamWinRefIdeal.Step.moment (X1 m c) (X3 m c) (X4 m c) (X5 m c) (ix2 (y 1 : Fin 1024) (at_ t (y 0))) :=
    (congrArg _ (eq_ix2 y)).trans (point_moment m c t (y 0) (y 1))
  unfold out0_5
  frame_out
  exact key
/-- The result, turned back. -/
theorem final_moment : Pipeline.afterTail₀ cfgs (dats m) 0 (V0 m) [hostOps1] c main_v11 = Cert.AdamWinRefIdeal.Step.moment (X1 m c) (X3 m c) (X4 m c) (X5 m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v8_1)
      = (dats m 0 c).arrAt 5 (cfgs 0).N := Pipeline.withArrays_arr (cfgs 0).spec (by decide) c (V0 m c) _ 5
  rw [e, array_moment]
  funext i
  obtain ⟨p, q, rfl⟩ : ∃ (p : Fin 1024) (q : Fin 1672), i = ix2 p q := ⟨i 0, i 1, eq_ix2 i⟩
  pointwise []

/-- What a grid point stores of the result `variance`, and the whole array. -/
theorem point_variance (t : Fin cfg0.N) (r : Fin 152) (s : Fin 1024) : k0_pay3 (F := Ideal) (b1 m c t) (b3 m c t) (ix2 r s) = Cert.AdamWinRefIdeal.Step.variance (X2 m c) (X3 m c) (X4 m c) (X5 m c) (ix2 s (at_ t r)) := by
  rw [pay3_at, Cert.AdamWinRefIdeal.Step.variance_at, read1, read3]
theorem array_variance : (dats m 0 c).arrAt 6 (cfgs 0).N
    = (fun i => Cert.AdamWinRefIdeal.Step.variance (X2 m c) (X3 m c) (X4 m c) (X5 m c) (ix2 (i 1 : Fin 1024) (i 0 : Fin 1672)) : FVec Ideal S1672x1024 .f32) := by
  refine (dats m 0 c).arrAt_eq_of_covers 6 _ (by decide +kernel) fun t _ y => ?_
  blk_simp
  rw [after0_6]
  have hy : (((View.whole main_v8_2).slice (win0_6.rect t)).emb y : S1672x1024.Idx) = ix2 (at_ t (y 0)) (y 1) := by
    unfold at_
    blk_ext [idx t]
  rw [hy]
  have key : k0_pay3 (F := Ideal) (b1 m c t) (b3 m c t) y = Cert.AdamWinRefIdeal.Step.variance (X2 m c) (X3 m c) (X4 m c) (X5 m c) (ix2 (y 1 : Fin 1024) (at_ t (y 0))) :=
    (congrArg _ (eq_ix2 y)).trans (point_variance m c t (y 0) (y 1))
  unfold out0_6
  frame_out
  exact key
/-- The result, turned back. -/
theorem final_variance : Pipeline.afterTail₀ cfgs (dats m) 0 (V0 m) [hostOps1] c main_v12 = Cert.AdamWinRefIdeal.Step.variance (X2 m c) (X3 m c) (X4 m c) (X5 m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v8_2)
      = (dats m 0 c).arrAt 6 (cfgs 0).N := Pipeline.withArrays_arr (cfgs 0).spec (by decide) c (V0 m c) _ 6
  rw [e, array_variance]
  funext i
  obtain ⟨p, q, rfl⟩ : ∃ (p : Fin 1024) (q : Fin 1672), i = ix2 p q := ⟨i 0, i 1, eq_ix2 i⟩
  pointwise []

/-- The gradient, turned and turned back. -/
theorem final_grad : Pipeline.afterTail₀ cfgs (dats m) 0 (V0 m) [hostOps1] c main_v9 = G m c := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v4)
      = V m c main_v4 := (Pipeline.withArrays_arr (cfgs 0).spec (by decide) c (V0 m c) _ 1).trans
        (((dats m 0 c).arrAt_in 1 rfl _).trans (A_eq m c 1))
  rw [e, entry1]
  funext i
  obtain ⟨p, q, rfl⟩ : ∃ (p : Fin 1024) (q : Fin 1672), i = ix2 p q := ⟨i 0, i 1, eq_ix2 i⟩
  generalize G m c = Z
  pointwise []

end Cert.AdamWinIdeal.Step

end
-- ==== Proof.AdamUpStep.lean ====
/- One AdamW step of a weight whose gradient lies in two halves of stacked rows. -/
module

public import proofs.«01_k».proof.Proof.Gen.AdamUpIdeal.Frame
public import proofs.«01_k».proof.Proof.Gen.AdamUpRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamUpRefIdeal.Step

open Idealize.ShloMosaic Idealize.ShloMosaic.TcCoe Idealize.SL.Sem
open Cert.AdamUpRefIdeal Cert.AdamUpRefIdeal.Gen Cert.AdamStep

variable (X0 X1 X2 : FVec Ideal S1024x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S1024x1024 .f32 :=
  extractStridedSlice S1024x1024 ![0, 0] (concatenate S3584x1024 0 [⟨S1792x1024, half X3 X4 X5 0#32⟩, ⟨S1792x1024, half X3 X4 X5 1#32⟩] concatenates_S1792x1024_S1792x1024_S3584x1024_d0) slices_S3584x1024_S1024x1024_0_0
def moment : FVec Ideal S1024x1024 .f32 :=
  addf (mulf (broadcastInDim S1024x1024 ![] bcast_S_S1024x1024 (constant S_ .f32 0x3F666666#32)) X1) (mulf (broadcastInDim S1024x1024 ![] bcast_S_S1024x1024 (constant S_ .f32 0x3DCCCCCD#32)) (grad X3 X4 X5))
def variance : FVec Ideal S1024x1024 .f32 :=
  addf (mulf (broadcastInDim S1024x1024 ![] bcast_S_S1024x1024 (constant S_ .f32 0x3F7FBE77#32)) X2) (mulf (broadcastInDim S1024x1024 ![] bcast_S_S1024x1024 (constant S_ .f32 0x3A83126F#32)) (mulf (grad X3 X4 X5) (grad X3 X4 X5)))
def delta : FVec Ideal S1024x1024 .f32 :=
  mulf (broadcastInDim S1024x1024 ![] bcast_S_S1024x1024 (constant S_ .f32 0xBA83126F#32)) (addf (Host.divf (Host.divf (moment X1 X3 X4 X5) (broadcastInDim S1024x1024 ![] bcast_S_S1024x1024 (constant S_ .f32 0x3F26BD02#32))) (addf (Host.sqrt (Host.divf (variance X2 X3 X4 X5) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 1024) (j : Fin 1024) : grad X3 X4 X5 (ix2 i j)
    = if h : i.val < 1792 then half X3 X4 X5 0#32 (ix2 (⟨i.val, h⟩ : Fin 1792) j)
      else half X3 X4 X5 1#32 (ix2 (⟨i.val - 1792, by omega⟩ : Fin 1792) j) := by
  unfold grad
  generalize half X3 X4 X5 0#32 = P
  generalize half X3 X4 X5 1#32 = Q
  pointwise []

theorem moment_at (i : Fin 1024) (j : Fin 1024) : moment X1 X3 X4 X5 (ix2 i j) = first (grad X3 X4 X5 (ix2 i j)) (X1 (ix2 i j)) := by
  pointwise [moment]
  rfl
theorem variance_at (i : Fin 1024) (j : Fin 1024) : variance X2 X3 X4 X5 (ix2 i j) = second (grad X3 X4 X5 (ix2 i j)) (X2 (ix2 i j)) := by
  pointwise [variance]
  rfl
theorem delta_at (i : Fin 1024) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamUpRefIdeal.Value.run m ρ

end Cert.AdamUpRefIdeal.Step

namespace Cert.AdamUpIdeal.Step

open Idealize.ShloMosaic Idealize.ShloMosaic.TcCoe Idealize.SL.Sem
open Cert.AdamUpIdeal Cert.AdamUpIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((0 + t.val) / 7) then p else q := by
  have e : k0_pay3 (F := Ideal) (grid0.coords t) p q z = Scalar.select (Scalar.cmpi .eq (BitVec.ofNat 32 ((0 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((0 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S1024x1024 .f32 := m ((c : Thread nD τ).loc main_arg0)
abbrev X1 : FVec Ideal S1024x1024 .f32 := m ((c : Thread nD τ).loc main_arg1)
abbrev X2 : FVec Ideal S1024x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(0 + t.val) % 7, 0]
    ∧ ((cfgM m hO).win 4).index t = ![(0 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(0 + t.val) % 7, 0]
    ∧ cc0_transform_4 (grid0.coords t) = ![(0 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 4 := lt_of_lt_of_eq t.isLt (by decide +kernel : grid0.N = 4)

/-- The weight's row at row `r` of point `t`'s block, and the halves' row there. -/
def at_ (t : Fin (cfgM m hO).N) (r : Fin 256) : Fin 1024 := ⟨t.val * 256 + r.val, by have := val_lt m hO t; omega⟩
def in_ (t : Fin (cfgM m hO).N) (r : Fin 256) : Fin 1792 := ⟨(0 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamUpRefIdeal.Step.grad (X3 m c) (X4 m c) (X5 m c) (ix2 (at_ m hO t r) s) := by
  have ht := val_lt m hO t
  rw [pay3_eq, Cert.AdamUpRefIdeal.Step.grad_at]
  by_cases h : 0 + t.val < 7
  · have hi : (at_ m hO t r).val < 1792 := by unfold at_; dsimp only; omega
    have hr : in_ m hO t r = ⟨(at_ m hO t r).val, hi⟩ := by unfold in_ at_; apply Fin.ext; dsimp only; omega
    rw [dif_pos hi, Cert.AdamUpRefIdeal.Step.half_at, show (0 + t.val) / 7 = 0 by omega, ← hr, ← read3, ← read4]
    split <;> rfl
  · have hi : ¬ (at_ m hO t r).val < 1792 := by unfold at_; dsimp only; omega
    have hr : in_ m hO t r = ⟨(at_ m hO t r).val - 1792, by omega⟩ := by unfold in_ at_; apply Fin.ext; dsimp only; omega
    rw [dif_neg hi, Cert.AdamUpRefIdeal.Step.half_at, show (0 + t.val) / 7 = 1 by omega, ← hr, ← read3, ← read4]
    split <;> rfl

/-- The whole array of the result `grad`. -/
theorem final_grad : (dats m hO 0 c).arrAt 5 (cfgM m hO).N = Cert.AdamUpRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S1024x1024.Idx) = ix2 (at_ m hO t (y 0)) (y 1) := by
    show (((View.whole main_v0_0).slice (((cfgM m hO).win 5).rect t)).emb y : S1024x1024.Idx) = _
    unfold at_
    blk_ext [idx m hO t]
  have key : k0_pay3 (F := Ideal) (grid0.coords t) (b3 m hO c t) (b4 m hO c t) (Z m c) y = Cert.AdamUpRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamUpRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamUpRefIdeal.Step.delta (X0 m c) (X1 m c) (X2 m c) (X3 m c) (X4 m c) (X5 m c) (ix2 (at_ m hO t r) s) := by
  rw [pay2_at, point_grad, Cert.AdamUpRefIdeal.Step.delta_at, read0, read1, read2]

/-- The whole array of the result `delta`. -/
theorem final_delta : (dats m hO 0 c).arrAt 6 (cfgM m hO).N = Cert.AdamUpRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S1024x1024.Idx) = ix2 (at_ m hO t (y 0)) (y 1) := by
    show (((View.whole main_v0_1).slice (((cfgM m hO).win 6).rect t)).emb y : S1024x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamUpRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamUpRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamUpRefIdeal.Step.moment (X1 m c) (X3 m c) (X4 m c) (X5 m c) (ix2 (at_ m hO t r) s) := by
  rw [pay4_at, point_grad, Cert.AdamUpRefIdeal.Step.moment_at, read1]

/-- The whole array of the result `moment`. -/
theorem final_moment : (dats m hO 0 c).arrAt 7 (cfgM m hO).N = Cert.AdamUpRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S1024x1024.Idx) = ix2 (at_ m hO t (y 0)) (y 1) := by
    show (((View.whole main_v0_2).slice (((cfgM m hO).win 7).rect t)).emb y : S1024x1024.Idx) = _
    unfold at_
    blk_ext [idx m hO t]
  have key : k0_pay4 (F := Ideal) (grid0.coords t) (b1 m hO c t) (b3 m hO c t) (b4 m hO c t) (Z m c) y = Cert.AdamUpRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamUpRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamUpRefIdeal.Step.variance (X2 m c) (X3 m c) (X4 m c) (X5 m c) (ix2 (at_ m hO t r) s) := by
  rw [pay1_at, point_grad, Cert.AdamUpRefIdeal.Step.variance_at, read2]

/-- The whole array of the result `variance`. -/
theorem final_variance : (dats m hO 0 c).arrAt 8 (cfgM m hO).N = Cert.AdamUpRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S1024x1024.Idx) = ix2 (at_ m hO t (y 0)) (y 1) := by
    show (((View.whole main_v0_3).slice (((cfgM m hO).win 8).rect t)).emb y : S1024x1024.Idx) = _
    unfold at_
    blk_ext [idx m hO t]
  have key : k0_pay1 (F := Ideal) (k0_pay5 (b2 m hO c t)) (k0_pay6 (grid0.coords t) (b3 m hO c t) (b4 m hO c t) (Z m c)) y = Cert.AdamUpRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamUpRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamUpIdeal.Step

end
-- ==== Proof.AdamDownStep.lean ====
/- One AdamW step of a weight whose gradient lies in two halves of stacked rows. -/
module

public import proofs.«01_k».proof.Proof.Gen.AdamDownIdeal.Frame
public import proofs.«01_k».proof.Proof.Gen.AdamDownRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamDownRefIdeal.Step

open Idealize.ShloMosaic Idealize.ShloMosaic.TcCoe Idealize.SL.Sem
open Cert.AdamDownRefIdeal Cert.AdamDownRefIdeal.Gen Cert.AdamStep

variable (X0 X1 X2 : FVec Ideal S1024x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S1024x1024 .f32 :=
  extractStridedSlice S1024x1024 ![1024, 0] (concatenate S3584x1024 0 [⟨S1792x1024, half X3 X4 X5 0#32⟩, ⟨S1792x1024, half X3 X4 X5 1#32⟩] concatenates_S1792x1024_S1792x1024_S3584x1024_d0) slices_S3584x1024_S1024x1024_1024_0
def moment : FVec Ideal S1024x1024 .f32 :=
  addf (mulf (broadcastInDim S1024x1024 ![] bcast_S_S1024x1024 (constant S_ .f32 0x3F666666#32)) X1) (mulf (broadcastInDim S1024x1024 ![] bcast_S_S1024x1024 (constant S_ .f32 0x3DCCCCCD#32)) (grad X3 X4 X5))
def variance : FVec Ideal S1024x1024 .f32 :=
  addf (mulf (broadcastInDim S1024x1024 ![] bcast_S_S1024x1024 (constant S_ .f32 0x3F7FBE77#32)) X2) (mulf (broadcastInDim S1024x1024 ![] bcast_S_S1024x1024 (constant S_ .f32 0x3A83126F#32)) (mulf (grad X3 X4 X5) (grad X3 X4 X5)))
def delta : FVec Ideal S1024x1024 .f32 :=
  mulf (broadcastInDim S1024x1024 ![] bcast_S_S1024x1024 (constant S_ .f32 0xBA83126F#32)) (addf (Host.divf (Host.divf (moment X1 X3 X4 X5) (broadcastInDim S1024x1024 ![] bcast_S_S1024x1024 (constant S_ .f32 0x3F26BD02#32))) (addf (Host.sqrt (Host.divf (variance X2 X3 X4 X5) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 1024) (j : Fin 1024) : grad X3 X4 X5 (ix2 i j)
    = if h : 1024 + i.val < 1792 then half X3 X4 X5 0#32 (ix2 (⟨1024 + i.val, h⟩ : Fin 1792) j)
      else half X3 X4 X5 1#32 (ix2 (⟨1024 + i.val - 1792, by omega⟩ : Fin 1792) j) := by
  unfold grad
  generalize half X3 X4 X5 0#32 = P
  generalize half X3 X4 X5 1#32 = Q
  pointwise []

theorem moment_at (i : Fin 1024) (j : Fin 1024) : moment X1 X3 X4 X5 (ix2 i j) = first (grad X3 X4 X5 (ix2 i j)) (X1 (ix2 i j)) := by
  pointwise [moment]
  rfl
theorem variance_at (i : Fin 1024) (j : Fin 1024) : variance X2 X3 X4 X5 (ix2 i j) = second (grad X3 X4 X5 (ix2 i j)) (X2 (ix2 i j)) := by
  pointwise [variance]
  rfl
theorem delta_at (i : Fin 1024) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamDownRefIdeal.Value.run m ρ

end Cert.AdamDownRefIdeal.Step

namespace Cert.AdamDownIdeal.Step

open Idealize.ShloMosaic Idealize.ShloMosaic.TcCoe Idealize.SL.Sem
open Cert.AdamDownIdeal Cert.AdamDownIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((4 + t.val) / 7) then p else q := by
  have e : k0_pay3 (F := Ideal) (grid0.coords t) p q z = Scalar.select (Scalar.cmpi .eq (BitVec.ofNat 32 ((4 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((4 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S1024x1024 .f32 := m ((c : Thread nD τ).loc main_arg0)
abbrev X1 : FVec Ideal S1024x1024 .f32 := m ((c : Thread nD τ).loc main_arg1)
abbrev X2 : FVec Ideal S1024x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(4 + t.val) % 7, 0]
    ∧ ((cfgM m hO).win 4).index t = ![(4 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(4 + t.val) % 7, 0]
    ∧ cc0_transform_4 (grid0.coords t) = ![(4 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 4 := lt_of_lt_of_eq t.isLt (by decide +kernel : grid0.N = 4)

/-- The weight's row at row `r` of point `t`'s block, and the halves' row there. -/
def at_ (t : Fin (cfgM m hO).N) (r : Fin 256) : Fin 1024 := ⟨t.val * 256 + r.val, by have := val_lt m hO t; omega⟩
def in_ (t : Fin (cfgM m hO).N) (r : Fin 256) : Fin 1792 := ⟨(4 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamDownRefIdeal.Step.grad (X3 m c) (X4 m c) (X5 m c) (ix2 (at_ m hO t r) s) := by
  have ht := val_lt m hO t
  rw [pay3_eq, Cert.AdamDownRefIdeal.Step.grad_at]
  by_cases h : 4 + t.val < 7
  · have hi : 1024 + (at_ m hO t r).val < 1792 := by unfold at_; dsimp only; omega
    have hr : in_ m hO t r = ⟨1024 + (at_ m hO t r).val, hi⟩ := by unfold in_ at_; apply Fin.ext; dsimp only; omega
    rw [dif_pos hi, Cert.AdamDownRefIdeal.Step.half_at, show (4 + t.val) / 7 = 0 by omega, ← hr, ← read3, ← read4]
    split <;> rfl
  · have hi : ¬ 1024 + (at_ m hO t r).val < 1792 := by unfold at_; dsimp only; omega
    have hr : in_ m hO t r = ⟨1024 + (at_ m hO t r).val - 1792, by omega⟩ := by unfold in_ at_; apply Fin.ext; dsimp only; omega
    rw [dif_neg hi, Cert.AdamDownRefIdeal.Step.half_at, show (4 + t.val) / 7 = 1 by omega, ← hr, ← read3, ← read4]
    split <;> rfl

/-- The whole array of the result `grad`. -/
theorem final_grad : (dats m hO 0 c).arrAt 5 (cfgM m hO).N = Cert.AdamDownRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S1024x1024.Idx) = ix2 (at_ m hO t (y 0)) (y 1) := by
    show (((View.whole main_v0_0).slice (((cfgM m hO).win 5).rect t)).emb y : S1024x1024.Idx) = _
    unfold at_
    blk_ext [idx m hO t]
  have key : k0_pay3 (F := Ideal) (grid0.coords t) (b3 m hO c t) (b4 m hO c t) (Z m c) y = Cert.AdamDownRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamDownRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamDownRefIdeal.Step.delta (X0 m c) (X1 m c) (X2 m c) (X3 m c) (X4 m c) (X5 m c) (ix2 (at_ m hO t r) s) := by
  rw [pay2_at, point_grad, Cert.AdamDownRefIdeal.Step.delta_at, read0, read1, read2]

/-- The whole array of the result `delta`. -/
theorem final_delta : (dats m hO 0 c).arrAt 6 (cfgM m hO).N = Cert.AdamDownRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S1024x1024.Idx) = ix2 (at_ m hO t (y 0)) (y 1) := by
    show (((View.whole main_v0_1).slice (((cfgM m hO).win 6).rect t)).emb y : S1024x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamDownRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamDownRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamDownRefIdeal.Step.moment (X1 m c) (X3 m c) (X4 m c) (X5 m c) (ix2 (at_ m hO t r) s) := by
  rw [pay4_at, point_grad, Cert.AdamDownRefIdeal.Step.moment_at, read1]

/-- The whole array of the result `moment`. -/
theorem final_moment : (dats m hO 0 c).arrAt 7 (cfgM m hO).N = Cert.AdamDownRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S1024x1024.Idx) = ix2 (at_ m hO t (y 0)) (y 1) := by
    show (((View.whole main_v0_2).slice (((cfgM m hO).win 7).rect t)).emb y : S1024x1024.Idx) = _
    unfold at_
    blk_ext [idx m hO t]
  have key : k0_pay4 (F := Ideal) (grid0.coords t) (b1 m hO c t) (b3 m hO c t) (b4 m hO c t) (Z m c) y = Cert.AdamDownRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamDownRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamDownRefIdeal.Step.variance (X2 m c) (X3 m c) (X4 m c) (X5 m c) (ix2 (at_ m hO t r) s) := by
  rw [pay1_at, point_grad, Cert.AdamDownRefIdeal.Step.variance_at, read2]

/-- The whole array of the result `variance`. -/
theorem final_variance : (dats m hO 0 c).arrAt 8 (cfgM m hO).N = Cert.AdamDownRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S1024x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S1024x1024.Idx) = ix2 (at_ m hO t (y 0)) (y 1) := by
    show (((View.whole main_v0_3).slice (((cfgM m hO).win 8).rect t)).emb y : S1024x1024.Idx) = _
    unfold at_
    blk_ext [idx m hO t]
  have key : k0_pay1 (F := Ideal) (k0_pay5 (b2 m hO c t)) (k0_pay6 (grid0.coords t) (b3 m hO c t) (b4 m hO c t) (Z m c)) y = Cert.AdamDownRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamDownRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamDownIdeal.Step

end
-- ==== Proof.AdamOutStep.lean ====
/- One AdamW step of a weight whose gradient lies in two halves of stacked rows. -/
module

public import proofs.«01_k».proof.Proof.Gen.AdamOutIdeal.Frame
public import proofs.«01_k».proof.Proof.Gen.AdamOutRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamOutRefIdeal.Step

open Idealize.ShloMosaic Idealize.ShloMosaic.TcCoe Idealize.SL.Sem
open Cert.AdamOutRefIdeal Cert.AdamOutRefIdeal.Gen Cert.AdamStep

variable (X0 X1 X2 : FVec Ideal S512x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S512x1024 .f32 :=
  extractStridedSlice S512x1024 ![2048, 0] (concatenate S3584x1024 0 [⟨S1792x1024, half X3 X4 X5 0#32⟩, ⟨S1792x1024, half X3 X4 X5 1#32⟩] concatenates_S1792x1024_S1792x1024_S3584x1024_d0) slices_S3584x1024_S512x1024_2048_0
def moment : FVec Ideal S512x1024 .f32 :=
  addf (mulf (broadcastInDim S512x1024 ![] bcast_S_S512x1024 (constant S_ .f32 0x3F666666#32)) X1) (mulf (broadcastInDim S512x1024 ![] bcast_S_S512x1024 (constant S_ .f32 0x3DCCCCCD#32)) (grad X3 X4 X5))
def variance : FVec Ideal S512x1024 .f32 :=
  addf (mulf (broadcastInDim S512x1024 ![] bcast_S_S512x1024 (constant S_ .f32 0x3F7FBE77#32)) X2) (mulf (broadcastInDim S512x1024 ![] bcast_S_S512x1024 (constant S_ .f32 0x3A83126F#32)) (mulf (grad X3 X4 X5) (grad X3 X4 X5)))
def delta : FVec Ideal S512x1024 .f32 :=
  mulf (broadcastInDim S512x1024 ![] bcast_S_S512x1024 (constant S_ .f32 0xBA83126F#32)) (addf (Host.divf (Host.divf (moment X1 X3 X4 X5) (broadcastInDim S512x1024 ![] bcast_S_S512x1024 (constant S_ .f32 0x3F26BD02#32))) (addf (Host.sqrt (Host.divf (variance X2 X3 X4 X5) (broadcastInDim S512x1024 ![] bcast_S_S512x1024 (constant S_ .f32 0x3C231ACC#32)))) (broadcastInDim S512x1024 ![] bcast_S_S512x1024 (constant S_ .f32 0x322BCC77#32)))) (mulf (broadcastInDim S512x1024 ![] bcast_S_S512x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 512) (j : Fin 1024) : grad X3 X4 X5 (ix2 i j)
    = if h : 2048 + i.val < 1792 then half X3 X4 X5 0#32 (ix2 (⟨2048 + i.val, h⟩ : Fin 1792) j)
      else half X3 X4 X5 1#32 (ix2 (⟨2048 + i.val - 1792, by omega⟩ : Fin 1792) j) := by
  unfold grad
  generalize half X3 X4 X5 0#32 = P
  generalize half X3 X4 X5 1#32 = Q
  pointwise []

theorem moment_at (i : Fin 512) (j : Fin 1024) : moment X1 X3 X4 X5 (ix2 i j) = first (grad X3 X4 X5 (ix2 i j)) (X1 (ix2 i j)) := by
  pointwise [moment]
  rfl
theorem variance_at (i : Fin 512) (j : Fin 1024) : variance X2 X3 X4 X5 (ix2 i j) = second (grad X3 X4 X5 (ix2 i j)) (X2 (ix2 i j)) := by
  pointwise [variance]
  rfl
theorem delta_at (i : Fin 512) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamOutRefIdeal.Value.run m ρ

end Cert.AdamOutRefIdeal.Step

namespace Cert.AdamOutIdeal.Step

open Idealize.ShloMosaic Idealize.ShloMosaic.TcCoe Idealize.SL.Sem
open Cert.AdamOutIdeal Cert.AdamOutIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((8 + t.val) / 7) then p else q := by
  have e : k0_pay3 (F := Ideal) (grid0.coords t) p q z = Scalar.select (Scalar.cmpi .eq (BitVec.ofNat 32 ((8 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((8 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S512x1024 .f32 := m ((c : Thread nD τ).loc main_arg0)
abbrev X1 : FVec Ideal S512x1024 .f32 := m ((c : Thread nD τ).loc main_arg1)
abbrev X2 : FVec Ideal S512x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(8 + t.val) % 7, 0]
    ∧ ((cfgM m hO).win 4).index t = ![(8 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(8 + t.val) % 7, 0]
    ∧ cc0_transform_4 (grid0.coords t) = ![(8 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 2 := lt_of_lt_of_eq t.isLt (by decide +kernel : grid0.N = 2)

/-- The weight's row at row `r` of point `t`'s block, and the halves' row there. -/
def at_ (t : Fin (cfgM m hO).N) (r : Fin 256) : Fin 512 := ⟨t.val * 256 + r.val, by have := val_lt m hO t; omega⟩
def in_ (t : Fin (cfgM m hO).N) (r : Fin 256) : Fin 1792 := ⟨(8 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamOutRefIdeal.Step.grad (X3 m c) (X4 m c) (X5 m c) (ix2 (at_ m hO t r) s) := by
  have ht := val_lt m hO t
  rw [pay3_eq, Cert.AdamOutRefIdeal.Step.grad_at]
  by_cases h : 8 + t.val < 7
  · have hi : 2048 + (at_ m hO t r).val < 1792 := by unfold at_; dsimp only; omega
    have hr : in_ m hO t r = ⟨2048 + (at_ m hO t r).val, hi⟩ := by unfold in_ at_; apply Fin.ext; dsimp only; omega
    rw [dif_pos hi, Cert.AdamOutRefIdeal.Step.half_at, show (8 + t.val) / 7 = 0 by omega, ← hr, ← read3, ← read4]
    split <;> rfl
  · have hi : ¬ 2048 + (at_ m hO t r).val < 1792 := by unfold at_; dsimp only; omega
    have hr : in_ m hO t r = ⟨2048 + (at_ m hO t r).val - 1792, by omega⟩ := by unfold in_ at_; apply Fin.ext; dsimp only; omega
    rw [dif_neg hi, Cert.AdamOutRefIdeal.Step.half_at, show (8 + t.val) / 7 = 1 by omega, ← hr, ← read3, ← read4]
    split <;> rfl

/-- The whole array of the result `grad`. -/
theorem final_grad : (dats m hO 0 c).arrAt 5 (cfgM m hO).N = Cert.AdamOutRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S512x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S512x1024.Idx) = ix2 (at_ m hO t (y 0)) (y 1) := by
    show (((View.whole main_v0_0).slice (((cfgM m hO).win 5).rect t)).emb y : S512x1024.Idx) = _
    unfold at_
    blk_ext [idx m hO t]
  have key : k0_pay3 (F := Ideal) (grid0.coords t) (b3 m hO c t) (b4 m hO c t) (Z m c) y = Cert.AdamOutRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamOutRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamOutRefIdeal.Step.delta (X0 m c) (X1 m c) (X2 m c) (X3 m c) (X4 m c) (X5 m c) (ix2 (at_ m hO t r) s) := by
  rw [pay2_at, point_grad, Cert.AdamOutRefIdeal.Step.delta_at, read0, read1, read2]

/-- The whole array of the result `delta`. -/
theorem final_delta : (dats m hO 0 c).arrAt 6 (cfgM m hO).N = Cert.AdamOutRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S512x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S512x1024.Idx) = ix2 (at_ m hO t (y 0)) (y 1) := by
    show (((View.whole main_v0_1).slice (((cfgM m hO).win 6).rect t)).emb y : S512x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamOutRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamOutRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamOutRefIdeal.Step.moment (X1 m c) (X3 m c) (X4 m c) (X5 m c) (ix2 (at_ m hO t r) s) := by
  rw [pay4_at, point_grad, Cert.AdamOutRefIdeal.Step.moment_at, read1]

/-- The whole array of the result `moment`. -/
theorem final_moment : (dats m hO 0 c).arrAt 7 (cfgM m hO).N = Cert.AdamOutRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S512x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S512x1024.Idx) = ix2 (at_ m hO t (y 0)) (y 1) := by
    show (((View.whole main_v0_2).slice (((cfgM m hO).win 7).rect t)).emb y : S512x1024.Idx) = _
    unfold at_
    blk_ext [idx m hO t]
  have key : k0_pay4 (F := Ideal) (grid0.coords t) (b1 m hO c t) (b3 m hO c t) (b4 m hO c t) (Z m c) y = Cert.AdamOutRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamOutRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamOutRefIdeal.Step.variance (X2 m c) (X3 m c) (X4 m c) (X5 m c) (ix2 (at_ m hO t r) s) := by
  rw [pay1_at, point_grad, Cert.AdamOutRefIdeal.Step.variance_at, read2]

/-- The whole array of the result `variance`. -/
theorem final_variance : (dats m hO 0 c).arrAt 8 (cfgM m hO).N = Cert.AdamOutRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S512x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S512x1024.Idx) = ix2 (at_ m hO t (y 0)) (y 1) := by
    show (((View.whole main_v0_3).slice (((cfgM m hO).win 8).rect t)).emb y : S512x1024.Idx) = _
    unfold at_
    blk_ext [idx m hO t]
  have key : k0_pay1 (F := Ideal) (k0_pay5 (b2 m hO c t)) (k0_pay6 (grid0.coords t) (b3 m hO c t) (b4 m hO c t) (Z m c)) y = Cert.AdamOutRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamOutRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamOutIdeal.Step

end
-- ==== Proof.AdamWqStep.lean ====
/- One AdamW step of a weight whose gradient lies in two halves of stacked rows. -/
module

public import proofs.«01_k».proof.Proof.Gen.AdamWqIdeal.Frame
public import proofs.«01_k».proof.Proof.Gen.AdamWqRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamWqRefIdeal.Step

open Idealize.ShloMosaic Idealize.ShloMosaic.TcCoe Idealize.SL.Sem
open Cert.AdamWqRefIdeal Cert.AdamWqRefIdeal.Gen Cert.AdamStep

variable (X0 X1 X2 : FVec Ideal S256x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S256x1024 .f32 :=
  extractStridedSlice S256x1024 ![2560, 0] (concatenate S3584x1024 0 [⟨S1792x1024, half X3 X4 X5 0#32⟩, ⟨S1792x1024, half X3 X4 X5 1#32⟩] concatenates_S1792x1024_S1792x1024_S3584x1024_d0) slices_S3584x1024_S256x1024_2560_0
def moment : FVec Ideal S256x1024 .f32 :=
  addf (mulf (broadcastInDim S256x1024 ![] bcast_S_S256x1024 (constant S_ .f32 0x3F666666#32)) X1) (mulf (broadcastInDim S256x1024 ![] bcast_S_S256x1024 (constant S_ .f32 0x3DCCCCCD#32)) (grad X3 X4 X5))
def variance : FVec Ideal S256x1024 .f32 :=
  addf (mulf (broadcastInDim S256x1024 ![] bcast_S_S256x1024 (constant S_ .f32 0x3F7FBE77#32)) X2) (mulf (broadcastInDim S256x1024 ![] bcast_S_S256x1024 (constant S_ .f32 0x3A83126F#32)) (mulf (grad X3 X4 X5) (grad X3 X4 X5)))
def delta : FVec Ideal S256x1024 .f32 :=
  mulf (broadcastInDim S256x1024 ![] bcast_S_S256x1024 (constant S_ .f32 0xBA83126F#32)) (addf (Host.divf (Host.divf (moment X1 X3 X4 X5) (broadcastInDim S256x1024 ![] bcast_S_S256x1024 (constant S_ .f32 0x3F26BD02#32))) (addf (Host.sqrt (Host.divf (variance X2 X3 X4 X5) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 256) (j : Fin 1024) : grad X3 X4 X5 (ix2 i j)
    = if h : 2560 + i.val < 1792 then half X3 X4 X5 0#32 (ix2 (⟨2560 + i.val, h⟩ : Fin 1792) j)
      else half X3 X4 X5 1#32 (ix2 (⟨2560 + i.val - 1792, by omega⟩ : Fin 1792) j) := by
  unfold grad
  generalize half X3 X4 X5 0#32 = P
  generalize half X3 X4 X5 1#32 = Q
  pointwise []

theorem moment_at (i : Fin 256) (j : Fin 1024) : moment X1 X3 X4 X5 (ix2 i j) = first (grad X3 X4 X5 (ix2 i j)) (X1 (ix2 i j)) := by
  pointwise [moment]
  rfl
theorem variance_at (i : Fin 256) (j : Fin 1024) : variance X2 X3 X4 X5 (ix2 i j) = second (grad X3 X4 X5 (ix2 i j)) (X2 (ix2 i j)) := by
  pointwise [variance]
  rfl
theorem delta_at (i : Fin 256) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamWqRefIdeal.Value.run m ρ

end Cert.AdamWqRefIdeal.Step

namespace Cert.AdamWqIdeal.Step

open Idealize.ShloMosaic Idealize.ShloMosaic.TcCoe Idealize.SL.Sem
open Cert.AdamWqIdeal Cert.AdamWqIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((10 + t.val) / 7) then p else q := by
  have e : k0_pay3 (F := Ideal) (grid0.coords t) p q z = Scalar.select (Scalar.cmpi .eq (BitVec.ofNat 32 ((10 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((10 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S256x1024 .f32 := m ((c : Thread nD τ).loc main_arg0)
abbrev X1 : FVec Ideal S256x1024 .f32 := m ((c : Thread nD τ).loc main_arg1)
abbrev X2 : FVec Ideal S256x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(10 + t.val) % 7, 0]
    ∧ ((cfgM m hO).win 4).index t = ![(10 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(10 + t.val) % 7, 0]
    ∧ cc0_transform_4 (grid0.coords t) = ![(10 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 1 := lt_of_lt_of_eq t.isLt (by decide +kernel : grid0.N = 1)

/-- The weight's row at row `r` of point `t`'s block, and the halves' row there. -/
def at_ (t : Fin (cfgM m hO).N) (r : Fin 256) : Fin 256 := ⟨t.val * 256 + r.val, by have := val_lt m hO t; omega⟩
def in_ (t : Fin (cfgM m hO).N) (r : Fin 256) : Fin 1792 := ⟨(10 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamWqRefIdeal.Step.grad (X3 m c) (X4 m c) (X5 m c) (ix2 (at_ m hO t r) s) := by
  have ht := val_lt m hO t
  rw [pay3_eq, Cert.AdamWqRefIdeal.Step.grad_at]
  by_cases h : 10 + t.val < 7
  · have hi : 2560 + (at_ m hO t r).val < 1792 := by unfold at_; dsimp only; omega
    have hr : in_ m hO t r = ⟨2560 + (at_ m hO t r).val, hi⟩ := by unfold in_ at_; apply Fin.ext; dsimp only; omega
    rw [dif_pos hi, Cert.AdamWqRefIdeal.Step.half_at, show (10 + t.val) / 7 = 0 by omega, ← hr, ← read3, ← read4]
    split <;> rfl
  · have hi : ¬ 2560 + (at_ m hO t r).val < 1792 := by unfold at_; dsimp only; omega
    have hr : in_ m hO t r = ⟨2560 + (at_ m hO t r).val - 1792, by omega⟩ := by unfold in_ at_; apply Fin.ext; dsimp only; omega
    rw [dif_neg hi, Cert.AdamWqRefIdeal.Step.half_at, show (10 + t.val) / 7 = 1 by omega, ← hr, ← read3, ← read4]
    split <;> rfl

/-- The whole array of the result `grad`. -/
theorem final_grad : (dats m hO 0 c).arrAt 5 (cfgM m hO).N = Cert.AdamWqRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S256x1024.Idx) = ix2 (at_ m hO t (y 0)) (y 1) := by
    show (((View.whole main_v0_0).slice (((cfgM m hO).win 5).rect t)).emb y : S256x1024.Idx) = _
    unfold at_
    blk_ext [idx m hO t]
  have key : k0_pay3 (F := Ideal) (grid0.coords t) (b3 m hO c t) (b4 m hO c t) (Z m c) y = Cert.AdamWqRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamWqRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamWqRefIdeal.Step.delta (X0 m c) (X1 m c) (X2 m c) (X3 m c) (X4 m c) (X5 m c) (ix2 (at_ m hO t r) s) := by
  rw [pay2_at, point_grad, Cert.AdamWqRefIdeal.Step.delta_at, read0, read1, read2]

/-- The whole array of the result `delta`. -/
theorem final_delta : (dats m hO 0 c).arrAt 6 (cfgM m hO).N = Cert.AdamWqRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S256x1024.Idx) = ix2 (at_ m hO t (y 0)) (y 1) := by
    show (((View.whole main_v0_1).slice (((cfgM m hO).win 6).rect t)).emb y : S256x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamWqRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamWqRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamWqRefIdeal.Step.moment (X1 m c) (X3 m c) (X4 m c) (X5 m c) (ix2 (at_ m hO t r) s) := by
  rw [pay4_at, point_grad, Cert.AdamWqRefIdeal.Step.moment_at, read1]

/-- The whole array of the result `moment`. -/
theorem final_moment : (dats m hO 0 c).arrAt 7 (cfgM m hO).N = Cert.AdamWqRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S256x1024.Idx) = ix2 (at_ m hO t (y 0)) (y 1) := by
    show (((View.whole main_v0_2).slice (((cfgM m hO).win 7).rect t)).emb y : S256x1024.Idx) = _
    unfold at_
    blk_ext [idx m hO t]
  have key : k0_pay4 (F := Ideal) (grid0.coords t) (b1 m hO c t) (b3 m hO c t) (b4 m hO c t) (Z m c) y = Cert.AdamWqRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamWqRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamWqRefIdeal.Step.variance (X2 m c) (X3 m c) (X4 m c) (X5 m c) (ix2 (at_ m hO t r) s) := by
  rw [pay1_at, point_grad, Cert.AdamWqRefIdeal.Step.variance_at, read2]

/-- The whole array of the result `variance`. -/
theorem final_variance : (dats m hO 0 c).arrAt 8 (cfgM m hO).N = Cert.AdamWqRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S256x1024.Idx) = ix2 (at_ m hO t (y 0)) (y 1) := by
    show (((View.whole main_v0_3).slice (((cfgM m hO).win 8).rect t)).emb y : S256x1024.Idx) = _
    unfold at_
    blk_ext [idx m hO t]
  have key : k0_pay1 (F := Ideal) (k0_pay5 (b2 m hO c t)) (k0_pay6 (grid0.coords t) (b3 m hO c t) (b4 m hO c t) (Z m c)) y = Cert.AdamWqRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamWqRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamWqIdeal.Step

end
-- ==== Proof.AdamWkStep.lean ====
/- One AdamW step of a weight whose gradient lies in two halves of stacked rows. -/
module

public import proofs.«01_k».proof.Proof.Gen.AdamWkIdeal.Frame
public import proofs.«01_k».proof.Proof.Gen.AdamWkRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamWkRefIdeal.Step

open Idealize.ShloMosaic Idealize.ShloMosaic.TcCoe Idealize.SL.Sem
open Cert.AdamWkRefIdeal Cert.AdamWkRefIdeal.Gen Cert.AdamStep

variable (X0 X1 X2 : FVec Ideal S256x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S256x1024 .f32 :=
  extractStridedSlice S256x1024 ![2816, 0] (concatenate S3584x1024 0 [⟨S1792x1024, half X3 X4 X5 0#32⟩, ⟨S1792x1024, half X3 X4 X5 1#32⟩] concatenates_S1792x1024_S1792x1024_S3584x1024_d0) slices_S3584x1024_S256x1024_2816_0
def moment : FVec Ideal S256x1024 .f32 :=
  addf (mulf (broadcastInDim S256x1024 ![] bcast_S_S256x1024 (constant S_ .f32 0x3F666666#32)) X1) (mulf (broadcastInDim S256x1024 ![] bcast_S_S256x1024 (constant S_ .f32 0x3DCCCCCD#32)) (grad X3 X4 X5))
def variance : FVec Ideal S256x1024 .f32 :=
  addf (mulf (broadcastInDim S256x1024 ![] bcast_S_S256x1024 (constant S_ .f32 0x3F7FBE77#32)) X2) (mulf (broadcastInDim S256x1024 ![] bcast_S_S256x1024 (constant S_ .f32 0x3A83126F#32)) (mulf (grad X3 X4 X5) (grad X3 X4 X5)))
def delta : FVec Ideal S256x1024 .f32 :=
  mulf (broadcastInDim S256x1024 ![] bcast_S_S256x1024 (constant S_ .f32 0xBA83126F#32)) (addf (Host.divf (Host.divf (moment X1 X3 X4 X5) (broadcastInDim S256x1024 ![] bcast_S_S256x1024 (constant S_ .f32 0x3F26BD02#32))) (addf (Host.sqrt (Host.divf (variance X2 X3 X4 X5) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 256) (j : Fin 1024) : grad X3 X4 X5 (ix2 i j)
    = if h : 2816 + i.val < 1792 then half X3 X4 X5 0#32 (ix2 (⟨2816 + i.val, h⟩ : Fin 1792) j)
      else half X3 X4 X5 1#32 (ix2 (⟨2816 + i.val - 1792, by omega⟩ : Fin 1792) j) := by
  unfold grad
  generalize half X3 X4 X5 0#32 = P
  generalize half X3 X4 X5 1#32 = Q
  pointwise []

theorem moment_at (i : Fin 256) (j : Fin 1024) : moment X1 X3 X4 X5 (ix2 i j) = first (grad X3 X4 X5 (ix2 i j)) (X1 (ix2 i j)) := by
  pointwise [moment]
  rfl
theorem variance_at (i : Fin 256) (j : Fin 1024) : variance X2 X3 X4 X5 (ix2 i j) = second (grad X3 X4 X5 (ix2 i j)) (X2 (ix2 i j)) := by
  pointwise [variance]
  rfl
theorem delta_at (i : Fin 256) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamWkRefIdeal.Value.run m ρ

end Cert.AdamWkRefIdeal.Step

namespace Cert.AdamWkIdeal.Step

open Idealize.ShloMosaic Idealize.ShloMosaic.TcCoe Idealize.SL.Sem
open Cert.AdamWkIdeal Cert.AdamWkIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((11 + t.val) / 7) then p else q := by
  have e : k0_pay3 (F := Ideal) (grid0.coords t) p q z = Scalar.select (Scalar.cmpi .eq (BitVec.ofNat 32 ((11 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((11 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S256x1024 .f32 := m ((c : Thread nD τ).loc main_arg0)
abbrev X1 : FVec Ideal S256x1024 .f32 := m ((c : Thread nD τ).loc main_arg1)
abbrev X2 : FVec Ideal S256x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(11 + t.val) % 7, 0]
    ∧ ((cfgM m hO).win 4).index t = ![(11 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(11 + t.val) % 7, 0]
    ∧ cc0_transform_4 (grid0.coords t) = ![(11 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 1 := lt_of_lt_of_eq t.isLt (by decide +kernel : grid0.N = 1)

/-- The weight's row at row `r` of point `t`'s block, and the halves' row there. -/
def at_ (t : Fin (cfgM m hO).N) (r : Fin 256) : Fin 256 := ⟨t.val * 256 + r.val, by have := val_lt m hO t; omega⟩
def in_ (t : Fin (cfgM m hO).N) (r : Fin 256) : Fin 1792 := ⟨(11 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamWkRefIdeal.Step.grad (X3 m c) (X4 m c) (X5 m c) (ix2 (at_ m hO t r) s) := by
  have ht := val_lt m hO t
  rw [pay3_eq, Cert.AdamWkRefIdeal.Step.grad_at]
  by_cases h : 11 + t.val < 7
  · have hi : 2816 + (at_ m hO t r).val < 1792 := by unfold at_; dsimp only; omega
    have hr : in_ m hO t r = ⟨2816 + (at_ m hO t r).val, hi⟩ := by unfold in_ at_; apply Fin.ext; dsimp only; omega
    rw [dif_pos hi, Cert.AdamWkRefIdeal.Step.half_at, show (11 + t.val) / 7 = 0 by omega, ← hr, ← read3, ← read4]
    split <;> rfl
  · have hi : ¬ 2816 + (at_ m hO t r).val < 1792 := by unfold at_; dsimp only; omega
    have hr : in_ m hO t r = ⟨2816 + (at_ m hO t r).val - 1792, by omega⟩ := by unfold in_ at_; apply Fin.ext; dsimp only; omega
    rw [dif_neg hi, Cert.AdamWkRefIdeal.Step.half_at, show (11 + t.val) / 7 = 1 by omega, ← hr, ← read3, ← read4]
    split <;> rfl

/-- The whole array of the result `grad`. -/
theorem final_grad : (dats m hO 0 c).arrAt 5 (cfgM m hO).N = Cert.AdamWkRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S256x1024.Idx) = ix2 (at_ m hO t (y 0)) (y 1) := by
    show (((View.whole main_v0_0).slice (((cfgM m hO).win 5).rect t)).emb y : S256x1024.Idx) = _
    unfold at_
    blk_ext [idx m hO t]
  have key : k0_pay3 (F := Ideal) (grid0.coords t) (b3 m hO c t) (b4 m hO c t) (Z m c) y = Cert.AdamWkRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamWkRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamWkRefIdeal.Step.delta (X0 m c) (X1 m c) (X2 m c) (X3 m c) (X4 m c) (X5 m c) (ix2 (at_ m hO t r) s) := by
  rw [pay2_at, point_grad, Cert.AdamWkRefIdeal.Step.delta_at, read0, read1, read2]

/-- The whole array of the result `delta`. -/
theorem final_delta : (dats m hO 0 c).arrAt 6 (cfgM m hO).N = Cert.AdamWkRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S256x1024.Idx) = ix2 (at_ m hO t (y 0)) (y 1) := by
    show (((View.whole main_v0_1).slice (((cfgM m hO).win 6).rect t)).emb y : S256x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamWkRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamWkRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamWkRefIdeal.Step.moment (X1 m c) (X3 m c) (X4 m c) (X5 m c) (ix2 (at_ m hO t r) s) := by
  rw [pay4_at, point_grad, Cert.AdamWkRefIdeal.Step.moment_at, read1]

/-- The whole array of the result `moment`. -/
theorem final_moment : (dats m hO 0 c).arrAt 7 (cfgM m hO).N = Cert.AdamWkRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S256x1024.Idx) = ix2 (at_ m hO t (y 0)) (y 1) := by
    show (((View.whole main_v0_2).slice (((cfgM m hO).win 7).rect t)).emb y : S256x1024.Idx) = _
    unfold at_
    blk_ext [idx m hO t]
  have key : k0_pay4 (F := Ideal) (grid0.coords t) (b1 m hO c t) (b3 m hO c t) (b4 m hO c t) (Z m c) y = Cert.AdamWkRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamWkRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamWkRefIdeal.Step.variance (X2 m c) (X3 m c) (X4 m c) (X5 m c) (ix2 (at_ m hO t r) s) := by
  rw [pay1_at, point_grad, Cert.AdamWkRefIdeal.Step.variance_at, read2]

/-- The whole array of the result `variance`. -/
theorem final_variance : (dats m hO 0 c).arrAt 8 (cfgM m hO).N = Cert.AdamWkRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S256x1024.Idx) = ix2 (at_ m hO t (y 0)) (y 1) := by
    show (((View.whole main_v0_3).slice (((cfgM m hO).win 8).rect t)).emb y : S256x1024.Idx) = _
    unfold at_
    blk_ext [idx m hO t]
  have key : k0_pay1 (F := Ideal) (k0_pay5 (b2 m hO c t)) (k0_pay6 (grid0.coords t) (b3 m hO c t) (b4 m hO c t) (Z m c)) y = Cert.AdamWkRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamWkRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamWkIdeal.Step

end
-- ==== Proof.AdamWvStep.lean ====
/- One AdamW step of a weight whose gradient lies in two halves of stacked rows. -/
module

public import proofs.«01_k».proof.Proof.Gen.AdamWvIdeal.Frame
public import proofs.«01_k».proof.Proof.Gen.AdamWvRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamWvRefIdeal.Step

open Idealize.ShloMosaic Idealize.ShloMosaic.TcCoe Idealize.SL.Sem
open Cert.AdamWvRefIdeal Cert.AdamWvRefIdeal.Gen Cert.AdamStep

variable (X0 X1 X2 : FVec Ideal S256x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S256x1024 .f32 :=
  extractStridedSlice S256x1024 ![3072, 0] (concatenate S3584x1024 0 [⟨S1792x1024, half X3 X4 X5 0#32⟩, ⟨S1792x1024, half X3 X4 X5 1#32⟩] concatenates_S1792x1024_S1792x1024_S3584x1024_d0) slices_S3584x1024_S256x1024_3072_0
def moment : FVec Ideal S256x1024 .f32 :=
  addf (mulf (broadcastInDim S256x1024 ![] bcast_S_S256x1024 (constant S_ .f32 0x3F666666#32)) X1) (mulf (broadcastInDim S256x1024 ![] bcast_S_S256x1024 (constant S_ .f32 0x3DCCCCCD#32)) (grad X3 X4 X5))
def variance : FVec Ideal S256x1024 .f32 :=
  addf (mulf (broadcastInDim S256x1024 ![] bcast_S_S256x1024 (constant S_ .f32 0x3F7FBE77#32)) X2) (mulf (broadcastInDim S256x1024 ![] bcast_S_S256x1024 (constant S_ .f32 0x3A83126F#32)) (mulf (grad X3 X4 X5) (grad X3 X4 X5)))
def delta : FVec Ideal S256x1024 .f32 :=
  mulf (broadcastInDim S256x1024 ![] bcast_S_S256x1024 (constant S_ .f32 0xBA83126F#32)) (addf (Host.divf (Host.divf (moment X1 X3 X4 X5) (broadcastInDim S256x1024 ![] bcast_S_S256x1024 (constant S_ .f32 0x3F26BD02#32))) (addf (Host.sqrt (Host.divf (variance X2 X3 X4 X5) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 256) (j : Fin 1024) : grad X3 X4 X5 (ix2 i j)
    = if h : 3072 + i.val < 1792 then half X3 X4 X5 0#32 (ix2 (⟨3072 + i.val, h⟩ : Fin 1792) j)
      else half X3 X4 X5 1#32 (ix2 (⟨3072 + i.val - 1792, by omega⟩ : Fin 1792) j) := by
  unfold grad
  generalize half X3 X4 X5 0#32 = P
  generalize half X3 X4 X5 1#32 = Q
  pointwise []

theorem moment_at (i : Fin 256) (j : Fin 1024) : moment X1 X3 X4 X5 (ix2 i j) = first (grad X3 X4 X5 (ix2 i j)) (X1 (ix2 i j)) := by
  pointwise [moment]
  rfl
theorem variance_at (i : Fin 256) (j : Fin 1024) : variance X2 X3 X4 X5 (ix2 i j) = second (grad X3 X4 X5 (ix2 i j)) (X2 (ix2 i j)) := by
  pointwise [variance]
  rfl
theorem delta_at (i : Fin 256) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamWvRefIdeal.Value.run m ρ

end Cert.AdamWvRefIdeal.Step

namespace Cert.AdamWvIdeal.Step

open Idealize.ShloMosaic Idealize.ShloMosaic.TcCoe Idealize.SL.Sem
open Cert.AdamWvIdeal Cert.AdamWvIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((12 + t.val) / 7) then p else q := by
  have e : k0_pay3 (F := Ideal) (grid0.coords t) p q z = Scalar.select (Scalar.cmpi .eq (BitVec.ofNat 32 ((12 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((12 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S256x1024 .f32 := m ((c : Thread nD τ).loc main_arg0)
abbrev X1 : FVec Ideal S256x1024 .f32 := m ((c : Thread nD τ).loc main_arg1)
abbrev X2 : FVec Ideal S256x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(12 + t.val) % 7, 0]
    ∧ ((cfgM m hO).win 4).index t = ![(12 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(12 + t.val) % 7, 0]
    ∧ cc0_transform_4 (grid0.coords t) = ![(12 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 1 := lt_of_lt_of_eq t.isLt (by decide +kernel : grid0.N = 1)

/-- The weight's row at row `r` of point `t`'s block, and the halves' row there. -/
def at_ (t : Fin (cfgM m hO).N) (r : Fin 256) : Fin 256 := ⟨t.val * 256 + r.val, by have := val_lt m hO t; omega⟩
def in_ (t : Fin (cfgM m hO).N) (r : Fin 256) : Fin 1792 := ⟨(12 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamWvRefIdeal.Step.grad (X3 m c) (X4 m c) (X5 m c) (ix2 (at_ m hO t r) s) := by
  have ht := val_lt m hO t
  rw [pay3_eq, Cert.AdamWvRefIdeal.Step.grad_at]
  by_cases h : 12 + t.val < 7
  · have hi : 3072 + (at_ m hO t r).val < 1792 := by unfold at_; dsimp only; omega
    have hr : in_ m hO t r = ⟨3072 + (at_ m hO t r).val, hi⟩ := by unfold in_ at_; apply Fin.ext; dsimp only; omega
    rw [dif_pos hi, Cert.AdamWvRefIdeal.Step.half_at, show (12 + t.val) / 7 = 0 by omega, ← hr, ← read3, ← read4]
    split <;> rfl
  · have hi : ¬ 3072 + (at_ m hO t r).val < 1792 := by unfold at_; dsimp only; omega
    have hr : in_ m hO t r = ⟨3072 + (at_ m hO t r).val - 1792, by omega⟩ := by unfold in_ at_; apply Fin.ext; dsimp only; omega
    rw [dif_neg hi, Cert.AdamWvRefIdeal.Step.half_at, show (12 + t.val) / 7 = 1 by omega, ← hr, ← read3, ← read4]
    split <;> rfl

/-- The whole array of the result `grad`. -/
theorem final_grad : (dats m hO 0 c).arrAt 5 (cfgM m hO).N = Cert.AdamWvRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S256x1024.Idx) = ix2 (at_ m hO t (y 0)) (y 1) := by
    show (((View.whole main_v0_0).slice (((cfgM m hO).win 5).rect t)).emb y : S256x1024.Idx) = _
    unfold at_
    blk_ext [idx m hO t]
  have key : k0_pay3 (F := Ideal) (grid0.coords t) (b3 m hO c t) (b4 m hO c t) (Z m c) y = Cert.AdamWvRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamWvRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamWvRefIdeal.Step.delta (X0 m c) (X1 m c) (X2 m c) (X3 m c) (X4 m c) (X5 m c) (ix2 (at_ m hO t r) s) := by
  rw [pay2_at, point_grad, Cert.AdamWvRefIdeal.Step.delta_at, read0, read1, read2]

/-- The whole array of the result `delta`. -/
theorem final_delta : (dats m hO 0 c).arrAt 6 (cfgM m hO).N = Cert.AdamWvRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S256x1024.Idx) = ix2 (at_ m hO t (y 0)) (y 1) := by
    show (((View.whole main_v0_1).slice (((cfgM m hO).win 6).rect t)).emb y : S256x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamWvRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamWvRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamWvRefIdeal.Step.moment (X1 m c) (X3 m c) (X4 m c) (X5 m c) (ix2 (at_ m hO t r) s) := by
  rw [pay4_at, point_grad, Cert.AdamWvRefIdeal.Step.moment_at, read1]

/-- The whole array of the result `moment`. -/
theorem final_moment : (dats m hO 0 c).arrAt 7 (cfgM m hO).N = Cert.AdamWvRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S256x1024.Idx) = ix2 (at_ m hO t (y 0)) (y 1) := by
    show (((View.whole main_v0_2).slice (((cfgM m hO).win 7).rect t)).emb y : S256x1024.Idx) = _
    unfold at_
    blk_ext [idx m hO t]
  have key : k0_pay4 (F := Ideal) (grid0.coords t) (b1 m hO c t) (b3 m hO c t) (b4 m hO c t) (Z m c) y = Cert.AdamWvRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamWvRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamWvRefIdeal.Step.variance (X2 m c) (X3 m c) (X4 m c) (X5 m c) (ix2 (at_ m hO t r) s) := by
  rw [pay1_at, point_grad, Cert.AdamWvRefIdeal.Step.variance_at, read2]

/-- The whole array of the result `variance`. -/
theorem final_variance : (dats m hO 0 c).arrAt 8 (cfgM m hO).N = Cert.AdamWvRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S256x1024.Idx) = ix2 (at_ m hO t (y 0)) (y 1) := by
    show (((View.whole main_v0_3).slice (((cfgM m hO).win 8).rect t)).emb y : S256x1024.Idx) = _
    unfold at_
    blk_ext [idx m hO t]
  have key : k0_pay1 (F := Ideal) (k0_pay5 (b2 m hO c t)) (k0_pay6 (grid0.coords t) (b3 m hO c t) (b4 m hO c t) (Z m c)) y = Cert.AdamWvRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamWvRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamWvIdeal.Step

end
-- ==== Proof.AdamWoStep.lean ====
/- One AdamW step of a weight whose gradient lies in two halves of stacked rows. -/
module

public import proofs.«01_k».proof.Proof.Gen.AdamWoIdeal.Frame
public import proofs.«01_k».proof.Proof.Gen.AdamWoRefIdeal.Run
public import proofs.«01_k».proof.Proof.AdamStep
public import Idealize.ShloMosaic.Lib.Pipeline.ValueKit.Partial
public import Idealize.ShloMosaic.Lib.Pipeline.Covers
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamWoRefIdeal.Step

open Idealize.ShloMosaic Idealize.ShloMosaic.TcCoe Idealize.SL.Sem
open Cert.AdamWoRefIdeal Cert.AdamWoRefIdeal.Gen Cert.AdamStep

variable (X0 X1 X2 : FVec Ideal S256x1024 .f32) (X3 X4 : FVec Ideal S1792x1024 .f32) (X5 : IVec S2 32)

/-- Half `k` of the stacked gradients: the first array where the device's own half is `k`, else the second. -/
def half (k : BitVec 32) : FVec Ideal S1792x1024 .f32 :=
  select (broadcastInDim S1792x1024 ![] bcast_S_S1792x1024 (cmpi .eq (shapeCast _ (extractStridedSlice S1 ![0] X5 slices_S2_S1_0) shapeCasts_S1_S_) (constantI S_ 32 k))) X3 X4
/-- The reference's results: the gradient cut from the halves, the two moments, and the change of the weight. -/
def grad : FVec Ideal S256x1024 .f32 :=
  extractStridedSlice S256x1024 ![3328, 0] (concatenate S3584x1024 0 [⟨S1792x1024, half X3 X4 X5 0#32⟩, ⟨S1792x1024, half X3 X4 X5 1#32⟩] concatenates_S1792x1024_S1792x1024_S3584x1024_d0) slices_S3584x1024_S256x1024_3328_0
def moment : FVec Ideal S256x1024 .f32 :=
  addf (mulf (broadcastInDim S256x1024 ![] bcast_S_S256x1024 (constant S_ .f32 0x3F666666#32)) X1) (mulf (broadcastInDim S256x1024 ![] bcast_S_S256x1024 (constant S_ .f32 0x3DCCCCCD#32)) (grad X3 X4 X5))
def variance : FVec Ideal S256x1024 .f32 :=
  addf (mulf (broadcastInDim S256x1024 ![] bcast_S_S256x1024 (constant S_ .f32 0x3F7FBE77#32)) X2) (mulf (broadcastInDim S256x1024 ![] bcast_S_S256x1024 (constant S_ .f32 0x3A83126F#32)) (mulf (grad X3 X4 X5) (grad X3 X4 X5)))
def delta : FVec Ideal S256x1024 .f32 :=
  mulf (broadcastInDim S256x1024 ![] bcast_S_S256x1024 (constant S_ .f32 0xBA83126F#32)) (addf (Host.divf (Host.divf (moment X1 X3 X4 X5) (broadcastInDim S256x1024 ![] bcast_S_S256x1024 (constant S_ .f32 0x3F26BD02#32))) (addf (Host.sqrt (Host.divf (variance X2 X3 X4 X5) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) X0))

theorem half_at (k : BitVec 32) (i : Fin 1792) (j : Fin 1024) :
    half X3 X4 X5 k (ix2 i j) = if X5 (ix1 0) = k then X3 (ix2 i j) else X4 (ix2 i j) := by
  pointwise [half]
  exact choose _ _ _ _
/-- A row of the gradient, read from the half it lies in. -/
theorem grad_at (i : Fin 256) (j : Fin 1024) : grad X3 X4 X5 (ix2 i j)
    = if h : 3328 + i.val < 1792 then half X3 X4 X5 0#32 (ix2 (⟨3328 + i.val, h⟩ : Fin 1792) j)
      else half X3 X4 X5 1#32 (ix2 (⟨3328 + i.val - 1792, by omega⟩ : Fin 1792) j) := by
  unfold grad
  generalize half X3 X4 X5 0#32 = P
  generalize half X3 X4 X5 1#32 = Q
  pointwise []

theorem moment_at (i : Fin 256) (j : Fin 1024) : moment X1 X3 X4 X5 (ix2 i j) = first (grad X3 X4 X5 (ix2 i j)) (X1 (ix2 i j)) := by
  pointwise [moment]
  rfl
theorem variance_at (i : Fin 256) (j : Fin 1024) : variance X2 X3 X4 X5 (ix2 i j) = second (grad X3 X4 X5 (ix2 i j)) (X2 (ix2 i j)) := by
  pointwise [variance]
  rfl
theorem delta_at (i : Fin 256) (j : Fin 1024) : delta X0 X1 X2 X3 X4 X5 (ix2 i j)
    = change (X0 (ix2 i j)) (grad X3 X4 X5 (ix2 i j)) (X1 (ix2 i j)) (X2 (ix2 i j)) := by
  pointwise [delta, moment_at, variance_at]
  rfl

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = grad (m ((c.tc : Thread nD τ).loc main_arg3)) (m ((c.tc : Thread nD τ).loc main_arg4)) (m ((c.tc : Thread nD τ).loc main_arg5))
      ∧ r.2.mem ((c.tc : Thread nD τ).loc main_v31) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = moment (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v18) = variance (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.AdamWoRefIdeal.Value.run m ρ

end Cert.AdamWoRefIdeal.Step

namespace Cert.AdamWoIdeal.Step

open Idealize.ShloMosaic Idealize.ShloMosaic.TcCoe Idealize.SL.Sem
open Cert.AdamWoIdeal Cert.AdamWoIdeal.Gen Cert.AdamStep

/-! ## One block -/

section block

variable (t : Fin grid0.N) (w a v p q : FVec Ideal S256x1024 .f32) (z : BitVec 32)

/-- The half the rows of a grid point lie in decides which block is the gradient's. -/
theorem pay3_eq : k0_pay3 (F := Ideal) (grid0.coords t) p q z = if z = BitVec.ofNat 32 ((13 + t.val) / 7) then p else q := by
  have e : k0_pay3 (F := Ideal) (grid0.coords t) p q z = Scalar.select (Scalar.cmpi .eq (BitVec.ofNat 32 ((13 + t.val) / 7)) z) p q := by
    unfold k0_pay3
    refine congrArg (fun w => Scalar.select (Scalar.cmpi .eq w z) p q) ?_
    revert t
    decide +kernel
  rw [e]
  refine (choose _ _ _ _).trans ?_
  by_cases h : z = BitVec.ofNat 32 ((13 + t.val) / 7)
  · rw [if_pos h, if_pos h.symm]
  · rw [if_neg h, if_neg (Ne.symm h)]
theorem pay4_at (r : Fin 256) (s : Fin 1024) : k0_pay4 (F := Ideal) (grid0.coords t) a p q z (ix2 r s)
    = first (k0_pay3 (F := Ideal) (grid0.coords t) p q z (ix2 r s)) (a (ix2 r s)) := by
  unfold k0_pay4
  generalize k0_pay3 (F := Ideal) (grid0.coords t) p q z = g
  pointwise []
  rfl
theorem pay1_at (r : Fin 256) (s : Fin 1024) : k0_pay1 (F := Ideal) (k0_pay5 v) (k0_pay6 (grid0.coords t) p q z) (ix2 r s)
    = second (k0_pay3 (F := Ideal) (grid0.coords t) p q z (ix2 r s)) (v (ix2 r s)) := by
  unfold k0_pay6
  generalize k0_pay3 (F := Ideal) (grid0.coords t) p q z = g
  pointwise [k0_pay1, k0_pay5]
  rfl
theorem pay2_at (r : Fin 256) (s : Fin 1024) :
    k0_pay2 (F := Ideal) w (k0_pay4 (grid0.coords t) a p q z) (k0_pay5 v) (k0_pay6 (grid0.coords t) p q z) (ix2 r s)
    = change (w (ix2 r s)) (k0_pay3 (F := Ideal) (grid0.coords t) p q z (ix2 r s)) (a (ix2 r s)) (v (ix2 r s)) := by
  unfold k0_pay2
  generalize e1 : k0_pay1 (F := Ideal) (k0_pay5 v) (k0_pay6 (grid0.coords t) p q z) = n
  generalize e4 : k0_pay4 (F := Ideal) (grid0.coords t) a p q z = f
  pointwise []
  rw [← e1, ← e4, pay1_at, pay4_at]
  rfl

end block

variable (m : (ℓ : Loc nD τ sig) → Buf (Elt Ideal) ℓ) (hO : Ok m) (c : Dev nD)

/-- The argument arrays, and their blocks at a grid point. -/
abbrev X0 : FVec Ideal S256x1024 .f32 := m ((c : Thread nD τ).loc main_arg0)
abbrev X1 : FVec Ideal S256x1024 .f32 := m ((c : Thread nD τ).loc main_arg1)
abbrev X2 : FVec Ideal S256x1024 .f32 := m ((c : Thread nD τ).loc main_arg2)
abbrev X3 : FVec Ideal S1792x1024 .f32 := m ((c : Thread nD τ).loc main_arg3)
abbrev X4 : FVec Ideal S1792x1024 .f32 := m ((c : Thread nD τ).loc main_arg4)
abbrev X5 : IVec S2 32 := m ((c : Thread nD τ).loc main_arg5)
abbrev b0 (t : Fin (cfgM m hO).N) : FVec Ideal S256x1024 .f32 := iblk m hO c 0 t
abbrev b1 (t : Fin (cfgM m hO).N) : FVec Ideal S256x1024 .f32 := iblk m hO c 1 t
abbrev b2 (t : Fin (cfgM m hO).N) : FVec Ideal S256x1024 .f32 := iblk m hO c 2 t
abbrev b3 (t : Fin (cfgM m hO).N) : FVec Ideal S256x1024 .f32 := iblk m hO c 3 t
abbrev b4 (t : Fin (cfgM m hO).N) : FVec Ideal S256x1024 .f32 := iblk m hO c 4 t

/-- Where each window's block lies at a grid point. -/
theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 3).index t = ![(13 + t.val) % 7, 0]
    ∧ ((cfgM m hO).win 4).index t = ![(13 + t.val) % 7, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![(13 + t.val) % 7, 0]
    ∧ cc0_transform_4 (grid0.coords t) = ![(13 + t.val) % 7, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

theorem val_lt (t : Fin (cfgM m hO).N) : t.val < 1 := lt_of_lt_of_eq t.isLt (by decide +kernel : grid0.N = 1)

/-- The weight's row at row `r` of point `t`'s block, and the halves' row there. -/
def at_ (t : Fin (cfgM m hO).N) (r : Fin 256) : Fin 256 := ⟨t.val * 256 + r.val, by have := val_lt m hO t; omega⟩
def in_ (t : Fin (cfgM m hO).N) (r : Fin 256) : Fin 1792 := ⟨(13 + t.val) % 7 * 256 + r.val, by omega⟩

theorem read0 (t : Fin (cfgM m hO).N) (r : Fin 256) (s : Fin 1024) : b0 m hO c t (ix2 r s) = X0 m c (ix2 (at_ m hO t r) s) := by
  unfold at_
  blk_ext [iblk, idx m hO t]
theorem read1 (t : Fin (cfgM m hO).N) (r : Fin 256) (s : Fin 1024) : b1 m hO c t (ix2 r s) = X1 m c (ix2 (at_ m hO t r) s) := by
  unfold at_
  blk_ext [iblk, idx m hO t]
theorem read2 (t : Fin (cfgM m hO).N) (r : Fin 256) (s : Fin 1024) : b2 m hO c t (ix2 r s) = X2 m c (ix2 (at_ m hO t r) s) := by
  unfold at_
  blk_ext [iblk, idx m hO t]
theorem read3 (t : Fin (cfgM m hO).N) (r : Fin 256) (s : Fin 1024) : b3 m hO c t (ix2 r s) = X3 m c (ix2 (in_ m hO t r) s) := by
  unfold in_
  blk_ext [iblk, idx m hO t]
theorem read4 (t : Fin (cfgM m hO).N) (r : Fin 256) (s : Fin 1024) : b4 m hO c t (ix2 r s) = X4 m c (ix2 (in_ m hO t r) s) := by
  unfold in_
  blk_ext [iblk, idx m hO t]

/-- The word that names the device's own half. -/
abbrev Z : BitVec 32 := X5 m c (ix1 0)

theorem word : View.readAt (Elt Ideal) (View.whole main_arg5) (Rect.unit ![0] ![1] inb_S2_S1_0).toLoadRect
    (tbl m 0) (Shape.Idx.first (by decide)) = Z m c := by
  obtain rfl : c = 0 := Subsingleton.elim _ _
  refine congrArg (X5 m 0) (?_ : (_ : S2.Idx) = ix1 0)
  decide

/-- A block put into a whole staging buffer is read back. -/
theorem back (M : Memref sig .tc .vmem S256x1024 .f32) (h : M.IsWhole) (x : FVec Ideal S256x1024 .f32) :
    View.read (Elt Ideal) M.view (h.unread x) = x :=
  Memref.IsWhole.read_unread (Val := Elt Ideal) h x

/-- What a grid point takes as its block of the gradient. -/
theorem point_grad (t : Fin (cfgM m hO).N) (r : Fin 256) (s : Fin 1024) :
    k0_pay3 (F := Ideal) (grid0.coords t) (b3 m hO c t) (b4 m hO c t) (Z m c) (ix2 r s) = Cert.AdamWoRefIdeal.Step.grad (X3 m c) (X4 m c) (X5 m c) (ix2 (at_ m hO t r) s) := by
  have ht := val_lt m hO t
  rw [pay3_eq, Cert.AdamWoRefIdeal.Step.grad_at]
  by_cases h : 13 + t.val < 7
  · have hi : 3328 + (at_ m hO t r).val < 1792 := by unfold at_; dsimp only; omega
    have hr : in_ m hO t r = ⟨3328 + (at_ m hO t r).val, hi⟩ := by unfold in_ at_; apply Fin.ext; dsimp only; omega
    rw [dif_pos hi, Cert.AdamWoRefIdeal.Step.half_at, show (13 + t.val) / 7 = 0 by omega, ← hr, ← read3, ← read4]
    split <;> rfl
  · have hi : ¬ 3328 + (at_ m hO t r).val < 1792 := by unfold at_; dsimp only; omega
    have hr : in_ m hO t r = ⟨3328 + (at_ m hO t r).val - 1792, by omega⟩ := by unfold in_ at_; apply Fin.ext; dsimp only; omega
    rw [dif_neg hi, Cert.AdamWoRefIdeal.Step.half_at, show (13 + t.val) / 7 = 1 by omega, ← hr, ← read3, ← read4]
    split <;> rfl

/-- The whole array of the result `grad`. -/
theorem final_grad : (dats m hO 0 c).arrAt 5 (cfgM m hO).N = Cert.AdamWoRefIdeal.Step.grad (X3 m c) (X4 m c) (X5 m c) := by
  refine (dats m hO 0 c).arrAt_eq_of_covers 5 _ (((cfgM m hO).win 5).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_5 (grid0.coords t) a = β a)) fun t _ (y : S256x1024.Idx) => ?_
  blk_simp
  rw [after0_5]
  have hy : ((((cfgM m hO).win 5).blk t).view.emb y : S256x1024.Idx) = ix2 (at_ m hO t (y 0)) (y 1) := by
    show (((View.whole main_v0_0).slice (((cfgM m hO).win 5).rect t)).emb y : S256x1024.Idx) = _
    unfold at_
    blk_ext [idx m hO t]
  have key : k0_pay3 (F := Ideal) (grid0.coords t) (b3 m hO c t) (b4 m hO c t) (Z m c) y = Cert.AdamWoRefIdeal.Step.grad (X3 m c) (X4 m c) (X5 m c) (ix2 (at_ m hO t (y 0)) (y 1)) :=
    (congrArg _ (eq_ix2 y)).trans (point_grad m hO c t (y 0) (y 1))
  refine Eq.trans ?_ (congrArg (Cert.AdamWoRefIdeal.Step.grad (X3 m c) (X4 m c) (X5 m c)) hy).symm
  unfold outsAt0
  frame_out
  exact (congrFun (same (fun (x0 x1 x2 x3 x4 : FVec Ideal S256x1024 .f32) (z : BitVec 32) => k0_pay3 (F := Ideal) (grid0.coords t) x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_delta (t : Fin (cfgM m hO).N) (r : Fin 256) (s : Fin 1024) : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) (ix2 r s) = Cert.AdamWoRefIdeal.Step.delta (X0 m c) (X1 m c) (X2 m c) (X3 m c) (X4 m c) (X5 m c) (ix2 (at_ m hO t r) s) := by
  rw [pay2_at, point_grad, Cert.AdamWoRefIdeal.Step.delta_at, read0, read1, read2]

/-- The whole array of the result `delta`. -/
theorem final_delta : (dats m hO 0 c).arrAt 6 (cfgM m hO).N = Cert.AdamWoRefIdeal.Step.delta (X0 m c) (X1 m c) (X2 m c) (X3 m c) (X4 m c) (X5 m c) := by
  refine (dats m hO 0 c).arrAt_eq_of_covers 6 _ (((cfgM m hO).win 6).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_6 (grid0.coords t) a = β a)) fun t _ (y : S256x1024.Idx) => ?_
  blk_simp
  rw [after0_6]
  have hy : ((((cfgM m hO).win 6).blk t).view.emb y : S256x1024.Idx) = ix2 (at_ m hO t (y 0)) (y 1) := by
    show (((View.whole main_v0_1).slice (((cfgM m hO).win 6).rect t)).emb y : S256x1024.Idx) = _
    unfold at_
    blk_ext [idx m hO t]
  have key : k0_pay2 (F := Ideal) (b0 m hO c t) (k0_pay4 (grid0.coords t) (b1 m hO c t) (b3 m hO c t) (b4 m hO c t) (Z m c)) (k0_pay5 (b2 m hO c t)) (k0_pay6 (grid0.coords t) (b3 m hO c t) (b4 m hO c t) (Z m c)) y = Cert.AdamWoRefIdeal.Step.delta (X0 m c) (X1 m c) (X2 m c) (X3 m c) (X4 m c) (X5 m c) (ix2 (at_ m hO t (y 0)) (y 1)) :=
    (congrArg _ (eq_ix2 y)).trans (point_delta m hO c t (y 0) (y 1))
  refine Eq.trans ?_ (congrArg (Cert.AdamWoRefIdeal.Step.delta (X0 m c) (X1 m c) (X2 m c) (X3 m c) (X4 m c) (X5 m c)) hy).symm
  unfold outsAt0
  frame_out
  exact (congrFun (same (fun (x0 x1 x2 x3 x4 : FVec Ideal S256x1024 .f32) (z : BitVec 32) => k0_pay2 (F := Ideal) x0 (k0_pay4 (grid0.coords t) x1 x3 x4 z) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_moment (t : Fin (cfgM m hO).N) (r : Fin 256) (s : Fin 1024) : k0_pay4 (F := Ideal) (grid0.coords t) (b1 m hO c t) (b3 m hO c t) (b4 m hO c t) (Z m c) (ix2 r s) = Cert.AdamWoRefIdeal.Step.moment (X1 m c) (X3 m c) (X4 m c) (X5 m c) (ix2 (at_ m hO t r) s) := by
  rw [pay4_at, point_grad, Cert.AdamWoRefIdeal.Step.moment_at, read1]

/-- The whole array of the result `moment`. -/
theorem final_moment : (dats m hO 0 c).arrAt 7 (cfgM m hO).N = Cert.AdamWoRefIdeal.Step.moment (X1 m c) (X3 m c) (X4 m c) (X5 m c) := by
  refine (dats m hO 0 c).arrAt_eq_of_covers 7 _ (((cfgM m hO).win 7).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_7 (grid0.coords t) a = β a)) fun t _ (y : S256x1024.Idx) => ?_
  blk_simp
  rw [after0_7]
  have hy : ((((cfgM m hO).win 7).blk t).view.emb y : S256x1024.Idx) = ix2 (at_ m hO t (y 0)) (y 1) := by
    show (((View.whole main_v0_2).slice (((cfgM m hO).win 7).rect t)).emb y : S256x1024.Idx) = _
    unfold at_
    blk_ext [idx m hO t]
  have key : k0_pay4 (F := Ideal) (grid0.coords t) (b1 m hO c t) (b3 m hO c t) (b4 m hO c t) (Z m c) y = Cert.AdamWoRefIdeal.Step.moment (X1 m c) (X3 m c) (X4 m c) (X5 m c) (ix2 (at_ m hO t (y 0)) (y 1)) :=
    (congrArg _ (eq_ix2 y)).trans (point_moment m hO c t (y 0) (y 1))
  refine Eq.trans ?_ (congrArg (Cert.AdamWoRefIdeal.Step.moment (X1 m c) (X3 m c) (X4 m c) (X5 m c)) hy).symm
  unfold outsAt0
  frame_out
  exact (congrFun (same (fun (x0 x1 x2 x3 x4 : FVec Ideal S256x1024 .f32) (z : BitVec 32) => k0_pay4 (F := Ideal) (grid0.coords t) x1 x3 x4 z)
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

theorem point_variance (t : Fin (cfgM m hO).N) (r : Fin 256) (s : Fin 1024) : k0_pay1 (F := Ideal) (k0_pay5 (b2 m hO c t)) (k0_pay6 (grid0.coords t) (b3 m hO c t) (b4 m hO c t) (Z m c)) (ix2 r s) = Cert.AdamWoRefIdeal.Step.variance (X2 m c) (X3 m c) (X4 m c) (X5 m c) (ix2 (at_ m hO t r) s) := by
  rw [pay1_at, point_grad, Cert.AdamWoRefIdeal.Step.variance_at, read2]

/-- The whole array of the result `variance`. -/
theorem final_variance : (dats m hO 0 c).arrAt 8 (cfgM m hO).N = Cert.AdamWoRefIdeal.Step.variance (X2 m c) (X3 m c) (X4 m c) (X5 m c) := by
  refine (dats m hO 0 c).arrAt_eq_of_covers 8 _ (((cfgM m hO).win 8).covers_of_index_surj rfl (by decide : ∀ a : Fin 2, 0 < S256x1024.size a)
    (by decide +kernel : ∀ β : (a : Fin 2) → Fin ((S256x1024.size a + S256x1024.size a - 1) / S256x1024.size a),
      ∃ t : Fin grid0.N, ∀ a, cc0_transform_8 (grid0.coords t) a = β a)) fun t _ (y : S256x1024.Idx) => ?_
  blk_simp
  rw [after0_8]
  have hy : ((((cfgM m hO).win 8).blk t).view.emb y : S256x1024.Idx) = ix2 (at_ m hO t (y 0)) (y 1) := by
    show (((View.whole main_v0_3).slice (((cfgM m hO).win 8).rect t)).emb y : S256x1024.Idx) = _
    unfold at_
    blk_ext [idx m hO t]
  have key : k0_pay1 (F := Ideal) (k0_pay5 (b2 m hO c t)) (k0_pay6 (grid0.coords t) (b3 m hO c t) (b4 m hO c t) (Z m c)) y = Cert.AdamWoRefIdeal.Step.variance (X2 m c) (X3 m c) (X4 m c) (X5 m c) (ix2 (at_ m hO t (y 0)) (y 1)) :=
    (congrArg _ (eq_ix2 y)).trans (point_variance m hO c t (y 0) (y 1))
  refine Eq.trans ?_ (congrArg (Cert.AdamWoRefIdeal.Step.variance (X2 m c) (X3 m c) (X4 m c) (X5 m c)) hy).symm
  unfold outsAt0
  frame_out
  exact (congrFun (same (fun (x0 x1 x2 x3 x4 : FVec Ideal S256x1024 .f32) (z : BitVec 32) => k0_pay1 (F := Ideal) (k0_pay5 x2) (k0_pay6 (grid0.coords t) x3 x4 z))
    (back _ (hs0_0 m hO t) (b0 m hO c t)) (back _ (hs0_1 m hO t) (b1 m hO c t)) (back _ (hs0_2 m hO t) (b2 m hO c t))
    (back _ (hs0_3 m hO t) (b3 m hO c t)) (back _ (hs0_4 m hO t) (b4 m hO c t)) (word m c)) y).trans key

end Cert.AdamWoIdeal.Step

end
-- ==== Proof.AdamArrays.lean ====
/- One AdamW step of whole arrays, entry by entry. -/
module

public import proofs.«01_k».proof.Proof.AdamStep

@[expose] public section

noncomputable section

namespace Cert.AdamStep

open Idealize.ShloMosaic

/-- The new first moments, the new second moments, and the changes of the weights. -/
def firsts {s : Shape} (g a : FVec Ideal s .f32) : FVec Ideal s .f32 := fun i => first (g i) (a i)
def seconds {s : Shape} (g v : FVec Ideal s .f32) : FVec Ideal s .f32 := fun i => second (g i) (v i)
def changes {s : Shape} (w g a v : FVec Ideal s .f32) : FVec Ideal s .f32 := fun i => change (w i) (g i) (a i) (v i)

end Cert.AdamStep

end
-- ==== Proof.AdamSmall1Step.lean ====
/- The AdamW step of three of the small weights in one call. -/
module

public import proofs.«01_k».proof.Proof.Gen.AdamSmall1Ideal.Frame
public import proofs.«01_k».proof.Proof.Gen.AdamSmall1RefIdeal.Run
public import proofs.«01_k».proof.Proof.AdamArrays
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamSmall1RefIdeal.Step

open Idealize.ShloMosaic Idealize.ShloMosaic.TcCoe Idealize.SL.Sem
open Cert.AdamSmall1RefIdeal Cert.AdamSmall1RefIdeal.Gen Cert.AdamStep

/-! The results: for each weight the change, the new first moment and the new second moment, with a row of one axis laid out as a
matrix of one row. -/

def delta0 (w g a v : FVec Ideal S1024 .f32) : FVec Ideal S1x1024 .f32 := shapeCast S1x1024 (changes w g a v) shapeCasts_S1024_S1x1024
def delta1 (w g a v : FVec Ideal S4x768 .f32) : FVec Ideal S4x768 .f32 := changes w g a v
def delta2 (w g a v : FVec Ideal S8 .f32) : FVec Ideal S1x8 .f32 := shapeCast S1x8 (changes w g a v) shapeCasts_S8_S1x8
def moment0 (g a : FVec Ideal S1024 .f32) : FVec Ideal S1x1024 .f32 := shapeCast S1x1024 (firsts g a) shapeCasts_S1024_S1x1024
def moment1 (g a : FVec Ideal S4x768 .f32) : FVec Ideal S4x768 .f32 := firsts g a
def moment2 (g a : FVec Ideal S8 .f32) : FVec Ideal S1x8 .f32 := shapeCast S1x8 (firsts g a) shapeCasts_S8_S1x8
def variance0 (g v : FVec Ideal S1024 .f32) : FVec Ideal S1x1024 .f32 := shapeCast S1x1024 (seconds g v) shapeCasts_S1024_S1x1024
def variance1 (g v : FVec Ideal S4x768 .f32) : FVec Ideal S4x768 .f32 := seconds g v
def variance2 (g v : FVec Ideal S8 .f32) : FVec Ideal S1x8 .f32 := shapeCast S1x8 (seconds g v) shapeCasts_S8_S1x8

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = delta0 (m ((c.tc : Thread nD τ).loc main_arg0)) (m ((c.tc : Thread nD τ).loc main_arg3)) (m ((c.tc : Thread nD τ).loc main_arg6)) (m ((c.tc : Thread nD τ).loc main_arg9))
      ∧ r.2.mem ((c.tc : Thread nD τ).loc main_v47) = delta1 (m ((c.tc : Thread nD τ).loc main_arg1)) (m ((c.tc : Thread nD τ).loc main_arg4)) (m ((c.tc : Thread nD τ).loc main_arg7)) (m ((c.tc : Thread nD τ).loc main_arg10))
      ∧ r.2.mem ((c.tc : Thread nD τ).loc main_v73) = delta2 (m ((c.tc : Thread nD τ).loc main_arg2)) (m ((c.tc : Thread nD τ).loc main_arg5)) (m ((c.tc : Thread nD τ).loc main_arg8)) (m ((c.tc : Thread nD τ).loc main_arg11))
      ∧ r.2.mem ((c.tc : Thread nD τ).loc main_v74) = moment0 (m ((c.tc : Thread nD τ).loc main_arg3)) (m ((c.tc : Thread nD τ).loc main_arg6))
      ∧ r.2.mem ((c.tc : Thread nD τ).loc main_v28) = moment1 (m ((c.tc : Thread nD τ).loc main_arg4)) (m ((c.tc : Thread nD τ).loc main_arg7))
      ∧ r.2.mem ((c.tc : Thread nD τ).loc main_v75) = moment2 (m ((c.tc : Thread nD τ).loc main_arg5)) (m ((c.tc : Thread nD τ).loc main_arg8))
      ∧ r.2.mem ((c.tc : Thread nD τ).loc main_v76) = variance0 (m ((c.tc : Thread nD τ).loc main_arg3)) (m ((c.tc : Thread nD τ).loc main_arg9))
      ∧ r.2.mem ((c.tc : Thread nD τ).loc main_v34) = variance1 (m ((c.tc : Thread nD τ).loc main_arg4)) (m ((c.tc : Thread nD τ).loc main_arg10))
      ∧ r.2.mem ((c.tc : Thread nD τ).loc main_v77) = variance2 (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, hrest⟩ := h c
    exact ⟨h0.trans rfl, h1.trans rfl, h2.trans rfl, h3.trans rfl, h4.trans rfl, h5.trans rfl, h6.trans rfl, h7.trans rfl, h8.trans rfl, hrest⟩) (Cert.AdamSmall1RefIdeal.Value.run m ρ)

end Cert.AdamSmall1RefIdeal.Step

namespace Cert.AdamSmall1Ideal.Step

open Idealize.ShloMosaic Idealize.ShloMosaic.TcCoe Idealize.SL.Sem
open Cert.AdamSmall1Ideal Cert.AdamSmall1Ideal.Gen Cert.AdamStep

/-! ## What the block computes -/

theorem firsts0 (g a : FVec Ideal S1x1024 .f32) : k0_pay2 (F := Ideal) g a = firsts g a := by
  refine funext fun i => ?_
  obtain ⟨p, q, rfl⟩ : ∃ (p : Fin 1) (q : Fin 1024), i = ix2 p q := ⟨i 0, i 1, eq_ix2 i⟩
  pointwise [k0_pay2, k0_pay1]
  rfl
theorem seconds0 (g v : FVec Ideal S1x1024 .f32) : k0_pay3 (F := Ideal) g v = seconds g v := by
  refine funext fun i => ?_
  obtain ⟨p, q, rfl⟩ : ∃ (p : Fin 1) (q : Fin 1024), i = ix2 p q := ⟨i 0, i 1, eq_ix2 i⟩
  pointwise [k0_pay3, k0_pay1]
  rfl
theorem changes0 (w g a v : FVec Ideal S1x1024 .f32) : k0_pay4 (F := Ideal) w g a v = changes w g a v := by
  refine funext fun i => ?_
  obtain ⟨p, q, rfl⟩ : ∃ (p : Fin 1) (q : Fin 1024), i = ix2 p q := ⟨i 0, i 1, eq_ix2 i⟩
  pointwise [k0_pay4, firsts0, seconds0]
  rfl

theorem firsts1 (g a : FVec Ideal S4x768 .f32) : k0_pay5 (F := Ideal) g a = firsts g a := by
  refine funext fun i => ?_
  obtain ⟨p, q, rfl⟩ : ∃ (p : Fin 4) (q : Fin 768), i = ix2 p q := ⟨i 0, i 1, eq_ix2 i⟩
  pointwise [k0_pay5]
  rfl
theorem seconds1 (g v : FVec Ideal S4x768 .f32) : k0_pay6 (F := Ideal) g v = seconds g v := by
  refine funext fun i => ?_
  obtain ⟨p, q, rfl⟩ : ∃ (p : Fin 4) (q : Fin 768), i = ix2 p q := ⟨i 0, i 1, eq_ix2 i⟩
  pointwise [k0_pay6]
  rfl
theorem changes1 (w g a v : FVec Ideal S4x768 .f32) : k0_pay7 (F := Ideal) w g a v = changes w g a v := by
  refine funext fun i => ?_
  obtain ⟨p, q, rfl⟩ : ∃ (p : Fin 4) (q : Fin 768), i = ix2 p q := ⟨i 0, i 1, eq_ix2 i⟩
  pointwise [k0_pay7, firsts1, seconds1]
  rfl

theorem firsts2 (g a : FVec Ideal S1x8 .f32) : k0_pay9 (F := Ideal) g a = firsts g a := by
  refine funext fun i => ?_
  obtain ⟨p, q, rfl⟩ : ∃ (p : Fin 1) (q : Fin 8), i = ix2 p q := ⟨i 0, i 1, eq_ix2 i⟩
  pointwise [k0_pay9, k0_pay8]
  rfl
theorem seconds2 (g v : FVec Ideal S1x8 .f32) : k0_pay10 (F := Ideal) g v = seconds g v := by
  refine funext fun i => ?_
  obtain ⟨p, q, rfl⟩ : ∃ (p : Fin 1) (q : Fin 8), i = ix2 p q := ⟨i 0, i 1, eq_ix2 i⟩
  pointwise [k0_pay10, k0_pay8]
  rfl
theorem changes2 (w g a v : FVec Ideal S1x8 .f32) : k0_pay11 (F := Ideal) w g a v = changes w g a v := by
  refine funext fun i => ?_
  obtain ⟨p, q, rfl⟩ : ∃ (p : Fin 1) (q : Fin 8), i = ix2 p q := ⟨i 0, i 1, eq_ix2 i⟩
  pointwise [k0_pay11, firsts2, seconds2]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] :=
  (by decide +kernel : ∀ t : Fin grid0.N, _)

/-! ## The arrays the call reads: each argument, a row of one axis laid out as a matrix of one row -/

theorem entry0 : V m c main_v0 = (shapeCast S1x1024 (m ((c : Thread nD τ).loc main_arg0) : FVec Ideal S1024 .f32) shapeCasts_S1024_S1x1024 : FVec Ideal S1x1024 .f32) := by
  unfold V
  after_results
  rfl
theorem read0 (t : Fin cfg0.N) : (iblk m c 0 t : FVec Ideal S1x1024 .f32) = (shapeCast S1x1024 (m ((c : Thread nD τ).loc main_arg0) : FVec Ideal S1024 .f32) shapeCasts_S1024_S1x1024 : FVec Ideal S1x1024 .f32) := by
  have e : (iblk m c 0 t : FVec Ideal S1x1024 .f32) = (V m c main_v0 : FVec Ideal S1x1024 .f32) := by
    refine funext fun i => ?_
    blk_ext [iblk, idx t]
  exact e.trans (entry0 m c)

theorem read1 (t : Fin cfg0.N) : (iblk m c 1 t : FVec Ideal S4x768 .f32) = (m ((c : Thread nD τ).loc main_arg1) : FVec Ideal S4x768 .f32) := by
  have e : (iblk m c 1 t : FVec Ideal S4x768 .f32) = (V m c main_arg1 : FVec Ideal S4x768 .f32) := by
    refine funext fun i => ?_
    blk_ext [iblk, idx t]
  exact e.trans (V_main_arg1 m c)

theorem entry2 : V m c main_v1 = (shapeCast S1x8 (m ((c : Thread nD τ).loc main_arg2) : FVec Ideal S8 .f32) shapeCasts_S8_S1x8 : FVec Ideal S1x8 .f32) := by
  unfold V
  after_results
  rfl
theorem read2 (t : Fin cfg0.N) : (iblk m c 2 t : FVec Ideal S1x8 .f32) = (shapeCast S1x8 (m ((c : Thread nD τ).loc main_arg2) : FVec Ideal S8 .f32) shapeCasts_S8_S1x8 : FVec Ideal S1x8 .f32) := by
  have e : (iblk m c 2 t : FVec Ideal S1x8 .f32) = (V m c main_v1 : FVec Ideal S1x8 .f32) := by
    refine funext fun i => ?_
    blk_ext [iblk, idx t]
  exact e.trans (entry2 m c)

theorem entry3 : V m c main_v2 = (shapeCast S1x1024 (m ((c : Thread nD τ).loc main_arg3) : FVec Ideal S1024 .f32) shapeCasts_S1024_S1x1024 : FVec Ideal S1x1024 .f32) := by
  unfold V
  after_results
  rfl
theorem read3 (t : Fin cfg0.N) : (iblk m c 3 t : FVec Ideal S1x1024 .f32) = (shapeCast S1x1024 (m ((c : Thread nD τ).loc main_arg3) : FVec Ideal S1024 .f32) shapeCasts_S1024_S1x1024 : FVec Ideal S1x1024 .f32) := by
  have e : (iblk m c 3 t : FVec Ideal S1x1024 .f32) = (V m c main_v2 : FVec Ideal S1x1024 .f32) := by
    refine funext fun i => ?_
    blk_ext [iblk, idx t]
  exact e.trans (entry3 m c)

theorem read4 (t : Fin cfg0.N) : (iblk m c 4 t : FVec Ideal S4x768 .f32) = (m ((c : Thread nD τ).loc main_arg4) : FVec Ideal S4x768 .f32) := by
  have e : (iblk m c 4 t : FVec Ideal S4x768 .f32) = (V m c main_arg4 : FVec Ideal S4x768 .f32) := by
    refine funext fun i => ?_
    blk_ext [iblk, idx t]
  exact e.trans (V_main_arg4 m c)

theorem entry5 : V m c main_v3 = (shapeCast S1x8 (m ((c : Thread nD τ).loc main_arg5) : FVec Ideal S8 .f32) shapeCasts_S8_S1x8 : FVec Ideal S1x8 .f32) := by
  unfold V
  after_results
  rfl
theorem read5 (t : Fin cfg0.N) : (iblk m c 5 t : FVec Ideal S1x8 .f32) = (shapeCast S1x8 (m ((c : Thread nD τ).loc main_arg5) : FVec Ideal S8 .f32) shapeCasts_S8_S1x8 : FVec Ideal S1x8 .f32) := by
  have e : (iblk m c 5 t : FVec Ideal S1x8 .f32) = (V m c main_v3 : FVec Ideal S1x8 .f32) := by
    refine funext fun i => ?_
    blk_ext [iblk, idx t]
  exact e.trans (entry5 m c)

theorem entry6 : V m c main_v4 = (shapeCast S1x1024 (m ((c : Thread nD τ).loc main_arg6) : FVec Ideal S1024 .f32) shapeCasts_S1024_S1x1024 : FVec Ideal S1x1024 .f32) := by
  unfold V
  after_results
  rfl
theorem read6 (t : Fin cfg0.N) : (iblk m c 6 t : FVec Ideal S1x1024 .f32) = (shapeCast S1x1024 (m ((c : Thread nD τ).loc main_arg6) : FVec Ideal S1024 .f32) shapeCasts_S1024_S1x1024 : FVec Ideal S1x1024 .f32) := by
  have e : (iblk m c 6 t : FVec Ideal S1x1024 .f32) = (V m c main_v4 : FVec Ideal S1x1024 .f32) := by
    refine funext fun i => ?_
    blk_ext [iblk, idx t]
  exact e.trans (entry6 m c)

theorem read7 (t : Fin cfg0.N) : (iblk m c 7 t : FVec Ideal S4x768 .f32) = (m ((c : Thread nD τ).loc main_arg7) : FVec Ideal S4x768 .f32) := by
  have e : (iblk m c 7 t : FVec Ideal S4x768 .f32) = (V m c main_arg7 : FVec Ideal S4x768 .f32) := by
    refine funext fun i => ?_
    blk_ext [iblk, idx t]
  exact e.trans (V_main_arg7 m c)

theorem entry8 : V m c main_v5 = (shapeCast S1x8 (m ((c : Thread nD τ).loc main_arg8) : FVec Ideal S8 .f32) shapeCasts_S8_S1x8 : FVec Ideal S1x8 .f32) := by
  unfold V
  after_results
  rfl
theorem read8 (t : Fin cfg0.N) : (iblk m c 8 t : FVec Ideal S1x8 .f32) = (shapeCast S1x8 (m ((c : Thread nD τ).loc main_arg8) : FVec Ideal S8 .f32) shapeCasts_S8_S1x8 : FVec Ideal S1x8 .f32) := by
  have e : (iblk m c 8 t : FVec Ideal S1x8 .f32) = (V m c main_v5 : FVec Ideal S1x8 .f32) := by
    refine funext fun i => ?_
    blk_ext [iblk, idx t]
  exact e.trans (entry8 m c)

theorem entry9 : V m c main_v6 = (shapeCast S1x1024 (m ((c : Thread nD τ).loc main_arg9) : FVec Ideal S1024 .f32) shapeCasts_S1024_S1x1024 : FVec Ideal S1x1024 .f32) := by
  unfold V
  after_results
  rfl
theorem read9 (t : Fin cfg0.N) : (iblk m c 9 t : FVec Ideal S1x1024 .f32) = (shapeCast S1x1024 (m ((c : Thread nD τ).loc main_arg9) : FVec Ideal S1024 .f32) shapeCasts_S1024_S1x1024 : FVec Ideal S1x1024 .f32) := by
  have e : (iblk m c 9 t : FVec Ideal S1x1024 .f32) = (V m c main_v6 : FVec Ideal S1x1024 .f32) := by
    refine funext fun i => ?_
    blk_ext [iblk, idx t]
  exact e.trans (entry9 m c)

theorem read10 (t : Fin cfg0.N) : (iblk m c 10 t : FVec Ideal S4x768 .f32) = (m ((c : Thread nD τ).loc main_arg10) : FVec Ideal S4x768 .f32) := by
  have e : (iblk m c 10 t : FVec Ideal S4x768 .f32) = (V m c main_arg10 : FVec Ideal S4x768 .f32) := by
    refine funext fun i => ?_
    blk_ext [iblk, idx t]
  exact e.trans (V_main_arg10 m c)

theorem entry11 : V m c main_v7 = (shapeCast S1x8 (m ((c : Thread nD τ).loc main_arg11) : FVec Ideal S8 .f32) shapeCasts_S8_S1x8 : FVec Ideal S1x8 .f32) := by
  unfold V
  after_results
  rfl
theorem read11 (t : Fin cfg0.N) : (iblk m c 11 t : FVec Ideal S1x8 .f32) = (shapeCast S1x8 (m ((c : Thread nD τ).loc main_arg11) : FVec Ideal S8 .f32) shapeCasts_S8_S1x8 : FVec Ideal S1x8 .f32) := by
  have e : (iblk m c 11 t : FVec Ideal S1x8 .f32) = (V m c main_v7 : FVec Ideal S1x8 .f32) := by
    refine funext fun i => ?_
    blk_ext [iblk, idx t]
  exact e.trans (entry11 m c)

/-! ## The arrays the call writes -/

theorem final_delta0 : (dats m 0 c).arrAt 12 (cfgs 0).N = Cert.AdamSmall1RefIdeal.Step.delta0 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  have hy : (((View.whole main_v8_0).slice (win0_12.rect t)).emb y : S1x1024.Idx) = y := by
    blk_ext [idx t]
  refine Eq.trans ?_ (congrArg (Cert.AdamSmall1RefIdeal.Step.delta0 (m ((c : Thread nD τ).loc main_arg0)) (m ((c : Thread nD τ).loc main_arg3)) (m ((c : Thread nD τ).loc main_arg6)) (m ((c : Thread nD τ).loc main_arg9))) hy).symm
  unfold out0_12
  frame_out
  rw [changes0, read0, read3, read6, read9]
  rfl

theorem final_delta1 : (dats m 0 c).arrAt 13 (cfgs 0).N = Cert.AdamSmall1RefIdeal.Step.delta1 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  have hy : (((View.whole main_v8_1).slice (win0_13.rect t)).emb y : S4x768.Idx) = y := by
    blk_ext [idx t]
  refine Eq.trans ?_ (congrArg (Cert.AdamSmall1RefIdeal.Step.delta1 (m ((c : Thread nD τ).loc main_arg1)) (m ((c : Thread nD τ).loc main_arg4)) (m ((c : Thread nD τ).loc main_arg7)) (m ((c : Thread nD τ).loc main_arg10))) hy).symm
  unfold out0_13
  frame_out
  rw [changes1, read1, read4, read7, read10]
  rfl

theorem final_delta2 : (dats m 0 c).arrAt 14 (cfgs 0).N = Cert.AdamSmall1RefIdeal.Step.delta2 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  have hy : (((View.whole main_v8_2).slice (win0_14.rect t)).emb y : S1x8.Idx) = y := by
    blk_ext [idx t]
  refine Eq.trans ?_ (congrArg (Cert.AdamSmall1RefIdeal.Step.delta2 (m ((c : Thread nD τ).loc main_arg2)) (m ((c : Thread nD τ).loc main_arg5)) (m ((c : Thread nD τ).loc main_arg8)) (m ((c : Thread nD τ).loc main_arg11))) hy).symm
  unfold out0_14
  frame_out
  rw [changes2, read2, read5, read8, read11]
  rfl

theorem final_moment0 : (dats m 0 c).arrAt 15 (cfgs 0).N = Cert.AdamSmall1RefIdeal.Step.moment0 (m ((c : Thread nD τ).loc main_arg3)) (m ((c : Thread nD τ).loc main_arg6)) := by
  refine (dats m 0 c).arrAt_eq_of_covers 15 _ (by decide +kernel) fun t _ y => ?_
  blk_simp
  rw [after0_15]
  have hy : (((View.whole main_v8_3).slice (win0_15.rect t)).emb y : S1x1024.Idx) = y := by
    blk_ext [idx t]
  refine Eq.trans ?_ (congrArg (Cert.AdamSmall1RefIdeal.Step.moment0 (m ((c : Thread nD τ).loc main_arg3)) (m ((c : Thread nD τ).loc main_arg6))) hy).symm
  unfold out0_15
  frame_out
  rw [firsts0, read3, read6]
  rfl

theorem final_moment1 : (dats m 0 c).arrAt 16 (cfgs 0).N = Cert.AdamSmall1RefIdeal.Step.moment1 (m ((c : Thread nD τ).loc main_arg4)) (m ((c : Thread nD τ).loc main_arg7)) := by
  refine (dats m 0 c).arrAt_eq_of_covers 16 _ (by decide +kernel) fun t _ y => ?_
  blk_simp
  rw [after0_16]
  have hy : (((View.whole main_v8_4).slice (win0_16.rect t)).emb y : S4x768.Idx) = y := by
    blk_ext [idx t]
  refine Eq.trans ?_ (congrArg (Cert.AdamSmall1RefIdeal.Step.moment1 (m ((c : Thread nD τ).loc main_arg4)) (m ((c : Thread nD τ).loc main_arg7))) hy).symm
  unfold out0_16
  frame_out
  rw [firsts1, read4, read7]
  rfl

theorem final_moment2 : (dats m 0 c).arrAt 17 (cfgs 0).N = Cert.AdamSmall1RefIdeal.Step.moment2 (m ((c : Thread nD τ).loc main_arg5)) (m ((c : Thread nD τ).loc main_arg8)) := by
  refine (dats m 0 c).arrAt_eq_of_covers 17 _ (by decide +kernel) fun t _ y => ?_
  blk_simp
  rw [after0_17]
  have hy : (((View.whole main_v8_5).slice (win0_17.rect t)).emb y : S1x8.Idx) = y := by
    blk_ext [idx t]
  refine Eq.trans ?_ (congrArg (Cert.AdamSmall1RefIdeal.Step.moment2 (m ((c : Thread nD τ).loc main_arg5)) (m ((c : Thread nD τ).loc main_arg8))) hy).symm
  unfold out0_17
  frame_out
  rw [firsts2, read5, read8]
  rfl

theorem final_variance0 : (dats m 0 c).arrAt 18 (cfgs 0).N = Cert.AdamSmall1RefIdeal.Step.variance0 (m ((c : Thread nD τ).loc main_arg3)) (m ((c : Thread nD τ).loc main_arg9)) := by
  refine (dats m 0 c).arrAt_eq_of_covers 18 _ (by decide +kernel) fun t _ y => ?_
  blk_simp
  rw [after0_18]
  have hy : (((View.whole main_v8_6).slice (win0_18.rect t)).emb y : S1x1024.Idx) = y := by
    blk_ext [idx t]
  refine Eq.trans ?_ (congrArg (Cert.AdamSmall1RefIdeal.Step.variance0 (m ((c : Thread nD τ).loc main_arg3)) (m ((c : Thread nD τ).loc main_arg9))) hy).symm
  unfold out0_18
  frame_out
  rw [seconds0, read3, read9]
  rfl

theorem final_variance1 : (dats m 0 c).arrAt 19 (cfgs 0).N = Cert.AdamSmall1RefIdeal.Step.variance1 (m ((c : Thread nD τ).loc main_arg4)) (m ((c : Thread nD τ).loc main_arg10)) := by
  refine (dats m 0 c).arrAt_eq_of_covers 19 _ (by decide +kernel) fun t _ y => ?_
  blk_simp
  rw [after0_19]
  have hy : (((View.whole main_v8_7).slice (win0_19.rect t)).emb y : S4x768.Idx) = y := by
    blk_ext [idx t]
  refine Eq.trans ?_ (congrArg (Cert.AdamSmall1RefIdeal.Step.variance1 (m ((c : Thread nD τ).loc main_arg4)) (m ((c : Thread nD τ).loc main_arg10))) hy).symm
  unfold out0_19
  frame_out
  rw [seconds1, read4, read10]
  rfl

theorem final_variance2 : (dats m 0 c).arrAt 20 (cfgs 0).N = Cert.AdamSmall1RefIdeal.Step.variance2 (m ((c : Thread nD τ).loc main_arg5)) (m ((c : Thread nD τ).loc main_arg11)) := by
  refine (dats m 0 c).arrAt_eq_of_covers 20 _ (by decide +kernel) fun t _ y => ?_
  blk_simp
  rw [after0_20]
  have hy : (((View.whole main_v8_8).slice (win0_20.rect t)).emb y : S1x8.Idx) = y := by
    blk_ext [idx t]
  refine Eq.trans ?_ (congrArg (Cert.AdamSmall1RefIdeal.Step.variance2 (m ((c : Thread nD τ).loc main_arg5)) (m ((c : Thread nD τ).loc main_arg11))) hy).symm
  unfold out0_20
  frame_out
  rw [seconds2, read5, read11]
  rfl

end Cert.AdamSmall1Ideal.Step

end
-- ==== Proof.AdamSmall2Step.lean ====
/- The AdamW step of three of the small weights in one call. -/
module

public import proofs.«01_k».proof.Proof.Gen.AdamSmall2Ideal.Frame
public import proofs.«01_k».proof.Proof.Gen.AdamSmall2RefIdeal.Run
public import proofs.«01_k».proof.Proof.AdamArrays
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamSmall2RefIdeal.Step

open Idealize.ShloMosaic Idealize.ShloMosaic.TcCoe Idealize.SL.Sem
open Cert.AdamSmall2RefIdeal Cert.AdamSmall2RefIdeal.Gen Cert.AdamStep

/-! The results: for each weight the change, the new first moment and the new second moment, with a row of one axis laid out as a
matrix of one row. -/

def delta0 (w g a v : FVec Ideal S8 .f32) : FVec Ideal S1x8 .f32 := shapeCast S1x8 (changes w g a v) shapeCasts_S8_S1x8
def delta1 (w g a v : FVec Ideal S128 .f32) : FVec Ideal S1x128 .f32 := shapeCast S1x128 (changes w g a v) shapeCasts_S128_S1x128
def delta2 (w g a v : FVec Ideal S4x384 .f32) : FVec Ideal S4x384 .f32 := changes w g a v
def moment0 (g a : FVec Ideal S8 .f32) : FVec Ideal S1x8 .f32 := shapeCast S1x8 (firsts g a) shapeCasts_S8_S1x8
def moment1 (g a : FVec Ideal S128 .f32) : FVec Ideal S1x128 .f32 := shapeCast S1x128 (firsts g a) shapeCasts_S128_S1x128
def moment2 (g a : FVec Ideal S4x384 .f32) : FVec Ideal S4x384 .f32 := firsts g a
def variance0 (g v : FVec Ideal S8 .f32) : FVec Ideal S1x8 .f32 := shapeCast S1x8 (seconds g v) shapeCasts_S8_S1x8
def variance1 (g v : FVec Ideal S128 .f32) : FVec Ideal S1x128 .f32 := shapeCast S1x128 (seconds g v) shapeCasts_S128_S1x128
def variance2 (g v : FVec Ideal S4x384 .f32) : FVec Ideal S4x384 .f32 := seconds g v

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = delta0 (m ((c.tc : Thread nD τ).loc main_arg0)) (m ((c.tc : Thread nD τ).loc main_arg3)) (m ((c.tc : Thread nD τ).loc main_arg6)) (m ((c.tc : Thread nD τ).loc main_arg9))
      ∧ r.2.mem ((c.tc : Thread nD τ).loc main_v73) = delta1 (m ((c.tc : Thread nD τ).loc main_arg1)) (m ((c.tc : Thread nD τ).loc main_arg4)) (m ((c.tc : Thread nD τ).loc main_arg7)) (m ((c.tc : Thread nD τ).loc main_arg10))
      ∧ r.2.mem ((c.tc : Thread nD τ).loc main_v71) = delta2 (m ((c.tc : Thread nD τ).loc main_arg2)) (m ((c.tc : Thread nD τ).loc main_arg5)) (m ((c.tc : Thread nD τ).loc main_arg8)) (m ((c.tc : Thread nD τ).loc main_arg11))
      ∧ r.2.mem ((c.tc : Thread nD τ).loc main_v74) = moment0 (m ((c.tc : Thread nD τ).loc main_arg3)) (m ((c.tc : Thread nD τ).loc main_arg6))
      ∧ r.2.mem ((c.tc : Thread nD τ).loc main_v75) = moment1 (m ((c.tc : Thread nD τ).loc main_arg4)) (m ((c.tc : Thread nD τ).loc main_arg7))
      ∧ r.2.mem ((c.tc : Thread nD τ).loc main_v52) = moment2 (m ((c.tc : Thread nD τ).loc main_arg5)) (m ((c.tc : Thread nD τ).loc main_arg8))
      ∧ r.2.mem ((c.tc : Thread nD τ).loc main_v76) = variance0 (m ((c.tc : Thread nD τ).loc main_arg3)) (m ((c.tc : Thread nD τ).loc main_arg9))
      ∧ r.2.mem ((c.tc : Thread nD τ).loc main_v77) = variance1 (m ((c.tc : Thread nD τ).loc main_arg4)) (m ((c.tc : Thread nD τ).loc main_arg10))
      ∧ r.2.mem ((c.tc : Thread nD τ).loc main_v58) = variance2 (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, hrest⟩ := h c
    exact ⟨h0.trans rfl, h1.trans rfl, h2.trans rfl, h3.trans rfl, h4.trans rfl, h5.trans rfl, h6.trans rfl, h7.trans rfl, h8.trans rfl, hrest⟩) (Cert.AdamSmall2RefIdeal.Value.run m ρ)

end Cert.AdamSmall2RefIdeal.Step

namespace Cert.AdamSmall2Ideal.Step

open Idealize.ShloMosaic Idealize.ShloMosaic.TcCoe Idealize.SL.Sem
open Cert.AdamSmall2Ideal Cert.AdamSmall2Ideal.Gen Cert.AdamStep

/-! ## What the block computes -/

theorem firsts0 (g a : FVec Ideal S1x8 .f32) : k0_pay2 (F := Ideal) g a = firsts g a := by
  refine funext fun i => ?_
  obtain ⟨p, q, rfl⟩ : ∃ (p : Fin 1) (q : Fin 8), i = ix2 p q := ⟨i 0, i 1, eq_ix2 i⟩
  pointwise [k0_pay2, k0_pay1]
  rfl
theorem seconds0 (g v : FVec Ideal S1x8 .f32) : k0_pay3 (F := Ideal) g v = seconds g v := by
  refine funext fun i => ?_
  obtain ⟨p, q, rfl⟩ : ∃ (p : Fin 1) (q : Fin 8), i = ix2 p q := ⟨i 0, i 1, eq_ix2 i⟩
  pointwise [k0_pay3, k0_pay1]
  rfl
theorem changes0 (w g a v : FVec Ideal S1x8 .f32) : k0_pay4 (F := Ideal) w g a v = changes w g a v := by
  refine funext fun i => ?_
  obtain ⟨p, q, rfl⟩ : ∃ (p : Fin 1) (q : Fin 8), i = ix2 p q := ⟨i 0, i 1, eq_ix2 i⟩
  pointwise [k0_pay4, firsts0, seconds0]
  rfl

theorem firsts1 (g a : FVec Ideal S1x128 .f32) : k0_pay6 (F := Ideal) g a = firsts g a := by
  refine funext fun i => ?_
  obtain ⟨p, q, rfl⟩ : ∃ (p : Fin 1) (q : Fin 128), i = ix2 p q := ⟨i 0, i 1, eq_ix2 i⟩
  pointwise [k0_pay6, k0_pay5]
  rfl
theorem seconds1 (g v : FVec Ideal S1x128 .f32) : k0_pay7 (F := Ideal) g v = seconds g v := by
  refine funext fun i => ?_
  obtain ⟨p, q, rfl⟩ : ∃ (p : Fin 1) (q : Fin 128), i = ix2 p q := ⟨i 0, i 1, eq_ix2 i⟩
  pointwise [k0_pay7, k0_pay5]
  rfl
theorem changes1 (w g a v : FVec Ideal S1x128 .f32) : k0_pay8 (F := Ideal) w g a v = changes w g a v := by
  refine funext fun i => ?_
  obtain ⟨p, q, rfl⟩ : ∃ (p : Fin 1) (q : Fin 128), i = ix2 p q := ⟨i 0, i 1, eq_ix2 i⟩
  pointwise [k0_pay8, firsts1, seconds1]
  rfl

theorem firsts2 (g a : FVec Ideal S4x384 .f32) : k0_pay9 (F := Ideal) g a = firsts g a := by
  refine funext fun i => ?_
  obtain ⟨p, q, rfl⟩ : ∃ (p : Fin 4) (q : Fin 384), i = ix2 p q := ⟨i 0, i 1, eq_ix2 i⟩
  pointwise [k0_pay9]
  rfl
theorem seconds2 (g v : FVec Ideal S4x384 .f32) : k0_pay10 (F := Ideal) g v = seconds g v := by
  refine funext fun i => ?_
  obtain ⟨p, q, rfl⟩ : ∃ (p : Fin 4) (q : Fin 384), i = ix2 p q := ⟨i 0, i 1, eq_ix2 i⟩
  pointwise [k0_pay10]
  rfl
theorem changes2 (w g a v : FVec Ideal S4x384 .f32) : k0_pay11 (F := Ideal) w g a v = changes w g a v := by
  refine funext fun i => ?_
  obtain ⟨p, q, rfl⟩ : ∃ (p : Fin 4) (q : Fin 384), i = ix2 p q := ⟨i 0, i 1, eq_ix2 i⟩
  pointwise [k0_pay11, firsts2, seconds2]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] :=
  (by decide +kernel : ∀ t : Fin grid0.N, _)

/-! ## The arrays the call reads: each argument, a row of one axis laid out as a matrix of one row -/

theorem entry0 : V m c main_v0 = (shapeCast S1x8 (m ((c : Thread nD τ).loc main_arg0) : FVec Ideal S8 .f32) shapeCasts_S8_S1x8 : FVec Ideal S1x8 .f32) := by
  unfold V
  after_results
  rfl
theorem read0 (t : Fin cfg0.N) : (iblk m c 0 t : FVec Ideal S1x8 .f32) = (shapeCast S1x8 (m ((c : Thread nD τ).loc main_arg0) : FVec Ideal S8 .f32) shapeCasts_S8_S1x8 : FVec Ideal S1x8 .f32) := by
  have e : (iblk m c 0 t : FVec Ideal S1x8 .f32) = (V m c main_v0 : FVec Ideal S1x8 .f32) := by
    refine funext fun i => ?_
    blk_ext [iblk, idx t]
  exact e.trans (entry0 m c)

theorem entry1 : V m c main_v1 = (shapeCast S1x128 (m ((c : Thread nD τ).loc main_arg1) : FVec Ideal S128 .f32) shapeCasts_S128_S1x128 : FVec Ideal S1x128 .f32) := by
  unfold V
  after_results
  rfl
theorem read1 (t : Fin cfg0.N) : (iblk m c 1 t : FVec Ideal S1x128 .f32) = (shapeCast S1x128 (m ((c : Thread nD τ).loc main_arg1) : FVec Ideal S128 .f32) shapeCasts_S128_S1x128 : FVec Ideal S1x128 .f32) := by
  have e : (iblk m c 1 t : FVec Ideal S1x128 .f32) = (V m c main_v1 : FVec Ideal S1x128 .f32) := by
    refine funext fun i => ?_
    blk_ext [iblk, idx t]
  exact e.trans (entry1 m c)

theorem read2 (t : Fin cfg0.N) : (iblk m c 2 t : FVec Ideal S4x384 .f32) = (m ((c : Thread nD τ).loc main_arg2) : FVec Ideal S4x384 .f32) := by
  have e : (iblk m c 2 t : FVec Ideal S4x384 .f32) = (V m c main_arg2 : FVec Ideal S4x384 .f32) := by
    refine funext fun i => ?_
    blk_ext [iblk, idx t]
  exact e.trans (V_main_arg2 m c)

theorem entry3 : V m c main_v2 = (shapeCast S1x8 (m ((c : Thread nD τ).loc main_arg3) : FVec Ideal S8 .f32) shapeCasts_S8_S1x8 : FVec Ideal S1x8 .f32) := by
  unfold V
  after_results
  rfl
theorem read3 (t : Fin cfg0.N) : (iblk m c 3 t : FVec Ideal S1x8 .f32) = (shapeCast S1x8 (m ((c : Thread nD τ).loc main_arg3) : FVec Ideal S8 .f32) shapeCasts_S8_S1x8 : FVec Ideal S1x8 .f32) := by
  have e : (iblk m c 3 t : FVec Ideal S1x8 .f32) = (V m c main_v2 : FVec Ideal S1x8 .f32) := by
    refine funext fun i => ?_
    blk_ext [iblk, idx t]
  exact e.trans (entry3 m c)

theorem entry4 : V m c main_v3 = (shapeCast S1x128 (m ((c : Thread nD τ).loc main_arg4) : FVec Ideal S128 .f32) shapeCasts_S128_S1x128 : FVec Ideal S1x128 .f32) := by
  unfold V
  after_results
  rfl
theorem read4 (t : Fin cfg0.N) : (iblk m c 4 t : FVec Ideal S1x128 .f32) = (shapeCast S1x128 (m ((c : Thread nD τ).loc main_arg4) : FVec Ideal S128 .f32) shapeCasts_S128_S1x128 : FVec Ideal S1x128 .f32) := by
  have e : (iblk m c 4 t : FVec Ideal S1x128 .f32) = (V m c main_v3 : FVec Ideal S1x128 .f32) := by
    refine funext fun i => ?_
    blk_ext [iblk, idx t]
  exact e.trans (entry4 m c)

theorem read5 (t : Fin cfg0.N) : (iblk m c 5 t : FVec Ideal S4x384 .f32) = (m ((c : Thread nD τ).loc main_arg5) : FVec Ideal S4x384 .f32) := by
  have e : (iblk m c 5 t : FVec Ideal S4x384 .f32) = (V m c main_arg5 : FVec Ideal S4x384 .f32) := by
    refine funext fun i => ?_
    blk_ext [iblk, idx t]
  exact e.trans (V_main_arg5 m c)

theorem entry6 : V m c main_v4 = (shapeCast S1x8 (m ((c : Thread nD τ).loc main_arg6) : FVec Ideal S8 .f32) shapeCasts_S8_S1x8 : FVec Ideal S1x8 .f32) := by
  unfold V
  after_results
  rfl
theorem read6 (t : Fin cfg0.N) : (iblk m c 6 t : FVec Ideal S1x8 .f32) = (shapeCast S1x8 (m ((c : Thread nD τ).loc main_arg6) : FVec Ideal S8 .f32) shapeCasts_S8_S1x8 : FVec Ideal S1x8 .f32) := by
  have e : (iblk m c 6 t : FVec Ideal S1x8 .f32) = (V m c main_v4 : FVec Ideal S1x8 .f32) := by
    refine funext fun i => ?_
    blk_ext [iblk, idx t]
  exact e.trans (entry6 m c)

theorem entry7 : V m c main_v5 = (shapeCast S1x128 (m ((c : Thread nD τ).loc main_arg7) : FVec Ideal S128 .f32) shapeCasts_S128_S1x128 : FVec Ideal S1x128 .f32) := by
  unfold V
  after_results
  rfl
theorem read7 (t : Fin cfg0.N) : (iblk m c 7 t : FVec Ideal S1x128 .f32) = (shapeCast S1x128 (m ((c : Thread nD τ).loc main_arg7) : FVec Ideal S128 .f32) shapeCasts_S128_S1x128 : FVec Ideal S1x128 .f32) := by
  have e : (iblk m c 7 t : FVec Ideal S1x128 .f32) = (V m c main_v5 : FVec Ideal S1x128 .f32) := by
    refine funext fun i => ?_
    blk_ext [iblk, idx t]
  exact e.trans (entry7 m c)

theorem read8 (t : Fin cfg0.N) : (iblk m c 8 t : FVec Ideal S4x384 .f32) = (m ((c : Thread nD τ).loc main_arg8) : FVec Ideal S4x384 .f32) := by
  have e : (iblk m c 8 t : FVec Ideal S4x384 .f32) = (V m c main_arg8 : FVec Ideal S4x384 .f32) := by
    refine funext fun i => ?_
    blk_ext [iblk, idx t]
  exact e.trans (V_main_arg8 m c)

theorem entry9 : V m c main_v6 = (shapeCast S1x8 (m ((c : Thread nD τ).loc main_arg9) : FVec Ideal S8 .f32) shapeCasts_S8_S1x8 : FVec Ideal S1x8 .f32) := by
  unfold V
  after_results
  rfl
theorem read9 (t : Fin cfg0.N) : (iblk m c 9 t : FVec Ideal S1x8 .f32) = (shapeCast S1x8 (m ((c : Thread nD τ).loc main_arg9) : FVec Ideal S8 .f32) shapeCasts_S8_S1x8 : FVec Ideal S1x8 .f32) := by
  have e : (iblk m c 9 t : FVec Ideal S1x8 .f32) = (V m c main_v6 : FVec Ideal S1x8 .f32) := by
    refine funext fun i => ?_
    blk_ext [iblk, idx t]
  exact e.trans (entry9 m c)

theorem entry10 : V m c main_v7 = (shapeCast S1x128 (m ((c : Thread nD τ).loc main_arg10) : FVec Ideal S128 .f32) shapeCasts_S128_S1x128 : FVec Ideal S1x128 .f32) := by
  unfold V
  after_results
  rfl
theorem read10 (t : Fin cfg0.N) : (iblk m c 10 t : FVec Ideal S1x128 .f32) = (shapeCast S1x128 (m ((c : Thread nD τ).loc main_arg10) : FVec Ideal S128 .f32) shapeCasts_S128_S1x128 : FVec Ideal S1x128 .f32) := by
  have e : (iblk m c 10 t : FVec Ideal S1x128 .f32) = (V m c main_v7 : FVec Ideal S1x128 .f32) := by
    refine funext fun i => ?_
    blk_ext [iblk, idx t]
  exact e.trans (entry10 m c)

theorem read11 (t : Fin cfg0.N) : (iblk m c 11 t : FVec Ideal S4x384 .f32) = (m ((c : Thread nD τ).loc main_arg11) : FVec Ideal S4x384 .f32) := by
  have e : (iblk m c 11 t : FVec Ideal S4x384 .f32) = (V m c main_arg11 : FVec Ideal S4x384 .f32) := by
    refine funext fun i => ?_
    blk_ext [iblk, idx t]
  exact e.trans (V_main_arg11 m c)

/-! ## The arrays the call writes -/

theorem final_delta0 : (dats m 0 c).arrAt 12 (cfgs 0).N = Cert.AdamSmall2RefIdeal.Step.delta0 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  have hy : (((View.whole main_v8_0).slice (win0_12.rect t)).emb y : S1x8.Idx) = y := by
    blk_ext [idx t]
  refine Eq.trans ?_ (congrArg (Cert.AdamSmall2RefIdeal.Step.delta0 (m ((c : Thread nD τ).loc main_arg0)) (m ((c : Thread nD τ).loc main_arg3)) (m ((c : Thread nD τ).loc main_arg6)) (m ((c : Thread nD τ).loc main_arg9))) hy).symm
  unfold out0_12
  frame_out
  rw [changes0, read0, read3, read6, read9]
  rfl

theorem final_delta1 : (dats m 0 c).arrAt 13 (cfgs 0).N = Cert.AdamSmall2RefIdeal.Step.delta1 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  have hy : (((View.whole main_v8_1).slice (win0_13.rect t)).emb y : S1x128.Idx) = y := by
    blk_ext [idx t]
  refine Eq.trans ?_ (congrArg (Cert.AdamSmall2RefIdeal.Step.delta1 (m ((c : Thread nD τ).loc main_arg1)) (m ((c : Thread nD τ).loc main_arg4)) (m ((c : Thread nD τ).loc main_arg7)) (m ((c : Thread nD τ).loc main_arg10))) hy).symm
  unfold out0_13
  frame_out
  rw [changes1, read1, read4, read7, read10]
  rfl

theorem final_delta2 : (dats m 0 c).arrAt 14 (cfgs 0).N = Cert.AdamSmall2RefIdeal.Step.delta2 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  have hy : (((View.whole main_v8_2).slice (win0_14.rect t)).emb y : S4x384.Idx) = y := by
    blk_ext [idx t]
  refine Eq.trans ?_ (congrArg (Cert.AdamSmall2RefIdeal.Step.delta2 (m ((c : Thread nD τ).loc main_arg2)) (m ((c : Thread nD τ).loc main_arg5)) (m ((c : Thread nD τ).loc main_arg8)) (m ((c : Thread nD τ).loc main_arg11))) hy).symm
  unfold out0_14
  frame_out
  rw [changes2, read2, read5, read8, read11]
  rfl

theorem final_moment0 : (dats m 0 c).arrAt 15 (cfgs 0).N = Cert.AdamSmall2RefIdeal.Step.moment0 (m ((c : Thread nD τ).loc main_arg3)) (m ((c : Thread nD τ).loc main_arg6)) := by
  refine (dats m 0 c).arrAt_eq_of_covers 15 _ (by decide +kernel) fun t _ y => ?_
  blk_simp
  rw [after0_15]
  have hy : (((View.whole main_v8_3).slice (win0_15.rect t)).emb y : S1x8.Idx) = y := by
    blk_ext [idx t]
  refine Eq.trans ?_ (congrArg (Cert.AdamSmall2RefIdeal.Step.moment0 (m ((c : Thread nD τ).loc main_arg3)) (m ((c : Thread nD τ).loc main_arg6))) hy).symm
  unfold out0_15
  frame_out
  rw [firsts0, read3, read6]
  rfl

theorem final_moment1 : (dats m 0 c).arrAt 16 (cfgs 0).N = Cert.AdamSmall2RefIdeal.Step.moment1 (m ((c : Thread nD τ).loc main_arg4)) (m ((c : Thread nD τ).loc main_arg7)) := by
  refine (dats m 0 c).arrAt_eq_of_covers 16 _ (by decide +kernel) fun t _ y => ?_
  blk_simp
  rw [after0_16]
  have hy : (((View.whole main_v8_4).slice (win0_16.rect t)).emb y : S1x128.Idx) = y := by
    blk_ext [idx t]
  refine Eq.trans ?_ (congrArg (Cert.AdamSmall2RefIdeal.Step.moment1 (m ((c : Thread nD τ).loc main_arg4)) (m ((c : Thread nD τ).loc main_arg7))) hy).symm
  unfold out0_16
  frame_out
  rw [firsts1, read4, read7]
  rfl

theorem final_moment2 : (dats m 0 c).arrAt 17 (cfgs 0).N = Cert.AdamSmall2RefIdeal.Step.moment2 (m ((c : Thread nD τ).loc main_arg5)) (m ((c : Thread nD τ).loc main_arg8)) := by
  refine (dats m 0 c).arrAt_eq_of_covers 17 _ (by decide +kernel) fun t _ y => ?_
  blk_simp
  rw [after0_17]
  have hy : (((View.whole main_v8_5).slice (win0_17.rect t)).emb y : S4x384.Idx) = y := by
    blk_ext [idx t]
  refine Eq.trans ?_ (congrArg (Cert.AdamSmall2RefIdeal.Step.moment2 (m ((c : Thread nD τ).loc main_arg5)) (m ((c : Thread nD τ).loc main_arg8))) hy).symm
  unfold out0_17
  frame_out
  rw [firsts2, read5, read8]
  rfl

theorem final_variance0 : (dats m 0 c).arrAt 18 (cfgs 0).N = Cert.AdamSmall2RefIdeal.Step.variance0 (m ((c : Thread nD τ).loc main_arg3)) (m ((c : Thread nD τ).loc main_arg9)) := by
  refine (dats m 0 c).arrAt_eq_of_covers 18 _ (by decide +kernel) fun t _ y => ?_
  blk_simp
  rw [after0_18]
  have hy : (((View.whole main_v8_6).slice (win0_18.rect t)).emb y : S1x8.Idx) = y := by
    blk_ext [idx t]
  refine Eq.trans ?_ (congrArg (Cert.AdamSmall2RefIdeal.Step.variance0 (m ((c : Thread nD τ).loc main_arg3)) (m ((c : Thread nD τ).loc main_arg9))) hy).symm
  unfold out0_18
  frame_out
  rw [seconds0, read3, read9]
  rfl

theorem final_variance1 : (dats m 0 c).arrAt 19 (cfgs 0).N = Cert.AdamSmall2RefIdeal.Step.variance1 (m ((c : Thread nD τ).loc main_arg4)) (m ((c : Thread nD τ).loc main_arg10)) := by
  refine (dats m 0 c).arrAt_eq_of_covers 19 _ (by decide +kernel) fun t _ y => ?_
  blk_simp
  rw [after0_19]
  have hy : (((View.whole main_v8_7).slice (win0_19.rect t)).emb y : S1x128.Idx) = y := by
    blk_ext [idx t]
  refine Eq.trans ?_ (congrArg (Cert.AdamSmall2RefIdeal.Step.variance1 (m ((c : Thread nD τ).loc main_arg4)) (m ((c : Thread nD τ).loc main_arg10))) hy).symm
  unfold out0_19
  frame_out
  rw [seconds1, read4, read10]
  rfl

theorem final_variance2 : (dats m 0 c).arrAt 20 (cfgs 0).N = Cert.AdamSmall2RefIdeal.Step.variance2 (m ((c : Thread nD τ).loc main_arg5)) (m ((c : Thread nD τ).loc main_arg11)) := by
  refine (dats m 0 c).arrAt_eq_of_covers 20 _ (by decide +kernel) fun t _ y => ?_
  blk_simp
  rw [after0_20]
  have hy : (((View.whole main_v8_8).slice (win0_20.rect t)).emb y : S4x384.Idx) = y := by
    blk_ext [idx t]
  refine Eq.trans ?_ (congrArg (Cert.AdamSmall2RefIdeal.Step.variance2 (m ((c : Thread nD τ).loc main_arg5)) (m ((c : Thread nD τ).loc main_arg11))) hy).symm
  unfold out0_20
  frame_out
  rw [seconds2, read5, read11]
  rfl

end Cert.AdamSmall2Ideal.Step

end
-- ==== Proof.AdamSmall3Step.lean ====
/- The AdamW step of three of the small weights in one call. -/
module

public import proofs.«01_k».proof.Proof.Gen.AdamSmall3Ideal.Frame
public import proofs.«01_k».proof.Proof.Gen.AdamSmall3RefIdeal.Run
public import proofs.«01_k».proof.Proof.AdamArrays
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamSmall3RefIdeal.Step

open Idealize.ShloMosaic Idealize.ShloMosaic.TcCoe Idealize.SL.Sem
open Cert.AdamSmall3RefIdeal Cert.AdamSmall3RefIdeal.Gen Cert.AdamStep

/-! The results: for each weight the change, the new first moment and the new second moment, with a row of one axis laid out as a
matrix of one row. -/

def delta0 (w g a v : FVec Ideal S1536 .f32) : FVec Ideal S1x1536 .f32 := shapeCast S1x1536 (changes w g a v) shapeCasts_S1536_S1x1536
def delta1 (w g a v : FVec Ideal S16 .f32) : FVec Ideal S1x16 .f32 := shapeCast S1x16 (changes w g a v) shapeCasts_S16_S1x16
def delta2 (w g a v : FVec Ideal S16 .f32) : FVec Ideal S1x16 .f32 := shapeCast S1x16 (changes w g a v) shapeCasts_S16_S1x16
def moment0 (g a : FVec Ideal S1536 .f32) : FVec Ideal S1x1536 .f32 := shapeCast S1x1536 (firsts g a) shapeCasts_S1536_S1x1536
def moment1 (g a : FVec Ideal S16 .f32) : FVec Ideal S1x16 .f32 := shapeCast S1x16 (firsts g a) shapeCasts_S16_S1x16
def moment2 (g a : FVec Ideal S16 .f32) : FVec Ideal S1x16 .f32 := shapeCast S1x16 (firsts g a) shapeCasts_S16_S1x16
def variance0 (g v : FVec Ideal S1536 .f32) : FVec Ideal S1x1536 .f32 := shapeCast S1x1536 (seconds g v) shapeCasts_S1536_S1x1536
def variance1 (g v : FVec Ideal S16 .f32) : FVec Ideal S1x16 .f32 := shapeCast S1x16 (seconds g v) shapeCasts_S16_S1x16
def variance2 (g v : FVec Ideal S16 .f32) : FVec Ideal S1x16 .f32 := shapeCast S1x16 (seconds g v) shapeCasts_S16_S1x16

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = delta0 (m ((c.tc : Thread nD τ).loc main_arg0)) (m ((c.tc : Thread nD τ).loc main_arg3)) (m ((c.tc : Thread nD τ).loc main_arg6)) (m ((c.tc : Thread nD τ).loc main_arg9))
      ∧ r.2.mem ((c.tc : Thread nD τ).loc main_v73) = delta1 (m ((c.tc : Thread nD τ).loc main_arg1)) (m ((c.tc : Thread nD τ).loc main_arg4)) (m ((c.tc : Thread nD τ).loc main_arg7)) (m ((c.tc : Thread nD τ).loc main_arg10))
      ∧ r.2.mem ((c.tc : Thread nD τ).loc main_v74) = delta2 (m ((c.tc : Thread nD τ).loc main_arg2)) (m ((c.tc : Thread nD τ).loc main_arg5)) (m ((c.tc : Thread nD τ).loc main_arg8)) (m ((c.tc : Thread nD τ).loc main_arg11))
      ∧ r.2.mem ((c.tc : Thread nD τ).loc main_v75) = moment0 (m ((c.tc : Thread nD τ).loc main_arg3)) (m ((c.tc : Thread nD τ).loc main_arg6))
      ∧ r.2.mem ((c.tc : Thread nD τ).loc main_v76) = moment1 (m ((c.tc : Thread nD τ).loc main_arg4)) (m ((c.tc : Thread nD τ).loc main_arg7))
      ∧ r.2.mem ((c.tc : Thread nD τ).loc main_v77) = moment2 (m ((c.tc : Thread nD τ).loc main_arg5)) (m ((c.tc : Thread nD τ).loc main_arg8))
      ∧ r.2.mem ((c.tc : Thread nD τ).loc main_v78) = variance0 (m ((c.tc : Thread nD τ).loc main_arg3)) (m ((c.tc : Thread nD τ).loc main_arg9))
      ∧ r.2.mem ((c.tc : Thread nD τ).loc main_v79) = variance1 (m ((c.tc : Thread nD τ).loc main_arg4)) (m ((c.tc : Thread nD τ).loc main_arg10))
      ∧ r.2.mem ((c.tc : Thread nD τ).loc main_v80) = variance2 (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, hrest⟩ := h c
    exact ⟨h0.trans rfl, h1.trans rfl, h2.trans rfl, h3.trans rfl, h4.trans rfl, h5.trans rfl, h6.trans rfl, h7.trans rfl, h8.trans rfl, hrest⟩) (Cert.AdamSmall3RefIdeal.Value.run m ρ)

end Cert.AdamSmall3RefIdeal.Step

namespace Cert.AdamSmall3Ideal.Step

open Idealize.ShloMosaic Idealize.ShloMosaic.TcCoe Idealize.SL.Sem
open Cert.AdamSmall3Ideal Cert.AdamSmall3Ideal.Gen Cert.AdamStep

/-! ## What the block computes -/

theorem firsts0 (g a : FVec Ideal S1x1536 .f32) : k0_pay2 (F := Ideal) g a = firsts g a := by
  refine funext fun i => ?_
  obtain ⟨p, q, rfl⟩ : ∃ (p : Fin 1) (q : Fin 1536), i = ix2 p q := ⟨i 0, i 1, eq_ix2 i⟩
  pointwise [k0_pay2, k0_pay1]
  rfl
theorem seconds0 (g v : FVec Ideal S1x1536 .f32) : k0_pay3 (F := Ideal) g v = seconds g v := by
  refine funext fun i => ?_
  obtain ⟨p, q, rfl⟩ : ∃ (p : Fin 1) (q : Fin 1536), i = ix2 p q := ⟨i 0, i 1, eq_ix2 i⟩
  pointwise [k0_pay3, k0_pay1]
  rfl
theorem changes0 (w g a v : FVec Ideal S1x1536 .f32) : k0_pay4 (F := Ideal) w g a v = changes w g a v := by
  refine funext fun i => ?_
  obtain ⟨p, q, rfl⟩ : ∃ (p : Fin 1) (q : Fin 1536), i = ix2 p q := ⟨i 0, i 1, eq_ix2 i⟩
  pointwise [k0_pay4, firsts0, seconds0]
  rfl

theorem firsts1 (g a : FVec Ideal S1x16 .f32) : k0_pay6 (F := Ideal) g a = firsts g a := by
  refine funext fun i => ?_
  obtain ⟨p, q, rfl⟩ : ∃ (p : Fin 1) (q : Fin 16), i = ix2 p q := ⟨i 0, i 1, eq_ix2 i⟩
  pointwise [k0_pay6, k0_pay5]
  rfl
theorem seconds1 (g v : FVec Ideal S1x16 .f32) : k0_pay7 (F := Ideal) g v = seconds g v := by
  refine funext fun i => ?_
  obtain ⟨p, q, rfl⟩ : ∃ (p : Fin 1) (q : Fin 16), i = ix2 p q := ⟨i 0, i 1, eq_ix2 i⟩
  pointwise [k0_pay7, k0_pay5]
  rfl
theorem changes1 (w g a v : FVec Ideal S1x16 .f32) : k0_pay8 (F := Ideal) w g a v = changes w g a v := by
  refine funext fun i => ?_
  obtain ⟨p, q, rfl⟩ : ∃ (p : Fin 1) (q : Fin 16), i = ix2 p q := ⟨i 0, i 1, eq_ix2 i⟩
  pointwise [k0_pay8, firsts1, seconds1]
  rfl

theorem firsts2 (g a : FVec Ideal S1x16 .f32) : k0_pay10 (F := Ideal) g a = firsts g a := by
  refine funext fun i => ?_
  obtain ⟨p, q, rfl⟩ : ∃ (p : Fin 1) (q : Fin 16), i = ix2 p q := ⟨i 0, i 1, eq_ix2 i⟩
  pointwise [k0_pay10, k0_pay9]
  rfl
theorem seconds2 (g v : FVec Ideal S1x16 .f32) : k0_pay11 (F := Ideal) g v = seconds g v := by
  refine funext fun i => ?_
  obtain ⟨p, q, rfl⟩ : ∃ (p : Fin 1) (q : Fin 16), i = ix2 p q := ⟨i 0, i 1, eq_ix2 i⟩
  pointwise [k0_pay11, k0_pay9]
  rfl
theorem changes2 (w g a v : FVec Ideal S1x16 .f32) : k0_pay12 (F := Ideal) w g a v = changes w g a v := by
  refine funext fun i => ?_
  obtain ⟨p, q, rfl⟩ : ∃ (p : Fin 1) (q : Fin 16), i = ix2 p q := ⟨i 0, i 1, eq_ix2 i⟩
  pointwise [k0_pay12, firsts2, seconds2]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] :=
  (by decide +kernel : ∀ t : Fin grid0.N, _)

/-! ## The arrays the call reads: each argument, a row of one axis laid out as a matrix of one row -/

theorem entry0 : V m c main_v0 = (shapeCast S1x1536 (m ((c : Thread nD τ).loc main_arg0) : FVec Ideal S1536 .f32) shapeCasts_S1536_S1x1536 : FVec Ideal S1x1536 .f32) := by
  unfold V
  after_results
  rfl
theorem read0 (t : Fin cfg0.N) : (iblk m c 0 t : FVec Ideal S1x1536 .f32) = (shapeCast S1x1536 (m ((c : Thread nD τ).loc main_arg0) : FVec Ideal S1536 .f32) shapeCasts_S1536_S1x1536 : FVec Ideal S1x1536 .f32) := by
  have e : (iblk m c 0 t : FVec Ideal S1x1536 .f32) = (V m c main_v0 : FVec Ideal S1x1536 .f32) := by
    refine funext fun i => ?_
    blk_ext [iblk, idx t]
  exact e.trans (entry0 m c)

theorem entry1 : V m c main_v1 = (shapeCast S1x16 (m ((c : Thread nD τ).loc main_arg1) : FVec Ideal S16 .f32) shapeCasts_S16_S1x16 : FVec Ideal S1x16 .f32) := by
  unfold V
  after_results
  rfl
theorem read1 (t : Fin cfg0.N) : (iblk m c 1 t : FVec Ideal S1x16 .f32) = (shapeCast S1x16 (m ((c : Thread nD τ).loc main_arg1) : FVec Ideal S16 .f32) shapeCasts_S16_S1x16 : FVec Ideal S1x16 .f32) := by
  have e : (iblk m c 1 t : FVec Ideal S1x16 .f32) = (V m c main_v1 : FVec Ideal S1x16 .f32) := by
    refine funext fun i => ?_
    blk_ext [iblk, idx t]
  exact e.trans (entry1 m c)

theorem entry2 : V m c main_v2 = (shapeCast S1x16 (m ((c : Thread nD τ).loc main_arg2) : FVec Ideal S16 .f32) shapeCasts_S16_S1x16 : FVec Ideal S1x16 .f32) := by
  unfold V
  after_results
  rfl
theorem read2 (t : Fin cfg0.N) : (iblk m c 2 t : FVec Ideal S1x16 .f32) = (shapeCast S1x16 (m ((c : Thread nD τ).loc main_arg2) : FVec Ideal S16 .f32) shapeCasts_S16_S1x16 : FVec Ideal S1x16 .f32) := by
  have e : (iblk m c 2 t : FVec Ideal S1x16 .f32) = (V m c main_v2 : FVec Ideal S1x16 .f32) := by
    refine funext fun i => ?_
    blk_ext [iblk, idx t]
  exact e.trans (entry2 m c)

theorem entry3 : V m c main_v3 = (shapeCast S1x1536 (m ((c : Thread nD τ).loc main_arg3) : FVec Ideal S1536 .f32) shapeCasts_S1536_S1x1536 : FVec Ideal S1x1536 .f32) := by
  unfold V
  after_results
  rfl
theorem read3 (t : Fin cfg0.N) : (iblk m c 3 t : FVec Ideal S1x1536 .f32) = (shapeCast S1x1536 (m ((c : Thread nD τ).loc main_arg3) : FVec Ideal S1536 .f32) shapeCasts_S1536_S1x1536 : FVec Ideal S1x1536 .f32) := by
  have e : (iblk m c 3 t : FVec Ideal S1x1536 .f32) = (V m c main_v3 : FVec Ideal S1x1536 .f32) := by
    refine funext fun i => ?_
    blk_ext [iblk, idx t]
  exact e.trans (entry3 m c)

theorem entry4 : V m c main_v4 = (shapeCast S1x16 (m ((c : Thread nD τ).loc main_arg4) : FVec Ideal S16 .f32) shapeCasts_S16_S1x16 : FVec Ideal S1x16 .f32) := by
  unfold V
  after_results
  rfl
theorem read4 (t : Fin cfg0.N) : (iblk m c 4 t : FVec Ideal S1x16 .f32) = (shapeCast S1x16 (m ((c : Thread nD τ).loc main_arg4) : FVec Ideal S16 .f32) shapeCasts_S16_S1x16 : FVec Ideal S1x16 .f32) := by
  have e : (iblk m c 4 t : FVec Ideal S1x16 .f32) = (V m c main_v4 : FVec Ideal S1x16 .f32) := by
    refine funext fun i => ?_
    blk_ext [iblk, idx t]
  exact e.trans (entry4 m c)

theorem entry5 : V m c main_v5 = (shapeCast S1x16 (m ((c : Thread nD τ).loc main_arg5) : FVec Ideal S16 .f32) shapeCasts_S16_S1x16 : FVec Ideal S1x16 .f32) := by
  unfold V
  after_results
  rfl
theorem read5 (t : Fin cfg0.N) : (iblk m c 5 t : FVec Ideal S1x16 .f32) = (shapeCast S1x16 (m ((c : Thread nD τ).loc main_arg5) : FVec Ideal S16 .f32) shapeCasts_S16_S1x16 : FVec Ideal S1x16 .f32) := by
  have e : (iblk m c 5 t : FVec Ideal S1x16 .f32) = (V m c main_v5 : FVec Ideal S1x16 .f32) := by
    refine funext fun i => ?_
    blk_ext [iblk, idx t]
  exact e.trans (entry5 m c)

theorem entry6 : V m c main_v6 = (shapeCast S1x1536 (m ((c : Thread nD τ).loc main_arg6) : FVec Ideal S1536 .f32) shapeCasts_S1536_S1x1536 : FVec Ideal S1x1536 .f32) := by
  unfold V
  after_results
  rfl
theorem read6 (t : Fin cfg0.N) : (iblk m c 6 t : FVec Ideal S1x1536 .f32) = (shapeCast S1x1536 (m ((c : Thread nD τ).loc main_arg6) : FVec Ideal S1536 .f32) shapeCasts_S1536_S1x1536 : FVec Ideal S1x1536 .f32) := by
  have e : (iblk m c 6 t : FVec Ideal S1x1536 .f32) = (V m c main_v6 : FVec Ideal S1x1536 .f32) := by
    refine funext fun i => ?_
    blk_ext [iblk, idx t]
  exact e.trans (entry6 m c)

theorem entry7 : V m c main_v7 = (shapeCast S1x16 (m ((c : Thread nD τ).loc main_arg7) : FVec Ideal S16 .f32) shapeCasts_S16_S1x16 : FVec Ideal S1x16 .f32) := by
  unfold V
  after_results
  rfl
theorem read7 (t : Fin cfg0.N) : (iblk m c 7 t : FVec Ideal S1x16 .f32) = (shapeCast S1x16 (m ((c : Thread nD τ).loc main_arg7) : FVec Ideal S16 .f32) shapeCasts_S16_S1x16 : FVec Ideal S1x16 .f32) := by
  have e : (iblk m c 7 t : FVec Ideal S1x16 .f32) = (V m c main_v7 : FVec Ideal S1x16 .f32) := by
    refine funext fun i => ?_
    blk_ext [iblk, idx t]
  exact e.trans (entry7 m c)

theorem entry8 : V m c main_v8 = (shapeCast S1x16 (m ((c : Thread nD τ).loc main_arg8) : FVec Ideal S16 .f32) shapeCasts_S16_S1x16 : FVec Ideal S1x16 .f32) := by
  unfold V
  after_results
  rfl
theorem read8 (t : Fin cfg0.N) : (iblk m c 8 t : FVec Ideal S1x16 .f32) = (shapeCast S1x16 (m ((c : Thread nD τ).loc main_arg8) : FVec Ideal S16 .f32) shapeCasts_S16_S1x16 : FVec Ideal S1x16 .f32) := by
  have e : (iblk m c 8 t : FVec Ideal S1x16 .f32) = (V m c main_v8 : FVec Ideal S1x16 .f32) := by
    refine funext fun i => ?_
    blk_ext [iblk, idx t]
  exact e.trans (entry8 m c)

theorem entry9 : V m c main_v9 = (shapeCast S1x1536 (m ((c : Thread nD τ).loc main_arg9) : FVec Ideal S1536 .f32) shapeCasts_S1536_S1x1536 : FVec Ideal S1x1536 .f32) := by
  unfold V
  after_results
  rfl
theorem read9 (t : Fin cfg0.N) : (iblk m c 9 t : FVec Ideal S1x1536 .f32) = (shapeCast S1x1536 (m ((c : Thread nD τ).loc main_arg9) : FVec Ideal S1536 .f32) shapeCasts_S1536_S1x1536 : FVec Ideal S1x1536 .f32) := by
  have e : (iblk m c 9 t : FVec Ideal S1x1536 .f32) = (V m c main_v9 : FVec Ideal S1x1536 .f32) := by
    refine funext fun i => ?_
    blk_ext [iblk, idx t]
  exact e.trans (entry9 m c)

theorem entry10 : V m c main_v10 = (shapeCast S1x16 (m ((c : Thread nD τ).loc main_arg10) : FVec Ideal S16 .f32) shapeCasts_S16_S1x16 : FVec Ideal S1x16 .f32) := by
  unfold V
  after_results
  rfl
theorem read10 (t : Fin cfg0.N) : (iblk m c 10 t : FVec Ideal S1x16 .f32) = (shapeCast S1x16 (m ((c : Thread nD τ).loc main_arg10) : FVec Ideal S16 .f32) shapeCasts_S16_S1x16 : FVec Ideal S1x16 .f32) := by
  have e : (iblk m c 10 t : FVec Ideal S1x16 .f32) = (V m c main_v10 : FVec Ideal S1x16 .f32) := by
    refine funext fun i => ?_
    blk_ext [iblk, idx t]
  exact e.trans (entry10 m c)

theorem entry11 : V m c main_v11 = (shapeCast S1x16 (m ((c : Thread nD τ).loc main_arg11) : FVec Ideal S16 .f32) shapeCasts_S16_S1x16 : FVec Ideal S1x16 .f32) := by
  unfold V
  after_results
  rfl
theorem read11 (t : Fin cfg0.N) : (iblk m c 11 t : FVec Ideal S1x16 .f32) = (shapeCast S1x16 (m ((c : Thread nD τ).loc main_arg11) : FVec Ideal S16 .f32) shapeCasts_S16_S1x16 : FVec Ideal S1x16 .f32) := by
  have e : (iblk m c 11 t : FVec Ideal S1x16 .f32) = (V m c main_v11 : FVec Ideal S1x16 .f32) := by
    refine funext fun i => ?_
    blk_ext [iblk, idx t]
  exact e.trans (entry11 m c)

/-! ## The arrays the call writes -/

theorem final_delta0 : (dats m 0 c).arrAt 12 (cfgs 0).N = Cert.AdamSmall3RefIdeal.Step.delta0 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  have hy : (((View.whole main_v12_0).slice (win0_12.rect t)).emb y : S1x1536.Idx) = y := by
    blk_ext [idx t]
  refine Eq.trans ?_ (congrArg (Cert.AdamSmall3RefIdeal.Step.delta0 (m ((c : Thread nD τ).loc main_arg0)) (m ((c : Thread nD τ).loc main_arg3)) (m ((c : Thread nD τ).loc main_arg6)) (m ((c : Thread nD τ).loc main_arg9))) hy).symm
  unfold out0_12
  frame_out
  rw [changes0, read0, read3, read6, read9]
  rfl

theorem final_delta1 : (dats m 0 c).arrAt 13 (cfgs 0).N = Cert.AdamSmall3RefIdeal.Step.delta1 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  have hy : (((View.whole main_v12_1).slice (win0_13.rect t)).emb y : S1x16.Idx) = y := by
    blk_ext [idx t]
  refine Eq.trans ?_ (congrArg (Cert.AdamSmall3RefIdeal.Step.delta1 (m ((c : Thread nD τ).loc main_arg1)) (m ((c : Thread nD τ).loc main_arg4)) (m ((c : Thread nD τ).loc main_arg7)) (m ((c : Thread nD τ).loc main_arg10))) hy).symm
  unfold out0_13
  frame_out
  rw [changes1, read1, read4, read7, read10]
  rfl

theorem final_delta2 : (dats m 0 c).arrAt 14 (cfgs 0).N = Cert.AdamSmall3RefIdeal.Step.delta2 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  have hy : (((View.whole main_v12_2).slice (win0_14.rect t)).emb y : S1x16.Idx) = y := by
    blk_ext [idx t]
  refine Eq.trans ?_ (congrArg (Cert.AdamSmall3RefIdeal.Step.delta2 (m ((c : Thread nD τ).loc main_arg2)) (m ((c : Thread nD τ).loc main_arg5)) (m ((c : Thread nD τ).loc main_arg8)) (m ((c : Thread nD τ).loc main_arg11))) hy).symm
  unfold out0_14
  frame_out
  rw [changes2, read2, read5, read8, read11]
  rfl

theorem final_moment0 : (dats m 0 c).arrAt 15 (cfgs 0).N = Cert.AdamSmall3RefIdeal.Step.moment0 (m ((c : Thread nD τ).loc main_arg3)) (m ((c : Thread nD τ).loc main_arg6)) := by
  refine (dats m 0 c).arrAt_eq_of_covers 15 _ (by decide +kernel) fun t _ y => ?_
  blk_simp
  rw [after0_15]
  have hy : (((View.whole main_v12_3).slice (win0_15.rect t)).emb y : S1x1536.Idx) = y := by
    blk_ext [idx t]
  refine Eq.trans ?_ (congrArg (Cert.AdamSmall3RefIdeal.Step.moment0 (m ((c : Thread nD τ).loc main_arg3)) (m ((c : Thread nD τ).loc main_arg6))) hy).symm
  unfold out0_15
  frame_out
  rw [firsts0, read3, read6]
  rfl

theorem final_moment1 : (dats m 0 c).arrAt 16 (cfgs 0).N = Cert.AdamSmall3RefIdeal.Step.moment1 (m ((c : Thread nD τ).loc main_arg4)) (m ((c : Thread nD τ).loc main_arg7)) := by
  refine (dats m 0 c).arrAt_eq_of_covers 16 _ (by decide +kernel) fun t _ y => ?_
  blk_simp
  rw [after0_16]
  have hy : (((View.whole main_v12_4).slice (win0_16.rect t)).emb y : S1x16.Idx) = y := by
    blk_ext [idx t]
  refine Eq.trans ?_ (congrArg (Cert.AdamSmall3RefIdeal.Step.moment1 (m ((c : Thread nD τ).loc main_arg4)) (m ((c : Thread nD τ).loc main_arg7))) hy).symm
  unfold out0_16
  frame_out
  rw [firsts1, read4, read7]
  rfl

theorem final_moment2 : (dats m 0 c).arrAt 17 (cfgs 0).N = Cert.AdamSmall3RefIdeal.Step.moment2 (m ((c : Thread nD τ).loc main_arg5)) (m ((c : Thread nD τ).loc main_arg8)) := by
  refine (dats m 0 c).arrAt_eq_of_covers 17 _ (by decide +kernel) fun t _ y => ?_
  blk_simp
  rw [after0_17]
  have hy : (((View.whole main_v12_5).slice (win0_17.rect t)).emb y : S1x16.Idx) = y := by
    blk_ext [idx t]
  refine Eq.trans ?_ (congrArg (Cert.AdamSmall3RefIdeal.Step.moment2 (m ((c : Thread nD τ).loc main_arg5)) (m ((c : Thread nD τ).loc main_arg8))) hy).symm
  unfold out0_17
  frame_out
  rw [firsts2, read5, read8]
  rfl

theorem final_variance0 : (dats m 0 c).arrAt 18 (cfgs 0).N = Cert.AdamSmall3RefIdeal.Step.variance0 (m ((c : Thread nD τ).loc main_arg3)) (m ((c : Thread nD τ).loc main_arg9)) := by
  refine (dats m 0 c).arrAt_eq_of_covers 18 _ (by decide +kernel) fun t _ y => ?_
  blk_simp
  rw [after0_18]
  have hy : (((View.whole main_v12_6).slice (win0_18.rect t)).emb y : S1x1536.Idx) = y := by
    blk_ext [idx t]
  refine Eq.trans ?_ (congrArg (Cert.AdamSmall3RefIdeal.Step.variance0 (m ((c : Thread nD τ).loc main_arg3)) (m ((c : Thread nD τ).loc main_arg9))) hy).symm
  unfold out0_18
  frame_out
  rw [seconds0, read3, read9]
  rfl

theorem final_variance1 : (dats m 0 c).arrAt 19 (cfgs 0).N = Cert.AdamSmall3RefIdeal.Step.variance1 (m ((c : Thread nD τ).loc main_arg4)) (m ((c : Thread nD τ).loc main_arg10)) := by
  refine (dats m 0 c).arrAt_eq_of_covers 19 _ (by decide +kernel) fun t _ y => ?_
  blk_simp
  rw [after0_19]
  have hy : (((View.whole main_v12_7).slice (win0_19.rect t)).emb y : S1x16.Idx) = y := by
    blk_ext [idx t]
  refine Eq.trans ?_ (congrArg (Cert.AdamSmall3RefIdeal.Step.variance1 (m ((c : Thread nD τ).loc main_arg4)) (m ((c : Thread nD τ).loc main_arg10))) hy).symm
  unfold out0_19
  frame_out
  rw [seconds1, read4, read10]
  rfl

theorem final_variance2 : (dats m 0 c).arrAt 20 (cfgs 0).N = Cert.AdamSmall3RefIdeal.Step.variance2 (m ((c : Thread nD τ).loc main_arg5)) (m ((c : Thread nD τ).loc main_arg11)) := by
  refine (dats m 0 c).arrAt_eq_of_covers 20 _ (by decide +kernel) fun t _ y => ?_
  blk_simp
  rw [after0_20]
  have hy : (((View.whole main_v12_8).slice (win0_20.rect t)).emb y : S1x16.Idx) = y := by
    blk_ext [idx t]
  refine Eq.trans ?_ (congrArg (Cert.AdamSmall3RefIdeal.Step.variance2 (m ((c : Thread nD τ).loc main_arg5)) (m ((c : Thread nD τ).loc main_arg11))) hy).symm
  unfold out0_20
  frame_out
  rw [seconds2, read5, read11]
  rfl

end Cert.AdamSmall3Ideal.Step

end
-- ==== Proof.AdamSmall4Step.lean ====
/- The AdamW step of three of the small weights in one call. -/
module

public import proofs.«01_k».proof.Proof.Gen.AdamSmall4Ideal.Frame
public import proofs.«01_k».proof.Proof.Gen.AdamSmall4RefIdeal.Run
public import proofs.«01_k».proof.Proof.AdamArrays
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamSmall4RefIdeal.Step

open Idealize.ShloMosaic Idealize.ShloMosaic.TcCoe Idealize.SL.Sem
open Cert.AdamSmall4RefIdeal Cert.AdamSmall4RefIdeal.Gen Cert.AdamStep

/-! The results: for each weight the change, the new first moment and the new second moment, with a row of one axis laid out as a
matrix of one row. -/

def delta0 (w g a v : FVec Ideal S16 .f32) : FVec Ideal S1x16 .f32 := shapeCast S1x16 (changes w g a v) shapeCasts_S16_S1x16
def delta1 (w g a v : FVec Ideal S1024 .f32) : FVec Ideal S1x1024 .f32 := shapeCast S1x1024 (changes w g a v) shapeCasts_S1024_S1x1024
def delta2 (w g a v : FVec Ideal S1024 .f32) : FVec Ideal S1x1024 .f32 := shapeCast S1x1024 (changes w g a v) shapeCasts_S1024_S1x1024
def moment0 (g a : FVec Ideal S16 .f32) : FVec Ideal S1x16 .f32 := shapeCast S1x16 (firsts g a) shapeCasts_S16_S1x16
def moment1 (g a : FVec Ideal S1024 .f32) : FVec Ideal S1x1024 .f32 := shapeCast S1x1024 (firsts g a) shapeCasts_S1024_S1x1024
def moment2 (g a : FVec Ideal S1024 .f32) : FVec Ideal S1x1024 .f32 := shapeCast S1x1024 (firsts g a) shapeCasts_S1024_S1x1024
def variance0 (g v : FVec Ideal S16 .f32) : FVec Ideal S1x16 .f32 := shapeCast S1x16 (seconds g v) shapeCasts_S16_S1x16
def variance1 (g v : FVec Ideal S1024 .f32) : FVec Ideal S1x1024 .f32 := shapeCast S1x1024 (seconds g v) shapeCasts_S1024_S1x1024
def variance2 (g v : FVec Ideal S1024 .f32) : FVec Ideal S1x1024 .f32 := shapeCast S1x1024 (seconds g v) shapeCasts_S1024_S1x1024

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = delta0 (m ((c.tc : Thread nD τ).loc main_arg0)) (m ((c.tc : Thread nD τ).loc main_arg3)) (m ((c.tc : Thread nD τ).loc main_arg6)) (m ((c.tc : Thread nD τ).loc main_arg9))
      ∧ r.2.mem ((c.tc : Thread nD τ).loc main_v73) = delta1 (m ((c.tc : Thread nD τ).loc main_arg1)) (m ((c.tc : Thread nD τ).loc main_arg4)) (m ((c.tc : Thread nD τ).loc main_arg7)) (m ((c.tc : Thread nD τ).loc main_arg10))
      ∧ r.2.mem ((c.tc : Thread nD τ).loc main_v74) = delta2 (m ((c.tc : Thread nD τ).loc main_arg2)) (m ((c.tc : Thread nD τ).loc main_arg5)) (m ((c.tc : Thread nD τ).loc main_arg8)) (m ((c.tc : Thread nD τ).loc main_arg11))
      ∧ r.2.mem ((c.tc : Thread nD τ).loc main_v75) = moment0 (m ((c.tc : Thread nD τ).loc main_arg3)) (m ((c.tc : Thread nD τ).loc main_arg6))
      ∧ r.2.mem ((c.tc : Thread nD τ).loc main_v76) = moment1 (m ((c.tc : Thread nD τ).loc main_arg4)) (m ((c.tc : Thread nD τ).loc main_arg7))
      ∧ r.2.mem ((c.tc : Thread nD τ).loc main_v77) = moment2 (m ((c.tc : Thread nD τ).loc main_arg5)) (m ((c.tc : Thread nD τ).loc main_arg8))
      ∧ r.2.mem ((c.tc : Thread nD τ).loc main_v78) = variance0 (m ((c.tc : Thread nD τ).loc main_arg3)) (m ((c.tc : Thread nD τ).loc main_arg9))
      ∧ r.2.mem ((c.tc : Thread nD τ).loc main_v79) = variance1 (m ((c.tc : Thread nD τ).loc main_arg4)) (m ((c.tc : Thread nD τ).loc main_arg10))
      ∧ r.2.mem ((c.tc : Thread nD τ).loc main_v80) = variance2 (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, hrest⟩ := h c
    exact ⟨h0.trans rfl, h1.trans rfl, h2.trans rfl, h3.trans rfl, h4.trans rfl, h5.trans rfl, h6.trans rfl, h7.trans rfl, h8.trans rfl, hrest⟩) (Cert.AdamSmall4RefIdeal.Value.run m ρ)

end Cert.AdamSmall4RefIdeal.Step

namespace Cert.AdamSmall4Ideal.Step

open Idealize.ShloMosaic Idealize.ShloMosaic.TcCoe Idealize.SL.Sem
open Cert.AdamSmall4Ideal Cert.AdamSmall4Ideal.Gen Cert.AdamStep

/-! ## What the block computes -/

theorem firsts0 (g a : FVec Ideal S1x16 .f32) : k0_pay2 (F := Ideal) g a = firsts g a := by
  refine funext fun i => ?_
  obtain ⟨p, q, rfl⟩ : ∃ (p : Fin 1) (q : Fin 16), i = ix2 p q := ⟨i 0, i 1, eq_ix2 i⟩
  pointwise [k0_pay2, k0_pay1]
  rfl
theorem seconds0 (g v : FVec Ideal S1x16 .f32) : k0_pay3 (F := Ideal) g v = seconds g v := by
  refine funext fun i => ?_
  obtain ⟨p, q, rfl⟩ : ∃ (p : Fin 1) (q : Fin 16), i = ix2 p q := ⟨i 0, i 1, eq_ix2 i⟩
  pointwise [k0_pay3, k0_pay1]
  rfl
theorem changes0 (w g a v : FVec Ideal S1x16 .f32) : k0_pay4 (F := Ideal) w g a v = changes w g a v := by
  refine funext fun i => ?_
  obtain ⟨p, q, rfl⟩ : ∃ (p : Fin 1) (q : Fin 16), i = ix2 p q := ⟨i 0, i 1, eq_ix2 i⟩
  pointwise [k0_pay4, firsts0, seconds0]
  rfl

theorem firsts1 (g a : FVec Ideal S1x1024 .f32) : k0_pay6 (F := Ideal) g a = firsts g a := by
  refine funext fun i => ?_
  obtain ⟨p, q, rfl⟩ : ∃ (p : Fin 1) (q : Fin 1024), i = ix2 p q := ⟨i 0, i 1, eq_ix2 i⟩
  pointwise [k0_pay6, k0_pay5]
  rfl
theorem seconds1 (g v : FVec Ideal S1x1024 .f32) : k0_pay7 (F := Ideal) g v = seconds g v := by
  refine funext fun i => ?_
  obtain ⟨p, q, rfl⟩ : ∃ (p : Fin 1) (q : Fin 1024), i = ix2 p q := ⟨i 0, i 1, eq_ix2 i⟩
  pointwise [k0_pay7, k0_pay5]
  rfl
theorem changes1 (w g a v : FVec Ideal S1x1024 .f32) : k0_pay8 (F := Ideal) w g a v = changes w g a v := by
  refine funext fun i => ?_
  obtain ⟨p, q, rfl⟩ : ∃ (p : Fin 1) (q : Fin 1024), i = ix2 p q := ⟨i 0, i 1, eq_ix2 i⟩
  pointwise [k0_pay8, firsts1, seconds1]
  rfl

theorem firsts2 (g a : FVec Ideal S1x1024 .f32) : k0_pay10 (F := Ideal) g a = firsts g a := by
  refine funext fun i => ?_
  obtain ⟨p, q, rfl⟩ : ∃ (p : Fin 1) (q : Fin 1024), i = ix2 p q := ⟨i 0, i 1, eq_ix2 i⟩
  pointwise [k0_pay10, k0_pay9]
  rfl
theorem seconds2 (g v : FVec Ideal S1x1024 .f32) : k0_pay11 (F := Ideal) g v = seconds g v := by
  refine funext fun i => ?_
  obtain ⟨p, q, rfl⟩ : ∃ (p : Fin 1) (q : Fin 1024), i = ix2 p q := ⟨i 0, i 1, eq_ix2 i⟩
  pointwise [k0_pay11, k0_pay9]
  rfl
theorem changes2 (w g a v : FVec Ideal S1x1024 .f32) : k0_pay12 (F := Ideal) w g a v = changes w g a v := by
  refine funext fun i => ?_
  obtain ⟨p, q, rfl⟩ : ∃ (p : Fin 1) (q : Fin 1024), i = ix2 p q := ⟨i 0, i 1, eq_ix2 i⟩
  pointwise [k0_pay12, firsts2, seconds2]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] :=
  (by decide +kernel : ∀ t : Fin grid0.N, _)

/-! ## The arrays the call reads: each argument, a row of one axis laid out as a matrix of one row -/

theorem entry0 : V m c main_v0 = (shapeCast S1x16 (m ((c : Thread nD τ).loc main_arg0) : FVec Ideal S16 .f32) shapeCasts_S16_S1x16 : FVec Ideal S1x16 .f32) := by
  unfold V
  after_results
  rfl
theorem read0 (t : Fin cfg0.N) : (iblk m c 0 t : FVec Ideal S1x16 .f32) = (shapeCast S1x16 (m ((c : Thread nD τ).loc main_arg0) : FVec Ideal S16 .f32) shapeCasts_S16_S1x16 : FVec Ideal S1x16 .f32) := by
  have e : (iblk m c 0 t : FVec Ideal S1x16 .f32) = (V m c main_v0 : FVec Ideal S1x16 .f32) := by
    refine funext fun i => ?_
    blk_ext [iblk, idx t]
  exact e.trans (entry0 m c)

theorem entry1 : V m c main_v1 = (shapeCast S1x1024 (m ((c : Thread nD τ).loc main_arg1) : FVec Ideal S1024 .f32) shapeCasts_S1024_S1x1024 : FVec Ideal S1x1024 .f32) := by
  unfold V
  after_results
  rfl
theorem read1 (t : Fin cfg0.N) : (iblk m c 1 t : FVec Ideal S1x1024 .f32) = (shapeCast S1x1024 (m ((c : Thread nD τ).loc main_arg1) : FVec Ideal S1024 .f32) shapeCasts_S1024_S1x1024 : FVec Ideal S1x1024 .f32) := by
  have e : (iblk m c 1 t : FVec Ideal S1x1024 .f32) = (V m c main_v1 : FVec Ideal S1x1024 .f32) := by
    refine funext fun i => ?_
    blk_ext [iblk, idx t]
  exact e.trans (entry1 m c)

theorem entry2 : V m c main_v2 = (shapeCast S1x1024 (m ((c : Thread nD τ).loc main_arg2) : FVec Ideal S1024 .f32) shapeCasts_S1024_S1x1024 : FVec Ideal S1x1024 .f32) := by
  unfold V
  after_results
  rfl
theorem read2 (t : Fin cfg0.N) : (iblk m c 2 t : FVec Ideal S1x1024 .f32) = (shapeCast S1x1024 (m ((c : Thread nD τ).loc main_arg2) : FVec Ideal S1024 .f32) shapeCasts_S1024_S1x1024 : FVec Ideal S1x1024 .f32) := by
  have e : (iblk m c 2 t : FVec Ideal S1x1024 .f32) = (V m c main_v2 : FVec Ideal S1x1024 .f32) := by
    refine funext fun i => ?_
    blk_ext [iblk, idx t]
  exact e.trans (entry2 m c)

theorem entry3 : V m c main_v3 = (shapeCast S1x16 (m ((c : Thread nD τ).loc main_arg3) : FVec Ideal S16 .f32) shapeCasts_S16_S1x16 : FVec Ideal S1x16 .f32) := by
  unfold V
  after_results
  rfl
theorem read3 (t : Fin cfg0.N) : (iblk m c 3 t : FVec Ideal S1x16 .f32) = (shapeCast S1x16 (m ((c : Thread nD τ).loc main_arg3) : FVec Ideal S16 .f32) shapeCasts_S16_S1x16 : FVec Ideal S1x16 .f32) := by
  have e : (iblk m c 3 t : FVec Ideal S1x16 .f32) = (V m c main_v3 : FVec Ideal S1x16 .f32) := by
    refine funext fun i => ?_
    blk_ext [iblk, idx t]
  exact e.trans (entry3 m c)

theorem entry4 : V m c main_v4 = (shapeCast S1x1024 (m ((c : Thread nD τ).loc main_arg4) : FVec Ideal S1024 .f32) shapeCasts_S1024_S1x1024 : FVec Ideal S1x1024 .f32) := by
  unfold V
  after_results
  rfl
theorem read4 (t : Fin cfg0.N) : (iblk m c 4 t : FVec Ideal S1x1024 .f32) = (shapeCast S1x1024 (m ((c : Thread nD τ).loc main_arg4) : FVec Ideal S1024 .f32) shapeCasts_S1024_S1x1024 : FVec Ideal S1x1024 .f32) := by
  have e : (iblk m c 4 t : FVec Ideal S1x1024 .f32) = (V m c main_v4 : FVec Ideal S1x1024 .f32) := by
    refine funext fun i => ?_
    blk_ext [iblk, idx t]
  exact e.trans (entry4 m c)

theorem entry5 : V m c main_v5 = (shapeCast S1x1024 (m ((c : Thread nD τ).loc main_arg5) : FVec Ideal S1024 .f32) shapeCasts_S1024_S1x1024 : FVec Ideal S1x1024 .f32) := by
  unfold V
  after_results
  rfl
theorem read5 (t : Fin cfg0.N) : (iblk m c 5 t : FVec Ideal S1x1024 .f32) = (shapeCast S1x1024 (m ((c : Thread nD τ).loc main_arg5) : FVec Ideal S1024 .f32) shapeCasts_S1024_S1x1024 : FVec Ideal S1x1024 .f32) := by
  have e : (iblk m c 5 t : FVec Ideal S1x1024 .f32) = (V m c main_v5 : FVec Ideal S1x1024 .f32) := by
    refine funext fun i => ?_
    blk_ext [iblk, idx t]
  exact e.trans (entry5 m c)

theorem entry6 : V m c main_v6 = (shapeCast S1x16 (m ((c : Thread nD τ).loc main_arg6) : FVec Ideal S16 .f32) shapeCasts_S16_S1x16 : FVec Ideal S1x16 .f32) := by
  unfold V
  after_results
  rfl
theorem read6 (t : Fin cfg0.N) : (iblk m c 6 t : FVec Ideal S1x16 .f32) = (shapeCast S1x16 (m ((c : Thread nD τ).loc main_arg6) : FVec Ideal S16 .f32) shapeCasts_S16_S1x16 : FVec Ideal S1x16 .f32) := by
  have e : (iblk m c 6 t : FVec Ideal S1x16 .f32) = (V m c main_v6 : FVec Ideal S1x16 .f32) := by
    refine funext fun i => ?_
    blk_ext [iblk, idx t]
  exact e.trans (entry6 m c)

theorem entry7 : V m c main_v7 = (shapeCast S1x1024 (m ((c : Thread nD τ).loc main_arg7) : FVec Ideal S1024 .f32) shapeCasts_S1024_S1x1024 : FVec Ideal S1x1024 .f32) := by
  unfold V
  after_results
  rfl
theorem read7 (t : Fin cfg0.N) : (iblk m c 7 t : FVec Ideal S1x1024 .f32) = (shapeCast S1x1024 (m ((c : Thread nD τ).loc main_arg7) : FVec Ideal S1024 .f32) shapeCasts_S1024_S1x1024 : FVec Ideal S1x1024 .f32) := by
  have e : (iblk m c 7 t : FVec Ideal S1x1024 .f32) = (V m c main_v7 : FVec Ideal S1x1024 .f32) := by
    refine funext fun i => ?_
    blk_ext [iblk, idx t]
  exact e.trans (entry7 m c)

theorem entry8 : V m c main_v8 = (shapeCast S1x1024 (m ((c : Thread nD τ).loc main_arg8) : FVec Ideal S1024 .f32) shapeCasts_S1024_S1x1024 : FVec Ideal S1x1024 .f32) := by
  unfold V
  after_results
  rfl
theorem read8 (t : Fin cfg0.N) : (iblk m c 8 t : FVec Ideal S1x1024 .f32) = (shapeCast S1x1024 (m ((c : Thread nD τ).loc main_arg8) : FVec Ideal S1024 .f32) shapeCasts_S1024_S1x1024 : FVec Ideal S1x1024 .f32) := by
  have e : (iblk m c 8 t : FVec Ideal S1x1024 .f32) = (V m c main_v8 : FVec Ideal S1x1024 .f32) := by
    refine funext fun i => ?_
    blk_ext [iblk, idx t]
  exact e.trans (entry8 m c)

theorem entry9 : V m c main_v9 = (shapeCast S1x16 (m ((c : Thread nD τ).loc main_arg9) : FVec Ideal S16 .f32) shapeCasts_S16_S1x16 : FVec Ideal S1x16 .f32) := by
  unfold V
  after_results
  rfl
theorem read9 (t : Fin cfg0.N) : (iblk m c 9 t : FVec Ideal S1x16 .f32) = (shapeCast S1x16 (m ((c : Thread nD τ).loc main_arg9) : FVec Ideal S16 .f32) shapeCasts_S16_S1x16 : FVec Ideal S1x16 .f32) := by
  have e : (iblk m c 9 t : FVec Ideal S1x16 .f32) = (V m c main_v9 : FVec Ideal S1x16 .f32) := by
    refine funext fun i => ?_
    blk_ext [iblk, idx t]
  exact e.trans (entry9 m c)

theorem entry10 : V m c main_v10 = (shapeCast S1x1024 (m ((c : Thread nD τ).loc main_arg10) : FVec Ideal S1024 .f32) shapeCasts_S1024_S1x1024 : FVec Ideal S1x1024 .f32) := by
  unfold V
  after_results
  rfl
theorem read10 (t : Fin cfg0.N) : (iblk m c 10 t : FVec Ideal S1x1024 .f32) = (shapeCast S1x1024 (m ((c : Thread nD τ).loc main_arg10) : FVec Ideal S1024 .f32) shapeCasts_S1024_S1x1024 : FVec Ideal S1x1024 .f32) := by
  have e : (iblk m c 10 t : FVec Ideal S1x1024 .f32) = (V m c main_v10 : FVec Ideal S1x1024 .f32) := by
    refine funext fun i => ?_
    blk_ext [iblk, idx t]
  exact e.trans (entry10 m c)

theorem entry11 : V m c main_v11 = (shapeCast S1x1024 (m ((c : Thread nD τ).loc main_arg11) : FVec Ideal S1024 .f32) shapeCasts_S1024_S1x1024 : FVec Ideal S1x1024 .f32) := by
  unfold V
  after_results
  rfl
theorem read11 (t : Fin cfg0.N) : (iblk m c 11 t : FVec Ideal S1x1024 .f32) = (shapeCast S1x1024 (m ((c : Thread nD τ).loc main_arg11) : FVec Ideal S1024 .f32) shapeCasts_S1024_S1x1024 : FVec Ideal S1x1024 .f32) := by
  have e : (iblk m c 11 t : FVec Ideal S1x1024 .f32) = (V m c main_v11 : FVec Ideal S1x1024 .f32) := by
    refine funext fun i => ?_
    blk_ext [iblk, idx t]
  exact e.trans (entry11 m c)

/-! ## The arrays the call writes -/

theorem final_delta0 : (dats m 0 c).arrAt 12 (cfgs 0).N = Cert.AdamSmall4RefIdeal.Step.delta0 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  have hy : (((View.whole main_v12_0).slice (win0_12.rect t)).emb y : S1x16.Idx) = y := by
    blk_ext [idx t]
  refine Eq.trans ?_ (congrArg (Cert.AdamSmall4RefIdeal.Step.delta0 (m ((c : Thread nD τ).loc main_arg0)) (m ((c : Thread nD τ).loc main_arg3)) (m ((c : Thread nD τ).loc main_arg6)) (m ((c : Thread nD τ).loc main_arg9))) hy).symm
  unfold out0_12
  frame_out
  rw [changes0, read0, read3, read6, read9]
  rfl

theorem final_delta1 : (dats m 0 c).arrAt 13 (cfgs 0).N = Cert.AdamSmall4RefIdeal.Step.delta1 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  have hy : (((View.whole main_v12_1).slice (win0_13.rect t)).emb y : S1x1024.Idx) = y := by
    blk_ext [idx t]
  refine Eq.trans ?_ (congrArg (Cert.AdamSmall4RefIdeal.Step.delta1 (m ((c : Thread nD τ).loc main_arg1)) (m ((c : Thread nD τ).loc main_arg4)) (m ((c : Thread nD τ).loc main_arg7)) (m ((c : Thread nD τ).loc main_arg10))) hy).symm
  unfold out0_13
  frame_out
  rw [changes1, read1, read4, read7, read10]
  rfl

theorem final_delta2 : (dats m 0 c).arrAt 14 (cfgs 0).N = Cert.AdamSmall4RefIdeal.Step.delta2 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  have hy : (((View.whole main_v12_2).slice (win0_14.rect t)).emb y : S1x1024.Idx) = y := by
    blk_ext [idx t]
  refine Eq.trans ?_ (congrArg (Cert.AdamSmall4RefIdeal.Step.delta2 (m ((c : Thread nD τ).loc main_arg2)) (m ((c : Thread nD τ).loc main_arg5)) (m ((c : Thread nD τ).loc main_arg8)) (m ((c : Thread nD τ).loc main_arg11))) hy).symm
  unfold out0_14
  frame_out
  rw [changes2, read2, read5, read8, read11]
  rfl

theorem final_moment0 : (dats m 0 c).arrAt 15 (cfgs 0).N = Cert.AdamSmall4RefIdeal.Step.moment0 (m ((c : Thread nD τ).loc main_arg3)) (m ((c : Thread nD τ).loc main_arg6)) := by
  refine (dats m 0 c).arrAt_eq_of_covers 15 _ (by decide +kernel) fun t _ y => ?_
  blk_simp
  rw [after0_15]
  have hy : (((View.whole main_v12_3).slice (win0_15.rect t)).emb y : S1x16.Idx) = y := by
    blk_ext [idx t]
  refine Eq.trans ?_ (congrArg (Cert.AdamSmall4RefIdeal.Step.moment0 (m ((c : Thread nD τ).loc main_arg3)) (m ((c : Thread nD τ).loc main_arg6))) hy).symm
  unfold out0_15
  frame_out
  rw [firsts0, read3, read6]
  rfl

theorem final_moment1 : (dats m 0 c).arrAt 16 (cfgs 0).N = Cert.AdamSmall4RefIdeal.Step.moment1 (m ((c : Thread nD τ).loc main_arg4)) (m ((c : Thread nD τ).loc main_arg7)) := by
  refine (dats m 0 c).arrAt_eq_of_covers 16 _ (by decide +kernel) fun t _ y => ?_
  blk_simp
  rw [after0_16]
  have hy : (((View.whole main_v12_4).slice (win0_16.rect t)).emb y : S1x1024.Idx) = y := by
    blk_ext [idx t]
  refine Eq.trans ?_ (congrArg (Cert.AdamSmall4RefIdeal.Step.moment1 (m ((c : Thread nD τ).loc main_arg4)) (m ((c : Thread nD τ).loc main_arg7))) hy).symm
  unfold out0_16
  frame_out
  rw [firsts1, read4, read7]
  rfl

theorem final_moment2 : (dats m 0 c).arrAt 17 (cfgs 0).N = Cert.AdamSmall4RefIdeal.Step.moment2 (m ((c : Thread nD τ).loc main_arg5)) (m ((c : Thread nD τ).loc main_arg8)) := by
  refine (dats m 0 c).arrAt_eq_of_covers 17 _ (by decide +kernel) fun t _ y => ?_
  blk_simp
  rw [after0_17]
  have hy : (((View.whole main_v12_5).slice (win0_17.rect t)).emb y : S1x1024.Idx) = y := by
    blk_ext [idx t]
  refine Eq.trans ?_ (congrArg (Cert.AdamSmall4RefIdeal.Step.moment2 (m ((c : Thread nD τ).loc main_arg5)) (m ((c : Thread nD τ).loc main_arg8))) hy).symm
  unfold out0_17
  frame_out
  rw [firsts2, read5, read8]
  rfl

theorem final_variance0 : (dats m 0 c).arrAt 18 (cfgs 0).N = Cert.AdamSmall4RefIdeal.Step.variance0 (m ((c : Thread nD τ).loc main_arg3)) (m ((c : Thread nD τ).loc main_arg9)) := by
  refine (dats m 0 c).arrAt_eq_of_covers 18 _ (by decide +kernel) fun t _ y => ?_
  blk_simp
  rw [after0_18]
  have hy : (((View.whole main_v12_6).slice (win0_18.rect t)).emb y : S1x16.Idx) = y := by
    blk_ext [idx t]
  refine Eq.trans ?_ (congrArg (Cert.AdamSmall4RefIdeal.Step.variance0 (m ((c : Thread nD τ).loc main_arg3)) (m ((c : Thread nD τ).loc main_arg9))) hy).symm
  unfold out0_18
  frame_out
  rw [seconds0, read3, read9]
  rfl

theorem final_variance1 : (dats m 0 c).arrAt 19 (cfgs 0).N = Cert.AdamSmall4RefIdeal.Step.variance1 (m ((c : Thread nD τ).loc main_arg4)) (m ((c : Thread nD τ).loc main_arg10)) := by
  refine (dats m 0 c).arrAt_eq_of_covers 19 _ (by decide +kernel) fun t _ y => ?_
  blk_simp
  rw [after0_19]
  have hy : (((View.whole main_v12_7).slice (win0_19.rect t)).emb y : S1x1024.Idx) = y := by
    blk_ext [idx t]
  refine Eq.trans ?_ (congrArg (Cert.AdamSmall4RefIdeal.Step.variance1 (m ((c : Thread nD τ).loc main_arg4)) (m ((c : Thread nD τ).loc main_arg10))) hy).symm
  unfold out0_19
  frame_out
  rw [seconds1, read4, read10]
  rfl

theorem final_variance2 : (dats m 0 c).arrAt 20 (cfgs 0).N = Cert.AdamSmall4RefIdeal.Step.variance2 (m ((c : Thread nD τ).loc main_arg5)) (m ((c : Thread nD τ).loc main_arg11)) := by
  refine (dats m 0 c).arrAt_eq_of_covers 20 _ (by decide +kernel) fun t _ y => ?_
  blk_simp
  rw [after0_20]
  have hy : (((View.whole main_v12_8).slice (win0_20.rect t)).emb y : S1x1024.Idx) = y := by
    blk_ext [idx t]
  refine Eq.trans ?_ (congrArg (Cert.AdamSmall4RefIdeal.Step.variance2 (m ((c : Thread nD τ).loc main_arg5)) (m ((c : Thread nD τ).loc main_arg11))) hy).symm
  unfold out0_20
  frame_out
  rw [seconds2, read5, read11]
  rfl

end Cert.AdamSmall4Ideal.Step

end
-- ==== Proof.AdamSmall5Step.lean ====
/- The AdamW step of three of the small weights in one call. -/
module

public import proofs.«01_k».proof.Proof.Gen.AdamSmall5Ideal.Frame
public import proofs.«01_k».proof.Proof.Gen.AdamSmall5RefIdeal.Run
public import proofs.«01_k».proof.Proof.AdamArrays
public import Idealize.ShloMosaic.Lib.Pipeline.ValueKit.Partial
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamSmall5RefIdeal.Step

open Idealize.ShloMosaic Idealize.ShloMosaic.TcCoe Idealize.SL.Sem
open Cert.AdamSmall5RefIdeal Cert.AdamSmall5RefIdeal.Gen Cert.AdamStep

/-! The results: for each weight the change, the new first moment and the new second moment, with a row of one axis laid out as a
matrix of one row. -/

def delta0 (w g a v : FVec Ideal S1024 .f32) : FVec Ideal S1x1024 .f32 := shapeCast S1x1024 (changes w g a v) shapeCasts_S1024_S1x1024
def delta1 (w g a v : FVec Ideal S1024 .f32) : FVec Ideal S1x1024 .f32 := shapeCast S1x1024 (changes w g a v) shapeCasts_S1024_S1x1024
def delta2 (w g a v : FVec Ideal S1024 .f32) : FVec Ideal S1x1024 .f32 := shapeCast S1x1024 (changes w g a v) shapeCasts_S1024_S1x1024
def moment0 (g a : FVec Ideal S1024 .f32) : FVec Ideal S1x1024 .f32 := shapeCast S1x1024 (firsts g a) shapeCasts_S1024_S1x1024
def moment1 (g a : FVec Ideal S1024 .f32) : FVec Ideal S1x1024 .f32 := shapeCast S1x1024 (firsts g a) shapeCasts_S1024_S1x1024
def moment2 (g a : FVec Ideal S1024 .f32) : FVec Ideal S1x1024 .f32 := shapeCast S1x1024 (firsts g a) shapeCasts_S1024_S1x1024
def variance0 (g v : FVec Ideal S1024 .f32) : FVec Ideal S1x1024 .f32 := shapeCast S1x1024 (seconds g v) shapeCasts_S1024_S1x1024
def variance1 (g v : FVec Ideal S1024 .f32) : FVec Ideal S1x1024 .f32 := shapeCast S1x1024 (seconds g v) shapeCasts_S1024_S1x1024
def variance2 (g v : FVec Ideal S1024 .f32) : FVec Ideal S1x1024 .f32 := shapeCast S1x1024 (seconds g v) shapeCasts_S1024_S1x1024

/-- The reference ends with these results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = delta0 (m ((c.tc : Thread nD τ).loc main_arg0)) (m ((c.tc : Thread nD τ).loc main_arg3)) (m ((c.tc : Thread nD τ).loc main_arg6)) (m ((c.tc : Thread nD τ).loc main_arg9))
      ∧ r.2.mem ((c.tc : Thread nD τ).loc main_v73) = delta1 (m ((c.tc : Thread nD τ).loc main_arg1)) (m ((c.tc : Thread nD τ).loc main_arg4)) (m ((c.tc : Thread nD τ).loc main_arg7)) (m ((c.tc : Thread nD τ).loc main_arg10))
      ∧ r.2.mem ((c.tc : Thread nD τ).loc main_v74) = delta2 (m ((c.tc : Thread nD τ).loc main_arg2)) (m ((c.tc : Thread nD τ).loc main_arg5)) (m ((c.tc : Thread nD τ).loc main_arg8)) (m ((c.tc : Thread nD τ).loc main_arg11))
      ∧ r.2.mem ((c.tc : Thread nD τ).loc main_v75) = moment0 (m ((c.tc : Thread nD τ).loc main_arg3)) (m ((c.tc : Thread nD τ).loc main_arg6))
      ∧ r.2.mem ((c.tc : Thread nD τ).loc main_v76) = moment1 (m ((c.tc : Thread nD τ).loc main_arg4)) (m ((c.tc : Thread nD τ).loc main_arg7))
      ∧ r.2.mem ((c.tc : Thread nD τ).loc main_v77) = moment2 (m ((c.tc : Thread nD τ).loc main_arg5)) (m ((c.tc : Thread nD τ).loc main_arg8))
      ∧ r.2.mem ((c.tc : Thread nD τ).loc main_v78) = variance0 (m ((c.tc : Thread nD τ).loc main_arg3)) (m ((c.tc : Thread nD τ).loc main_arg9))
      ∧ r.2.mem ((c.tc : Thread nD τ).loc main_v79) = variance1 (m ((c.tc : Thread nD τ).loc main_arg4)) (m ((c.tc : Thread nD τ).loc main_arg10))
      ∧ r.2.mem ((c.tc : Thread nD τ).loc main_v80) = variance2 (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, hrest⟩ := h c
    exact ⟨h0.trans rfl, h1.trans rfl, h2.trans rfl, h3.trans rfl, h4.trans rfl, h5.trans rfl, h6.trans rfl, h7.trans rfl, h8.trans rfl, hrest⟩) (Cert.AdamSmall5RefIdeal.Value.run m ρ)

end Cert.AdamSmall5RefIdeal.Step

namespace Cert.AdamSmall5Ideal.Step

open Idealize.ShloMosaic Idealize.ShloMosaic.TcCoe Idealize.SL.Sem
open Cert.AdamSmall5Ideal Cert.AdamSmall5Ideal.Gen Cert.AdamStep

/-! ## What the block computes -/

theorem firsts0 (g a : FVec Ideal S1x1024 .f32) : k0_pay2 (F := Ideal) g a = firsts g a := by
  refine funext fun i => ?_
  obtain ⟨p, q, rfl⟩ : ∃ (p : Fin 1) (q : Fin 1024), i = ix2 p q := ⟨i 0, i 1, eq_ix2 i⟩
  pointwise [k0_pay2, k0_pay1]
  rfl
theorem seconds0 (g v : FVec Ideal S1x1024 .f32) : k0_pay3 (F := Ideal) g v = seconds g v := by
  refine funext fun i => ?_
  obtain ⟨p, q, rfl⟩ : ∃ (p : Fin 1) (q : Fin 1024), i = ix2 p q := ⟨i 0, i 1, eq_ix2 i⟩
  pointwise [k0_pay3, k0_pay1]
  rfl
theorem changes0 (w g a v : FVec Ideal S1x1024 .f32) : k0_pay4 (F := Ideal) w g a v = changes w g a v := by
  refine funext fun i => ?_
  obtain ⟨p, q, rfl⟩ : ∃ (p : Fin 1) (q : Fin 1024), i = ix2 p q := ⟨i 0, i 1, eq_ix2 i⟩
  pointwise [k0_pay4, firsts0, seconds0]
  rfl

theorem firsts1 (g a : FVec Ideal S1x1024 .f32) : k0_pay6 (F := Ideal) g a = firsts g a := by
  refine funext fun i => ?_
  obtain ⟨p, q, rfl⟩ : ∃ (p : Fin 1) (q : Fin 1024), i = ix2 p q := ⟨i 0, i 1, eq_ix2 i⟩
  pointwise [k0_pay6, k0_pay5]
  rfl
theorem seconds1 (g v : FVec Ideal S1x1024 .f32) : k0_pay7 (F := Ideal) g v = seconds g v := by
  refine funext fun i => ?_
  obtain ⟨p, q, rfl⟩ : ∃ (p : Fin 1) (q : Fin 1024), i = ix2 p q := ⟨i 0, i 1, eq_ix2 i⟩
  pointwise [k0_pay7, k0_pay5]
  rfl
theorem changes1 (w g a v : FVec Ideal S1x1024 .f32) : k0_pay8 (F := Ideal) w g a v = changes w g a v := by
  refine funext fun i => ?_
  obtain ⟨p, q, rfl⟩ : ∃ (p : Fin 1) (q : Fin 1024), i = ix2 p q := ⟨i 0, i 1, eq_ix2 i⟩
  pointwise [k0_pay8, firsts1, seconds1]
  rfl

theorem firsts2 (g a : FVec Ideal S1x1024 .f32) : k0_pay10 (F := Ideal) g a = firsts g a := by
  refine funext fun i => ?_
  obtain ⟨p, q, rfl⟩ : ∃ (p : Fin 1) (q : Fin 1024), i = ix2 p q := ⟨i 0, i 1, eq_ix2 i⟩
  pointwise [k0_pay10, k0_pay9]
  rfl
theorem seconds2 (g v : FVec Ideal S1x1024 .f32) : k0_pay11 (F := Ideal) g v = seconds g v := by
  refine funext fun i => ?_
  obtain ⟨p, q, rfl⟩ : ∃ (p : Fin 1) (q : Fin 1024), i = ix2 p q := ⟨i 0, i 1, eq_ix2 i⟩
  pointwise [k0_pay11, k0_pay9]
  rfl
theorem changes2 (w g a v : FVec Ideal S1x1024 .f32) : k0_pay12 (F := Ideal) w g a v = changes w g a v := by
  refine funext fun i => ?_
  obtain ⟨p, q, rfl⟩ : ∃ (p : Fin 1) (q : Fin 1024), i = ix2 p q := ⟨i 0, i 1, eq_ix2 i⟩
  pointwise [k0_pay12, firsts2, seconds2]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] :=
  (by decide +kernel : ∀ t : Fin grid0.N, _)

/-! ## The arrays the call reads: each argument, a row of one axis laid out as a matrix of one row -/

theorem entry0 : V m c main_v0 = (shapeCast S1x1024 (m ((c : Thread nD τ).loc main_arg0) : FVec Ideal S1024 .f32) shapeCasts_S1024_S1x1024 : FVec Ideal S1x1024 .f32) := by
  unfold V
  after_results
  rfl
theorem read0 (t : Fin cfg0.N) : (iblk m c 0 t : FVec Ideal S1x1024 .f32) = (shapeCast S1x1024 (m ((c : Thread nD τ).loc main_arg0) : FVec Ideal S1024 .f32) shapeCasts_S1024_S1x1024 : FVec Ideal S1x1024 .f32) := by
  have e : (iblk m c 0 t : FVec Ideal S1x1024 .f32) = (V m c main_v0 : FVec Ideal S1x1024 .f32) := by
    refine funext fun i => ?_
    blk_ext [iblk, idx t]
  exact e.trans (entry0 m c)

theorem entry1 : V m c main_v1 = (shapeCast S1x1024 (m ((c : Thread nD τ).loc main_arg1) : FVec Ideal S1024 .f32) shapeCasts_S1024_S1x1024 : FVec Ideal S1x1024 .f32) := by
  unfold V
  after_results
  rfl
theorem read1 (t : Fin cfg0.N) : (iblk m c 1 t : FVec Ideal S1x1024 .f32) = (shapeCast S1x1024 (m ((c : Thread nD τ).loc main_arg1) : FVec Ideal S1024 .f32) shapeCasts_S1024_S1x1024 : FVec Ideal S1x1024 .f32) := by
  have e : (iblk m c 1 t : FVec Ideal S1x1024 .f32) = (V m c main_v1 : FVec Ideal S1x1024 .f32) := by
    refine funext fun i => ?_
    blk_ext [iblk, idx t]
  exact e.trans (entry1 m c)

theorem entry2 : V m c main_v2 = (shapeCast S1x1024 (m ((c : Thread nD τ).loc main_arg2) : FVec Ideal S1024 .f32) shapeCasts_S1024_S1x1024 : FVec Ideal S1x1024 .f32) := by
  unfold V
  after_results
  rfl
theorem read2 (t : Fin cfg0.N) : (iblk m c 2 t : FVec Ideal S1x1024 .f32) = (shapeCast S1x1024 (m ((c : Thread nD τ).loc main_arg2) : FVec Ideal S1024 .f32) shapeCasts_S1024_S1x1024 : FVec Ideal S1x1024 .f32) := by
  have e : (iblk m c 2 t : FVec Ideal S1x1024 .f32) = (V m c main_v2 : FVec Ideal S1x1024 .f32) := by
    refine funext fun i => ?_
    blk_ext [iblk, idx t]
  exact e.trans (entry2 m c)

theorem entry3 : V m c main_v3 = (shapeCast S1x1024 (m ((c : Thread nD τ).loc main_arg3) : FVec Ideal S1024 .f32) shapeCasts_S1024_S1x1024 : FVec Ideal S1x1024 .f32) := by
  unfold V
  after_results
  rfl
theorem read3 (t : Fin cfg0.N) : (iblk m c 3 t : FVec Ideal S1x1024 .f32) = (shapeCast S1x1024 (m ((c : Thread nD τ).loc main_arg3) : FVec Ideal S1024 .f32) shapeCasts_S1024_S1x1024 : FVec Ideal S1x1024 .f32) := by
  have e : (iblk m c 3 t : FVec Ideal S1x1024 .f32) = (V m c main_v3 : FVec Ideal S1x1024 .f32) := by
    refine funext fun i => ?_
    blk_ext [iblk, idx t]
  exact e.trans (entry3 m c)

theorem entry4 : V m c main_v4 = (shapeCast S1x1024 (m ((c : Thread nD τ).loc main_arg4) : FVec Ideal S1024 .f32) shapeCasts_S1024_S1x1024 : FVec Ideal S1x1024 .f32) := by
  unfold V
  after_results
  rfl
theorem read4 (t : Fin cfg0.N) : (iblk m c 4 t : FVec Ideal S1x1024 .f32) = (shapeCast S1x1024 (m ((c : Thread nD τ).loc main_arg4) : FVec Ideal S1024 .f32) shapeCasts_S1024_S1x1024 : FVec Ideal S1x1024 .f32) := by
  have e : (iblk m c 4 t : FVec Ideal S1x1024 .f32) = (V m c main_v4 : FVec Ideal S1x1024 .f32) := by
    refine funext fun i => ?_
    blk_ext [iblk, idx t]
  exact e.trans (entry4 m c)

theorem entry5 : V m c main_v5 = (shapeCast S1x1024 (m ((c : Thread nD τ).loc main_arg5) : FVec Ideal S1024 .f32) shapeCasts_S1024_S1x1024 : FVec Ideal S1x1024 .f32) := by
  unfold V
  after_results
  rfl
theorem read5 (t : Fin cfg0.N) : (iblk m c 5 t : FVec Ideal S1x1024 .f32) = (shapeCast S1x1024 (m ((c : Thread nD τ).loc main_arg5) : FVec Ideal S1024 .f32) shapeCasts_S1024_S1x1024 : FVec Ideal S1x1024 .f32) := by
  have e : (iblk m c 5 t : FVec Ideal S1x1024 .f32) = (V m c main_v5 : FVec Ideal S1x1024 .f32) := by
    refine funext fun i => ?_
    blk_ext [iblk, idx t]
  exact e.trans (entry5 m c)

theorem entry6 : V m c main_v6 = (shapeCast S1x1024 (m ((c : Thread nD τ).loc main_arg6) : FVec Ideal S1024 .f32) shapeCasts_S1024_S1x1024 : FVec Ideal S1x1024 .f32) := by
  unfold V
  after_results
  rfl
theorem read6 (t : Fin cfg0.N) : (iblk m c 6 t : FVec Ideal S1x1024 .f32) = (shapeCast S1x1024 (m ((c : Thread nD τ).loc main_arg6) : FVec Ideal S1024 .f32) shapeCasts_S1024_S1x1024 : FVec Ideal S1x1024 .f32) := by
  have e : (iblk m c 6 t : FVec Ideal S1x1024 .f32) = (V m c main_v6 : FVec Ideal S1x1024 .f32) := by
    refine funext fun i => ?_
    blk_ext [iblk, idx t]
  exact e.trans (entry6 m c)

theorem entry7 : V m c main_v7 = (shapeCast S1x1024 (m ((c : Thread nD τ).loc main_arg7) : FVec Ideal S1024 .f32) shapeCasts_S1024_S1x1024 : FVec Ideal S1x1024 .f32) := by
  unfold V
  after_results
  rfl
theorem read7 (t : Fin cfg0.N) : (iblk m c 7 t : FVec Ideal S1x1024 .f32) = (shapeCast S1x1024 (m ((c : Thread nD τ).loc main_arg7) : FVec Ideal S1024 .f32) shapeCasts_S1024_S1x1024 : FVec Ideal S1x1024 .f32) := by
  have e : (iblk m c 7 t : FVec Ideal S1x1024 .f32) = (V m c main_v7 : FVec Ideal S1x1024 .f32) := by
    refine funext fun i => ?_
    blk_ext [iblk, idx t]
  exact e.trans (entry7 m c)

theorem entry8 : V m c main_v8 = (shapeCast S1x1024 (m ((c : Thread nD τ).loc main_arg8) : FVec Ideal S1024 .f32) shapeCasts_S1024_S1x1024 : FVec Ideal S1x1024 .f32) := by
  unfold V
  after_results
  rfl
theorem read8 (t : Fin cfg0.N) : (iblk m c 8 t : FVec Ideal S1x1024 .f32) = (shapeCast S1x1024 (m ((c : Thread nD τ).loc main_arg8) : FVec Ideal S1024 .f32) shapeCasts_S1024_S1x1024 : FVec Ideal S1x1024 .f32) := by
  have e : (iblk m c 8 t : FVec Ideal S1x1024 .f32) = (V m c main_v8 : FVec Ideal S1x1024 .f32) := by
    refine funext fun i => ?_
    blk_ext [iblk, idx t]
  exact e.trans (entry8 m c)

theorem entry9 : V m c main_v9 = (shapeCast S1x1024 (m ((c : Thread nD τ).loc main_arg9) : FVec Ideal S1024 .f32) shapeCasts_S1024_S1x1024 : FVec Ideal S1x1024 .f32) := by
  unfold V
  after_results
  rfl
theorem read9 (t : Fin cfg0.N) : (iblk m c 9 t : FVec Ideal S1x1024 .f32) = (shapeCast S1x1024 (m ((c : Thread nD τ).loc main_arg9) : FVec Ideal S1024 .f32) shapeCasts_S1024_S1x1024 : FVec Ideal S1x1024 .f32) := by
  have e : (iblk m c 9 t : FVec Ideal S1x1024 .f32) = (V m c main_v9 : FVec Ideal S1x1024 .f32) := by
    refine funext fun i => ?_
    blk_ext [iblk, idx t]
  exact e.trans (entry9 m c)

theorem entry10 : V m c main_v10 = (shapeCast S1x1024 (m ((c : Thread nD τ).loc main_arg10) : FVec Ideal S1024 .f32) shapeCasts_S1024_S1x1024 : FVec Ideal S1x1024 .f32) := by
  unfold V
  after_results
  rfl
theorem read10 (t : Fin cfg0.N) : (iblk m c 10 t : FVec Ideal S1x1024 .f32) = (shapeCast S1x1024 (m ((c : Thread nD τ).loc main_arg10) : FVec Ideal S1024 .f32) shapeCasts_S1024_S1x1024 : FVec Ideal S1x1024 .f32) := by
  have e : (iblk m c 10 t : FVec Ideal S1x1024 .f32) = (V m c main_v10 : FVec Ideal S1x1024 .f32) := by
    refine funext fun i => ?_
    blk_ext [iblk, idx t]
  exact e.trans (entry10 m c)

theorem entry11 : V m c main_v11 = (shapeCast S1x1024 (m ((c : Thread nD τ).loc main_arg11) : FVec Ideal S1024 .f32) shapeCasts_S1024_S1x1024 : FVec Ideal S1x1024 .f32) := by
  unfold V
  after_results
  rfl
theorem read11 (t : Fin cfg0.N) : (iblk m c 11 t : FVec Ideal S1x1024 .f32) = (shapeCast S1x1024 (m ((c : Thread nD τ).loc main_arg11) : FVec Ideal S1024 .f32) shapeCasts_S1024_S1x1024 : FVec Ideal S1x1024 .f32) := by
  have e : (iblk m c 11 t : FVec Ideal S1x1024 .f32) = (V m c main_v11 : FVec Ideal S1x1024 .f32) := by
    refine funext fun i => ?_
    blk_ext [iblk, idx t]
  exact e.trans (entry11 m c)

/-! ## The arrays the call writes -/

theorem final_delta0 : (dats m 0 c).arrAt 12 (cfgs 0).N = Cert.AdamSmall5RefIdeal.Step.delta0 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  have hy : (((View.whole main_v12_0).slice (win0_12.rect t)).emb y : S1x1024.Idx) = y := by
    blk_ext [idx t]
  refine Eq.trans ?_ (congrArg (Cert.AdamSmall5RefIdeal.Step.delta0 (m ((c : Thread nD τ).loc main_arg0)) (m ((c : Thread nD τ).loc main_arg3)) (m ((c : Thread nD τ).loc main_arg6)) (m ((c : Thread nD τ).loc main_arg9))) hy).symm
  unfold out0_12
  frame_out
  rw [changes0, read0, read3, read6, read9]
  rfl

theorem final_delta1 : (dats m 0 c).arrAt 13 (cfgs 0).N = Cert.AdamSmall5RefIdeal.Step.delta1 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  have hy : (((View.whole main_v12_1).slice (win0_13.rect t)).emb y : S1x1024.Idx) = y := by
    blk_ext [idx t]
  refine Eq.trans ?_ (congrArg (Cert.AdamSmall5RefIdeal.Step.delta1 (m ((c : Thread nD τ).loc main_arg1)) (m ((c : Thread nD τ).loc main_arg4)) (m ((c : Thread nD τ).loc main_arg7)) (m ((c : Thread nD τ).loc main_arg10))) hy).symm
  unfold out0_13
  frame_out
  rw [changes1, read1, read4, read7, read10]
  rfl

theorem final_delta2 : (dats m 0 c).arrAt 14 (cfgs 0).N = Cert.AdamSmall5RefIdeal.Step.delta2 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  have hy : (((View.whole main_v12_2).slice (win0_14.rect t)).emb y : S1x1024.Idx) = y := by
    blk_ext [idx t]
  refine Eq.trans ?_ (congrArg (Cert.AdamSmall5RefIdeal.Step.delta2 (m ((c : Thread nD τ).loc main_arg2)) (m ((c : Thread nD τ).loc main_arg5)) (m ((c : Thread nD τ).loc main_arg8)) (m ((c : Thread nD τ).loc main_arg11))) hy).symm
  unfold out0_14
  frame_out
  rw [changes2, read2, read5, read8, read11]
  rfl

theorem final_moment0 : (dats m 0 c).arrAt 15 (cfgs 0).N = Cert.AdamSmall5RefIdeal.Step.moment0 (m ((c : Thread nD τ).loc main_arg3)) (m ((c : Thread nD τ).loc main_arg6)) := by
  refine (dats m 0 c).arrAt_eq_of_covers 15 _ (by decide +kernel) fun t _ y => ?_
  blk_simp
  rw [after0_15]
  have hy : (((View.whole main_v12_3).slice (win0_15.rect t)).emb y : S1x1024.Idx) = y := by
    blk_ext [idx t]
  refine Eq.trans ?_ (congrArg (Cert.AdamSmall5RefIdeal.Step.moment0 (m ((c : Thread nD τ).loc main_arg3)) (m ((c : Thread nD τ).loc main_arg6))) hy).symm
  unfold out0_15
  frame_out
  rw [firsts0, read3, read6]
  rfl

theorem final_moment1 : (dats m 0 c).arrAt 16 (cfgs 0).N = Cert.AdamSmall5RefIdeal.Step.moment1 (m ((c : Thread nD τ).loc main_arg4)) (m ((c : Thread nD τ).loc main_arg7)) := by
  refine (dats m 0 c).arrAt_eq_of_covers 16 _ (by decide +kernel) fun t _ y => ?_
  blk_simp
  rw [after0_16]
  have hy : (((View.whole main_v12_4).slice (win0_16.rect t)).emb y : S1x1024.Idx) = y := by
    blk_ext [idx t]
  refine Eq.trans ?_ (congrArg (Cert.AdamSmall5RefIdeal.Step.moment1 (m ((c : Thread nD τ).loc main_arg4)) (m ((c : Thread nD τ).loc main_arg7))) hy).symm
  unfold out0_16
  frame_out
  rw [firsts1, read4, read7]
  rfl

theorem final_moment2 : (dats m 0 c).arrAt 17 (cfgs 0).N = Cert.AdamSmall5RefIdeal.Step.moment2 (m ((c : Thread nD τ).loc main_arg5)) (m ((c : Thread nD τ).loc main_arg8)) := by
  refine (dats m 0 c).arrAt_eq_of_covers 17 _ (by decide +kernel) fun t _ y => ?_
  blk_simp
  rw [after0_17]
  have hy : (((View.whole main_v12_5).slice (win0_17.rect t)).emb y : S1x1024.Idx) = y := by
    blk_ext [idx t]
  refine Eq.trans ?_ (congrArg (Cert.AdamSmall5RefIdeal.Step.moment2 (m ((c : Thread nD τ).loc main_arg5)) (m ((c : Thread nD τ).loc main_arg8))) hy).symm
  unfold out0_17
  frame_out
  rw [firsts2, read5, read8]
  rfl

theorem final_variance0 : (dats m 0 c).arrAt 18 (cfgs 0).N = Cert.AdamSmall5RefIdeal.Step.variance0 (m ((c : Thread nD τ).loc main_arg3)) (m ((c : Thread nD τ).loc main_arg9)) := by
  refine (dats m 0 c).arrAt_eq_of_covers 18 _ (by decide +kernel) fun t _ y => ?_
  blk_simp
  rw [after0_18]
  have hy : (((View.whole main_v12_6).slice (win0_18.rect t)).emb y : S1x1024.Idx) = y := by
    blk_ext [idx t]
  refine Eq.trans ?_ (congrArg (Cert.AdamSmall5RefIdeal.Step.variance0 (m ((c : Thread nD τ).loc main_arg3)) (m ((c : Thread nD τ).loc main_arg9))) hy).symm
  unfold out0_18
  frame_out
  rw [seconds0, read3, read9]
  rfl

theorem final_variance1 : (dats m 0 c).arrAt 19 (cfgs 0).N = Cert.AdamSmall5RefIdeal.Step.variance1 (m ((c : Thread nD τ).loc main_arg4)) (m ((c : Thread nD τ).loc main_arg10)) := by
  refine (dats m 0 c).arrAt_eq_of_covers 19 _ (by decide +kernel) fun t _ y => ?_
  blk_simp
  rw [after0_19]
  have hy : (((View.whole main_v12_7).slice (win0_19.rect t)).emb y : S1x1024.Idx) = y := by
    blk_ext [idx t]
  refine Eq.trans ?_ (congrArg (Cert.AdamSmall5RefIdeal.Step.variance1 (m ((c : Thread nD τ).loc main_arg4)) (m ((c : Thread nD τ).loc main_arg10))) hy).symm
  unfold out0_19
  frame_out
  rw [seconds1, read4, read10]
  rfl

theorem final_variance2 : (dats m 0 c).arrAt 20 (cfgs 0).N = Cert.AdamSmall5RefIdeal.Step.variance2 (m ((c : Thread nD τ).loc main_arg5)) (m ((c : Thread nD τ).loc main_arg11)) := by
  refine (dats m 0 c).arrAt_eq_of_covers 20 _ (by decide +kernel) fun t _ y => ?_
  blk_simp
  rw [after0_20]
  have hy : (((View.whole main_v12_8).slice (win0_20.rect t)).emb y : S1x1024.Idx) = y := by
    blk_ext [idx t]
  refine Eq.trans ?_ (congrArg (Cert.AdamSmall5RefIdeal.Step.variance2 (m ((c : Thread nD τ).loc main_arg5)) (m ((c : Thread nD τ).loc main_arg11))) hy).symm
  unfold out0_20
  frame_out
  rw [seconds2, read5, read11]
  rfl

end Cert.AdamSmall5Ideal.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Dh1RefIdeal.Run
public import proofs.«01_k».proof.Proof.Gen.Gwin
public import proofs.«01_k».proof.Proof.Gen.Gwin.Skeleton
public import proofs.«01_k».proof.Proof.Gen.Gwin.Launch
public import proofs.«01_k».proof.Proof.Gen.Gwin.Points
public import proofs.«01_k».proof.Proof.Gen.Gwin.Frame
public import proofs.«01_k».proof.Proof.Gen.GwinIdeal
public import proofs.«01_k».proof.Proof.Gen.GwinIdeal.Skeleton
public import proofs.«01_k».proof.Proof.Gen.GwinIdeal.Launch
public import proofs.«01_k».proof.Proof.Gen.GwinIdeal.Points
public import proofs.«01_k».proof.Proof.Gen.GwinIdeal.Frame
public import proofs.«01_k».proof.Proof.Gen.GwinRefIdeal
public import proofs.«01_k».proof.Proof.Gen.GwinRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.DactRefIdeal.Run
public import proofs.«01_k».proof.Proof.Gen.Dh3
public import proofs.«01_k».proof.Proof.Gen.Dh3.Skeleton
public import proofs.«01_k».proof.Proof.Gen.Dh3.Launch
public import proofs.«01_k».proof.Proof.Gen.Dh3.Points
public import proofs.«01_k».proof.Proof.Gen.Dh3.Frame
public import proofs.«01_k».proof.Proof.Gen.Dh3Ideal
public import proofs.«01_k».proof.Proof.Gen.Dh3Ideal.Skeleton
public import proofs.«01_k».proof.Proof.Gen.Dh3Ideal.Launch
public import proofs.«01_k».proof.Proof.Gen.Dh3Ideal.Points
public import proofs.«01_k».proof.Proof.Gen.Dh3Ideal.Frame
public import proofs.«01_k».proof.Proof.Gen.Dh3RefIdeal
public import proofs.«01_k».proof.Proof.Gen.Dh3RefIdeal.Run
public import proofs.«01_k».proof.Proof.Gen.Gdown
public import proofs.«01_k».proof.Proof.Gen.Gdown.Skeleton
public import proofs.«01_k».proof.Proof.Gen.Gdown.Launch
public import proofs.«01_k».proof.Proof.Gen.Gdown.Points
public import proofs.«01_k».proof.Proof.Gen.Gdown.Frame
public import proofs.«01_k».proof.Proof.Gen.GdownIdeal
public import proofs.«01_k».proof.Proof.Gen.GdownIdeal.Skeleton
public import proofs.«01_k».proof.Proof.Gen.GdownIdeal.Launch
public import proofs.«01_k».proof.Proof.Gen.GdownIdeal.Points
public import proofs.«01_k».proof.Proof.Gen.GdownIdeal.Frame
public import proofs.«01_k».proof.Proof.Gen.GdownRefIdeal
public import proofs.«01_k».proof.Proof.Gen.GdownRefIdeal.Run
public import proofs.«01_k».proof.Proof.Gen.Gup
public import proofs.«01_k».proof.Proof.Gen.Gup.Skeleton
public import proofs.«01_k».proof.Proof.Gen.Gup.Launch
public import proofs.«01_k».proof.Proof.Gen.Gup.Points
public import proofs.«01_k».proof.Proof.Gen.Gup.Frame
public import proofs.«01_k».proof.Proof.Gen.GupIdeal
public import proofs.«01_k».proof.Proof.Gen.GupIdeal.Skeleton
public import proofs.«01_k».proof.Proof.Gen.GupIdeal.Launch
public import proofs.«01_k».proof.Proof.Gen.GupIdeal.Points
public import proofs.«01_k».proof.Proof.Gen.GupIdeal.Frame
public import proofs.«01_k».proof.Proof.Gen.GupRefIdeal
public import proofs.«01_k».proof.Proof.Gen.GupRefIdeal.Run
public import proofs.«01_k».proof.Proof.Gen.Outa
public import proofs.«01_k».proof.Proof.Gen.Outa.Skeleton
public import proofs.«01_k».proof.Proof.Gen.Outa.Launch
public import proofs.«01_k».proof.Proof.Gen.Outa.Points
public import proofs.«01_k».proof.Proof.Gen.Outa.Frame
public import proofs.«01_k».proof.Proof.Gen.OutaIdeal
public import proofs.«01_k».proof.Proof.Gen.OutaIdeal.Skeleton
public import proofs.«01_k».proof.Proof.Gen.OutaIdeal.Launch
public import proofs.«01_k».proof.Proof.Gen.OutaIdeal.Points
public import proofs.«01_k».proof.Proof.Gen.OutaIdeal.Frame
public import proofs.«01_k».proof.Proof.Gen.OutaRefIdeal
public import proofs.«01_k».proof.Proof.Gen.OutaRefIdeal.Run
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QRefIdeal
public import proofs.«01_k».proof.Proof.Gen.QRefIdeal.Run
public import proofs.«01_k».proof.Proof.Gen.Dao
public import proofs.«01_k».proof.Proof.Gen.Dao.Skeleton
public import proofs.«01_k».proof.Proof.Gen.Dao.Launch
public import proofs.«01_k».proof.Proof.Gen.Dao.Points
public import proofs.«01_k».proof.Proof.Gen.Dao.Frame
public import proofs.«01_k».proof.Proof.Gen.DaoIdeal
public import proofs.«01_k».proof.Proof.Gen.DaoIdeal.Skeleton
public import proofs.«01_k».proof.Proof.Gen.DaoIdeal.Launch
public import proofs.«01_k».proof.Proof.Gen.DaoIdeal.Points
public import proofs.«01_k».proof.Proof.Gen.DaoIdeal.Frame
public import proofs.«01_k».proof.Proof.Gen.DaoRefIdeal
public import proofs.«01_k».proof.Proof.Gen.DaoRefIdeal.Run
public import proofs.«01_k».proof.Proof.Gen.Doa
public import proofs.«01_k».proof.Proof.Gen.Doa.Skeleton
public import proofs.«01_k».proof.Proof.Gen.Doa.Launch
public import proofs.«01_k».proof.Proof.Gen.Doa.Points
public import proofs.«01_k».proof.Proof.Gen.Doa.Frame
public import proofs.«01_k».proof.Proof.Gen.DoaIdeal
public import proofs.«01_k».proof.Proof.Gen.DoaIdeal.Skeleton
public import proofs.«01_k».proof.Proof.Gen.DoaIdeal.Launch
public import proofs.«01_k».proof.Proof.Gen.DoaIdeal.Points
public import proofs.«01_k».proof.Proof.Gen.DoaIdeal.Frame
public import proofs.«01_k».proof.Proof.Gen.DoaRefIdeal
public import proofs.«01_k».proof.Proof.Gen.DoaRefIdeal.Run
public import proofs.«01_k».proof.Proof.Gen.Dob
public import proofs.«01_k».proof.Proof.Gen.Dob.Skeleton
public import proofs.«01_k».proof.Proof.Gen.Dob.Launch
public import proofs.«01_k».proof.Proof.Gen.Dob.Points
public import proofs.«01_k».proof.Proof.Gen.Dob.Frame
public import proofs.«01_k».proof.Proof.Gen.DobIdeal
public import proofs.«01_k».proof.Proof.Gen.DobIdeal.Skeleton
public import proofs.«01_k».proof.Proof.Gen.DobIdeal.Launch
public import proofs.«01_k».proof.Proof.Gen.DobIdeal.Points
public import proofs.«01_k».proof.Proof.Gen.DobIdeal.Frame
public import proofs.«01_k».proof.Proof.Gen.DobRefIdeal
public import proofs.«01_k».proof.Proof.Gen.DobRefIdeal.Run
public import proofs.«01_k».proof.Proof.Gen.Gwo
public import proofs.«01_k».proof.Proof.Gen.Gwo.Skeleton
public import proofs.«01_k».proof.Proof.Gen.Gwo.Launch
public import proofs.«01_k».proof.Proof.Gen.Gwo.Points
public import proofs.«01_k».proof.Proof.Gen.Gwo.Frame
public import proofs.«01_k».proof.Proof.Gen.GwoIdeal
public import proofs.«01_k».proof.Proof.Gen.GwoIdeal.Skeleton
public import proofs.«01_k».proof.Proof.Gen.GwoIdeal.Launch
public import proofs.«01_k».proof.Proof.Gen.GwoIdeal.Points
public import proofs.«01_k».proof.Proof.Gen.GwoIdeal.Frame
public import proofs.«01_k».proof.Proof.Gen.GwoRefIdeal
public import proofs.«01_k».proof.Proof.Gen.GwoRefIdeal.Run
public import proofs.«01_k».proof.Proof.Gen.Gwq
public import proofs.«01_k».proof.Proof.Gen.Gwq.Skeleton
public import proofs.«01_k».proof.Proof.Gen.Gwq.Launch
public import proofs.«01_k».proof.Proof.Gen.Gwq.Points
public import proofs.«01_k».proof.Proof.Gen.Gwq.Frame
public import proofs.«01_k».proof.Proof.Gen.GwqIdeal
public import proofs.«01_k».proof.Proof.Gen.GwqIdeal.Skeleton
public import proofs.«01_k».proof.Proof.Gen.GwqIdeal.Launch
public import proofs.«01_k».proof.Proof.Gen.GwqIdeal.Points
public import proofs.«01_k».proof.Proof.Gen.GwqIdeal.Frame
public import proofs.«01_k».proof.Proof.Gen.GwqRefIdeal
public import proofs.«01_k».proof.Proof.Gen.GwqRefIdeal.Run
public import proofs.«01_k».proof.Proof.Gen.Gwouta
public import proofs.«01_k».proof.Proof.Gen.Gwouta.Skeleton
public import proofs.«01_k».proof.Proof.Gen.Gwouta.Launch
public import proofs.«01_k».proof.Proof.Gen.Gwouta.Points
public import proofs.«01_k».proof.Proof.Gen.Gwouta.Frame
public import proofs.«01_k».proof.Proof.Gen.GwoutaIdeal
public import proofs.«01_k».proof.Proof.Gen.GwoutaIdeal.Skeleton
public import proofs.«01_k».proof.Proof.Gen.GwoutaIdeal.Launch
public import proofs.«01_k».proof.Proof.Gen.GwoutaIdeal.Points
public import proofs.«01_k».proof.Proof.Gen.GwoutaIdeal.Frame
public import proofs.«01_k».proof.Proof.Gen.GwoutaRefIdeal
public import proofs.«01_k».proof.Proof.Gen.GwoutaRefIdeal.Run
public import proofs.«01_k».proof.Proof.Gen.Gwoutb
public import proofs.«01_k».proof.Proof.Gen.Gwoutb.Skeleton
public import proofs.«01_k».proof.Proof.Gen.Gwoutb.Launch
public import proofs.«01_k».proof.Proof.Gen.Gwoutb.Points
public import proofs.«01_k».proof.Proof.Gen.Gwoutb.Frame
public import proofs.«01_k».proof.Proof.Gen.GwoutbIdeal
public import proofs.«01_k».proof.Proof.Gen.GwoutbIdeal.Skeleton
public import proofs.«01_k».proof.Proof.Gen.GwoutbIdeal.Launch
public import proofs.«01_k».proof.Proof.Gen.GwoutbIdeal.Points
public import proofs.«01_k».proof.Proof.Gen.GwoutbIdeal.Frame
public import proofs.«01_k».proof.Proof.Gen.GwoutbRefIdeal
public import proofs.«01_k».proof.Proof.Gen.GwoutbRefIdeal.Run
public import proofs.«01_k».proof.Proof.Gen.Rms1
public import proofs.«01_k».proof.Proof.Gen.Rms1.Skeleton
public import proofs.«01_k».proof.Proof.Gen.Rms1.Launch
public import proofs.«01_k».proof.Proof.Gen.Rms1.Points
public import proofs.«01_k».proof.Proof.Gen.Rms1.Frame
public import proofs.«01_k».proof.Proof.Gen.Rms1Ideal
public import proofs.«01_k».proof.Proof.Gen.Rms1Ideal.Skeleton
public import proofs.«01_k».proof.Proof.Gen.Rms1Ideal.Launch
public import proofs.«01_k».proof.Proof.Gen.Rms1Ideal.Points
public import proofs.«01_k».proof.Proof.Gen.Rms1Ideal.Frame
public import proofs.«01_k».proof.Proof.Gen.Rms1RefIdeal
public import proofs.«01_k».proof.Proof.Gen.Rms1RefIdeal.Run
public import proofs.«01_k».proof.Proof.Gen.Rms3
public import proofs.«01_k».proof.Proof.Gen.Rms3.Skeleton
public import proofs.«01_k».proof.Proof.Gen.Rms3.Launch
public import proofs.«01_k».proof.Proof.Gen.Rms3.Points
public import proofs.«01_k».proof.Proof.Gen.Rms3.Frame
public import proofs.«01_k».proof.Proof.Gen.Rms3Ideal
public import proofs.«01_k».proof.Proof.Gen.Rms3Ideal.Skeleton
public import proofs.«01_k».proof.Proof.Gen.Rms3Ideal.Launch
public import proofs.«01_k».proof.Proof.Gen.Rms3Ideal.Points
public import proofs.«01_k».proof.Proof.Gen.Rms3Ideal.Frame
public import proofs.«01_k».proof.Proof.Gen.Rms3RefIdeal
public import proofs.«01_k».proof.Proof.Gen.Rms3RefIdeal.Run
public import proofs.«01_k».proof.Proof.Gen.AdamWin
public import proofs.«01_k».proof.Proof.Gen.AdamWin.Skeleton
public import proofs.«01_k».proof.Proof.Gen.AdamWin.Launch
public import proofs.«01_k».proof.Proof.Gen.AdamWin.Points
public import proofs.«01_k».proof.Proof.Gen.AdamWin.Frame
public import proofs.«01_k».proof.Proof.Gen.AdamWinIdeal
public import proofs.«01_k».proof.Proof.Gen.AdamWinIdeal.Skeleton
public import proofs.«01_k».proof.Proof.Gen.AdamWinIdeal.Launch
public import proofs.«01_k».proof.Proof.Gen.AdamWinIdeal.Points
public import proofs.«01_k».proof.Proof.Gen.AdamWinIdeal.Frame
public import proofs.«01_k».proof.Proof.Gen.AdamWinRefIdeal
public import proofs.«01_k».proof.Proof.Gen.AdamWinRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamWq
public import proofs.«01_k».proof.Proof.Gen.AdamWq.Skeleton
public import proofs.«01_k».proof.Proof.Gen.AdamWq.Launch
public import proofs.«01_k».proof.Proof.Gen.AdamWq.Points
public import proofs.«01_k».proof.Proof.Gen.AdamWq.Frame
public import proofs.«01_k».proof.Proof.Gen.AdamWqIdeal
public import proofs.«01_k».proof.Proof.Gen.AdamWqIdeal.Skeleton
public import proofs.«01_k».proof.Proof.Gen.AdamWqIdeal.Launch
public import proofs.«01_k».proof.Proof.Gen.AdamWqIdeal.Points
public import proofs.«01_k».proof.Proof.Gen.AdamWqIdeal.Frame
public import proofs.«01_k».proof.Proof.Gen.AdamWqRefIdeal
public import proofs.«01_k».proof.Proof.Gen.AdamWqRefIdeal.Run
public import proofs.«01_k».proof.Proof.Gen.AdamWk
public import proofs.«01_k».proof.Proof.Gen.AdamWk.Skeleton
public import proofs.«01_k».proof.Proof.Gen.AdamWk.Launch
public import proofs.«01_k».proof.Proof.Gen.AdamWk.Points
public import proofs.«01_k».proof.Proof.Gen.AdamWk.Frame
public import proofs.«01_k».proof.Proof.Gen.AdamWkIdeal
public import proofs.«01_k».proof.Proof.Gen.AdamWkIdeal.Skeleton
public import proofs.«01_k».proof.Proof.Gen.AdamWkIdeal.Launch
public import proofs.«01_k».proof.Proof.Gen.AdamWkIdeal.Points
public import proofs.«01_k».proof.Proof.Gen.AdamWkIdeal.Frame
public import proofs.«01_k».proof.Proof.Gen.AdamWkRefIdeal
public import proofs.«01_k».proof.Proof.Gen.AdamWkRefIdeal.Run
public import proofs.«01_k».proof.Proof.Gen.AdamWv
public import proofs.«01_k».proof.Proof.Gen.AdamWv.Skeleton
public import proofs.«01_k».proof.Proof.Gen.AdamWv.Launch
public import proofs.«01_k».proof.Proof.Gen.AdamWv.Points
public import proofs.«01_k».proof.Proof.Gen.AdamWv.Frame
public import proofs.«01_k».proof.Proof.Gen.AdamWvIdeal
public import proofs.«01_k».proof.Proof.Gen.AdamWvIdeal.Skeleton
public import proofs.«01_k».proof.Proof.Gen.AdamWvIdeal.Launch
public import proofs.«01_k».proof.Proof.Gen.AdamWvIdeal.Points
public import proofs.«01_k».proof.Proof.Gen.AdamWvIdeal.Frame
public import proofs.«01_k».proof.Proof.Gen.AdamWvRefIdeal
public import proofs.«01_k».proof.Proof.Gen.AdamWvRefIdeal.Run
public import proofs.«01_k».proof.Proof.Gen.AdamWo
public import proofs.«01_k».proof.Proof.Gen.AdamWo.Skeleton
public import proofs.«01_k».proof.Proof.Gen.AdamWo.Launch
public import proofs.«01_k».proof.Proof.Gen.AdamWo.Points
public import proofs.«01_k».proof.Proof.Gen.AdamWo.Frame
public import proofs.«01_k».proof.Proof.Gen.AdamWoIdeal
public import proofs.«01_k».proof.Proof.Gen.AdamWoIdeal.Skeleton
public import proofs.«01_k».proof.Proof.Gen.AdamWoIdeal.Launch
public import proofs.«01_k».proof.Proof.Gen.AdamWoIdeal.Points
public import proofs.«01_k».proof.Proof.Gen.AdamWoIdeal.Frame
public import proofs.«01_k».proof.Proof.Gen.AdamWoRefIdeal
public import proofs.«01_k».proof.Proof.Gen.AdamWoRefIdeal.Run
public import proofs.«01_k».proof.Proof.Gen.AdamSmall1
public import proofs.«01_k».proof.Proof.Gen.AdamSmall1.Skeleton
public import proofs.«01_k».proof.Proof.Gen.AdamSmall1.Launch
public import proofs.«01_k».proof.Proof.Gen.AdamSmall1.Points
public import proofs.«01_k».proof.Proof.Gen.AdamSmall1.Frame
public import proofs.«01_k».proof.Proof.Gen.AdamSmall1Ideal
public import proofs.«01_k».proof.Proof.Gen.AdamSmall1Ideal.Skeleton
public import proofs.«01_k».proof.Proof.Gen.AdamSmall1Ideal.Launch
public import proofs.«01_k».proof.Proof.Gen.AdamSmall1Ideal.Points
public import proofs.«01_k».proof.Proof.Gen.AdamSmall1Ideal.Frame
public import proofs.«01_k».proof.Proof.Gen.AdamSmall1RefIdeal
public import proofs.«01_k».proof.Proof.Gen.AdamSmall1RefIdeal.Run
public import proofs.«01_k».proof.Proof.Gen.AdamSmall2
public import proofs.«01_k».proof.Proof.Gen.AdamSmall2.Skeleton
public import proofs.«01_k».proof.Proof.Gen.AdamSmall2.Launch
public import proofs.«01_k».proof.Proof.Gen.AdamSmall2.Points
public import proofs.«01_k».proof.Proof.Gen.AdamSmall2.Frame
public import proofs.«01_k».proof.Proof.Gen.AdamSmall2Ideal
public import proofs.«01_k».proof.Proof.Gen.AdamSmall2Ideal.Skeleton
public import proofs.«01_k».proof.Proof.Gen.AdamSmall2Ideal.Launch
public import proofs.«01_k».proof.Proof.Gen.AdamSmall2Ideal.Points
public import proofs.«01_k».proof.Proof.Gen.AdamSmall2Ideal.Frame
public import proofs.«01_k».proof.Proof.Gen.AdamSmall2RefIdeal
public import proofs.«01_k».proof.Proof.Gen.AdamSmall2RefIdeal.Run
public import proofs.«01_k».proof.Proof.Gen.AdamSmall3
public import proofs.«01_k».proof.Proof.Gen.AdamSmall3.Skeleton
public import proofs.«01_k».proof.Proof.Gen.AdamSmall3.Launch
public import proofs.«01_k».proof.Proof.Gen.AdamSmall3.Points
public import proofs.«01_k».proof.Proof.Gen.AdamSmall3.Frame
public import proofs.«01_k».proof.Proof.Gen.AdamSmall3Ideal
public import proofs.«01_k».proof.Proof.Gen.AdamSmall3Ideal.Skeleton
public import proofs.«01_k».proof.Proof.Gen.AdamSmall3Ideal.Launch
public import proofs.«01_k».proof.Proof.Gen.AdamSmall3Ideal.Points
public import proofs.«01_k».proof.Proof.Gen.AdamSmall3Ideal.Frame
public import proofs.«01_k».proof.Proof.Gen.AdamSmall3RefIdeal
public import proofs.«01_k».proof.Proof.Gen.AdamSmall3RefIdeal.Run
public import proofs.«01_k».proof.Proof.Gen.AdamSmall4
public import proofs.«01_k».proof.Proof.Gen.AdamSmall4.Skeleton
public import proofs.«01_k».proof.Proof.Gen.AdamSmall4.Launch
public import proofs.«01_k».proof.Proof.Gen.AdamSmall4.Points
public import proofs.«01_k».proof.Proof.Gen.AdamSmall4.Frame
public import proofs.«01_k».proof.Proof.Gen.AdamSmall4Ideal
public import proofs.«01_k».proof.Proof.Gen.AdamSmall4Ideal.Skeleton
public import proofs.«01_k».proof.Proof.Gen.AdamSmall4Ideal.Launch
public import proofs.«01_k».proof.Proof.Gen.AdamSmall4Ideal.Points
public import proofs.«01_k».proof.Proof.Gen.AdamSmall4Ideal.Frame
public import proofs.«01_k».proof.Proof.Gen.AdamSmall4RefIdeal
public import proofs.«01_k».proof.Proof.Gen.AdamSmall4RefIdeal.Run
public import proofs.«01_k».proof.Proof.Gen.AdamSmall5
public import proofs.«01_k».proof.Proof.Gen.AdamSmall5.Skeleton
public import proofs.«01_k».proof.Proof.Gen.AdamSmall5.Launch
public import proofs.«01_k».proof.Proof.Gen.AdamSmall5.Points
public import proofs.«01_k».proof.Proof.Gen.AdamSmall5.Frame
public import proofs.«01_k».proof.Proof.Gen.AdamSmall5Ideal
public import proofs.«01_k».proof.Proof.Gen.AdamSmall5Ideal.Skeleton
public import proofs.«01_k».proof.Proof.Gen.AdamSmall5Ideal.Launch
public import proofs.«01_k».proof.Proof.Gen.AdamSmall5Ideal.Points
public import proofs.«01_k».proof.Proof.Gen.AdamSmall5Ideal.Frame
public import proofs.«01_k».proof.Proof.Gen.AdamSmall5RefIdeal
public import proofs.«01_k».proof.Proof.Gen.AdamSmall5RefIdeal.Run
public import proofs.«01_k».proof.Proof.AttnFinal
public import proofs.«01_k».proof.Proof.Precondition
public import proofs.«01_k».proof.Proof.ProductIn
public import proofs.«01_k».proof.Proof.ProductDh1
public import proofs.«01_k».proof.Proof.ProductGwin
public import proofs.«01_k».proof.Proof.ProductUp
public import proofs.«01_k».proof.Proof.ProductDown
public import proofs.«01_k».proof.Proof.ProductDact
public import proofs.«01_k».proof.Proof.ProductDh3
public import proofs.«01_k».proof.Proof.ProductGdown
public import proofs.«01_k».proof.Proof.ProductGup
public import proofs.«01_k».proof.Proof.ProductOuta
public import proofs.«01_k».proof.Proof.ProductQ
public import proofs.«01_k».proof.Proof.ProductDao
public import proofs.«01_k».proof.Proof.ProductDoa
public import proofs.«01_k».proof.Proof.ProductDob
public import proofs.«01_k».proof.Proof.ProductGwo
public import proofs.«01_k».proof.Proof.ProductGwq
public import proofs.«01_k».proof.Proof.ProductGwouta
public import proofs.«01_k».proof.Proof.ProductGwoutb
public import proofs.«01_k».proof.Proof.NormRms1
public import proofs.«01_k».proof.Proof.NormRms3
public import proofs.«01_k».proof.Proof.AdamWinStep
public import proofs.«01_k».proof.Proof.AdamUpStep
public import proofs.«01_k».proof.Proof.AdamDownStep
public import proofs.«01_k».proof.Proof.AdamOutStep
public import proofs.«01_k».proof.Proof.AdamWqStep
public import proofs.«01_k».proof.Proof.AdamWkStep
public import proofs.«01_k».proof.Proof.AdamWvStep
public import proofs.«01_k».proof.Proof.AdamWoStep
public import proofs.«01_k».proof.Proof.AdamSmall1Step
public import proofs.«01_k».proof.Proof.AdamSmall2Step
public import proofs.«01_k».proof.Proof.AdamSmall3Step
public import proofs.«01_k».proof.Proof.AdamSmall4Step
public import proofs.«01_k».proof.Proof.AdamSmall5Step
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Under the precondition every score is a real number. -/
theorem real_scores (m : (ℓ : Loc Cert.KernelIdeal.nD Cert.KernelIdeal.τ Cert.KernelIdeal.sig) → Buf (Elt Ideal) ℓ)
    (hp : Cert.Pre_KernelIdeal_finite_scores m) (c : Dev Cert.KernelIdeal.nD) : Cert.KernelIdeal.Final.RealScores m c :=
  fun h t k => Cert.Pre_finite_scores.Read.sc_real _ _ (Cert.Pre_finite_scores.Read.reals _ _ _ _ (hp c)).1
    (Cert.Pre_finite_scores.Read.reals _ _ _ _ (hp c)).2 h t k

/-- The frame of the reference. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Attn.run m ρ)

/-- The kernel and the reference compute the same gradients. -/
theorem algebraic : Cert.algebraic_KernelIdeal_ReferenceIdeal_pre_finite_scores := by
  pair_intro
  · run_from Cert.KernelIdeal.Gen.run_main m g
  · refine θ_run_mono (Cert.ReferenceIdeal.Attn.run m' g') fun r h c => ?_
    obtain ⟨a0, a1, a2, a3⟩ := hagree c
    obtain ⟨h0, h1, h2, h3⟩ := h c
    rw [a0, a1, a2, a3] at h0 h1
    rw [a0, a1, a2] at h2
    exact ⟨h0.trans (Cert.KernelIdeal.Final.finalQ m c (real_scores m hpre c)).symm,
      h1.trans (Cert.KernelIdeal.Final.finalK m c (real_scores m hpre c)).symm,
      h2.trans (Cert.KernelIdeal.Final.finalV m c).symm, h3⟩

/-- The input projection: the frame of the reference, and the equality. -/
theorem frame_in : Cert.quiescent_InRefIdeal := fun m ρ _ =>
  (θ_run Cert.InRefIdeal.defs _ _).mono
    (fun r h => ⟨fun c => (h c).2, sem_eq_zero_of_no_sems (by decide) r.2⟩) (Cert.InRefIdeal.Product.run m ρ)
theorem algebraic_in : Cert.algebraic_InIdeal_InRefIdeal := by
  pair_intro
  · run_from Cert.InIdeal.Gen.run_main m g
  · refine θ_run_mono (Cert.InRefIdeal.Product.run m' g') fun r h c => ?_
    obtain ⟨a0, a1⟩ := hagree c
    obtain ⟨h0, h1⟩ := h c
    rw [a0, a1] at h0
    exact ⟨h0.trans (Cert.InIdeal.Product.final m c).symm, h1⟩

/-- The input projection's gradient with respect to its input: the frame of the reference, and the equality. -/
theorem frame_dh1 : Cert.quiescent_Dh1RefIdeal := fun m ρ _ =>
  (θ_run Cert.Dh1RefIdeal.defs _ _).mono
    (fun r h => ⟨fun c => (h c).2, sem_eq_zero_of_no_sems (by decide) r.2⟩) (Cert.Dh1RefIdeal.Product.run m ρ)
theorem algebraic_dh1 : Cert.algebraic_Dh1Ideal_Dh1RefIdeal := by
  pair_intro
  · run_from Cert.Dh1Ideal.Gen.run_main m g
  · refine θ_run_mono (Cert.Dh1RefIdeal.Product.run m' g') fun r h c => ?_
    obtain ⟨a0, a1⟩ := hagree c
    obtain ⟨h0, h1⟩ := h c
    rw [a0, a1] at h0
    exact ⟨h0.trans (Cert.Dh1Ideal.Product.final m c).symm, h1⟩

/-- The input projection's gradient with respect to its weight: the frame of the reference, and the equality. -/
theorem frame_gwin : Cert.quiescent_GwinRefIdeal := fun m ρ _ =>
  (θ_run Cert.GwinRefIdeal.defs _ _).mono
    (fun r h => ⟨fun c => (h c).2, sem_eq_zero_of_no_sems (by decide) r.2⟩) (Cert.GwinRefIdeal.Product.run m ρ)
theorem algebraic_gwin : Cert.algebraic_GwinIdeal_GwinRefIdeal := by
  pair_intro
  · run_from Cert.GwinIdeal.Gen.run_main m g
  · refine θ_run_mono (Cert.GwinRefIdeal.Product.run m' g') fun r h c => ?_
    obtain ⟨a0, a1⟩ := hagree c
    obtain ⟨h0, h1⟩ := h c
    rw [a0, a1] at h0
    exact ⟨h0.trans (Cert.GwinIdeal.Product.final m c).symm, h1⟩

/-- The widening product with its activation: the frame of the reference, and the equality. -/
theorem frame_up : Cert.quiescent_UpRefIdeal := fun m ρ _ =>
  (θ_run Cert.UpRefIdeal.defs _ _).mono
    (fun r h => ⟨fun c => (h c).2.2, sem_eq_zero_of_no_sems (by decide) r.2⟩) (Cert.UpRefIdeal.Product.run m ρ)
theorem algebraic_up : Cert.algebraic_UpIdeal_UpRefIdeal := by
  pair_intro
  · run_from Cert.UpIdeal.Gen.run_main m g
  · refine θ_run_mono (Cert.UpRefIdeal.Product.run m' g') fun r h c => ?_
    obtain ⟨a0, a1⟩ := hagree c
    obtain ⟨h0, h1, h2⟩ := h c
    rw [a0, a1] at h0 h1
    exact ⟨h0.trans (Cert.UpIdeal.Product.final0 m c).symm, h1.trans (Cert.UpIdeal.Product.final1 m c).symm, h2⟩

/-- The narrowing product and the residual: the frame of the reference, and the equality. -/
theorem frame_down : Cert.quiescent_DownRefIdeal := fun m ρ _ =>
  (θ_run Cert.DownRefIdeal.defs _ _).mono
    (fun r h => ⟨fun c => (h c).2, sem_eq_zero_of_no_sems (by decide) r.2⟩) (Cert.DownRefIdeal.Product.run m ρ)
theorem algebraic_down : Cert.algebraic_DownIdeal_DownRefIdeal := by
  pair_intro
  · run_from Cert.DownIdeal.Gen.run_main m g
  · refine θ_run_mono (Cert.DownRefIdeal.Product.run m' g') fun r h c => ?_
    obtain ⟨a0, a1, a2⟩ := hagree c
    obtain ⟨h0, h1⟩ := h c
    rw [a0, a1, a2] at h0
    exact ⟨h0.trans (Cert.DownIdeal.Product.final m c).symm, h1⟩

/-- The gradient through the narrowing product and the activation: the frame of the reference, and the equality. -/
theorem frame_dact : Cert.quiescent_DactRefIdeal := fun m ρ _ =>
  (θ_run Cert.DactRefIdeal.defs _ _).mono
    (fun r h => ⟨fun c => (h c).2, sem_eq_zero_of_no_sems (by decide) r.2⟩) (Cert.DactRefIdeal.Product.run m ρ)
theorem algebraic_dact : Cert.algebraic_DactIdeal_DactRefIdeal := by
  pair_intro
  · run_from Cert.DactIdeal.Gen.run_main m g
  · refine θ_run_mono (Cert.DactRefIdeal.Product.run m' g') fun r h c => ?_
    obtain ⟨a0, a1, a2⟩ := hagree c
    obtain ⟨h0, h1⟩ := h c
    rw [a0, a1, a2] at h0
    exact ⟨h0.trans (Cert.DactIdeal.Product.final m c).symm, h1⟩

/-- The widening product's gradient with respect to its input: the frame of the reference, and the equality. -/
theorem frame_dh3 : Cert.quiescent_Dh3RefIdeal := fun m ρ _ =>
  (θ_run Cert.Dh3RefIdeal.defs _ _).mono
    (fun r h => ⟨fun c => (h c).2, sem_eq_zero_of_no_sems (by decide) r.2⟩) (Cert.Dh3RefIdeal.Product.run m ρ)
theorem algebraic_dh3 : Cert.algebraic_Dh3Ideal_Dh3RefIdeal := by
  pair_intro
  · run_from Cert.Dh3Ideal.Gen.run_main m g
  · refine θ_run_mono (Cert.Dh3RefIdeal.Product.run m' g') fun r h c => ?_
    obtain ⟨a0, a1⟩ := hagree c
    obtain ⟨h0, h1⟩ := h c
    rw [a0, a1] at h0
    exact ⟨h0.trans (Cert.Dh3Ideal.Product.final m c).symm, h1⟩

/-- The narrowing product's gradient with respect to its weight: the frame of the reference, and the equality. -/
theorem frame_gdown : Cert.quiescent_GdownRefIdeal := fun m ρ _ =>
  (θ_run Cert.GdownRefIdeal.defs _ _).mono
    (fun r h => ⟨fun c => (h c).2, sem_eq_zero_of_no_sems (by decide) r.2⟩) (Cert.GdownRefIdeal.Product.run m ρ)
theorem algebraic_gdown : Cert.algebraic_GdownIdeal_GdownRefIdeal := by
  pair_intro
  · run_from Cert.GdownIdeal.Gen.run_main m g
  · refine θ_run_mono (Cert.GdownRefIdeal.Product.run m' g') fun r h c => ?_
    obtain ⟨a0, a1⟩ := hagree c
    obtain ⟨h0, h1⟩ := h c
    rw [a0, a1] at h0
    exact ⟨h0.trans (Cert.GdownIdeal.Product.final m c).symm, h1⟩

/-- The widening product's gradient with respect to its weight: the frame of the reference, and the equality. -/
theorem frame_gup : Cert.quiescent_GupRefIdeal := fun m ρ _ =>
  (θ_run Cert.GupRefIdeal.defs _ _).mono
    (fun r h => ⟨fun c => (h c).2, sem_eq_zero_of_no_sems (by decide) r.2⟩) (Cert.GupRefIdeal.Product.run m ρ)
theorem algebraic_gup : Cert.algebraic_GupIdeal_GupRefIdeal := by
  pair_intro
  · run_from Cert.GupIdeal.Gen.run_main m g
  · refine θ_run_mono (Cert.GupRefIdeal.Product.run m' g') fun r h c => ?_
    obtain ⟨a0, a1, a2⟩ := hagree c
    obtain ⟨h0, h1⟩ := h c
    rw [a0, a1, a2] at h0
    exact ⟨h0.trans (Cert.GupIdeal.Product.final m c).symm, h1⟩

/-- The first half of the output projection and the residual: the frame of the reference, and the equality. -/
theorem frame_outa : Cert.quiescent_OutaRefIdeal := fun m ρ _ =>
  (θ_run Cert.OutaRefIdeal.defs _ _).mono
    (fun r h => ⟨fun c => (h c).2, sem_eq_zero_of_no_sems (by decide) r.2⟩) (Cert.OutaRefIdeal.Product.run m ρ)
theorem algebraic_outa : Cert.algebraic_OutaIdeal_OutaRefIdeal := by
  pair_intro
  · run_from Cert.OutaIdeal.Gen.run_main m g
  · refine θ_run_mono (Cert.OutaRefIdeal.Product.run m' g') fun r h c => ?_
    obtain ⟨a0, a1, a2⟩ := hagree c
    obtain ⟨h0, h1⟩ := h c
    rw [a0, a1, a2] at h0
    exact ⟨h0.trans (Cert.OutaIdeal.Product.final m c).symm, h1⟩

/-- The queries: the frame of the reference, and the equality. -/
theorem frame_q : Cert.quiescent_QRefIdeal := fun m ρ _ =>
  (θ_run Cert.QRefIdeal.defs _ _).mono
    (fun r h => ⟨fun c => (h c).2, sem_eq_zero_of_no_sems (by decide) r.2⟩) (Cert.QRefIdeal.Product.run m ρ)
theorem algebraic_q : Cert.algebraic_QIdeal_QRefIdeal := by
  pair_intro
  · run_from Cert.QIdeal.Gen.run_main m g
  · refine θ_run_mono (Cert.QRefIdeal.Product.run m' g') fun r h c => ?_
    obtain ⟨a0, a1⟩ := hagree c
    obtain ⟨h0, h1⟩ := h c
    rw [a0, a1] at h0
    exact ⟨h0.trans (Cert.QIdeal.Product.final m c).symm, h1⟩

/-- The gradient of the attention's result: the frame of the reference, and the equality. -/
theorem frame_dao : Cert.quiescent_DaoRefIdeal := fun m ρ _ =>
  (θ_run Cert.DaoRefIdeal.defs _ _).mono
    (fun r h => ⟨fun c => (h c).2, sem_eq_zero_of_no_sems (by decide) r.2⟩) (Cert.DaoRefIdeal.Product.run m ρ)
theorem algebraic_dao : Cert.algebraic_DaoIdeal_DaoRefIdeal := by
  pair_intro
  · run_from Cert.DaoIdeal.Gen.run_main m g
  · refine θ_run_mono (Cert.DaoRefIdeal.Product.run m' g') fun r h c => ?_
    obtain ⟨a0, a1⟩ := hagree c
    obtain ⟨h0, h1⟩ := h c
    rw [a0, a1] at h0
    exact ⟨h0.trans (Cert.DaoIdeal.Product.final m c).symm, h1⟩

/-- The gradient of the output projection's first operand: the frame of the reference, and the equality. -/
theorem frame_doa : Cert.quiescent_DoaRefIdeal := fun m ρ _ =>
  (θ_run Cert.DoaRefIdeal.defs _ _).mono
    (fun r h => ⟨fun c => (h c).2, sem_eq_zero_of_no_sems (by decide) r.2⟩) (Cert.DoaRefIdeal.Product.run m ρ)
theorem algebraic_doa : Cert.algebraic_DoaIdeal_DoaRefIdeal := by
  pair_intro
  · run_from Cert.DoaIdeal.Gen.run_main m g
  · refine θ_run_mono (Cert.DoaRefIdeal.Product.run m' g') fun r h c => ?_
    obtain ⟨a0, a1⟩ := hagree c
    obtain ⟨h0, h1⟩ := h c
    rw [a0, a1] at h0
    exact ⟨h0.trans (Cert.DoaIdeal.Product.final m c).symm, h1⟩

/-- The gradient of the output projection's second operand: the frame of the reference, and the equality. -/
theorem frame_dob : Cert.quiescent_DobRefIdeal := fun m ρ _ =>
  (θ_run Cert.DobRefIdeal.defs _ _).mono
    (fun r h => ⟨fun c => (h c).2, sem_eq_zero_of_no_sems (by decide) r.2⟩) (Cert.DobRefIdeal.Product.run m ρ)
theorem algebraic_dob : Cert.algebraic_DobIdeal_DobRefIdeal := by
  pair_intro
  · run_from Cert.DobIdeal.Gen.run_main m g
  · refine θ_run_mono (Cert.DobRefIdeal.Product.run m' g') fun r h c => ?_
    obtain ⟨a0, a1⟩ := hagree c
    obtain ⟨h0, h1⟩ := h c
    rw [a0, a1] at h0
    exact ⟨h0.trans (Cert.DobIdeal.Product.final m c).symm, h1⟩

/-- The gradient of the attention's output weight: the frame of the reference, and the equality. -/
theorem frame_gwo : Cert.quiescent_GwoRefIdeal := fun m ρ _ =>
  (θ_run Cert.GwoRefIdeal.defs _ _).mono
    (fun r h => ⟨fun c => (h c).2, sem_eq_zero_of_no_sems (by decide) r.2⟩) (Cert.GwoRefIdeal.Product.run m ρ)
theorem algebraic_gwo : Cert.algebraic_GwoIdeal_GwoRefIdeal := by
  pair_intro
  · run_from Cert.GwoIdeal.Gen.run_main m g
  · refine θ_run_mono (Cert.GwoRefIdeal.Product.run m' g') fun r h c => ?_
    obtain ⟨a0, a1, a2⟩ := hagree c
    obtain ⟨h0, h1⟩ := h c
    rw [a0, a1, a2] at h0
    exact ⟨h0.trans (Cert.GwoIdeal.Product.final m c).symm, h1⟩

/-- The gradient of the queries' weight: the frame of the reference, and the equality. -/
theorem frame_gwq : Cert.quiescent_GwqRefIdeal := fun m ρ _ =>
  (θ_run Cert.GwqRefIdeal.defs _ _).mono
    (fun r h => ⟨fun c => (h c).2, sem_eq_zero_of_no_sems (by decide) r.2⟩) (Cert.GwqRefIdeal.Product.run m ρ)
theorem algebraic_gwq : Cert.algebraic_GwqIdeal_GwqRefIdeal := by
  pair_intro
  · run_from Cert.GwqIdeal.Gen.run_main m g
  · refine θ_run_mono (Cert.GwqRefIdeal.Product.run m' g') fun r h c => ?_
    obtain ⟨a0, a1, a2⟩ := hagree c
    obtain ⟨h0, h1⟩ := h c
    rw [a0, a1, a2] at h0
    exact ⟨h0.trans (Cert.GwqIdeal.Product.final m c).symm, h1⟩

/-- The gradient of the output weight's first half: the frame of the reference, and the equality. -/
theorem frame_gwouta : Cert.quiescent_GwoutaRefIdeal := fun m ρ _ =>
  (θ_run Cert.GwoutaRefIdeal.defs _ _).mono
    (fun r h => ⟨fun c => (h c).2, sem_eq_zero_of_no_sems (by decide) r.2⟩) (Cert.GwoutaRefIdeal.Product.run m ρ)
theorem algebraic_gwouta : Cert.algebraic_GwoutaIdeal_GwoutaRefIdeal := by
  pair_intro
  · run_from Cert.GwoutaIdeal.Gen.run_main m g
  · refine θ_run_mono (Cert.GwoutaRefIdeal.Product.run m' g') fun r h c => ?_
    obtain ⟨a0, a1, a2⟩ := hagree c
    obtain ⟨h0, h1⟩ := h c
    rw [a0, a1, a2] at h0
    exact ⟨h0.trans (Cert.GwoutaIdeal.Product.final m c).symm, h1⟩

/-- The gradient of the output weight's second half: the frame of the reference, and the equality. -/
theorem frame_gwoutb : Cert.quiescent_GwoutbRefIdeal := fun m ρ _ =>
  (θ_run Cert.GwoutbRefIdeal.defs _ _).mono
    (fun r h => ⟨fun c => (h c).2, sem_eq_zero_of_no_sems (by decide) r.2⟩) (Cert.GwoutbRefIdeal.Product.run m ρ)
theorem algebraic_gwoutb : Cert.algebraic_GwoutbIdeal_GwoutbRefIdeal := by
  pair_intro
  · run_from Cert.GwoutbIdeal.Gen.run_main m g
  · refine θ_run_mono (Cert.GwoutbRefIdeal.Product.run m' g') fun r h c => ?_
    obtain ⟨a0, a1, a2⟩ := hagree c
    obtain ⟨h0, h1⟩ := h c
    rw [a0, a1, a2] at h0
    exact ⟨h0.trans (Cert.GwoutbIdeal.Product.final m c).symm, h1⟩

/-- The gradient of the first norm: the frame of the reference, and the equality. -/
theorem frame_rms1 : Cert.quiescent_Rms1RefIdeal := fun m ρ _ =>
  (θ_run Cert.Rms1RefIdeal.defs _ _).mono
    (fun r h => ⟨fun c => (h c).2.2, sem_eq_zero_of_no_sems (by decide) r.2⟩) (Cert.Rms1RefIdeal.Norm.run m ρ)
theorem algebraic_rms1 : Cert.algebraic_Rms1Ideal_Rms1RefIdeal := by
  pair_intro
  · run_from Cert.Rms1Ideal.Gen.run_main m g
  · refine θ_run_mono (Cert.Rms1RefIdeal.Norm.run m' g') fun r h c => ?_
    obtain ⟨a0, a1, a2, a3⟩ := hagree c
    obtain ⟨h0, h1, h2⟩ := h c
    simp only [a0, a1, a2, a3] at h0 h1
    exact ⟨h0.trans (Cert.Rms1Ideal.Norm.finalX m c).symm, h1.trans (Cert.Rms1Ideal.Norm.finalW m c).symm, h2⟩

/-- The gradient of the third norm: the frame of the reference, and the equality. -/
theorem frame_rms3 : Cert.quiescent_Rms3RefIdeal := fun m ρ _ =>
  (θ_run Cert.Rms3RefIdeal.defs _ _).mono
    (fun r h => ⟨fun c => (h c).2.2.2, sem_eq_zero_of_no_sems (by decide) r.2⟩) (Cert.Rms3RefIdeal.Norm.run m ρ)
theorem algebraic_rms3 : Cert.algebraic_Rms3Ideal_Rms3RefIdeal := by
  pair_intro
  · run_from Cert.Rms3Ideal.Gen.run_main m g
  · refine θ_run_mono (Cert.Rms3RefIdeal.Norm.run m' g') fun r h c => ?_
    obtain ⟨a0, a1, a2, a3⟩ := hagree c
    obtain ⟨h0, h1, h2, h3⟩ := h c
    simp only [a0, a1, a2, a3] at h0 h1 h2
    exact ⟨h0.trans (Cert.Rms3Ideal.Norm.finalX m c).symm, h1.trans (Cert.Rms3Ideal.Norm.finalB m c).symm, h2.trans (Cert.Rms3Ideal.Norm.finalW m c).symm, h3⟩

/-- The step of the input projection's weight: the frame of the reference, and the equality. -/
theorem frame_adamwin : Cert.quiescent_AdamWinRefIdeal := fun m ρ _ =>
  (θ_run Cert.AdamWinRefIdeal.defs _ _).mono
    (fun r h => ⟨fun c => (h c).2.2.2.2, sem_eq_zero_of_no_sems (by decide) r.2⟩) (Cert.AdamWinRefIdeal.Step.run m ρ)
theorem algebraic_adamwin : Cert.algebraic_AdamWinIdeal_AdamWinRefIdeal := by
  intro m g m' g' hpre hagree
  refine ⟨fun c => Cert.AdamWinRefIdeal.Step.grad (Cert.AdamWinIdeal.Step.X3 m c) (Cert.AdamWinIdeal.Step.X4 m c) (Cert.AdamWinIdeal.Step.X5 m c),
    fun c => Cert.AdamWinRefIdeal.Step.delta (Cert.AdamWinIdeal.Step.X0 m c) (Cert.AdamWinIdeal.Step.X1 m c) (Cert.AdamWinIdeal.Step.X2 m c) (Cert.AdamWinIdeal.Step.X3 m c) (Cert.AdamWinIdeal.Step.X4 m c) (Cert.AdamWinIdeal.Step.X5 m c),
    fun c => Cert.AdamWinRefIdeal.Step.moment (Cert.AdamWinIdeal.Step.X1 m c) (Cert.AdamWinIdeal.Step.X3 m c) (Cert.AdamWinIdeal.Step.X4 m c) (Cert.AdamWinIdeal.Step.X5 m c),
    fun c => Cert.AdamWinRefIdeal.Step.variance (Cert.AdamWinIdeal.Step.X2 m c) (Cert.AdamWinIdeal.Step.X3 m c) (Cert.AdamWinIdeal.Step.X4 m c) (Cert.AdamWinIdeal.Step.X5 m c), ?_, ?_⟩
  · refine θ_run_mono (θ_run_and (Cert.AdamWinIdeal.Gen.unchanged m g) (Cert.AdamWinIdeal.Gen.run_main m g)) fun r h c => ?_
    exact ⟨((h.2 c).2 Cert.AdamWinIdeal.main_v9 (Pipeline.mem_restRefs_of Cert.AdamWinIdeal.main_v9 (by decide) (by decide))).trans (Cert.AdamWinIdeal.Step.final_grad m c),
      ((h.2 c).2 Cert.AdamWinIdeal.main_v10 (Pipeline.mem_restRefs_of Cert.AdamWinIdeal.main_v10 (by decide) (by decide))).trans (Cert.AdamWinIdeal.Step.final_delta m c),
      ((h.2 c).2 Cert.AdamWinIdeal.main_v11 (Pipeline.mem_restRefs_of Cert.AdamWinIdeal.main_v11 (by decide) (by decide))).trans (Cert.AdamWinIdeal.Step.final_moment m c),
      ((h.2 c).2 Cert.AdamWinIdeal.main_v12 (Pipeline.mem_restRefs_of Cert.AdamWinIdeal.main_v12 (by decide) (by decide))).trans (Cert.AdamWinIdeal.Step.final_variance m c),
      h.1 c⟩
  · refine θ_run_mono (Cert.AdamWinRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamup : Cert.quiescent_AdamUpRefIdeal := fun m ρ _ =>
  (θ_run Cert.AdamUpRefIdeal.defs _ _).mono
    (fun r h => ⟨fun c => (h c).2.2.2.2, sem_eq_zero_of_no_sems (by decide) r.2⟩) (Cert.AdamUpRefIdeal.Step.run m ρ)
theorem algebraic_adamup : Cert.algebraic_AdamUpIdeal_AdamUpRefIdeal := by
  intro m g m' g' hpre hagree
  refine ⟨fun c => Cert.AdamUpRefIdeal.Step.grad (Cert.AdamUpIdeal.Step.X3 m c) (Cert.AdamUpIdeal.Step.X4 m c) (Cert.AdamUpIdeal.Step.X5 m c),
    fun c => Cert.AdamUpRefIdeal.Step.delta (Cert.AdamUpIdeal.Step.X0 m c) (Cert.AdamUpIdeal.Step.X1 m c) (Cert.AdamUpIdeal.Step.X2 m c) (Cert.AdamUpIdeal.Step.X3 m c) (Cert.AdamUpIdeal.Step.X4 m c) (Cert.AdamUpIdeal.Step.X5 m c),
    fun c => Cert.AdamUpRefIdeal.Step.moment (Cert.AdamUpIdeal.Step.X1 m c) (Cert.AdamUpIdeal.Step.X3 m c) (Cert.AdamUpIdeal.Step.X4 m c) (Cert.AdamUpIdeal.Step.X5 m c),
    fun c => Cert.AdamUpRefIdeal.Step.variance (Cert.AdamUpIdeal.Step.X2 m c) (Cert.AdamUpIdeal.Step.X3 m c) (Cert.AdamUpIdeal.Step.X4 m c) (Cert.AdamUpIdeal.Step.X5 m c), ?_, ?_⟩
  · refine θ_run_mono (θ_run_and (Cert.AdamUpIdeal.Gen.unchanged m g trivial) (Cert.AdamUpIdeal.Gen.run_main m g trivial)) fun r h c => ?_
    exact ⟨((h.2 c).1 5).trans (Cert.AdamUpIdeal.Step.final_grad m trivial c),
      ((h.2 c).1 6).trans (Cert.AdamUpIdeal.Step.final_delta m trivial c),
      ((h.2 c).1 7).trans (Cert.AdamUpIdeal.Step.final_moment m trivial c),
      ((h.2 c).1 8).trans (Cert.AdamUpIdeal.Step.final_variance m trivial c),
      h.1 c⟩
  · refine θ_run_mono (Cert.AdamUpRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamdown : Cert.quiescent_AdamDownRefIdeal := fun m ρ _ =>
  (θ_run Cert.AdamDownRefIdeal.defs _ _).mono
    (fun r h => ⟨fun c => (h c).2.2.2.2, sem_eq_zero_of_no_sems (by decide) r.2⟩) (Cert.AdamDownRefIdeal.Step.run m ρ)
theorem algebraic_adamdown : Cert.algebraic_AdamDownIdeal_AdamDownRefIdeal := by
  intro m g m' g' hpre hagree
  refine ⟨fun c => Cert.AdamDownRefIdeal.Step.grad (Cert.AdamDownIdeal.Step.X3 m c) (Cert.AdamDownIdeal.Step.X4 m c) (Cert.AdamDownIdeal.Step.X5 m c),
    fun c => Cert.AdamDownRefIdeal.Step.delta (Cert.AdamDownIdeal.Step.X0 m c) (Cert.AdamDownIdeal.Step.X1 m c) (Cert.AdamDownIdeal.Step.X2 m c) (Cert.AdamDownIdeal.Step.X3 m c) (Cert.AdamDownIdeal.Step.X4 m c) (Cert.AdamDownIdeal.Step.X5 m c),
    fun c => Cert.AdamDownRefIdeal.Step.moment (Cert.AdamDownIdeal.Step.X1 m c) (Cert.AdamDownIdeal.Step.X3 m c) (Cert.AdamDownIdeal.Step.X4 m c) (Cert.AdamDownIdeal.Step.X5 m c),
    fun c => Cert.AdamDownRefIdeal.Step.variance (Cert.AdamDownIdeal.Step.X2 m c) (Cert.AdamDownIdeal.Step.X3 m c) (Cert.AdamDownIdeal.Step.X4 m c) (Cert.AdamDownIdeal.Step.X5 m c), ?_, ?_⟩
  · refine θ_run_mono (θ_run_and (Cert.AdamDownIdeal.Gen.unchanged m g trivial) (Cert.AdamDownIdeal.Gen.run_main m g trivial)) fun r h c => ?_
    exact ⟨((h.2 c).1 5).trans (Cert.AdamDownIdeal.Step.final_grad m trivial c),
      ((h.2 c).1 6).trans (Cert.AdamDownIdeal.Step.final_delta m trivial c),
      ((h.2 c).1 7).trans (Cert.AdamDownIdeal.Step.final_moment m trivial c),
      ((h.2 c).1 8).trans (Cert.AdamDownIdeal.Step.final_variance m trivial c),
      h.1 c⟩
  · refine θ_run_mono (Cert.AdamDownRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamout : Cert.quiescent_AdamOutRefIdeal := fun m ρ _ =>
  (θ_run Cert.AdamOutRefIdeal.defs _ _).mono
    (fun r h => ⟨fun c => (h c).2.2.2.2, sem_eq_zero_of_no_sems (by decide) r.2⟩) (Cert.AdamOutRefIdeal.Step.run m ρ)
theorem algebraic_adamout : Cert.algebraic_AdamOutIdeal_AdamOutRefIdeal := by
  intro m g m' g' hpre hagree
  refine ⟨fun c => Cert.AdamOutRefIdeal.Step.grad (Cert.AdamOutIdeal.Step.X3 m c) (Cert.AdamOutIdeal.Step.X4 m c) (Cert.AdamOutIdeal.Step.X5 m c),
    fun c => Cert.AdamOutRefIdeal.Step.delta (Cert.AdamOutIdeal.Step.X0 m c) (Cert.AdamOutIdeal.Step.X1 m c) (Cert.AdamOutIdeal.Step.X2 m c) (Cert.AdamOutIdeal.Step.X3 m c) (Cert.AdamOutIdeal.Step.X4 m c) (Cert.AdamOutIdeal.Step.X5 m c),
    fun c => Cert.AdamOutRefIdeal.Step.moment (Cert.AdamOutIdeal.Step.X1 m c) (Cert.AdamOutIdeal.Step.X3 m c) (Cert.AdamOutIdeal.Step.X4 m c) (Cert.AdamOutIdeal.Step.X5 m c),
    fun c => Cert.AdamOutRefIdeal.Step.variance (Cert.AdamOutIdeal.Step.X2 m c) (Cert.AdamOutIdeal.Step.X3 m c) (Cert.AdamOutIdeal.Step.X4 m c) (Cert.AdamOutIdeal.Step.X5 m c), ?_, ?_⟩
  · refine θ_run_mono (θ_run_and (Cert.AdamOutIdeal.Gen.unchanged m g trivial) (Cert.AdamOutIdeal.Gen.run_main m g trivial)) fun r h c => ?_
    exact ⟨((h.2 c).1 5).trans (Cert.AdamOutIdeal.Step.final_grad m trivial c),
      ((h.2 c).1 6).trans (Cert.AdamOutIdeal.Step.final_delta m trivial c),
      ((h.2 c).1 7).trans (Cert.AdamOutIdeal.Step.final_moment m trivial c),
      ((h.2 c).1 8).trans (Cert.AdamOutIdeal.Step.final_variance m trivial c),
      h.1 c⟩
  · refine θ_run_mono (Cert.AdamOutRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamwq : Cert.quiescent_AdamWqRefIdeal := fun m ρ _ =>
  (θ_run Cert.AdamWqRefIdeal.defs _ _).mono
    (fun r h => ⟨fun c => (h c).2.2.2.2, sem_eq_zero_of_no_sems (by decide) r.2⟩) (Cert.AdamWqRefIdeal.Step.run m ρ)
theorem algebraic_adamwq : Cert.algebraic_AdamWqIdeal_AdamWqRefIdeal := by
  intro m g m' g' hpre hagree
  refine ⟨fun c => Cert.AdamWqRefIdeal.Step.grad (Cert.AdamWqIdeal.Step.X3 m c) (Cert.AdamWqIdeal.Step.X4 m c) (Cert.AdamWqIdeal.Step.X5 m c),
    fun c => Cert.AdamWqRefIdeal.Step.delta (Cert.AdamWqIdeal.Step.X0 m c) (Cert.AdamWqIdeal.Step.X1 m c) (Cert.AdamWqIdeal.Step.X2 m c) (Cert.AdamWqIdeal.Step.X3 m c) (Cert.AdamWqIdeal.Step.X4 m c) (Cert.AdamWqIdeal.Step.X5 m c),
    fun c => Cert.AdamWqRefIdeal.Step.moment (Cert.AdamWqIdeal.Step.X1 m c) (Cert.AdamWqIdeal.Step.X3 m c) (Cert.AdamWqIdeal.Step.X4 m c) (Cert.AdamWqIdeal.Step.X5 m c),
    fun c => Cert.AdamWqRefIdeal.Step.variance (Cert.AdamWqIdeal.Step.X2 m c) (Cert.AdamWqIdeal.Step.X3 m c) (Cert.AdamWqIdeal.Step.X4 m c) (Cert.AdamWqIdeal.Step.X5 m c), ?_, ?_⟩
  · refine θ_run_mono (θ_run_and (Cert.AdamWqIdeal.Gen.unchanged m g trivial) (Cert.AdamWqIdeal.Gen.run_main m g trivial)) fun r h c => ?_
    exact ⟨((h.2 c).1 5).trans (Cert.AdamWqIdeal.Step.final_grad m trivial c),
      ((h.2 c).1 6).trans (Cert.AdamWqIdeal.Step.final_delta m trivial c),
      ((h.2 c).1 7).trans (Cert.AdamWqIdeal.Step.final_moment m trivial c),
      ((h.2 c).1 8).trans (Cert.AdamWqIdeal.Step.final_variance m trivial c),
      h.1 c⟩
  · refine θ_run_mono (Cert.AdamWqRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamwk : Cert.quiescent_AdamWkRefIdeal := fun m ρ _ =>
  (θ_run Cert.AdamWkRefIdeal.defs _ _).mono
    (fun r h => ⟨fun c => (h c).2.2.2.2, sem_eq_zero_of_no_sems (by decide) r.2⟩) (Cert.AdamWkRefIdeal.Step.run m ρ)
theorem algebraic_adamwk : Cert.algebraic_AdamWkIdeal_AdamWkRefIdeal := by
  intro m g m' g' hpre hagree
  refine ⟨fun c => Cert.AdamWkRefIdeal.Step.grad (Cert.AdamWkIdeal.Step.X3 m c) (Cert.AdamWkIdeal.Step.X4 m c) (Cert.AdamWkIdeal.Step.X5 m c),
    fun c => Cert.AdamWkRefIdeal.Step.delta (Cert.AdamWkIdeal.Step.X0 m c) (Cert.AdamWkIdeal.Step.X1 m c) (Cert.AdamWkIdeal.Step.X2 m c) (Cert.AdamWkIdeal.Step.X3 m c) (Cert.AdamWkIdeal.Step.X4 m c) (Cert.AdamWkIdeal.Step.X5 m c),
    fun c => Cert.AdamWkRefIdeal.Step.moment (Cert.AdamWkIdeal.Step.X1 m c) (Cert.AdamWkIdeal.Step.X3 m c) (Cert.AdamWkIdeal.Step.X4 m c) (Cert.AdamWkIdeal.Step.X5 m c),
    fun c => Cert.AdamWkRefIdeal.Step.variance (Cert.AdamWkIdeal.Step.X2 m c) (Cert.AdamWkIdeal.Step.X3 m c) (Cert.AdamWkIdeal.Step.X4 m c) (Cert.AdamWkIdeal.Step.X5 m c), ?_, ?_⟩
  · refine θ_run_mono (θ_run_and (Cert.AdamWkIdeal.Gen.unchanged m g trivial) (Cert.AdamWkIdeal.Gen.run_main m g trivial)) fun r h c => ?_
    exact ⟨((h.2 c).1 5).trans (Cert.AdamWkIdeal.Step.final_grad m trivial c),
      ((h.2 c).1 6).trans (Cert.AdamWkIdeal.Step.final_delta m trivial c),
      ((h.2 c).1 7).trans (Cert.AdamWkIdeal.Step.final_moment m trivial c),
      ((h.2 c).1 8).trans (Cert.AdamWkIdeal.Step.final_variance m trivial c),
      h.1 c⟩
  · refine θ_run_mono (Cert.AdamWkRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamwv : Cert.quiescent_AdamWvRefIdeal := fun m ρ _ =>
  (θ_run Cert.AdamWvRefIdeal.defs _ _).mono
    (fun r h => ⟨fun c => (h c).2.2.2.2, sem_eq_zero_of_no_sems (by decide) r.2⟩) (Cert.AdamWvRefIdeal.Step.run m ρ)
theorem algebraic_adamwv : Cert.algebraic_AdamWvIdeal_AdamWvRefIdeal := by
  intro m g m' g' hpre hagree
  refine ⟨fun c => Cert.AdamWvRefIdeal.Step.grad (Cert.AdamWvIdeal.Step.X3 m c) (Cert.AdamWvIdeal.Step.X4 m c) (Cert.AdamWvIdeal.Step.X5 m c),
    fun c => Cert.AdamWvRefIdeal.Step.delta (Cert.AdamWvIdeal.Step.X0 m c) (Cert.AdamWvIdeal.Step.X1 m c) (Cert.AdamWvIdeal.Step.X2 m c) (Cert.AdamWvIdeal.Step.X3 m c) (Cert.AdamWvIdeal.Step.X4 m c) (Cert.AdamWvIdeal.Step.X5 m c),
    fun c => Cert.AdamWvRefIdeal.Step.moment (Cert.AdamWvIdeal.Step.X1 m c) (Cert.AdamWvIdeal.Step.X3 m c) (Cert.AdamWvIdeal.Step.X4 m c) (Cert.AdamWvIdeal.Step.X5 m c),
    fun c => Cert.AdamWvRefIdeal.Step.variance (Cert.AdamWvIdeal.Step.X2 m c) (Cert.AdamWvIdeal.Step.X3 m c) (Cert.AdamWvIdeal.Step.X4 m c) (Cert.AdamWvIdeal.Step.X5 m c), ?_, ?_⟩
  · refine θ_run_mono (θ_run_and (Cert.AdamWvIdeal.Gen.unchanged m g trivial) (Cert.AdamWvIdeal.Gen.run_main m g trivial)) fun r h c => ?_
    exact ⟨((h.2 c).1 5).trans (Cert.AdamWvIdeal.Step.final_grad m trivial c),
      ((h.2 c).1 6).trans (Cert.AdamWvIdeal.Step.final_delta m trivial c),
      ((h.2 c).1 7).trans (Cert.AdamWvIdeal.Step.final_moment m trivial c),
      ((h.2 c).1 8).trans (Cert.AdamWvIdeal.Step.final_variance m trivial c),
      h.1 c⟩
  · refine θ_run_mono (Cert.AdamWvRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of one gathered weight: the frame of the reference, and the equality. -/
theorem frame_adamwo : Cert.quiescent_AdamWoRefIdeal := fun m ρ _ =>
  (θ_run Cert.AdamWoRefIdeal.defs _ _).mono
    (fun r h => ⟨fun c => (h c).2.2.2.2, sem_eq_zero_of_no_sems (by decide) r.2⟩) (Cert.AdamWoRefIdeal.Step.run m ρ)
theorem algebraic_adamwo : Cert.algebraic_AdamWoIdeal_AdamWoRefIdeal := by
  intro m g m' g' hpre hagree
  refine ⟨fun c => Cert.AdamWoRefIdeal.Step.grad (Cert.AdamWoIdeal.Step.X3 m c) (Cert.AdamWoIdeal.Step.X4 m c) (Cert.AdamWoIdeal.Step.X5 m c),
    fun c => Cert.AdamWoRefIdeal.Step.delta (Cert.AdamWoIdeal.Step.X0 m c) (Cert.AdamWoIdeal.Step.X1 m c) (Cert.AdamWoIdeal.Step.X2 m c) (Cert.AdamWoIdeal.Step.X3 m c) (Cert.AdamWoIdeal.Step.X4 m c) (Cert.AdamWoIdeal.Step.X5 m c),
    fun c => Cert.AdamWoRefIdeal.Step.moment (Cert.AdamWoIdeal.Step.X1 m c) (Cert.AdamWoIdeal.Step.X3 m c) (Cert.AdamWoIdeal.Step.X4 m c) (Cert.AdamWoIdeal.Step.X5 m c),
    fun c => Cert.AdamWoRefIdeal.Step.variance (Cert.AdamWoIdeal.Step.X2 m c) (Cert.AdamWoIdeal.Step.X3 m c) (Cert.AdamWoIdeal.Step.X4 m c) (Cert.AdamWoIdeal.Step.X5 m c), ?_, ?_⟩
  · refine θ_run_mono (θ_run_and (Cert.AdamWoIdeal.Gen.unchanged m g trivial) (Cert.AdamWoIdeal.Gen.run_main m g trivial)) fun r h c => ?_
    exact ⟨((h.2 c).1 5).trans (Cert.AdamWoIdeal.Step.final_grad m trivial c),
      ((h.2 c).1 6).trans (Cert.AdamWoIdeal.Step.final_delta m trivial c),
      ((h.2 c).1 7).trans (Cert.AdamWoIdeal.Step.final_moment m trivial c),
      ((h.2 c).1 8).trans (Cert.AdamWoIdeal.Step.final_variance m trivial c),
      h.1 c⟩
  · refine θ_run_mono (Cert.AdamWoRefIdeal.Step.run m' g') fun r h c => ?_
    obtain ⟨a0, a1, a2, a3, a4, a5⟩ := hagree c
    obtain ⟨h0, h1, h2, h3, h4⟩ := h c
    simp only [a0, a1, a2, a3, a4, a5] at h0 h1 h2 h3
    exact ⟨h0, h1, h2, h3, h4⟩

/-- The step of three small weights: the frame of the reference, and the equality. -/
theorem frame_adamsmall1 : Cert.quiescent_AdamSmall1RefIdeal := fun m ρ _ =>
  (θ_run Cert.AdamSmall1RefIdeal.defs _ _).mono
    (fun r h => ⟨fun c => (h c).2.2.2.2.2.2.2.2.2, sem_eq_zero_of_no_sems (by decide) r.2⟩) (Cert.AdamSmall1RefIdeal.Step.run m ρ)
theorem algebraic_adamsmall1 : Cert.algebraic_AdamSmall1Ideal_AdamSmall1RefIdeal := by
  intro m g m' g' hpre hagree
  refine ⟨fun c => Cert.AdamSmall1RefIdeal.Step.delta0 (m ((c.tc : Thread Cert.AdamSmall1Ideal.nD Cert.AdamSmall1Ideal.τ).loc Cert.AdamSmall1Ideal.main_arg0)) (m ((c.tc : Thread Cert.AdamSmall1Ideal.nD Cert.AdamSmall1Ideal.τ).loc Cert.AdamSmall1Ideal.main_arg3)) (m ((c.tc : Thread Cert.AdamSmall1Ideal.nD Cert.AdamSmall1Ideal.τ).loc Cert.AdamSmall1Ideal.main_arg6)) (m ((c.tc : Thread Cert.AdamSmall1Ideal.nD Cert.AdamSmall1Ideal.τ).loc Cert.AdamSmall1Ideal.main_arg9)),
    fun c => Cert.AdamSmall1RefIdeal.Step.delta1 (m ((c.tc : Thread Cert.AdamSmall1Ideal.nD Cert.AdamSmall1Ideal.τ).loc Cert.AdamSmall1Ideal.main_arg1)) (m ((c.tc : Thread Cert.AdamSmall1Ideal.nD Cert.AdamSmall1Ideal.τ).loc Cert.AdamSmall1Ideal.main_arg4)) (m ((c.tc : Thread Cert.AdamSmall1Ideal.nD Cert.AdamSmall1Ideal.τ).loc Cert.AdamSmall1Ideal.main_arg7)) (m ((c.tc : Thread Cert.AdamSmall1Ideal.nD Cert.AdamSmall1Ideal.τ).loc Cert.AdamSmall1Ideal.main_arg10)),
    fun c => Cert.AdamSmall1RefIdeal.Step.delta2 (m ((c.tc : Thread Cert.AdamSmall1Ideal.nD Cert.AdamSmall1Ideal.τ).loc Cert.AdamSmall1Ideal.main_arg2)) (m ((c.tc : Thread Cert.AdamSmall1Ideal.nD Cert.AdamSmall1Ideal.τ).loc Cert.AdamSmall1Ideal.main_arg5)) (m ((c.tc : Thread Cert.AdamSmall1Ideal.nD Cert.AdamSmall1Ideal.τ).loc Cert.AdamSmall1Ideal.main_arg8)) (m ((c.tc : Thread Cert.AdamSmall1Ideal.nD Cert.AdamSmall1Ideal.τ).loc Cert.AdamSmall1Ideal.main_arg11)),
    fun c => Cert.AdamSmall1RefIdeal.Step.moment0 (m ((c.tc : Thread Cert.AdamSmall1Ideal.nD Cert.AdamSmall1Ideal.τ).loc Cert.AdamSmall1Ideal.main_arg3)) (m ((c.tc : Thread Cert.AdamSmall1Ideal.nD Cert.AdamSmall1Ideal.τ).loc Cert.AdamSmall1Ideal.main_arg6)),
    fun c => Cert.AdamSmall1RefIdeal.Step.moment1 (m ((c.tc : Thread Cert.AdamSmall1Ideal.nD Cert.AdamSmall1Ideal.τ).loc Cert.AdamSmall1Ideal.main_arg4)) (m ((c.tc : Thread Cert.AdamSmall1Ideal.nD Cert.AdamSmall1Ideal.τ).loc Cert.AdamSmall1Ideal.main_arg7)),
    fun c => Cert.AdamSmall1RefIdeal.Step.moment2 (m ((c.tc : Thread Cert.AdamSmall1Ideal.nD Cert.AdamSmall1Ideal.τ).loc Cert.AdamSmall1Ideal.main_arg5)) (m ((c.tc : Thread Cert.AdamSmall1Ideal.nD Cert.AdamSmall1Ideal.τ).loc Cert.AdamSmall1Ideal.main_arg8)),
    fun c => Cert.AdamSmall1RefIdeal.Step.variance0 (m ((c.tc : Thread Cert.AdamSmall1Ideal.nD Cert.AdamSmall1Ideal.τ).loc Cert.AdamSmall1Ideal.main_arg3)) (m ((c.tc : Thread Cert.AdamSmall1Ideal.nD Cert.AdamSmall1Ideal.τ).loc Cert.AdamSmall1Ideal.main_arg9)),
    fun c => Cert.AdamSmall1RefIdeal.Step.variance1 (m ((c.tc : Thread Cert.AdamSmall1Ideal.nD Cert.AdamSmall1Ideal.τ).loc Cert.AdamSmall1Ideal.main_arg4)) (m ((c.tc : Thread Cert.AdamSmall1Ideal.nD Cert.AdamSmall1Ideal.τ).loc Cert.AdamSmall1Ideal.main_arg10)),
    fun c => Cert.AdamSmall1RefIdeal.Step.variance2 (m ((c.tc : Thread Cert.AdamSmall1Ideal.nD Cert.AdamSmall1Ideal.τ).loc Cert.AdamSmall1Ideal.main_arg5)) (m ((c.tc : Thread Cert.AdamSmall1Ideal.nD Cert.AdamSmall1Ideal.τ).loc Cert.AdamSmall1Ideal.main_arg11)), ?_, ?_⟩
  · refine θ_run_mono (θ_run_and (Cert.AdamSmall1Ideal.Gen.unchanged m g) (Cert.AdamSmall1Ideal.Gen.run_main m g)) fun r h c => ?_
    exact ⟨((h.2 c).1 12).trans (Cert.AdamSmall1Ideal.Step.final_delta0 m c),
      ((h.2 c).1 13).trans (Cert.AdamSmall1Ideal.Step.final_delta1 m c),
      ((h.2 c).1 14).trans (Cert.AdamSmall1Ideal.Step.final_delta2 m c),
      ((h.2 c).1 15).trans (Cert.AdamSmall1Ideal.Step.final_moment0 m c),
      ((h.2 c).1 16).trans (Cert.AdamSmall1Ideal.Step.final_moment1 m c),
      ((h.2 c).1 17).trans (Cert.AdamSmall1Ideal.Step.final_moment2 m c),
      ((h.2 c).1 18).trans (Cert.AdamSmall1Ideal.Step.final_variance0 m c),
      ((h.2 c).1 19).trans (Cert.AdamSmall1Ideal.Step.final_variance1 m c),
      ((h.2 c).1 20).trans (Cert.AdamSmall1Ideal.Step.final_variance2 m c),
      h.1 c⟩
  · refine θ_run_mono (Cert.AdamSmall1RefIdeal.Step.run m' g') fun r h c => ?_
    obtain ⟨a0, a1, a2, a3, a4, a5, a6, a7, a8, a9, a10, a11⟩ := hagree c
    obtain ⟨h0, h1, h2, h3, h4, h5, h6, h7, h8, h9⟩ := h c
    simp only [a0, a1, a2, a3, a4, a5, a6, a7, a8, a9, a10, a11] at h0 h1 h2 h3 h4 h5 h6 h7 h8
    exact ⟨h0, h1, h2, h3, h4, h5, h6, h7, h8, h9⟩

/-- The step of three small weights: the frame of the reference, and the equality. -/
theorem frame_adamsmall2 : Cert.quiescent_AdamSmall2RefIdeal := fun m ρ _ =>
  (θ_run Cert.AdamSmall2RefIdeal.defs _ _).mono
    (fun r h => ⟨fun c => (h c).2.2.2.2.2.2.2.2.2, sem_eq_zero_of_no_sems (by decide) r.2⟩) (Cert.AdamSmall2RefIdeal.Step.run m ρ)
theorem algebraic_adamsmall2 : Cert.algebraic_AdamSmall2Ideal_AdamSmall2RefIdeal := by
  intro m g m' g' hpre hagree
  refine ⟨fun c => Cert.AdamSmall2RefIdeal.Step.delta0 (m ((c.tc : Thread Cert.AdamSmall2Ideal.nD Cert.AdamSmall2Ideal.τ).loc Cert.AdamSmall2Ideal.main_arg0)) (m ((c.tc : Thread Cert.AdamSmall2Ideal.nD Cert.AdamSmall2Ideal.τ).loc Cert.AdamSmall2Ideal.main_arg3)) (m ((c.tc : Thread Cert.AdamSmall2Ideal.nD Cert.AdamSmall2Ideal.τ).loc Cert.AdamSmall2Ideal.main_arg6)) (m ((c.tc : Thread Cert.AdamSmall2Ideal.nD Cert.AdamSmall2Ideal.τ).loc Cert.AdamSmall2Ideal.main_arg9)),
    fun c => Cert.AdamSmall2RefIdeal.Step.delta1 (m ((c.tc : Thread Cert.AdamSmall2Ideal.nD Cert.AdamSmall2Ideal.τ).loc Cert.AdamSmall2Ideal.main_arg1)) (m ((c.tc : Thread Cert.AdamSmall2Ideal.nD Cert.AdamSmall2Ideal.τ).loc Cert.AdamSmall2Ideal.main_arg4)) (m ((c.tc : Thread Cert.AdamSmall2Ideal.nD Cert.AdamSmall2Ideal.τ).loc Cert.AdamSmall2Ideal.main_arg7)) (m ((c.tc : Thread Cert.AdamSmall2Ideal.nD Cert.AdamSmall2Ideal.τ).loc Cert.AdamSmall2Ideal.main_arg10)),
    fun c => Cert.AdamSmall2RefIdeal.Step.delta2 (m ((c.tc : Thread Cert.AdamSmall2Ideal.nD Cert.AdamSmall2Ideal.τ).loc Cert.AdamSmall2Ideal.main_arg2)) (m ((c.tc : Thread Cert.AdamSmall2Ideal.nD Cert.AdamSmall2Ideal.τ).loc Cert.AdamSmall2Ideal.main_arg5)) (m ((c.tc : Thread Cert.AdamSmall2Ideal.nD Cert.AdamSmall2Ideal.τ).loc Cert.AdamSmall2Ideal.main_arg8)) (m ((c.tc : Thread Cert.AdamSmall2Ideal.nD Cert.AdamSmall2Ideal.τ).loc Cert.AdamSmall2Ideal.main_arg11)),
    fun c => Cert.AdamSmall2RefIdeal.Step.moment0 (m ((c.tc : Thread Cert.AdamSmall2Ideal.nD Cert.AdamSmall2Ideal.τ).loc Cert.AdamSmall2Ideal.main_arg3)) (m ((c.tc : Thread Cert.AdamSmall2Ideal.nD Cert.AdamSmall2Ideal.τ).loc Cert.AdamSmall2Ideal.main_arg6)),
    fun c => Cert.AdamSmall2RefIdeal.Step.moment1 (m ((c.tc : Thread Cert.AdamSmall2Ideal.nD Cert.AdamSmall2Ideal.τ).loc Cert.AdamSmall2Ideal.main_arg4)) (m ((c.tc : Thread Cert.AdamSmall2Ideal.nD Cert.AdamSmall2Ideal.τ).loc Cert.AdamSmall2Ideal.main_arg7)),
    fun c => Cert.AdamSmall2RefIdeal.Step.moment2 (m ((c.tc : Thread Cert.AdamSmall2Ideal.nD Cert.AdamSmall2Ideal.τ).loc Cert.AdamSmall2Ideal.main_arg5)) (m ((c.tc : Thread Cert.AdamSmall2Ideal.nD Cert.AdamSmall2Ideal.τ).loc Cert.AdamSmall2Ideal.main_arg8)),
    fun c => Cert.AdamSmall2RefIdeal.Step.variance0 (m ((c.tc : Thread Cert.AdamSmall2Ideal.nD Cert.AdamSmall2Ideal.τ).loc Cert.AdamSmall2Ideal.main_arg3)) (m ((c.tc : Thread Cert.AdamSmall2Ideal.nD Cert.AdamSmall2Ideal.τ).loc Cert.AdamSmall2Ideal.main_arg9)),
    fun c => Cert.AdamSmall2RefIdeal.Step.variance1 (m ((c.tc : Thread Cert.AdamSmall2Ideal.nD Cert.AdamSmall2Ideal.τ).loc Cert.AdamSmall2Ideal.main_arg4)) (m ((c.tc : Thread Cert.AdamSmall2Ideal.nD Cert.AdamSmall2Ideal.τ).loc Cert.AdamSmall2Ideal.main_arg10)),
    fun c => Cert.AdamSmall2RefIdeal.Step.variance2 (m ((c.tc : Thread Cert.AdamSmall2Ideal.nD Cert.AdamSmall2Ideal.τ).loc Cert.AdamSmall2Ideal.main_arg5)) (m ((c.tc : Thread Cert.AdamSmall2Ideal.nD Cert.AdamSmall2Ideal.τ).loc Cert.AdamSmall2Ideal.main_arg11)), ?_, ?_⟩
  · refine θ_run_mono (θ_run_and (Cert.AdamSmall2Ideal.Gen.unchanged m g) (Cert.AdamSmall2Ideal.Gen.run_main m g)) fun r h c => ?_
    exact ⟨((h.2 c).1 12).trans (Cert.AdamSmall2Ideal.Step.final_delta0 m c),
      ((h.2 c).1 13).trans (Cert.AdamSmall2Ideal.Step.final_delta1 m c),
      ((h.2 c).1 14).trans (Cert.AdamSmall2Ideal.Step.final_delta2 m c),
      ((h.2 c).1 15).trans (Cert.AdamSmall2Ideal.Step.final_moment0 m c),
      ((h.2 c).1 16).trans (Cert.AdamSmall2Ideal.Step.final_moment1 m c),
      ((h.2 c).1 17).trans (Cert.AdamSmall2Ideal.Step.final_moment2 m c),
      ((h.2 c).1 18).trans (Cert.AdamSmall2Ideal.Step.final_variance0 m c),
      ((h.2 c).1 19).trans (Cert.AdamSmall2Ideal.Step.final_variance1 m c),
      ((h.2 c).1 20).trans (Cert.AdamSmall2Ideal.Step.final_variance2 m c),
      h.1 c⟩
  · refine θ_run_mono (Cert.AdamSmall2RefIdeal.Step.run m' g') fun r h c => ?_
    obtain ⟨a0, a1, a2, a3, a4, a5, a6, a7, a8, a9, a10, a11⟩ := hagree c
    obtain ⟨h0, h1, h2, h3, h4, h5, h6, h7, h8, h9⟩ := h c
    simp only [a0, a1, a2, a3, a4, a5, a6, a7, a8, a9, a10, a11] at h0 h1 h2 h3 h4 h5 h6 h7 h8
    exact ⟨h0, h1, h2, h3, h4, h5, h6, h7, h8, h9⟩

/-- The step of three small weights: the frame of the reference, and the equality. -/
theorem frame_adamsmall3 : Cert.quiescent_AdamSmall3RefIdeal := fun m ρ _ =>
  (θ_run Cert.AdamSmall3RefIdeal.defs _ _).mono
    (fun r h => ⟨fun c => (h c).2.2.2.2.2.2.2.2.2, sem_eq_zero_of_no_sems (by decide) r.2⟩) (Cert.AdamSmall3RefIdeal.Step.run m ρ)
theorem algebraic_adamsmall3 : Cert.algebraic_AdamSmall3Ideal_AdamSmall3RefIdeal := by
  intro m g m' g' hpre hagree
  refine ⟨fun c => Cert.AdamSmall3RefIdeal.Step.delta0 (m ((c.tc : Thread Cert.AdamSmall3Ideal.nD Cert.AdamSmall3Ideal.τ).loc Cert.AdamSmall3Ideal.main_arg0)) (m ((c.tc : Thread Cert.AdamSmall3Ideal.nD Cert.AdamSmall3Ideal.τ).loc Cert.AdamSmall3Ideal.main_arg3)) (m ((c.tc : Thread Cert.AdamSmall3Ideal.nD Cert.AdamSmall3Ideal.τ).loc Cert.AdamSmall3Ideal.main_arg6)) (m ((c.tc : Thread Cert.AdamSmall3Ideal.nD Cert.AdamSmall3Ideal.τ).loc Cert.AdamSmall3Ideal.main_arg9)),
    fun c => Cert.AdamSmall3RefIdeal.Step.delta1 (m ((c.tc : Thread Cert.AdamSmall3Ideal.nD Cert.AdamSmall3Ideal.τ).loc Cert.AdamSmall3Ideal.main_arg1)) (m ((c.tc : Thread Cert.AdamSmall3Ideal.nD Cert.AdamSmall3Ideal.τ).loc Cert.AdamSmall3Ideal.main_arg4)) (m ((c.tc : Thread Cert.AdamSmall3Ideal.nD Cert.AdamSmall3Ideal.τ).loc Cert.AdamSmall3Ideal.main_arg7)) (m ((c.tc : Thread Cert.AdamSmall3Ideal.nD Cert.AdamSmall3Ideal.τ).loc Cert.AdamSmall3Ideal.main_arg10)),
    fun c => Cert.AdamSmall3RefIdeal.Step.delta2 (m ((c.tc : Thread Cert.AdamSmall3Ideal.nD Cert.AdamSmall3Ideal.τ).loc Cert.AdamSmall3Ideal.main_arg2)) (m ((c.tc : Thread Cert.AdamSmall3Ideal.nD Cert.AdamSmall3Ideal.τ).loc Cert.AdamSmall3Ideal.main_arg5)) (m ((c.tc : Thread Cert.AdamSmall3Ideal.nD Cert.AdamSmall3Ideal.τ).loc Cert.AdamSmall3Ideal.main_arg8)) (m ((c.tc : Thread Cert.AdamSmall3Ideal.nD Cert.AdamSmall3Ideal.τ).loc Cert.AdamSmall3Ideal.main_arg11)),
    fun c => Cert.AdamSmall3RefIdeal.Step.moment0 (m ((c.tc : Thread Cert.AdamSmall3Ideal.nD Cert.AdamSmall3Ideal.τ).loc Cert.AdamSmall3Ideal.main_arg3)) (m ((c.tc : Thread Cert.AdamSmall3Ideal.nD Cert.AdamSmall3Ideal.τ).loc Cert.AdamSmall3Ideal.main_arg6)),
    fun c => Cert.AdamSmall3RefIdeal.Step.moment1 (m ((c.tc : Thread Cert.AdamSmall3Ideal.nD Cert.AdamSmall3Ideal.τ).loc Cert.AdamSmall3Ideal.main_arg4)) (m ((c.tc : Thread Cert.AdamSmall3Ideal.nD Cert.AdamSmall3Ideal.τ).loc Cert.AdamSmall3Ideal.main_arg7)),
    fun c => Cert.AdamSmall3RefIdeal.Step.moment2 (m ((c.tc : Thread Cert.AdamSmall3Ideal.nD Cert.AdamSmall3Ideal.τ).loc Cert.AdamSmall3Ideal.main_arg5)) (m ((c.tc : Thread Cert.AdamSmall3Ideal.nD Cert.AdamSmall3Ideal.τ).loc Cert.AdamSmall3Ideal.main_arg8)),
    fun c => Cert.AdamSmall3RefIdeal.Step.variance0 (m ((c.tc : Thread Cert.AdamSmall3Ideal.nD Cert.AdamSmall3Ideal.τ).loc Cert.AdamSmall3Ideal.main_arg3)) (m ((c.tc : Thread Cert.AdamSmall3Ideal.nD Cert.AdamSmall3Ideal.τ).loc Cert.AdamSmall3Ideal.main_arg9)),
    fun c => Cert.AdamSmall3RefIdeal.Step.variance1 (m ((c.tc : Thread Cert.AdamSmall3Ideal.nD Cert.AdamSmall3Ideal.τ).loc Cert.AdamSmall3Ideal.main_arg4)) (m ((c.tc : Thread Cert.AdamSmall3Ideal.nD Cert.AdamSmall3Ideal.τ).loc Cert.AdamSmall3Ideal.main_arg10)),
    fun c => Cert.AdamSmall3RefIdeal.Step.variance2 (m ((c.tc : Thread Cert.AdamSmall3Ideal.nD Cert.AdamSmall3Ideal.τ).loc Cert.AdamSmall3Ideal.main_arg5)) (m ((c.tc : Thread Cert.AdamSmall3Ideal.nD Cert.AdamSmall3Ideal.τ).loc Cert.AdamSmall3Ideal.main_arg11)), ?_, ?_⟩
  · refine θ_run_mono (θ_run_and (Cert.AdamSmall3Ideal.Gen.unchanged m g) (Cert.AdamSmall3Ideal.Gen.run_main m g)) fun r h c => ?_
    exact ⟨((h.2 c).1 12).trans (Cert.AdamSmall3Ideal.Step.final_delta0 m c),
      ((h.2 c).1 13).trans (Cert.AdamSmall3Ideal.Step.final_delta1 m c),
      ((h.2 c).1 14).trans (Cert.AdamSmall3Ideal.Step.final_delta2 m c),
      ((h.2 c).1 15).trans (Cert.AdamSmall3Ideal.Step.final_moment0 m c),
      ((h.2 c).1 16).trans (Cert.AdamSmall3Ideal.Step.final_moment1 m c),
      ((h.2 c).1 17).trans (Cert.AdamSmall3Ideal.Step.final_moment2 m c),
      ((h.2 c).1 18).trans (Cert.AdamSmall3Ideal.Step.final_variance0 m c),
      ((h.2 c).1 19).trans (Cert.AdamSmall3Ideal.Step.final_variance1 m c),
      ((h.2 c).1 20).trans (Cert.AdamSmall3Ideal.Step.final_variance2 m c),
      h.1 c⟩
  · refine θ_run_mono (Cert.AdamSmall3RefIdeal.Step.run m' g') fun r h c => ?_
    obtain ⟨a0, a1, a2, a3, a4, a5, a6, a7, a8, a9, a10, a11⟩ := hagree c
    obtain ⟨h0, h1, h2, h3, h4, h5, h6, h7, h8, h9⟩ := h c
    simp only [a0, a1, a2, a3, a4, a5, a6, a7, a8, a9, a10, a11] at h0 h1 h2 h3 h4 h5 h6 h7 h8
    exact ⟨h0, h1, h2, h3, h4, h5, h6, h7, h8, h9⟩

/-- The step of three small weights: the frame of the reference, and the equality. -/
theorem frame_adamsmall4 : Cert.quiescent_AdamSmall4RefIdeal := fun m ρ _ =>
  (θ_run Cert.AdamSmall4RefIdeal.defs _ _).mono
    (fun r h => ⟨fun c => (h c).2.2.2.2.2.2.2.2.2, sem_eq_zero_of_no_sems (by decide) r.2⟩) (Cert.AdamSmall4RefIdeal.Step.run m ρ)
theorem algebraic_adamsmall4 : Cert.algebraic_AdamSmall4Ideal_AdamSmall4RefIdeal := by
  intro m g m' g' hpre hagree
  refine ⟨fun c => Cert.AdamSmall4RefIdeal.Step.delta0 (m ((c.tc : Thread Cert.AdamSmall4Ideal.nD Cert.AdamSmall4Ideal.τ).loc Cert.AdamSmall4Ideal.main_arg0)) (m ((c.tc : Thread Cert.AdamSmall4Ideal.nD Cert.AdamSmall4Ideal.τ).loc Cert.AdamSmall4Ideal.main_arg3)) (m ((c.tc : Thread Cert.AdamSmall4Ideal.nD Cert.AdamSmall4Ideal.τ).loc Cert.AdamSmall4Ideal.main_arg6)) (m ((c.tc : Thread Cert.AdamSmall4Ideal.nD Cert.AdamSmall4Ideal.τ).loc Cert.AdamSmall4Ideal.main_arg9)),
    fun c => Cert.AdamSmall4RefIdeal.Step.delta1 (m ((c.tc : Thread Cert.AdamSmall4Ideal.nD Cert.AdamSmall4Ideal.τ).loc Cert.AdamSmall4Ideal.main_arg1)) (m ((c.tc : Thread Cert.AdamSmall4Ideal.nD Cert.AdamSmall4Ideal.τ).loc Cert.AdamSmall4Ideal.main_arg4)) (m ((c.tc : Thread Cert.AdamSmall4Ideal.nD Cert.AdamSmall4Ideal.τ).loc Cert.AdamSmall4Ideal.main_arg7)) (m ((c.tc : Thread Cert.AdamSmall4Ideal.nD Cert.AdamSmall4Ideal.τ).loc Cert.AdamSmall4Ideal.main_arg10)),
    fun c => Cert.AdamSmall4RefIdeal.Step.delta2 (m ((c.tc : Thread Cert.AdamSmall4Ideal.nD Cert.AdamSmall4Ideal.τ).loc Cert.AdamSmall4Ideal.main_arg2)) (m ((c.tc : Thread Cert.AdamSmall4Ideal.nD Cert.AdamSmall4Ideal.τ).loc Cert.AdamSmall4Ideal.main_arg5)) (m ((c.tc : Thread Cert.AdamSmall4Ideal.nD Cert.AdamSmall4Ideal.τ).loc Cert.AdamSmall4Ideal.main_arg8)) (m ((c.tc : Thread Cert.AdamSmall4Ideal.nD Cert.AdamSmall4Ideal.τ).loc Cert.AdamSmall4Ideal.main_arg11)),
    fun c => Cert.AdamSmall4RefIdeal.Step.moment0 (m ((c.tc : Thread Cert.AdamSmall4Ideal.nD Cert.AdamSmall4Ideal.τ).loc Cert.AdamSmall4Ideal.main_arg3)) (m ((c.tc : Thread Cert.AdamSmall4Ideal.nD Cert.AdamSmall4Ideal.τ).loc Cert.AdamSmall4Ideal.main_arg6)),
    fun c => Cert.AdamSmall4RefIdeal.Step.moment1 (m ((c.tc : Thread Cert.AdamSmall4Ideal.nD Cert.AdamSmall4Ideal.τ).loc Cert.AdamSmall4Ideal.main_arg4)) (m ((c.tc : Thread Cert.AdamSmall4Ideal.nD Cert.AdamSmall4Ideal.τ).loc Cert.AdamSmall4Ideal.main_arg7)),
    fun c => Cert.AdamSmall4RefIdeal.Step.moment2 (m ((c.tc : Thread Cert.AdamSmall4Ideal.nD Cert.AdamSmall4Ideal.τ).loc Cert.AdamSmall4Ideal.main_arg5)) (m ((c.tc : Thread Cert.AdamSmall4Ideal.nD Cert.AdamSmall4Ideal.τ).loc Cert.AdamSmall4Ideal.main_arg8)),
    fun c => Cert.AdamSmall4RefIdeal.Step.variance0 (m ((c.tc : Thread Cert.AdamSmall4Ideal.nD Cert.AdamSmall4Ideal.τ).loc Cert.AdamSmall4Ideal.main_arg3)) (m ((c.tc : Thread Cert.AdamSmall4Ideal.nD Cert.AdamSmall4Ideal.τ).loc Cert.AdamSmall4Ideal.main_arg9)),
    fun c => Cert.AdamSmall4RefIdeal.Step.variance1 (m ((c.tc : Thread Cert.AdamSmall4Ideal.nD Cert.AdamSmall4Ideal.τ).loc Cert.AdamSmall4Ideal.main_arg4)) (m ((c.tc : Thread Cert.AdamSmall4Ideal.nD Cert.AdamSmall4Ideal.τ).loc Cert.AdamSmall4Ideal.main_arg10)),
    fun c => Cert.AdamSmall4RefIdeal.Step.variance2 (m ((c.tc : Thread Cert.AdamSmall4Ideal.nD Cert.AdamSmall4Ideal.τ).loc Cert.AdamSmall4Ideal.main_arg5)) (m ((c.tc : Thread Cert.AdamSmall4Ideal.nD Cert.AdamSmall4Ideal.τ).loc Cert.AdamSmall4Ideal.main_arg11)), ?_, ?_⟩
  · refine θ_run_mono (θ_run_and (Cert.AdamSmall4Ideal.Gen.unchanged m g) (Cert.AdamSmall4Ideal.Gen.run_main m g)) fun r h c => ?_
    exact ⟨((h.2 c).1 12).trans (Cert.AdamSmall4Ideal.Step.final_delta0 m c),
      ((h.2 c).1 13).trans (Cert.AdamSmall4Ideal.Step.final_delta1 m c),
      ((h.2 c).1 14).trans (Cert.AdamSmall4Ideal.Step.final_delta2 m c),
      ((h.2 c).1 15).trans (Cert.AdamSmall4Ideal.Step.final_moment0 m c),
      ((h.2 c).1 16).trans (Cert.AdamSmall4Ideal.Step.final_moment1 m c),
      ((h.2 c).1 17).trans (Cert.AdamSmall4Ideal.Step.final_moment2 m c),
      ((h.2 c).1 18).trans (Cert.AdamSmall4Ideal.Step.final_variance0 m c),
      ((h.2 c).1 19).trans (Cert.AdamSmall4Ideal.Step.final_variance1 m c),
      ((h.2 c).1 20).trans (Cert.AdamSmall4Ideal.Step.final_variance2 m c),
      h.1 c⟩
  · refine θ_run_mono (Cert.AdamSmall4RefIdeal.Step.run m' g') fun r h c => ?_
    obtain ⟨a0, a1, a2, a3, a4, a5, a6, a7, a8, a9, a10, a11⟩ := hagree c
    obtain ⟨h0, h1, h2, h3, h4, h5, h6, h7, h8, h9⟩ := h c
    simp only [a0, a1, a2, a3, a4, a5, a6, a7, a8, a9, a10, a11] at h0 h1 h2 h3 h4 h5 h6 h7 h8
    exact ⟨h0, h1, h2, h3, h4, h5, h6, h7, h8, h9⟩

/-- The step of three small weights: the frame of the reference, and the equality. -/
theorem frame_adamsmall5 : Cert.quiescent_AdamSmall5RefIdeal := fun m ρ _ =>
  (θ_run Cert.AdamSmall5RefIdeal.defs _ _).mono
    (fun r h => ⟨fun c => (h c).2.2.2.2.2.2.2.2.2, sem_eq_zero_of_no_sems (by decide) r.2⟩) (Cert.AdamSmall5RefIdeal.Step.run m ρ)
theorem algebraic_adamsmall5 : Cert.algebraic_AdamSmall5Ideal_AdamSmall5RefIdeal := by
  intro m g m' g' hpre hagree
  refine ⟨fun c => Cert.AdamSmall5RefIdeal.Step.delta0 (m ((c.tc : Thread Cert.AdamSmall5Ideal.nD Cert.AdamSmall5Ideal.τ).loc Cert.AdamSmall5Ideal.main_arg0)) (m ((c.tc : Thread Cert.AdamSmall5Ideal.nD Cert.AdamSmall5Ideal.τ).loc Cert.AdamSmall5Ideal.main_arg3)) (m ((c.tc : Thread Cert.AdamSmall5Ideal.nD Cert.AdamSmall5Ideal.τ).loc Cert.AdamSmall5Ideal.main_arg6)) (m ((c.tc : Thread Cert.AdamSmall5Ideal.nD Cert.AdamSmall5Ideal.τ).loc Cert.AdamSmall5Ideal.main_arg9)),
    fun c => Cert.AdamSmall5RefIdeal.Step.delta1 (m ((c.tc : Thread Cert.AdamSmall5Ideal.nD Cert.AdamSmall5Ideal.τ).loc Cert.AdamSmall5Ideal.main_arg1)) (m ((c.tc : Thread Cert.AdamSmall5Ideal.nD Cert.AdamSmall5Ideal.τ).loc Cert.AdamSmall5Ideal.main_arg4)) (m ((c.tc : Thread Cert.AdamSmall5Ideal.nD Cert.AdamSmall5Ideal.τ).loc Cert.AdamSmall5Ideal.main_arg7)) (m ((c.tc : Thread Cert.AdamSmall5Ideal.nD Cert.AdamSmall5Ideal.τ).loc Cert.AdamSmall5Ideal.main_arg10)),
    fun c => Cert.AdamSmall5RefIdeal.Step.delta2 (m ((c.tc : Thread Cert.AdamSmall5Ideal.nD Cert.AdamSmall5Ideal.τ).loc Cert.AdamSmall5Ideal.main_arg2)) (m ((c.tc : Thread Cert.AdamSmall5Ideal.nD Cert.AdamSmall5Ideal.τ).loc Cert.AdamSmall5Ideal.main_arg5)) (m ((c.tc : Thread Cert.AdamSmall5Ideal.nD Cert.AdamSmall5Ideal.τ).loc Cert.AdamSmall5Ideal.main_arg8)) (m ((c.tc : Thread Cert.AdamSmall5Ideal.nD Cert.AdamSmall5Ideal.τ).loc Cert.AdamSmall5Ideal.main_arg11)),
    fun c => Cert.AdamSmall5RefIdeal.Step.moment0 (m ((c.tc : Thread Cert.AdamSmall5Ideal.nD Cert.AdamSmall5Ideal.τ).loc Cert.AdamSmall5Ideal.main_arg3)) (m ((c.tc : Thread Cert.AdamSmall5Ideal.nD Cert.AdamSmall5Ideal.τ).loc Cert.AdamSmall5Ideal.main_arg6)),
    fun c => Cert.AdamSmall5RefIdeal.Step.moment1 (m ((c.tc : Thread Cert.AdamSmall5Ideal.nD Cert.AdamSmall5Ideal.τ).loc Cert.AdamSmall5Ideal.main_arg4)) (m ((c.tc : Thread Cert.AdamSmall5Ideal.nD Cert.AdamSmall5Ideal.τ).loc Cert.AdamSmall5Ideal.main_arg7)),
    fun c => Cert.AdamSmall5RefIdeal.Step.moment2 (m ((c.tc : Thread Cert.AdamSmall5Ideal.nD Cert.AdamSmall5Ideal.τ).loc Cert.AdamSmall5Ideal.main_arg5)) (m ((c.tc : Thread Cert.AdamSmall5Ideal.nD Cert.AdamSmall5Ideal.τ).loc Cert.AdamSmall5Ideal.main_arg8)),
    fun c => Cert.AdamSmall5RefIdeal.Step.variance0 (m ((c.tc : Thread Cert.AdamSmall5Ideal.nD Cert.AdamSmall5Ideal.τ).loc Cert.AdamSmall5Ideal.main_arg3)) (m ((c.tc : Thread Cert.AdamSmall5Ideal.nD Cert.AdamSmall5Ideal.τ).loc Cert.AdamSmall5Ideal.main_arg9)),
    fun c => Cert.AdamSmall5RefIdeal.Step.variance1 (m ((c.tc : Thread Cert.AdamSmall5Ideal.nD Cert.AdamSmall5Ideal.τ).loc Cert.AdamSmall5Ideal.main_arg4)) (m ((c.tc : Thread Cert.AdamSmall5Ideal.nD Cert.AdamSmall5Ideal.τ).loc Cert.AdamSmall5Ideal.main_arg10)),
    fun c => Cert.AdamSmall5RefIdeal.Step.variance2 (m ((c.tc : Thread Cert.AdamSmall5Ideal.nD Cert.AdamSmall5Ideal.τ).loc Cert.AdamSmall5Ideal.main_arg5)) (m ((c.tc : Thread Cert.AdamSmall5Ideal.nD Cert.AdamSmall5Ideal.τ).loc Cert.AdamSmall5Ideal.main_arg11)), ?_, ?_⟩
  · refine θ_run_mono (θ_run_and (Cert.AdamSmall5Ideal.Gen.unchanged m g) (Cert.AdamSmall5Ideal.Gen.run_main m g)) fun r h c => ?_
    exact ⟨((h.2 c).1 12).trans (Cert.AdamSmall5Ideal.Step.final_delta0 m c),
      ((h.2 c).1 13).trans (Cert.AdamSmall5Ideal.Step.final_delta1 m c),
      ((h.2 c).1 14).trans (Cert.AdamSmall5Ideal.Step.final_delta2 m c),
      ((h.2 c).1 15).trans (Cert.AdamSmall5Ideal.Step.final_moment0 m c),
      ((h.2 c).1 16).trans (Cert.AdamSmall5Ideal.Step.final_moment1 m c),
      ((h.2 c).1 17).trans (Cert.AdamSmall5Ideal.Step.final_moment2 m c),
      ((h.2 c).1 18).trans (Cert.AdamSmall5Ideal.Step.final_variance0 m c),
      ((h.2 c).1 19).trans (Cert.AdamSmall5Ideal.Step.final_variance1 m c),
      ((h.2 c).1 20).trans (Cert.AdamSmall5Ideal.Step.final_variance2 m c),
      h.1 c⟩
  · refine θ_run_mono (Cert.AdamSmall5RefIdeal.Step.run m' g') fun r h c => ?_
    obtain ⟨a0, a1, a2, a3, a4, a5, a6, a7, a8, a9, a10, a11⟩ := hagree c
    obtain ⟨h0, h1, h2, h3, h4, h5, h6, h7, h8, h9⟩ := h c
    simp only [a0, a1, a2, a3, a4, a5, a6, a7, a8, a9, a10, a11] at h0 h1 h2 h3 h4 h5 h6 h7 h8
    exact ⟨h0, h1, h2, h3, h4, h5, h6, h7, h8, h9⟩

theorem claim : Cert.Claim :=
  ⟨
    Cert.Kernel.Gen.facts, Cert.KernelIdeal.Gen.facts, Cert.ReferenceIdeal.Gen.facts, Cert.In.Gen.facts,
    Cert.InIdeal.Gen.facts, Cert.InRefIdeal.Gen.facts, Cert.Dh1.Gen.facts, Cert.Dh1Ideal.Gen.facts,
    Cert.Dh1RefIdeal.Gen.facts, Cert.Gwin.Gen.facts, Cert.GwinIdeal.Gen.facts, Cert.GwinRefIdeal.Gen.facts,
    Cert.Up.Gen.facts, Cert.UpIdeal.Gen.facts, Cert.UpRefIdeal.Gen.facts, Cert.Down.Gen.facts,
    Cert.DownIdeal.Gen.facts, Cert.DownRefIdeal.Gen.facts, Cert.Dact.Gen.facts, Cert.DactIdeal.Gen.facts,
    Cert.DactRefIdeal.Gen.facts, Cert.Dh3.Gen.facts, Cert.Dh3Ideal.Gen.facts, Cert.Dh3RefIdeal.Gen.facts,
    Cert.Gdown.Gen.facts, Cert.GdownIdeal.Gen.facts, Cert.GdownRefIdeal.Gen.facts, Cert.Gup.Gen.facts,
    Cert.GupIdeal.Gen.facts, Cert.GupRefIdeal.Gen.facts, Cert.Outa.Gen.facts, Cert.OutaIdeal.Gen.facts,
    Cert.OutaRefIdeal.Gen.facts, Cert.Q.Gen.facts, Cert.QIdeal.Gen.facts, Cert.QRefIdeal.Gen.facts,
    Cert.Dao.Gen.facts, Cert.DaoIdeal.Gen.facts, Cert.DaoRefIdeal.Gen.facts, Cert.Doa.Gen.facts,
    Cert.DoaIdeal.Gen.facts, Cert.DoaRefIdeal.Gen.facts, Cert.Dob.Gen.facts, Cert.DobIdeal.Gen.facts,
    Cert.DobRefIdeal.Gen.facts, Cert.Gwo.Gen.facts, Cert.GwoIdeal.Gen.facts, Cert.GwoRefIdeal.Gen.facts,
    Cert.Gwq.Gen.facts, Cert.GwqIdeal.Gen.facts, Cert.GwqRefIdeal.Gen.facts, Cert.Gwouta.Gen.facts,
    Cert.GwoutaIdeal.Gen.facts, Cert.GwoutaRefIdeal.Gen.facts, Cert.Gwoutb.Gen.facts, Cert.GwoutbIdeal.Gen.facts,
    Cert.GwoutbRefIdeal.Gen.facts, Cert.Rms1.Gen.facts, Cert.Rms1Ideal.Gen.facts, Cert.Rms1RefIdeal.Gen.facts,
    Cert.Rms3.Gen.facts, Cert.Rms3Ideal.Gen.facts, Cert.Rms3RefIdeal.Gen.facts, Cert.AdamWin.Gen.facts,
    Cert.AdamWinIdeal.Gen.facts, Cert.AdamWinRefIdeal.Gen.facts, Cert.AdamUp.Gen.facts, Cert.AdamUpIdeal.Gen.facts,
    Cert.AdamUpRefIdeal.Gen.facts, Cert.AdamDown.Gen.facts, Cert.AdamDownIdeal.Gen.facts,
    Cert.AdamDownRefIdeal.Gen.facts, Cert.AdamOut.Gen.facts, Cert.AdamOutIdeal.Gen.facts,
    Cert.AdamOutRefIdeal.Gen.facts, Cert.AdamWq.Gen.facts, Cert.AdamWqIdeal.Gen.facts, Cert.AdamWqRefIdeal.Gen.facts,
    Cert.AdamWk.Gen.facts, Cert.AdamWkIdeal.Gen.facts, Cert.AdamWkRefIdeal.Gen.facts, Cert.AdamWv.Gen.facts,
    Cert.AdamWvIdeal.Gen.facts, Cert.AdamWvRefIdeal.Gen.facts, Cert.AdamWo.Gen.facts, Cert.AdamWoIdeal.Gen.facts,
    Cert.AdamWoRefIdeal.Gen.facts, Cert.AdamSmall1.Gen.facts, Cert.AdamSmall1Ideal.Gen.facts,
    Cert.AdamSmall1RefIdeal.Gen.facts, Cert.AdamSmall2.Gen.facts, Cert.AdamSmall2Ideal.Gen.facts,
    Cert.AdamSmall2RefIdeal.Gen.facts, Cert.AdamSmall3.Gen.facts, Cert.AdamSmall3Ideal.Gen.facts,
    Cert.AdamSmall3RefIdeal.Gen.facts, Cert.AdamSmall4.Gen.facts, Cert.AdamSmall4Ideal.Gen.facts,
    Cert.AdamSmall4RefIdeal.Gen.facts, Cert.AdamSmall5.Gen.facts, Cert.AdamSmall5Ideal.Gen.facts,
    Cert.AdamSmall5RefIdeal.Gen.facts, Cert.Pre_finite_scores.Read.facts, fun m ρ _ => Cert.Kernel.Gen.frame m ρ,
    fun m ρ _ => Cert.KernelIdeal.Gen.frame m ρ, fun m ρ _ => Cert.KernelIdeal.Gen.frame m ρ, frame_reference,
    fun m ρ _ => frame_reference m ρ trivial, fun m ρ _ => Cert.In.Gen.frame m ρ,
    fun m ρ _ => Cert.InIdeal.Gen.frame m ρ, frame_in, fun m ρ _ => Cert.Dh1.Gen.frame m ρ,
    fun m ρ _ => Cert.Dh1Ideal.Gen.frame m ρ, frame_dh1, fun m ρ _ => Cert.Gwin.Gen.frame m ρ,
    fun m ρ _ => Cert.GwinIdeal.Gen.frame m ρ, frame_gwin, fun m ρ _ => Cert.Up.Gen.frame m ρ,
    fun m ρ _ => Cert.UpIdeal.Gen.frame m ρ, frame_up, fun m ρ _ => Cert.Down.Gen.frame m ρ,
    fun m ρ _ => Cert.DownIdeal.Gen.frame m ρ, frame_down, fun m ρ _ => Cert.Dact.Gen.frame m ρ,
    fun m ρ _ => Cert.DactIdeal.Gen.frame m ρ, frame_dact, fun m ρ _ => Cert.Dh3.Gen.frame m ρ,
    fun m ρ _ => Cert.Dh3Ideal.Gen.frame m ρ, frame_dh3, fun m ρ _ => Cert.Gdown.Gen.frame m ρ,
    fun m ρ _ => Cert.GdownIdeal.Gen.frame m ρ, frame_gdown, fun m ρ _ => Cert.Gup.Gen.frame m ρ,
    fun m ρ _ => Cert.GupIdeal.Gen.frame m ρ, frame_gup, fun m ρ _ => Cert.Outa.Gen.frame m ρ,
    fun m ρ _ => Cert.OutaIdeal.Gen.frame m ρ, frame_outa, fun m ρ _ => Cert.Q.Gen.frame m ρ,
    fun m ρ _ => Cert.QIdeal.Gen.frame m ρ, frame_q, fun m ρ _ => Cert.Dao.Gen.frame m ρ,
    fun m ρ _ => Cert.DaoIdeal.Gen.frame m ρ, frame_dao, fun m ρ _ => Cert.Doa.Gen.frame m ρ,
    fun m ρ _ => Cert.DoaIdeal.Gen.frame m ρ, frame_doa, fun m ρ _ => Cert.Dob.Gen.frame m ρ,
    fun m ρ _ => Cert.DobIdeal.Gen.frame m ρ, frame_dob, fun m ρ _ => Cert.Gwo.Gen.frame m ρ,
    fun m ρ _ => Cert.GwoIdeal.Gen.frame m ρ, frame_gwo, fun m ρ _ => Cert.Gwq.Gen.frame m ρ,
    fun m ρ _ => Cert.GwqIdeal.Gen.frame m ρ, frame_gwq, fun m ρ _ => Cert.Gwouta.Gen.frame m ρ,
    fun m ρ _ => Cert.GwoutaIdeal.Gen.frame m ρ, frame_gwouta, fun m ρ _ => Cert.Gwoutb.Gen.frame m ρ,
    fun m ρ _ => Cert.GwoutbIdeal.Gen.frame m ρ, frame_gwoutb, fun m ρ _ => Cert.Rms1.Gen.frame m ρ,
    fun m ρ _ => Cert.Rms1Ideal.Gen.frame m ρ, frame_rms1, fun m ρ _ => Cert.Rms3.Gen.frame m ρ,
    fun m ρ _ => Cert.Rms3Ideal.Gen.frame m ρ, frame_rms3, fun m ρ _ => Cert.AdamWin.Gen.frame m ρ,
    fun m ρ _ => Cert.AdamWinIdeal.Gen.frame m ρ, frame_adamwin, fun m ρ _ => Cert.AdamUp.Gen.frame m ρ trivial,
    fun m ρ _ => Cert.AdamUpIdeal.Gen.frame m ρ trivial, frame_adamup,
    fun m ρ _ => Cert.AdamDown.Gen.frame m ρ trivial, fun m ρ _ => Cert.AdamDownIdeal.Gen.frame m ρ trivial,
    frame_adamdown, fun m ρ _ => Cert.AdamOut.Gen.frame m ρ trivial,
    fun m ρ _ => Cert.AdamOutIdeal.Gen.frame m ρ trivial, frame_adamout,
    fun m ρ _ => Cert.AdamWq.Gen.frame m ρ trivial, fun m ρ _ => Cert.AdamWqIdeal.Gen.frame m ρ trivial, frame_adamwq,
    fun m ρ _ => Cert.AdamWk.Gen.frame m ρ trivial, fun m ρ _ => Cert.AdamWkIdeal.Gen.frame m ρ trivial, frame_adamwk,
    fun m ρ _ => Cert.AdamWv.Gen.frame m ρ trivial, fun m ρ _ => Cert.AdamWvIdeal.Gen.frame m ρ trivial, frame_adamwv,
    fun m ρ _ => Cert.AdamWo.Gen.frame m ρ trivial, fun m ρ _ => Cert.AdamWoIdeal.Gen.frame m ρ trivial, frame_adamwo,
    fun m ρ _ => Cert.AdamSmall1.Gen.frame m ρ, fun m ρ _ => Cert.AdamSmall1Ideal.Gen.frame m ρ, frame_adamsmall1,
    fun m ρ _ => Cert.AdamSmall2.Gen.frame m ρ, fun m ρ _ => Cert.AdamSmall2Ideal.Gen.frame m ρ, frame_adamsmall2,
    fun m ρ _ => Cert.AdamSmall3.Gen.frame m ρ, fun m ρ _ => Cert.AdamSmall3Ideal.Gen.frame m ρ, frame_adamsmall3,
    fun m ρ _ => Cert.AdamSmall4.Gen.frame m ρ, fun m ρ _ => Cert.AdamSmall4Ideal.Gen.frame m ρ, frame_adamsmall4,
    fun m ρ _ => Cert.AdamSmall5.Gen.frame m ρ, fun m ρ _ => Cert.AdamSmall5Ideal.Gen.frame m ρ, frame_adamsmall5,
    trivial, algebraic, trivial, trivial, trivial, trivial, trivial, trivial, trivial, trivial, trivial, trivial,
    trivial, trivial, trivial, trivial, trivial, trivial, trivial, trivial, trivial, trivial, trivial, trivial,
    trivial, trivial, trivial, trivial, trivial, trivial, trivial, trivial, trivial, trivial, trivial, algebraic_in,
    algebraic_dh1, algebraic_gwin, algebraic_up, algebraic_down, algebraic_dact, algebraic_dh3, algebraic_gdown,
    algebraic_gup, algebraic_outa, algebraic_q, algebraic_dao, algebraic_doa, algebraic_dob, algebraic_gwo,
    algebraic_gwq, algebraic_gwouta, algebraic_gwoutb, algebraic_rms1, algebraic_rms3, algebraic_adamwin,
    algebraic_adamup, algebraic_adamdown, algebraic_adamout, algebraic_adamwq, algebraic_adamwk, algebraic_adamwv,
    algebraic_adamwo, algebraic_adamsmall1, algebraic_adamsmall2, algebraic_adamsmall3, algebraic_adamsmall4,
    algebraic_adamsmall5⟩

end Cert.Proof

end
